-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v458) = v0 c
          ∧ r.2.mem ((c.tc : Thread Cert.ReferenceIdeal.nD Cert.ReferenceIdeal.τ).loc Cert.ReferenceIdeal.main_v459) = v1 c
          ∧ r.2.mem ((c.tc : Thread Cert.ReferenceIdeal.nD Cert.ReferenceIdeal.τ).loc Cert.ReferenceIdeal.main_v460) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_v38) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v27) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v29) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v41)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v41) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v19)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v19) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v17) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v19)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v19) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v20) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v54)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v54) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v20) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v53)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v53) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v15) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v19)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v19) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v17) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v42)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v42) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v28) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)) →
    ∃ (v0 : (c : Dev Cert.Kernel23Ideal.nD) → Buf (Elt Ideal) ((c.tc : Thread Cert.Kernel23Ideal.nD Cert.Kernel23Ideal.τ).loc Cert.Kernel23Ideal.main_v21_0)) (v1 : (c : Dev Cert.Kernel23Ideal.nD) → Buf (Elt Ideal) ((c.tc : Thread Cert.Kernel23Ideal.nD Cert.Kernel23Ideal.τ).loc Cert.Kernel23Ideal.main_v21_1)) (v2 : (c : Dev Cert.Kernel23Ideal.nD) → Buf (Elt Ideal) ((c.tc : Thread Cert.Kernel23Ideal.nD Cert.Kernel23Ideal.τ).loc Cert.Kernel23Ideal.main_v21_2)) (v3 : (c : Dev Cert.Kernel23Ideal.nD) → Buf (Elt Ideal) ((c.tc : Thread Cert.Kernel23Ideal.nD Cert.Kernel23Ideal.τ).loc Cert.Kernel23Ideal.main_v21_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v21_0) = v0 c
          ∧ r.2.mem ((c.tc : Thread Cert.Kernel23Ideal.nD Cert.Kernel23Ideal.τ).loc Cert.Kernel23Ideal.main_v21_1) = v1 c
          ∧ r.2.mem ((c.tc : Thread Cert.Kernel23Ideal.nD Cert.Kernel23Ideal.τ).loc Cert.Kernel23Ideal.main_v21_2) = v2 c
          ∧ r.2.mem ((c.tc : Thread Cert.Kernel23Ideal.nD Cert.Kernel23Ideal.τ).loc Cert.Kernel23Ideal.main_v21_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_v56) = v1 c
          ∧ r.2.mem ((c.tc : Thread Cert.Reference23Ideal.nD Cert.Reference23Ideal.τ).loc Cert.Reference23Ideal.main_v37) = v2 c
          ∧ r.2.mem ((c.tc : Thread Cert.Reference23Ideal.nD Cert.Reference23Ideal.τ).loc Cert.Reference23Ideal.main_v43) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)) →
    ∃ (v0 : (c : Dev Cert.Kernel24Ideal.nD) → Buf (Elt Ideal) ((c.tc : Thread Cert.Kernel24Ideal.nD Cert.Kernel24Ideal.τ).loc Cert.Kernel24Ideal.main_v21_0)) (v1 : (c : Dev Cert.Kernel24Ideal.nD) → Buf (Elt Ideal) ((c.tc : Thread Cert.Kernel24Ideal.nD Cert.Kernel24Ideal.τ).loc Cert.Kernel24Ideal.main_v21_1)) (v2 : (c : Dev Cert.Kernel24Ideal.nD) → Buf (Elt Ideal) ((c.tc : Thread Cert.Kernel24Ideal.nD Cert.Kernel24Ideal.τ).loc Cert.Kernel24Ideal.main_v21_2)) (v3 : (c : Dev Cert.Kernel24Ideal.nD) → Buf (Elt Ideal) ((c.tc : Thread Cert.Kernel24Ideal.nD Cert.Kernel24Ideal.τ).loc Cert.Kernel24Ideal.main_v21_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v21_0) = v0 c
          ∧ r.2.mem ((c.tc : Thread Cert.Kernel24Ideal.nD Cert.Kernel24Ideal.τ).loc Cert.Kernel24Ideal.main_v21_1) = v1 c
          ∧ r.2.mem ((c.tc : Thread Cert.Kernel24Ideal.nD Cert.Kernel24Ideal.τ).loc Cert.Kernel24Ideal.main_v21_2) = v2 c
          ∧ r.2.mem ((c.tc : Thread Cert.Kernel24Ideal.nD Cert.Kernel24Ideal.τ).loc Cert.Kernel24Ideal.main_v21_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v32) = v0 c
          ∧ r.2.mem ((c.tc : Thread Cert.Reference24Ideal.nD Cert.Reference24Ideal.τ).loc Cert.Reference24Ideal.main_v56) = v1 c
          ∧ r.2.mem ((c.tc : Thread Cert.Reference24Ideal.nD Cert.Reference24Ideal.τ).loc Cert.Reference24Ideal.main_v37) = v2 c
          ∧ r.2.mem ((c.tc : Thread Cert.Reference24Ideal.nD Cert.Reference24Ideal.τ).loc Cert.Reference24Ideal.main_v43) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)) →
    ∃ (v0 : (c : Dev Cert.Kernel25Ideal.nD) → Buf (Elt Ideal) ((c.tc : Thread Cert.Kernel25Ideal.nD Cert.Kernel25Ideal.τ).loc Cert.Kernel25Ideal.main_v21_0)) (v1 : (c : Dev Cert.Kernel25Ideal.nD) → Buf (Elt Ideal) ((c.tc : Thread Cert.Kernel25Ideal.nD Cert.Kernel25Ideal.τ).loc Cert.Kernel25Ideal.main_v21_1)) (v2 : (c : Dev Cert.Kernel25Ideal.nD) → Buf (Elt Ideal) ((c.tc : Thread Cert.Kernel25Ideal.nD Cert.Kernel25Ideal.τ).loc Cert.Kernel25Ideal.main_v21_2)) (v3 : (c : Dev Cert.Kernel25Ideal.nD) → Buf (Elt Ideal) ((c.tc : Thread Cert.Kernel25Ideal.nD Cert.Kernel25Ideal.τ).loc Cert.Kernel25Ideal.main_v21_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v21_0) = v0 c
          ∧ r.2.mem ((c.tc : Thread Cert.Kernel25Ideal.nD Cert.Kernel25Ideal.τ).loc Cert.Kernel25Ideal.main_v21_1) = v1 c
          ∧ r.2.mem ((c.tc : Thread Cert.Kernel25Ideal.nD Cert.Kernel25Ideal.τ).loc Cert.Kernel25Ideal.main_v21_2) = v2 c
          ∧ r.2.mem ((c.tc : Thread Cert.Kernel25Ideal.nD Cert.Kernel25Ideal.τ).loc Cert.Kernel25Ideal.main_v21_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v32) = v0 c
          ∧ r.2.mem ((c.tc : Thread Cert.Reference25Ideal.nD Cert.Reference25Ideal.τ).loc Cert.Reference25Ideal.main_v56) = v1 c
          ∧ r.2.mem ((c.tc : Thread Cert.Reference25Ideal.nD Cert.Reference25Ideal.τ).loc Cert.Reference25Ideal.main_v37) = v2 c
          ∧ r.2.mem ((c.tc : Thread Cert.Reference25Ideal.nD Cert.Reference25Ideal.τ).loc Cert.Reference25Ideal.main_v43) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)) →
    ∃ (v0 : (c : Dev Cert.Kernel26Ideal.nD) → Buf (Elt Ideal) ((c.tc : Thread Cert.Kernel26Ideal.nD Cert.Kernel26Ideal.τ).loc Cert.Kernel26Ideal.main_v21_0)) (v1 : (c : Dev Cert.Kernel26Ideal.nD) → Buf (Elt Ideal) ((c.tc : Thread Cert.Kernel26Ideal.nD Cert.Kernel26Ideal.τ).loc Cert.Kernel26Ideal.main_v21_1)) (v2 : (c : Dev Cert.Kernel26Ideal.nD) → Buf (Elt Ideal) ((c.tc : Thread Cert.Kernel26Ideal.nD Cert.Kernel26Ideal.τ).loc Cert.Kernel26Ideal.main_v21_2)) (v3 : (c : Dev Cert.Kernel26Ideal.nD) → Buf (Elt Ideal) ((c.tc : Thread Cert.Kernel26Ideal.nD Cert.Kernel26Ideal.τ).loc Cert.Kernel26Ideal.main_v21_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v21_0) = v0 c
          ∧ r.2.mem ((c.tc : Thread Cert.Kernel26Ideal.nD Cert.Kernel26Ideal.τ).loc Cert.Kernel26Ideal.main_v21_1) = v1 c
          ∧ r.2.mem ((c.tc : Thread Cert.Kernel26Ideal.nD Cert.Kernel26Ideal.τ).loc Cert.Kernel26Ideal.main_v21_2) = v2 c
          ∧ r.2.mem ((c.tc : Thread Cert.Kernel26Ideal.nD Cert.Kernel26Ideal.τ).loc Cert.Kernel26Ideal.main_v21_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v32) = v0 c
          ∧ r.2.mem ((c.tc : Thread Cert.Reference26Ideal.nD Cert.Reference26Ideal.τ).loc Cert.Reference26Ideal.main_v56) = v1 c
          ∧ r.2.mem ((c.tc : Thread Cert.Reference26Ideal.nD Cert.Reference26Ideal.τ).loc Cert.Reference26Ideal.main_v37) = v2 c
          ∧ r.2.mem ((c.tc : Thread Cert.Reference26Ideal.nD Cert.Reference26Ideal.τ).loc Cert.Reference26Ideal.main_v43) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Kernel.lean ====
abbrev S2176x7168 : Shape := ⟨2, ![2176, 7168]⟩
abbrev S2176x1024 : Shape := ⟨2, ![2176, 1024]⟩
abbrev S31x1024 : Shape := ⟨2, ![31, 1024]⟩
abbrev S_ : Shape := ⟨0, ![]⟩
abbrev S32x1024 : Shape := ⟨2, ![32, 1024]⟩
abbrev S2176x128 : Shape := ⟨2, ![2176, 128]⟩
abbrev S32x128 : Shape := ⟨2, ![32, 128]⟩
abbrev S2208x128 : Shape := ⟨2, ![2208, 128]⟩
abbrev S256x128 : Shape := ⟨2, ![256, 128]⟩
abbrev S160x128 : Shape := ⟨2, ![160, 128]⟩
abbrev S128x128 : Shape := ⟨2, ![128, 128]⟩
abbrev S1x128 : Shape := ⟨2, ![1, 128]⟩
abbrev S8x128 : Shape := ⟨2, ![8, 128]⟩
abbrev S16x8x128 : Shape := ⟨3, ![16, 8, 128]⟩
abbrev S32x8x128 : Shape := ⟨3, ![32, 8, 128]⟩

abbrev nBuf : Space → Nat
  | .hbm => 10
  | .vmem => 17
  | .smem => 0
  | _ => 0

abbrev bufTy : (tb : Table) → Fin (tcTables nBuf tb) → BufTy
  | .hbm, ⟨0, _⟩ => ⟨S2176x7168, .f32⟩
  | .hbm, ⟨1, _⟩ => ⟨S2176x1024, .f32⟩
  | .hbm, ⟨2, _⟩ => ⟨S31x1024, .f32⟩
  | .hbm, ⟨3, _⟩ => ⟨S2176x7168, .bf16⟩
  | .hbm, ⟨4, _⟩ => ⟨S_, .i32⟩
  | .hbm, ⟨5, _⟩ => ⟨S_, .f32⟩
  | .hbm, ⟨6, _⟩ => ⟨S32x1024, .f32⟩
  | .hbm, ⟨7, _⟩ => ⟨S2176x7168, .bf16⟩
  | .hbm, ⟨8, _⟩ => ⟨S2176x1024, .bf16⟩
  | .hbm, ⟨9, _⟩ => ⟨S32x1024, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S32x128, .f32⟩
  | .local _ .vmem, ⟨7, _⟩ => ⟨S32x128, .f32⟩
  | .local _ .vmem, ⟨8, _⟩ => ⟨S2176x128, .bf16⟩
  | .local _ .vmem, ⟨9, _⟩ => ⟨S2176x128, .bf16⟩
  | .local _ .vmem, ⟨10, _⟩ => ⟨S2176x128, .bf16⟩
  | .local _ .vmem, ⟨11, _⟩ => ⟨S2176x128, .bf16⟩
  | .local _ .vmem, ⟨12, _⟩ => ⟨S32x128, .f32⟩
  | .local _ .vmem, ⟨13, _⟩ => ⟨S32x128, .f32⟩
  | .local _ .vmem, ⟨14, _⟩ => ⟨S2208x128, .f32⟩
  | .local _ .vmem, ⟨15, _⟩ => ⟨S2208x128, .f32⟩
  | .local _ .vmem, ⟨16, _⟩ => ⟨S256x128, .f32⟩
  | _, _ => ⟨S2176x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v23 : BitVec 32 := Scalar.addi c0_i32 c17_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v28 : BitVec 32 := Scalar.muli arg12 c128_i32
  v28
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v28 : BitVec 32 := Scalar.muli arg12 c128_i32
  let v29 : BitVec 32 := v28
  let v30 : Index := Scalar.indexCast v29
  let c0_21 : Index := 0#32
  ![v30.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v28 : BitVec 32 := Scalar.muli arg12 c128_i32
  let v29 : BitVec 32 := v28
  let v563 : Index := Scalar.indexCast v29
  let c0_189 : Index := 0#32
  ![v563.toNat, 0]
def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2176x7168 : Shape := ⟨2, ![2176, 7168]⟩
abbrev S2176x1024 : Shape := ⟨2, ![2176, 1024]⟩
abbrev S31x1024 : Shape := ⟨2, ![31, 1024]⟩
abbrev S_ : Shape := ⟨0, ![]⟩
abbrev S30x1024 : Shape := ⟨2, ![30, 1024]⟩
abbrev S2206x1024 : Shape := ⟨2, ![2206, 1024]⟩
abbrev S1x1024 : Shape := ⟨2, ![1, 1024]⟩
abbrev S1024 : Shape := ⟨1, ![1024]⟩
abbrev S2176x5120 : Shape := ⟨2, ![2176, 5120]⟩
abbrev S32x1024 : Shape := ⟨2, ![32, 1024]⟩

abbrev nBuf : Space → Nat
  | .hbm => 566
  | .vmem => 0
  | .smem => 0
  | _ => 0

abbrev hbmTy0_0 (i : Nat) : BufTy := match i % 128 with
  | 0 => ⟨S2176x7168, .f32⟩
  | 1 => ⟨S2176x1024, .f32⟩
  | 2 => ⟨S31x1024, .f32⟩
  | 3 => ⟨S2176x7168, .bf16⟩
  | 4 => ⟨S2176x1024, .f32⟩
  | 5 => ⟨S2176x1024, .f32⟩
  | 6 => ⟨S2176x1024, .f32⟩
  | 7 => ⟨S2176x1024, .f32⟩
  | 8 => ⟨S_, .f32⟩
  | 9 => ⟨S2176x1024, .f32⟩
  | 10 => ⟨S2176x1024, .f32⟩
  | 11 => ⟨S_, .f32⟩
  | 12 => ⟨S2176x1024, .f32⟩
  | 13 => ⟨S2176x1024, .f32⟩
  | 14 => ⟨S_, .f32⟩
  | 15 => ⟨S2176x1024, .f32⟩
  | 16 => ⟨S2176x1024, .f32⟩
  | 17 => ⟨S2176x1024, .f32⟩
  | 18 => ⟨S2176x1024, .f32⟩
  | 19 => ⟨S_, .f32⟩
  | 20 => ⟨S30x1024, .f32⟩
  | 21 => ⟨S2206x1024, .f32⟩
  | 22 => ⟨S_, .f32⟩
  | 23 => ⟨S30x1024, .f32⟩
  | 24 => ⟨S1x1024, .f32⟩
  | 25 => ⟨S2176x1024, .f32⟩
  | 26 => ⟨S2176x1024, .f32⟩
  | 27 => ⟨S2176x1024, .f32⟩
  | 28 => ⟨S_, .f32⟩
  | 29 => ⟨S2176x1024, .f32⟩
  | 30 => ⟨S2176x1024, .f32⟩
  | 31 => ⟨S1x1024, .f32⟩
  | 32 => ⟨S2176x1024, .f32⟩
  | 33 => ⟨S2176x1024, .f32⟩
  | 34 => ⟨S2176x1024, .f32⟩
  | 35 => ⟨S2176x1024, .f32⟩
  | 36 => ⟨S1x1024, .f32⟩
  | 37 => ⟨S2176x1024, .f32⟩
  | 38 => ⟨S2176x1024, .f32⟩
  | 39 => ⟨S2176x1024, .f32⟩
  | 40 => ⟨S2176x1024, .f32⟩
  | 41 => ⟨S1x1024, .f32⟩
  | 42 => ⟨S2176x1024, .f32⟩
  | 43 => ⟨S2176x1024, .f32⟩
  | 44 => ⟨S2176x1024, .f32⟩
  | 45 => ⟨S2176x1024, .f32⟩
  | 46 => ⟨S1x1024, .f32⟩
  | 47 => ⟨S2176x1024, .f32⟩
  | 48 => ⟨S2176x1024, .f32⟩
  | 49 => ⟨S2176x1024, .f32⟩
  | 50 => ⟨S2176x1024, .f32⟩
  | 51 => ⟨S1x1024, .f32⟩
  | 52 => ⟨S2176x1024, .f32⟩
  | 53 => ⟨S2176x1024, .f32⟩
  | 54 => ⟨S2176x1024, .f32⟩
  | 55 => ⟨S2176x1024, .f32⟩
  | 56 => ⟨S1x1024, .f32⟩
  | 57 => ⟨S2176x1024, .f32⟩
  | 58 => ⟨S2176x1024, .f32⟩
  | 59 => ⟨S2176x1024, .f32⟩
  | 60 => ⟨S2176x1024, .f32⟩
  | 61 => ⟨S1x1024, .f32⟩
  | 62 => ⟨S2176x1024, .f32⟩
  | 63 => ⟨S2176x1024, .f32⟩
  | 64 => ⟨S2176x1024, .f32⟩
  | 65 => ⟨S2176x1024, .f32⟩
  | 66 => ⟨S1x1024, .f32⟩
  | 67 => ⟨S2176x1024, .f32⟩
  | 68 => ⟨S2176x1024, .f32⟩
  | 69 => ⟨S2176x1024, .f32⟩
  | 70 => ⟨S2176x1024, .f32⟩
  | 71 => ⟨S1x1024, .f32⟩
  | 72 => ⟨S2176x1024, .f32⟩
  | 73 => ⟨S2176x1024, .f32⟩
  | 74 => ⟨S2176x1024, .f32⟩
  | 75 => ⟨S2176x1024, .f32⟩
  | 76 => ⟨S1x1024, .f32⟩
  | 77 => ⟨S2176x1024, .f32⟩
  | 78 => ⟨S2176x1024, .f32⟩
  | 79 => ⟨S2176x1024, .f32⟩
  | 80 => ⟨S2176x1024, .f32⟩
  | 81 => ⟨S1x1024, .f32⟩
  | 82 => ⟨S2176x1024, .f32⟩
  | 83 => ⟨S2176x1024, .f32⟩
  | 84 => ⟨S2176x1024, .f32⟩
  | 85 => ⟨S2176x1024, .f32⟩
  | 86 => ⟨S1x1024, .f32⟩
  | 87 => ⟨S2176x1024, .f32⟩
  | 88 => ⟨S2176x1024, .f32⟩
  | 89 => ⟨S2176x1024, .f32⟩
  | 90 => ⟨S2176x1024, .f32⟩
  | 91 => ⟨S1x1024, .f32⟩
  | 92 => ⟨S2176x1024, .f32⟩
  | 93 => ⟨S2176x1024, .f32⟩
  | 94 => ⟨S2176x1024, .f32⟩
  | 95 => ⟨S2176x1024, .f32⟩
  | 96 => ⟨S1x1024, .f32⟩
  | 97 => ⟨S2176x1024, .f32⟩
  | 98 => ⟨S2176x1024, .f32⟩
  | 99 => ⟨S2176x1024, .f32⟩
  | 100 => ⟨S2176x1024, .f32⟩
  | 101 => ⟨S1x1024, .f32⟩
  | 102 => ⟨S2176x1024, .f32⟩
  | 103 => ⟨S2176x1024, .f32⟩
  | 104 => ⟨S2176x1024, .f32⟩
  | 105 => ⟨S2176x1024, .f32⟩
  | 106 => ⟨S1x1024, .f32⟩
  | 107 => ⟨S2176x1024, .f32⟩
  | 108 => ⟨S2176x1024, .f32⟩
  | 109 => ⟨S2176x1024, .f32⟩
  | 110 => ⟨S2176x1024, .f32⟩
  | 111 => ⟨S1x1024, .f32⟩
  | 112 => ⟨S2176x1024, .f32⟩
  | 113 => ⟨S2176x1024, .f32⟩
  | 114 => ⟨S2176x1024, .f32⟩
  | 115 => ⟨S2176x1024, .f32⟩
  | 116 => ⟨S1x1024, .f32⟩
  | 117 => ⟨S2176x1024, .f32⟩
  | 118 => ⟨S2176x1024, .f32⟩
  | 119 => ⟨S2176x1024, .f32⟩
  | 120 => ⟨S2176x1024, .f32⟩
  | 121 => ⟨S1x1024, .f32⟩
  | 122 => ⟨S2176x1024, .f32⟩
  | 123 => ⟨S2176x1024, .f32⟩
  | 124 => ⟨S2176x1024, .f32⟩
  | 125 => ⟨S2176x1024, .f32⟩
  | 126 => ⟨S1x1024, .f32⟩
  | 127 => ⟨S2176x1024, .f32⟩
  | _ => ⟨S2176x7168, .f32⟩

abbrev hbmTy0_1 (i : Nat) : BufTy := match i % 128 with
  | 0 => ⟨S2176x1024, .f32⟩
  | 1 => ⟨S2176x1024, .f32⟩
  | 2 => ⟨S2176x1024, .f32⟩
  | 3 => ⟨S1x1024, .f32⟩
  | 4 => ⟨S2176x1024, .f32⟩
  | 5 => ⟨S2176x1024, .f32⟩
  | 6 => ⟨S2176x1024, .f32⟩
  | 7 => ⟨S2176x1024, .f32⟩
  | 8 => ⟨S1x1024, .f32⟩
  | 9 => ⟨S2176x1024, .f32⟩
  | 10 => ⟨S2176x1024, .f32⟩
  | 11 => ⟨S2176x1024, .f32⟩
  | 12 => ⟨S2176x1024, .f32⟩
  | 13 => ⟨S1x1024, .f32⟩
  | 14 => ⟨S2176x1024, .f32⟩
  | 15 => ⟨S2176x1024, .f32⟩
  | 16 => ⟨S2176x1024, .f32⟩
  | 17 => ⟨S2176x1024, .f32⟩
  | 18 => ⟨S1x1024, .f32⟩
  | 19 => ⟨S2176x1024, .f32⟩
  | 20 => ⟨S2176x1024, .f32⟩
  | 21 => ⟨S2176x1024, .f32⟩
  | 22 => ⟨S2176x1024, .f32⟩
  | 23 => ⟨S1x1024, .f32⟩
  | 24 => ⟨S2176x1024, .f32⟩
  | 25 => ⟨S2176x1024, .f32⟩
  | 26 => ⟨S2176x1024, .f32⟩
  | 27 => ⟨S2176x1024, .f32⟩
  | 28 => ⟨S1x1024, .f32⟩
  | 29 => ⟨S2176x1024, .f32⟩
  | 30 => ⟨S2176x1024, .f32⟩
  | 31 => ⟨S2176x1024, .f32⟩
  | 32 => ⟨S2176x1024, .f32⟩
  | 33 => ⟨S1x1024, .f32⟩
  | 34 => ⟨S2176x1024, .f32⟩
  | 35 => ⟨S2176x1024, .f32⟩
  | 36 => ⟨S2176x1024, .f32⟩
  | 37 => ⟨S2176x1024, .f32⟩
  | 38 => ⟨S1x1024, .f32⟩
  | 39 => ⟨S2176x1024, .f32⟩
  | 40 => ⟨S2176x1024, .f32⟩
  | 41 => ⟨S2176x1024, .f32⟩
  | 42 => ⟨S2176x1024, .f32⟩
  | 43 => ⟨S1x1024, .f32⟩
  | 44 => ⟨S2176x1024, .f32⟩
  | 45 => ⟨S2176x1024, .f32⟩
  | 46 => ⟨S2176x1024, .f32⟩
  | 47 => ⟨S2176x1024, .f32⟩
  | 48 => ⟨S1x1024, .f32⟩
  | 49 => ⟨S2176x1024, .f32⟩
  | 50 => ⟨S2176x1024, .f32⟩
  | 51 => ⟨S2176x1024, .f32⟩
  | 52 => ⟨S2176x1024, .f32⟩
  | 53 => ⟨S2176x1024, .f32⟩
  | 54 => ⟨S2176x1024, .f32⟩
  | 55 => ⟨S2176x1024, .f32⟩
  | 56 => ⟨S2176x1024, .f32⟩
  | 57 => ⟨S2176x1024, .f32⟩
  | 58 => ⟨S_, .f32⟩
  | 59 => ⟨S1024, .f32⟩
  | 60 => ⟨S1x1024, .f32⟩
  | 61 => ⟨S_, .f32⟩
  | 62 => ⟨S2206x1024, .f32⟩
  | 63 => ⟨S_, .f32⟩
  | 64 => ⟨S31x1024, .f32⟩
  | 65 => ⟨S2176x1024, .f32⟩
  | 66 => ⟨S2176x1024, .f32⟩
  | 67 => ⟨S2176x1024, .f32⟩
  | 68 => ⟨S_, .f32⟩
  | 69 => ⟨S1024, .f32⟩
  | 70 => ⟨S1x1024, .f32⟩
  | 71 => ⟨S_, .f32⟩
  | 72 => ⟨S2206x1024, .f32⟩
  | 73 => ⟨S2206x1024, .f32⟩
  | 74 => ⟨S_, .f32⟩
  | 75 => ⟨S31x1024, .f32⟩
  | 76 => ⟨S31x1024, .f32⟩
  | 77 => ⟨S2176x1024, .f32⟩
  | 78 => ⟨S2176x1024, .f32⟩
  | 79 => ⟨S2176x1024, .f32⟩
  | 80 => ⟨S_, .f32⟩
  | 81 => ⟨S1024, .f32⟩
  | 82 => ⟨S1x1024, .f32⟩
  | 83 => ⟨S_, .f32⟩
  | 84 => ⟨S2206x1024, .f32⟩
  | 85 => ⟨S2206x1024, .f32⟩
  | 86 => ⟨S_, .f32⟩
  | 87 => ⟨S31x1024, .f32⟩
  | 88 => ⟨S31x1024, .f32⟩
  | 89 => ⟨S2176x1024, .f32⟩
  | 90 => ⟨S2176x1024, .f32⟩
  | 91 => ⟨S2176x1024, .f32⟩
  | 92 => ⟨S_, .f32⟩
  | 93 => ⟨S1024, .f32⟩
  | 94 => ⟨S1x1024, .f32⟩
  | 95 => ⟨S_, .f32⟩
  | 96 => ⟨S2206x1024, .f32⟩
  | 97 => ⟨S2206x1024, .f32⟩
  | 98 => ⟨S_, .f32⟩
  | 99 => ⟨S31x1024, .f32⟩
  | 100 => ⟨S31x1024, .f32⟩
  | 101 => ⟨S2176x1024, .f32⟩
  | 102 => ⟨S2176x1024, .f32⟩
  | 103 => ⟨S2176x1024, .f32⟩
  | 104 => ⟨S_, .f32⟩
  | 105 => ⟨S1024, .f32⟩
  | 106 => ⟨S1x1024, .f32⟩
  | 107 => ⟨S_, .f32⟩
  | 108 => ⟨S2206x1024, .f32⟩
  | 109 => ⟨S2206x1024, .f32⟩
  | 110 => ⟨S_, .f32⟩
  | 111 => ⟨S31x1024, .f32⟩
  | 112 => ⟨S31x1024, .f32⟩
  | 113 => ⟨S2176x1024, .f32⟩
  | 114 => ⟨S2176x1024, .f32⟩
  | 115 => ⟨S2176x1024, .f32⟩
  | 116 => ⟨S_, .f32⟩
  | 117 => ⟨S1024, .f32⟩
  | 118 => ⟨S1x1024, .f32⟩
  | 119 => ⟨S_, .f32⟩
  | 120 => ⟨S2206x1024, .f32⟩
  | 121 => ⟨S2206x1024, .f32⟩
  | 122 => ⟨S_, .f32⟩
  | 123 => ⟨S31x1024, .f32⟩
  | 124 => ⟨S31x1024, .f32⟩
  | 125 => ⟨S2176x1024, .f32⟩
  | 126 => ⟨S2176x1024, .f32⟩
  | 127 => ⟨S2176x1024, .f32⟩
  | _ => ⟨S2176x7168, .f32⟩

abbrev hbmTy0_2 (i : Nat) : BufTy := match i % 128 with
  | 0 => ⟨S_, .f32⟩
  | 1 => ⟨S1024, .f32⟩
  | 2 => ⟨S1x1024, .f32⟩
  | 3 => ⟨S_, .f32⟩
  | 4 => ⟨S2206x1024, .f32⟩
  | 5 => ⟨S2206x1024, .f32⟩
  | 6 => ⟨S_, .f32⟩
  | 7 => ⟨S31x1024, .f32⟩
  | 8 => ⟨S31x1024, .f32⟩
  | 9 => ⟨S2176x1024, .f32⟩
  | 10 => ⟨S2176x1024, .f32⟩
  | 11 => ⟨S2176x1024, .f32⟩
  | 12 => ⟨S_, .f32⟩
  | 13 => ⟨S1024, .f32⟩
  | 14 => ⟨S1x1024, .f32⟩
  | 15 => ⟨S_, .f32⟩
  | 16 => ⟨S2206x1024, .f32⟩
  | 17 => ⟨S2206x1024, .f32⟩
  | 18 => ⟨S_, .f32⟩
  | 19 => ⟨S31x1024, .f32⟩
  | 20 => ⟨S31x1024, .f32⟩
  | 21 => ⟨S2176x1024, .f32⟩
  | 22 => ⟨S2176x1024, .f32⟩
  | 23 => ⟨S2176x1024, .f32⟩
  | 24 => ⟨S_, .f32⟩
  | 25 => ⟨S1024, .f32⟩
  | 26 => ⟨S1x1024, .f32⟩
  | 27 => ⟨S_, .f32⟩
  | 28 => ⟨S2206x1024, .f32⟩
  | 29 => ⟨S2206x1024, .f32⟩
  | 30 => ⟨S_, .f32⟩
  | 31 => ⟨S31x1024, .f32⟩
  | 32 => ⟨S31x1024, .f32⟩
  | 33 => ⟨S2176x1024, .f32⟩
  | 34 => ⟨S2176x1024, .f32⟩
  | 35 => ⟨S2176x1024, .f32⟩
  | 36 => ⟨S_, .f32⟩
  | 37 => ⟨S1024, .f32⟩
  | 38 => ⟨S1x1024, .f32⟩
  | 39 => ⟨S_, .f32⟩
  | 40 => ⟨S2206x1024, .f32⟩
  | 41 => ⟨S2206x1024, .f32⟩
  | 42 => ⟨S_, .f32⟩
  | 43 => ⟨S31x1024, .f32⟩
  | 44 => ⟨S31x1024, .f32⟩
  | 45 => ⟨S2176x1024, .f32⟩
  | 46 => ⟨S2176x1024, .f32⟩
  | 47 => ⟨S2176x1024, .f32⟩
  | 48 => ⟨S_, .f32⟩
  | 49 => ⟨S1024, .f32⟩
  | 50 => ⟨S1x1024, .f32⟩
  | 51 => ⟨S_, .f32⟩
  | 52 => ⟨S2206x1024, .f32⟩
  | 53 => ⟨S2206x1024, .f32⟩
  | 54 => ⟨S_, .f32⟩
  | 55 => ⟨S31x1024, .f32⟩
  | 56 => ⟨S31x1024, .f32⟩
  | 57 => ⟨S2176x1024, .f32⟩
  | 58 => ⟨S2176x1024, .f32⟩
  | 59 => ⟨S2176x1024, .f32⟩
  | 60 => ⟨S_, .f32⟩
  | 61 => ⟨S1024, .f32⟩
  | 62 => ⟨S1x1024, .f32⟩
  | 63 => ⟨S_, .f32⟩
  | 64 => ⟨S2206x1024, .f32⟩
  | 65 => ⟨S2206x1024, .f32⟩
  | 66 => ⟨S_, .f32⟩
  | 67 => ⟨S31x1024, .f32⟩
  | 68 => ⟨S31x1024, .f32⟩
  | 69 => ⟨S2176x1024, .f32⟩
  | 70 => ⟨S2176x1024, .f32⟩
  | 71 => ⟨S2176x1024, .f32⟩
  | 72 => ⟨S_, .f32⟩
  | 73 => ⟨S1024, .f32⟩
  | 74 => ⟨S1x1024, .f32⟩
  | 75 => ⟨S_, .f32⟩
  | 76 => ⟨S2206x1024, .f32⟩
  | 77 => ⟨S2206x1024, .f32⟩
  | 78 => ⟨S_, .f32⟩
  | 79 => ⟨S31x1024, .f32⟩
  | 80 => ⟨S31x1024, .f32⟩
  | 81 => ⟨S2176x1024, .f32⟩
  | 82 => ⟨S2176x1024, .f32⟩
  | 83 => ⟨S2176x1024, .f32⟩
  | 84 => ⟨S_, .f32⟩
  | 85 => ⟨S1024, .f32⟩
  | 86 => ⟨S1x1024, .f32⟩
  | 87 => ⟨S_, .f32⟩
  | 88 => ⟨S2206x1024, .f32⟩
  | 89 => ⟨S2206x1024, .f32⟩
  | 90 => ⟨S_, .f32⟩
  | 91 => ⟨S31x1024, .f32⟩
  | 92 => ⟨S31x1024, .f32⟩
  | 93 => ⟨S2176x1024, .f32⟩
  | 94 => ⟨S2176x1024, .f32⟩
  | 95 => ⟨S2176x1024, .f32⟩
  | 96 => ⟨S_, .f32⟩
  | 97 => ⟨S1024, .f32⟩
  | 98 => ⟨S1x1024, .f32⟩
  | 99 => ⟨S_, .f32⟩
  | 100 => ⟨S2206x1024, .f32⟩
  | 101 => ⟨S2206x1024, .f32⟩
  | 102 => ⟨S_, .f32⟩
  | 103 => ⟨S31x1024, .f32⟩
  | 104 => ⟨S31x1024, .f32⟩
  | 105 => ⟨S2176x1024, .f32⟩
  | 106 => ⟨S2176x1024, .f32⟩
  | 107 => ⟨S2176x1024, .f32⟩
  | 108 => ⟨S_, .f32⟩
  | 109 => ⟨S1024, .f32⟩
  | 110 => ⟨S1x1024, .f32⟩
  | 111 => ⟨S_, .f32⟩
  | 112 => ⟨S2206x1024, .f32⟩
  | 113 => ⟨S2206x1024, .f32⟩
  | 114 => ⟨S_, .f32⟩
  | 115 => ⟨S31x1024, .f32⟩
  | 116 => ⟨S31x1024, .f32⟩
  | 117 => ⟨S2176x1024, .f32⟩
  | 118 => ⟨S2176x1024, .f32⟩
  | 119 => ⟨S2176x1024, .f32⟩
  | 120 => ⟨S_, .f32⟩
  | 121 => ⟨S1024, .f32⟩
  | 122 => ⟨S1x1024, .f32⟩
  | 123 => ⟨S_, .f32⟩
  | 124 => ⟨S2206x1024, .f32⟩
  | 125 => ⟨S2206x1024, .f32⟩
  | 126 => ⟨S_, .f32⟩
  | 127 => ⟨S31x1024, .f32⟩
  | _ => ⟨S2176x7168, .f32⟩

abbrev hbmTy0_3 (i : Nat) : BufTy := match i % 128 with
  | 0 => ⟨S31x1024, .f32⟩
  | 1 => ⟨S2176x1024, .f32⟩
  | 2 => ⟨S2176x1024, .f32⟩
  | 3 => ⟨S2176x1024, .f32⟩
  | 4 => ⟨S_, .f32⟩
  | 5 => ⟨S1024, .f32⟩
  | 6 => ⟨S1x1024, .f32⟩
  | 7 => ⟨S_, .f32⟩
  | 8 => ⟨S2206x1024, .f32⟩
  | 9 => ⟨S2206x1024, .f32⟩
  | 10 => ⟨S_, .f32⟩
  | 11 => ⟨S31x1024, .f32⟩
  | 12 => ⟨S31x1024, .f32⟩
  | 13 => ⟨S2176x1024, .f32⟩
  | 14 => ⟨S2176x1024, .f32⟩
  | 15 => ⟨S2176x1024, .f32⟩
  | 16 => ⟨S_, .f32⟩
  | 17 => ⟨S1024, .f32⟩
  | 18 => ⟨S1x1024, .f32⟩
  | 19 => ⟨S_, .f32⟩
  | 20 => ⟨S2206x1024, .f32⟩
  | 21 => ⟨S2206x1024, .f32⟩
  | 22 => ⟨S_, .f32⟩
  | 23 => ⟨S31x1024, .f32⟩
  | 24 => ⟨S31x1024, .f32⟩
  | 25 => ⟨S2176x1024, .f32⟩
  | 26 => ⟨S2176x1024, .f32⟩
  | 27 => ⟨S2176x1024, .f32⟩
  | 28 => ⟨S_, .f32⟩
  | 29 => ⟨S1024, .f32⟩
  | 30 => ⟨S1x1024, .f32⟩
  | 31 => ⟨S_, .f32⟩
  | 32 => ⟨S2206x1024, .f32⟩
  | 33 => ⟨S2206x1024, .f32⟩
  | 34 => ⟨S_, .f32⟩
  | 35 => ⟨S31x1024, .f32⟩
  | 36 => ⟨S31x1024, .f32⟩
  | 37 => ⟨S2176x1024, .f32⟩
  | 38 => ⟨S2176x1024, .f32⟩
  | 39 => ⟨S2176x1024, .f32⟩
  | 40 => ⟨S_, .f32⟩
  | 41 => ⟨S1024, .f32⟩
  | 42 => ⟨S1x1024, .f32⟩
  | 43 => ⟨S_, .f32⟩
  | 44 => ⟨S2206x1024, .f32⟩
  | 45 => ⟨S2206x1024, .f32⟩
  | 46 => ⟨S_, .f32⟩
  | 47 => ⟨S31x1024, .f32⟩
  | 48 => ⟨S31x1024, .f32⟩
  | 49 => ⟨S2176x1024, .f32⟩
  | 50 => ⟨S2176x1024, .f32⟩
  | 51 => ⟨S2176x1024, .f32⟩
  | 52 => ⟨S_, .f32⟩
  | 53 => ⟨S1024, .f32⟩
  | 54 => ⟨S1x1024, .f32⟩
  | 55 => ⟨S_, .f32⟩
  | 56 => ⟨S2206x1024, .f32⟩
  | 57 => ⟨S2206x1024, .f32⟩
  | 58 => ⟨S_, .f32⟩
  | 59 => ⟨S31x1024, .f32⟩
  | 60 => ⟨S31x1024, .f32⟩
  | 61 => ⟨S2176x1024, .f32⟩
  | 62 => ⟨S2176x1024, .f32⟩
  | 63 => ⟨S2176x1024, .f32⟩
  | 64 => ⟨S_, .f32⟩
  | 65 => ⟨S1024, .f32⟩
  | 66 => ⟨S1x1024, .f32⟩
  | 67 => ⟨S_, .f32⟩
  | 68 => ⟨S2206x1024, .f32⟩
  | 69 => ⟨S2206x1024, .f32⟩
  | 70 => ⟨S_, .f32⟩
  | 71 => ⟨S31x1024, .f32⟩
  | 72 => ⟨S31x1024, .f32⟩
  | 73 => ⟨S2176x1024, .f32⟩
  | 74 => ⟨S2176x1024, .f32⟩
  | 75 => ⟨S2176x1024, .f32⟩
  | 76 => ⟨S_, .f32⟩
  | 77 => ⟨S1024, .f32⟩
  | 78 => ⟨S1x1024, .f32⟩
  | 79 => ⟨S_, .f32⟩
  | 80 => ⟨S2206x1024, .f32⟩
  | 81 => ⟨S2206x1024, .f32⟩
  | 82 => ⟨S_, .f32⟩
  | 83 => ⟨S31x1024, .f32⟩
  | 84 => ⟨S31x1024, .f32⟩
  | 85 => ⟨S2176x1024, .f32⟩
  | 86 => ⟨S2176x1024, .f32⟩
  | 87 => ⟨S2176x1024, .f32⟩
  | 88 => ⟨S_, .f32⟩
  | 89 => ⟨S1024, .f32⟩
  | 90 => ⟨S1x1024, .f32⟩
  | 91 => ⟨S_, .f32⟩
  | 92 => ⟨S2206x1024, .f32⟩
  | 93 => ⟨S2206x1024, .f32⟩
  | 94 => ⟨S_, .f32⟩
  | 95 => ⟨S31x1024, .f32⟩
  | 96 => ⟨S31x1024, .f32⟩
  | 97 => ⟨S2176x1024, .f32⟩
  | 98 => ⟨S2176x1024, .f32⟩
  | 99 => ⟨S2176x1024, .f32⟩
  | 100 => ⟨S_, .f32⟩
  | 101 => ⟨S1024, .f32⟩
  | 102 => ⟨S1x1024, .f32⟩
  | 103 => ⟨S_, .f32⟩
  | 104 => ⟨S2206x1024, .f32⟩
  | 105 => ⟨S2206x1024, .f32⟩
  | 106 => ⟨S_, .f32⟩
  | 107 => ⟨S31x1024, .f32⟩
  | 108 => ⟨S31x1024, .f32⟩
  | 109 => ⟨S2176x1024, .f32⟩
  | 110 => ⟨S2176x1024, .f32⟩
  | 111 => ⟨S2176x1024, .f32⟩
  | 112 => ⟨S_, .f32⟩
  | 113 => ⟨S1024, .f32⟩
  | 114 => ⟨S1x1024, .f32⟩
  | 115 => ⟨S_, .f32⟩
  | 116 => ⟨S2206x1024, .f32⟩
  | 117 => ⟨S2206x1024, .f32⟩
  | 118 => ⟨S_, .f32⟩
  | 119 => ⟨S31x1024, .f32⟩
  | 120 => ⟨S31x1024, .f32⟩
  | 121 => ⟨S2176x1024, .f32⟩
  | 122 => ⟨S2176x1024, .f32⟩
  | 123 => ⟨S2176x1024, .f32⟩
  | 124 => ⟨S_, .f32⟩
  | 125 => ⟨S1024, .f32⟩
  | 126 => ⟨S1x1024, .f32⟩
  | 127 => ⟨S_, .f32⟩
  | _ => ⟨S2176x7168, .f32⟩

abbrev hbmTy0_4 (i : Nat) : BufTy := match i % 128 with
  | 0 => ⟨S2206x1024, .f32⟩
  | 1 => ⟨S2206x1024, .f32⟩
  | 2 => ⟨S_, .f32⟩
  | 3 => ⟨S31x1024, .f32⟩
  | 4 => ⟨S31x1024, .f32⟩
  | 5 => ⟨S2176x1024, .f32⟩
  | 6 => ⟨S2176x1024, .f32⟩
  | 7 => ⟨S2176x1024, .f32⟩
  | 8 => ⟨S_, .f32⟩
  | 9 => ⟨S1024, .f32⟩
  | 10 => ⟨S1x1024, .f32⟩
  | 11 => ⟨S_, .f32⟩
  | 12 => ⟨S2206x1024, .f32⟩
  | 13 => ⟨S2206x1024, .f32⟩
  | 14 => ⟨S_, .f32⟩
  | 15 => ⟨S31x1024, .f32⟩
  | 16 => ⟨S31x1024, .f32⟩
  | 17 => ⟨S2176x1024, .f32⟩
  | 18 => ⟨S2176x1024, .f32⟩
  | 19 => ⟨S2176x1024, .f32⟩
  | 20 => ⟨S_, .f32⟩
  | 21 => ⟨S1024, .f32⟩
  | 22 => ⟨S1x1024, .f32⟩
  | 23 => ⟨S_, .f32⟩
  | 24 => ⟨S2206x1024, .f32⟩
  | 25 => ⟨S2206x1024, .f32⟩
  | 26 => ⟨S_, .f32⟩
  | 27 => ⟨S31x1024, .f32⟩
  | 28 => ⟨S31x1024, .f32⟩
  | 29 => ⟨S2176x1024, .f32⟩
  | 30 => ⟨S2176x1024, .f32⟩
  | 31 => ⟨S2176x1024, .f32⟩
  | 32 => ⟨S_, .f32⟩
  | 33 => ⟨S1024, .f32⟩
  | 34 => ⟨S1x1024, .f32⟩
  | 35 => ⟨S_, .f32⟩
  | 36 => ⟨S2206x1024, .f32⟩
  | 37 => ⟨S2206x1024, .f32⟩
  | 38 => ⟨S_, .f32⟩
  | 39 => ⟨S31x1024, .f32⟩
  | 40 => ⟨S31x1024, .f32⟩
  | 41 => ⟨S30x1024, .f32⟩
  | 42 => ⟨S2176x1024, .f32⟩
  | 43 => ⟨S2176x1024, .f32⟩
  | 44 => ⟨S2176x1024, .f32⟩
  | 45 => ⟨S2176x1024, .f32⟩
  | 46 => ⟨S2176x1024, .bf16⟩
  | 47 => ⟨S2176x1024, .bf16⟩
  | 48 => ⟨S2176x5120, .bf16⟩
  | 49 => ⟨S2176x7168, .bf16⟩
  | 50 => ⟨S2176x1024, .bf16⟩
  | 51 => ⟨S_, .i32⟩
  | 52 => ⟨S_, .f32⟩
  | 53 => ⟨S32x1024, .f32⟩
  | _ => ⟨S2176x7168, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2176x7168, .f32⟩

abbrev bufTy : (tb : Table) → Fin (tcTables nBuf tb) → BufTy
  | .hbm, ⟨i, _⟩ => hbmTy i
  | _, _ => ⟨S2176x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_cst_5 : Ref sig .tc := ⟨.hbm, 186, rfl⟩
abbrev main_v176 : Ref sig .tc := ⟨.hbm, 187, rfl⟩
abbrev main_v177 : Ref sig .tc := ⟨.hbm, 188, rfl⟩
abbrev main_cst_6 : Ref sig .tc := ⟨.hbm, 189, rfl⟩
abbrev main_v178 : Ref sig .tc := ⟨.hbm, 190, rfl⟩
abbrev main_cst_7 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_cst_8 : Ref sig .tc := ⟨.hbm, 196, rfl⟩
abbrev main_v183 : Ref sig .tc := ⟨.hbm, 197, rfl⟩
abbrev main_v184 : Ref sig .tc := ⟨.hbm, 198, rfl⟩
abbrev main_cst_9 : Ref sig .tc := ⟨.hbm, 199, rfl⟩
abbrev main_v185 : Ref sig .tc := ⟨.hbm, 200, rfl⟩
abbrev main_v186 : Ref sig .tc := ⟨.hbm, 201, rfl⟩
abbrev main_cst_10 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_cst_11 : Ref sig .tc := ⟨.hbm, 208, rfl⟩
abbrev main_v192 : Ref sig .tc := ⟨.hbm, 209, rfl⟩
abbrev main_v193 : Ref sig .tc := ⟨.hbm, 210, rfl⟩
abbrev main_cst_12 : Ref sig .tc := ⟨.hbm, 211, rfl⟩
abbrev main_v194 : Ref sig .tc := ⟨.hbm, 212, rfl⟩
abbrev main_v195 : Ref sig .tc := ⟨.hbm, 213, rfl⟩
abbrev main_cst_13 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_cst_14 : Ref sig .tc := ⟨.hbm, 220, rfl⟩
abbrev main_v201 : Ref sig .tc := ⟨.hbm, 221, rfl⟩
abbrev main_v202 : Ref sig .tc := ⟨.hbm, 222, rfl⟩
abbrev main_cst_15 : Ref sig .tc := ⟨.hbm, 223, rfl⟩
abbrev main_v203 : Ref sig .tc := ⟨.hbm, 224, rfl⟩
abbrev main_v204 : Ref sig .tc := ⟨.hbm, 225, rfl⟩
abbrev main_cst_16 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_cst_17 : Ref sig .tc := ⟨.hbm, 232, rfl⟩
abbrev main_v210 : Ref sig .tc := ⟨.hbm, 233, rfl⟩
abbrev main_v211 : Ref sig .tc := ⟨.hbm, 234, rfl⟩
abbrev main_cst_18 : Ref sig .tc := ⟨.hbm, 235, rfl⟩
abbrev main_v212 : Ref sig .tc := ⟨.hbm, 236, rfl⟩
abbrev main_v213 : Ref sig .tc := ⟨.hbm, 237, rfl⟩
abbrev main_cst_19 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_cst_20 : Ref sig .tc := ⟨.hbm, 244, rfl⟩
abbrev main_v219 : Ref sig .tc := ⟨.hbm, 245, rfl⟩
abbrev main_v220 : Ref sig .tc := ⟨.hbm, 246, rfl⟩
abbrev main_cst_21 : Ref sig .tc := ⟨.hbm, 247, rfl⟩
abbrev main_v221 : Ref sig .tc := ⟨.hbm, 248, rfl⟩
abbrev main_v222 : Ref sig .tc := ⟨.hbm, 249, rfl⟩
abbrev main_cst_22 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_cst_23 : Ref sig .tc := ⟨.hbm, 256, rfl⟩
abbrev main_v228 : Ref sig .tc := ⟨.hbm, 257, rfl⟩
abbrev main_v229 : Ref sig .tc := ⟨.hbm, 258, rfl⟩
abbrev main_cst_24 : Ref sig .tc := ⟨.hbm, 259, rfl⟩
abbrev main_v230 : Ref sig .tc := ⟨.hbm, 260, rfl⟩
abbrev main_v231 : Ref sig .tc := ⟨.hbm, 261, rfl⟩
abbrev main_cst_25 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_cst_26 : Ref sig .tc := ⟨.hbm, 268, rfl⟩
abbrev main_v237 : Ref sig .tc := ⟨.hbm, 269, rfl⟩
abbrev main_v238 : Ref sig .tc := ⟨.hbm, 270, rfl⟩
abbrev main_cst_27 : Ref sig .tc := ⟨.hbm, 271, rfl⟩
abbrev main_v239 : Ref sig .tc := ⟨.hbm, 272, rfl⟩
abbrev main_v240 : Ref sig .tc := ⟨.hbm, 273, rfl⟩
abbrev main_cst_28 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_cst_29 : Ref sig .tc := ⟨.hbm, 280, rfl⟩
abbrev main_v246 : Ref sig .tc := ⟨.hbm, 281, rfl⟩
abbrev main_v247 : Ref sig .tc := ⟨.hbm, 282, rfl⟩
abbrev main_cst_30 : Ref sig .tc := ⟨.hbm, 283, rfl⟩
abbrev main_v248 : Ref sig .tc := ⟨.hbm, 284, rfl⟩
abbrev main_v249 : Ref sig .tc := ⟨.hbm, 285, rfl⟩
abbrev main_cst_31 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_cst_32 : Ref sig .tc := ⟨.hbm, 292, rfl⟩
abbrev main_v255 : Ref sig .tc := ⟨.hbm, 293, rfl⟩
abbrev main_v256 : Ref sig .tc := ⟨.hbm, 294, rfl⟩
abbrev main_cst_33 : Ref sig .tc := ⟨.hbm, 295, rfl⟩
abbrev main_v257 : Ref sig .tc := ⟨.hbm, 296, rfl⟩
abbrev main_v258 : Ref sig .tc := ⟨.hbm, 297, rfl⟩
abbrev main_cst_34 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_cst_35 : Ref sig .tc := ⟨.hbm, 304, rfl⟩
abbrev main_v264 : Ref sig .tc := ⟨.hbm, 305, rfl⟩
abbrev main_v265 : Ref sig .tc := ⟨.hbm, 306, rfl⟩
abbrev main_cst_36 : Ref sig .tc := ⟨.hbm, 307, rfl⟩
abbrev main_v266 : Ref sig .tc := ⟨.hbm, 308, rfl⟩
abbrev main_v267 : Ref sig .tc := ⟨.hbm, 309, rfl⟩
abbrev main_cst_37 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_cst_38 : Ref sig .tc := ⟨.hbm, 316, rfl⟩
abbrev main_v273 : Ref sig .tc := ⟨.hbm, 317, rfl⟩
abbrev main_v274 : Ref sig .tc := ⟨.hbm, 318, rfl⟩
abbrev main_cst_39 : Ref sig .tc := ⟨.hbm, 319, rfl⟩
abbrev main_v275 : Ref sig .tc := ⟨.hbm, 320, rfl⟩
abbrev main_v276 : Ref sig .tc := ⟨.hbm, 321, rfl⟩
abbrev main_cst_40 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_cst_41 : Ref sig .tc := ⟨.hbm, 328, rfl⟩
abbrev main_v282 : Ref sig .tc := ⟨.hbm, 329, rfl⟩
abbrev main_v283 : Ref sig .tc := ⟨.hbm, 330, rfl⟩
abbrev main_cst_42 : Ref sig .tc := ⟨.hbm, 331, rfl⟩
abbrev main_v284 : Ref sig .tc := ⟨.hbm, 332, rfl⟩
abbrev main_v285 : Ref sig .tc := ⟨.hbm, 333, rfl⟩
abbrev main_cst_43 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_cst_44 : Ref sig .tc := ⟨.hbm, 340, rfl⟩
abbrev main_v291 : Ref sig .tc := ⟨.hbm, 341, rfl⟩
abbrev main_v292 : Ref sig .tc := ⟨.hbm, 342, rfl⟩
abbrev main_cst_45 : Ref sig .tc := ⟨.hbm, 343, rfl⟩
abbrev main_v293 : Ref sig .tc := ⟨.hbm, 344, rfl⟩
abbrev main_v294 : Ref sig .tc := ⟨.hbm, 345, rfl⟩
abbrev main_cst_46 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_cst_47 : Ref sig .tc := ⟨.hbm, 352, rfl⟩
abbrev main_v300 : Ref sig .tc := ⟨.hbm, 353, rfl⟩
abbrev main_v301 : Ref sig .tc := ⟨.hbm, 354, rfl⟩
abbrev main_cst_48 : Ref sig .tc := ⟨.hbm, 355, rfl⟩
abbrev main_v302 : Ref sig .tc := ⟨.hbm, 356, rfl⟩
abbrev main_v303 : Ref sig .tc := ⟨.hbm, 357, rfl⟩
abbrev main_cst_49 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_cst_50 : Ref sig .tc := ⟨.hbm, 364, rfl⟩
abbrev main_v309 : Ref sig .tc := ⟨.hbm, 365, rfl⟩
abbrev main_v310 : Ref sig .tc := ⟨.hbm, 366, rfl⟩
abbrev main_cst_51 : Ref sig .tc := ⟨.hbm, 367, rfl⟩
abbrev main_v311 : Ref sig .tc := ⟨.hbm, 368, rfl⟩
abbrev main_v312 : Ref sig .tc := ⟨.hbm, 369, rfl⟩
abbrev main_cst_52 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_cst_53 : Ref sig .tc := ⟨.hbm, 376, rfl⟩
abbrev main_v318 : Ref sig .tc := ⟨.hbm, 377, rfl⟩
abbrev main_v319 : Ref sig .tc := ⟨.hbm, 378, rfl⟩
abbrev main_cst_54 : Ref sig .tc := ⟨.hbm, 379, rfl⟩
abbrev main_v320 : Ref sig .tc := ⟨.hbm, 380, rfl⟩
abbrev main_v321 : Ref sig .tc := ⟨.hbm, 381, rfl⟩
abbrev main_cst_55 : Ref sig .tc := ⟨.hbm, 382, rfl⟩
abbrev main_v322 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_cst_56 : Ref sig .tc := ⟨.hbm, 388, rfl⟩
abbrev main_v327 : Ref sig .tc := ⟨.hbm, 389, rfl⟩
abbrev main_v328 : Ref sig .tc := ⟨.hbm, 390, rfl⟩
abbrev main_cst_57 : Ref sig .tc := ⟨.hbm, 391, rfl⟩
abbrev main_v329 : Ref sig .tc := ⟨.hbm, 392, rfl⟩
abbrev main_v330 : Ref sig .tc := ⟨.hbm, 393, rfl⟩
abbrev main_cst_58 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_cst_59 : Ref sig .tc := ⟨.hbm, 400, rfl⟩
abbrev main_v336 : Ref sig .tc := ⟨.hbm, 401, rfl⟩
abbrev main_v337 : Ref sig .tc := ⟨.hbm, 402, rfl⟩
abbrev main_cst_60 : Ref sig .tc := ⟨.hbm, 403, rfl⟩
abbrev main_v338 : Ref sig .tc := ⟨.hbm, 404, rfl⟩
abbrev main_v339 : Ref sig .tc := ⟨.hbm, 405, rfl⟩
abbrev main_cst_61 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_cst_62 : Ref sig .tc := ⟨.hbm, 412, rfl⟩
abbrev main_v345 : Ref sig .tc := ⟨.hbm, 413, rfl⟩
abbrev main_v346 : Ref sig .tc := ⟨.hbm, 414, rfl⟩
abbrev main_cst_63 : Ref sig .tc := ⟨.hbm, 415, rfl⟩
abbrev main_v347 : Ref sig .tc := ⟨.hbm, 416, rfl⟩
abbrev main_v348 : Ref sig .tc := ⟨.hbm, 417, rfl⟩
abbrev main_cst_64 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_cst_65 : Ref sig .tc := ⟨.hbm, 424, rfl⟩
abbrev main_v354 : Ref sig .tc := ⟨.hbm, 425, rfl⟩
abbrev main_v355 : Ref sig .tc := ⟨.hbm, 426, rfl⟩
abbrev main_cst_66 : Ref sig .tc := ⟨.hbm, 427, rfl⟩
abbrev main_v356 : Ref sig .tc := ⟨.hbm, 428, rfl⟩
abbrev main_v357 : Ref sig .tc := ⟨.hbm, 429, rfl⟩
abbrev main_cst_67 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_cst_68 : Ref sig .tc := ⟨.hbm, 436, rfl⟩
abbrev main_v363 : Ref sig .tc := ⟨.hbm, 437, rfl⟩
abbrev main_v364 : Ref sig .tc := ⟨.hbm, 438, rfl⟩
abbrev main_cst_69 : Ref sig .tc := ⟨.hbm, 439, rfl⟩
abbrev main_v365 : Ref sig .tc := ⟨.hbm, 440, rfl⟩
abbrev main_v366 : Ref sig .tc := ⟨.hbm, 441, rfl⟩
abbrev main_cst_70 : Ref sig .tc := ⟨.hbm, 442, rfl⟩
abbrev main_v367 : Ref sig .tc := ⟨.hbm, 443, rfl⟩
abbrev main_v368 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_cst_71 : Ref sig .tc := ⟨.hbm, 448, rfl⟩
abbrev main_v372 : Ref sig .tc := ⟨.hbm, 449, rfl⟩
abbrev main_v373 : Ref sig .tc := ⟨.hbm, 450, rfl⟩
abbrev main_cst_72 : Ref sig .tc := ⟨.hbm, 451, rfl⟩
abbrev main_v374 : Ref sig .tc := ⟨.hbm, 452, rfl⟩
abbrev main_v375 : Ref sig .tc := ⟨.hbm, 453, rfl⟩
abbrev main_cst_73 : Ref sig .tc := ⟨.hbm, 454, rfl⟩
abbrev main_v376 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_cst_74 : Ref sig .tc := ⟨.hbm, 460, rfl⟩
abbrev main_v381 : Ref sig .tc := ⟨.hbm, 461, rfl⟩
abbrev main_v382 : Ref sig .tc := ⟨.hbm, 462, rfl⟩
abbrev main_cst_75 : Ref sig .tc := ⟨.hbm, 463, rfl⟩
abbrev main_v383 : Ref sig .tc := ⟨.hbm, 464, rfl⟩
abbrev main_v384 : Ref sig .tc := ⟨.hbm, 465, rfl⟩
abbrev main_cst_76 : Ref sig .tc := ⟨.hbm, 466, rfl⟩
abbrev main_v385 : Ref sig .tc := ⟨.hbm, 467, rfl⟩
abbrev main_v386 : Ref sig .tc := ⟨.hbm, 468, rfl⟩
abbrev main_v387 : Ref sig .tc := ⟨.hbm, 469, rfl⟩
abbrev main_v388 : Ref sig .tc := ⟨.hbm, 470, rfl⟩
abbrev main_v389 : Ref sig .tc := ⟨.hbm, 471, rfl⟩
abbrev main_cst_77 : Ref sig .tc := ⟨.hbm, 472, rfl⟩
abbrev main_v390 : Ref sig .tc := ⟨.hbm, 473, rfl⟩
abbrev main_v391 : Ref sig .tc := ⟨.hbm, 474, rfl⟩
abbrev main_cst_78 : Ref sig .tc := ⟨.hbm, 475, rfl⟩
abbrev main_v392 : Ref sig .tc := ⟨.hbm, 476, rfl⟩
abbrev main_v393 : Ref sig .tc := ⟨.hbm, 477, rfl⟩
abbrev main_cst_79 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_cst_80 : Ref sig .tc := ⟨.hbm, 484, rfl⟩
abbrev main_v399 : Ref sig .tc := ⟨.hbm, 485, rfl⟩
abbrev main_v400 : Ref sig .tc := ⟨.hbm, 486, rfl⟩
abbrev main_cst_81 : Ref sig .tc := ⟨.hbm, 487, rfl⟩
abbrev main_v401 : Ref sig .tc := ⟨.hbm, 488, rfl⟩
abbrev main_v402 : Ref sig .tc := ⟨.hbm, 489, rfl⟩
abbrev main_cst_82 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_v407 : Ref sig .tc := ⟨.hbm, 495, rfl⟩
abbrev main_cst_83 : Ref sig .tc := ⟨.hbm, 496, rfl⟩
abbrev main_v408 : Ref sig .tc := ⟨.hbm, 497, rfl⟩
abbrev main_v409 : Ref sig .tc := ⟨.hbm, 498, rfl⟩
abbrev main_cst_84 : Ref sig .tc := ⟨.hbm, 499, rfl⟩
abbrev main_v410 : Ref sig .tc := ⟨.hbm, 500, rfl⟩
abbrev main_v411 : Ref sig .tc := ⟨.hbm, 501, rfl⟩
abbrev main_cst_85 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_cst_86 : Ref sig .tc := ⟨.hbm, 508, rfl⟩
abbrev main_v417 : Ref sig .tc := ⟨.hbm, 509, rfl⟩
abbrev main_v418 : Ref sig .tc := ⟨.hbm, 510, rfl⟩
abbrev main_cst_87 : Ref sig .tc := ⟨.hbm, 511, rfl⟩
abbrev main_v419 : Ref sig .tc := ⟨.hbm, 512, rfl⟩
abbrev main_v420 : Ref sig .tc := ⟨.hbm, 513, rfl⟩
abbrev main_cst_88 : Ref sig .tc := ⟨.hbm, 514, rfl⟩
abbrev main_v421 : Ref sig .tc := ⟨.hbm, 515, rfl⟩
abbrev main_v422 : Ref sig .tc := ⟨.hbm, 516, rfl⟩
abbrev main_v423 : Ref sig .tc := ⟨.hbm, 517, rfl⟩
abbrev main_v424 : Ref sig .tc := ⟨.hbm, 518, rfl⟩
abbrev main_v425 : Ref sig .tc := ⟨.hbm, 519, rfl⟩
abbrev main_cst_89 : Ref sig .tc := ⟨.hbm, 520, rfl⟩
abbrev main_v426 : Ref sig .tc := ⟨.hbm, 521, rfl⟩
abbrev main_v427 : Ref sig .tc := ⟨.hbm, 522, rfl⟩
abbrev main_cst_90 : Ref sig .tc := ⟨.hbm, 523, rfl⟩
abbrev main_v428 : Ref sig .tc := ⟨.hbm, 524, rfl⟩
abbrev main_v429 : Ref sig .tc := ⟨.hbm, 525, rfl⟩
abbrev main_cst_91 : Ref sig .tc := ⟨.hbm, 526, rfl⟩
abbrev main_v430 : Ref sig .tc := ⟨.hbm, 527, rfl⟩
abbrev main_v431 : Ref sig .tc := ⟨.hbm, 528, rfl⟩
abbrev main_v432 : Ref sig .tc := ⟨.hbm, 529, rfl⟩
abbrev main_v433 : Ref sig .tc := ⟨.hbm, 530, rfl⟩
abbrev main_v434 : Ref sig .tc := ⟨.hbm, 531, rfl⟩
abbrev main_cst_92 : Ref sig .tc := ⟨.hbm, 532, rfl⟩
abbrev main_v435 : Ref sig .tc := ⟨.hbm, 533, rfl⟩
abbrev main_v436 : Ref sig .tc := ⟨.hbm, 534, rfl⟩
abbrev main_cst_93 : Ref sig .tc := ⟨.hbm, 535, rfl⟩
abbrev main_v437 : Ref sig .tc := ⟨.hbm, 536, rfl⟩
abbrev main_v438 : Ref sig .tc := ⟨.hbm, 537, rfl⟩
abbrev main_cst_94 : Ref sig .tc := ⟨.hbm, 538, rfl⟩
abbrev main_v439 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩
abbrev main_v443 : Ref sig .tc := ⟨.hbm, 543, rfl⟩
abbrev main_cst_95 : Ref sig .tc := ⟨.hbm, 544, rfl⟩
abbrev main_v444 : Ref sig .tc := ⟨.hbm, 545, rfl⟩
abbrev main_v445 : Ref sig .tc := ⟨.hbm, 546, rfl⟩
abbrev main_cst_96 : Ref sig .tc := ⟨.hbm, 547, rfl⟩
abbrev main_v446 : Ref sig .tc := ⟨.hbm, 548, rfl⟩
abbrev main_v447 : Ref sig .tc := ⟨.hbm, 549, rfl⟩
abbrev main_cst_97 : Ref sig .tc := ⟨.hbm, 550, rfl⟩
abbrev main_v448 : Ref sig .tc := ⟨.hbm, 551, rfl⟩
abbrev main_v449 : Ref sig .tc := ⟨.hbm, 552, rfl⟩
abbrev main_v450 : Ref sig .tc := ⟨.hbm, 553, rfl⟩
abbrev main_v451 : Ref sig .tc := ⟨.hbm, 554, rfl⟩
abbrev main_v452 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_v456 : Ref sig .tc := ⟨.hbm, 559, rfl⟩
abbrev main_v457 : Ref sig .tc := ⟨.hbm, 560, rfl⟩
abbrev main_v458 : Ref sig .tc := ⟨.hbm, 561, rfl⟩
abbrev main_v459 : Ref sig .tc := ⟨.hbm, 562, rfl⟩
abbrev main_c : Ref sig .tc := ⟨.hbm, 563, rfl⟩
abbrev main_call0_v0 : Ref sig .tc := ⟨.hbm, 564, rfl⟩
abbrev main_v460 : Ref sig .tc := ⟨.hbm, 565, rfl⟩

abbrev nD : Nat := 1
abbrev τ : Topo := Topo.v7x

variable {F : FTy → Type} [FloatOps F]
-- ==== Kernel2.lean ====
abbrev S2176x2048 : Shape := ⟨2, ![2176, 2048]⟩
abbrev S8192x2048 : Shape := ⟨2, ![8192, 2048]⟩
abbrev S2176x8192 : Shape := ⟨2, ![2176, 8192]⟩
abbrev S_ : Shape := ⟨0, ![]⟩
abbrev S1088x2048 : Shape := ⟨2, ![1088, 2048]⟩
abbrev S2048x2048 : Shape := ⟨2, ![2048, 2048]⟩

abbrev nBuf : Space → Nat
  | .hbm => 9
  | .vmem => 8
  | .smem => 0
  | _ => 0

abbrev bufTy : (tb : Table) → Fin (tcTables nBuf tb) → BufTy
  | .hbm, ⟨0, _⟩ => ⟨S2176x2048, .bf16⟩
  | .hbm, ⟨1, _⟩ => ⟨S8192x2048, .bf16⟩
  | .hbm, ⟨2, _⟩ => ⟨S2176x8192, .f32⟩
  | .hbm, ⟨3, _⟩ => ⟨S_, .f32⟩
  | .hbm, ⟨4, _⟩ => ⟨S2176x8192, .f32⟩
  | .hbm, ⟨5, _⟩ => ⟨S2176x8192, .f32⟩
  | .hbm, ⟨6, _⟩ => ⟨S2176x8192, .f32⟩
  | .hbm, ⟨7, _⟩ => ⟨S2176x8192, .bf16⟩
  | .hbm, ⟨8, _⟩ => ⟨S2176x8192, .bf16⟩
  | .local _ .vmem, ⟨0, _⟩ => ⟨S1088x2048, .bf16⟩
  | .local _ .vmem, ⟨1, _⟩ => ⟨S1088x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1088x2048, .bf16⟩
  | .local _ .vmem, ⟨5, _⟩ => ⟨S1088x2048, .bf16⟩
  | .local _ .vmem, ⟨6, _⟩ => ⟨S1088x2048, .bf16⟩
  | .local _ .vmem, ⟨7, _⟩ => ⟨S1088x2048, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2176x2048 : Shape := ⟨2, ![2176, 2048]⟩
abbrev S8192x2048 : Shape := ⟨2, ![8192, 2048]⟩
abbrev S2176x8192 : Shape := ⟨2, ![2176, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S8192x2048, .bf16⟩
  | .hbm, ⟨2, _⟩ => ⟨S2176x8192, .f32⟩
  | .hbm, ⟨3, _⟩ => ⟨S8192x2048, .f32⟩
  | .hbm, ⟨4, _⟩ => ⟨S_, .f32⟩
  | .hbm, ⟨5, _⟩ => ⟨S2176x8192, .f32⟩
  | .hbm, ⟨6, _⟩ => ⟨S2176x8192, .f32⟩
  | .hbm, ⟨7, _⟩ => ⟨S_, .f32⟩
  | .hbm, ⟨8, _⟩ => ⟨S2176x8192, .f32⟩
  | .hbm, ⟨9, _⟩ => ⟨S2176x8192, .i1⟩
  | .hbm, ⟨10, _⟩ => ⟨S_, .f32⟩
  | .hbm, ⟨11, _⟩ => ⟨S2176x8192, .f32⟩
  | .hbm, ⟨12, _⟩ => ⟨S2176x8192, .f32⟩
  | .hbm, ⟨13, _⟩ => ⟨S_, .f32⟩
  | .hbm, ⟨14, _⟩ => ⟨S2176x8192, .f32⟩
  | .hbm, ⟨15, _⟩ => ⟨S2176x8192, .f32⟩
  | .hbm, ⟨16, _⟩ => ⟨S2176x2048, .f32⟩
  | .hbm, ⟨17, _⟩ => ⟨S2176x2048, .f32⟩
  | .hbm, ⟨18, _⟩ => ⟨S2176x8192, .f32⟩
  | .hbm, ⟨19, _⟩ => ⟨S2176x8192, .f32⟩
  | .hbm, ⟨20, _⟩ => ⟨S_, .f32⟩
  | .hbm, ⟨21, _⟩ => ⟨S2176x8192, .f32⟩
  | .hbm, ⟨22, _⟩ => ⟨S2176x8192, .f32⟩
  | .hbm, ⟨23, _⟩ => ⟨S2176x8192, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S2176x8192 : Shape := ⟨2, ![2176, 8192]⟩
abbrev S2176x2048 : Shape := ⟨2, ![2176, 2048]⟩
abbrev S8192x2048 : Shape := ⟨2, ![8192, 2048]⟩
abbrev S2176x1024 : Shape := ⟨2, ![2176, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x8192, .bf16⟩
  | .hbm, ⟨1, _⟩ => ⟨S2176x2048, .bf16⟩
  | .hbm, ⟨2, _⟩ => ⟨S8192x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | _, _ => ⟨S2176x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2176x8192 : Shape := ⟨2, ![2176, 8192]⟩
abbrev S2176x2048 : Shape := ⟨2, ![2176, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2176x8192, .bf16⟩
  | .hbm, ⟨1, _⟩ => ⟨S2176x2048, .bf16⟩
  | .hbm, ⟨2, _⟩ => ⟨S_, .f32⟩
  | .hbm, ⟨3, _⟩ => ⟨S8192x2048, .f32⟩
  | .hbm, ⟨4, _⟩ => ⟨S2176x8192, .f32⟩
  | .hbm, ⟨5, _⟩ => ⟨S2176x2048, .f32⟩
  | .hbm, ⟨6, _⟩ => ⟨S2176x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2176x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2176x2048 : Shape := ⟨2, ![2176, 2048]⟩
abbrev S2176x8192 : Shape := ⟨2, ![2176, 8192]⟩
abbrev S8x2048x1024 : Shape := ⟨3, ![8, 2048, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x8192, .bf16⟩
  | .hbm, ⟨2, _⟩ => ⟨S8x2048x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2176x2048 : Shape := ⟨2, ![2176, 2048]⟩
abbrev S2176x8192 : Shape := ⟨2, ![2176, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x8192, .bf16⟩
  | .hbm, ⟨2, _⟩ => ⟨S_, .f32⟩
  | .hbm, ⟨3, _⟩ => ⟨S2048x8192, .f32⟩
  | .hbm, ⟨4, _⟩ => ⟨S2176x2048, .f32⟩
  | .hbm, ⟨5, _⟩ => ⟨S2176x8192, .f32⟩
  | .hbm, ⟨6, _⟩ => ⟨S2176x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2176x8192 : Shape := ⟨2, ![2176, 8192]⟩
abbrev S8x2048x1024 : Shape := ⟨3, ![8, 2048, 1024]⟩
abbrev S2176x2048 : Shape := ⟨2, ![2176, 2048]⟩
abbrev S1088x2048 : Shape := ⟨2, ![1088, 2048]⟩
abbrev S2x1024x1024 : Shape := ⟨3, ![2, 1024, 1024]⟩
abbrev S1088x1024 : Shape := ⟨2, ![1088, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x8192, .bf16⟩
  | .hbm, ⟨1, _⟩ => ⟨S8x2048x1024, .bf16⟩
  | .hbm, ⟨2, _⟩ => ⟨S2176x2048, .f32⟩
  | .local _ .vmem, ⟨0, _⟩ => ⟨S1088x2048, .bf16⟩
  | .local _ .vmem, ⟨1, _⟩ => ⟨S1088x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2176x8192 : Shape := ⟨2, ![2176, 8192]⟩
abbrev S8x2048x1024 : Shape := ⟨3, ![8, 2048, 1024]⟩
abbrev S_ : Shape := ⟨0, ![]⟩
abbrev S2176x2048 : Shape := ⟨2, ![2176, 2048]⟩
abbrev S2048x8x1024 : Shape := ⟨3, ![2048, 8, 1024]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2176x8192, .bf16⟩
  | .hbm, ⟨1, _⟩ => ⟨S8x2048x1024, .bf16⟩
  | .hbm, ⟨2, _⟩ => ⟨S_, .f32⟩
  | .hbm, ⟨3, _⟩ => ⟨S2176x2048, .f32⟩
  | .hbm, ⟨4, _⟩ => ⟨S2048x8x1024, .bf16⟩
  | .hbm, ⟨5, _⟩ => ⟨S2048x8192, .bf16⟩
  | .hbm, ⟨6, _⟩ => ⟨S2048x8192, .f32⟩
  | .hbm, ⟨7, _⟩ => ⟨S2176x8192, .f32⟩
  | .hbm, ⟨8, _⟩ => ⟨S2176x8192, .f32⟩
  | .hbm, ⟨9, _⟩ => ⟨S2176x2048, .f32⟩
  | _, _ => ⟨S2176x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2176x2048 : Shape := ⟨2, ![2176, 2048]⟩
abbrev S2048x2048 : Shape := ⟨2, ![2048, 2048]⟩
abbrev S2176x7168 : Shape := ⟨2, ![2176, 7168]⟩
abbrev S1088x2048 : Shape := ⟨2, ![1088, 2048]⟩
abbrev S512x2048 : Shape := ⟨2, ![512, 2048]⟩
abbrev S1088x512 : Shape := ⟨2, ![1088, 512]⟩
abbrev S544x2048 : Shape := ⟨2, ![544, 2048]⟩
abbrev S544x512 : Shape := ⟨2, ![544, 512]⟩

abbrev nBuf : Space → Nat
  | .hbm => 10
  | .vmem => 20
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x7168, .f32⟩
  | .hbm, ⟨3, _⟩ => ⟨S2176x2048, .bf16⟩
  | .hbm, ⟨4, _⟩ => ⟨S2176x2048, .bf16⟩
  | .hbm, ⟨5, _⟩ => ⟨S2176x7168, .bf16⟩
  | .hbm, ⟨6, _⟩ => ⟨S2176x2048, .bf16⟩
  | .hbm, ⟨7, _⟩ => ⟨S2176x2048, .bf16⟩
  | .hbm, ⟨8, _⟩ => ⟨S2176x2048, .bf16⟩
  | .hbm, ⟨9, _⟩ => ⟨S2176x2048, .bf16⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S1088x512, .bf16⟩
  | .local _ .vmem, ⟨9, _⟩ => ⟨S1088x512, .bf16⟩
  | .local _ .vmem, ⟨10, _⟩ => ⟨S1088x512, .bf16⟩
  | .local _ .vmem, ⟨11, _⟩ => ⟨S1088x512, .bf16⟩
  | .local _ .vmem, ⟨12, _⟩ => ⟨S1088x512, .bf16⟩
  | .local _ .vmem, ⟨13, _⟩ => ⟨S1088x512, .bf16⟩
  | .local _ .vmem, ⟨14, _⟩ => ⟨S1088x512, .bf16⟩
  | .local _ .vmem, ⟨15, _⟩ => ⟨S1088x512, .bf16⟩
  | .local _ .vmem, ⟨16, _⟩ => ⟨S1088x512, .bf16⟩
  | .local _ .vmem, ⟨17, _⟩ => ⟨S1088x512, .bf16⟩
  | .local _ .vmem, ⟨18, _⟩ => ⟨S1088x512, .bf16⟩
  | .local _ .vmem, ⟨19, _⟩ => ⟨S1088x512, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg1 c10_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1088x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1088x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1088x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1088x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1088x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference6Ideal.lean ====
abbrev S2176x2048 : Shape := ⟨2, ![2176, 2048]⟩
abbrev S2048x2048 : Shape := ⟨2, ![2048, 2048]⟩
abbrev S2176x7168 : Shape := ⟨2, ![2176, 7168]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x7168, .f32⟩
  | .hbm, ⟨3, _⟩ => ⟨S2176x2048, .bf16⟩
  | .hbm, ⟨4, _⟩ => ⟨S2176x2048, .bf16⟩
  | .hbm, ⟨5, _⟩ => ⟨S2176x2048, .f32⟩
  | .hbm, ⟨6, _⟩ => ⟨S2176x2048, .f32⟩
  | .hbm, ⟨7, _⟩ => ⟨S2176x2048, .f32⟩
  | .hbm, ⟨8, _⟩ => ⟨S2176x2048, .f32⟩
  | .hbm, ⟨9, _⟩ => ⟨S2048x2048, .f32⟩
  | .hbm, ⟨10, _⟩ => ⟨S2176x2048, .f32⟩
  | .hbm, ⟨11, _⟩ => ⟨S2176x2048, .f32⟩
  | .hbm, ⟨12, _⟩ => ⟨S_, .f32⟩
  | .hbm, ⟨13, _⟩ => ⟨S2176x2048, .f32⟩
  | .hbm, ⟨14, _⟩ => ⟨S2176x2048, .f32⟩
  | .hbm, ⟨15, _⟩ => ⟨S_, .f32⟩
  | .hbm, ⟨16, _⟩ => ⟨S2176x2048, .f32⟩
  | .hbm, ⟨17, _⟩ => ⟨S2176x2048, .f32⟩
  | .hbm, ⟨18, _⟩ => ⟨S_, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S_, .f32⟩
  | .hbm, ⟨26, _⟩ => ⟨S2176x2048, .f32⟩
  | .hbm, ⟨27, _⟩ => ⟨S2176x2048, .f32⟩
  | .hbm, ⟨28, _⟩ => ⟨S_, .f32⟩
  | .hbm, ⟨29, _⟩ => ⟨S2176x2048, .f32⟩
  | .hbm, ⟨30, _⟩ => ⟨S2176x2048, .f32⟩
  | .hbm, ⟨31, _⟩ => ⟨S_, .f32⟩
  | .hbm, ⟨32, _⟩ => ⟨S2176x2048, .f32⟩
  | .hbm, ⟨33, _⟩ => ⟨S2176x2048, .f32⟩
  | .hbm, ⟨34, _⟩ => ⟨S2176x2048, .f32⟩
  | .hbm, ⟨35, _⟩ => ⟨S2176x2048, .f32⟩
  | .hbm, ⟨36, _⟩ => ⟨S2176x2048, .f32⟩
  | .hbm, ⟨37, _⟩ => ⟨S2176x2048, .f32⟩
  | .hbm, ⟨38, _⟩ => ⟨S2176x2048, .f32⟩
  | .hbm, ⟨39, _⟩ => ⟨S2176x2048, .f32⟩
  | .hbm, ⟨40, _⟩ => ⟨S2176x2048, .f32⟩
  | .hbm, ⟨41, _⟩ => ⟨S2176x2048, .f32⟩
  | .hbm, ⟨42, _⟩ => ⟨S2176x2048, .f32⟩
  | .hbm, ⟨43, _⟩ => ⟨S2176x2048, .f32⟩
  | .hbm, ⟨44, _⟩ => ⟨S2176x2048, .f32⟩
  | .hbm, ⟨45, _⟩ => ⟨S2176x2048, .f32⟩
  | .hbm, ⟨46, _⟩ => ⟨S2176x2048, .bf16⟩
  | .hbm, ⟨47, _⟩ => ⟨S2176x2048, .bf16⟩
  | .hbm, ⟨48, _⟩ => ⟨S2176x2048, .bf16⟩
  | .hbm, ⟨49, _⟩ => ⟨S2176x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel7.lean ====
abbrev S2176x2048 : Shape := ⟨2, ![2176, 2048]⟩
abbrev S2048x2048 : Shape := ⟨2, ![2048, 2048]⟩
abbrev S2176x1024 : Shape := ⟨2, ![2176, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2048x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2176x2048 : Shape := ⟨2, ![2176, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S_, .f32⟩
  | .hbm, ⟨3, _⟩ => ⟨S2048x2048, .f32⟩
  | .hbm, ⟨4, _⟩ => ⟨S2176x2048, .f32⟩
  | .hbm, ⟨5, _⟩ => ⟨S2176x2048, .f32⟩
  | .hbm, ⟨6, _⟩ => ⟨S2176x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2176x1024 : Shape := ⟨2, ![2176, 1024]⟩
abbrev S2176x2048 : Shape := ⟨2, ![2176, 2048]⟩
abbrev S8x1024x256 : Shape := ⟨3, ![8, 1024, 256]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S2176x2048, .bf16⟩
  | .hbm, ⟨2, _⟩ => ⟨S8x1024x256, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S4x1024x256, .bf16⟩
  | .local _ .vmem, ⟨4, _⟩ => ⟨S4x1024x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2176x1024 : Shape := ⟨2, ![2176, 1024]⟩
abbrev S2176x2048 : Shape := ⟨2, ![2176, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x2048, .bf16⟩
  | .hbm, ⟨2, _⟩ => ⟨S_, .f32⟩
  | .hbm, ⟨3, _⟩ => ⟨S1024x2048, .f32⟩
  | .hbm, ⟨4, _⟩ => ⟨S2176x1024, .f32⟩
  | .hbm, ⟨5, _⟩ => ⟨S2176x2048, .f32⟩
  | .hbm, ⟨6, _⟩ => ⟨S2176x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S2176x2048 : Shape := ⟨2, ![2176, 2048]⟩
abbrev S8x1024x256 : Shape := ⟨3, ![8, 1024, 256]⟩
abbrev S2176x1024 : Shape := ⟨2, ![2176, 1024]⟩
abbrev S1088x1024 : Shape := ⟨2, ![1088, 1024]⟩
abbrev S4x1024x256 : Shape := ⟨3, ![4, 1024, 256]⟩
abbrev S1088x256 : Shape := ⟨2, ![1088, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S8x1024x256, .bf16⟩
  | .hbm, ⟨2, _⟩ => ⟨S2176x1024, .f32⟩
  | .local _ .vmem, ⟨0, _⟩ => ⟨S1088x1024, .bf16⟩
  | .local _ .vmem, ⟨1, _⟩ => ⟨S1088x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2176x2048 : Shape := ⟨2, ![2176, 2048]⟩
abbrev S8x1024x256 : Shape := ⟨3, ![8, 1024, 256]⟩
abbrev S_ : Shape := ⟨0, ![]⟩
abbrev S2176x1024 : Shape := ⟨2, ![2176, 1024]⟩
abbrev S1024x8x256 : Shape := ⟨3, ![1024, 8, 256]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S8x1024x256, .bf16⟩
  | .hbm, ⟨2, _⟩ => ⟨S_, .f32⟩
  | .hbm, ⟨3, _⟩ => ⟨S2176x1024, .f32⟩
  | .hbm, ⟨4, _⟩ => ⟨S1024x8x256, .bf16⟩
  | .hbm, ⟨5, _⟩ => ⟨S1024x2048, .bf16⟩
  | .hbm, ⟨6, _⟩ => ⟨S1024x2048, .f32⟩
  | .hbm, ⟨7, _⟩ => ⟨S2176x2048, .f32⟩
  | .hbm, ⟨8, _⟩ => ⟨S2176x2048, .f32⟩
  | .hbm, ⟨9, _⟩ => ⟨S2176x1024, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2176x2048 : Shape := ⟨2, ![2176, 2048]⟩
abbrev S2176x7168 : Shape := ⟨2, ![2176, 7168]⟩
abbrev S8x2048x896 : Shape := ⟨3, ![8, 2048, 896]⟩
abbrev S2176x1024 : Shape := ⟨2, ![2176, 1024]⟩
abbrev S2176x896 : Shape := ⟨2, ![2176, 896]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x7168, .bf16⟩
  | .hbm, ⟨2, _⟩ => ⟨S8x2048x896, .bf16⟩
  | .local _ .vmem, ⟨0, _⟩ => ⟨S2176x1024, .bf16⟩
  | .local _ .vmem, ⟨1, _⟩ => ⟨S2176x1024, .bf16⟩
  | .local _ .vmem, ⟨2, _⟩ => ⟨S2176x896, .bf16⟩
  | .local _ .vmem, ⟨3, _⟩ => ⟨S2176x896, .bf16⟩
  | .local _ .vmem, ⟨4, _⟩ => ⟨S1x1024x896, .bf16⟩
  | .local _ .vmem, ⟨5, _⟩ => ⟨S1x1024x896, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2176x2048 : Shape := ⟨2, ![2176, 2048]⟩
abbrev S2176x7168 : Shape := ⟨2, ![2176, 7168]⟩
abbrev S_ : Shape := ⟨0, ![]⟩
abbrev S2048x7168 : Shape := ⟨2, ![2048, 7168]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 12
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x7168, .bf16⟩
  | .hbm, ⟨2, _⟩ => ⟨S_, .f32⟩
  | .hbm, ⟨3, _⟩ => ⟨S2048x7168, .f32⟩
  | .hbm, ⟨4, _⟩ => ⟨S2176x2048, .f32⟩
  | .hbm, ⟨5, _⟩ => ⟨S2176x7168, .f32⟩
  | .hbm, ⟨6, _⟩ => ⟨S2176x7168, .f32⟩
  | .hbm, ⟨7, _⟩ => ⟨S7168x2048, .f32⟩
  | .hbm, ⟨8, _⟩ => ⟨S2048x7168, .f32⟩
  | .hbm, ⟨9, _⟩ => ⟨S2048x7168, .bf16⟩
  | .hbm, ⟨10, _⟩ => ⟨S2048x8x896, .bf16⟩
  | .hbm, ⟨11, _⟩ => ⟨S8x2048x896, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S2176x7168 : Shape := ⟨2, ![2176, 7168]⟩
abbrev S8x2048x896 : Shape := ⟨3, ![8, 2048, 896]⟩
abbrev S2176x2048 : Shape := ⟨2, ![2176, 2048]⟩
abbrev S544x3584 : Shape := ⟨2, ![544, 3584]⟩
abbrev S4x1024x896 : Shape := ⟨3, ![4, 1024, 896]⟩
abbrev S544x1024 : Shape := ⟨2, ![544, 1024]⟩
abbrev S544x896 : Shape := ⟨2, ![544, 896]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S2176x7168, .bf16⟩
  | .hbm, ⟨1, _⟩ => ⟨S8x2048x896, .bf16⟩
  | .hbm, ⟨2, _⟩ => ⟨S2176x2048, .f32⟩
  | .local _ .vmem, ⟨0, _⟩ => ⟨S544x3584, .bf16⟩
  | .local _ .vmem, ⟨1, _⟩ => ⟨S544x3584, .bf16⟩
  | .local _ .vmem, ⟨2, _⟩ => ⟨S4x1024x896, .bf16⟩
  | .local _ .vmem, ⟨3, _⟩ => ⟨S4x1024x896, .bf16⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | _, _ => ⟨S2176x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2176x7168 : Shape := ⟨2, ![2176, 7168]⟩
abbrev S8x2048x896 : Shape := ⟨3, ![8, 2048, 896]⟩
abbrev S_ : Shape := ⟨0, ![]⟩
abbrev S2176x2048 : Shape := ⟨2, ![2176, 2048]⟩
abbrev S2048x8x896 : Shape := ⟨3, ![2048, 8, 896]⟩
abbrev S2048x7168 : Shape := ⟨2, ![2048, 7168]⟩

abbrev nBuf : Space → Nat
  | .hbm => 10
  | .vmem => 0
  | .smem => 0
  | _ => 0

abbrev bufTy : (tb : Table) → Fin (tcTables nBuf tb) → BufTy
  | .hbm, ⟨0, _⟩ => ⟨S2176x7168, .bf16⟩
  | .hbm, ⟨1, _⟩ => ⟨S8x2048x896, .bf16⟩
  | .hbm, ⟨2, _⟩ => ⟨S_, .f32⟩
  | .hbm, ⟨3, _⟩ => ⟨S2176x2048, .f32⟩
  | .hbm, ⟨4, _⟩ => ⟨S2048x8x896, .bf16⟩
  | .hbm, ⟨5, _⟩ => ⟨S2048x7168, .bf16⟩
  | .hbm, ⟨6, _⟩ => ⟨S2048x7168, .f32⟩
  | .hbm, ⟨7, _⟩ => ⟨S2176x7168, .f32⟩
  | .hbm, ⟨8, _⟩ => ⟨S2176x7168, .f32⟩
  | .hbm, ⟨9, _⟩ => ⟨S2176x2048, .f32⟩
  | _, _ => ⟨S2176x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2176x2048 : Shape := ⟨2, ![2176, 2048]⟩
abbrev S2048x2048 : Shape := ⟨2, ![2048, 2048]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2176x2048 : Shape := ⟨2, ![2176, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2048x2048, .f32⟩
  | .hbm, ⟨4, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2176x1024 : Shape := ⟨2, ![2176, 1024]⟩
abbrev S8x1024x256 : Shape := ⟨3, ![8, 1024, 256]⟩
abbrev S2176x7168 : Shape := ⟨2, ![2176, 7168]⟩
abbrev S2176x2048 : Shape := ⟨2, ![2176, 2048]⟩
abbrev S1x1024x256 : Shape := ⟨3, ![1, 1024, 256]⟩
abbrev S2176x256 : Shape := ⟨2, ![2176, 256]⟩
abbrev S544x1024 : Shape := ⟨2, ![544, 1024]⟩
abbrev S1024x256 : Shape := ⟨2, ![1024, 256]⟩
abbrev S544x256 : Shape := ⟨2, ![544, 256]⟩

abbrev nBuf : Space → Nat
  | .hbm => 8
  | .vmem => 16
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S8x1024x256, .bf16⟩
  | .hbm, ⟨3, _⟩ => ⟨S8x1024x256, .bf16⟩
  | .hbm, ⟨4, _⟩ => ⟨S2176x7168, .f32⟩
  | .hbm, ⟨5, _⟩ => ⟨S2176x2048, .bf16⟩
  | .hbm, ⟨6, _⟩ => ⟨S2176x2048, .bf16⟩
  | .hbm, ⟨7, _⟩ => ⟨S2176x2048, .bf16⟩
  | .local _ .vmem, ⟨0, _⟩ => ⟨S2176x1024, .bf16⟩
  | .local _ .vmem, ⟨1, _⟩ => ⟨S2176x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S2176x256, .f32⟩
  | .local _ .vmem, ⟨7, _⟩ => ⟨S2176x256, .f32⟩
  | .local _ .vmem, ⟨8, _⟩ => ⟨S2176x256, .f32⟩
  | .local _ .vmem, ⟨9, _⟩ => ⟨S2176x256, .f32⟩
  | .local _ .vmem, ⟨10, _⟩ => ⟨S2176x256, .bf16⟩
  | .local _ .vmem, ⟨11, _⟩ => ⟨S2176x256, .bf16⟩
  | .local _ .vmem, ⟨12, _⟩ => ⟨S2176x256, .bf16⟩
  | .local _ .vmem, ⟨13, _⟩ => ⟨S2176x256, .bf16⟩
  | .local _ .vmem, ⟨14, _⟩ => ⟨S2176x256, .bf16⟩
  | .local _ .vmem, ⟨15, _⟩ => ⟨S2176x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2176x1024 : Shape := ⟨2, ![2176, 1024]⟩
abbrev S8x1024x256 : Shape := ⟨3, ![8, 1024, 256]⟩
abbrev S2176x7168 : Shape := ⟨2, ![2176, 7168]⟩
abbrev S2176x2048 : Shape := ⟨2, ![2176, 2048]⟩
abbrev S1024x8x256 : Shape := ⟨3, ![1024, 8, 256]⟩
abbrev S1024x2048 : Shape := ⟨2, ![1024, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S8x1024x256, .bf16⟩
  | .hbm, ⟨3, _⟩ => ⟨S8x1024x256, .bf16⟩
  | .hbm, ⟨4, _⟩ => ⟨S2176x7168, .f32⟩
  | .hbm, ⟨5, _⟩ => ⟨S2176x2048, .f32⟩
  | .hbm, ⟨6, _⟩ => ⟨S2176x2048, .f32⟩
  | .hbm, ⟨7, _⟩ => ⟨S2176x1024, .f32⟩
  | .hbm, ⟨8, _⟩ => ⟨S1024x8x256, .bf16⟩
  | .hbm, ⟨9, _⟩ => ⟨S1024x2048, .bf16⟩
  | .hbm, ⟨10, _⟩ => ⟨S1024x2048, .f32⟩
  | .hbm, ⟨11, _⟩ => ⟨S2176x2048, .f32⟩
  | .hbm, ⟨12, _⟩ => ⟨S2176x1024, .f32⟩
  | .hbm, ⟨13, _⟩ => ⟨S1024x8x256, .bf16⟩
  | .hbm, ⟨14, _⟩ => ⟨S1024x2048, .bf16⟩
  | .hbm, ⟨15, _⟩ => ⟨S1024x2048, .f32⟩
  | .hbm, ⟨16, _⟩ => ⟨S2176x2048, .f32⟩
  | .hbm, ⟨17, _⟩ => ⟨S2176x2048, .f32⟩
  | .hbm, ⟨18, _⟩ => ⟨S2176x2048, .f32⟩
  | .hbm, ⟨19, _⟩ => ⟨S_, .f32⟩
  | .hbm, ⟨20, _⟩ => ⟨S2176x2048, .f32⟩
  | .hbm, ⟨21, _⟩ => ⟨S2176x2048, .f32⟩
  | .hbm, ⟨22, _⟩ => ⟨S_, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S2176x2048, .f32⟩
  | .hbm, ⟨27, _⟩ => ⟨S2176x2048, .f32⟩
  | .hbm, ⟨28, _⟩ => ⟨S_, .f32⟩
  | .hbm, ⟨29, _⟩ => ⟨S2176x2048, .f32⟩
  | .hbm, ⟨30, _⟩ => ⟨S2176x2048, .f32⟩
  | .hbm, ⟨31, _⟩ => ⟨S_, .f32⟩
  | .hbm, ⟨32, _⟩ => ⟨S2176x2048, .f32⟩
  | .hbm, ⟨33, _⟩ => ⟨S2176x2048, .f32⟩
  | .hbm, ⟨34, _⟩ => ⟨S2176x2048, .f32⟩
  | .hbm, ⟨35, _⟩ => ⟨S2176x2048, .f32⟩
  | .hbm, ⟨36, _⟩ => ⟨S2176x2048, .bf16⟩
  | .hbm, ⟨37, _⟩ => ⟨S2176x2048, .bf16⟩
  | .hbm, ⟨38, _⟩ => ⟨S2176x2048, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel16.lean ====
abbrev S_ : Shape := ⟨0, ![]⟩
abbrev S2176x8192 : Shape := ⟨2, ![2176, 8192]⟩
abbrev S8x1024x2048 : Shape := ⟨3, ![8, 1024, 2048]⟩
abbrev S1 : Shape := ⟨1, ![1]⟩
abbrev S6 : Shape := ⟨1, ![6]⟩
abbrev S2176x2048 : Shape := ⟨2, ![2176, 2048]⟩
abbrev S1088x1024 : Shape := ⟨2, ![1088, 1024]⟩
abbrev S1x1024x2048 : Shape := ⟨3, ![1, 1024, 2048]⟩
abbrev S1088x2048 : Shape := ⟨2, ![1088, 2048]⟩
abbrev S1024x2048 : Shape := ⟨2, ![1024, 2048]⟩

abbrev nBuf : Space → Nat
  | .hbm => 65
  | .vmem => 7
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x8192, .bf16⟩
  | .hbm, ⟨4, _⟩ => ⟨S8x1024x2048, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S1, .i32⟩
  | .hbm, ⟨61, _⟩ => ⟨S1, .i32⟩
  | .hbm, ⟨62, _⟩ => ⟨S1, .i32⟩
  | .hbm, ⟨63, _⟩ => ⟨S1, .i32⟩
  | .hbm, ⟨64, _⟩ => ⟨S2176x2048, .f32⟩
  | .local _ .vmem, ⟨0, _⟩ => ⟨S1088x1024, .bf16⟩
  | .local _ .vmem, ⟨1, _⟩ => ⟨S1088x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1088x2048, .f32⟩
  | .local _ .vmem, ⟨5, _⟩ => ⟨S1088x2048, .f32⟩
  | .local _ .vmem, ⟨6, _⟩ => ⟨S1088x2048, .f32⟩
  | .local _ .smem, ⟨0, _⟩ => ⟨S6, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_c_9 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_10 : Ref sig .tc := ⟨.hbm, 38, rfl⟩
abbrev main_v22 : Ref sig .tc := ⟨.hbm, 39, rfl⟩
abbrev main_c_11 : Ref sig .tc := ⟨.hbm, 40, rfl⟩
abbrev main_v23 : Ref sig .tc := ⟨.hbm, 41, rfl⟩
abbrev main_c_12 : Ref sig .tc := ⟨.hbm, 42, rfl⟩
abbrev main_v24 : Ref sig .tc := ⟨.hbm, 43, rfl⟩
abbrev main_c_13 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_14 : Ref sig .tc := ⟨.hbm, 48, rfl⟩
abbrev main_v28 : Ref sig .tc := ⟨.hbm, 49, rfl⟩
abbrev main_c_15 : Ref sig .tc := ⟨.hbm, 50, rfl⟩
abbrev main_v29 : Ref sig .tc := ⟨.hbm, 51, rfl⟩
abbrev main_c_16 : Ref sig .tc := ⟨.hbm, 52, rfl⟩
abbrev main_v30 : Ref sig .tc := ⟨.hbm, 53, rfl⟩
abbrev main_c_17 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v41 : Ref sig .tc := ⟨.hbm, 64, rfl⟩
abbrev main_v40 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

abbrev pre0 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S6) ![v0.toNat] S1.size (k0_off1_inb i)) numel1_S1
  let c0_i32 : BitVec 32 := 0#32
  ![arg0.toNat, v1.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S6) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S_ : Shape := ⟨0, ![]⟩
abbrev S2176x8192 : Shape := ⟨2, ![2176, 8192]⟩
abbrev S8x1024x2048 : Shape := ⟨3, ![8, 1024, 2048]⟩
abbrev S4 : Shape := ⟨1, ![4]⟩
abbrev S4x1 : Shape := ⟨2, ![4, 1]⟩
abbrev S4x2048 : Shape := ⟨2, ![4, 2048]⟩
abbrev S8192 : Shape := ⟨1, ![8192]⟩
abbrev S8192x2048 : Shape := ⟨2, ![8192, 2048]⟩
abbrev S2176x2048 : Shape := ⟨2, ![2176, 2048]⟩

abbrev nBuf : Space → Nat
  | .hbm => 27
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x8192, .bf16⟩
  | .hbm, ⟨4, _⟩ => ⟨S8x1024x2048, .bf16⟩
  | .hbm, ⟨5, _⟩ => ⟨S_, .i1⟩
  | .hbm, ⟨6, _⟩ => ⟨S_, .i1⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S4x1, .i1⟩
  | .hbm, ⟨16, _⟩ => ⟨S4x2048, .i1⟩
  | .hbm, ⟨17, _⟩ => ⟨S8192, .i1⟩
  | .hbm, ⟨18, _⟩ => ⟨S2176x8192, .f32⟩
  | .hbm, ⟨19, _⟩ => ⟨S_, .f32⟩
  | .hbm, ⟨20, _⟩ => ⟨S_, .f32⟩
  | .hbm, ⟨21, _⟩ => ⟨S2176x8192, .i1⟩
  | .hbm, ⟨22, _⟩ => ⟨S2176x8192, .f32⟩
  | .hbm, ⟨23, _⟩ => ⟨S2176x8192, .f32⟩
  | .hbm, ⟨24, _⟩ => ⟨S8192x2048, .bf16⟩
  | .hbm, ⟨25, _⟩ => ⟨S8192x2048, .f32⟩
  | .hbm, ⟨26, _⟩ => ⟨S2176x2048, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel17.lean ====
abbrev S_ : Shape := ⟨0, ![]⟩
abbrev S2176x8192 : Shape := ⟨2, ![2176, 8192]⟩
abbrev S8x1024x2048 : Shape := ⟨3, ![8, 1024, 2048]⟩
abbrev S2176x2048 : Shape := ⟨2, ![2176, 2048]⟩
abbrev S1 : Shape := ⟨1, ![1]⟩
abbrev S2 : Shape := ⟨1, ![2]⟩
abbrev S544x1024 : Shape := ⟨2, ![544, 1024]⟩
abbrev S1x1024x2048 : Shape := ⟨3, ![1, 1024, 2048]⟩
abbrev S544x2048 : Shape := ⟨2, ![544, 2048]⟩
abbrev S1024x2048 : Shape := ⟨2, ![1024, 2048]⟩

abbrev nBuf : Space → Nat
  | .hbm => 34
  | .vmem => 9
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x8192, .bf16⟩
  | .hbm, ⟨4, _⟩ => ⟨S8x1024x2048, .bf16⟩
  | .hbm, ⟨5, _⟩ => ⟨S2176x2048, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S2176x2048, .f32⟩
  | .local _ .vmem, ⟨0, _⟩ => ⟨S544x1024, .bf16⟩
  | .local _ .vmem, ⟨1, _⟩ => ⟨S544x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S544x2048, .f32⟩
  | .local _ .vmem, ⟨5, _⟩ => ⟨S544x2048, .f32⟩
  | .local _ .vmem, ⟨6, _⟩ => ⟨S544x2048, .f32⟩
  | .local _ .vmem, ⟨7, _⟩ => ⟨S544x2048, .f32⟩
  | .local _ .vmem, ⟨8, _⟩ => ⟨S544x2048, .f32⟩
  | .local _ .smem, ⟨0, _⟩ => ⟨S2, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_c_7 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v19 : Ref sig .tc := ⟨.hbm, 33, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S2) ![v0.toNat] S1.size (k0_off1_inb i)) numel1_S1
  let c0_i32 : BitVec 32 := 0#32
  ![arg0.toNat, v1.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S2) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S_ : Shape := ⟨0, ![]⟩
abbrev S2176x8192 : Shape := ⟨2, ![2176, 8192]⟩
abbrev S8x1024x2048 : Shape := ⟨3, ![8, 1024, 2048]⟩
abbrev S2176x2048 : Shape := ⟨2, ![2176, 2048]⟩
abbrev S4 : Shape := ⟨1, ![4]⟩
abbrev S4x1 : Shape := ⟨2, ![4, 1]⟩
abbrev S4x2048 : Shape := ⟨2, ![4, 2048]⟩
abbrev S8192 : Shape := ⟨1, ![8192]⟩
abbrev S8192x2048 : Shape := ⟨2, ![8192, 2048]⟩

abbrev nBuf : Space → Nat
  | .hbm => 29
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x8192, .bf16⟩
  | .hbm, ⟨4, _⟩ => ⟨S8x1024x2048, .bf16⟩
  | .hbm, ⟨5, _⟩ => ⟨S2176x2048, .f32⟩
  | .hbm, ⟨6, _⟩ => ⟨S_, .i1⟩
  | .hbm, ⟨7, _⟩ => ⟨S_, .i1⟩
  | .hbm, ⟨8, _⟩ => ⟨S4, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S4x1, .i1⟩
  | .hbm, ⟨17, _⟩ => ⟨S4x2048, .i1⟩
  | .hbm, ⟨18, _⟩ => ⟨S8192, .i1⟩
  | .hbm, ⟨19, _⟩ => ⟨S2176x8192, .f32⟩
  | .hbm, ⟨20, _⟩ => ⟨S_, .f32⟩
  | .hbm, ⟨21, _⟩ => ⟨S_, .f32⟩
  | .hbm, ⟨22, _⟩ => ⟨S2176x8192, .i1⟩
  | .hbm, ⟨23, _⟩ => ⟨S2176x8192, .f32⟩
  | .hbm, ⟨24, _⟩ => ⟨S2176x8192, .f32⟩
  | .hbm, ⟨25, _⟩ => ⟨S8192x2048, .bf16⟩
  | .hbm, ⟨26, _⟩ => ⟨S8192x2048, .f32⟩
  | .hbm, ⟨27, _⟩ => ⟨S2176x2048, .f32⟩
  | .hbm, ⟨28, _⟩ => ⟨S2176x2048, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel18.lean ====
abbrev S_ : Shape := ⟨0, ![]⟩
abbrev S2176x2048 : Shape := ⟨2, ![2176, 2048]⟩
abbrev S8x2048x1024 : Shape := ⟨3, ![8, 2048, 1024]⟩
abbrev S2176x8192 : Shape := ⟨2, ![2176, 8192]⟩
abbrev S1 : Shape := ⟨1, ![1]⟩
abbrev S2 : Shape := ⟨1, ![2]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 34
  | .vmem => 6
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x1024, .bf16⟩
  | .hbm, ⟨5, _⟩ => ⟨S2176x8192, .bf16⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S2176x8192, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1088x1024, .bf16⟩
  | .local _ .vmem, ⟨5, _⟩ => ⟨S1088x1024, .bf16⟩
  | .local _ .smem, ⟨0, _⟩ => ⟨S2, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_c_7 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v19 : Ref sig .tc := ⟨.hbm, 33, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  ![arg0.toNat, v1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S_ : Shape := ⟨0, ![]⟩
abbrev S2176x2048 : Shape := ⟨2, ![2176, 2048]⟩
abbrev S8x2048x1024 : Shape := ⟨3, ![8, 2048, 1024]⟩
abbrev S2176x8192 : Shape := ⟨2, ![2176, 8192]⟩
abbrev S4 : Shape := ⟨1, ![4]⟩
abbrev S4x1 : Shape := ⟨2, ![4, 1]⟩
abbrev S4x2048 : Shape := ⟨2, ![4, 2048]⟩
abbrev S8192 : Shape := ⟨1, ![8192]⟩
abbrev S2048x8x1024 : Shape := ⟨3, ![2048, 8, 1024]⟩
abbrev S2048x8192 : Shape := ⟨2, ![2048, 8192]⟩

abbrev nBuf : Space → Nat
  | .hbm => 31
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x1024, .bf16⟩
  | .hbm, ⟨5, _⟩ => ⟨S2176x8192, .bf16⟩
  | .hbm, ⟨6, _⟩ => ⟨S_, .i1⟩
  | .hbm, ⟨7, _⟩ => ⟨S_, .i1⟩
  | .hbm, ⟨8, _⟩ => ⟨S4, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S4x1, .i1⟩
  | .hbm, ⟨17, _⟩ => ⟨S4x2048, .i1⟩
  | .hbm, ⟨18, _⟩ => ⟨S8192, .i1⟩
  | .hbm, ⟨19, _⟩ => ⟨S2176x2048, .f32⟩
  | .hbm, ⟨20, _⟩ => ⟨S2048x8x1024, .bf16⟩
  | .hbm, ⟨21, _⟩ => ⟨S2048x8192, .bf16⟩
  | .hbm, ⟨22, _⟩ => ⟨S2048x8192, .f32⟩
  | .hbm, ⟨23, _⟩ => ⟨S2176x8192, .f32⟩
  | .hbm, ⟨24, _⟩ => ⟨S_, .f32⟩
  | .hbm, ⟨25, _⟩ => ⟨S2176x8192, .f32⟩
  | .hbm, ⟨26, _⟩ => ⟨S2176x8192, .f32⟩
  | .hbm, ⟨27, _⟩ => ⟨S2176x8192, .f32⟩
  | .hbm, ⟨28, _⟩ => ⟨S2176x8192, .bf16⟩
  | .hbm, ⟨29, _⟩ => ⟨S2176x8192, .i1⟩
  | .hbm, ⟨30, _⟩ => ⟨S2176x8192, .bf16⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_v0 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel19.lean ====
abbrev S_ : Shape := ⟨0, ![]⟩
abbrev S2176x2048 : Shape := ⟨2, ![2176, 2048]⟩
abbrev S8x2048x1024 : Shape := ⟨3, ![8, 2048, 1024]⟩
abbrev S1 : Shape := ⟨1, ![1]⟩
abbrev S6 : Shape := ⟨1, ![6]⟩
abbrev S2176x8192 : Shape := ⟨2, ![2176, 8192]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩
abbrev S4 : Shape := ⟨1, ![4]⟩
abbrev S4x1 : Shape := ⟨2, ![4, 1]⟩
abbrev S4x2048 : Shape := ⟨2, ![4, 2048]⟩
abbrev S8192 : Shape := ⟨1, ![8192]⟩

abbrev nBuf : Space → Nat
  | .hbm => 82
  | .vmem => 6
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S1, .i32⟩
  | .hbm, ⟨61, _⟩ => ⟨S1, .i32⟩
  | .hbm, ⟨62, _⟩ => ⟨S1, .i32⟩
  | .hbm, ⟨63, _⟩ => ⟨S1, .i32⟩
  | .hbm, ⟨64, _⟩ => ⟨S2176x8192, .bf16⟩
  | .hbm, ⟨65, _⟩ => ⟨S_, .i1⟩
  | .hbm, ⟨66, _⟩ => ⟨S_, .i1⟩
  | .hbm, ⟨67, _⟩ => ⟨S4, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S4, .i32⟩
  | .hbm, ⟨74, _⟩ => ⟨S4, .i1⟩
  | .hbm, ⟨75, _⟩ => ⟨S4x1, .i1⟩
  | .hbm, ⟨76, _⟩ => ⟨S4x2048, .i1⟩
  | .hbm, ⟨77, _⟩ => ⟨S8192, .i1⟩
  | .hbm, ⟨78, _⟩ => ⟨S_, .bf16⟩
  | .hbm, ⟨79, _⟩ => ⟨S2176x8192, .i1⟩
  | .hbm, ⟨80, _⟩ => ⟨S2176x8192, .bf16⟩
  | .hbm, ⟨81, _⟩ => ⟨S2176x8192, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1088x1024, .bf16⟩
  | .local _ .vmem, ⟨5, _⟩ => ⟨S1088x1024, .bf16⟩
  | .local _ .smem, ⟨0, _⟩ => ⟨S6, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_c_9 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_10 : Ref sig .tc := ⟨.hbm, 38, rfl⟩
abbrev main_v22 : Ref sig .tc := ⟨.hbm, 39, rfl⟩
abbrev main_c_11 : Ref sig .tc := ⟨.hbm, 40, rfl⟩
abbrev main_v23 : Ref sig .tc := ⟨.hbm, 41, rfl⟩
abbrev main_c_12 : Ref sig .tc := ⟨.hbm, 42, rfl⟩
abbrev main_v24 : Ref sig .tc := ⟨.hbm, 43, rfl⟩
abbrev main_c_13 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_14 : Ref sig .tc := ⟨.hbm, 48, rfl⟩
abbrev main_v28 : Ref sig .tc := ⟨.hbm, 49, rfl⟩
abbrev main_c_15 : Ref sig .tc := ⟨.hbm, 50, rfl⟩
abbrev main_v29 : Ref sig .tc := ⟨.hbm, 51, rfl⟩
abbrev main_c_16 : Ref sig .tc := ⟨.hbm, 52, rfl⟩
abbrev main_v30 : Ref sig .tc := ⟨.hbm, 53, rfl⟩
abbrev main_c_17 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_18 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst : Ref sig .tc := ⟨.hbm, 78, rfl⟩
abbrev main_call0_v0 : Ref sig .tc := ⟨.hbm, 79, rfl⟩
abbrev main_call0_v1 : Ref sig .tc := ⟨.hbm, 80, rfl⟩
abbrev main_v54 : Ref sig .tc := ⟨.hbm, 81, rfl⟩
abbrev main_v40 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

abbrev pre0 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  ![arg0.toNat, v1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S_ : Shape := ⟨0, ![]⟩
abbrev S2176x2048 : Shape := ⟨2, ![2176, 2048]⟩
abbrev S8x2048x1024 : Shape := ⟨3, ![8, 2048, 1024]⟩
abbrev S4 : Shape := ⟨1, ![4]⟩
abbrev S4x1 : Shape := ⟨2, ![4, 1]⟩
abbrev S4x2048 : Shape := ⟨2, ![4, 2048]⟩
abbrev S8192 : Shape := ⟨1, ![8192]⟩
abbrev S2048x8x1024 : Shape := ⟨3, ![2048, 8, 1024]⟩
abbrev S2048x8192 : Shape := ⟨2, ![2048, 8192]⟩
abbrev S2176x8192 : Shape := ⟨2, ![2176, 8192]⟩

abbrev nBuf : Space → Nat
  | .hbm => 32
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x1024, .bf16⟩
  | .hbm, ⟨5, _⟩ => ⟨S_, .i1⟩
  | .hbm, ⟨6, _⟩ => ⟨S_, .i1⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S4x1, .i1⟩
  | .hbm, ⟨16, _⟩ => ⟨S4x2048, .i1⟩
  | .hbm, ⟨17, _⟩ => ⟨S8192, .i1⟩
  | .hbm, ⟨18, _⟩ => ⟨S2176x2048, .f32⟩
  | .hbm, ⟨19, _⟩ => ⟨S2048x8x1024, .bf16⟩
  | .hbm, ⟨20, _⟩ => ⟨S2048x8192, .bf16⟩
  | .hbm, ⟨21, _⟩ => ⟨S2048x8192, .f32⟩
  | .hbm, ⟨22, _⟩ => ⟨S2176x8192, .f32⟩
  | .hbm, ⟨23, _⟩ => ⟨S_, .f32⟩
  | .hbm, ⟨24, _⟩ => ⟨S2176x8192, .f32⟩
  | .hbm, ⟨25, _⟩ => ⟨S2176x8192, .f32⟩
  | .hbm, ⟨26, _⟩ => ⟨S2176x8192, .f32⟩
  | .hbm, ⟨27, _⟩ => ⟨S2176x8192, .bf16⟩
  | .hbm, ⟨28, _⟩ => ⟨S_, .bf16⟩
  | .hbm, ⟨29, _⟩ => ⟨S2176x8192, .i1⟩
  | .hbm, ⟨30, _⟩ => ⟨S2176x8192, .bf16⟩
  | .hbm, ⟨31, _⟩ => ⟨S2176x8192, .bf16⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel20.lean ====
abbrev S_ : Shape := ⟨0, ![]⟩
abbrev S2176x2048 : Shape := ⟨2, ![2176, 2048]⟩
abbrev S8x2048x896 : Shape := ⟨3, ![8, 2048, 896]⟩
abbrev S1 : Shape := ⟨1, ![1]⟩
abbrev S6 : Shape := ⟨1, ![6]⟩
abbrev S2 : Shape := ⟨1, ![2]⟩
abbrev S2176x7168 : Shape := ⟨2, ![2176, 7168]⟩
abbrev S1088x2048 : Shape := ⟨2, ![1088, 2048]⟩
abbrev S1x2048x896 : Shape := ⟨3, ![1, 2048, 896]⟩
abbrev S1088x896 : Shape := ⟨2, ![1088, 896]⟩
abbrev S2048x896 : Shape := ⟨2, ![2048, 896]⟩
abbrev S4 : Shape := ⟨1, ![4]⟩
abbrev S4x1 : Shape := ⟨2, ![4, 1]⟩
abbrev S4x1792 : Shape := ⟨2, ![4, 1792]⟩
abbrev S7168 : Shape := ⟨1, ![7168]⟩

abbrev nBuf : Space → Nat
  | .hbm => 82
  | .vmem => 6
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x896, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S1, .i32⟩
  | .hbm, ⟨61, _⟩ => ⟨S1, .i32⟩
  | .hbm, ⟨62, _⟩ => ⟨S1, .i32⟩
  | .hbm, ⟨63, _⟩ => ⟨S1, .i32⟩
  | .hbm, ⟨64, _⟩ => ⟨S6, .i32⟩
  | .hbm, ⟨65, _⟩ => ⟨S2176x7168, .f32⟩
  | .hbm, ⟨66, _⟩ => ⟨S4, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S4, .i32⟩
  | .hbm, ⟨73, _⟩ => ⟨S4, .i1⟩
  | .hbm, ⟨74, _⟩ => ⟨S4x1, .i1⟩
  | .hbm, ⟨75, _⟩ => ⟨S4x1792, .i1⟩
  | .hbm, ⟨76, _⟩ => ⟨S7168, .i1⟩
  | .hbm, ⟨77, _⟩ => ⟨S_, .f32⟩
  | .hbm, ⟨78, _⟩ => ⟨S_, .f32⟩
  | .hbm, ⟨79, _⟩ => ⟨S2176x7168, .i1⟩
  | .hbm, ⟨80, _⟩ => ⟨S2176x7168, .f32⟩
  | .hbm, ⟨81, _⟩ => ⟨S2176x7168, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1088x896, .f32⟩
  | .local _ .vmem, ⟨5, _⟩ => ⟨S1088x896, .f32⟩
  | .local _ .smem, ⟨0, _⟩ => ⟨S2, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_c_9 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_10 : Ref sig .tc := ⟨.hbm, 38, rfl⟩
abbrev main_v22 : Ref sig .tc := ⟨.hbm, 39, rfl⟩
abbrev main_c_11 : Ref sig .tc := ⟨.hbm, 40, rfl⟩
abbrev main_v23 : Ref sig .tc := ⟨.hbm, 41, rfl⟩
abbrev main_c_12 : Ref sig .tc := ⟨.hbm, 42, rfl⟩
abbrev main_v24 : Ref sig .tc := ⟨.hbm, 43, rfl⟩
abbrev main_c_13 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_14 : Ref sig .tc := ⟨.hbm, 48, rfl⟩
abbrev main_v28 : Ref sig .tc := ⟨.hbm, 49, rfl⟩
abbrev main_c_15 : Ref sig .tc := ⟨.hbm, 50, rfl⟩
abbrev main_v29 : Ref sig .tc := ⟨.hbm, 51, rfl⟩
abbrev main_c_16 : Ref sig .tc := ⟨.hbm, 52, rfl⟩
abbrev main_v30 : Ref sig .tc := ⟨.hbm, 53, rfl⟩
abbrev main_c_17 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_18 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v53 : Ref sig .tc := ⟨.hbm, 81, rfl⟩
abbrev main_v41 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  ![arg0.toNat, v1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S_ : Shape := ⟨0, ![]⟩
abbrev S2176x2048 : Shape := ⟨2, ![2176, 2048]⟩
abbrev S8x2048x896 : Shape := ⟨3, ![8, 2048, 896]⟩
abbrev S4 : Shape := ⟨1, ![4]⟩
abbrev S4x1 : Shape := ⟨2, ![4, 1]⟩
abbrev S4x1792 : Shape := ⟨2, ![4, 1792]⟩
abbrev S7168 : Shape := ⟨1, ![7168]⟩
abbrev S2048x8x896 : Shape := ⟨3, ![2048, 8, 896]⟩
abbrev S2048x7168 : Shape := ⟨2, ![2048, 7168]⟩
abbrev S2176x7168 : Shape := ⟨2, ![2176, 7168]⟩

abbrev nBuf : Space → Nat
  | .hbm => 26
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x896, .bf16⟩
  | .hbm, ⟨5, _⟩ => ⟨S4, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S4x1, .i1⟩
  | .hbm, ⟨14, _⟩ => ⟨S4x1792, .i1⟩
  | .hbm, ⟨15, _⟩ => ⟨S7168, .i1⟩
  | .hbm, ⟨16, _⟩ => ⟨S2176x2048, .f32⟩
  | .hbm, ⟨17, _⟩ => ⟨S2048x8x896, .bf16⟩
  | .hbm, ⟨18, _⟩ => ⟨S2048x7168, .bf16⟩
  | .hbm, ⟨19, _⟩ => ⟨S2048x7168, .f32⟩
  | .hbm, ⟨20, _⟩ => ⟨S2176x7168, .f32⟩
  | .hbm, ⟨21, _⟩ => ⟨S_, .f32⟩
  | .hbm, ⟨22, _⟩ => ⟨S_, .f32⟩
  | .hbm, ⟨23, _⟩ => ⟨S2176x7168, .i1⟩
  | .hbm, ⟨24, _⟩ => ⟨S2176x7168, .f32⟩
  | .hbm, ⟨25, _⟩ => ⟨S2176x7168, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel21.lean ====
abbrev S_ : Shape := ⟨0, ![]⟩
abbrev S2176x2048 : Shape := ⟨2, ![2176, 2048]⟩
abbrev S8x2048x896 : Shape := ⟨3, ![8, 2048, 896]⟩
abbrev S2176x7168 : Shape := ⟨2, ![2176, 7168]⟩
abbrev S1 : Shape := ⟨1, ![1]⟩
abbrev S2 : Shape := ⟨1, ![2]⟩
abbrev S1088x2048 : Shape := ⟨2, ![1088, 2048]⟩
abbrev S1x2048x896 : Shape := ⟨3, ![1, 2048, 896]⟩
abbrev S1088x896 : Shape := ⟨2, ![1088, 896]⟩
abbrev S2048x896 : Shape := ⟨2, ![2048, 896]⟩

abbrev nBuf : Space → Nat
  | .hbm => 34
  | .vmem => 6
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x896, .bf16⟩
  | .hbm, ⟨5, _⟩ => ⟨S2176x7168, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S2176x7168, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1088x896, .f32⟩
  | .local _ .vmem, ⟨5, _⟩ => ⟨S1088x896, .f32⟩
  | .local _ .smem, ⟨0, _⟩ => ⟨S2, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_c_7 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v19 : Ref sig .tc := ⟨.hbm, 33, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c0_i32 : BitVec 32 := 0#32
  ![arg0.toNat, v1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S_ : Shape := ⟨0, ![]⟩
abbrev S2176x2048 : Shape := ⟨2, ![2176, 2048]⟩
abbrev S8x2048x896 : Shape := ⟨3, ![8, 2048, 896]⟩
abbrev S2176x7168 : Shape := ⟨2, ![2176, 7168]⟩
abbrev S4 : Shape := ⟨1, ![4]⟩
abbrev S4x1 : Shape := ⟨2, ![4, 1]⟩
abbrev S4x1792 : Shape := ⟨2, ![4, 1792]⟩
abbrev S7168 : Shape := ⟨1, ![7168]⟩
abbrev S2048x8x896 : Shape := ⟨3, ![2048, 8, 896]⟩
abbrev S2048x7168 : Shape := ⟨2, ![2048, 7168]⟩

abbrev nBuf : Space → Nat
  | .hbm => 26
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x896, .bf16⟩
  | .hbm, ⟨5, _⟩ => ⟨S2176x7168, .f32⟩
  | .hbm, ⟨6, _⟩ => ⟨S_, .i1⟩
  | .hbm, ⟨7, _⟩ => ⟨S_, .i1⟩
  | .hbm, ⟨8, _⟩ => ⟨S4, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S4x1, .i1⟩
  | .hbm, ⟨17, _⟩ => ⟨S4x1792, .i1⟩
  | .hbm, ⟨18, _⟩ => ⟨S7168, .i1⟩
  | .hbm, ⟨19, _⟩ => ⟨S2176x2048, .f32⟩
  | .hbm, ⟨20, _⟩ => ⟨S2048x8x896, .bf16⟩
  | .hbm, ⟨21, _⟩ => ⟨S2048x7168, .bf16⟩
  | .hbm, ⟨22, _⟩ => ⟨S2048x7168, .f32⟩
  | .hbm, ⟨23, _⟩ => ⟨S2176x7168, .f32⟩
  | .hbm, ⟨24, _⟩ => ⟨S2176x7168, .i1⟩
  | .hbm, ⟨25, _⟩ => ⟨S2176x7168, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel22.lean ====
abbrev S_ : Shape := ⟨0, ![]⟩
abbrev S2176x2048 : Shape := ⟨2, ![2176, 2048]⟩
abbrev S8x2048x896 : Shape := ⟨3, ![8, 2048, 896]⟩
abbrev S2176x7168 : Shape := ⟨2, ![2176, 7168]⟩
abbrev S1 : Shape := ⟨1, ![1]⟩
abbrev S6 : Shape := ⟨1, ![6]⟩
abbrev S4 : Shape := ⟨1, ![4]⟩
abbrev S1088x2048 : Shape := ⟨2, ![1088, 2048]⟩
abbrev S1x2048x896 : Shape := ⟨3, ![1, 2048, 896]⟩
abbrev S1088x896 : Shape := ⟨2, ![1088, 896]⟩
abbrev S2048x896 : Shape := ⟨2, ![2048, 896]⟩

abbrev nBuf : Space → Nat
  | .hbm => 67
  | .vmem => 6
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x896, .bf16⟩
  | .hbm, ⟨5, _⟩ => ⟨S2176x7168, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1, .i32⟩
  | .hbm, ⟨60, _⟩ => ⟨S1, .i32⟩
  | .hbm, ⟨61, _⟩ => ⟨S1, .i32⟩
  | .hbm, ⟨62, _⟩ => ⟨S1, .i32⟩
  | .hbm, ⟨63, _⟩ => ⟨S1, .i32⟩
  | .hbm, ⟨64, _⟩ => ⟨S1, .i32⟩
  | .hbm, ⟨65, _⟩ => ⟨S6, .i32⟩
  | .hbm, ⟨66, _⟩ => ⟨S2176x7168, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1088x896, .f32⟩
  | .local _ .vmem, ⟨5, _⟩ => ⟨S1088x896, .f32⟩
  | .local _ .smem, ⟨0, _⟩ => ⟨S4, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_c_8 : Ref sig .tc := ⟨.hbm, 33, rfl⟩
abbrev main_v18 : Ref sig .tc := ⟨.hbm, 34, rfl⟩
abbrev main_c_9 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_10 : Ref sig .tc := ⟨.hbm, 39, rfl⟩
abbrev main_v22 : Ref sig .tc := ⟨.hbm, 40, rfl⟩
abbrev main_c_11 : Ref sig .tc := ⟨.hbm, 41, rfl⟩
abbrev main_v23 : Ref sig .tc := ⟨.hbm, 42, rfl⟩
abbrev main_c_12 : Ref sig .tc := ⟨.hbm, 43, rfl⟩
abbrev main_v24 : Ref sig .tc := ⟨.hbm, 44, rfl⟩
abbrev main_c_13 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_14 : Ref sig .tc := ⟨.hbm, 49, rfl⟩
abbrev main_v28 : Ref sig .tc := ⟨.hbm, 50, rfl⟩
abbrev main_c_15 : Ref sig .tc := ⟨.hbm, 51, rfl⟩
abbrev main_v29 : Ref sig .tc := ⟨.hbm, 52, rfl⟩
abbrev main_c_16 : Ref sig .tc := ⟨.hbm, 53, rfl⟩
abbrev main_v30 : Ref sig .tc := ⟨.hbm, 54, rfl⟩
abbrev main_c_17 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v42 : Ref sig .tc := ⟨.hbm, 66, rfl⟩
abbrev main_v41 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  ![arg0.toNat, v1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S_ : Shape := ⟨0, ![]⟩
abbrev S2176x2048 : Shape := ⟨2, ![2176, 2048]⟩
abbrev S8x2048x896 : Shape := ⟨3, ![8, 2048, 896]⟩
abbrev S2176x7168 : Shape := ⟨2, ![2176, 7168]⟩
abbrev S4 : Shape := ⟨1, ![4]⟩
abbrev S4x1 : Shape := ⟨2, ![4, 1]⟩
abbrev S4x1792 : Shape := ⟨2, ![4, 1792]⟩
abbrev S7168 : Shape := ⟨1, ![7168]⟩
abbrev S2048x8x896 : Shape := ⟨3, ![2048, 8, 896]⟩
abbrev S2048x7168 : Shape := ⟨2, ![2048, 7168]⟩

abbrev nBuf : Space → Nat
  | .hbm => 38
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2176x2048, .bf16⟩
  | .hbm, ⟨4, _⟩ => ⟨S8x2048x896, .bf16⟩
  | .hbm, ⟨5, _⟩ => ⟨S2176x7168, .f32⟩
  | .hbm, ⟨6, _⟩ => ⟨S_, .i1⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S4x1, .i1⟩
  | .hbm, ⟨16, _⟩ => ⟨S4x1792, .i1⟩
  | .hbm, ⟨17, _⟩ => ⟨S7168, .i1⟩
  | .hbm, ⟨18, _⟩ => ⟨S_, .i1⟩
  | .hbm, ⟨19, _⟩ => ⟨S4, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S4x1, .i1⟩
  | .hbm, ⟨28, _⟩ => ⟨S4x1792, .i1⟩
  | .hbm, ⟨29, _⟩ => ⟨S7168, .i1⟩
  | .hbm, ⟨30, _⟩ => ⟨S7168, .i1⟩
  | .hbm, ⟨31, _⟩ => ⟨S2176x2048, .f32⟩
  | .hbm, ⟨32, _⟩ => ⟨S2048x8x896, .bf16⟩
  | .hbm, ⟨33, _⟩ => ⟨S2048x7168, .bf16⟩
  | .hbm, ⟨34, _⟩ => ⟨S2048x7168, .f32⟩
  | .hbm, ⟨35, _⟩ => ⟨S2176x7168, .f32⟩
  | .hbm, ⟨36, _⟩ => ⟨S2176x7168, .i1⟩
  | .hbm, ⟨37, _⟩ => ⟨S2176x7168, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel23.lean ====
abbrev S_ : Shape := ⟨0, ![]⟩
abbrev S2048x1024 : Shape := ⟨2, ![2048, 1024]⟩
abbrev S4x2x2048x1024 : Shape := ⟨4, ![4, 2, 2048, 1024]⟩
abbrev S4x2048x1024 : Shape := ⟨3, ![4, 2048, 1024]⟩
abbrev S3x2048x1024 : Shape := ⟨3, ![3, 2048, 1024]⟩
abbrev S1 : Shape := ⟨1, ![1]⟩
abbrev S5 : Shape := ⟨1, ![5]⟩
abbrev S256x1024 : Shape := ⟨2, ![256, 1024]⟩
abbrev S1x1x256x1024 : Shape := ⟨4, ![1, 1, 256, 1024]⟩
abbrev S1x256x1024 : Shape := ⟨3, ![1, 256, 1024]⟩
abbrev S3x256x1024 : Shape := ⟨3, ![3, 256, 1024]⟩

abbrev nBuf : Space → Nat
  | .hbm => 41
  | .vmem => 20
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S4x2x2048x1024, .bf16⟩
  | .hbm, ⟨7, _⟩ => ⟨S4x2048x1024, .bf16⟩
  | .hbm, ⟨8, _⟩ => ⟨S3x2048x1024, .bf16⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .i32⟩
  | .hbm, ⟨35, _⟩ => ⟨S1, .i32⟩
  | .hbm, ⟨36, _⟩ => ⟨S1, .i32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1x256x1024, .bf16⟩
  | .local _ .vmem, ⟨7, _⟩ => ⟨S1x1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S3x256x1024, .bf16⟩
  | .local _ .vmem, ⟨11, _⟩ => ⟨S3x256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .smem, ⟨0, _⟩ => ⟨S5, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_1 : ∀ a, (![1] : Fin 1 → Nat) a + S1.size a ≤ S5.size a) (numel1_S1 : S1.numel = 1) (inb_S5_S1_0 : ∀ a, (![0] : Fin 1 → Nat) a + S1.size a ≤ S5.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S5) ![1] S1.size inb_S5_S1_1) numel1_S1
  let c0 : Index := 0#32
  let v1 : BitVec 32 := pf.at 0 (Rect.unit (s := S5) ![0] S1.size inb_S5_S1_0) numel1_S1
  let c0_i32 : BitVec 32 := 0#32
  let c0_i32_0 : BitVec 32 := 0#32
  ![v0.toNat, v1.toNat, arg0.toNat, c0_i32.toNat]

def cc0_transform_4 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference23Ideal.lean ====
abbrev S_ : Shape := ⟨0, ![]⟩
abbrev S2048x1024 : Shape := ⟨2, ![2048, 1024]⟩
abbrev S4x2x2048x1024 : Shape := ⟨4, ![4, 2, 2048, 1024]⟩
abbrev S4x2048x1024 : Shape := ⟨3, ![4, 2048, 1024]⟩
abbrev S3x2048x1024 : Shape := ⟨3, ![3, 2048, 1024]⟩
abbrev S1x2x2048x1024 : Shape := ⟨4, ![1, 2, 2048, 1024]⟩
abbrev S2x2048x1024 : Shape := ⟨3, ![2, 2048, 1024]⟩
abbrev S1x2048x1024 : Shape := ⟨3, ![1, 2048, 1024]⟩

abbrev nBuf : Space → Nat
  | .hbm => 76
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S4x2x2048x1024, .bf16⟩
  | .hbm, ⟨7, _⟩ => ⟨S4x2048x1024, .bf16⟩
  | .hbm, ⟨8, _⟩ => ⟨S3x2048x1024, .bf16⟩
  | .hbm, ⟨9, _⟩ => ⟨S1x2x2048x1024, .bf16⟩
  | .hbm, ⟨10, _⟩ => ⟨S2x2048x1024, .bf16⟩
  | .hbm, ⟨11, _⟩ => ⟨S1x2x2048x1024, .bf16⟩
  | .hbm, ⟨12, _⟩ => ⟨S2x2048x1024, .bf16⟩
  | .hbm, ⟨13, _⟩ => ⟨S2x2048x1024, .bf16⟩
  | .hbm, ⟨14, _⟩ => ⟨S1x2x2048x1024, .bf16⟩
  | .hbm, ⟨15, _⟩ => ⟨S2x2048x1024, .bf16⟩
  | .hbm, ⟨16, _⟩ => ⟨S1x2x2048x1024, .bf16⟩
  | .hbm, ⟨17, _⟩ => ⟨S2x2048x1024, .bf16⟩
  | .hbm, ⟨18, _⟩ => ⟨S2x2048x1024, .bf16⟩
  | .hbm, ⟨19, _⟩ => ⟨S2x2048x1024, .bf16⟩
  | .hbm, ⟨20, _⟩ => ⟨S1x2048x1024, .bf16⟩
  | .hbm, ⟨21, _⟩ => ⟨S2048x1024, .bf16⟩
  | .hbm, ⟨22, _⟩ => ⟨S1x2048x1024, .bf16⟩
  | .hbm, ⟨23, _⟩ => ⟨S2048x1024, .bf16⟩
  | .hbm, ⟨24, _⟩ => ⟨S2048x1024, .bf16⟩
  | .hbm, ⟨25, _⟩ => ⟨S2048x1024, .f32⟩
  | .hbm, ⟨26, _⟩ => ⟨S1x2048x1024, .bf16⟩
  | .hbm, ⟨27, _⟩ => ⟨S2048x1024, .bf16⟩
  | .hbm, ⟨28, _⟩ => ⟨S1x2048x1024, .bf16⟩
  | .hbm, ⟨29, _⟩ => ⟨S2048x1024, .bf16⟩
  | .hbm, ⟨30, _⟩ => ⟨S2048x1024, .bf16⟩
  | .hbm, ⟨31, _⟩ => ⟨S1x2048x1024, .bf16⟩
  | .hbm, ⟨32, _⟩ => ⟨S2048x1024, .bf16⟩
  | .hbm, ⟨33, _⟩ => ⟨S1x2048x1024, .bf16⟩
  | .hbm, ⟨34, _⟩ => ⟨S2048x1024, .bf16⟩
  | .hbm, ⟨35, _⟩ => ⟨S2048x1024, .bf16⟩
  | .hbm, ⟨36, _⟩ => ⟨S2048x1024, .bf16⟩
  | .hbm, ⟨37, _⟩ => ⟨S2048x1024, .f32⟩
  | .hbm, ⟨38, _⟩ => ⟨S2048x1024, .f32⟩
  | .hbm, ⟨39, _⟩ => ⟨S3x2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048x1024, .f32⟩
  | .hbm, ⟨75, _⟩ => ⟨S2048x1024, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel24.lean ====
abbrev S_ : Shape := ⟨0, ![]⟩
abbrev S1024x2048 : Shape := ⟨2, ![1024, 2048]⟩
abbrev S4x2x1024x2048 : Shape := ⟨4, ![4, 2, 1024, 2048]⟩
abbrev S4x1024x2048 : Shape := ⟨3, ![4, 1024, 2048]⟩
abbrev S3x1024x2048 : Shape := ⟨3, ![3, 1024, 2048]⟩
abbrev S1 : Shape := ⟨1, ![1]⟩
abbrev S5 : Shape := ⟨1, ![5]⟩
abbrev S128x2048 : Shape := ⟨2, ![128, 2048]⟩
abbrev S1x1x128x2048 : Shape := ⟨4, ![1, 1, 128, 2048]⟩
abbrev S1x128x2048 : Shape := ⟨3, ![1, 128, 2048]⟩
abbrev S3x128x2048 : Shape := ⟨3, ![3, 128, 2048]⟩

abbrev nBuf : Space → Nat
  | .hbm => 41
  | .vmem => 20
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S4x2x1024x2048, .bf16⟩
  | .hbm, ⟨7, _⟩ => ⟨S4x1024x2048, .bf16⟩
  | .hbm, ⟨8, _⟩ => ⟨S3x1024x2048, .bf16⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .i32⟩
  | .hbm, ⟨35, _⟩ => ⟨S1, .i32⟩
  | .hbm, ⟨36, _⟩ => ⟨S1, .i32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x1x128x2048, .bf16⟩
  | .local _ .vmem, ⟨7, _⟩ => ⟨S1x1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S3x128x2048, .bf16⟩
  | .local _ .vmem, ⟨11, _⟩ => ⟨S3x128x2048, .bf16⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .smem, ⟨0, _⟩ => ⟨S5, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_1 : ∀ a, (![1] : Fin 1 → Nat) a + S1.size a ≤ S5.size a) (numel1_S1 : S1.numel = 1) (inb_S5_S1_0 : ∀ a, (![0] : Fin 1 → Nat) a + S1.size a ≤ S5.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S5) ![1] S1.size inb_S5_S1_1) numel1_S1
  let c0 : Index := 0#32
  let v1 : BitVec 32 := pf.at 0 (Rect.unit (s := S5) ![0] S1.size inb_S5_S1_0) numel1_S1
  let c0_i32 : BitVec 32 := 0#32
  let c0_i32_0 : BitVec 32 := 0#32
  ![v0.toNat, v1.toNat, arg0.toNat, c0_i32.toNat]

def cc0_transform_4 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference24Ideal.lean ====
abbrev S_ : Shape := ⟨0, ![]⟩
abbrev S1024x2048 : Shape := ⟨2, ![1024, 2048]⟩
abbrev S4x2x1024x2048 : Shape := ⟨4, ![4, 2, 1024, 2048]⟩
abbrev S4x1024x2048 : Shape := ⟨3, ![4, 1024, 2048]⟩
abbrev S3x1024x2048 : Shape := ⟨3, ![3, 1024, 2048]⟩
abbrev S1x2x1024x2048 : Shape := ⟨4, ![1, 2, 1024, 2048]⟩
abbrev S2x1024x2048 : Shape := ⟨3, ![2, 1024, 2048]⟩
abbrev S1x1024x2048 : Shape := ⟨3, ![1, 1024, 2048]⟩

abbrev nBuf : Space → Nat
  | .hbm => 76
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S4x2x1024x2048, .bf16⟩
  | .hbm, ⟨7, _⟩ => ⟨S4x1024x2048, .bf16⟩
  | .hbm, ⟨8, _⟩ => ⟨S3x1024x2048, .bf16⟩
  | .hbm, ⟨9, _⟩ => ⟨S1x2x1024x2048, .bf16⟩
  | .hbm, ⟨10, _⟩ => ⟨S2x1024x2048, .bf16⟩
  | .hbm, ⟨11, _⟩ => ⟨S1x2x1024x2048, .bf16⟩
  | .hbm, ⟨12, _⟩ => ⟨S2x1024x2048, .bf16⟩
  | .hbm, ⟨13, _⟩ => ⟨S2x1024x2048, .bf16⟩
  | .hbm, ⟨14, _⟩ => ⟨S1x2x1024x2048, .bf16⟩
  | .hbm, ⟨15, _⟩ => ⟨S2x1024x2048, .bf16⟩
  | .hbm, ⟨16, _⟩ => ⟨S1x2x1024x2048, .bf16⟩
  | .hbm, ⟨17, _⟩ => ⟨S2x1024x2048, .bf16⟩
  | .hbm, ⟨18, _⟩ => ⟨S2x1024x2048, .bf16⟩
  | .hbm, ⟨19, _⟩ => ⟨S2x1024x2048, .bf16⟩
  | .hbm, ⟨20, _⟩ => ⟨S1x1024x2048, .bf16⟩
  | .hbm, ⟨21, _⟩ => ⟨S1024x2048, .bf16⟩
  | .hbm, ⟨22, _⟩ => ⟨S1x1024x2048, .bf16⟩
  | .hbm, ⟨23, _⟩ => ⟨S1024x2048, .bf16⟩
  | .hbm, ⟨24, _⟩ => ⟨S1024x2048, .bf16⟩
  | .hbm, ⟨25, _⟩ => ⟨S1024x2048, .f32⟩
  | .hbm, ⟨26, _⟩ => ⟨S1x1024x2048, .bf16⟩
  | .hbm, ⟨27, _⟩ => ⟨S1024x2048, .bf16⟩
  | .hbm, ⟨28, _⟩ => ⟨S1x1024x2048, .bf16⟩
  | .hbm, ⟨29, _⟩ => ⟨S1024x2048, .bf16⟩
  | .hbm, ⟨30, _⟩ => ⟨S1024x2048, .bf16⟩
  | .hbm, ⟨31, _⟩ => ⟨S1x1024x2048, .bf16⟩
  | .hbm, ⟨32, _⟩ => ⟨S1024x2048, .bf16⟩
  | .hbm, ⟨33, _⟩ => ⟨S1x1024x2048, .bf16⟩
  | .hbm, ⟨34, _⟩ => ⟨S1024x2048, .bf16⟩
  | .hbm, ⟨35, _⟩ => ⟨S1024x2048, .bf16⟩
  | .hbm, ⟨36, _⟩ => ⟨S1024x2048, .bf16⟩
  | .hbm, ⟨37, _⟩ => ⟨S1024x2048, .f32⟩
  | .hbm, ⟨38, _⟩ => ⟨S1024x2048, .f32⟩
  | .hbm, ⟨39, _⟩ => ⟨S3x1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | .hbm, ⟨53, _⟩ => ⟨S1024x2048, .f32⟩
  | .hbm, ⟨54, _⟩ => ⟨S_, .f32⟩
  | .hbm, ⟨55, _⟩ => ⟨S1024x2048, .f32⟩
  | .hbm, ⟨56, _⟩ => ⟨S1024x2048, .f32⟩
  | .hbm, ⟨57, _⟩ => ⟨S1024x2048, .f32⟩
  | .hbm, ⟨58, _⟩ => ⟨S_, .f32⟩
  | .hbm, ⟨59, _⟩ => ⟨S1024x2048, .f32⟩
  | .hbm, ⟨60, _⟩ => ⟨S1024x2048, .f32⟩
  | .hbm, ⟨61, _⟩ => ⟨S_, .f32⟩
  | .hbm, ⟨62, _⟩ => ⟨S1024x2048, .f32⟩
  | .hbm, ⟨63, _⟩ => ⟨S1024x2048, .f32⟩
  | .hbm, ⟨64, _⟩ => ⟨S1024x2048, .f32⟩
  | .hbm, ⟨65, _⟩ => ⟨S_, .f32⟩
  | .hbm, ⟨66, _⟩ => ⟨S1024x2048, .f32⟩
  | .hbm, ⟨67, _⟩ => ⟨S1024x2048, .f32⟩
  | .hbm, ⟨68, _⟩ => ⟨S1024x2048, .f32⟩
  | .hbm, ⟨69, _⟩ => ⟨S_, .f32⟩
  | .hbm, ⟨70, _⟩ => ⟨S1024x2048, .f32⟩
  | .hbm, ⟨71, _⟩ => ⟨S1024x2048, .f32⟩
  | .hbm, ⟨72, _⟩ => ⟨S1024x2048, .f32⟩
  | .hbm, ⟨73, _⟩ => ⟨S_, .f32⟩
  | .hbm, ⟨74, _⟩ => ⟨S1024x2048, .f32⟩
  | .hbm, ⟨75, _⟩ => ⟨S1024x2048, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel25.lean ====
abbrev S_ : Shape := ⟨0, ![]⟩
abbrev S2048x896 : Shape := ⟨2, ![2048, 896]⟩
abbrev S4x2x2048x896 : Shape := ⟨4, ![4, 2, 2048, 896]⟩
abbrev S4x2048x896 : Shape := ⟨3, ![4, 2048, 896]⟩
abbrev S3x2048x896 : Shape := ⟨3, ![3, 2048, 896]⟩
abbrev S1 : Shape := ⟨1, ![1]⟩
abbrev S5 : Shape := ⟨1, ![5]⟩
abbrev S256x896 : Shape := ⟨2, ![256, 896]⟩
abbrev S1x1x256x896 : Shape := ⟨4, ![1, 1, 256, 896]⟩
abbrev S1x256x896 : Shape := ⟨3, ![1, 256, 896]⟩
abbrev S3x256x896 : Shape := ⟨3, ![3, 256, 896]⟩

abbrev nBuf : Space → Nat
  | .hbm => 41
  | .vmem => 20
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S4x2x2048x896, .bf16⟩
  | .hbm, ⟨7, _⟩ => ⟨S4x2048x896, .bf16⟩
  | .hbm, ⟨8, _⟩ => ⟨S3x2048x896, .bf16⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .i32⟩
  | .hbm, ⟨35, _⟩ => ⟨S1, .i32⟩
  | .hbm, ⟨36, _⟩ => ⟨S1, .i32⟩
  | .hbm, ⟨37, _⟩ => ⟨S2048x896, .f32⟩
  | .hbm, ⟨38, _⟩ => ⟨S2048x896, .f32⟩
  | .hbm, ⟨39, _⟩ => ⟨S2048x896, .f32⟩
  | .hbm, ⟨40, _⟩ => ⟨S2048x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S1x1x256x896, .bf16⟩
  | .local _ .vmem, ⟨7, _⟩ => ⟨S1x1x256x896, .bf16⟩
  | .local _ .vmem, ⟨8, _⟩ => ⟨S1x256x896, .bf16⟩
  | .local _ .vmem, ⟨9, _⟩ => ⟨S1x256x896, .bf16⟩
  | .local _ .vmem, ⟨10, _⟩ => ⟨S3x256x896, .bf16⟩
  | .local _ .vmem, ⟨11, _⟩ => ⟨S3x256x896, .bf16⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | .local _ .vmem, ⟨18, _⟩ => ⟨S256x896, .f32⟩
  | .local _ .vmem, ⟨19, _⟩ => ⟨S256x896, .f32⟩
  | .local _ .smem, ⟨0, _⟩ => ⟨S5, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_1 : ∀ a, (![1] : Fin 1 → Nat) a + S1.size a ≤ S5.size a) (numel1_S1 : S1.numel = 1) (inb_S5_S1_0 : ∀ a, (![0] : Fin 1 → Nat) a + S1.size a ≤ S5.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S5) ![1] S1.size inb_S5_S1_1) numel1_S1
  let c0 : Index := 0#32
  let v1 : BitVec 32 := pf.at 0 (Rect.unit (s := S5) ![0] S1.size inb_S5_S1_0) numel1_S1
  let c0_i32 : BitVec 32 := 0#32
  let c0_i32_0 : BitVec 32 := 0#32
  ![v0.toNat, v1.toNat, arg0.toNat, c0_i32.toNat]

def cc0_transform_4 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference25Ideal.lean ====
abbrev S_ : Shape := ⟨0, ![]⟩
abbrev S2048x896 : Shape := ⟨2, ![2048, 896]⟩
abbrev S4x2x2048x896 : Shape := ⟨4, ![4, 2, 2048, 896]⟩
abbrev S4x2048x896 : Shape := ⟨3, ![4, 2048, 896]⟩
abbrev S3x2048x896 : Shape := ⟨3, ![3, 2048, 896]⟩
abbrev S1x2x2048x896 : Shape := ⟨4, ![1, 2, 2048, 896]⟩
abbrev S2x2048x896 : Shape := ⟨3, ![2, 2048, 896]⟩
abbrev S1x2048x896 : Shape := ⟨3, ![1, 2048, 896]⟩

abbrev nBuf : Space → Nat
  | .hbm => 76
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S4x2x2048x896, .bf16⟩
  | .hbm, ⟨7, _⟩ => ⟨S4x2048x896, .bf16⟩
  | .hbm, ⟨8, _⟩ => ⟨S3x2048x896, .bf16⟩
  | .hbm, ⟨9, _⟩ => ⟨S1x2x2048x896, .bf16⟩
  | .hbm, ⟨10, _⟩ => ⟨S2x2048x896, .bf16⟩
  | .hbm, ⟨11, _⟩ => ⟨S1x2x2048x896, .bf16⟩
  | .hbm, ⟨12, _⟩ => ⟨S2x2048x896, .bf16⟩
  | .hbm, ⟨13, _⟩ => ⟨S2x2048x896, .bf16⟩
  | .hbm, ⟨14, _⟩ => ⟨S1x2x2048x896, .bf16⟩
  | .hbm, ⟨15, _⟩ => ⟨S2x2048x896, .bf16⟩
  | .hbm, ⟨16, _⟩ => ⟨S1x2x2048x896, .bf16⟩
  | .hbm, ⟨17, _⟩ => ⟨S2x2048x896, .bf16⟩
  | .hbm, ⟨18, _⟩ => ⟨S2x2048x896, .bf16⟩
  | .hbm, ⟨19, _⟩ => ⟨S2x2048x896, .bf16⟩
  | .hbm, ⟨20, _⟩ => ⟨S1x2048x896, .bf16⟩
  | .hbm, ⟨21, _⟩ => ⟨S2048x896, .bf16⟩
  | .hbm, ⟨22, _⟩ => ⟨S1x2048x896, .bf16⟩
  | .hbm, ⟨23, _⟩ => ⟨S2048x896, .bf16⟩
  | .hbm, ⟨24, _⟩ => ⟨S2048x896, .bf16⟩
  | .hbm, ⟨25, _⟩ => ⟨S2048x896, .f32⟩
  | .hbm, ⟨26, _⟩ => ⟨S1x2048x896, .bf16⟩
  | .hbm, ⟨27, _⟩ => ⟨S2048x896, .bf16⟩
  | .hbm, ⟨28, _⟩ => ⟨S1x2048x896, .bf16⟩
  | .hbm, ⟨29, _⟩ => ⟨S2048x896, .bf16⟩
  | .hbm, ⟨30, _⟩ => ⟨S2048x896, .bf16⟩
  | .hbm, ⟨31, _⟩ => ⟨S1x2048x896, .bf16⟩
  | .hbm, ⟨32, _⟩ => ⟨S2048x896, .bf16⟩
  | .hbm, ⟨33, _⟩ => ⟨S1x2048x896, .bf16⟩
  | .hbm, ⟨34, _⟩ => ⟨S2048x896, .bf16⟩
  | .hbm, ⟨35, _⟩ => ⟨S2048x896, .bf16⟩
  | .hbm, ⟨36, _⟩ => ⟨S2048x896, .bf16⟩
  | .hbm, ⟨37, _⟩ => ⟨S2048x896, .f32⟩
  | .hbm, ⟨38, _⟩ => ⟨S2048x896, .f32⟩
  | .hbm, ⟨39, _⟩ => ⟨S3x2048x896, .f32⟩
  | .hbm, ⟨40, _⟩ => ⟨S_, .f32⟩
  | .hbm, ⟨41, _⟩ => ⟨S2048x896, .f32⟩
  | .hbm, ⟨42, _⟩ => ⟨S2048x896, .f32⟩
  | .hbm, ⟨43, _⟩ => ⟨S_, .f32⟩
  | .hbm, ⟨44, _⟩ => ⟨S2048x896, .f32⟩
  | .hbm, ⟨45, _⟩ => ⟨S2048x896, .f32⟩
  | .hbm, ⟨46, _⟩ => ⟨S_, .f32⟩
  | .hbm, ⟨47, _⟩ => ⟨S2048x896, .f32⟩
  | .hbm, ⟨48, _⟩ => ⟨S2048x896, .f32⟩
  | .hbm, ⟨49, _⟩ => ⟨S2048x896, .f32⟩
  | .hbm, ⟨50, _⟩ => ⟨S_, .f32⟩
  | .hbm, ⟨51, _⟩ => ⟨S2048x896, .f32⟩
  | .hbm, ⟨52, _⟩ => ⟨S2048x896, .f32⟩
  | .hbm, ⟨53, _⟩ => ⟨S2048x896, .f32⟩
  | .hbm, ⟨54, _⟩ => ⟨S_, .f32⟩
  | .hbm, ⟨55, _⟩ => ⟨S2048x896, .f32⟩
  | .hbm, ⟨56, _⟩ => ⟨S2048x896, .f32⟩
  | .hbm, ⟨57, _⟩ => ⟨S2048x896, .f32⟩
  | .hbm, ⟨58, _⟩ => ⟨S_, .f32⟩
  | .hbm, ⟨59, _⟩ => ⟨S2048x896, .f32⟩
  | .hbm, ⟨60, _⟩ => ⟨S2048x896, .f32⟩
  | .hbm, ⟨61, _⟩ => ⟨S_, .f32⟩
  | .hbm, ⟨62, _⟩ => ⟨S2048x896, .f32⟩
  | .hbm, ⟨63, _⟩ => ⟨S2048x896, .f32⟩
  | .hbm, ⟨64, _⟩ => ⟨S2048x896, .f32⟩
  | .hbm, ⟨65, _⟩ => ⟨S_, .f32⟩
  | .hbm, ⟨66, _⟩ => ⟨S2048x896, .f32⟩
  | .hbm, ⟨67, _⟩ => ⟨S2048x896, .f32⟩
  | .hbm, ⟨68, _⟩ => ⟨S2048x896, .f32⟩
  | .hbm, ⟨69, _⟩ => ⟨S_, .f32⟩
  | .hbm, ⟨70, _⟩ => ⟨S2048x896, .f32⟩
  | .hbm, ⟨71, _⟩ => ⟨S2048x896, .f32⟩
  | .hbm, ⟨72, _⟩ => ⟨S2048x896, .f32⟩
  | .hbm, ⟨73, _⟩ => ⟨S_, .f32⟩
  | .hbm, ⟨74, _⟩ => ⟨S2048x896, .f32⟩
  | .hbm, ⟨75, _⟩ => ⟨S2048x896, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel26.lean ====
abbrev S_ : Shape := ⟨0, ![]⟩
abbrev S256x2048 : Shape := ⟨2, ![256, 2048]⟩
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S1 : Shape := ⟨1, ![1]⟩
abbrev S5 : Shape := ⟨1, ![5]⟩
abbrev S128x2048 : Shape := ⟨2, ![128, 2048]⟩
abbrev S1x1x128x2048 : Shape := ⟨4, ![1, 1, 128, 2048]⟩
abbrev S1x128x2048 : Shape := ⟨3, ![1, 128, 2048]⟩
abbrev S3x128x2048 : Shape := ⟨3, ![3, 128, 2048]⟩

abbrev nBuf : Space → Nat
  | .hbm => 41
  | .vmem => 20
  | .smem => 1
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S4x2x256x2048, .bf16⟩
  | .hbm, ⟨7, _⟩ => ⟨S4x256x2048, .bf16⟩
  | .hbm, ⟨8, _⟩ => ⟨S3x256x2048, .bf16⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .i32⟩
  | .hbm, ⟨35, _⟩ => ⟨S1, .i32⟩
  | .hbm, ⟨36, _⟩ => ⟨S1, .i32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x1x128x2048, .bf16⟩
  | .local _ .vmem, ⟨7, _⟩ => ⟨S1x1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S3x128x2048, .bf16⟩
  | .local _ .vmem, ⟨11, _⟩ => ⟨S3x128x2048, .bf16⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .smem, ⟨0, _⟩ => ⟨S5, .i32⟩
  | _, _ => ⟨S_, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S5_S1_1 : ∀ a, (![1] : Fin 1 → Nat) a + S1.size a ≤ S5.size a) (numel1_S1 : S1.numel = 1) (inb_S5_S1_0 : ∀ a, (![0] : Fin 1 → Nat) a + S1.size a ≤ S5.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S5) ![1] S1.size inb_S5_S1_1) numel1_S1
  let c0 : Index := 0#32
  let v1 : BitVec 32 := pf.at 0 (Rect.unit (s := S5) ![0] S1.size inb_S5_S1_0) numel1_S1
  let c0_i32 : BitVec 32 := 0#32
  let c0_i32_0 : BitVec 32 := 0#32
  ![v0.toNat, v1.toNat, arg0.toNat, c0_i32.toNat]

def cc0_transform_4 (inb_S5_S1_1 : ∀ a, (![1] : Fin 1 → Nat) a + S1.size a ≤ S5.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S5) ![1] S1.size inb_S5_S1_1) numel1_S1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference26Ideal.lean ====
abbrev S_ : Shape := ⟨0, ![]⟩
abbrev S256x2048 : Shape := ⟨2, ![256, 2048]⟩
abbrev S4x2x256x2048 : Shape := ⟨4, ![4, 2, 256, 2048]⟩
abbrev S4x256x2048 : Shape := ⟨3, ![4, 256, 2048]⟩
abbrev S3x256x2048 : Shape := ⟨3, ![3, 256, 2048]⟩
abbrev S1x2x256x2048 : Shape := ⟨4, ![1, 2, 256, 2048]⟩
abbrev S2x256x2048 : Shape := ⟨3, ![2, 256, 2048]⟩
abbrev S1x256x2048 : Shape := ⟨3, ![1, 256, 2048]⟩

abbrev nBuf : Space → Nat
  | .hbm => 76
  | .vmem => 0
  | .smem => 0
  | _ => 0

abbrev bufTy : (tb : Table) → Fin (tcTables nBuf tb) → BufTy
  | .hbm, ⟨0, _⟩ => ⟨S_, .i1⟩
  | .hbm, ⟨1, _⟩ => ⟨S_, .i1⟩
  | .hbm, ⟨2, _⟩ => ⟨S_, .i1⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S4x2x256x2048, .bf16⟩
  | .hbm, ⟨7, _⟩ => ⟨S4x256x2048, .bf16⟩
  | .hbm, ⟨8, _⟩ => ⟨S3x256x2048, .bf16⟩
  | .hbm, ⟨9, _⟩ => ⟨S1x2x256x2048, .bf16⟩
  | .hbm, ⟨10, _⟩ => ⟨S2x256x2048, .bf16⟩
  | .hbm, ⟨11, _⟩ => ⟨S1x2x256x2048, .bf16⟩
  | .hbm, ⟨12, _⟩ => ⟨S2x256x2048, .bf16⟩
  | .hbm, ⟨13, _⟩ => ⟨S2x256x2048, .bf16⟩
  | .hbm, ⟨14, _⟩ => ⟨S1x2x256x2048, .bf16⟩
  | .hbm, ⟨15, _⟩ => ⟨S2x256x2048, .bf16⟩
  | .hbm, ⟨16, _⟩ => ⟨S1x2x256x2048, .bf16⟩
  | .hbm, ⟨17, _⟩ => ⟨S2x256x2048, .bf16⟩
  | .hbm, ⟨18, _⟩ => ⟨S2x256x2048, .bf16⟩
  | .hbm, ⟨19, _⟩ => ⟨S2x256x2048, .bf16⟩
  | .hbm, ⟨20, _⟩ => ⟨S1x256x2048, .bf16⟩
  | .hbm, ⟨21, _⟩ => ⟨S256x2048, .bf16⟩
  | .hbm, ⟨22, _⟩ => ⟨S1x256x2048, .bf16⟩
  | .hbm, ⟨23, _⟩ => ⟨S256x2048, .bf16⟩
  | .hbm, ⟨24, _⟩ => ⟨S256x2048, .bf16⟩
  | .hbm, ⟨25, _⟩ => ⟨S256x2048, .f32⟩
  | .hbm, ⟨26, _⟩ => ⟨S1x256x2048, .bf16⟩
  | .hbm, ⟨27, _⟩ => ⟨S256x2048, .bf16⟩
  | .hbm, ⟨28, _⟩ => ⟨S1x256x2048, .bf16⟩
  | .hbm, ⟨29, _⟩ => ⟨S256x2048, .bf16⟩
  | .hbm, ⟨30, _⟩ => ⟨S256x2048, .bf16⟩
  | .hbm, ⟨31, _⟩ => ⟨S1x256x2048, .bf16⟩
  | .hbm, ⟨32, _⟩ => ⟨S256x2048, .bf16⟩
  | .hbm, ⟨33, _⟩ => ⟨S1x256x2048, .bf16⟩
  | .hbm, ⟨34, _⟩ => ⟨S256x2048, .bf16⟩
  | .hbm, ⟨35, _⟩ => ⟨S256x2048, .bf16⟩
  | .hbm, ⟨36, _⟩ => ⟨S256x2048, .bf16⟩
  | .hbm, ⟨37, _⟩ => ⟨S256x2048, .f32⟩
  | .hbm, ⟨38, _⟩ => ⟨S256x2048, .f32⟩
  | .hbm, ⟨39, _⟩ => ⟨S3x256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | .hbm, ⟨53, _⟩ => ⟨S256x2048, .f32⟩
  | .hbm, ⟨54, _⟩ => ⟨S_, .f32⟩
  | .hbm, ⟨55, _⟩ => ⟨S256x2048, .f32⟩
  | .hbm, ⟨56, _⟩ => ⟨S256x2048, .f32⟩
  | .hbm, ⟨57, _⟩ => ⟨S256x2048, .f32⟩
  | .hbm, ⟨58, _⟩ => ⟨S_, .f32⟩
  | .hbm, ⟨59, _⟩ => ⟨S256x2048, .f32⟩
  | .hbm, ⟨60, _⟩ => ⟨S256x2048, .f32⟩
  | .hbm, ⟨61, _⟩ => ⟨S_, .f32⟩
  | .hbm, ⟨62, _⟩ => ⟨S256x2048, .f32⟩
  | .hbm, ⟨63, _⟩ => ⟨S256x2048, .f32⟩
  | .hbm, ⟨64, _⟩ => ⟨S256x2048, .f32⟩
  | .hbm, ⟨65, _⟩ => ⟨S_, .f32⟩
  | .hbm, ⟨66, _⟩ => ⟨S256x2048, .f32⟩
  | .hbm, ⟨67, _⟩ => ⟨S256x2048, .f32⟩
  | .hbm, ⟨68, _⟩ => ⟨S256x2048, .f32⟩
  | .hbm, ⟨69, _⟩ => ⟨S_, .f32⟩
  | .hbm, ⟨70, _⟩ => ⟨S256x2048, .f32⟩
  | .hbm, ⟨71, _⟩ => ⟨S256x2048, .f32⟩
  | .hbm, ⟨72, _⟩ => ⟨S256x2048, .f32⟩
  | .hbm, ⟨73, _⟩ => ⟨S_, .f32⟩
  | .hbm, ⟨74, _⟩ => ⟨S256x2048, .f32⟩
  | .hbm, ⟨75, _⟩ => ⟨S256x2048, .f32⟩
  | _, _ => ⟨S_, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Proof.ConvTrip.lean ====
/-
  The names this certificate reads the convolution gradient's kernel by, and one trip of its loop over the row chunks
  read in those names: what the trip adds to the accumulator of the tap gradients and what it stores into the two
  gradient blocks.
-/
module

public import proofs.«01_k».proof.Proof.Gen.KernelIdeal.Loops
public import Idealize.ShloMosaic.Lib.WritesUnit
public import Idealize.ShloMosaic.Lib.VecWindow
public import Idealize.ShloMosaic.Lib.Tactic

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.Sem

variable {F : FTy → Type} [FloatOps F]

/-! ## The trip's arithmetic -/

/-- What one chunk adds to the eight partial sums of the tap whose lag is `lag`: the chunk's cotangent rows times the
    rows `lag` before them, summed over every eighth row. -/
def dwPart (lag : BitVec 32) (hist fut : Vec F S160x128 .f32) : FVec F S8x128 .f32 :=
  multiReduction .add [0] S8x128 (shapeCast S16x8x128
    (mulf (extractStridedSlice S128x128 ![0, 0] fut slices_S160x128_o0_0_S128x128)
      (extractStridedSlice S128x128 ![32, 0] (dynamicRotate 0 lag none hist rotates_S160x128_d0) slices_S160x128_o32_0_S128x128))
    shapeCasts_S128x128_S16x8x128) 0x00000000#32 reduces_S16x8x128_S8x128 (.inl rfl) rfl

/-- The accumulator's eight rows of one tap after the chunk: what they held plus the chunk's part. -/
def dwUpd (lag : BitVec 32) (hist fut : Vec F S160x128 .f32) (old : Vec F S8x128 .f32) : FVec F S8x128 .f32 :=
  shapeCast S8x128 (addf old (dwPart lag hist fut)) shapeCasts_S8x128_S8x128

/-- One tap's term of the gradient in the gated values: the tap times the cotangent rows moved up by the tap's lag. -/
def daTerm (sh : BitVec 32) (w : Vec F S1x128 .f32) (fut : Vec F S160x128 .f32) : FVec F S128x128 .f32 :=
  mulf (broadcastTo S128x128 (shapeCast S1x128 w shapeCasts_S1x128_S1x128) broadcasts_S1x128_S128x128)
    (extractStridedSlice S128x128 ![0, 0] (dynamicRotate 0 sh none fut rotates_S160x128_d0) slices_S160x128_o0_0_S128x128)

/-- The first `n` taps' terms added up, from zero, in the taps' order. -/
def daSum (w : ℕ → Vec F S1x128 .f32) (fut : Vec F S160x128 .f32) : ℕ → FVec F S128x128 .f32
  | 0 => broadcast S128x128 (Scalar.ofBits .f32 0x00000000#32)
  | n + 1 => addf (daSum w fut n) (daTerm (BitVec.ofNat 32 ((130 + n) % 160)) (w n) fut)

/-! ## The rows a trip reads -/

/-- Row `n` of the taps' block. -/
theorem tap_inb (n : ℕ) (h : n < 31) : ∀ a, (![n, 0] : Fin 2 → ℕ) a + S1x128.size a ≤ S32x128.size a :=
  Fin.forall_fin_two.mpr ⟨show n + 1 ≤ 32 by omega, show 0 + 128 ≤ 128 by omega⟩

/-- Rows `8n …` of the accumulator. -/
theorem acc_inb (n : ℕ) (h : n < 31) : ∀ a, (![8 * n, 0] : Fin 2 → ℕ) a + S8x128.size a ≤ S256x128.size a :=
  Fin.forall_fin_two.mpr ⟨show 8 * n + 8 ≤ 256 by omega, show 0 + 128 ≤ 128 by omega⟩

variable (arg1 : Memref sig .tc .vmem S2176x128 .f32) (arg2 : Memref sig .tc .vmem S2176x128 .f32)
  (arg4 : Memref sig .tc .vmem S32x128 .f32) (arg9 : Memref sig .tc .vmem S2208x128 .f32)
  (arg10 : Memref sig .tc .vmem S2208x128 .f32) (arg11 : Memref sig .tc .vmem S256x128 .f32)

/-- The window of 160 padded rows a trip loads. -/
def win (a : Memref sig .tc .vmem S2208x128 .f32) (X : BufTy.Contents (Elt F) a.view.ty) (k : Fin k0_t1_loop.trips) : Vec F S160x128 .f32 :=
  View.readAt (Elt F) a.view (Rect.unit (s := S2208x128) (k0_off1 k) S160x128.size (k0_off1_inb k)).toLoadRect X

/-- The chunk's 128 rows of an input block. -/
def rows (a : Memref sig .tc .vmem S2176x128 .f32) (X : BufTy.Contents (Elt F) a.view.ty) (k : Fin k0_t1_loop.trips) : Vec F S128x128 .f32 :=
  View.readAt (Elt F) a.view (Rect.unit (s := S2176x128) (k0_off2 k) S128x128.size (k0_off2_inb k)).toLoadRect X

/-- Tap `n`, as the trip loads it (no tap past the last). -/
def tap (X : BufTy.Contents (Elt F) arg4.view.ty) (n : ℕ) : Vec F S1x128 .f32 :=
  if h : n < 31 then View.readAt (Elt F) arg4.view (Rect.unit (s := S32x128) ![n, 0] S1x128.size (tap_inb n h)).toLoadRect X
  else fun _ => Scalar.ofBits .f32 0x00000000#32

/-- The gradient in the gated values at the chunk's rows. -/
def da (X4 : BufTy.Contents (Elt F) arg4.view.ty) (X10 : BufTy.Contents (Elt F) arg10.view.ty) (k : Fin k0_t1_loop.trips) : FVec F S128x128 .f32 :=
  daSum (tap arg4 X4) (win arg10 X10 k) 31

/-- The first `n` taps' stores into the accumulator, newest first. -/
def accPieces (hist fut : Vec F S160x128 .f32) (f : BufTy.Contents (Elt F) arg11.view.ty) : (n : ℕ) → n ≤ 31 → List (View.Piece (Elt F) S256x128 .f32)
  | 0, _ => []
  | n + 1, h => ⟨Rect.unit (s := S256x128) ![8 * n, 0] S8x128.size (acc_inb n h),
      dwUpd (BitVec.ofNat 32 (30 - n)) hist fut (View.readAt (Elt F) arg11.view (Rect.unit (s := S256x128) ![8 * n, 0] S8x128.size (acc_inb n h)).toLoadRect f)⟩
      :: accPieces hist fut f n (Nat.le_of_succ_le h)

end Cert.Conv

namespace Cert.Conv

open Cert.KernelIdeal Cert.KernelIdeal.Gen
open Idealize.ShloMosaic Idealize.ShloMosaic.TcCoe Idealize.ShloMosaic.Tactic
open Idealize.SL Idealize.SL.Sem

variable {F : FTy → Type} [FloatOps F]
variable (𝒱 : Variants) (c : Dev nD) (bd : Option 𝒱.V) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S32x128 .f32) (harg4 : arg4.IsWhole) (arg5 : Memref sig .tc .hbm S2176x7168 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S32x128 .f32) (harg8 : arg8.IsWhole) (arg9 : Memref sig .tc .vmem S2208x128 .f32) (harg9 : arg9.IsWhole) (arg10 : Memref sig .tc .vmem S2208x128 .f32) (harg10 : arg10.IsWhole) (arg11 : Memref sig .tc .vmem S256x128 .f32) (harg11 : arg11.IsWhole) (X_arg1 : BufTy.Contents (Elt F) arg1.view.ty) (X_arg2 : BufTy.Contents (Elt F) arg2.view.ty) (X_arg4 : BufTy.Contents (Elt F) arg4.view.ty) (X_arg9 : BufTy.Contents (Elt F) arg9.view.ty) (X_arg10 : BufTy.Contents (Elt F) arg10.view.ty)

/-- The trip's stores into the accumulator are the 31 taps'. -/
theorem trip_acc (k : Fin k0_t1_loop.trips) (f6 : BufTy.Contents (Elt F) arg6.view.ty) (f7 : BufTy.Contents (Elt F) arg7.view.ty) (f11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 k).2.2.1 f6 f7 f11
      = accPieces arg11 (win arg9 X_arg9 k) (win arg10 X_arg10 k) f11 31 (le_refl _) := by
  unfold trip_k0_t1
  dsimp only
  sl_kernel_rfl

/-- The trip's one store into the block of the gradient in the values. -/
theorem trip_dv (k : Fin k0_t1_loop.trips) (f6 : BufTy.Contents (Elt F) arg6.view.ty) (f7 : BufTy.Contents (Elt F) arg7.view.ty) (f11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 k).1 f6 f7 f11
      = [⟨Rect.unit (s := S2176x128) (k0_off2 k) S128x128.size (k0_off2_inb k), k0_pay62 (da arg4 arg10 X_arg4 X_arg10 k) (rows arg2 X_arg2 k)⟩] := by
  unfold trip_k0_t1
  dsimp only
  sl_kernel_rfl

/-- The trip's one store into the block of the gradient in the gates. -/
theorem trip_dg (k : Fin k0_t1_loop.trips) (f6 : BufTy.Contents (Elt F) arg6.view.ty) (f7 : BufTy.Contents (Elt F) arg7.view.ty) (f11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 k).2.1 f6 f7 f11
      = [⟨Rect.unit (s := S2176x128) (k0_off2 k) S128x128.size (k0_off2_inb k), k0_pay63 (da arg4 arg10 X_arg4 X_arg10 k) (rows arg2 X_arg2 k) (rows arg1 X_arg1 k)⟩] := by
  unfold trip_k0_t1
  dsimp only
  sl_kernel_rfl

end Cert.Conv

end
-- ==== Proof.ConvContent.lean ====
/-
  What the gradient kernel's loop leaves in its buffers, as functions of the values it reads: after `k` chunks the
  accumulator holds `accV … k`, and the rows of the chunks done of the two gradient blocks hold `DV` and `DG`.
-/
module

public import proofs.«01_k».proof.Proof.ConvTrip
public import Idealize.ShloMosaic.Lib.ValueIdxCore

@[expose] public section

set_option maxRecDepth 16384

noncomputable section

namespace Cert.Conv

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- The loop runs 17 chunks. -/
theorem trips_eq : k0_t1_loop.trips = 17 := by decide +kernel

/-! ## The buffers as functions of the values read -/

/-- Rows `128 k` to `128 k + 160` of a padded array. -/
def winV (H : Vec F S2208x128 .f32) (k : ℕ) (hk : k < 17) : Vec F S160x128 .f32 :=
  fun y => H (ix2 ⟨128 * k + (y 0).val, by have := idx2_lt0 y; omega⟩ (y 1))

/-- Rows `128 k` to `128 k + 128` of a block. -/
def rowsV (x : Vec F S2176x128 .f32) (k : ℕ) (hk : k < 17) : Vec F S128x128 .f32 :=
  fun y => x (ix2 ⟨128 * k + (y 0).val, by have := idx2_lt0 y; omega⟩ (y 1))

/-- Row `n` of the taps (no tap past the last). -/
def tapV (w : Vec F S32x128 .f32) (n : ℕ) : Vec F S1x128 .f32 :=
  if h : n < 31 then fun y => w (ix2 ⟨n, by omega⟩ (y 1)) else fun _ => Scalar.ofBits .f32 0x00000000#32

/-- The gradient in the gated values at chunk `k`. -/
def daV (w : Vec F S32x128 .f32) (fut : Vec F S2208x128 .f32) (k : ℕ) (hk : k < 17) : FVec F S128x128 .f32 :=
  daSum (tapV w) (winV fut k hk) 31

/-- The gradient in the values: row `r` is row `r mod 128` of chunk `r / 128`. -/
def DV (gate : Vec F S2176x128 .f32) (w : Vec F S32x128 .f32) (fut : Vec F S2208x128 .f32) : Vec F S2176x128 .bf16 :=
  fun y => k0_pay62 (daV w fut ((y 0).val / 128) (by have := idx2_lt0 y; omega))
    (rowsV gate ((y 0).val / 128) (by have := idx2_lt0 y; omega)) (ix2 ⟨(y 0).val % 128, by omega⟩ (y 1))

/-- The gradient in the gates, chunk by chunk. -/
def DG (v gate : Vec F S2176x128 .f32) (w : Vec F S32x128 .f32) (fut : Vec F S2208x128 .f32) : Vec F S2176x128 .bf16 :=
  fun y => k0_pay63 (daV w fut ((y 0).val / 128) (by have := idx2_lt0 y; omega))
    (rowsV gate ((y 0).val / 128) (by have := idx2_lt0 y; omega)) (rowsV v ((y 0).val / 128) (by have := idx2_lt0 y; omega))
    (ix2 ⟨(y 0).val % 128, by omega⟩ (y 1))

/-- The eight rows of one tap in the accumulator. -/
def octet (A : Vec F S256x128 .f32) (n : ℕ) (hn : n < 32) : Vec F S8x128 .f32 :=
  fun z => A (ix2 ⟨8 * n + (z 0).val, by have := idx2_lt0 z; omega⟩ (z 1))

/-- The accumulator with the first `n` taps' rows updated by one chunk. -/
def accUpd (hist fut : Vec F S160x128 .f32) (A : Vec F S256x128 .f32) (n : ℕ) : Vec F S256x128 .f32 :=
  fun y => if (y 0).val / 8 < n then
    dwUpd (BitVec.ofNat 32 (30 - (y 0).val / 8)) hist fut (octet A ((y 0).val / 8) (by have := idx2_lt0 y; omega))
      (ix2 ⟨(y 0).val % 8, by omega⟩ (y 1))
    else A y

/-- The accumulator after `k` chunks. -/
def accV (hist fut : Vec F S2208x128 .f32) : ℕ → Vec F S256x128 .f32
  | 0 => k0_pay59
  | k + 1 => if hk : k < 17 then accUpd (winV hist k hk) (winV fut k hk) (accV hist fut k) 31 else accV hist fut k

/-! ## The trip's reads -/

theorem win_eq (a : Memref sig .tc .vmem S2208x128 .f32) (X : BufTy.Contents (Elt F) a.view.ty) (k : Fin k0_t1_loop.trips) :
    win a X k = winV (a.view.read (Elt F) X) k.val (trips_eq ▸ k.isLt) := by
  funext y
  refine congrArg (a.view.read (Elt F) X) (funext (Fin.forall_fin_two.mpr ⟨Fin.ext ?_, Fin.ext ?_⟩))
  · show k0_off1 k 0 + 1 * (y 0).val = 128 * k.val + (y 0).val
    rw [k0_off1_eq]; show 128 * k.val + _ = _; omega
  · show k0_off1 k 1 + 1 * (y 1).val = (y 1).val
    rw [k0_off1_eq]; show 0 + _ = _; omega

theorem rows_eq (a : Memref sig .tc .vmem S2176x128 .f32) (X : BufTy.Contents (Elt F) a.view.ty) (k : Fin k0_t1_loop.trips) :
    rows a X k = rowsV (a.view.read (Elt F) X) k.val (trips_eq ▸ k.isLt) := by
  funext y
  refine congrArg (a.view.read (Elt F) X) (funext (Fin.forall_fin_two.mpr ⟨Fin.ext ?_, Fin.ext ?_⟩))
  · show k0_off2 k 0 + 1 * (y 0).val = 128 * k.val + (y 0).val
    rw [k0_off2_eq]; show 128 * k.val + _ = _; omega
  · show k0_off2 k 1 + 1 * (y 1).val = (y 1).val
    rw [k0_off2_eq]; show 0 + _ = _; omega

theorem tap_eq (a : Memref sig .tc .vmem S32x128 .f32) (X : BufTy.Contents (Elt F) a.view.ty) :
    tap a X = tapV (a.view.read (Elt F) X) := by
  funext n
  unfold tap tapV
  by_cases h : n < 31
  · rw [dif_pos h, dif_pos h]
    funext y
    refine congrArg (a.view.read (Elt F) X) (funext (Fin.forall_fin_two.mpr ⟨Fin.ext ?_, Fin.ext ?_⟩))
    · show n + 1 * (y 0).val = n
      have : (y 0).val < 1 := idx2_lt0 y
      omega
    · show 0 + 1 * (y 1).val = (y 1).val
      omega
  · rw [dif_neg h, dif_neg h]

theorem octet_eq (a : Memref sig .tc .vmem S256x128 .f32) (X : BufTy.Contents (Elt F) a.view.ty) (n : ℕ) (hn : n < 31) :
    View.readAt (Elt F) a.view (Rect.unit (s := S256x128) ![8 * n, 0] S8x128.size (acc_inb n hn)).toLoadRect X
      = octet (a.view.read (Elt F) X) n (by omega) := by
  funext y
  refine congrArg (a.view.read (Elt F) X) (funext (Fin.forall_fin_two.mpr ⟨Fin.ext ?_, Fin.ext ?_⟩))
  · show 8 * n + 1 * (y 0).val = 8 * n + (y 0).val
    omega
  · show 0 + 1 * (y 1).val = (y 1).val
    omega

/-! ## The accumulator -/

/-- What the first `n` taps' stores leave in the accumulator. -/
theorem read_accPieces (arg11 : Memref sig .tc .vmem S256x128 .f32) (hist fut : Vec F S160x128 .f32)
    (f : BufTy.Contents (Elt F) arg11.view.ty) : ∀ (n : ℕ) (h : n ≤ 31),
    arg11.view.read (Elt F) (arg11.view.writes (Elt F) f (accPieces arg11 hist fut f n h))
      = accUpd hist fut (arg11.view.read (Elt F) f) n
  | 0, h => by funext y; unfold accUpd; rw [if_neg (by omega)]; rfl
  | n + 1, h => by
    have ih := read_accPieces arg11 hist fut f n (Nat.le_of_succ_le h)
    funext y
    obtain ⟨r, q, rfl⟩ : ∃ r q, y = ix2 r q := ⟨y 0, y 1, eq_ix2 y⟩
    unfold accPieces
    by_cases hr : r.val / 8 = n
    · rw [View.read_writes_cons_rows_of_mem arg11.view f (size := S8x128.size) (o := 8 * n) _ _ _ (ix2 r q)
        (ix2 ⟨r.val % 8, Nat.mod_lt _ (by decide)⟩ q) rfl (show r.val = 8 * n + r.val % 8 by omega) rfl,
        octet_eq arg11 f n (by omega)]
      unfold accUpd
      rw [if_pos (show r.val / 8 < n + 1 by omega)]
      subst hr
      rfl
    · rw [View.read_writes_cons_rows_of_not_mem arg11.view f (size := S8x128.size) (o := 8 * n) (W := 8) _ _ _ (ix2 r q) rfl rfl
        (show r.val < 8 * n ∨ 8 * n + 8 ≤ r.val by omega), ih]
      unfold accUpd
      by_cases h1 : r.val / 8 < n
      · rw [if_pos h1, if_pos (show r.val / 8 < n + 1 by omega)]
      · rw [if_neg h1, if_neg (show ¬ r.val / 8 < n + 1 by omega)]

end Cert.Conv

namespace Cert.Conv

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (𝒱 : Variants) (c : Dev nD) (bd : Option 𝒱.V) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S32x128 .f32) (harg4 : arg4.IsWhole) (arg5 : Memref sig .tc .hbm S2176x7168 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S32x128 .f32) (harg8 : arg8.IsWhole) (arg9 : Memref sig .tc .vmem S2208x128 .f32) (harg9 : arg9.IsWhole) (arg10 : Memref sig .tc .vmem S2208x128 .f32) (harg10 : arg10.IsWhole) (arg11 : Memref sig .tc .vmem S256x128 .f32) (harg11 : arg11.IsWhole) (X_arg1 : BufTy.Contents (Elt F) arg1.view.ty) (X_arg2 : BufTy.Contents (Elt F) arg2.view.ty) (X_arg4 : BufTy.Contents (Elt F) arg4.view.ty) (X_arg9 : BufTy.Contents (Elt F) arg9.view.ty) (X_arg10 : BufTy.Contents (Elt F) arg10.view.ty)
variable (G6 : BufTy.Contents (Elt F) arg6.view.ty) (G7 : BufTy.Contents (Elt F) arg7.view.ty) (G11 : BufTy.Contents (Elt F) arg11.view.ty)

/-- After `k` chunks the accumulator, started at zero, holds `accV … k`. -/
theorem read_acc (hG : arg11.view.read (Elt F) G11 = k0_pay59) : ∀ k : ℕ, k ≤ 17 →
    arg11.view.read (Elt F) (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 G6 G7 G11 k).2.2)
      = accV (arg9.view.read (Elt F) X_arg9) (arg10.view.read (Elt F) X_arg10) k
  | 0, _ => hG
  | k + 1, h => by
    have ih := read_acc hG k (by omega)
    have hk : k < k0_t1_loop.trips := by rw [trips_eq]; omega
    rw [pb_k0_t1_succ (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 G6 G7 G11 ⟨k, hk⟩]
    dsimp only [tripL_k0_t1]
    rw [trip_acc, View.writes_append, read_accPieces, ih, win_eq, win_eq]
    conv_rhs => unfold accV
    rw [dif_pos (show k < 17 by omega)]

/-- After `k` chunks the first `128 k` rows of the block of the gradient in the values are done. -/
theorem read_dv : ∀ k : ℕ, k ≤ 17 → ∀ y : S2176x128.Idx, (y 0).val < 128 * k →
    arg6.view.read (Elt F) (arg6.view.writes (Elt F) G6 (pb_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 G6 G7 G11 k).1) y
      = DV (arg2.view.read (Elt F) X_arg2) (arg4.view.read (Elt F) X_arg4) (arg10.view.read (Elt F) X_arg10) y
  | 0, _, y, hy => absurd hy (by omega)
  | k + 1, h, y, hy => by
    have hk : k < k0_t1_loop.trips := by rw [trips_eq]; omega
    obtain ⟨r, q, rfl⟩ : ∃ r q, y = ix2 r q := ⟨y 0, y 1, eq_ix2 y⟩
    have hy' : r.val < 128 * (k + 1) := hy
    rw [pb_k0_t1_succ (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 G6 G7 G11 ⟨k, hk⟩]
    dsimp only [tripL_k0_t1]
    rw [trip_dv, List.singleton_append]
    by_cases hr : r.val / 128 = k
    · rw [View.read_writes_cons_rows_of_mem arg6.view G6 (size := S128x128.size) (o := 128 * k) _ _ _ (ix2 r q)
        (ix2 ⟨r.val % 128, Nat.mod_lt _ (by decide)⟩ q) (k0_off2_eq ⟨k, hk⟩) (show r.val = 128 * k + r.val % 128 by omega) rfl]
      unfold da
      rw [win_eq, rows_eq, tap_eq]
      subst hr
      rfl
    · rw [View.read_writes_cons_rows_of_not_mem arg6.view G6 (size := S128x128.size) (o := 128 * k) (W := 128) _ _ _ (ix2 r q) (k0_off2_eq ⟨k, hk⟩) rfl
        (show r.val < 128 * k ∨ 128 * k + 128 ≤ r.val by omega)]
      exact read_dv k (by omega) (ix2 r q) (show r.val < 128 * k by omega)

/-- After `k` chunks the first `128 k` rows of the block of the gradient in the gates are done. -/
theorem read_dg : ∀ k : ℕ, k ≤ 17 → ∀ y : S2176x128.Idx, (y 0).val < 128 * k →
    arg7.view.read (Elt F) (arg7.view.writes (Elt F) G7 (pb_k0_t1 (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 G6 G7 G11 k).2.1) y
      = DG (arg1.view.read (Elt F) X_arg1) (arg2.view.read (Elt F) X_arg2) (arg4.view.read (Elt F) X_arg4) (arg10.view.read (Elt F) X_arg10) y
  | 0, _, y, hy => absurd hy (by omega)
  | k + 1, h, y, hy => by
    have hk : k < k0_t1_loop.trips := by rw [trips_eq]; omega
    obtain ⟨r, q, rfl⟩ : ∃ r q, y = ix2 r q := ⟨y 0, y 1, eq_ix2 y⟩
    have hy' : r.val < 128 * (k + 1) := hy
    rw [pb_k0_t1_succ (F := F) 𝒱 c bd i arg1 harg1 arg2 harg2 arg3 harg3 arg4 harg4 arg5 harg5 arg6 harg6 arg7 harg7 arg8 harg8 arg9 harg9 arg10 harg10 arg11 harg11 X_arg1 X_arg2 X_arg4 X_arg9 X_arg10 G6 G7 G11 ⟨k, hk⟩]
    dsimp only [tripL_k0_t1]
    rw [trip_dg, List.singleton_append]
    by_cases hr : r.val / 128 = k
    · rw [View.read_writes_cons_rows_of_mem arg7.view G7 (size := S128x128.size) (o := 128 * k) _ _ _ (ix2 r q)
        (ix2 ⟨r.val % 128, Nat.mod_lt _ (by decide)⟩ q) (k0_off2_eq ⟨k, hk⟩) (show r.val = 128 * k + r.val % 128 by omega) rfl]
      unfold da
      rw [win_eq, rows_eq, rows_eq, tap_eq]
      subst hr
      rfl
    · rw [View.read_writes_cons_rows_of_not_mem arg7.view G7 (size := S128x128.size) (o := 128 * k) (W := 128) _ _ _ (ix2 r q) (k0_off2_eq ⟨k, hk⟩) rfl
        (show r.val < 128 * k ∨ 128 * k + 128 ≤ r.val by omega)]
      exact read_dg k (by omega) (ix2 r q) (show r.val < 128 * k by omega)

end Cert.Conv

end
-- ==== Proof.ConvRun.lean ====
/-
  The gradient kernel's body run once, on whole buffers holding `v`, `gate`, `dc` and the taps, at any floats: the three
  outputs end at `DV`, `DG` and the reduced accumulator, as functions of those four blocks alone.
-/
module

public import proofs.«01_k».proof.Proof.ConvContent
public import proofs.«01_k».proof.Proof.Gen.KernelIdeal.Frame.Runs

@[expose] public section

set_option maxRecDepth 16384

noncomputable section

namespace Cert.Conv

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gated values under 32 rows of zeros. -/
def histV (v gate : Vec F S2176x128 .f32) : Vec F S2208x128 .f32 :=
  fun y => if h : 32 ≤ (y 0).val then k0_pay56 gate v (ix2 ⟨(y 0).val - 32, by have := idx2_lt0 y; omega⟩ (y 1))
    else k0_pay55 (ix2 ⟨(y 0).val, by omega⟩ (y 1))

/-- The cotangent above 32 rows of zeros. -/
def futV (dc : Vec F S2176x128 .f32) : Vec F S2208x128 .f32 :=
  fun y => if h : (y 0).val < 2176 then k0_pay57 dc (ix2 ⟨(y 0).val, h⟩ (y 1))
    else k0_pay58 (ix2 ⟨(y 0).val - 2176, by have := idx2_lt0 y; omega⟩ (y 1))

/-- The gradient in the taps: the accumulator after the 17 chunks, its eight partial sums added. -/
def DW (v gate dc : Vec F S2176x128 .f32) : Vec F S32x128 .f32 := k0_pay64 (accV (histV v gate) (futV dc) 17)

theorem read_hist (a : Memref sig .tc .vmem S2208x128 .f32) (f : BufTy.Contents (Elt F) a.view.ty) (v gate : Vec F S2176x128 .f32) :
    a.view.read (Elt F) (a.view.writes (Elt F) f
      [⟨Rect.unit (s := S2208x128) ![32, 0] S2176x128.size inb_S2208x128_S2176x128_32_0, k0_pay56 gate v⟩,
        ⟨Rect.unit (s := S2208x128) ![0, 0] S32x128.size inb_S2208x128_S32x128_0_0, k0_pay55⟩]) = histV v gate := by
  funext y
  obtain ⟨r, q, rfl⟩ : ∃ r q, y = ix2 r q := ⟨y 0, y 1, eq_ix2 y⟩
  unfold histV
  by_cases h : 32 ≤ r.val
  · rw [dif_pos (show 32 ≤ ((ix2 r q : S2208x128.Idx) 0).val from h)]
    exact View.read_writes_cons_rows_of_mem a.view f (size := S2176x128.size) (o := 32) _ _ _ (ix2 r q)
      (ix2 ⟨r.val - 32, by have := r.isLt; omega⟩ q) rfl (show r.val = 32 + (r.val - 32) by omega) rfl
  · rw [dif_neg (show ¬ 32 ≤ ((ix2 r q : S2208x128.Idx) 0).val from h)]
    refine (View.read_writes_cons_rows_of_not_mem a.view f (size := S2176x128.size) (o := 32) (W := 2176) _ _ _ (ix2 r q) rfl rfl
      (Or.inl (show r.val < 32 by omega))).trans ?_
    exact View.read_writes_cons_rows_of_mem a.view f (size := S32x128.size) (o := 0) _ _ _ (ix2 r q)
      (ix2 ⟨r.val, by omega⟩ q) rfl (show r.val = 0 + r.val by omega) rfl

theorem read_fut (a : Memref sig .tc .vmem S2208x128 .f32) (f : BufTy.Contents (Elt F) a.view.ty) (dc : Vec F S2176x128 .f32) :
    a.view.read (Elt F) (a.view.writes (Elt F) f
      [⟨Rect.unit (s := S2208x128) ![2176, 0] S32x128.size inb_S2208x128_S32x128_2176_0, k0_pay58⟩,
        ⟨Rect.unit (s := S2208x128) ![0, 0] S2176x128.size inb_S2208x128_S2176x128_0_0, k0_pay57 dc⟩]) = futV dc := by
  funext y
  obtain ⟨r, q, rfl⟩ : ∃ r q, y = ix2 r q := ⟨y 0, y 1, eq_ix2 y⟩
  unfold futV
  by_cases h : r.val < 2176
  · rw [dif_pos (show ((ix2 r q : S2208x128.Idx) 0).val < 2176 from h)]
    refine (View.read_writes_cons_rows_of_not_mem a.view f (size := S32x128.size) (o := 2176) (W := 32) _ _ _ (ix2 r q) rfl rfl
      (Or.inl (show r.val < 2176 by omega))).trans ?_
    exact View.read_writes_cons_rows_of_mem a.view f (size := S2176x128.size) (o := 0) _ _ _ (ix2 r q)
      (ix2 ⟨r.val, h⟩ q) rfl (show r.val = 0 + r.val by omega) rfl
  · rw [dif_neg (show ¬ ((ix2 r q : S2208x128.Idx) 0).val < 2176 from h)]
    exact View.read_writes_cons_rows_of_mem a.view f (size := S32x128.size) (o := 2176) _ _ _ (ix2 r q)
      (ix2 ⟨r.val - 2176, by have := r.isLt; omega⟩ q) rfl (show r.val = 2176 + (r.val - 2176) by omega) rfl

set_option maxHeartbeats 1000000 in
/-- The body on whole buffers. -/
theorem body_run (c : Dev nD) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S32x128 .f32) (harg4 : arg4.IsWhole) (arg6 : Memref sig .tc .vmem S2176x128 .bf16) (harg6 : arg6.IsWhole) (arg7 : Memref sig .tc .vmem S2176x128 .bf16) (harg7 : arg7.IsWhole) (arg8 : Memref sig .tc .vmem S32x128 .f32) (harg8 : arg8.IsWhole) (arg9 : Memref sig .tc .vmem S2208x128 .f32) (harg9 : arg9.IsWhole) (arg10 : Memref sig .tc .vmem S2208x128 .f32) (harg10 : arg10.IsWhole) (arg11 : Memref sig .tc .vmem S256x128 .f32) (harg11 : arg11.IsWhole)
    (x0 : Vec F S2176x128 .f32) (x1 : Vec F S2176x128 .f32) (x2 : Vec F S2176x128 .f32) (x3 : Vec F S32x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (DV x1 x3 (futV x2)) ∗ owns (c : Thread nD τ) arg7 fullShare (DG x0 x1 x3 (futV x2)) ∗ owns (c : Thread nD τ) arg8 fullShare (DW x0 x1 x2) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_conv_bwd i arg1 harg1 arg2 harg2 arg3 harg3 arg4 harg4 (Memref.whole main_arg3) (Memref.isWhole_whole _) arg6 harg6 arg7 harg7 arg8 harg8 arg9 harg9 arg10 harg10 arg11 harg11) K := by
  simp only [cc0_conv_bwd_eq_skeleton]; unfold cc0_conv_bwd_skel
  simp only [k0_part15_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have h9 : arg9.view.read (Elt F) (arg9.view.writes (Elt F) arg9.view.junk (body_run.sl.HS0_2 c arg1 harg1 arg2 harg2 x0 x1)) = histV x0 x1 := by
    unfold body_run.sl.HS0_2
    rw [View.readAt_full, View.readAt_full, harg1.read_unread, harg2.read_unread]
    exact read_hist arg9 _ x0 x1
  have h10 : arg10.view.read (Elt F) (arg10.view.writes (Elt F) arg10.view.junk (body_run.sl.HS1_2 c arg3 harg3 x2)) = futV x2 := by
    unfold body_run.sl.HS1_2
    rw [View.readAt_full, harg3.read_unread]
    exact read_fut arg10 _ x2
  have h11 : arg11.view.read (Elt F) (arg11.view.writes (Elt F) arg11.view.junk (body_run.sl.HS2_1 (F := F))) = k0_pay59 := by
    unfold body_run.sl.HS2_1
    exact View.read_writes_full arg11.view _ _ _ _
  have h17 : Scf.trips k0_t1_loop.lb k0_t1_loop.ub k0_t1_loop.st = 17 := trips_eq
  have h8 : body_run.sl.r c i arg1 harg1 arg2 harg2 arg3 harg3 arg4 harg4 arg6 harg6 arg7 harg7 arg8 harg8 arg9 harg9
            arg10 harg10 arg11 harg11 x0 x1 x2 x3 f4 f5 = DW x0 x1 x2 := by
    unfold body_run.sl.r DW
    refine congrArg k0_pay64 ?_
    unfold body_run.sl.v24 View.readCov
    rw [View.readAt_full, View.writes_append, h17, read_acc _ _ _ _ _ _ _ _ _ _ _ _ _ _ _ _ _ _ _ _ _ _ _ _ _ _ _ _ _ _ _ _ _ _ h11 17 le_rfl, h9, h10]
  isplitl [H4]
  · iexists _; isplitr; swap; · iexact H4
    ipureintro
    funext y
    rw [h17, read_dv _ _ _ _ _ _ _ _ _ _ _ _ _ _ _ _ _ _ _ _ _ _ _ _ _ _ _ _ _ _ _ _ _ _ 17 le_rfl y (idx2_lt0 y), h10, harg2.read_unread, harg4.read_unread]
  isplitl [H5]
  · iexists _; isplitr; swap; · iexact H5
    ipureintro
    funext y
    rw [h17, read_dg _ _ _ _ _ _ _ _ _ _ _ _ _ _ _ _ _ _ _ _ _ _ _ _ _ _ _ _ _ _ _ _ _ _ 17 le_rfl y (idx2_lt0 y), h10, harg1.read_unread, harg2.read_unread, harg4.read_unread]
  isplitl [H6]
  · iexists _; isplitr; swap; · iexact H6
    ipureintro
    rw [h8]
    exact View.read_writes_full arg8.view _ _ _ _
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Conv

end
-- ==== Proof.ConvFrame.lean ====
/-
  The gradient kernel's launch at any floats: the pipeline's data with each output block at the value `ConvRun` gives for
  the point's input blocks, the run of `main`, its frame, and each output array after the run block by block.
-/
module

public import proofs.«01_k».proof.Proof.ConvRun
public import Idealize.ShloMosaic.Lib.Claim
public import Idealize.ShloMosaic.Lib.Pipeline.Value

@[expose] public section

set_option maxRecDepth 16384

noncomputable section

namespace Cert.Conv

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data: every input block is left as fetched, every output block ends at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => DV (iblk m c 1 t) (iblk m c 3 t) (futV (iblk m c 2 t))
    | ⟨5, _⟩ => DG (iblk m c 0 t) (iblk m c 1 t) (iblk m c 3 t) (futV (iblk m c 2 t))
    | ⟨6, _⟩ => DW (iblk m c 0 t) (iblk m c 1 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = DV (iblk m c 1 t) (iblk m c 3 t) (futV (iblk m c 2 t)) := by dsimp only [dats]
theorem after_5 (c : Dev nD) (t : Fin cfg0.N) :
    (dats m 0 c).after 5 t = DG (iblk m c 0 t) (iblk m c 1 t) (iblk m c 3 t) (futV (iblk m c 2 t)) := by dsimp only [dats]
theorem after_6 (c : Dev nD) (t : Fin cfg0.N) :
    (dats m 0 c).after 6 t = DW (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every run ends with the arrays at what the data say and every counter at zero. -/
theorem run_launch : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_launch m ρ)))
    ((θ_run defs _ _).mono (fun _ h => h.2) (run_launch m ρ))

/-! ## The output arrays block by block -/

theorem idx_inj4 : ∀ t t' : Fin cfg0.N, win0_4.index t = win0_4.index t' → t = t' :=
  (by decide +kernel : ∀ t t' : Fin grid0.N, win0_4.index t = win0_4.index t' → t = t')
theorem idx_inj5 : ∀ t t' : Fin cfg0.N, win0_5.index t = win0_5.index t' → t = t' :=
  (by decide +kernel : ∀ t t' : Fin grid0.N, win0_5.index t = win0_5.index t' → t = t')
theorem idx_inj6 : ∀ t t' : Fin cfg0.N, win0_6.index t = win0_6.index t' → t = t' :=
  (by decide +kernel : ∀ t t' : Fin grid0.N, win0_6.index t = win0_6.index t' → t = t')

/-- Block `t` of the projections' gradient after the run is `DV` of the point's blocks. -/
theorem blocks4 (c : Dev nD) (t : Fin cfg0.N) (hf : (cfg0.win 4).flush t = true) :
    ((cfg0.win 4).blk t).view.read (Elt F) ((dats m 0 c).arrAt 4 cfg0.N)
      = (cfg0.win 4).cut (grid0.coords t) (DV (iblk m c 1 t) (iblk m c 3 t) (futV (iblk m c 2 t))) := by
  refine ((dats m 0 c).read_blk_arrAt_eq_flushed 4
    (fun t t' _ _ hne => (cfg0.win 4).disjoint_blk fun h => hne (idx_inj4 t t' h)) cfg0.N t t.isLt hf).trans ?_
  show (cfg0.win 4).cut (grid0.coords t) ((dats m 0 c).after 4 t) = _
  rw [after_4]

/-- Block `t` of the gates' gradient after the run is `DG` of the point's blocks. -/
theorem blocks5 (c : Dev nD) (t : Fin cfg0.N) (hf : (cfg0.win 5).flush t = true) :
    ((cfg0.win 5).blk t).view.read (Elt F) ((dats m 0 c).arrAt 5 cfg0.N)
      = (cfg0.win 5).cut (grid0.coords t) (DG (iblk m c 0 t) (iblk m c 1 t) (iblk m c 3 t) (futV (iblk m c 2 t))) := by
  refine ((dats m 0 c).read_blk_arrAt_eq_flushed 5
    (fun t t' _ _ hne => (cfg0.win 5).disjoint_blk fun h => hne (idx_inj5 t t' h)) cfg0.N t t.isLt hf).trans ?_
  show (cfg0.win 5).cut (grid0.coords t) ((dats m 0 c).after 5 t) = _
  rw [after_5]

/-- Block `t` of the taps' gradient after the run is `DW` of the point's blocks. -/
theorem blocks6 (c : Dev nD) (t : Fin cfg0.N) (hf : (cfg0.win 6).flush t = true) :
    ((cfg0.win 6).blk t).view.read (Elt F) ((dats m 0 c).arrAt 6 cfg0.N)
      = (cfg0.win 6).cut (grid0.coords t) (DW (iblk m c 0 t) (iblk m c 1 t) (iblk m c 2 t)) := by
  refine ((dats m 0 c).read_blk_arrAt_eq_flushed 6
    (fun t t' _ _ hne => (cfg0.win 6).disjoint_blk fun h => hne (idx_inj6 t t' h)) cfg0.N t t.isLt hf).trans ?_
  show (cfg0.win 6).cut (grid0.coords t) ((dats m 0 c).after 6 t) = _
  rw [after_6]

/-- A column of the projections' gradient that no point writes keeps its contents. -/
theorem entry4 (c : Dev nD) (i : S2176x7168.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the run each result is the data's array. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N :=
  (θ_run defs _ _).mono (fun _ h c => ⟨(h.1 c).1 4, (h.1 c).1 5, (h.1 c).1 6⟩) (run_launch m ρ)

end Cert.Conv

end
-- ==== Proof.ConvValue.lean ====
/-
  The gradient kernel's three blocks over the extended reals, read at an index: the gradients in the values and the
  gates are one sum over the 31 taps at each row, and the gradient in a tap is one sum over all the rows. Regrouping
  these sums uses only that addition is commutative and associative, so nothing is asked of the inputs.
-/
module

public import proofs.«01_k».proof.Proof.ConvRun
public import Idealize.ShloMosaic.Lib.KernelVsHost
public import Idealize.ShloMosaic.Lib.IdealHost
public import Idealize.ShloMosaic.PureOps.Ideal.Laws
public import Idealize.ShloMosaic.Lib.Pointwise

@[expose] public section

set_option maxRecDepth 16384

noncomputable section

namespace Cert.Conv

open Cert.KernelIdeal Cert.KernelIdeal.Gen
open Idealize.ShloMosaic hiding ix1 ix2 ix3 eq_ix1 eq_ix2 eq_ix3
open Idealize.ShloMosaic.TcCoe Idealize.ShloMosaic.Tactic Idealize.ShloMosaic.ValueIdx
open Idealize.SL Idealize.SL.Sem

/-- `a` runs of `b` consecutive terms are the `a * b` terms. -/
theorem sum_runs (g : ℕ → EReal) (b : ℕ) : ∀ a, ∑ i ∈ Finset.range a, ∑ j ∈ Finset.range b, g (b * i + j) = ∑ t ∈ Finset.range (a * b), g t
  | 0 => by simp
  | a + 1 => by
    rw [Finset.sum_range_succ, sum_runs g b a, Nat.succ_mul, Finset.sum_range_add]
    simp only [Nat.mul_comm a b]

/-- An entry of the cotangent, zero past its last row. -/
def dcE (dc : Vec Ideal S2176x128 .f32) (R : ℕ) (q : Fin 128) : EReal := if h : R < 2176 then dc (ix2 ⟨R, h⟩ q) else 0

/-- An entry of the gated values under 32 rows of zeros. -/
def histE (v gate : Vec Ideal S2176x128 .f32) (R : ℕ) (q : Fin 128) : EReal :=
  if h : 32 ≤ R ∧ R < 2208 then v (ix2 ⟨R - 32, by omega⟩ q) * Ideal.logistic (gate (ix2 ⟨R - 32, by omega⟩ q)) else 0

theorem futV_apply (dc : Vec Ideal S2176x128 .f32) (R : ℕ) (hR : R < 2208) (q : Fin 128) :
    futV dc (ix2 ⟨R, hR⟩ q) = dcE dc R q := by
  unfold futV dcE
  by_cases h : R < 2176
  · rw [dif_pos h, dif_pos (show ((ix2 (⟨R, hR⟩ : Fin 2208) q : S2208x128.Idx) 0).val < 2176 from h)]
    unfold k0_pay57
    exact congrFun (shapeCast_id dc _) _
  · rw [dif_neg h, dif_neg (show ¬ ((ix2 (⟨R, hR⟩ : Fin 2208) q : S2208x128.Idx) 0).val < 2176 from h)]
    unfold k0_pay58
    exact (congrFun (shapeCast_id _ _) _).trans Ideal.ofBits_zero_f32

theorem histV_apply (v gate : Vec Ideal S2176x128 .f32) (R : ℕ) (hR : R < 2208) (q : Fin 128) :
    histV v gate (ix2 ⟨R, hR⟩ q) = histE v gate R q := by
  unfold histV histE
  by_cases h : 32 ≤ R
  · rw [dif_pos (show 32 ≤ ((ix2 (⟨R, hR⟩ : Fin 2208) q : S2208x128.Idx) 0).val from h), dif_pos (show 32 ≤ R ∧ R < 2208 from ⟨h, hR⟩)]
    unfold k0_pay56
    exact congrFun (shapeCast_id _ _) _
  · rw [dif_neg (show ¬ 32 ≤ ((ix2 (⟨R, hR⟩ : Fin 2208) q : S2208x128.Idx) 0).val from h), dif_neg (show ¬ (32 ≤ R ∧ R < 2208) from fun c => h c.1)]
    unfold k0_pay55
    exact (congrFun (shapeCast_id _ _) _).trans Ideal.ofBits_zero_f32

/-! ## The sum over the taps -/

theorem rot_val (n r : ℕ) (hn : n < 31) (hr : r < 128) :
    (r + 160 - (BitVec.ofNat 32 ((130 + n) % 160)).toNat % 160) % 160 = r + 30 - n := by
  rw [BitVec.toNat_ofNat]; omega

theorem daTerm_apply (w : Vec Ideal S1x128 .f32) (fut : Vec Ideal S160x128 .f32) (n : ℕ) (hn : n < 31) (r q : Fin 128) :
    daTerm (BitVec.ofNat 32 ((130 + n) % 160)) w fut (ix2 r q)
      = w (ix2 0 q) * fut (ix2 ⟨r.val + 30 - n, by have := r.isLt; omega⟩ q) := by
  unfold daTerm
  refine congrArg₂ (· * ·) ?_ ?_
  · refine (broadcastTo_apply _ _ _ (ix2 (0 : Fin 1) q) (fun a => match a with
      | ⟨0, _⟩ => rfl
      | ⟨1, _⟩ => rfl)).trans ?_
    exact congrFun (shapeCast_id w _) _
  · refine (extractStridedSlice_apply ![0, 0] _ _ (ix2 r q) (ix2 (⟨r.val, by have := r.isLt; omega⟩ : Fin 160) q) (fun a => match a with
      | ⟨0, _⟩ => by show r.val = 0 + r.val; omega
      | ⟨1, _⟩ => by show q.val = 0 + q.val; omega)).trans ?_
    refine dynamicRotate_apply (s := S160x128) 0 _ fut _ _ _ (Fin.forall_fin_two.mpr ⟨?_, ?_⟩)
    · rw [if_pos rfl]; exact (rot_val n r.val hn r.isLt).symm
    · rw [if_neg (by decide)]

theorem daSum_apply (w : ℕ → Vec Ideal S1x128 .f32) (fut : Vec Ideal S160x128 .f32) (r q : Fin 128) (f : ℕ → EReal)
    (hf : ∀ R (hR : R < 160), fut (ix2 ⟨R, hR⟩ q) = f R) : ∀ n, n ≤ 31 →
    daSum w fut n (ix2 r q) = ∑ j ∈ Finset.range n, w j (ix2 0 q) * f (r.val + 30 - j)
  | 0, _ => Ideal.ofBits_zero_f32
  | n + 1, h => by
    rw [Finset.sum_range_succ, ← daSum_apply w fut r q f hf n (by omega), ← hf _ (by have := r.isLt; omega),
      ← daTerm_apply (w n) fut n (by omega) r q]
    rfl

/-- The gradient in the gated values at row `r`: over the taps, the tap times the cotangent the tap's lag below. -/
def daE (w : Vec Ideal S32x128 .f32) (dc : Vec Ideal S2176x128 .f32) (r : ℕ) (q : Fin 128) : EReal :=
  ∑ n ∈ Finset.range 31, tapV w n (ix2 0 q) * dcE dc (r + 30 - n) q

theorem daV_apply (w : Vec Ideal S32x128 .f32) (dc : Vec Ideal S2176x128 .f32) (k : ℕ) (hk : k < 17) (r q : Fin 128) :
    daV w (futV dc) k hk (ix2 r q) = daE w dc (128 * k + r.val) q := by
  unfold daV
  rw [daSum_apply (tapV w) (winV (futV dc) k hk) r q (fun R => dcE dc (128 * k + R) q)
    (fun R hR => futV_apply dc (128 * k + R) (by omega) q) 31 le_rfl]
  refine Finset.sum_congr rfl fun n hn => ?_
  have : n < 31 := Finset.mem_range.mp hn
  show _ * dcE dc (128 * k + (r.val + 30 - n)) q = _ * dcE dc (128 * k + r.val + 30 - n) q
  rw [show 128 * k + (r.val + 30 - n) = 128 * k + r.val + 30 - n by omega]

theorem rowsV_apply (x : Vec Ideal S2176x128 .f32) (r : Fin 2176) (q : Fin 128) (hk : r.val / 128 < 17) :
    rowsV x (r.val / 128) hk (ix2 ⟨r.val % 128, by omega⟩ q) = x (ix2 r q) :=
  congrArg x (congrArg (fun a => ix2 a q) (Fin.ext (show 128 * (r.val / 128) + r.val % 128 = r.val by omega)))

theorem DV_apply (gate : Vec Ideal S2176x128 .f32) (w : Vec Ideal S32x128 .f32) (dc : Vec Ideal S2176x128 .f32) (r : Fin 2176) (q : Fin 128) :
    DV gate w (futV dc) (ix2 r q) = daE w dc r.val q * Ideal.logistic (gate (ix2 r q)) := by
  have hk : r.val / 128 < 17 := by have := r.isLt; omega
  refine congrArg₂ (· * ·) ((daV_apply w dc (r.val / 128) hk ⟨r.val % 128, by omega⟩ q).trans ?_)
    (congrArg Ideal.logistic (rowsV_apply gate r q hk))
  rw [show 128 * (r.val / 128) + (⟨r.val % 128, by omega⟩ : Fin 128).val = r.val from Nat.div_add_mod _ _]

theorem DG_apply (v gate : Vec Ideal S2176x128 .f32) (w : Vec Ideal S32x128 .f32) (dc : Vec Ideal S2176x128 .f32) (r : Fin 2176) (q : Fin 128) :
    DG v gate w (futV dc) (ix2 r q) = daE w dc r.val q * v (ix2 r q) * Ideal.logistic (gate (ix2 r q)) * (1 - Ideal.logistic (gate (ix2 r q))) := by
  have hk : r.val / 128 < 17 := by have := r.isLt; omega
  have hg := congrArg Ideal.logistic (rowsV_apply gate r q hk)
  refine congrArg₂ (· * ·) (congrArg₂ (· * ·) (congrArg₂ (· * ·) ((daV_apply w dc (r.val / 128) hk ⟨r.val % 128, by omega⟩ q).trans ?_)
    (rowsV_apply v r q hk)) hg) (congrArg₂ (· - ·) Ideal.ofBits_one_f32 hg)
  rw [show 128 * (r.val / 128) + (⟨r.val % 128, by omega⟩ : Fin 128).val = r.val from Nat.div_add_mod _ _]

/-! ## The sum over the rows -/

/-- One row's part of tap `n`'s gradient. -/
def dwE (v gate dc : Vec Ideal S2176x128 .f32) (n : ℕ) (q : Fin 128) (t : ℕ) : EReal := dcE dc t q * histE v gate (t + 2 + n) q

theorem dwPart_apply (hist fut : Vec Ideal S160x128 .f32) (n : ℕ) (hn : n < 31) (s : Fin 8) (q : Fin 128) :
    dwPart (BitVec.ofNat 32 (30 - n)) hist fut (ix2 s q)
      = ∑ i : Fin 16, fut (ix2 ⟨8 * i.val + s.val, by have := i.isLt; have := s.isLt; omega⟩ q)
          * hist (ix2 ⟨8 * i.val + s.val + 2 + n, by have := i.isLt; have := s.isLt; omega⟩ q) := by
  unfold dwPart
  refine (Ideal.multiReduction_add_single _ _ reduces_S16x8x128_S8x128 _ _ _).trans ?_
  refine Finset.sum_congr rfl fun i _ => ?_
  have hi : i.val < 16 := i.isLt
  have hs := s.isLt
  refine (shapeCast_apply _ _ _ (ix2 ⟨8 * i.val + s.val, by omega⟩ q) ?_).trans ?_
  · rewrite [Shape.rowMajor_val_two, Shape.rowMajor_val_three]
    show (8 * i.val + s.val) * 128 + q.val = (i.val * 8 + s.val) * 128 + q.val
    rw [Nat.mul_comm 8]
  · refine congrArg₂ (· * ·) ?_ ?_
    · exact extractStridedSlice_apply ![0, 0] fut _ _ _ (fun a => match a with
        | ⟨0, _⟩ => by show 8 * i.val + s.val = 0 + (8 * i.val + s.val); omega
        | ⟨1, _⟩ => by show q.val = 0 + q.val; omega)
    · refine (extractStridedSlice_apply ![32, 0] _ _ _ (ix2 ⟨32 + (8 * i.val + s.val), by omega⟩ q) (fun a => match a with
        | ⟨0, _⟩ => rfl
        | ⟨1, _⟩ => by show q.val = 0 + q.val; omega)).trans ?_
      refine dynamicRotate_apply (s := S160x128) 0 _ hist _ _ _ (Fin.forall_fin_two.mpr ⟨?_, ?_⟩)
      · rw [if_pos rfl]
        show 8 * i.val + s.val + 2 + n = (32 + (8 * i.val + s.val) + 160 - (BitVec.ofNat 32 (30 - n)).toNat % 160) % 160
        rw [BitVec.toNat_ofNat]; omega
      · rw [if_neg (by decide)]

/-- The accumulator's row `s` of tap `n` after `K` chunks. -/
theorem accV_apply (v gate dc : Vec Ideal S2176x128 .f32) (n : ℕ) (hn : n < 31) (s : Fin 8) (q : Fin 128) : ∀ K, K ≤ 17 →
    accV (histV v gate) (futV dc) K (ix2 ⟨8 * n + s.val, by have := s.isLt; omega⟩ q)
      = ∑ k ∈ Finset.range K, ∑ i ∈ Finset.range 16, dwE v gate dc n q (128 * k + (8 * i + s.val))
  | 0, _ => by
    rw [Finset.sum_range_zero]
    unfold accV k0_pay59
    exact (congrFun (shapeCast_id _ _) _).trans Ideal.ofBits_zero_f32
  | K + 1, h => by
    have hK : K < 17 := by omega
    have hs := s.isLt
    rw [accV, dif_pos hK, Finset.sum_range_succ, ← accV_apply v gate dc n hn s q K (by omega), Finset.sum_range]
    unfold accUpd
    have e1 : (8 * n + s.val) / 8 = n := by omega
    have e2 : (8 * n + s.val) % 8 = s.val := by omega
    rw [if_pos (show (8 * n + s.val) / 8 < 31 by omega)]
    unfold dwUpd
    refine (congrFun (shapeCast_id _ _) _).trans ?_
    refine congrArg₂ (· + ·) ?_ ?_
    · unfold octet
      refine congrArg (accV (histV v gate) (futV dc) K) (congrArg (fun a => ix2 a q) (Fin.ext ?_))
      show 8 * ((8 * n + s.val) / 8) + (8 * n + s.val) % 8 = 8 * n + s.val
      omega
    · show dwPart (BitVec.ofNat 32 (30 - (8 * n + s.val) / 8)) (winV (histV v gate) K hK) (winV (futV dc) K hK)
        (ix2 ⟨(8 * n + s.val) % 8, by omega⟩ q) = _
      rw [e1, show (⟨(8 * n + s.val) % 8, by omega⟩ : Fin 8) = s from Fin.ext e2,
        dwPart_apply (winV (histV v gate) K hK) (winV (futV dc) K hK) n hn s q]
      refine Finset.sum_congr rfl fun i _ => congrArg₂ (· * ·) ?_ ?_
      · exact futV_apply dc (128 * K + (8 * i.val + s.val)) (by have := i.isLt; omega) q
      · refine (histV_apply v gate (128 * K + (8 * i.val + s.val + 2 + n)) (by have := i.isLt; omega) q).trans ?_
        rw [show 128 * K + (8 * i.val + s.val + 2 + n) = 128 * K + (8 * i.val + s.val) + 2 + n by omega]

/-- No chunk touches the accumulator's rows past the last tap. -/
theorem accV_last (hist fut : Vec Ideal S2208x128 .f32) (s : Fin 8) (q : Fin 128) : ∀ K,
    accV hist fut K (ix2 ⟨8 * 31 + s.val, by have := s.isLt; omega⟩ q) = 0
  | 0 => by
    unfold accV k0_pay59
    exact (congrFun (shapeCast_id _ _) _).trans Ideal.ofBits_zero_f32
  | K + 1 => by
    rw [accV]
    by_cases hK : K < 17
    · rw [dif_pos hK]
      unfold accUpd
      rw [if_neg (show ¬ (8 * 31 + s.val) / 8 < 31 by omega)]
      exact accV_last hist fut s q K
    · rw [dif_neg hK]; exact accV_last hist fut s q K

theorem pay64_apply (A : Vec Ideal S256x128 .f32) (n : Fin 32) (q : Fin 128) :
    k0_pay64 A (ix2 n q) = ∑ s : Fin 8, A (ix2 ⟨8 * n.val + s.val, by have := n.isLt; have := s.isLt; omega⟩ q) := by
  unfold k0_pay64
  refine (Ideal.multiReduction_add_single _ _ reduces_S32x8x128_S32x128 _ _ _).trans ?_
  refine Finset.sum_congr rfl fun s _ => shapeCast_apply _ _ _ _ ?_
  rewrite [Shape.rowMajor_val_two, Shape.rowMajor_val_three]
  show (8 * n.val + s.val) * 128 + q.val = (n.val * 8 + s.val) * 128 + q.val
  omega

theorem DW_apply (v gate dc : Vec Ideal S2176x128 .f32) (n : Fin 32) (q : Fin 128) :
    DW v gate dc (ix2 n q) = if n.val < 31 then ∑ t ∈ Finset.range 2176, dwE v gate dc n.val q t else 0 := by
  unfold DW
  rw [pay64_apply]
  by_cases hn : n.val < 31
  · rw [if_pos hn, Finset.sum_congr rfl fun s _ => accV_apply v gate dc n.val hn s q 17 le_rfl,
      ← Finset.sum_range (fun s => ∑ k ∈ Finset.range 17, ∑ i ∈ Finset.range 16, dwE v gate dc n.val q (128 * k + (8 * i + s))),
      Finset.sum_comm]
    rw [show 2176 = 17 * 128 from rfl, ← sum_runs (dwE v gate dc n.val q) 128 17]
    refine Finset.sum_congr rfl fun k _ => ?_
    rw [Finset.sum_comm]
    exact sum_runs (fun j => dwE v gate dc n.val q (128 * k + j)) 8 16
  · have e : n = ⟨31, by decide⟩ := Fin.ext (by have := n.isLt; show n.val = 31; omega)
    subst e
    rw [if_neg hn]
    exact Finset.sum_eq_zero fun s _ => accV_last _ _ s q 17

end Cert.Conv
-- ==== Proof.ConvJoin.lean ====
/-
  The gradient kernel's results over the extended reals, read at an index of the whole arrays: column `q` of a block at
  point `t` is column `128 t + q` of its array, so each result is one formula in the arguments' entries.
-/
module

public import proofs.«01_k».proof.Proof.ConvFrame
public import proofs.«01_k».proof.Proof.ConvValue
public import Idealize.ShloMosaic.Lib.Pipeline.ValueKit

@[expose] public section

set_option maxRecDepth 16384

noncomputable section

namespace Cert.Conv

open Cert.KernelIdeal Cert.KernelIdeal.Gen
open Idealize.ShloMosaic hiding ix1 ix2 ix3 eq_ix1 eq_ix2 eq_ix3
open Idealize.ShloMosaic.TcCoe Idealize.ShloMosaic.Tactic Idealize.ShloMosaic.ValueIdx
open Idealize.SL Idealize.SL.Sem

variable (m : (ℓ : Loc nD τ sig) → Buf (Elt Ideal) ℓ)

/-! ## The windows' places -/

theorem index_at : ∀ t : Fin cfg0.N, win0_0.index t = ![0, 8 + t.val] ∧ win0_1.index t = ![0, 16 + t.val]
    ∧ win0_2.index t = ![0, t.val] ∧ win0_3.index t = ![0, t.val] ∧ win0_4.index t = ![0, 8 + t.val]
    ∧ win0_5.index t = ![0, t.val] ∧ win0_6.index t = ![0, t.val] :=
  (by decide +kernel : ∀ t : Fin grid0.N, win0_0.index t = ![0, 8 + t.val] ∧ win0_1.index t = ![0, 16 + t.val]
    ∧ win0_2.index t = ![0, t.val] ∧ win0_3.index t = ![0, t.val] ∧ win0_4.index t = ![0, 8 + t.val]
    ∧ win0_5.index t = ![0, t.val] ∧ win0_6.index t = ![0, t.val])

theorem flush_at : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

theorem point_lt (t : Fin cfg0.N) : t.val < 8 := t.isLt

/-- A column of an argument: column `q'` of point `t`'s block. -/
def col (t : Fin cfg0.N) (q : Fin 128) : Fin 1024 := ⟨128 * t.val + q.val, by have := point_lt t; omega⟩

/-- Every column is some block's. -/
theorem exists_col (q : Fin 1024) : ∃ t q', q = col t q' :=
  ⟨⟨q.val / 128, by have := q.isLt; show q.val / 128 < 8; omega⟩, ⟨q.val % 128, by omega⟩,
    Fin.ext (show q.val = 128 * (q.val / 128) + q.val % 128 by omega)⟩

/-! ## What the region finds -/

theorem V_taps (c : Dev nD) : V m c main_v0
    = pad S32x1024 ![0, 0] ![1, 0] ![0, 0] (m ((c : Thread nD τ).loc main_arg2) : Vec Ideal S31x1024 .f32) (sitofp .f32 (constantI S_ 32 0#32) : FVec Ideal S_ .f32)
        pads_S31x1024_S32x1024_010_000 h_S_ := rfl

theorem V_out (c : Dev nD) : V m c main_v1_0 = m ((c : Thread nD τ).loc main_arg3) := rfl

/-! ## The formulas -/

/-- The gate's logistic. -/
def sgG (proj : Vec Ideal S2176x7168 .f32) (r : Fin 2176) (q : Fin 1024) : EReal :=
  Ideal.logistic (proj (ix2 r ⟨2048 + q.val, by have := q.isLt; omega⟩))

/-- The value. -/
def vG (proj : Vec Ideal S2176x7168 .f32) (r : Fin 2176) (q : Fin 1024) : EReal :=
  proj (ix2 r ⟨1024 + q.val, by have := q.isLt; omega⟩)

/-- The gradient in the gated values. -/
def daG (w : Vec Ideal S31x1024 .f32) (dc : Vec Ideal S2176x1024 .f32) (r : Fin 2176) (q : Fin 1024) : EReal :=
  ∑ n ∈ Finset.range 31, if h : n < 31 ∧ n ≤ r.val + 30 ∧ r.val + 30 - n < 2176 then
    w (ix2 ⟨n, h.1⟩ q) * dc (ix2 ⟨r.val + 30 - n, h.2.2⟩ q) else 0

/-- The gated value at row `R - 30`, zero above the first row. -/
def aG (proj : Vec Ideal S2176x7168 .f32) (R : ℕ) (hR : R < 2206) (q : Fin 1024) : EReal :=
  if h : 30 ≤ R then vG proj ⟨R - 30, by omega⟩ q * sgG proj ⟨R - 30, by omega⟩ q else 0

/-- The gradient in tap `n`. -/
def dwG (proj : Vec Ideal S2176x7168 .f32) (dc : Vec Ideal S2176x1024 .f32) (n : ℕ) (hn : n < 31) (q : Fin 1024) : EReal :=
  ∑ t : Fin 2176, dc (ix2 t q) * aG proj (n + t.val) (by have := t.isLt; omega) q

/-! ## The input blocks -/

theorem blk_v (c : Dev nD) (t : Fin cfg0.N) (r : Fin 2176) (q : Fin 128) :
    iblk m c 0 t (ix2 r q) = vG (m ((c : Thread nD τ).loc main_arg0)) r (col t q) := by
  unfold vG
  rw [← V_main_arg0 m c]
  refine congrArg (V m c main_arg0) (funext fun a => Fin.ext ?_)
  match a with
  | ⟨0, _⟩ => show win0_0.index t 0 * 2176 + 1 * r.val = r.val; rw [(index_at t).1]; show 0 * 2176 + 1 * r.val = r.val; omega
  | ⟨1, _⟩ => show win0_0.index t 1 * 128 + 1 * q.val = 1024 + (128 * t.val + q.val); rw [(index_at t).1]; show (8 + t.val) * 128 + 1 * q.val = _; omega

theorem blk_gate (c : Dev nD) (t : Fin cfg0.N) (r : Fin 2176) (q : Fin 128) :
    Ideal.logistic (iblk m c 1 t (ix2 r q)) = sgG (m ((c : Thread nD τ).loc main_arg0)) r (col t q) := by
  unfold sgG
  rw [← V_main_arg0 m c]
  refine congrArg (fun i => Ideal.logistic (V m c main_arg0 i)) (funext fun a => Fin.ext ?_)
  match a with
  | ⟨0, _⟩ => show win0_1.index t 0 * 2176 + 1 * r.val = r.val; rw [(index_at t).2.1]; show 0 * 2176 + 1 * r.val = r.val; omega
  | ⟨1, _⟩ => show win0_1.index t 1 * 128 + 1 * q.val = 2048 + (128 * t.val + q.val); rw [(index_at t).2.1]; show (16 + t.val) * 128 + 1 * q.val = _; omega

theorem blk_dc (c : Dev nD) (t : Fin cfg0.N) (r : Fin 2176) (q : Fin 128) :
    iblk m c 2 t (ix2 r q) = m ((c : Thread nD τ).loc main_arg1) (ix2 r (col t q)) := by
  rw [← V_main_arg1 m c]
  refine congrArg (V m c main_arg1) (funext fun a => Fin.ext ?_)
  match a with
  | ⟨0, _⟩ => show win0_2.index t 0 * 2176 + 1 * r.val = r.val; rw [(index_at t).2.2.1]; show 0 * 2176 + 1 * r.val = r.val; omega
  | ⟨1, _⟩ => show win0_2.index t 1 * 128 + 1 * q.val = 128 * t.val + q.val; rw [(index_at t).2.2.1]; show t.val * 128 + 1 * q.val = _; omega

theorem blk_taps (c : Dev nD) (t : Fin cfg0.N) (n : Fin 31) (q : Fin 128) :
    iblk m c 3 t (ix2 ⟨n.val, by have := n.isLt; omega⟩ q)
      = m ((c : Thread nD τ).loc main_arg2) (ix2 n (col t q)) := by
  have h : iblk m c 3 t (ix2 ⟨n.val, by have := n.isLt; omega⟩ q)
      = V m c main_v0 (ix2 ⟨n.val, by have := n.isLt; omega⟩ (col t q)) := by
    refine congrArg (V m c main_v0) (funext fun a => Fin.ext ?_)
    match a with
    | ⟨0, _⟩ => show win0_3.index t 0 * 32 + 1 * n.val = n.val; rw [(index_at t).2.2.2.1]; show 0 * 32 + 1 * n.val = n.val; omega
    | ⟨1, _⟩ => show win0_3.index t 1 * 128 + 1 * q.val = 128 * t.val + q.val; rw [(index_at t).2.2.2.1]; show t.val * 128 + 1 * q.val = _; omega
  rw [h, V_taps]
  refine pad_apply_of_inside _ _ _ _ _ _ h_S_ _ _ (Fin.forall_fin_two.mpr ⟨?_, ?_⟩)
  · show n.val = 0 + n.val * (0 + 1); omega
  · show 128 * t.val + q.val = 0 + (128 * t.val + q.val) * (0 + 1); omega

/-! ## The output blocks -/

theorem daE_blk (c : Dev nD) (t : Fin cfg0.N) (r : Fin 2176) (q : Fin 128) :
    daE (iblk m c 3 t) (iblk m c 2 t) r.val q
      = daG (m ((c : Thread nD τ).loc main_arg2)) (m ((c : Thread nD τ).loc main_arg1)) r (col t q) := by
  refine Finset.sum_congr rfl fun n hn => ?_
  have hn : n < 31 := Finset.mem_range.mp hn
  unfold tapV dcE
  rw [dif_pos hn]
  by_cases h : r.val + 30 - n < 2176
  · rw [dif_pos h, dif_pos ⟨hn, by omega, h⟩]
    exact congrArg₂ (· * ·) (blk_taps m c t ⟨n, hn⟩ q) (blk_dc m c t _ q)
  · rw [dif_neg h, dif_neg fun c => h c.2.2]
    exact mul_zero _

theorem dw_blk (c : Dev nD) (t : Fin cfg0.N) (n : ℕ) (hn : n < 31) (q : Fin 128) :
    ∑ s ∈ Finset.range 2176, dwE (iblk m c 0 t) (iblk m c 1 t) (iblk m c 2 t) n q s
      = dwG (m ((c : Thread nD τ).loc main_arg0)) (m ((c : Thread nD τ).loc main_arg1)) n hn (col t q) := by
  rw [Finset.sum_range]
  refine Finset.sum_congr rfl fun s _ => congrArg₂ (· * ·) ?_ ?_
  · unfold dcE
    rw [dif_pos s.isLt]
    exact blk_dc m c t s q
  · have hs := s.isLt
    unfold histE aG
    by_cases h : 30 ≤ n + s.val
    · rw [dif_pos (show 32 ≤ s.val + 2 + n ∧ s.val + 2 + n < 2208 by omega), dif_pos h, blk_v, blk_gate]
      rw [show (⟨s.val + 2 + n - 32, by omega⟩ : Fin 2176) = ⟨n + s.val - 30, by omega⟩ from Fin.ext (by
        show s.val + 2 + n - 32 = n + s.val - 30; omega)]
    · rw [dif_neg (show ¬ (32 ≤ s.val + 2 + n ∧ s.val + 2 + n < 2208) by omega), dif_neg h]

theorem out4 (c : Dev nD) (r : Fin 2176) (q : Fin 1024) :
    (dats m 0 c).arrAt 4 cfg0.N (ix2 r ⟨1024 + q.val, by have := q.isLt; omega⟩ : S2176x7168.Idx)
      = daG (m ((c : Thread nD τ).loc main_arg2)) (m ((c : Thread nD τ).loc main_arg1)) r q
        * sgG (m ((c : Thread nD τ).loc main_arg0)) r q := by
  obtain ⟨t, q', rfl⟩ := exists_col q
  refine Eq.trans ?_ ((congrFun (blocks4 m c t (flush_at t).1) (ix2 r q' : S2176x128.Idx)).trans ?_)
  · refine congrArg ((dats m 0 c).arrAt 4 cfg0.N) (funext fun a => Fin.ext ?_)
    match a with
    | ⟨0, _⟩ => show r.val = win0_4.index t 0 * 2176 + 1 * r.val; rw [(index_at t).2.2.2.2.1]; show r.val = 0 * 2176 + 1 * r.val; omega
    | ⟨1, _⟩ =>
      show 1024 + (128 * t.val + q'.val) = win0_4.index t 1 * 128 + 1 * q'.val
      rw [(index_at t).2.2.2.2.1]; show 1024 + (128 * t.val + q'.val) = (8 + t.val) * 128 + 1 * q'.val; omega
  · refine (DV_apply _ _ _ r q').trans ?_
    rw [daE_blk, blk_gate]

theorem out4_else (c : Dev nD) (r : Fin 2176) (q : Fin 7168) (hq : q.val < 1024 ∨ 2048 ≤ q.val) :
    (dats m 0 c).arrAt 4 cfg0.N (ix2 r q : S2176x7168.Idx) = m ((c : Thread nD τ).loc main_arg3) (ix2 r q) := by
  rw [entry4 m c (ix2 r q) fun t _ hm => ?_]
  · exact congrFun (V_out m c) _
  · have hm' : (ix2 r q : S2176x7168.Idx) ∈ ((View.whole main_v1_0).slice (win0_4.rect t)).set := hm
    rw [View.set_slice_whole] at hm'
    have h : win0_4.index t 1 * 128 ≤ q.val ∧ q.val < win0_4.index t 1 * 128 + 128 :=
      (Pipeline.Window.mem_rect_iff (w := win0_4) t (ix2 r q : S2176x7168.Idx)).mp hm' 1
    rw [(index_at t).2.2.2.2.1] at h
    have h' : (8 + t.val) * 128 ≤ q.val ∧ q.val < (8 + t.val) * 128 + 128 := h
    have := point_lt t
    omega

theorem out5 (c : Dev nD) (r : Fin 2176) (q : Fin 1024) :
    (dats m 0 c).arrAt 5 cfg0.N (ix2 r q : S2176x1024.Idx)
      = daG (m ((c : Thread nD τ).loc main_arg2)) (m ((c : Thread nD τ).loc main_arg1)) r q
        * vG (m ((c : Thread nD τ).loc main_arg0)) r q * sgG (m ((c : Thread nD τ).loc main_arg0)) r q
        * (1 - sgG (m ((c : Thread nD τ).loc main_arg0)) r q) := by
  obtain ⟨t, q', rfl⟩ := exists_col q
  refine Eq.trans ?_ ((congrFun (blocks5 m c t (flush_at t).2.1) (ix2 r q' : S2176x128.Idx)).trans ?_)
  · refine congrArg ((dats m 0 c).arrAt 5 cfg0.N) (funext fun a => Fin.ext ?_)
    match a with
    | ⟨0, _⟩ => show r.val = win0_5.index t 0 * 2176 + 1 * r.val; rw [(index_at t).2.2.2.2.2.1]; show r.val = 0 * 2176 + 1 * r.val; omega
    | ⟨1, _⟩ =>
      show 128 * t.val + q'.val = win0_5.index t 1 * 128 + 1 * q'.val
      rw [(index_at t).2.2.2.2.2.1]; show 128 * t.val + q'.val = t.val * 128 + 1 * q'.val; omega
  · refine (DG_apply _ _ _ _ r q').trans ?_
    rw [daE_blk, blk_gate, blk_v]

theorem out6 (c : Dev nD) (n : Fin 32) (q : Fin 1024) :
    (dats m 0 c).arrAt 6 cfg0.N (ix2 n q : S32x1024.Idx)
      = if h : n.val < 31 then dwG (m ((c : Thread nD τ).loc main_arg0)) (m ((c : Thread nD τ).loc main_arg1)) n.val h q else 0 := by
  obtain ⟨t, q', rfl⟩ := exists_col q
  refine Eq.trans ?_ ((congrFun (blocks6 m c t (flush_at t).2.2) (ix2 n q' : S32x128.Idx)).trans ?_)
  · refine congrArg ((dats m 0 c).arrAt 6 cfg0.N) (funext fun a => Fin.ext ?_)
    match a with
    | ⟨0, _⟩ => show n.val = win0_6.index t 0 * 32 + 1 * n.val; rw [(index_at t).2.2.2.2.2.2]; show n.val = 0 * 32 + 1 * n.val; omega
    | ⟨1, _⟩ =>
      show 128 * t.val + q'.val = win0_6.index t 1 * 128 + 1 * q'.val
      rw [(index_at t).2.2.2.2.2.2]; show 128 * t.val + q'.val = t.val * 128 + 1 * q'.val; omega
  · refine (DW_apply _ _ _ n q').trans ?_
    by_cases h : n.val < 31
    · rw [if_pos h, dif_pos h]; exact dw_blk m c t n.val h q'
    · rw [if_neg h, dif_neg h]

end Cert.Conv
-- ==== Proof.ConvRef.lean ====
/-
  The reference's gradient of the gated convolution read at an index. Its text is the transpose of the sum of 31 shifted
  products: for each tap a pad of the tap's product (the gradient in the padded values) and a pad of one summed row (the
  gradient in the tap), added up from the last tap to the first.
-/
module

public import proofs.«01_k».proof.Proof.Gen.ReferenceIdeal.Read
public import Idealize.ShloMosaic.Lib.KernelVsHost
public import Idealize.ShloMosaic.Lib.IdealHost
public import Idealize.ShloMosaic.Lib.Pointwise

@[expose] public section

set_option maxRecDepth 16384

noncomputable section

namespace Cert.Conv

open Cert.ReferenceIdeal Cert.ReferenceIdeal.Gen Cert.ReferenceIdeal.Read
open Idealize.ShloMosaic hiding ix1 ix2 ix3 eq_ix2 eq_ix1 eq_ix3
open Idealize.ShloMosaic.TcCoe Idealize.ShloMosaic.Tactic Idealize.ShloMosaic.ValueIdx

/-- The sum of `f 30`, `f 29`, … `f (30 - j)` in this order. -/
def downSum (f : ℕ → EReal) : ℕ → EReal
  | 0 => f 30
  | j + 1 => downSum f j + f (30 - (j + 1))

theorem downSum_eq (f : ℕ → EReal) : downSum f 30 = ∑ n ∈ Finset.range 31, f n := by
  have h : ∀ j, j ≤ 30 → downSum f j = ∑ n ∈ Finset.range (j + 1), f (30 - n) := by
    intro j
    induction j with
    | zero => intro _; simp [downSum]
    | succ j ih => intro hj; rw [downSum, ih (by omega), Finset.sum_range_succ _ (j + 1)]
  rw [h 30 le_rfl]
  exact Finset.sum_range_reflect f 31

theorem add_step {s : Shape} {x y : FVec Ideal s .f32} {i : s.Idx} {A B : EReal} (hx : x i = A) (hy : y i = B) :
    addf x y i = A + B := by rw [← hx, ← hy]; rfl

/-- Tap `n`'s term of the gradient in the padded values at padded row `R`. -/
def daRefTerm (w : Vec Ideal S31x1024 .f32) (dc : Vec Ideal S2176x1024 .f32) (R : ℕ) (q : Fin 1024) (n : ℕ) : EReal :=
  if h : n < 31 ∧ n ≤ R ∧ R - n < 2176 then w (ix2 ⟨n, h.1⟩ q) * dc (ix2 ⟨R - n, h.2.2⟩ q) else 0

theorem zero_pad (i : S_.Idx) : (constant S_ .f32 0x00000000#32 : FVec Ideal S_ .f32) i = 0 := Ideal.ofBits_zero_f32

theorem daPad (w : Vec Ideal S31x1024 .f32) (dc : Vec Ideal S2176x1024 .f32) (R : Fin 2206) (q : Fin 1024) (n hi : ℕ)
    (hs : Shape.Slices S31x1024 ![n, 0] S1x1024) (hp : Shape.Pads S2176x1024 ![n, 0] ![hi, 0] ![0, 0] S2206x1024)
    (hc : Shape.ShapeCasts S2176x1024 S2176x1024) :
    pad S2206x1024 ![n, 0] ![hi, 0] ![0, 0]
      (mulf (broadcastInDim S2176x1024 ![0, 1] bcast_S1x1024_S2176x1024_0_1 (extractStridedSlice S1x1024 ![n, 0] w hs))
        (shapeCast S2176x1024 dc hc) : FVec Ideal S2176x1024 .f32)
      (constant S_ .f32 0x00000000#32 : FVec Ideal S_ .f32) hp h_S_ (ix2 R q) = daRefTerm w dc R.val q n := by
  have hn : n < 31 := by have := hs.2 0; simpa using this
  unfold daRefTerm
  by_cases h : n ≤ R.val ∧ R.val - n < 2176
  · rw [dif_pos ⟨hn, h⟩]
    refine (pad_apply_of_inside _ _ _ _ _ hp h_S_ (ix2 R q) (ix2 ⟨R.val - n, h.2⟩ q) (Fin.forall_fin_two.mpr ⟨?_, ?_⟩)).trans ?_
    · show R.val = n + (R.val - n) * (0 + 1); omega
    · show q.val = 0 + q.val * (0 + 1); omega
    · refine congrArg₂ (· * ·) ?_ ?_
      · refine (broadcastInDim_apply _ bcast_S1x1024_S2176x1024_0_1 _ _ (ix2 (0 : Fin 1) q) (fun a => match a with
          | ⟨0, _⟩ => by rfl
          | ⟨1, _⟩ => by rfl)).trans ?_
        exact extractStridedSlice_apply ![n, 0] w hs _ _ (fun a => match a with
          | ⟨0, _⟩ => by show n = n + 0; rfl
          | ⟨1, _⟩ => by show q.val = 0 + q.val; omega)
      · exact congrFun (shapeCast_id dc hc) _
  · rw [dif_neg (fun c => h c.2)]
    refine (pad_apply_of_not_inside _ _ _ _ _ hp h_S_ (ix2 R q) 0 ?_).trans (zero_pad _)
    rintro ⟨h1, -, h3⟩
    refine h ⟨h1, ?_⟩
    have h4 : (R.val - n) / (0 + 1) < 2176 := h3
    simpa using h4

variable (x0 : Vec Ideal S2176x7168 .f32) (x1 : Vec Ideal S2176x1024 .f32) (x2 : Vec Ideal S31x1024 .f32)

theorem ref_da (R : Fin 2206) (q : Fin 1024) :
    val_main_v447 (F := Ideal) x1 x2 (ix2 R q) = ∑ n ∈ Finset.range 31, daRefTerm x2 x1 R.val q n := by
  rw [← downSum_eq]
  iterate 30 refine add_step ?_ (daPad _ _ _ _ _ _ _ _ _)
  exact daPad _ _ _ _ _ _ _ _ _

/-! ## The gradient in the taps -/

/-- Tap `n`'s part of row `k` of the taps' gradient, over the padded gated values. -/
def dwRefTerm (P : Vec Ideal S2206x1024 .f32) (dc : Vec Ideal S2176x1024 .f32) (k : ℕ) (q : Fin 1024) (n : ℕ) : EReal :=
  if h : n < 31 ∧ k = n then ∑ t : Fin 2176, dc (ix2 t q) * P (ix2 ⟨n + t.val, by have := t.isLt; omega⟩ q) else 0

theorem dwPad (P : Vec Ideal S2206x1024 .f32) (dc : Vec Ideal S2176x1024 .f32) (k : Fin 31) (q : Fin 1024) (n hi : ℕ)
    (hs : Shape.Slices S2206x1024 ![n, 0] S2176x1024) (hp : Shape.Pads S1x1024 ![n, 0] ![hi, 0] ![0, 0] S31x1024)
    (hc : Shape.ShapeCasts S2176x1024 S2176x1024) (hd : Shape.ShapeCasts S1024 S1x1024) :
    pad S31x1024 ![n, 0] ![hi, 0] ![0, 0]
      (shapeCast S1x1024 (Host.reduceAdd (mulf (shapeCast S2176x1024 dc hc) (extractStridedSlice S2176x1024 ![n, 0] P hs)
        : FVec Ideal S2176x1024 .f32) (constant S_ .f32 0x00000000#32 : FVec Ideal S_ .f32) reducesTo_S2176x1024_S1024_d0 h_S_) hd
        : FVec Ideal S1x1024 .f32)
      (constant S_ .f32 0x00000000#32 : FVec Ideal S_ .f32) hp h_S_ (ix2 k q) = dwRefTerm P dc k.val q n := by
  have hn : n < 31 := by
    have h2 : n + 2176 ≤ 2206 := hs.2 0
    omega
  unfold dwRefTerm
  by_cases h : k.val = n
  · rw [dif_pos ⟨hn, h⟩]
    refine (pad_apply_of_inside _ _ _ _ _ hp h_S_ (ix2 k q) (ix2 (0 : Fin 1) q) (Fin.forall_fin_two.mpr ⟨?_, ?_⟩)).trans ?_
    · show k.val = n + 0 * (0 + 1); omega
    · show q.val = 0 + q.val * (0 + 1); omega
    refine (shapeCast_apply _ hd _ (ix1 q) (by
      rewrite [Shape.rowMajor_val_one, Shape.rowMajor_val_two]; show q.val = 0 * 1024 + q.val; omega)).trans ?_
    simp only [Host.reduceAdd, Ideal.hostReduceAdd_def]
    rw [Ideal.hostReduceAdd_single reducesTo_S2176x1024_S1024_d0 (by decide), zero_pad, zero_add]
    refine Finset.sum_congr rfl fun t _ => congrArg₂ (· * ·) ?_ ?_
    · refine (congrFun (shapeCast_id dc hc) _).trans (congrArg dc (funext fun a => Fin.ext ?_))
      match a with
      | ⟨0, _⟩ => rfl
      | ⟨1, _⟩ => rfl
    · exact extractStridedSlice_apply ![n, 0] P hs _ _ (fun a => match a with
          | ⟨0, _⟩ => rfl
          | ⟨1, _⟩ => by show q.val = 0 + q.val; omega)
  · rw [dif_neg (fun c => h c.2)]
    refine (pad_apply_of_not_inside _ _ _ _ _ hp h_S_ (ix2 k q) 0 ?_).trans (zero_pad _)
    rintro ⟨h1, -, h3⟩
    have h1' : n ≤ k.val := h1
    have h4 : (k.val - n) / (0 + 1) < 1 := h3
    simp only [zero_add, Nat.div_one] at h4
    omega

theorem ref_dw (k : Fin 31) (q : Fin 1024) :
    val_main_v449 (F := Ideal) x0 x1 (ix2 k q)
      = ∑ t : Fin 2176, x1 (ix2 t q) * val_main_v13 (F := Ideal) x0 (ix2 ⟨k.val + t.val, by have := t.isLt; have := k.isLt; omega⟩ q) := by
  have h : val_main_v449 (F := Ideal) x0 x1 (ix2 k q) = downSum (dwRefTerm (val_main_v13 (F := Ideal) x0) x1 k.val q) 30 := by
    iterate 30 refine add_step ?_ (dwPad _ _ _ _ _ _ _ _ _ _)
    exact dwPad _ _ _ _ _ _ _ _ _ _
  rw [h, downSum_eq, Finset.sum_eq_single_of_mem k.val (Finset.mem_range.mpr k.isLt)
    (fun n _ hn => dif_neg fun c => hn c.2.symm)]
  exact dif_pos ⟨k.isLt, rfl⟩

/-! ## The values and the gates -/

/-- The values' and the gates' columns of the projections. -/
theorem ref_v (r : Fin 2176) (q : Fin 1024) :
    val_main_v0 (F := Ideal) x0 (ix2 r q) = x0 (ix2 r ⟨1024 + q.val, by have := q.isLt; omega⟩) :=
  (val_main_v0_apply x0 _).trans (congrArg x0 (eq_ix2 _))

theorem ref_sg (r : Fin 2176) (q : Fin 1024) :
    val_main_v7 (F := Ideal) x0 (ix2 r q) = Ideal.logistic (x0 (ix2 r ⟨2048 + q.val, by have := q.isLt; omega⟩)) := by
  rw [val_main_v7_apply, val_main_v6_apply, val_main_v5_apply, val_main_v4_apply, val_main_v3_apply, val_main_v2_apply,
    val_main_v1_apply, val_main_cst_apply, val_main_cst_0_apply]
  show Ideal.div (Ideal.ofBits .f32 0x3F800000#32) (Ideal.ofBits .f32 0x3F800000#32 + Ideal.exp (-(x0 _))) = _
  rw [Ideal.ofBits_one_f32]
  exact congrArg (fun z => Ideal.logistic (x0 z)) (eq_ix2 _)

/-- The padded gated values: 30 rows of zeros, then the values times their gates. -/
theorem ref_pad (R : Fin 2206) (q : Fin 1024) :
    val_main_v13 (F := Ideal) x0 (ix2 R q) = if h : 30 ≤ R.val then
      x0 (ix2 ⟨R.val - 30, by have := R.isLt; omega⟩ ⟨1024 + q.val, by have := q.isLt; omega⟩)
        * Ideal.logistic (x0 (ix2 ⟨R.val - 30, by have := R.isLt; omega⟩ ⟨2048 + q.val, by have := q.isLt; omega⟩)) else 0 := by
  by_cases h : 30 ≤ R.val
  · rw [dif_pos h, ← ref_v x0, ← ref_sg x0]
    refine (concatenate_pair_apply_right _ _ _ concatenates_S30x1024_S2176x1024_S2206x1024_d0 (ix2 R q) rfl rfl
      (ix2 ⟨R.val - 30, by have := R.isLt; omega⟩ q) (fun b hb => ?_) ?_).trans (val_main_v11_apply x0 _)
    · match b with
      | ⟨0, _⟩ => exact absurd rfl hb
      | ⟨1, _⟩ => rfl
    · show R.val - 30 + 30 = R.val; omega
  · rw [dif_neg h]
    refine (concatenate_pair_apply_left _ _ _ concatenates_S30x1024_S2176x1024_S2206x1024_d0 (ix2 R q) rfl
      (ix2 ⟨R.val, by omega⟩ q) (fun b => ?_)).trans ?_
    · match b with
      | ⟨0, _⟩ => rfl
      | ⟨1, _⟩ => rfl
    · rw [val_main_v12_apply]; exact zero_pad _

end Cert.Conv
-- ==== Proof.ConvAlgebra.lean ====
/-
  The reference's results by the kernel's formulas: its convolution's transpose, read at an index, is the sum over the
  taps of a weight times the later row's incoming gradient, and its gradient in a tap is the sum over the rows of the
  incoming gradient times the gated value that many rows back.
-/
module

public import proofs.«01_k».proof.Proof.ConvJoin
public import proofs.«01_k».proof.Proof.ConvRef

@[expose] public section

set_option maxRecDepth 16384

noncomputable section

namespace Cert.Conv

open Cert.ReferenceIdeal Cert.ReferenceIdeal.Gen Cert.ReferenceIdeal.Read
open Idealize.ShloMosaic hiding ix1 ix2 ix3 eq_ix2 eq_ix1 eq_ix3
open Idealize.ShloMosaic.TcCoe Idealize.ShloMosaic.Tactic Idealize.ShloMosaic.ValueIdx

variable (x0 : Vec Ideal S2176x7168 .f32) (x1 : Vec Ideal S2176x1024 .f32) (x2 : Vec Ideal S31x1024 .f32)
  (x3 : Vec Ideal S2176x7168 .bf16)

/-- The gradient in the gated values, the padding's rows dropped. -/
theorem ref_gated (r : Fin 2176) (q : Fin 1024) : val_main_v451 (F := Ideal) x1 x2 (ix2 r q) = daG x2 x1 r q := by
  rw [val_main_v451_apply]
  refine (congrArg (val_main_v447 (F := Ideal) x1 x2) (eq_ix2 _)).trans ?_
  refine (ref_da x1 x2 ⟨30 + r.val, by have := r.isLt; omega⟩ q).trans ?_
  unfold daG
  refine Finset.sum_congr rfl fun n _ => ?_
  unfold daRefTerm
  simp only [Nat.add_comm 30 r.val]

theorem ref_rate (r : Fin 2176) (q : Fin 1024) : val_main_v10 (F := Ideal) x0 (ix2 r q) = sgG x0 r q * (1 - sgG x0 r q) := by
  have h : val_main_v10 (F := Ideal) x0 (ix2 r q)
      = val_main_v7 (F := Ideal) x0 (ix2 r q) * (Ideal.ofBits .f32 0x3F800000#32 - val_main_v7 (F := Ideal) x0 (ix2 r q)) := rfl
  rw [h, ref_sg, Ideal.ofBits_one_f32]
  rfl

/-- The gradient in the gates. -/
theorem ref_out5 (r : Fin 2176) (q : Fin 1024) :
    val_main_v459 (F := Ideal) x0 x1 x2 (ix2 r q) = daG x2 x1 r q * vG x0 r q * sgG x0 r q * (1 - sgG x0 r q) := by
  have h : val_main_v459 (F := Ideal) x0 x1 x2 (ix2 r q)
      = val_main_v0 (F := Ideal) x0 (ix2 r q) * val_main_v451 (F := Ideal) x1 x2 (ix2 r q) * val_main_v10 (F := Ideal) x0 (ix2 r q) := rfl
  rw [h, ref_gated, ref_rate, ref_v, mul_comm (daG x2 x1 r q) (vG x0 r q)]
  exact (mul_assoc _ _ _).symm

/-- The gradient in the values. -/
theorem ref_value (r : Fin 2176) (q : Fin 1024) :
    val_main_v456 (F := Ideal) x0 x1 x2 (ix2 r q) = daG x2 x1 r q * sgG x0 r q := by
  have h : val_main_v456 (F := Ideal) x0 x1 x2 (ix2 r q)
      = val_main_v451 (F := Ideal) x1 x2 (ix2 r q) * val_main_v7 (F := Ideal) x0 (ix2 r q) := rfl
  rw [h, ref_gated, ref_sg]
  rfl

/-- Indices with one row agree off the columns. -/
theorem off_axis {r a b : ℕ} (i : (⟨2, ![r, a]⟩ : Shape).Idx) (j : (⟨2, ![r, b]⟩ : Shape).Idx) (h : (i 0).val = (j 0).val) :
    ∀ x : Fin 2, x ≠ 1 → (i x).val = (j x).val := fun x hx => match x with
  | ⟨0, _⟩ => h
  | ⟨1, _⟩ => absurd rfl hx

/-- Three arrays side by side, read in the first, in the middle one and in the last. -/
theorem beside {α : Type} (A B : S2176x1024.Idx → α) (C : S2176x5120.Idx → α)
    (h : Shape.Concatenates [S2176x1024, S2176x1024, S2176x5120] S2176x7168 (1 : Fin 2)) (r : Fin 2176) :
    (∀ q : Fin 1024, concatenate S2176x7168 (1 : Fin 2) [⟨S2176x1024, A⟩, ⟨S2176x1024, B⟩, ⟨S2176x5120, C⟩] h
      (ix2 r ⟨q.val, by have := q.isLt; omega⟩) = A (ix2 r q))
    ∧ (∀ q : Fin 1024, concatenate S2176x7168 (1 : Fin 2) [⟨S2176x1024, A⟩, ⟨S2176x1024, B⟩, ⟨S2176x5120, C⟩] h
      (ix2 r ⟨1024 + q.val, by have := q.isLt; omega⟩) = B (ix2 r q))
    ∧ ∀ q : Fin 5120, concatenate S2176x7168 (1 : Fin 2) [⟨S2176x1024, A⟩, ⟨S2176x1024, B⟩, ⟨S2176x5120, C⟩] h
      (ix2 r ⟨2048 + q.val, by have := q.isLt; omega⟩) = C (ix2 r q) := by
  refine ⟨fun q => ?_, fun q => ?_, fun q => ?_⟩
  · exact concatenate_apply_piece (t := S2176x7168) (1 : Fin 2) [⟨S2176x1024, A⟩, ⟨S2176x1024, B⟩, ⟨S2176x5120, C⟩] h
      (ix2 r ⟨q.val, by have := q.isLt; omega⟩) 0 (by decide : 0 < 3) S2176x1024 A rfl rfl 0 rfl (ix2 r q)
      (by exact off_axis (ix2 r q : S2176x1024.Idx) (ix2 r ⟨q.val, by have := q.isLt; omega⟩ : S2176x7168.Idx) rfl)
      (Nat.zero_add q.val)
  · exact concatenate_apply_piece (t := S2176x7168) (1 : Fin 2) [⟨S2176x1024, A⟩, ⟨S2176x1024, B⟩, ⟨S2176x5120, C⟩] h
      (ix2 r ⟨1024 + q.val, by have := q.isLt; omega⟩) 1 (by decide : 1 < 3) S2176x1024 B rfl rfl 1024 rfl (ix2 r q)
      (by exact off_axis (ix2 r q : S2176x1024.Idx) (ix2 r ⟨1024 + q.val, by have := q.isLt; omega⟩ : S2176x7168.Idx) rfl)
      rfl
  · exact concatenate_apply_piece (t := S2176x7168) (1 : Fin 2) [⟨S2176x1024, A⟩, ⟨S2176x1024, B⟩, ⟨S2176x5120, C⟩] h
      (ix2 r ⟨2048 + q.val, by have := q.isLt; omega⟩) 2 (by decide : 2 < 3) S2176x5120 C rfl rfl 2048 rfl (ix2 r q)
      (by exact off_axis (ix2 r q : S2176x5120.Idx) (ix2 r ⟨2048 + q.val, by have := q.isLt; omega⟩ : S2176x7168.Idx) rfl)
      rfl

/-- The values' columns of the array handed through. -/
theorem ref_out4 (r : Fin 2176) (q : Fin 1024) :
    val_main_v458 (F := Ideal) x0 x1 x2 x3 (ix2 r ⟨1024 + q.val, by have := q.isLt; omega⟩) = daG x2 x1 r q * sgG x0 r q :=
  ((beside _ _ _ _ r).2.1 q).trans (ref_value x0 x1 x2 r q)

/-- Its other columns are as they were. -/
theorem ref_out4_else (r : Fin 2176) (q : Fin 7168) (hq : q.val < 1024 ∨ 2048 ≤ q.val) :
    val_main_v458 (F := Ideal) x0 x1 x2 x3 (ix2 r q) = x3 (ix2 r q) := by
  have hl := q.isLt
  rcases hq with hq | hq
  · exact ((beside _ _ _ _ r).1 ⟨q.val, hq⟩).trans ((val_main_v455_apply x3 _).trans (congrArg x3 (eq_ix2 _)))
  · have hp : q = ⟨2048 + (q.val - 2048), by omega⟩ := Fin.ext (by show q.val = 2048 + (q.val - 2048); omega)
    rw [hp]
    exact ((beside _ _ _ _ r).2.2 ⟨q.val - 2048, by omega⟩).trans ((val_main_v457_apply x3 _).trans (congrArg x3 (eq_ix2 _)))

theorem ref_none (i : S_.Idx) : val_main_call0_v0 (F := Ideal) i = 0 := by
  show ((((0#32 : BitVec 32).toInt : ℤ) : ℝ) : EReal) = 0
  simp

theorem ref_tap (n : Fin 31) (q : Fin 1024) : val_main_v449 (F := Ideal) x0 x1 (ix2 n q) = dwG x0 x1 n.val n.isLt q := by
  rw [ref_dw]
  unfold dwG
  refine Finset.sum_congr rfl fun t _ => congrArg (x1 (ix2 t q) * ·) ?_
  rw [ref_pad]
  rfl

/-- The gradient in the taps, and the row of zeros below it. -/
theorem ref_out6 (n : Fin 32) (q : Fin 1024) :
    val_main_v460 (F := Ideal) x0 x1 (ix2 n q) = if h : n.val < 31 then dwG x0 x1 n.val h q else 0 := by
  unfold val_main_v460
  by_cases h : n.val < 31
  · rw [dif_pos h, ← ref_tap x0 x1 ⟨n.val, h⟩ q]
    refine pad_apply_of_inside _ _ _ _ _ _ h_S_ (ix2 n q) (ix2 (⟨n.val, h⟩ : Fin 31) q) (Fin.forall_fin_two.mpr ⟨?_, ?_⟩)
    · show n.val = 0 + n.val * (0 + 1); omega
    · show q.val = 0 + q.val * (0 + 1); omega
  · rw [dif_neg h]
    refine (pad_apply_of_not_inside _ _ _ _ _ _ h_S_ (ix2 n q) 0 ?_).trans (ref_none _)
    rintro ⟨-, -, h3⟩
    have h4 : (n.val - 0) / (0 + 1) < 31 := h3
    refine h ?_
    simpa using h4

/-! ## The kernel's arrays are the reference's -/

variable (m : (ℓ : Loc Cert.KernelIdeal.nD Cert.KernelIdeal.τ Cert.KernelIdeal.sig) → Buf (Elt Ideal) ℓ) (c : Dev Cert.KernelIdeal.nD)

theorem same4 : val_main_v458 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
    = (dats m 0 c).arrAt 4 Cert.KernelIdeal.cfg0.N := by
  funext i
  obtain ⟨r, q, rfl⟩ : ∃ (r : Fin 2176) (q : Fin 7168), i = ix2 r q := ⟨i 0, i 1, eq_ix2 i⟩
  by_cases h : q.val < 1024 ∨ 2048 ≤ q.val
  · exact (ref_out4_else _ _ _ _ r q h).trans (out4_else m c r q h).symm
  · obtain ⟨p, hp⟩ : ∃ p : Fin 1024, q = ⟨1024 + p.val, by have := p.isLt; omega⟩ :=
      ⟨⟨q.val - 1024, by omega⟩, Fin.ext (by show q.val = 1024 + (q.val - 1024); omega)⟩
    rw [hp]
    exact (ref_out4 _ _ _ _ r p).trans (out4 m c r p).symm

theorem same5 : val_main_v459 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
    = (dats m 0 c).arrAt 5 Cert.KernelIdeal.cfg0.N := by
  funext i
  obtain ⟨r, q, rfl⟩ : ∃ (r : Fin 2176) (q : Fin 1024), i = ix2 r q := ⟨i 0, i 1, eq_ix2 i⟩
  exact (ref_out5 _ _ _ r q).trans (out5 m c r q).symm

theorem same6 : val_main_v460 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
    = (dats m 0 c).arrAt 6 Cert.KernelIdeal.cfg0.N := by
  funext i
  obtain ⟨n, q, rfl⟩ : ∃ (n : Fin 32) (q : Fin 1024), i = ix2 n q := ⟨i 0, i 1, eq_ix2 i⟩
  exact (ref_out6 _ _ n q).trans (out6 m c n q).symm

end Cert.Conv

end
-- ==== Proof.MmSum.lean ====
/-
  A product of two matrices over the extended reals, read at an index as one sum over the contracted coordinate, for the
  product that contracts both first axes and the one that contracts both second axes; and a kernel's sums cut into runs.
-/
module

public import Idealize.ShloMosaic.PureOps.Ideal.Laws
public import Idealize.ShloMosaic.Lib.ValueIdxCore
public import Idealize.ShloMosaic.Lib.MatmulPlain

@[expose] public section

set_option maxRecDepth 16384

noncomputable section

namespace Cert.Mm

open Idealize.ShloMosaic Idealize.ShloMosaic.ValueIdx

/-- Both first axes contracted: the entry at `(r, c)` is the sum of the products of the two columns. -/
theorem tn_apply {M K N : ℕ} {φ₁ φ₂ : FTy} (w) (prec : Option ContractPrecision)
    (lhs : FVec Ideal ⟨2, ![K, M]⟩ φ₁) (rhs : FVec Ideal ⟨2, ![K, N]⟩ φ₂) (r : Fin M) (c : Fin N) :
    FloatOps.matmul (so := ⟨2, ![M, N]⟩) ⟨[0], [0], [1], [1], [], [], w⟩ prec lhs rhs (constant ⟨2, ![M, N]⟩ .f32 0x00000000#32) (ix2 r c)
      = ∑ k : Fin K, lhs (ix2 k r) * rhs (ix2 k c) := by
  rw [Ideal.matmul_constant_zero_apply, ← Equiv.sum_comp (contrEquiv1 _ K rfl rfl).symm]
  refine Finset.sum_congr rfl fun k _ => congrArg₂ (· * ·) (congrArg lhs ?_) (congrArg rhs ?_)
  all_goals have hk := contrEquiv1_symm_val (⟨[0], [0], [1], [1], [], [], w⟩ : DotDims ⟨2, ![K, M]⟩ ⟨2, ![K, N]⟩ ⟨2, ![M, N]⟩) K rfl rfl k
  · funext a; apply Fin.ext
    match a with
    | ⟨0, _⟩ => exact hk
    | ⟨1, _⟩ => rfl
  · funext a; apply Fin.ext
    match a with
    | ⟨0, _⟩ => exact hk
    | ⟨1, _⟩ => rfl

/-- Both second axes contracted: the entry at `(r, c)` is the sum of the products of the two rows. -/
theorem nt_apply {M K N : ℕ} {φ₁ φ₂ : FTy} (w) (prec : Option ContractPrecision)
    (lhs : FVec Ideal ⟨2, ![M, K]⟩ φ₁) (rhs : FVec Ideal ⟨2, ![N, K]⟩ φ₂) (r : Fin M) (c : Fin N) :
    FloatOps.matmul (so := ⟨2, ![M, N]⟩) ⟨[1], [1], [0], [0], [], [], w⟩ prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 _ K rfl rfl).symm]
  refine Finset.sum_congr rfl fun k _ => congrArg₂ (· * ·) (congrArg lhs ?_) (congrArg rhs ?_)
  all_goals have hk := contrEquiv1_symm_val (⟨[1], [1], [0], [0], [], [], w⟩ : DotDims ⟨2, ![M, K]⟩ ⟨2, ![N, K]⟩ ⟨2, ![M, N]⟩) K rfl rfl k
  · funext a; apply Fin.ext
    match a with
    | ⟨0, _⟩ => rfl
    | ⟨1, _⟩ => exact hk
  · funext a; apply Fin.ext
    match a with
    | ⟨0, _⟩ => rfl
    | ⟨1, _⟩ => exact hk

end Cert.Mm

end
-- ==== Proof.MmDUp.lean ====
/-
  The gradient of the up projection: each block of the result is one product of a row block of the incoming gradient with a
  row block of the second weight, times twice the root of the activation. The activation is the square of the positive part,
  so its root is the positive part, and the result is the gradient through that square.
-/
module

public import proofs.«01_k».proof.Proof.MmSum
public import proofs.«01_k».proof.Proof.Gen.Kernel2Ideal.Value
public import Idealize.ShloMosaic.Lib.Pipeline.ValueKit
public import proofs.«01_k».proof.Proof.Gen.Reference2Ideal.Read

@[expose] public section

set_option maxRecDepth 16384

noncomputable section

namespace Cert.MmDUp

open Cert.Kernel2Ideal Cert.Kernel2Ideal.Gen
open Idealize.ShloMosaic hiding ix1 ix2 ix3 eq_ix1 eq_ix2 eq_ix3
open Idealize.ShloMosaic.TcCoe Idealize.ShloMosaic.ValueIdx Idealize.SL Idealize.SL.Sem

/-- The root of the square of the positive part is the positive part; where the positive part is zero so is the product. -/
theorem root_square (p w u : EReal) :
    p * (w * Ideal.sqrt (max u 0 * max u 0)) = Scalar.select (Ideal.cmp .ogt u 0) (p * (w * max u 0)) 0 := by
  have root : Ideal.sqrt (max u 0 * max u 0) = max u 0 := by
    rcases le_total u 0 with h | h
    · rw [max_eq_right h, mul_zero]
      show Ideal.sqrt ((0 : ℝ) : EReal) = ((0 : ℝ) : EReal)
      rw [Ideal.sqrt_coe, if_neg (lt_irrefl 0), Real.sqrt_zero]
    · rw [max_eq_left h]
      induction u using EReal.rec with
      | bot => exact absurd h (by simp)
      | top => simp
      | coe r =>
        have hr : 0 ≤ r := EReal.coe_nonneg.1 h
        rw [← EReal.coe_mul, Ideal.sqrt_coe, if_neg (not_lt.2 (mul_self_nonneg r)), Real.sqrt_mul_self hr]
  rw [root]
  by_cases h : 0 < u
  · have e : Ideal.cmp .ogt u 0 = 1#1 := by simp [Ideal.cmp, h]
    rw [e]; rfl
  · have e : Ideal.cmp .ogt u 0 = 0#1 := by simp [Ideal.cmp, h]
    rw [e, max_eq_right (not_lt.1 h), mul_zero, mul_zero]; rfl

variable (m : (ℓ : Loc nD τ sig) → Buf (Elt Ideal) ℓ) (c : Dev nD)

/-- The incoming gradient. -/
abbrev A0 : Vec Ideal S2176x2048 .bf16 := m ((c : Thread nD τ).loc main_arg0)

/-- The second weight. -/
abbrev A1 : Vec Ideal S8192x2048 .bf16 := m ((c : Thread nD τ).loc main_arg1)

/-- What the up projection gave. -/
abbrev A2 : Vec Ideal S2176x8192 .f32 := m ((c : Thread nD τ).loc main_arg2)

/-- The activation the host computes. -/
theorem host_act (i : S2176x8192.Idx) : V m c main_v3 i = max (A2 m c i) 0 * max (A2 m c i) 0 := by
  have h : (V m c main_v3 : Vec Ideal S2176x8192 .bf16) = truncf (F := Ideal) .bf16 (mulf (maximumf (A2 m c) (broadcastInDim S2176x8192 ![] bcast_S_S2176x8192 (constant S_ .f32 0x00000000#32)))
      (maximumf (A2 m c) (broadcastInDim S2176x8192 ![] bcast_S_S2176x8192 (constant S_ .f32 0x00000000#32)))) bitsLt_bf16_f32 := by
    unfold V hostOps0
    after_results
  rw [h]
  show max (A2 m c i) (Ideal.ofBits .f32 0x00000000#32) * max (A2 m c i) (Ideal.ofBits .f32 0x00000000#32) = _
  rw [Ideal.ofBits_zero_f32]

/-- Where each point's blocks lie. -/
theorem index_at : ∀ t : Fin cfg0.N, win0_0.index t = ![t.val / 4, 0] ∧ win0_1.index t = ![t.val % 4, 0]
    ∧ win0_2.index t = ![t.val / 4, t.val % 4] ∧ win0_3.index t = ![t.val / 4, t.val % 4] ∧ (cfg0.win 3).flush t = true :=
  (by decide +kernel : ∀ t : Fin grid0.N, win0_0.index t = ![t.val / 4, 0] ∧ win0_1.index t = ![t.val % 4, 0]
    ∧ win0_2.index t = ![t.val / 4, t.val % 4] ∧ win0_3.index t = ![t.val / 4, t.val % 4] ∧ win0_3.flush t = true)

theorem blk0 (t : Fin cfg0.N) (r : Fin 1088) (k : Fin 2048) (R : Fin 2176) (h : R.val = t.val / 4 * 1088 + r.val) :
    iblk m c 0 t (ix2 r k) = A0 m c (ix2 R k) := by
  unfold A0
  rw [← V_main_arg0 m c]
  refine congrArg (V m c main_arg0) (funext fun a => Fin.ext ?_)
  match a with
  | ⟨0, _⟩ => show win0_0.index t 0 * 1088 + 1 * r.val = R.val; rw [(index_at t).1]; show t.val / 4 * 1088 + 1 * r.val = R.val; omega
  | ⟨1, _⟩ => show win0_0.index t 1 * 2048 + 1 * k.val = k.val; rw [(index_at t).1]; show 0 * 2048 + 1 * k.val = k.val; omega

theorem blk1 (t : Fin cfg0.N) (q : Fin 2048) (k : Fin 2048) (Q : Fin 8192) (h : Q.val = t.val % 4 * 2048 + q.val) :
    iblk m c 1 t (ix2 q k) = A1 m c (ix2 Q k) := by
  unfold A1
  rw [← V_main_arg1 m c]
  refine congrArg (V m c main_arg1) (funext fun a => Fin.ext ?_)
  match a with
  | ⟨0, _⟩ => show win0_1.index t 0 * 2048 + 1 * q.val = Q.val; rw [(index_at t).2.1]; show t.val % 4 * 2048 + 1 * q.val = Q.val; omega
  | ⟨1, _⟩ => show win0_1.index t 1 * 2048 + 1 * k.val = k.val; rw [(index_at t).2.1]; show 0 * 2048 + 1 * k.val = k.val; omega

theorem blk2 (t : Fin cfg0.N) (r : Fin 1088) (q : Fin 2048) (R : Fin 2176) (Q : Fin 8192) (hR : R.val = t.val / 4 * 1088 + r.val)
    (hQ : Q.val = t.val % 4 * 2048 + q.val) :
    iblk m c 2 t (ix2 r q) = max (A2 m c (ix2 R Q)) 0 * max (A2 m c (ix2 R Q)) 0 := by
  rw [← host_act m c]
  refine congrArg (V m c main_v3) (funext fun a => Fin.ext ?_)
  match a with
  | ⟨0, _⟩ => show win0_2.index t 0 * 1088 + 1 * r.val = R.val; rw [(index_at t).2.2.1]; show t.val / 4 * 1088 + 1 * r.val = R.val; omega
  | ⟨1, _⟩ => show win0_2.index t 1 * 2048 + 1 * q.val = Q.val; rw [(index_at t).2.2.1]; show t.val % 4 * 2048 + 1 * q.val = Q.val; omega

theorem out_apply (x0 : Vec Ideal S1088x2048 .bf16) (x1 : Vec Ideal S2048x2048 .bf16) (x2 : Vec Ideal S1088x2048 .bf16) (r : Fin 1088) (q : Fin 2048) :
    out0_3 x0 x1 x2 (ix2 r q)
      = (∑ k : Fin 2048, x0 (ix2 r k) * x1 (ix2 q k)) * (Ideal.ofBits .f32 0x40000000#32 * Ideal.sqrt (x2 (ix2 r q))) := by
  have h : out0_3 x0 x1 x2 = k0_pay1 x0 x1 x2 := by
    unfold out0_3
    rw [View.canon_cons_unit_lit _ _ _ (by decide), View.ld_unit_lit _ _ (by decide), View.ld_unit_lit _ _ (by decide), View.ld_unit_lit _ _ (by decide)]
  rw [h]
  unfold k0_pay1
  rw [shapeCast_id]
  exact congrArg (· * (Ideal.ofBits .f32 0x40000000#32 * Ideal.sqrt (x2 (ix2 r q)))) (Cert.Mm.nt_apply (φ₁ := .bf16) (φ₂ := .bf16) _ none x0 x1 r q)

/-- The product at an entry. -/
def prod (R : Fin 2176) (Q : Fin 8192) : EReal := ∑ k : Fin 2048, A0 m c (ix2 R k) * A1 m c (ix2 Q k)

/-- The result's entry. -/
theorem final (R : Fin 2176) (Q : Fin 8192) : (dats m 0 c).arrAt 3 cfg0.N (ix2 R Q : S2176x8192.Idx)
    = prod m c R Q * (Ideal.ofBits .f32 0x40000000#32 * Ideal.sqrt (max (A2 m c (ix2 R Q)) 0 * max (A2 m c (ix2 R Q)) 0)) := by
  have hR := R.isLt
  have hQ := Q.isLt
  let t : Fin cfg0.N := ⟨4 * (R.val / 1088) + Q.val / 2048, by show _ < 8; omega⟩
  have t0 : t.val / 4 = R.val / 1088 := by show (4 * (R.val / 1088) + Q.val / 2048) / 4 = _; omega
  have t1 : t.val % 4 = Q.val / 2048 := by show (4 * (R.val / 1088) + Q.val / 2048) % 4 = _; omega
  have h := congrFun ((Value.blocks3 m c t (index_at t).2.2.2.2).trans (Value.flushed3 m c t)) (ix2 ⟨R.val % 1088, by omega⟩ ⟨Q.val % 2048, by omega⟩)
  have e : ((cfg0.win 3).blk t).view.emb (ix2 ⟨R.val % 1088, by omega⟩ ⟨Q.val % 2048, by omega⟩) = ix2 R Q := by
    funext a; apply Fin.ext
    match a with
    | ⟨0, _⟩ => show win0_3.index t 0 * 1088 + 1 * (R.val % 1088) = R.val; rw [(index_at t).2.2.2.1]; show t.val / 4 * 1088 + 1 * (R.val % 1088) = R.val; omega
    | ⟨1, _⟩ => show win0_3.index t 1 * 2048 + 1 * (Q.val % 2048) = Q.val; rw [(index_at t).2.2.2.1]; show t.val % 4 * 2048 + 1 * (Q.val % 2048) = Q.val; omega
  have hr : R.val = t.val / 4 * 1088 + R.val % 1088 := by omega
  have hq : Q.val = t.val % 4 * 2048 + Q.val % 2048 := by omega
  refine (congrArg _ e.symm).trans (h.trans ((out_apply _ _ _ _ _).trans ?_))
  rw [blk2 m c t _ _ R Q hr hq]
  exact congrArg (· * _) (Finset.sum_congr rfl fun k _ => congrArg₂ (· * ·) (blk0 m c t _ k R hr) (blk1 m c t _ k Q hq))

/-- The reference's result is the kernel's. -/
theorem same : Cert.Reference2Ideal.Read.val_main_v14 (F := Ideal) (A0 m c) (A1 m c) (A2 m c) = (dats m 0 c).arrAt 3 cfg0.N := by
  funext i
  obtain ⟨R, Q, rfl⟩ : ∃ (R : Fin 2176) (Q : Fin 8192), i = ix2 R Q := ⟨i 0, i 1, eq_ix2 i⟩
  refine Eq.trans ?_ (final m c R Q).symm
  rw [root_square]
  have hp : Cert.Reference2Ideal.Read.val_main_v10 (F := Ideal) (A0 m c) (A1 m c) (ix2 R Q) = prod m c R Q :=
    (Cert.Reference2Ideal.Read.val_main_v10_apply _ _ _).trans
      (Finset.sum_congr rfl fun k _ => congrArg₂ (· * ·) (congrArg _ (eq_ix2 _)) (congrArg _ (eq_ix2 _)))
  rw [← hp, ← Ideal.ofBits_zero_f32]
  rfl

end Cert.MmDUp

end
-- ==== Proof.MmGDown.lean ====
/-
  The gradient of the second MLP weight: each block of the result is one product of a block of columns of the saved
  activations with a block of columns of the incoming gradient, so the whole result is the product of the two arrays.
-/
module

public import proofs.«01_k».proof.Proof.MmSum
public import proofs.«01_k».proof.Proof.Gen.Kernel3Ideal.Value
public import Idealize.ShloMosaic.Lib.Pipeline.ValueKit
public import proofs.«01_k».proof.Proof.Gen.Reference3Ideal.Read

@[expose] public section

set_option maxRecDepth 16384

noncomputable section

namespace Cert.MmGDown

open Cert.Kernel3Ideal Cert.Kernel3Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The saved activations. -/
abbrev A0 : Vec Ideal S2176x8192 .bf16 := m ((c : Thread nD τ).loc main_arg0)

/-- The incoming gradient. -/
abbrev A1 : Vec Ideal S2176x2048 .bf16 := m ((c : Thread nD τ).loc main_arg1)

/-- Where each point's blocks lie. -/
theorem index_at : ∀ t : Fin cfg0.N, win0_0.index t = ![0, t.val / 2] ∧ win0_1.index t = ![0, t.val % 2]
    ∧ win0_2.index t = ![t.val / 2, t.val % 2] ∧ (cfg0.win 2).flush t = true :=
  (by decide +kernel : ∀ t : Fin grid0.N, win0_0.index t = ![0, t.val / 2] ∧ win0_1.index t = ![0, t.val % 2]
    ∧ win0_2.index t = ![t.val / 2, t.val % 2] ∧ win0_2.flush t = true)

theorem blk0 (t : Fin cfg0.N) (k : Fin 2176) (r : Fin 1024) (R : Fin 8192) (h : R.val = t.val / 2 * 1024 + r.val) :
    iblk m c 0 t (ix2 k r) = A0 m c (ix2 k R) := by
  unfold A0
  rw [← V_main_arg0 m c]
  refine congrArg (V m c main_arg0) (funext fun a => Fin.ext ?_)
  match a with
  | ⟨0, _⟩ => show win0_0.index t 0 * 2176 + 1 * k.val = k.val; rw [(index_at t).1]; show 0 * 2176 + 1 * k.val = k.val; omega
  | ⟨1, _⟩ => show win0_0.index t 1 * 1024 + 1 * r.val = R.val; rw [(index_at t).1]; show t.val / 2 * 1024 + 1 * r.val = R.val; omega

theorem blk1 (t : Fin cfg0.N) (k : Fin 2176) (q : Fin 1024) (Q : Fin 2048) (h : Q.val = t.val % 2 * 1024 + q.val) :
    iblk m c 1 t (ix2 k q) = A1 m c (ix2 k Q) := by
  unfold A1
  rw [← V_main_arg1 m c]
  refine congrArg (V m c main_arg1) (funext fun a => Fin.ext ?_)
  match a with
  | ⟨0, _⟩ => show win0_1.index t 0 * 2176 + 1 * k.val = k.val; rw [(index_at t).2.1]; show 0 * 2176 + 1 * k.val = k.val; omega
  | ⟨1, _⟩ => show win0_1.index t 1 * 1024 + 1 * q.val = Q.val; rw [(index_at t).2.1]; show t.val % 2 * 1024 + 1 * q.val = Q.val; omega

theorem out_apply (x0 x1 : Vec Ideal S2176x1024 .bf16) (r q : Fin 1024) :
    out0_2 x0 x1 (ix2 r q) = ∑ k : Fin 2176, x0 (ix2 k r) * x1 (ix2 k q) := by
  have h : out0_2 x0 x1 = k0_pay1 x0 x1 := by
    unfold out0_2
    rw [View.canon_cons_unit_lit _ _ _ (by decide), View.ld_unit_lit _ _ (by decide), View.ld_unit_lit _ _ (by decide)]
  rw [h]
  exact Cert.Mm.tn_apply (φ₁ := .bf16) (φ₂ := .bf16) _ none x0 x1 r q

/-- The result's entry. -/
theorem final (r : Fin 8192) (q : Fin 2048) : (dats m 0 c).arrAt 2 cfg0.N (ix2 r q : S8192x2048.Idx)
    = ∑ k : Fin 2176, A0 m c (ix2 k r) * A1 m c (ix2 k q) := by
  have hr := r.isLt
  have hq := q.isLt
  let t : Fin cfg0.N := ⟨2 * (r.val / 1024) + q.val / 1024, by show _ < 16; omega⟩
  have t0 : t.val / 2 = r.val / 1024 := by show (2 * (r.val / 1024) + q.val / 1024) / 2 = _; omega
  have t1 : t.val % 2 = q.val / 1024 := by show (2 * (r.val / 1024) + q.val / 1024) % 2 = _; omega
  have h := congrFun ((Value.blocks2 m c t (index_at t).2.2.2).trans (Value.flushed2 m c t)) (ix2 ⟨r.val % 1024, by omega⟩ ⟨q.val % 1024, by omega⟩)
  have e : ((cfg0.win 2).blk t).view.emb (ix2 ⟨r.val % 1024, by omega⟩ ⟨q.val % 1024, by omega⟩) = ix2 r q := by
    funext a; apply Fin.ext
    match a with
    | ⟨0, _⟩ => show win0_2.index t 0 * 1024 + 1 * (r.val % 1024) = r.val; rw [(index_at t).2.2.1]; show t.val / 2 * 1024 + 1 * (r.val % 1024) = r.val; omega
    | ⟨1, _⟩ => show win0_2.index t 1 * 1024 + 1 * (q.val % 1024) = q.val; rw [(index_at t).2.2.1]; show t.val % 2 * 1024 + 1 * (q.val % 1024) = q.val; omega
  rw [← e]
  refine h.trans ((out_apply _ _ _ _).trans ?_)
  refine Finset.sum_congr rfl fun k _ => congrArg₂ (· * ·) (blk0 m c t k _ r ?_) (blk1 m c t k _ q ?_)
  · show r.val = t.val / 2 * 1024 + r.val % 1024; omega
  · show q.val = t.val % 2 * 1024 + q.val % 1024; omega

/-- The reference's result is the kernel's. -/
theorem same : Cert.Reference3Ideal.Read.val_main_v6 (F := Ideal) (A0 m c) (A1 m c)
    = (dats m 0 c).arrAt 2 cfg0.N := by
  funext i
  obtain ⟨r, q, rfl⟩ : ∃ (r : Fin 8192) (q : Fin 2048), i = ix2 r q := ⟨i 0, i 1, eq_ix2 i⟩
  refine Eq.trans ?_ (final m c r q).symm
  refine (Cert.Reference3Ideal.Read.val_main_v5_apply _ _ _).trans ((Cert.Reference3Ideal.Read.val_main_v4_apply _ _ _).trans ?_)
  exact Finset.sum_congr rfl fun k _ => (mul_comm _ _).trans (congrArg₂ (· * ·) (congrArg _ (eq_ix2 _)) (congrArg _ (eq_ix2 _)))

end Cert.MmGDown

end
-- ==== Proof.MmGUp.lean ====
/-
  The gradient of the first MLP weight, kept as eight blocks of columns: each block of the result is one product of a
  block of columns of the saved inputs with one of the incoming gradient's blocks of columns.
-/
module

public import proofs.«01_k».proof.Proof.MmSum
public import proofs.«01_k».proof.Proof.Gen.Kernel4Ideal.Value
public import Idealize.ShloMosaic.Lib.Pipeline.ValueKit
public import proofs.«01_k».proof.Proof.Gen.Reference4Ideal.Read

@[expose] public section

set_option maxRecDepth 16384

noncomputable section

namespace Cert.MmGUp

open Cert.Kernel4Ideal Cert.Kernel4Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The saved inputs of the layer. -/
abbrev A0 : Vec Ideal S2176x2048 .bf16 := m ((c : Thread nD τ).loc main_arg0)

/-- The incoming gradient. -/
abbrev A1 : Vec Ideal S2176x8192 .bf16 := m ((c : Thread nD τ).loc main_arg1)

/-- Where each point's blocks lie. -/
theorem index_at : ∀ t : Fin cfg0.N, win0_0.index t = ![0, t.val / 8] ∧ win0_1.index t = ![0, t.val % 8]
    ∧ win0_2.index t = ![t.val % 8, t.val / 8, 0] ∧ (cfg0.win 2).flush t = true :=
  (by decide +kernel : ∀ t : Fin grid0.N, win0_0.index t = ![0, t.val / 8] ∧ win0_1.index t = ![0, t.val % 8]
    ∧ win0_2.index t = ![t.val % 8, t.val / 8, 0] ∧ win0_2.flush t = true)

theorem blk0 (t : Fin cfg0.N) (k : Fin 2176) (r : Fin 1024) (R : Fin 2048) (h : R.val = t.val / 8 * 1024 + r.val) :
    iblk m c 0 t (ix2 k r) = A0 m c (ix2 k R) := by
  unfold A0
  rw [← V_main_arg0 m c]
  refine congrArg (V m c main_arg0) (funext fun a => Fin.ext ?_)
  match a with
  | ⟨0, _⟩ => show win0_0.index t 0 * 2176 + 1 * k.val = k.val; rw [(index_at t).1]; show 0 * 2176 + 1 * k.val = k.val; omega
  | ⟨1, _⟩ => show win0_0.index t 1 * 1024 + 1 * r.val = R.val; rw [(index_at t).1]; show t.val / 8 * 1024 + 1 * r.val = R.val; omega

theorem blk1 (t : Fin cfg0.N) (k : Fin 2176) (q : Fin 1024) (Q : Fin 8192) (h : Q.val = t.val % 8 * 1024 + q.val) :
    iblk m c 1 t (ix2 k q) = A1 m c (ix2 k Q) := by
  unfold A1
  rw [← V_main_arg1 m c]
  refine congrArg (V m c main_arg1) (funext fun a => Fin.ext ?_)
  match a with
  | ⟨0, _⟩ => show win0_1.index t 0 * 2176 + 1 * k.val = k.val; rw [(index_at t).2.1]; show 0 * 2176 + 1 * k.val = k.val; omega
  | ⟨1, _⟩ => show win0_1.index t 1 * 1024 + 1 * q.val = Q.val; rw [(index_at t).2.1]; show t.val % 8 * 1024 + 1 * q.val = Q.val; omega

theorem out_apply (x0 : Vec Ideal S2176x1024 .bf16) (x1 : Vec Ideal S2176x1024 .bf16) (r : Fin 1024) (q : Fin 1024) :
    out0_2 x0 x1 (ix3 0 r q) = ∑ k : Fin 2176, x0 (ix2 k r) * x1 (ix2 k q) := by
  have h : out0_2 x0 x1 = k0_pay1 x0 x1 := by
    unfold out0_2
    rw [View.canon_cons_unit_lit _ _ _ (by decide), View.ld_unit_lit _ _ (by decide), View.ld_unit_lit _ _ (by decide)]
  rw [h]
  refine (shapeCast_apply _ _ _ (ix2 r q) ?_).trans (Cert.Mm.tn_apply (φ₁ := .bf16) (φ₂ := .bf16) _ none x0 x1 r q)
  rewrite [Shape.rowMajor_val_two, Shape.rowMajor_val_three]
  show r.val * 1024 + q.val = (0 * 1024 + r.val) * 1024 + q.val
  omega

/-- Column `q` of result block `b`, as a column of the incoming gradient. -/
def col (b : Fin 8) (q : Fin 1024) : Fin 8192 := ⟨b.val * 1024 + q.val, by have := b.isLt; have := q.isLt; omega⟩

/-- The result's entry. -/
theorem final (b : Fin 8) (r : Fin 2048) (q : Fin 1024) : (dats m 0 c).arrAt 2 cfg0.N (ix3 b r q : S8x2048x1024.Idx)
    = ∑ k : Fin 2176, A0 m c (ix2 k r) * A1 m c (ix2 k (col b q)) := by
  have hb := b.isLt
  have hr := r.isLt
  let t : Fin cfg0.N := ⟨8 * (r.val / 1024) + b.val, by show _ < 16; omega⟩
  have t0 : t.val / 8 = r.val / 1024 := by show (8 * (r.val / 1024) + b.val) / 8 = _; omega
  have t1 : t.val % 8 = b.val := by show (8 * (r.val / 1024) + b.val) % 8 = _; omega
  have h := congrFun ((Value.blocks2 m c t (index_at t).2.2.2).trans (Value.flushed2 m c t)) (ix3 0 ⟨r.val % 1024, by omega⟩ q)
  have e : ((cfg0.win 2).blk t).view.emb (ix3 0 ⟨r.val % 1024, by omega⟩ q) = ix3 b r q := by
    funext a; apply Fin.ext
    match a with
    | ⟨0, _⟩ => show win0_2.index t 0 * 1 + 1 * 0 = b.val; rw [(index_at t).2.2.1]; show t.val % 8 * 1 + 1 * 0 = b.val; omega
    | ⟨1, _⟩ => show win0_2.index t 1 * 1024 + 1 * (r.val % 1024) = r.val; rw [(index_at t).2.2.1]; show t.val / 8 * 1024 + 1 * (r.val % 1024) = r.val; omega
    | ⟨2, _⟩ => show win0_2.index t 2 * 1024 + 1 * q.val = q.val; rw [(index_at t).2.2.1]; show 0 * 1024 + 1 * q.val = q.val; omega
  rw [← e]
  refine h.trans ((out_apply _ _ _ _).trans ?_)
  refine Finset.sum_congr rfl fun k _ => congrArg₂ (· * ·) (blk0 m c t k _ r ?_) (blk1 m c t k _ (col b q) ?_)
  · show r.val = t.val / 8 * 1024 + r.val % 1024; omega
  · show b.val * 1024 + q.val = t.val % 8 * 1024 + q.val; rw [t1]

/-- The reference's result is the kernel's. -/
theorem same : Cert.Reference4Ideal.Read.val_main_v8 (F := Ideal) (A0 m c) (A1 m c) = (dats m 0 c).arrAt 2 cfg0.N := by
  funext i
  obtain ⟨b, r, q, rfl⟩ : ∃ (b : Fin 8) (r : Fin 2048) (q : Fin 1024), i = ix3 b r q := ⟨i 0, i 1, i 2, eq_ix3 i⟩
  refine Eq.trans ?_ (final m c b r q).symm
  rw [Cert.Reference4Ideal.Read.val_main_v8_apply]
  refine (shapeCast_apply _ _ _ (ix2 r (col b q)) ?_).trans ?_
  · rewrite [Shape.rowMajor_val_two, Shape.rowMajor_val_three]
    show r.val * 8192 + (b.val * 1024 + q.val) = (r.val * 8 + b.val) * 1024 + q.val
    omega
  refine (Cert.Reference4Ideal.Read.val_main_v5_apply _ _ _).trans ((Cert.Reference4Ideal.Read.val_main_v4_apply _ _ _).trans ?_)
  exact Finset.sum_congr rfl fun k _ => (mul_comm _ _).trans (congrArg₂ (· * ·) (congrArg _ (eq_ix2 _)) (congrArg _ (eq_ix2 _)))

end Cert.MmGUp

end
-- ==== Proof.MmAcc.lean ====
/-
  What the accumulating products share: a strip of columns loaded from a block, one of the stacked weights loaded from a
  block, their product read at an index, and a sum over all the columns cut into eight strips.
-/
module

public import proofs.«01_k».proof.Proof.MmSum
public import Idealize.ShloMosaic.Lib.Pipeline.ValueKit
public import Mathlib.Algebra.BigOperators.Fin

@[expose] public section

set_option maxRecDepth 16384

noncomputable section

namespace Cert.Mm

open Idealize.ShloMosaic hiding ix1 ix2 ix3 eq_ix1 eq_ix2 eq_ix3
open Idealize.ShloMosaic.ValueIdx

/-- A strip of columns starting at `o`. -/
theorem ld_strip {M K W o : ℕ} (x : Vec Ideal ⟨2, ![M, K]⟩ .bf16) (inb) (r : Fin M) (k : Fin W) (h : o + k.val < K) :
    View.ld x (Rect.unit (s := ⟨2, ![M, K]⟩) ![0, o] ![M, W] inb) (ix2 r k) = x (ix2 r ⟨o + k.val, h⟩) := by
  refine congrArg x (funext fun a => Fin.ext ?_)
  match a with
  | ⟨0, _⟩ => show 0 + 1 * r.val = r.val; omega
  | ⟨1, _⟩ => show o + 1 * k.val = o + k.val; omega

/-- One of the stacked weights, as a matrix. -/
theorem ld_weight {H N W h : ℕ} (x : Vec Ideal ⟨3, ![H, N, W]⟩ .bf16) (inb) (hs) (q : Fin N) (k : Fin W) (hh : h < H) :
    shapeCast ⟨2, ![N, W]⟩ (View.ld x (Rect.unit (s := ⟨3, ![H, N, W]⟩) ![h, 0, 0] ![1, N, W] inb)) hs (ix2 q k) = x (ix3 ⟨h, hh⟩ q k) := by
  refine (shapeCast_apply _ hs (ix2 q k) (ix3 (0 : Fin 1) q k) (by
    rewrite [Shape.rowMajor_val_two, Shape.rowMajor_val_three]
    show (0 * N + q.val) * W + k.val = q.val * W + k.val
    rw [Nat.zero_mul, Nat.zero_add])).trans ?_
  refine congrArg x (funext fun a => Fin.ext ?_)
  match a with
  | ⟨0, _⟩ => show h + 1 * 0 = h; omega
  | ⟨1, _⟩ => show 0 + 1 * q.val = q.val; omega
  | ⟨2, _⟩ => show 0 + 1 * k.val = k.val; omega

/-- A sum over all the columns, strip after strip. -/
theorem sum_strips {n W T : ℕ} (hT : T = n * W) (f : Fin T → EReal) :
    ∑ k, f k = ∑ j : Fin n, ∑ k : Fin W, f ⟨k.val + W * j.val, by
      subst hT; exact (finProdFinEquiv (j, k)).isLt⟩ := by
  subst hT
  exact (finProdFinEquiv.sum_comp f).symm.trans (Fintype.sum_prod_type _)

end Cert.Mm

end
-- ==== Proof.MmDu2.lean ====
/-
  Contracting with all eight devices' weights, strip after strip, for the gradient of the MLP input: a grid point adds the products of 2 strips
  of the left block with 2 of the stacked weights to what the points before it left, so the last point of a run holds the
  whole product.
-/
module

public import proofs.«01_k».proof.Proof.MmAcc
public import proofs.«01_k».proof.Proof.Gen.Kernel5Ideal.Value
public import Idealize.ShloMosaic.Lib.Pipeline.ValueKit
public import Idealize.ShloMosaic.Lib.Pipeline.ReadBack
public import proofs.«01_k».proof.Proof.Gen.Reference5Ideal.Read

@[expose] public section

set_option maxRecDepth 16384

noncomputable section

namespace Cert.MmDu2

open Cert.Kernel5Ideal Cert.Kernel5Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The gradient of the up projection. -/
abbrev A0 : Vec Ideal S2176x8192 .bf16 := m ((c : Thread nD τ).loc main_arg0)

/-- Every device's up weights. -/
abbrev A1 : Vec Ideal S8x2048x1024 .bf16 := m ((c : Thread nD τ).loc main_arg1)

/-- Where each point's blocks lie. -/
theorem index_at : ∀ t : Fin cfg0.N, win0_0.index t = ![t.val / 8, t.val % 4] ∧ win0_1.index t = ![t.val % 4, t.val / 4 % 2, 0] :=
  (by decide +kernel : ∀ t : Fin grid0.N, win0_0.index t = ![t.val / 8, t.val % 4] ∧ win0_1.index t = ![t.val % 4, t.val / 4 % 2, 0])

theorem blk0 (t : Fin cfg0.N) (r : Fin 1088) (k : Fin 2048) (R : Fin 2176) (Q : Fin 8192) (hR : R.val = t.val / 8 * 1088 + r.val)
    (hQ : Q.val = t.val % 4 * 2048 + k.val) : iblk m c 0 t (ix2 r k) = A0 m c (ix2 R Q) := by
  unfold A0
  rw [← V_main_arg0 m c]
  refine congrArg (V m c main_arg0) (funext fun a => Fin.ext ?_)
  match a with
  | ⟨0, _⟩ => show win0_0.index t 0 * 1088 + 1 * r.val = R.val; rw [(index_at t).1]; show t.val / 8 * 1088 + 1 * r.val = R.val; omega
  | ⟨1, _⟩ => show win0_0.index t 1 * 2048 + 1 * k.val = Q.val; rw [(index_at t).1]; show t.val % 4 * 2048 + 1 * k.val = Q.val; omega

theorem blk1 (t : Fin cfg0.N) (h : Fin 2) (q : Fin 1024) (k : Fin 1024) (H : Fin 8) (Q : Fin 2048) (hH : H.val = t.val % 4 * 2 + h.val)
    (hQ : Q.val = t.val / 4 % 2 * 1024 + q.val) : iblk m c 1 t (ix3 h q k) = A1 m c (ix3 H Q k) := by
  unfold A1
  rw [← V_main_arg1 m c]
  refine congrArg (V m c main_arg1) (funext fun a => Fin.ext ?_)
  match a with
  | ⟨0, _⟩ => show win0_1.index t 0 * 2 + 1 * h.val = H.val; rw [(index_at t).2]; show t.val % 4 * 2 + 1 * h.val = H.val; omega
  | ⟨1, _⟩ => show win0_1.index t 1 * 1024 + 1 * q.val = Q.val; rw [(index_at t).2]; show t.val / 4 % 2 * 1024 + 1 * q.val = Q.val; omega
  | ⟨2, _⟩ => show win0_1.index t 2 * 1024 + 1 * k.val = k.val; rw [(index_at t).2]; show 0 * 1024 + 1 * k.val = k.val; omega

/-- The product of a row of the block's strip `h` with a row of the block's weight `h`. -/
def strip (x0 : Vec Ideal S1088x2048 .bf16) (x1 : Vec Ideal S2x1024x1024 .bf16) (r : Fin 1088) (q : Fin 1024) (h : Fin 2) : EReal :=
  ∑ k : Fin 1024, x0 (ix2 r ⟨1024 * h.val + k.val, by omega⟩) * x1 (ix3 h q k)

/-- What one point adds. -/
def adds (x0 : Vec Ideal S1088x2048 .bf16) (x1 : Vec Ideal S2x1024x1024 .bf16) (r : Fin 1088) (q : Fin 1024) : EReal :=
  strip x0 x1 r q 0 + strip x0 x1 r q 1

theorem adds_apply (x0 : Vec Ideal S1088x2048 .bf16) (x1 : Vec Ideal S2x1024x1024 .bf16) (r : Fin 1088) (q : Fin 1024) :
    k0_pay1 (View.ld x0 (Rect.unit ![0, 0] ![1088, 1024] inb_S1088x2048_S1088x1024_0_0)) (View.ld x1 (Rect.unit ![0, 0, 0] ![1, 1024, 1024] inb_S2x1024x1024_S1x1024x1024_0_0_0)) (View.ld x0 (Rect.unit ![0, 1024] ![1088, 1024] inb_S1088x2048_S1088x1024_0_1024)) (View.ld x1 (Rect.unit ![1, 0, 0] ![1, 1024, 1024] inb_S2x1024x1024_S1x1024x1024_1_0_0)) (ix2 r q)
      = adds x0 x1 r q := by
  have e : ∀ (v0 : Vec Ideal S1088x1024 .bf16) (v1 : Vec Ideal S1x1024x1024 .bf16) (h : Fin 2),
      (∀ k, v0 (ix2 r k) = x0 (ix2 r ⟨1024 * h.val + k.val, by omega⟩)) →
      (∀ k, shapeCast S1024x1024 v1 shapeCasts_S1x1024x1024_S1024x1024 (ix2 q k) = x1 (ix3 h q k)) →
      matmul (F := Ideal) (φ₁ := .bf16) (φ₂ := .bf16) dot_S1088x1024_S1024x1024_S1088x1024_1_1_0_0_n_n none v0 (shapeCast S1024x1024 v1 shapeCasts_S1x1024x1024_S1024x1024) (constant S1088x1024 .f32 0x00000000#32) (ix2 r q)
        = strip x0 x1 r q h
      := fun v0 v1 h h0 h1 => by
    unfold strip
    exact (Cert.Mm.nt_apply (φ₁ := .bf16) (φ₂ := .bf16) _ none _ _ r q).trans (Finset.sum_congr rfl fun k _ => congrArg₂ (· * ·) (h0 k) (h1 k))
  exact congrArg₂ (· + ·) (e _ _ 0 (fun k => Cert.Mm.ld_strip x0 _ r k _) (fun k => Cert.Mm.ld_weight x1 _ _ q k _))
    (e _ _ 1 (fun k => Cert.Mm.ld_strip x0 _ r k _) (fun k => Cert.Mm.ld_weight x1 _ _ q k _))

/-- What the first point of a run leaves. -/
theorem at_first (t : Fin cfg0.N) (h : t.val % 4 = 0) (r : Fin 1088) (q : Fin 1024) :
    (outsAt0 m c t.val t.isLt).2 (ix2 r q) = adds (iblk m c 0 t) (iblk m c 1 t) r q := by
  rw [outsAt0_A m c t h (fun e => by omega) (fun e => by omega)]
  dsimp only
  frame_out
  unfold k0_pay2
  refine (congrFun (shapeCast_id _ _) (ix2 r q)).trans (adds_apply _ _ r q)

/-- What a point in the middle of a run leaves. -/
theorem at_middle (t : Fin cfg0.N) (h : t.val % 4 = 1 ∨ t.val % 4 = 2) (r : Fin 1088) (q : Fin 1024) :
    (outsAt0 m c t.val t.isLt).2 (ix2 r q)
      = (outsAt0 m c (t.val - 1) (Nat.lt_of_le_of_lt (Nat.sub_le _ _) t.isLt)).2 (ix2 r q) + adds (iblk m c 0 t) (iblk m c 1 t) r q := by
  rw [outsAt0_B m c t (fun e => by omega) (by omega) (fun e => by omega)]
  dsimp only
  frame_out
  simp only [read_unread_whole]
  unfold k0_pay3
  refine (congrFun (shapeCast_id _ _) (ix2 r q)).trans (congrArg (HAdd.hAdd _) (adds_apply _ _ r q))

/-- What the last point of a run stores into the result. -/
theorem at_last (t : Fin cfg0.N) (h : t.val % 4 = 3) (r : Fin 1088) (q : Fin 1024) :
    (outsAt0 m c t.val t.isLt).1 (ix2 r q)
      = (outsAt0 m c (t.val - 1) (Nat.lt_of_le_of_lt (Nat.sub_le _ _) t.isLt)).2 (ix2 r q) + adds (iblk m c 0 t) (iblk m c 1 t) r q := by
  rw [outsAt0_C m c t (fun e => by omega) (by omega) h]
  dsimp only
  frame_out
  simp only [read_unread_whole]
  unfold k0_pay3
  refine (congrFun (shapeCast_id _ _) (ix2 r q)).trans (congrArg (HAdd.hAdd _) (adds_apply _ _ r q))

/-- The product of a row with the row of device `j`'s weights. -/
def part (R : Fin 2176) (Q : Fin 2048) (j : Fin 8) : EReal :=
  ∑ k : Fin 1024, A0 m c (ix2 R ⟨k.val + 1024 * j.val, by omega⟩) * A1 m c (ix3 j Q k)

theorem strip_eq (t : Fin cfg0.N) (r : Fin 1088) (q : Fin 1024) (R : Fin 2176) (Q : Fin 2048) (hR : R.val = t.val / 8 * 1088 + r.val)
    (hQ : Q.val = t.val / 4 % 2 * 1024 + q.val) (h : Fin 2) (j : Fin 8) (hj : j.val = t.val % 4 * 2 + h.val) :
    strip (iblk m c 0 t) (iblk m c 1 t) r q h = part m c R Q j :=
  Finset.sum_congr rfl fun k _ => congrArg₂ (· * ·)
    (blk0 m c t r _ R _ hR (by show k.val + 1024 * j.val = t.val % 4 * 2048 + (1024 * h.val + k.val); omega)) (blk1 m c t h q k j Q hj hQ)

/-- The result's entry. -/
theorem final (R : Fin 2176) (Q : Fin 2048) : (dats m 0 c).arrAt 2 cfg0.N (ix2 R Q : S2176x2048.Idx) = ∑ j : Fin 8, part m c R Q j := by
  have hR := R.isLt
  have hQ := Q.isLt
  rw [Value.final2]
  have hp : 4 * (2 * (R.val / 1088 - 0) + 1 * (Q.val / 1024 - 0)) + 3 < 16 := by omega
  unfold Value.G2
  refine (dif_pos (show 4 * (2 * (R.val / 1088 - 0) + 1 * (Q.val / 1024 - 0)) + 3 < 16 from hp)).trans ?_
  rw [← Value.outsAt0_sweep]
  have e : Value.loc2Of (ix2 R Q : S2176x2048.Idx) = ix2 ⟨R.val % 1088, by omega⟩ ⟨Q.val % 1024, by omega⟩ := eq_ix2 _
  rw [e]
  show (outsAt0 m c (4 * (2 * (R.val / 1088 - 0) + 1 * (Q.val / 1024 - 0)) + 3) hp).1 _ = _
  generalize hn : 2 * (R.val / 1088 - 0) + 1 * (Q.val / 1024 - 0) = n at hp ⊢
  have l0 : 4 * n + 0 < cfg0.N := show 4 * n + 0 < 16 from by omega
  have l1 : 4 * n + 1 < cfg0.N := show 4 * n + 1 < 16 from by omega
  have l2 : 4 * n + 2 < cfg0.N := show 4 * n + 2 < 16 from by omega
  have l3 : 4 * n + 3 < cfg0.N := show 4 * n + 3 < 16 from by omega
  have a0 : adds (iblk m c 0 ⟨4 * n + 0, l0⟩) (iblk m c 1 ⟨4 * n + 0, l0⟩) ⟨R.val % 1088, by omega⟩ ⟨Q.val % 1024, by omega⟩ = part m c R Q 0 + part m c R Q 1 :=
    congrArg₂ (· + ·) (strip_eq m c ⟨4 * n + 0, l0⟩ _ _ R Q (by show R.val = (4 * n + 0) / 8 * 1088 + R.val % 1088; omega) (by show Q.val = (4 * n + 0) / 4 % 2 * 1024 + Q.val % 1024; omega) 0 0 (by show 0 = (4 * n + 0) % 4 * 2 + 0; omega))
    (strip_eq m c ⟨4 * n + 0, l0⟩ _ _ R Q (by show R.val = (4 * n + 0) / 8 * 1088 + R.val % 1088; omega) (by show Q.val = (4 * n + 0) / 4 % 2 * 1024 + Q.val % 1024; omega) 1 1 (by show 1 = (4 * n + 0) % 4 * 2 + 1; omega))
  have a1 : adds (iblk m c 0 ⟨4 * n + 1, l1⟩) (iblk m c 1 ⟨4 * n + 1, l1⟩) ⟨R.val % 1088, by omega⟩ ⟨Q.val % 1024, by omega⟩ = part m c R Q 2 + part m c R Q 3 :=
    congrArg₂ (· + ·) (strip_eq m c ⟨4 * n + 1, l1⟩ _ _ R Q (by show R.val = (4 * n + 1) / 8 * 1088 + R.val % 1088; omega) (by show Q.val = (4 * n + 1) / 4 % 2 * 1024 + Q.val % 1024; omega) 0 2 (by show 2 = (4 * n + 1) % 4 * 2 + 0; omega))
    (strip_eq m c ⟨4 * n + 1, l1⟩ _ _ R Q (by show R.val = (4 * n + 1) / 8 * 1088 + R.val % 1088; omega) (by show Q.val = (4 * n + 1) / 4 % 2 * 1024 + Q.val % 1024; omega) 1 3 (by show 3 = (4 * n + 1) % 4 * 2 + 1; omega))
  have a2 : adds (iblk m c 0 ⟨4 * n + 2, l2⟩) (iblk m c 1 ⟨4 * n + 2, l2⟩) ⟨R.val % 1088, by omega⟩ ⟨Q.val % 1024, by omega⟩ = part m c R Q 4 + part m c R Q 5 :=
    congrArg₂ (· + ·) (strip_eq m c ⟨4 * n + 2, l2⟩ _ _ R Q (by show R.val = (4 * n + 2) / 8 * 1088 + R.val % 1088; omega) (by show Q.val = (4 * n + 2) / 4 % 2 * 1024 + Q.val % 1024; omega) 0 4 (by show 4 = (4 * n + 2) % 4 * 2 + 0; omega))
    (strip_eq m c ⟨4 * n + 2, l2⟩ _ _ R Q (by show R.val = (4 * n + 2) / 8 * 1088 + R.val % 1088; omega) (by show Q.val = (4 * n + 2) / 4 % 2 * 1024 + Q.val % 1024; omega) 1 5 (by show 5 = (4 * n + 2) % 4 * 2 + 1; omega))
  have a3 : adds (iblk m c 0 ⟨4 * n + 3, l3⟩) (iblk m c 1 ⟨4 * n + 3, l3⟩) ⟨R.val % 1088, by omega⟩ ⟨Q.val % 1024, by omega⟩ = part m c R Q 6 + part m c R Q 7 :=
    congrArg₂ (· + ·) (strip_eq m c ⟨4 * n + 3, l3⟩ _ _ R Q (by show R.val = (4 * n + 3) / 8 * 1088 + R.val % 1088; omega) (by show Q.val = (4 * n + 3) / 4 % 2 * 1024 + Q.val % 1024; omega) 0 6 (by show 6 = (4 * n + 3) % 4 * 2 + 0; omega))
    (strip_eq m c ⟨4 * n + 3, l3⟩ _ _ R Q (by show R.val = (4 * n + 3) / 8 * 1088 + R.val % 1088; omega) (by show Q.val = (4 * n + 3) / 4 % 2 * 1024 + Q.val % 1024; omega) 1 7 (by show 7 = (4 * n + 3) % 4 * 2 + 1; omega))
  have s0 := at_first m c ⟨4 * n + 0, l0⟩ (by show (4 * n + 0) % 4 = 0; omega) ⟨R.val % 1088, by omega⟩ ⟨Q.val % 1024, by omega⟩
  have s1 := at_middle m c ⟨4 * n + 1, l1⟩ (by show (4 * n + 1) % 4 = 1 ∨ (4 * n + 1) % 4 = 2; omega) ⟨R.val % 1088, by omega⟩ ⟨Q.val % 1024, by omega⟩
  have s2 := at_middle m c ⟨4 * n + 2, l2⟩ (by show (4 * n + 2) % 4 = 1 ∨ (4 * n + 2) % 4 = 2; omega) ⟨R.val % 1088, by omega⟩ ⟨Q.val % 1024, by omega⟩
  have s3 := at_last m c ⟨4 * n + 3, l3⟩ (by show (4 * n + 3) % 4 = 3; omega) ⟨R.val % 1088, by omega⟩ ⟨Q.val % 1024, by omega⟩
  rw [a0] at s0
  rw [a1] at s1
  have f1 := s1.trans (congrArg (· + _) s0)
  rw [a2] at s2
  have f2 := s2.trans (congrArg (· + _) f1)
  rw [a3] at s3
  have f3 := s3.trans (congrArg (· + _) f2)
  refine f3.trans ?_
  rw [Fin.sum_univ_eight]
  simp only [add_assoc]

/-- The reference's result is the kernel's. -/
theorem same : Cert.Reference5Ideal.Read.val_main_v6 (F := Ideal) (A0 m c) (A1 m c) = (dats m 0 c).arrAt 2 cfg0.N := by
  funext i
  obtain ⟨R, Q, rfl⟩ : ∃ (R : Fin 2176) (Q : Fin 2048), i = ix2 R Q := ⟨i 0, i 1, eq_ix2 i⟩
  refine Eq.trans ?_ (final m c R Q).symm
  refine (Cert.Reference5Ideal.Read.val_main_v6_apply _ _ _).trans ((Cert.Mm.sum_strips (n := 8) (W := 1024) rfl _).trans ?_)
  refine Finset.sum_congr rfl fun j _ => Finset.sum_congr rfl fun k _ => congrArg₂ (· * ·) (congrArg _ (eq_ix2 _)) ?_
  refine (Cert.Reference5Ideal.Read.val_main_v3_apply _ _).trans ((Cert.Reference5Ideal.Read.val_main_v2_apply _ _).trans
    ((Cert.Reference5Ideal.Read.val_main_v1_apply _ _).trans (congrArg _ (funext fun a => Fin.ext ?_))))
  have hj := j.isLt
  have hk := k.isLt
  have hQ := Q.isLt
  match a with
  | ⟨0, _⟩ => show (Q.val * 8192 + (k.val + 1024 * j.val)) / 1024 % 8 = j.val; omega
  | ⟨1, _⟩ => show (Q.val * 8192 + (k.val + 1024 * j.val)) / 8192 = Q.val; omega
  | ⟨2, _⟩ => show (Q.val * 8192 + (k.val + 1024 * j.val)) % 1024 = k.val; omega

end Cert.MmDu2

end
-- ==== Proof.MmDm.lean ====
/-
  The gradient of the mix of the two mixers: each block of the incoming gradient times the output weight, taken in two strips
  of rows, is multiplied by what the mix makes of each gate and of each mixer, in four results. The first lies in an array
  as wide as the projections, from which the host takes its columns.
-/
module

public import proofs.«01_k».proof.Proof.MmSum
public import proofs.«01_k».proof.Proof.Gen.Kernel6Ideal.Frame
public import Idealize.ShloMosaic.Lib.Pipeline.Value
public import Idealize.ShloMosaic.Lib.Pipeline.ValueKit
public import proofs.«01_k».proof.Proof.Gen.Reference6Ideal.Read

@[expose] public section

set_option maxRecDepth 16384

noncomputable section

namespace Cert.MmDm

open Cert.Kernel6Ideal Cert.Kernel6Ideal.Gen
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The incoming gradient. -/
abbrev A0 : Vec Ideal S2176x2048 .bf16 := m ((c : Thread nD τ).loc main_arg0)

/-- The output weight. -/
abbrev A1 : Vec Ideal S2048x2048 .bf16 := m ((c : Thread nD τ).loc main_arg1)

/-- The projections, whose last columns are the two gates. -/
abbrev A2 : Vec Ideal S2176x7168 .f32 := m ((c : Thread nD τ).loc main_arg2)

/-- The first mixer's output. -/
abbrev A3 : Vec Ideal S2176x2048 .bf16 := m ((c : Thread nD τ).loc main_arg3)

/-- The second mixer's output. -/
abbrev A4 : Vec Ideal S2176x2048 .bf16 := m ((c : Thread nD τ).loc main_arg4)

/-! ## The formulas -/

/-- The gradient in the mix. -/
def dm (x : Vec Ideal S2176x2048 .bf16) (w : Vec Ideal S2048x2048 .bf16) (R : Fin 2176) (Q : Fin 2048) : EReal :=
  ∑ k : Fin 2048, x (ix2 R k) * w (ix2 Q k)

/-- A gate: the logistic of a column of the projections counted from column `o`. -/
def gate (p : Vec Ideal S2176x7168 .f32) (o : ℕ) (ho : o ≤ 5120) (R : Fin 2176) (Q : Fin 2048) : EReal :=
  Ideal.logistic (p (ix2 R ⟨o + Q.val, by have := Q.isLt; omega⟩))

/-- What the mix's gradient `d` makes of a gate `s` before a mixer's value `y`. -/
def inGate (d s y : EReal) : EReal := d * y * s * (Ideal.ofBits .f32 0x3F800000#32 - s)

/-- What it makes of a mixer's value behind a gate `s`. -/
def inMixer (d s : EReal) : EReal := d * s

/-! ## The blocks -/

theorem at0 : ∀ t : Fin cfg0.N, win0_0.index t = ![t.val / 4, 0] :=
  (by decide +kernel : ∀ t : Fin grid0.N, win0_0.index t = ![t.val / 4, 0])

theorem at1 : ∀ t : Fin cfg0.N, win0_1.index t = ![t.val % 4, 0] :=
  (by decide +kernel : ∀ t : Fin grid0.N, win0_1.index t = ![t.val % 4, 0])

theorem at2 : ∀ t : Fin cfg0.N, win0_2.index t = ![t.val / 4, t.val % 4 + 6] :=
  (by decide +kernel : ∀ t : Fin grid0.N, win0_2.index t = ![t.val / 4, t.val % 4 + 6])

theorem at3 : ∀ t : Fin cfg0.N, win0_3.index t = ![t.val / 4, t.val % 4 + 10] :=
  (by decide +kernel : ∀ t : Fin grid0.N, win0_3.index t = ![t.val / 4, t.val % 4 + 10])

theorem at4 : ∀ t : Fin cfg0.N, win0_4.index t = ![t.val / 4, t.val % 4] :=
  (by decide +kernel : ∀ t : Fin grid0.N, win0_4.index t = ![t.val / 4, t.val % 4])

theorem at5 : ∀ t : Fin cfg0.N, win0_5.index t = ![t.val / 4, t.val % 4] :=
  (by decide +kernel : ∀ t : Fin grid0.N, win0_5.index t = ![t.val / 4, t.val % 4])

theorem at6 : ∀ t : Fin cfg0.N, win0_6.index t = ![t.val / 4, t.val % 4 + 6] ∧ (cfg0.win 6).flush t = true :=
  (by decide +kernel : ∀ t : Fin grid0.N, win0_6.index t = ![t.val / 4, t.val % 4 + 6] ∧ win0_6.flush t = true)

theorem at7 : ∀ t : Fin cfg0.N, win0_7.index t = ![t.val / 4, t.val % 4] ∧ (cfg0.win 7).flush t = true :=
  (by decide +kernel : ∀ t : Fin grid0.N, win0_7.index t = ![t.val / 4, t.val % 4] ∧ win0_7.flush t = true)

theorem at8 : ∀ t : Fin cfg0.N, win0_8.index t = ![t.val / 4, t.val % 4] ∧ (cfg0.win 8).flush t = true :=
  (by decide +kernel : ∀ t : Fin grid0.N, win0_8.index t = ![t.val / 4, t.val % 4] ∧ win0_8.flush t = true)

theorem at9 : ∀ t : Fin cfg0.N, win0_9.index t = ![t.val / 4, t.val % 4] ∧ (cfg0.win 9).flush t = true :=
  (by decide +kernel : ∀ t : Fin grid0.N, win0_9.index t = ![t.val / 4, t.val % 4] ∧ win0_9.flush t = true)

theorem blk0 (t : Fin cfg0.N) (r : Fin 1088) (q : Fin 2048) (R : Fin 2176) (Q : Fin 2048) (hR : R.val = (t.val / 4) * 1088 + r.val) (hQ : Q.val = 0 * 2048 + q.val) :
    iblk m c 0 t (ix2 r q) = A0 m c (ix2 R Q) := by
  unfold A0
  rw [← V_main_arg0 m c]
  refine congrArg (V m c main_arg0) (funext fun a => Fin.ext ?_)
  match a with
  | ⟨0, _⟩ => show win0_0.index t 0 * 1088 + 1 * r.val = R.val; rw [at0 t]; show (t.val / 4) * 1088 + 1 * r.val = R.val; omega
  | ⟨1, _⟩ => show win0_0.index t 1 * 2048 + 1 * q.val = Q.val; rw [at0 t]; show 0 * 2048 + 1 * q.val = Q.val; omega

theorem blk1 (t : Fin cfg0.N) (r : Fin 512) (q : Fin 2048) (R : Fin 2048) (Q : Fin 2048) (hR : R.val = (t.val % 4) * 512 + r.val) (hQ : Q.val = 0 * 2048 + q.val) :
    iblk m c 1 t (ix2 r q) = A1 m c (ix2 R Q) := by
  unfold A1
  rw [← V_main_arg1 m c]
  refine congrArg (V m c main_arg1) (funext fun a => Fin.ext ?_)
  match a with
  | ⟨0, _⟩ => show win0_1.index t 0 * 512 + 1 * r.val = R.val; rw [at1 t]; show (t.val % 4) * 512 + 1 * r.val = R.val; omega
  | ⟨1, _⟩ => show win0_1.index t 1 * 2048 + 1 * q.val = Q.val; rw [at1 t]; show 0 * 2048 + 1 * q.val = Q.val; omega

theorem blk2 (t : Fin cfg0.N) (r : Fin 1088) (q : Fin 512) (R : Fin 2176) (Q : Fin 7168) (hR : R.val = (t.val / 4) * 1088 + r.val) (hQ : Q.val = (t.val % 4 + 6) * 512 + q.val) :
    iblk m c 2 t (ix2 r q) = A2 m c (ix2 R Q) := by
  unfold A2
  rw [← V_main_arg2 m c]
  refine congrArg (V m c main_arg2) (funext fun a => Fin.ext ?_)
  match a with
  | ⟨0, _⟩ => show win0_2.index t 0 * 1088 + 1 * r.val = R.val; rw [at2 t]; show (t.val / 4) * 1088 + 1 * r.val = R.val; omega
  | ⟨1, _⟩ => show win0_2.index t 1 * 512 + 1 * q.val = Q.val; rw [at2 t]; show (t.val % 4 + 6) * 512 + 1 * q.val = Q.val; omega

theorem blk3 (t : Fin cfg0.N) (r : Fin 1088) (q : Fin 512) (R : Fin 2176) (Q : Fin 7168) (hR : R.val = (t.val / 4) * 1088 + r.val) (hQ : Q.val = (t.val % 4 + 10) * 512 + q.val) :
    iblk m c 3 t (ix2 r q) = A2 m c (ix2 R Q) := by
  unfold A2
  rw [← V_main_arg2 m c]
  refine congrArg (V m c main_arg2) (funext fun a => Fin.ext ?_)
  match a with
  | ⟨0, _⟩ => show win0_3.index t 0 * 1088 + 1 * r.val = R.val; rw [at3 t]; show (t.val / 4) * 1088 + 1 * r.val = R.val; omega
  | ⟨1, _⟩ => show win0_3.index t 1 * 512 + 1 * q.val = Q.val; rw [at3 t]; show (t.val % 4 + 10) * 512 + 1 * q.val = Q.val; omega

theorem blk4 (t : Fin cfg0.N) (r : Fin 1088) (q : Fin 512) (R : Fin 2176) (Q : Fin 2048) (hR : R.val = (t.val / 4) * 1088 + r.val) (hQ : Q.val = (t.val % 4) * 512 + q.val) :
    iblk m c 4 t (ix2 r q) = A3 m c (ix2 R Q) := by
  unfold A3
  rw [← V_main_arg3 m c]
  refine congrArg (V m c main_arg3) (funext fun a => Fin.ext ?_)
  match a with
  | ⟨0, _⟩ => show win0_4.index t 0 * 1088 + 1 * r.val = R.val; rw [at4 t]; show (t.val / 4) * 1088 + 1 * r.val = R.val; omega
  | ⟨1, _⟩ => show win0_4.index t 1 * 512 + 1 * q.val = Q.val; rw [at4 t]; show (t.val % 4) * 512 + 1 * q.val = Q.val; omega

theorem blk5 (t : Fin cfg0.N) (r : Fin 1088) (q : Fin 512) (R : Fin 2176) (Q : Fin 2048) (hR : R.val = (t.val / 4) * 1088 + r.val) (hQ : Q.val = (t.val % 4) * 512 + q.val) :
    iblk m c 5 t (ix2 r q) = A4 m c (ix2 R Q) := by
  unfold A4
  rw [← V_main_arg4 m c]
  refine congrArg (V m c main_arg4) (funext fun a => Fin.ext ?_)
  match a with
  | ⟨0, _⟩ => show win0_5.index t 0 * 1088 + 1 * r.val = R.val; rw [at5 t]; show (t.val / 4) * 1088 + 1 * r.val = R.val; omega
  | ⟨1, _⟩ => show win0_5.index t 1 * 512 + 1 * q.val = Q.val; rw [at5 t]; show (t.val % 4) * 512 + 1 * q.val = Q.val; omega

/-! ## The strips -/

/-- A row of a result block lies outside the other strip. -/
theorem skip_strip (o : ℕ) (R : Fin 1088) (q : Fin 512) (hne : R.val < o ∨ o + 544 ≤ R.val) (inb) (w : S544x512.Idx → EReal)
    (L : List (View.Piece (Elt Ideal) S1088x512 .bf16)) :
    View.canon (⟨Rect.unit (s := S1088x512) ![o, 0] S544x512.size inb, w⟩ :: L) (ix2 R q : S1088x512.Idx) = View.canon L (ix2 R q : S1088x512.Idx) := by
  refine View.canon_cons_of_not_mem _ _ ?_
  rw [Rect.mem_set_unit]
  intro hm
  have h1 : o ≤ R.val ∧ R.val < o + 544 := hm 0
  omega

/-- It reads its own strip. -/
theorem take_strip (o : ℕ) (R : Fin 1088) (r : Fin 544) (q : Fin 512) (he : R.val = o + r.val) (inb) (w : S544x512.Idx → EReal)
    (L : List (View.Piece (Elt Ideal) S1088x512 .bf16)) :
    View.canon (⟨Rect.unit (s := S1088x512) ![o, 0] S544x512.size inb, w⟩ :: L) (ix2 R q : S1088x512.Idx) = w (ix2 r q : S544x512.Idx) := by
  have e : (Rect.unit (s := S1088x512) ![o, 0] S544x512.size inb).emb (ix2 r q : S544x512.Idx) = (ix2 R q : S1088x512.Idx) := by
    funext a; apply Fin.ext
    match a with
    | ⟨0, _⟩ => show o + 1 * r.val = R.val; omega
    | ⟨1, _⟩ => show 0 + 1 * q.val = q.val; omega
  rw [← e]
  exact View.canon_cons_emb (Val := Elt Ideal) (e := .bf16) (Rect.unit (s := S1088x512) ![o, 0] S544x512.size inb) w L (ix2 r q : S544x512.Idx)

/-- Two strips that each hold a formula's rows hold the formula. -/
theorem two_strips (G : Fin 1088 → EReal) (q : Fin 512) (w0 w1 : S544x512.Idx → EReal) (i0 i1)
    (h0 : ∀ (r : Fin 544) (R : Fin 1088), R.val = 0 + r.val → w0 (ix2 r q) = G R)
    (h1 : ∀ (r : Fin 544) (R : Fin 1088), R.val = 544 + r.val → w1 (ix2 r q) = G R) (R : Fin 1088) :
    View.canon ([⟨Rect.unit (s := S1088x512) ![544, 0] S544x512.size i1, w1⟩, ⟨Rect.unit (s := S1088x512) ![0, 0] S544x512.size i0, w0⟩] :
        List (View.Piece (Elt Ideal) S1088x512 .bf16)) (ix2 R q : S1088x512.Idx) = G R := by
  have hR := R.isLt
  by_cases a1 : 544 ≤ R.val
  · exact (take_strip 544 R ⟨R.val - 544, by omega⟩ q (by show R.val = 544 + (R.val - 544); omega) _ _ _).trans (h1 _ R (by show R.val = 544 + (R.val - 544); omega))
  refine (skip_strip 544 R q (by omega) _ _ _).trans ?_
  exact (take_strip 0 R ⟨R.val, by omega⟩ q (by show R.val = 0 + R.val; omega) _ _ _).trans (h0 _ R (by show R.val = 0 + R.val; omega))

/-- A product of a strip of rows. -/
theorem strip_prod (o : ℕ) (x : Vec Ideal S1088x2048 .bf16) (w : Vec Ideal S512x2048 .bf16) (inb) (r : Fin 544) (q : Fin 512) (R : Fin 1088) (h : R.val = o + r.val) :
    k0_pay1 (View.ld x (Rect.unit (s := S1088x2048) ![o, 0] S544x2048.size inb)) (View.ld w r0_1) (ix2 r q)
      = ∑ k : Fin 2048, x (ix2 R k) * w (ix2 q k) := by
  refine (Cert.Mm.nt_apply (φ₁ := .bf16) (φ₂ := .bf16) _ none _ _ r q).trans ?_
  refine Finset.sum_congr rfl fun k _ => congrArg₂ (· * ·) (congrArg x (funext fun a => Fin.ext ?_)) (congrArg w (funext fun a => Fin.ext ?_))
  · match a with
    | ⟨0, _⟩ => show o + 1 * r.val = R.val; omega
    | ⟨1, _⟩ => show 0 + 1 * k.val = k.val; omega
  · match a with
    | ⟨0, _⟩ => show 0 + 1 * q.val = q.val; omega
    | ⟨1, _⟩ => show 0 + 1 * k.val = k.val; omega

/-- A strip of another block. -/
theorem strip_at {e : EltTy} (o : ℕ) (x : Vec Ideal S1088x512 e) (inb) (r : Fin 544) (q : Fin 512) (R : Fin 1088) (h : R.val = o + r.val) :
    View.ld x (Rect.unit (s := S1088x512) ![o, 0] S544x512.size inb) (ix2 r q) = x (ix2 R q) := by
  refine congrArg x (funext fun a => Fin.ext ?_)
  match a with
  | ⟨0, _⟩ => show o + 1 * r.val = R.val; omega
  | ⟨1, _⟩ => show 0 + 1 * q.val = q.val; omega

/-- A strip of a gate's gradient. -/
theorem strip_gate (o : ℕ) (x0 : Vec Ideal S1088x2048 .bf16) (x1 : Vec Ideal S512x2048 .bf16) (g : Vec Ideal S1088x512 .f32) (y : Vec Ideal S1088x512 .bf16)
    (inb) (inb') (r : Fin 544) (q : Fin 512) (R : Fin 1088) (h : R.val = o + r.val) :
    k0_pay4 (View.ld x0 (Rect.unit (s := S1088x2048) ![o, 0] S544x2048.size inb)) (View.ld x1 r0_1)
      (View.ld g (Rect.unit (s := S1088x512) ![o, 0] S544x512.size inb')) (View.ld y (Rect.unit (s := S1088x512) ![o, 0] S544x512.size inb')) (ix2 r q)
      = inGate (∑ k : Fin 2048, x0 (ix2 R k) * x1 (ix2 q k)) (Ideal.logistic (g (ix2 R q))) (y (ix2 R q)) := by
  rw [← strip_prod o x0 x1 inb r q R h, ← strip_at o g inb' r q R h, ← strip_at o y inb' r q R h]
  rfl

/-- A strip of a mixer's gradient. -/
theorem strip_mixer (o : ℕ) (x0 : Vec Ideal S1088x2048 .bf16) (x1 : Vec Ideal S512x2048 .bf16) (g : Vec Ideal S1088x512 .f32)
    (inb) (inb') (r : Fin 544) (q : Fin 512) (R : Fin 1088) (h : R.val = o + r.val) :
    k0_pay6 (View.ld x0 (Rect.unit (s := S1088x2048) ![o, 0] S544x2048.size inb)) (View.ld x1 r0_1)
      (View.ld g (Rect.unit (s := S1088x512) ![o, 0] S544x512.size inb')) (ix2 r q)
      = inMixer (∑ k : Fin 2048, x0 (ix2 R k) * x1 (ix2 q k)) (Ideal.logistic (g (ix2 R q))) := by
  rw [← strip_prod o x0 x1 inb r q R h, ← strip_at o g inb' r q R h]
  rfl

section
variable (x0 : Vec Ideal S1088x2048 .bf16) (x1 : Vec Ideal S512x2048 .bf16) (x2 x3 : Vec Ideal S1088x512 .f32) (x4 x5 : Vec Ideal S1088x512 .bf16)

theorem out6_apply (R : Fin 1088) (q : Fin 512) : out0_6 x0 x1 x2 x3 x4 x5 (ix2 R q)
    = inGate (∑ k : Fin 2048, x0 (ix2 R k) * x1 (ix2 q k)) (Ideal.logistic (x2 (ix2 R q))) (x4 (ix2 R q)) :=
  two_strips (fun R => inGate (∑ k : Fin 2048, x0 (ix2 R k) * x1 (ix2 q k)) (Ideal.logistic (x2 (ix2 R q))) (x4 (ix2 R q))) q _ _ _ _
    (fun r R h => strip_gate 0 x0 x1 x2 x4 _ _ r q R h) (fun r R h => strip_gate 544 x0 x1 x2 x4 _ _ r q R h) R

theorem out7_apply (R : Fin 1088) (q : Fin 512) : out0_7 x0 x1 x2 x3 x4 x5 (ix2 R q)
    = inGate (∑ k : Fin 2048, x0 (ix2 R k) * x1 (ix2 q k)) (Ideal.logistic (x3 (ix2 R q))) (x5 (ix2 R q)) :=
  two_strips (fun R => inGate (∑ k : Fin 2048, x0 (ix2 R k) * x1 (ix2 q k)) (Ideal.logistic (x3 (ix2 R q))) (x5 (ix2 R q))) q _ _ _ _
    (fun r R h => strip_gate 0 x0 x1 x3 x5 _ _ r q R h) (fun r R h => strip_gate 544 x0 x1 x3 x5 _ _ r q R h) R

theorem out8_apply (R : Fin 1088) (q : Fin 512) : out0_8 x0 x1 x2 x3 x4 x5 (ix2 R q)
    = inMixer (∑ k : Fin 2048, x0 (ix2 R k) * x1 (ix2 q k)) (Ideal.logistic (x2 (ix2 R q))) :=
  two_strips (fun R => inMixer (∑ k : Fin 2048, x0 (ix2 R k) * x1 (ix2 q k)) (Ideal.logistic (x2 (ix2 R q)))) q _ _ _ _
    (fun r R h => strip_mixer 0 x0 x1 x2 _ _ r q R h) (fun r R h => strip_mixer 544 x0 x1 x2 _ _ r q R h) R

theorem out9_apply (R : Fin 1088) (q : Fin 512) : out0_9 x0 x1 x2 x3 x4 x5 (ix2 R q)
    = inMixer (∑ k : Fin 2048, x0 (ix2 R k) * x1 (ix2 q k)) (Ideal.logistic (x3 (ix2 R q))) :=
  two_strips (fun R => inMixer (∑ k : Fin 2048, x0 (ix2 R k) * x1 (ix2 q k)) (Ideal.logistic (x3 (ix2 R q)))) q _ _ _ _
    (fun r R h => strip_mixer 0 x0 x1 x3 _ _ r q R h) (fun r R h => strip_mixer 544 x0 x1 x3 _ _ r q R h) R

end

/-! ## The whole results -/

/-- The point that writes an entry. -/
def pt (R : Fin 2176) (Q : Fin 2048) : Fin cfg0.N := ⟨4 * (R.val / 1088) + Q.val / 512, by have := R.isLt; have := Q.isLt; show _ < 8; omega⟩

theorem pt_row (R : Fin 2176) (Q : Fin 2048) : (pt R Q).val / 4 = R.val / 1088 := by
  have := Q.isLt
  show (4 * (R.val / 1088) + Q.val / 512) / 4 = _; omega

theorem pt_col (R : Fin 2176) (Q : Fin 2048) : (pt R Q).val % 4 = Q.val / 512 := by
  have := Q.isLt
  show (4 * (R.val / 1088) + Q.val / 512) % 4 = _; omega

/-- Its row and its column in the point's block. -/
abbrev row (R : Fin 2176) : Fin 1088 := ⟨R.val % 1088, Nat.mod_lt _ (by decide)⟩
abbrev col (Q : Fin 2048) : Fin 512 := ⟨Q.val % 512, Nat.mod_lt _ (by decide)⟩

theorem whole_dm (R : Fin 2176) (Q : Fin 2048) :
    (∑ k : Fin 2048, @HMul.hMul EReal EReal EReal _ (iblk m c 0 (pt R Q) (ix2 (row R) k)) (iblk m c 1 (pt R Q) (ix2 (col Q) k))) = dm (A0 m c) (A1 m c) R Q := by
  have h0 := pt_row R Q
  have h1 := pt_col R Q
  refine Finset.sum_congr rfl fun k _ => congrArg₂ (fun a b : EReal => a * b) (blk0 m c _ _ k R k ?_ ?_) (blk1 m c _ _ k Q k ?_ ?_)
  · rw [h0]; show R.val = R.val / 1088 * 1088 + R.val % 1088; omega
  · omega
  · rw [h1]; show Q.val = Q.val / 512 * 512 + Q.val % 512; omega
  · omega

theorem whole_gate2 (R : Fin 2176) (Q : Fin 2048) :
    Ideal.logistic (iblk m c 2 (pt R Q) (ix2 (row R) (col Q))) = gate (A2 m c) 3072 (by omega) R Q := by
  have h0 := pt_row R Q
  have h1 := pt_col R Q
  refine congrArg Ideal.logistic (blk2 m c _ _ _ R _ ?_ ?_)
  · rw [h0]; show R.val = R.val / 1088 * 1088 + R.val % 1088; omega
  · rw [h1]; show 3072 + Q.val = (Q.val / 512 + 6) * 512 + Q.val % 512; omega

theorem whole_gate3 (R : Fin 2176) (Q : Fin 2048) :
    Ideal.logistic (iblk m c 3 (pt R Q) (ix2 (row R) (col Q))) = gate (A2 m c) 5120 (by omega) R Q := by
  have h0 := pt_row R Q
  have h1 := pt_col R Q
  refine congrArg Ideal.logistic (blk3 m c _ _ _ R _ ?_ ?_)
  · rw [h0]; show R.val = R.val / 1088 * 1088 + R.val % 1088; omega
  · rw [h1]; show 5120 + Q.val = (Q.val / 512 + 10) * 512 + Q.val % 512; omega

theorem whole_mixer4 (R : Fin 2176) (Q : Fin 2048) : iblk m c 4 (pt R Q) (ix2 (row R) (col Q)) = A3 m c (ix2 R Q) := by
  have h0 := pt_row R Q
  have h1 := pt_col R Q
  refine blk4 m c _ _ _ R Q ?_ ?_
  · rw [h0]; show R.val = R.val / 1088 * 1088 + R.val % 1088; omega
  · rw [h1]; show Q.val = Q.val / 512 * 512 + Q.val % 512; omega

theorem whole_mixer5 (R : Fin 2176) (Q : Fin 2048) : iblk m c 5 (pt R Q) (ix2 (row R) (col Q)) = A4 m c (ix2 R Q) := by
  have h0 := pt_row R Q
  have h1 := pt_col R Q
  refine blk5 m c _ _ _ R Q ?_ ?_
  · rw [h0]; show R.val = R.val / 1088 * 1088 + R.val % 1088; omega
  · rw [h1]; show Q.val = Q.val / 512 * 512 + Q.val % 512; omega

theorem apart6 : ∀ t t' : Fin cfg0.N, win0_6.index t = win0_6.index t' → t = t' := fun t t' h => by
  rw [(at6 t).1, (at6 t').1] at h
  have h0 : t.val / 4 = t'.val / 4 := congrFun h 0
  have h1 : (t.val % 4 + 6) = (t'.val % 4 + 6) := congrFun h 1
  exact Fin.ext (by omega)

theorem place6 (R : Fin 2176) (Q : Fin 2048) : ((cfg0.win 6).blk (pt R Q)).view.emb (ix2 (row R) (col Q)) = (ix2 R (⟨3072 + Q.val, by have := Q.isLt; omega⟩ : Fin 7168)) := by
  have h0 := pt_row R Q
  have h1 := pt_col R Q
  funext a; apply Fin.ext
  match a with
  | ⟨0, _⟩ => show win0_6.index (pt R Q) 0 * 1088 + 1 * (R.val % 1088) = R.val; rw [(at6 (pt R Q)).1]; show (pt R Q).val / 4 * 1088 + 1 * (R.val % 1088) = R.val; rw [h0]; omega
  | ⟨1, _⟩ => show win0_6.index (pt R Q) 1 * 512 + 1 * (Q.val % 512) = 3072 + Q.val; rw [(at6 (pt R Q)).1]; show ((pt R Q).val % 4 + 6) * 512 + 1 * (Q.val % 512) = 3072 + Q.val; rw [h1]; omega

theorem final6 (R : Fin 2176) (Q : Fin 2048) : (dats m 0 c).arrAt 6 cfg0.N ((ix2 R (⟨3072 + Q.val, by have := Q.isLt; omega⟩ : Fin 7168)) : S2176x7168.Idx)
    = inGate (dm (A0 m c) (A1 m c) R Q) (gate (A2 m c) 3072 (by omega) R Q) (A3 m c (ix2 R Q)) := by
  have h := congrFun ((dats m 0 c).read_blk_arrAt_eq_flushed 6 (fun t t' _ _ hne => (cfg0.win 6).disjoint_blk fun h => hne (apart6 t t' h))
    cfg0.N (pt R Q) (pt R Q).isLt (at6 (pt R Q)).2) (ix2 (row R) (col Q))
  have h' : (dats m 0 c).after 6 (pt R Q) (ix2 (row R) (col Q)) = inGate (dm (A0 m c) (A1 m c) R Q) (gate (A2 m c) 3072 (by omega) R Q) (A3 m c (ix2 R Q)) := by
    rw [after0_6]
    refine (out6_apply _ _ _ _ _ _ (row R) (col Q)).trans ?_
    rw [whole_dm, whole_gate2, whole_mixer4]
  have e := congrArg ((dats m 0 c).arrAt 6 cfg0.N) (place6 R Q)
  exact e.symm.trans (h.trans h')

theorem apart7 : ∀ t t' : Fin cfg0.N, win0_7.index t = win0_7.index t' → t = t' := fun t t' h => by
  rw [(at7 t).1, (at7 t').1] at h
  have h0 : t.val / 4 = t'.val / 4 := congrFun h 0
  have h1 : (t.val % 4) = (t'.val % 4) := congrFun h 1
  exact Fin.ext (by omega)

theorem place7 (R : Fin 2176) (Q : Fin 2048) : ((cfg0.win 7).blk (pt R Q)).view.emb (ix2 (row R) (col Q)) = (ix2 R Q) := by
  have h0 := pt_row R Q
  have h1 := pt_col R Q
  funext a; apply Fin.ext
  match a with
  | ⟨0, _⟩ => show win0_7.index (pt R Q) 0 * 1088 + 1 * (R.val % 1088) = R.val; rw [(at7 (pt R Q)).1]; show (pt R Q).val / 4 * 1088 + 1 * (R.val % 1088) = R.val; rw [h0]; omega
  | ⟨1, _⟩ => show win0_7.index (pt R Q) 1 * 512 + 1 * (Q.val % 512) = Q.val; rw [(at7 (pt R Q)).1]; show ((pt R Q).val % 4) * 512 + 1 * (Q.val % 512) = Q.val; rw [h1]; omega

theorem final7 (R : Fin 2176) (Q : Fin 2048) : (dats m 0 c).arrAt 7 cfg0.N ((ix2 R Q) : S2176x2048.Idx)
    = inGate (dm (A0 m c) (A1 m c) R Q) (gate (A2 m c) 5120 (by omega) R Q) (A4 m c (ix2 R Q)) := by
  have h := congrFun ((dats m 0 c).read_blk_arrAt_eq_flushed 7 (fun t t' _ _ hne => (cfg0.win 7).disjoint_blk fun h => hne (apart7 t t' h))
    cfg0.N (pt R Q) (pt R Q).isLt (at7 (pt R Q)).2) (ix2 (row R) (col Q))
  have h' : (dats m 0 c).after 7 (pt R Q) (ix2 (row R) (col Q)) = inGate (dm (A0 m c) (A1 m c) R Q) (gate (A2 m c) 5120 (by omega) R Q) (A4 m c (ix2 R Q)) := by
    rw [after0_7]
    refine (out7_apply _ _ _ _ _ _ (row R) (col Q)).trans ?_
    rw [whole_dm, whole_gate3, whole_mixer5]
  have e := congrArg ((dats m 0 c).arrAt 7 cfg0.N) (place7 R Q)
  exact e.symm.trans (h.trans h')

theorem apart8 : ∀ t t' : Fin cfg0.N, win0_8.index t = win0_8.index t' → t = t' := fun t t' h => by
  rw [(at8 t).1, (at8 t').1] at h
  have h0 : t.val / 4 = t'.val / 4 := congrFun h 0
  have h1 : (t.val % 4) = (t'.val % 4) := congrFun h 1
  exact Fin.ext (by omega)

theorem place8 (R : Fin 2176) (Q : Fin 2048) : ((cfg0.win 8).blk (pt R Q)).view.emb (ix2 (row R) (col Q)) = (ix2 R Q) := by
  have h0 := pt_row R Q
  have h1 := pt_col R Q
  funext a; apply Fin.ext
  match a with
  | ⟨0, _⟩ => show win0_8.index (pt R Q) 0 * 1088 + 1 * (R.val % 1088) = R.val; rw [(at8 (pt R Q)).1]; show (pt R Q).val / 4 * 1088 + 1 * (R.val % 1088) = R.val; rw [h0]; omega
  | ⟨1, _⟩ => show win0_8.index (pt R Q) 1 * 512 + 1 * (Q.val % 512) = Q.val; rw [(at8 (pt R Q)).1]; show ((pt R Q).val % 4) * 512 + 1 * (Q.val % 512) = Q.val; rw [h1]; omega

theorem final8 (R : Fin 2176) (Q : Fin 2048) : (dats m 0 c).arrAt 8 cfg0.N ((ix2 R Q) : S2176x2048.Idx)
    = inMixer (dm (A0 m c) (A1 m c) R Q) (gate (A2 m c) 3072 (by omega) R Q) := by
  have h := congrFun ((dats m 0 c).read_blk_arrAt_eq_flushed 8 (fun t t' _ _ hne => (cfg0.win 8).disjoint_blk fun h => hne (apart8 t t' h))
    cfg0.N (pt R Q) (pt R Q).isLt (at8 (pt R Q)).2) (ix2 (row R) (col Q))
  have h' : (dats m 0 c).after 8 (pt R Q) (ix2 (row R) (col Q)) = inMixer (dm (A0 m c) (A1 m c) R Q) (gate (A2 m c) 3072 (by omega) R Q) := by
    rw [after0_8]
    refine (out8_apply _ _ _ _ _ _ (row R) (col Q)).trans ?_
    rw [whole_dm, whole_gate2]
  have e := congrArg ((dats m 0 c).arrAt 8 cfg0.N) (place8 R Q)
  exact e.symm.trans (h.trans h')

theorem apart9 : ∀ t t' : Fin cfg0.N, win0_9.index t = win0_9.index t' → t = t' := fun t t' h => by
  rw [(at9 t).1, (at9 t').1] at h
  have h0 : t.val / 4 = t'.val / 4 := congrFun h 0
  have h1 : (t.val % 4) = (t'.val % 4) := congrFun h 1
  exact Fin.ext (by omega)

theorem place9 (R : Fin 2176) (Q : Fin 2048) : ((cfg0.win 9).blk (pt R Q)).view.emb (ix2 (row R) (col Q)) = (ix2 R Q) := by
  have h0 := pt_row R Q
  have h1 := pt_col R Q
  funext a; apply Fin.ext
  match a with
  | ⟨0, _⟩ => show win0_9.index (pt R Q) 0 * 1088 + 1 * (R.val % 1088) = R.val; rw [(at9 (pt R Q)).1]; show (pt R Q).val / 4 * 1088 + 1 * (R.val % 1088) = R.val; rw [h0]; omega
  | ⟨1, _⟩ => show win0_9.index (pt R Q) 1 * 512 + 1 * (Q.val % 512) = Q.val; rw [(at9 (pt R Q)).1]; show ((pt R Q).val % 4) * 512 + 1 * (Q.val % 512) = Q.val; rw [h1]; omega

theorem final9 (R : Fin 2176) (Q : Fin 2048) : (dats m 0 c).arrAt 9 cfg0.N ((ix2 R Q) : S2176x2048.Idx)
    = inMixer (dm (A0 m c) (A1 m c) R Q) (gate (A2 m c) 5120 (by omega) R Q) := by
  have h := congrFun ((dats m 0 c).read_blk_arrAt_eq_flushed 9 (fun t t' _ _ hne => (cfg0.win 9).disjoint_blk fun h => hne (apart9 t t' h))
    cfg0.N (pt R Q) (pt R Q).isLt (at9 (pt R Q)).2) (ix2 (row R) (col Q))
  have h' : (dats m 0 c).after 9 (pt R Q) (ix2 (row R) (col Q)) = inMixer (dm (A0 m c) (A1 m c) R Q) (gate (A2 m c) 5120 (by omega) R Q) := by
    rw [after0_9]
    refine (out9_apply _ _ _ _ _ _ (row R) (col Q)).trans ?_
    rw [whole_dm, whole_gate3]
  have e := congrArg ((dats m 0 c).arrAt 9 cfg0.N) (place9 R Q)
  exact e.symm.trans (h.trans h')

/-- The columns of the first result's array that the host takes. -/
def taken : Vec Ideal S2176x2048 .bf16 :=
  extractStridedSlice S2176x2048 ![0, 3072] ((dats m 0 c).arrAt 6 cfg0.N : Vec Ideal S2176x7168 .bf16) slices_S2176x7168_S2176x2048_0_3072

/-- The host's last line. -/
theorem takes (W : Valuation τ sig (Elt Ideal)) : StableHlo.after (List.flatten [hostOps1]) W (Proc.devRef .tc main_v1)
    = extractStridedSlice S2176x2048 ![0, 3072] (W (Proc.devRef .tc main_v0_0)) slices_S2176x7168_S2176x2048_0_3072 := by
  simp only [hostOps1, List.flatten_cons, List.flatten_nil, List.append_nil]
  after_results

/-- The buffers as the host finds them after the region. -/
abbrev left : Valuation τ sig (Elt Ideal) :=
  Pipeline.withArrays spec0 c (V0 m c) fun w => (dats m 0 c).arrAt w cfg0.N

theorem left_array : left m c (Proc.devRef .tc main_v0_0) = ((dats m 0 c).arrAt 6 cfg0.N : Vec Ideal S2176x7168 .bf16) :=
  (dats m 0 c).withArrays_arrAt sharedIn0 (V0 m c) (fun w => A_eq m c w) 6

theorem ended : StableHlo.after (List.flatten [hostOps1]) (left m c) (Proc.devRef .tc main_v1) = taken m c :=
  (takes (left m c)).trans (congrArg (extractStridedSlice S2176x2048 ![0, 3072] · slices_S2176x7168_S2176x2048_0_3072) (left_array m c))

/-- Every run ends with the results read above and the arguments as they were. -/
theorem run : θ_run defs (onTc (τ := τ) (main (F := Ideal))) ⟨m, fun _ => 0, ρ⟩ fun r => ∀ c : Dev nD,
      r.2.mem ((c : Thread nD τ).loc main_v1) = taken m c
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have h1 : θ_run defs (onTc (τ := τ) (main (F := Ideal))) ⟨m, fun _ => 0, ρ⟩ fun r => ∀ c : Dev nD,
      r.2.mem ((c : Thread nD τ).loc main_v1) = taken m c
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N :=
    (θ_run defs _ _).mono (fun _ h c => ⟨((h c).2 main_v1 (by decide : main_v1 ∈ Pipeline.restRefs sig spec0)).trans (ended m c),
      (h c).1 7, (h c).1 8, (h c).1 9⟩) (run_main m ρ)
  exact (θ_run defs _ _).mono (fun _ h c => ⟨(h.1 c).1, (h.1 c).2.1, (h.1 c).2.2.1, (h.1 c).2.2.2, h.2.1 c⟩) (θ_run_and h1 (Gen.frame m ρ))

/-! ## The reference -/

open Cert.Reference6Ideal.Read in
theorem ref_gate_a (p : Vec Ideal S2176x7168 .f32) (R : Fin 2176) (Q : Fin 2048) :
    val_main_v10 (F := Ideal) p (ix2 R Q) = gate p 3072 (by omega) R Q := by
  rw [val_main_v10_apply, val_main_v9_apply, val_main_v8_apply, val_main_v7_apply, val_main_v6_apply, val_main_v5_apply,
    val_main_v0_apply, val_main_cst_apply, val_main_cst_0_apply]
  show Ideal.div (Ideal.ofBits .f32 0x3F800000#32) (Ideal.ofBits .f32 0x3F800000#32 + Ideal.exp (-(p _))) = _
  rw [Ideal.ofBits_one_f32]
  exact congrArg (fun z => Ideal.logistic (p z)) (eq_ix2 _)

open Cert.Reference6Ideal.Read in
theorem ref_gate_b (p : Vec Ideal S2176x7168 .f32) (R : Fin 2176) (Q : Fin 2048) :
    val_main_v20 (F := Ideal) p (ix2 R Q) = gate p 5120 (by omega) R Q := by
  rw [val_main_v20_apply, val_main_v19_apply, val_main_v18_apply, val_main_v17_apply, val_main_v16_apply, val_main_v15_apply,
    val_main_v1_apply, val_main_cst_2_apply, val_main_cst_3_apply]
  show Ideal.div (Ideal.ofBits .f32 0x3F800000#32) (Ideal.ofBits .f32 0x3F800000#32 + Ideal.exp (-(p _))) = _
  rw [Ideal.ofBits_one_f32]
  exact congrArg (fun z => Ideal.logistic (p z)) (eq_ix2 _)

open Cert.Reference6Ideal.Read in
theorem ref_dm (x : Vec Ideal S2176x2048 .bf16) (w : Vec Ideal S2048x2048 .bf16) (R : Fin 2176) (Q : Fin 2048) :
    val_main_v28 (F := Ideal) x w (ix2 R Q) = dm x w R Q :=
  (val_main_v28_apply _ _ _).trans (Finset.sum_congr rfl fun k _ => congrArg₂ (· * ·) (congrArg x (eq_ix2 _)) (congrArg w (eq_ix2 _)))

/-- The order of the factors in a gate's gradient. -/
theorem order (d s y : EReal) : d * y * (s * (Ideal.ofBits .f32 0x3F800000#32 - s)) = inGate d s y := (mul_assoc _ _ _).symm

/-- The reference's first result is the kernel's. -/
theorem same6 : Cert.Reference6Ideal.Read.val_main_v35 (F := Ideal) (A0 m c) (A1 m c) (A2 m c) (A3 m c) = taken m c := by
  funext i
  obtain ⟨R, Q, rfl⟩ : ∃ (R : Fin 2176) (Q : Fin 2048), i = ix2 R Q := ⟨i 0, i 1, eq_ix2 i⟩
  refine Eq.trans ?_ ((extractStridedSlice_apply ![0, 3072] _ slices_S2176x7168_S2176x2048_0_3072 (ix2 R Q) (ix2 R (⟨3072 + Q.val, by have := Q.isLt; omega⟩ : Fin 7168)) (fun a => match a with
    | ⟨0, _⟩ => by show R.val = 0 + R.val; omega
    | ⟨1, _⟩ => rfl)).trans (final6 m c R Q)).symm
  rw [← order, ← ref_dm, ← ref_gate_a]
  rfl

theorem same7 : Cert.Reference6Ideal.Read.val_main_v36 (F := Ideal) (A0 m c) (A1 m c) (A2 m c) (A4 m c) = (dats m 0 c).arrAt 7 cfg0.N := by
  funext i
  obtain ⟨R, Q, rfl⟩ : ∃ (R : Fin 2176) (Q : Fin 2048), i = ix2 R Q := ⟨i 0, i 1, eq_ix2 i⟩
  refine Eq.trans ?_ (final7 m c R Q).symm
  rw [← order, ← ref_dm, ← ref_gate_b]
  rfl

theorem same8 : Cert.Reference6Ideal.Read.val_main_v37 (F := Ideal) (A0 m c) (A1 m c) (A2 m c) = (dats m 0 c).arrAt 8 cfg0.N := by
  funext i
  obtain ⟨R, Q, rfl⟩ : ∃ (R : Fin 2176) (Q : Fin 2048), i = ix2 R Q := ⟨i 0, i 1, eq_ix2 i⟩
  refine Eq.trans ?_ (final8 m c R Q).symm
  rw [← ref_dm, ← ref_gate_a]
  exact mul_comm _ _

theorem same9 : Cert.Reference6Ideal.Read.val_main_v38 (F := Ideal) (A0 m c) (A1 m c) (A2 m c) = (dats m 0 c).arrAt 9 cfg0.N := by
  funext i
  obtain ⟨R, Q, rfl⟩ : ∃ (R : Fin 2176) (Q : Fin 2048), i = ix2 R Q := ⟨i 0, i 1, eq_ix2 i⟩
  refine Eq.trans ?_ (final9 m c R Q).symm
  rw [← ref_dm, ← ref_gate_b]
  exact mul_comm _ _

end Cert.MmDm

end
-- ==== Proof.MmGO.lean ====
/-
  The gradient of the weight behind the gates: each block of the result is one product of a block of columns of the saved mix
  with a block of columns of the incoming gradient, so the whole result is the product of the two arrays.
-/
module

public import proofs.«01_k».proof.Proof.MmSum
public import proofs.«01_k».proof.Proof.Gen.Kernel7Ideal.Value
public import Idealize.ShloMosaic.Lib.Pipeline.ValueKit
public import proofs.«01_k».proof.Proof.Gen.Reference7Ideal.Read

@[expose] public section

set_option maxRecDepth 16384

noncomputable section

namespace Cert.MmGO

open Cert.Kernel7Ideal Cert.Kernel7Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The saved mix. -/
abbrev A0 : Vec Ideal S2176x2048 .bf16 := m ((c : Thread nD τ).loc main_arg0)

/-- The incoming gradient. -/
abbrev A1 : Vec Ideal S2176x2048 .bf16 := m ((c : Thread nD τ).loc main_arg1)

/-- Where each point's blocks lie. -/
theorem index_at : ∀ t : Fin cfg0.N, win0_0.index t = ![0, t.val / 2] ∧ win0_1.index t = ![0, t.val % 2]
    ∧ win0_2.index t = ![t.val / 2, t.val % 2] ∧ (cfg0.win 2).flush t = true :=
  (by decide +kernel : ∀ t : Fin grid0.N, win0_0.index t = ![0, t.val / 2] ∧ win0_1.index t = ![0, t.val % 2]
    ∧ win0_2.index t = ![t.val / 2, t.val % 2] ∧ win0_2.flush t = true)

theorem blk0 (t : Fin cfg0.N) (k : Fin 2176) (r : Fin 1024) (R : Fin 2048) (h : R.val = t.val / 2 * 1024 + r.val) :
    iblk m c 0 t (ix2 k r) = A0 m c (ix2 k R) := by
  unfold A0
  rw [← V_main_arg0 m c]
  refine congrArg (V m c main_arg0) (funext fun a => Fin.ext ?_)
  match a with
  | ⟨0, _⟩ => show win0_0.index t 0 * 2176 + 1 * k.val = k.val; rw [(index_at t).1]; show 0 * 2176 + 1 * k.val = k.val; omega
  | ⟨1, _⟩ => show win0_0.index t 1 * 1024 + 1 * r.val = R.val; rw [(index_at t).1]; show t.val / 2 * 1024 + 1 * r.val = R.val; omega

theorem blk1 (t : Fin cfg0.N) (k : Fin 2176) (q : Fin 1024) (Q : Fin 2048) (h : Q.val = t.val % 2 * 1024 + q.val) :
    iblk m c 1 t (ix2 k q) = A1 m c (ix2 k Q) := by
  unfold A1
  rw [← V_main_arg1 m c]
  refine congrArg (V m c main_arg1) (funext fun a => Fin.ext ?_)
  match a with
  | ⟨0, _⟩ => show win0_1.index t 0 * 2176 + 1 * k.val = k.val; rw [(index_at t).2.1]; show 0 * 2176 + 1 * k.val = k.val; omega
  | ⟨1, _⟩ => show win0_1.index t 1 * 1024 + 1 * q.val = Q.val; rw [(index_at t).2.1]; show t.val % 2 * 1024 + 1 * q.val = Q.val; omega

theorem out_apply (x0 x1 : Vec Ideal S2176x1024 .bf16) (r q : Fin 1024) :
    out0_2 x0 x1 (ix2 r q) = ∑ k : Fin 2176, x0 (ix2 k r) * x1 (ix2 k q) := by
  have h : out0_2 x0 x1 = k0_pay1 x0 x1 := by
    unfold out0_2
    rw [View.canon_cons_unit_lit _ _ _ (by decide), View.ld_unit_lit _ _ (by decide), View.ld_unit_lit _ _ (by decide)]
  rw [h]
  exact Cert.Mm.tn_apply (φ₁ := .bf16) (φ₂ := .bf16) _ none x0 x1 r q

/-- The result's entry. -/
theorem final (r : Fin 2048) (q : Fin 2048) : (dats m 0 c).arrAt 2 cfg0.N (ix2 r q : S2048x2048.Idx)
    = ∑ k : Fin 2176, A0 m c (ix2 k r) * A1 m c (ix2 k q) := by
  have hr := r.isLt
  have hq := q.isLt
  let t : Fin cfg0.N := ⟨2 * (r.val / 1024) + q.val / 1024, by show _ < 4; omega⟩
  have t0 : t.val / 2 = r.val / 1024 := by show (2 * (r.val / 1024) + q.val / 1024) / 2 = _; omega
  have t1 : t.val % 2 = q.val / 1024 := by show (2 * (r.val / 1024) + q.val / 1024) % 2 = _; omega
  have h := congrFun ((Value.blocks2 m c t (index_at t).2.2.2).trans (Value.flushed2 m c t)) (ix2 ⟨r.val % 1024, by omega⟩ ⟨q.val % 1024, by omega⟩)
  have e : ((cfg0.win 2).blk t).view.emb (ix2 ⟨r.val % 1024, by omega⟩ ⟨q.val % 1024, by omega⟩) = ix2 r q := by
    funext a; apply Fin.ext
    match a with
    | ⟨0, _⟩ => show win0_2.index t 0 * 1024 + 1 * (r.val % 1024) = r.val; rw [(index_at t).2.2.1]; show t.val / 2 * 1024 + 1 * (r.val % 1024) = r.val; omega
    | ⟨1, _⟩ => show win0_2.index t 1 * 1024 + 1 * (q.val % 1024) = q.val; rw [(index_at t).2.2.1]; show t.val % 2 * 1024 + 1 * (q.val % 1024) = q.val; omega
  rw [← e]
  refine h.trans ((out_apply _ _ _ _).trans ?_)
  refine Finset.sum_congr rfl fun k _ => congrArg₂ (· * ·) (blk0 m c t k _ r ?_) (blk1 m c t k _ q ?_)
  · show r.val = t.val / 2 * 1024 + r.val % 1024; omega
  · show q.val = t.val % 2 * 1024 + q.val % 1024; omega

/-- The reference's result is the kernel's. -/
theorem same : Cert.Reference7Ideal.Read.val_main_v6 (F := Ideal) (A0 m c) (A1 m c)
    = (dats m 0 c).arrAt 2 cfg0.N := by
  funext i
  obtain ⟨r, q, rfl⟩ : ∃ (r : Fin 2048) (q : Fin 2048), i = ix2 r q := ⟨i 0, i 1, eq_ix2 i⟩
  refine Eq.trans ?_ (final m c r q).symm
  refine (Cert.Reference7Ideal.Read.val_main_v5_apply _ _ _).trans ((Cert.Reference7Ideal.Read.val_main_v4_apply _ _ _).trans ?_)
  exact Finset.sum_congr rfl fun k _ => (mul_comm _ _).trans (congrArg₂ (· * ·) (congrArg _ (eq_ix2 _)) (congrArg _ (eq_ix2 _)))

end Cert.MmGO

end
-- ==== Proof.MmGPool.lean ====
/-
  The gradient of a mixing branch's output weight, kept as eight blocks of columns: each point writes four of the blocks,
  cut from one product of the saved branch with a block of columns of the incoming gradient.
-/
module

public import proofs.«01_k».proof.Proof.MmSum
public import proofs.«01_k».proof.Proof.Gen.Kernel8Ideal.Value
public import Idealize.ShloMosaic.Lib.Pipeline.ValueKit
public import proofs.«01_k».proof.Proof.Gen.Reference8Ideal.Read

@[expose] public section

set_option maxRecDepth 16384

noncomputable section

namespace Cert.MmGPool

open Cert.Kernel8Ideal Cert.Kernel8Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The saved branch. -/
abbrev A0 : Vec Ideal S2176x1024 .bf16 := m ((c : Thread nD τ).loc main_arg0)

/-- The incoming gradient. -/
abbrev A1 : Vec Ideal S2176x2048 .bf16 := m ((c : Thread nD τ).loc main_arg1)

/-- Where each point's blocks lie. -/
theorem index_at : ∀ t : Fin cfg0.N, win0_0.index t = ![0, 0] ∧ win0_1.index t = ![0, t.val]
    ∧ win0_2.index t = ![t.val, 0, 0] ∧ (cfg0.win 2).flush t = true :=
  (by decide +kernel : ∀ t : Fin grid0.N, win0_0.index t = ![0, 0] ∧ win0_1.index t = ![0, t.val]
    ∧ win0_2.index t = ![t.val, 0, 0] ∧ win0_2.flush t = true)

theorem blk0 (t : Fin cfg0.N) (k : Fin 2176) (r : Fin 1024) (R : Fin 1024) (h : R.val = r.val) :
    iblk m c 0 t (ix2 k r) = A0 m c (ix2 k R) := by
  unfold A0
  rw [← V_main_arg0 m c]
  refine congrArg (V m c main_arg0) (funext fun a => Fin.ext ?_)
  match a with
  | ⟨0, _⟩ => show win0_0.index t 0 * 2176 + 1 * k.val = k.val; rw [(index_at t).1]; show 0 * 2176 + 1 * k.val = k.val; omega
  | ⟨1, _⟩ => show win0_0.index t 1 * 1024 + 1 * r.val = R.val; rw [(index_at t).1]; show 0 * 1024 + 1 * r.val = R.val; omega

theorem blk1 (t : Fin cfg0.N) (k : Fin 2176) (q : Fin 1024) (Q : Fin 2048) (h : Q.val = t.val * 1024 + q.val) :
    iblk m c 1 t (ix2 k q) = A1 m c (ix2 k Q) := by
  unfold A1
  rw [← V_main_arg1 m c]
  refine congrArg (V m c main_arg1) (funext fun a => Fin.ext ?_)
  match a with
  | ⟨0, _⟩ => show win0_1.index t 0 * 2176 + 1 * k.val = k.val; rw [(index_at t).2.1]; show 0 * 2176 + 1 * k.val = k.val; omega
  | ⟨1, _⟩ => show win0_1.index t 1 * 1024 + 1 * q.val = Q.val; rw [(index_at t).2.1]; show t.val * 1024 + 1 * q.val = Q.val; omega

/-- An index of a result block lies outside the piece of another leading coordinate. -/
theorem skip_piece (n : ℕ) (h : Fin 4) (r : Fin 1024) (q : Fin 256) (hne : h.val ≠ n) (inb) (w : S1x1024x256.Idx → EReal)
    (L : List (View.Piece (Elt Ideal) S4x1024x256 .bf16)) :
    View.canon (⟨Rect.unit (s := S4x1024x256) ![n, 0, 0] S1x1024x256.size inb, w⟩ :: L) (ix3 h r q : S4x1024x256.Idx) = View.canon L (ix3 h r q : S4x1024x256.Idx) := by
  refine View.canon_cons_of_not_mem _ _ ?_
  rw [Rect.mem_set_unit]
  intro hm
  have h1 : n ≤ h.val ∧ h.val < n + 1 := hm 0
  omega

/-- It reads the piece of its own leading coordinate. -/
theorem take_piece (n : ℕ) (h : Fin 4) (r : Fin 1024) (q : Fin 256) (he : h.val = n) (inb) (w : S1x1024x256.Idx → EReal)
    (L : List (View.Piece (Elt Ideal) S4x1024x256 .bf16)) :
    View.canon (⟨Rect.unit (s := S4x1024x256) ![n, 0, 0] S1x1024x256.size inb, w⟩ :: L) (ix3 h r q : S4x1024x256.Idx) = w (ix3 0 r q : S1x1024x256.Idx) := by
  have e : (Rect.unit (s := S4x1024x256) ![n, 0, 0] S1x1024x256.size inb).emb (ix3 0 r q : S1x1024x256.Idx) = (ix3 h r q : S4x1024x256.Idx) := by
    funext a; apply Fin.ext
    match a with
    | ⟨0, _⟩ => show n + 1 * 0 = h.val; omega
    | ⟨1, _⟩ => show 0 + 1 * r.val = r.val; omega
    | ⟨2, _⟩ => show 0 + 1 * q.val = q.val; omega
  rw [← e]
  exact View.canon_cons_emb (Val := Elt Ideal) (e := .bf16) (Rect.unit (s := S4x1024x256) ![n, 0, 0] S1x1024x256.size inb) w L (ix3 0 r q : S1x1024x256.Idx)

/-- A piece read at an index: one entry of the product. -/
theorem piece (x0 x1 : Vec Ideal S2176x1024 .bf16) (o : ℕ) (hs) (hc) (r : Fin 1024) (q : Fin 256) (Q : Fin 1024) (hQ : Q.val = o + q.val) :
    shapeCast S1x1024x256 (truncf .bf16 (extractStridedSlice S1024x256 ![0, o] (k0_pay1 x0 x1) hs) bitsLt_bf16_f32) hc (ix3 0 r q : S1x1024x256.Idx)
      = ∑ k : Fin 2176, x0 (ix2 k r) * x1 (ix2 k Q) := by
  refine (shapeCast_apply _ _ _ (ix2 r q) ?_).trans ?_
  · rewrite [Shape.rowMajor_val_two, Shape.rowMajor_val_three]
    show r.val * 256 + q.val = (0 * 1024 + r.val) * 256 + q.val
    omega
  show extractStridedSlice S1024x256 ![0, o] (k0_pay1 x0 x1) hs (ix2 r q) = _
  refine (extractStridedSlice_apply ![0, o] (k0_pay1 x0 x1) hs (ix2 r q) (ix2 r Q) (fun a => match a with
    | ⟨0, _⟩ => by show r.val = 0 + r.val; omega
    | ⟨1, _⟩ => hQ)).trans ?_
  exact Cert.Mm.tn_apply (φ₁ := .bf16) (φ₂ := .bf16) _ none x0 x1 r Q

theorem out_apply (x0 x1 : Vec Ideal S2176x1024 .bf16) (h : Fin 4) (r : Fin 1024) (q : Fin 256) (Q : Fin 1024) (hQ : Q.val = h.val * 256 + q.val) :
    out0_2 x0 x1 (ix3 h r q) = ∑ k : Fin 2176, x0 (ix2 k r) * x1 (ix2 k Q) := by
  unfold out0_2
  rw [View.ld_unit_lit _ _ (by decide), View.ld_unit_lit _ _ (by decide)]
  have hh := h.isLt
  by_cases h3 : h.val = 3
  · exact (take_piece 3 h r q h3 _ _ _).trans (piece x0 x1 768 _ _ r q Q (by omega))
  refine (skip_piece 3 h r q h3 _ _ _).trans ?_
  by_cases h2 : h.val = 2
  · exact (take_piece 2 h r q h2 _ _ _).trans (piece x0 x1 512 _ _ r q Q (by omega))
  refine (skip_piece 2 h r q h2 _ _ _).trans ?_
  by_cases h1 : h.val = 1
  · exact (take_piece 1 h r q h1 _ _ _).trans (piece x0 x1 256 _ _ r q Q (by omega))
  refine (skip_piece 1 h r q h1 _ _ _).trans ?_
  have h0 : h.val = 0 := by omega
  exact (take_piece 0 h r q h0 _ _ _).trans (piece x0 x1 0 _ _ r q Q (by omega))

/-- Column `q` of result block `b`, as a column of the incoming gradient. -/
def col (b : Fin 8) (q : Fin 256) : Fin 2048 := ⟨b.val * 256 + q.val, by have := b.isLt; have := q.isLt; omega⟩

/-- The result's entry. -/
theorem final (b : Fin 8) (r : Fin 1024) (q : Fin 256) : (dats m 0 c).arrAt 2 cfg0.N (ix3 b r q : S8x1024x256.Idx)
    = ∑ k : Fin 2176, A0 m c (ix2 k r) * A1 m c (ix2 k (col b q)) := by
  have hb := b.isLt
  have hq := q.isLt
  let t : Fin cfg0.N := ⟨b.val / 4, by show _ < 2; omega⟩
  have t0 : t.val = b.val / 4 := rfl
  have h := congrFun ((Value.blocks2 m c t (index_at t).2.2.2).trans (Value.flushed2 m c t)) (ix3 ⟨b.val % 4, by omega⟩ r q)
  have e : ((cfg0.win 2).blk t).view.emb (ix3 ⟨b.val % 4, by omega⟩ r q) = ix3 b r q := by
    funext a; apply Fin.ext
    match a with
    | ⟨0, _⟩ => show win0_2.index t 0 * 4 + 1 * (b.val % 4) = b.val; rw [(index_at t).2.2.1]; show t.val * 4 + 1 * (b.val % 4) = b.val; omega
    | ⟨1, _⟩ => show win0_2.index t 1 * 1024 + 1 * r.val = r.val; rw [(index_at t).2.2.1]; show 0 * 1024 + 1 * r.val = r.val; omega
    | ⟨2, _⟩ => show win0_2.index t 2 * 256 + 1 * q.val = q.val; rw [(index_at t).2.2.1]; show 0 * 256 + 1 * q.val = q.val; omega
  rw [← e]
  refine h.trans ((out_apply _ _ ⟨b.val % 4, by omega⟩ r q ⟨b.val % 4 * 256 + q.val, by omega⟩ rfl).trans ?_)
  refine Finset.sum_congr rfl fun k _ => congrArg₂ (· * ·) (blk0 m c t k _ r rfl) (blk1 m c t k _ (col b q) ?_)
  show b.val * 256 + q.val = t.val * 1024 + (b.val % 4 * 256 + q.val)
  omega

/-- The reference's result is the kernel's. -/
theorem same : Cert.Reference8Ideal.Read.val_main_v8 (F := Ideal) (A0 m c) (A1 m c) = (dats m 0 c).arrAt 2 cfg0.N := by
  funext i
  obtain ⟨b, r, q, rfl⟩ : ∃ (b : Fin 8) (r : Fin 1024) (q : Fin 256), i = ix3 b r q := ⟨i 0, i 1, i 2, eq_ix3 i⟩
  refine Eq.trans ?_ (final m c b r q).symm
  rw [Cert.Reference8Ideal.Read.val_main_v8_apply]
  refine (shapeCast_apply _ _ _ (ix2 r (col b q)) ?_).trans ?_
  · rewrite [Shape.rowMajor_val_two, Shape.rowMajor_val_three]
    show r.val * 2048 + (b.val * 256 + q.val) = (r.val * 8 + b.val) * 256 + q.val
    omega
  refine (Cert.Reference8Ideal.Read.val_main_v5_apply _ _ _).trans ((Cert.Reference8Ideal.Read.val_main_v4_apply _ _ _).trans ?_)
  exact Finset.sum_congr rfl fun k _ => (mul_comm _ _).trans (congrArg₂ (· * ·) (congrArg _ (eq_ix2 _)) (congrArg _ (eq_ix2 _)))

end Cert.MmGPool

end
-- ==== Proof.MmDYaPre.lean ====
/-
  Contracting with all eight devices' weights, strip after strip, for the gradient of the pooled branch before its out projection: a grid point adds the products of 4 strips
  of the left block with 4 of the stacked weights to what the points before it left, so the last point of a run holds the
  whole product.
-/
module

public import proofs.«01_k».proof.Proof.MmAcc
public import proofs.«01_k».proof.Proof.Gen.Kernel10Ideal.Value
public import Idealize.ShloMosaic.Lib.Pipeline.ValueKit
public import Idealize.ShloMosaic.Lib.Pipeline.ReadBack
public import proofs.«01_k».proof.Proof.Gen.Reference10Ideal.Read

@[expose] public section

set_option maxRecDepth 16384

noncomputable section

namespace Cert.MmDYaPre

open Cert.Kernel10Ideal Cert.Kernel10Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The gradient of the branch. -/
abbrev A0 : Vec Ideal S2176x2048 .bf16 := m ((c : Thread nD τ).loc main_arg0)

/-- Every device's out weights. -/
abbrev A1 : Vec Ideal S8x1024x256 .bf16 := m ((c : Thread nD τ).loc main_arg1)

/-- Where each point's blocks lie. -/
theorem index_at : ∀ t : Fin cfg0.N, win0_0.index t = ![t.val / 2, t.val % 2] ∧ win0_1.index t = ![t.val % 2, 0, 0] :=
  (by decide +kernel : ∀ t : Fin grid0.N, win0_0.index t = ![t.val / 2, t.val % 2] ∧ win0_1.index t = ![t.val % 2, 0, 0])

theorem blk0 (t : Fin cfg0.N) (r : Fin 1088) (k : Fin 1024) (R : Fin 2176) (Q : Fin 2048) (hR : R.val = t.val / 2 * 1088 + r.val)
    (hQ : Q.val = t.val % 2 * 1024 + k.val) : iblk m c 0 t (ix2 r k) = A0 m c (ix2 R Q) := by
  unfold A0
  rw [← V_main_arg0 m c]
  refine congrArg (V m c main_arg0) (funext fun a => Fin.ext ?_)
  match a with
  | ⟨0, _⟩ => show win0_0.index t 0 * 1088 + 1 * r.val = R.val; rw [(index_at t).1]; show t.val / 2 * 1088 + 1 * r.val = R.val; omega
  | ⟨1, _⟩ => show win0_0.index t 1 * 1024 + 1 * k.val = Q.val; rw [(index_at t).1]; show t.val % 2 * 1024 + 1 * k.val = Q.val; omega

theorem blk1 (t : Fin cfg0.N) (h : Fin 4) (q : Fin 1024) (k : Fin 256) (H : Fin 8) (Q : Fin 1024) (hH : H.val = t.val % 2 * 4 + h.val)
    (hQ : Q.val = 0 * 1024 + q.val) : iblk m c 1 t (ix3 h q k) = A1 m c (ix3 H Q k) := by
  unfold A1
  rw [← V_main_arg1 m c]
  refine congrArg (V m c main_arg1) (funext fun a => Fin.ext ?_)
  match a with
  | ⟨0, _⟩ => show win0_1.index t 0 * 4 + 1 * h.val = H.val; rw [(index_at t).2]; show t.val % 2 * 4 + 1 * h.val = H.val; omega
  | ⟨1, _⟩ => show win0_1.index t 1 * 1024 + 1 * q.val = Q.val; rw [(index_at t).2]; show 0 * 1024 + 1 * q.val = Q.val; omega
  | ⟨2, _⟩ => show win0_1.index t 2 * 256 + 1 * k.val = k.val; rw [(index_at t).2]; show 0 * 256 + 1 * k.val = k.val; omega

/-- The product of a row of the block's strip `h` with a row of the block's weight `h`. -/
def strip (x0 : Vec Ideal S1088x1024 .bf16) (x1 : Vec Ideal S4x1024x256 .bf16) (r : Fin 1088) (q : Fin 1024) (h : Fin 4) : EReal :=
  ∑ k : Fin 256, x0 (ix2 r ⟨256 * h.val + k.val, by omega⟩) * x1 (ix3 h q k)

/-- What one point adds. -/
def adds (x0 : Vec Ideal S1088x1024 .bf16) (x1 : Vec Ideal S4x1024x256 .bf16) (r : Fin 1088) (q : Fin 1024) : EReal :=
  strip x0 x1 r q 0 + strip x0 x1 r q 1 + strip x0 x1 r q 2 + strip x0 x1 r q 3

theorem adds_apply (x0 : Vec Ideal S1088x1024 .bf16) (x1 : Vec Ideal S4x1024x256 .bf16) (r : Fin 1088) (q : Fin 1024) :
    k0_pay1 (View.ld x0 (Rect.unit ![0, 0] ![1088, 256] inb_S1088x1024_S1088x256_0_0)) (View.ld x1 (Rect.unit ![0, 0, 0] ![1, 1024, 256] inb_S4x1024x256_S1x1024x256_0_0_0)) (View.ld x0 (Rect.unit ![0, 256] ![1088, 256] inb_S1088x1024_S1088x256_0_256)) (View.ld x1 (Rect.unit ![1, 0, 0] ![1, 1024, 256] inb_S4x1024x256_S1x1024x256_1_0_0)) (View.ld x0 (Rect.unit ![0, 512] ![1088, 256] inb_S1088x1024_S1088x256_0_512)) (View.ld x1 (Rect.unit ![2, 0, 0] ![1, 1024, 256] inb_S4x1024x256_S1x1024x256_2_0_0)) (View.ld x0 (Rect.unit ![0, 768] ![1088, 256] inb_S1088x1024_S1088x256_0_768)) (View.ld x1 (Rect.unit ![3, 0, 0] ![1, 1024, 256] inb_S4x1024x256_S1x1024x256_3_0_0)) (ix2 r q)
      = adds x0 x1 r q := by
  have e : ∀ (v0 : Vec Ideal S1088x256 .bf16) (v1 : Vec Ideal S1x1024x256 .bf16) (h : Fin 4),
      (∀ k, v0 (ix2 r k) = x0 (ix2 r ⟨256 * h.val + k.val, by omega⟩)) →
      (∀ k, shapeCast S1024x256 v1 shapeCasts_S1x1024x256_S1024x256 (ix2 q k) = x1 (ix3 h q k)) →
      matmul (F := Ideal) (φ₁ := .bf16) (φ₂ := .bf16) dot_S1088x256_S1024x256_S1088x1024_1_1_0_0_n_n none v0 (shapeCast S1024x256 v1 shapeCasts_S1x1024x256_S1024x256) (constant S1088x1024 .f32 0x00000000#32) (ix2 r q)
        = strip x0 x1 r q h
      := fun v0 v1 h h0 h1 => by
    unfold strip
    exact (Cert.Mm.nt_apply (φ₁ := .bf16) (φ₂ := .bf16) _ none _ _ r q).trans (Finset.sum_congr rfl fun k _ => congrArg₂ (· * ·) (h0 k) (h1 k))
  exact congrArg₂ (· + ·) (congrArg₂ (· + ·) (congrArg₂ (· + ·) (e _ _ 0 (fun k => Cert.Mm.ld_strip x0 _ r k _) (fun k => Cert.Mm.ld_weight x1 _ _ q k _))
    (e _ _ 1 (fun k => Cert.Mm.ld_strip x0 _ r k _) (fun k => Cert.Mm.ld_weight x1 _ _ q k _)))
    (e _ _ 2 (fun k => Cert.Mm.ld_strip x0 _ r k _) (fun k => Cert.Mm.ld_weight x1 _ _ q k _)))
    (e _ _ 3 (fun k => Cert.Mm.ld_strip x0 _ r k _) (fun k => Cert.Mm.ld_weight x1 _ _ q k _))

/-- What the first point of a run leaves. -/
theorem at_first (t : Fin cfg0.N) (h : t.val % 2 = 0) (r : Fin 1088) (q : Fin 1024) :
    (outsAt0 m c t.val t.isLt).2 (ix2 r q) = adds (iblk m c 0 t) (iblk m c 1 t) r q := by
  rw [outsAt0_A m c t h (fun e => by omega) (fun e => by omega)]
  dsimp only
  frame_out
  unfold k0_pay2
  refine (congrFun (shapeCast_id _ _) (ix2 r q)).trans (adds_apply _ _ r q)

/-- What the last point of a run stores into the result. -/
theorem at_last (t : Fin cfg0.N) (h : t.val % 2 = 1) (r : Fin 1088) (q : Fin 1024) :
    (outsAt0 m c t.val t.isLt).1 (ix2 r q)
      = (outsAt0 m c (t.val - 1) (Nat.lt_of_le_of_lt (Nat.sub_le _ _) t.isLt)).2 (ix2 r q) + adds (iblk m c 0 t) (iblk m c 1 t) r q := by
  rw [outsAt0_B m c t (fun e => by omega) h h]
  dsimp only
  frame_out
  simp only [read_unread_whole]
  unfold k0_pay3
  refine (congrFun (shapeCast_id _ _) (ix2 r q)).trans (congrArg (HAdd.hAdd _) (adds_apply _ _ r q))

/-- The product of a row with the row of device `j`'s weights. -/
def part (R : Fin 2176) (Q : Fin 1024) (j : Fin 8) : EReal :=
  ∑ k : Fin 256, A0 m c (ix2 R ⟨k.val + 256 * j.val, by omega⟩) * A1 m c (ix3 j Q k)

theorem strip_eq (t : Fin cfg0.N) (r : Fin 1088) (q : Fin 1024) (R : Fin 2176) (Q : Fin 1024) (hR : R.val = t.val / 2 * 1088 + r.val)
    (hQ : Q.val = 0 * 1024 + q.val) (h : Fin 4) (j : Fin 8) (hj : j.val = t.val % 2 * 4 + h.val) :
    strip (iblk m c 0 t) (iblk m c 1 t) r q h = part m c R Q j :=
  Finset.sum_congr rfl fun k _ => congrArg₂ (· * ·)
    (blk0 m c t r _ R _ hR (by show k.val + 256 * j.val = t.val % 2 * 1024 + (256 * h.val + k.val); omega)) (blk1 m c t h q k j Q hj hQ)

/-- The result's entry. -/
theorem final (R : Fin 2176) (Q : Fin 1024) : (dats m 0 c).arrAt 2 cfg0.N (ix2 R Q : S2176x1024.Idx) = ∑ j : Fin 8, part m c R Q j := by
  have hR := R.isLt
  have hQ := Q.isLt
  rw [Value.final2]
  have hp : 2 * (1 * (R.val / 1088 - 0) + 1 * (Q.val / 1024 - 0)) + 1 < 4 := by omega
  unfold Value.G2
  refine (dif_pos (show 2 * (1 * (R.val / 1088 - 0) + 1 * (Q.val / 1024 - 0)) + 1 < 4 from hp)).trans ?_
  rw [← Value.outsAt0_sweep]
  have e : Value.loc2Of (ix2 R Q : S2176x1024.Idx) = ix2 ⟨R.val % 1088, by omega⟩ ⟨Q.val % 1024, by omega⟩ := eq_ix2 _
  rw [e]
  show (outsAt0 m c (2 * (1 * (R.val / 1088 - 0) + 1 * (Q.val / 1024 - 0)) + 1) hp).1 _ = _
  generalize hn : 1 * (R.val / 1088 - 0) + 1 * (Q.val / 1024 - 0) = n at hp ⊢
  have l0 : 2 * n + 0 < cfg0.N := show 2 * n + 0 < 4 from by omega
  have l1 : 2 * n + 1 < cfg0.N := show 2 * n + 1 < 4 from by omega
  have a0 : adds (iblk m c 0 ⟨2 * n + 0, l0⟩) (iblk m c 1 ⟨2 * n + 0, l0⟩) ⟨R.val % 1088, by omega⟩ ⟨Q.val % 1024, by omega⟩ = part m c R Q 0 + part m c R Q 1 + part m c R Q 2 + part m c R Q 3 :=
    congrArg₂ (· + ·) (congrArg₂ (· + ·) (congrArg₂ (· + ·) (strip_eq m c ⟨2 * n + 0, l0⟩ _ _ R Q (by show R.val = (2 * n + 0) / 2 * 1088 + R.val % 1088; omega) (by show Q.val = 0 * 1024 + Q.val % 1024; omega) 0 0 (by show 0 = (2 * n + 0) % 2 * 4 + 0; omega))
    (strip_eq m c ⟨2 * n + 0, l0⟩ _ _ R Q (by show R.val = (2 * n + 0) / 2 * 1088 + R.val % 1088; omega) (by show Q.val = 0 * 1024 + Q.val % 1024; omega) 1 1 (by show 1 = (2 * n + 0) % 2 * 4 + 1; omega)))
    (strip_eq m c ⟨2 * n + 0, l0⟩ _ _ R Q (by show R.val = (2 * n + 0) / 2 * 1088 + R.val % 1088; omega) (by show Q.val = 0 * 1024 + Q.val % 1024; omega) 2 2 (by show 2 = (2 * n + 0) % 2 * 4 + 2; omega)))
    (strip_eq m c ⟨2 * n + 0, l0⟩ _ _ R Q (by show R.val = (2 * n + 0) / 2 * 1088 + R.val % 1088; omega) (by show Q.val = 0 * 1024 + Q.val % 1024; omega) 3 3 (by show 3 = (2 * n + 0) % 2 * 4 + 3; omega))
  have a1 : adds (iblk m c 0 ⟨2 * n + 1, l1⟩) (iblk m c 1 ⟨2 * n + 1, l1⟩) ⟨R.val % 1088, by omega⟩ ⟨Q.val % 1024, by omega⟩ = part m c R Q 4 + part m c R Q 5 + part m c R Q 6 + part m c R Q 7 :=
    congrArg₂ (· + ·) (congrArg₂ (· + ·) (congrArg₂ (· + ·) (strip_eq m c ⟨2 * n + 1, l1⟩ _ _ R Q (by show R.val = (2 * n + 1) / 2 * 1088 + R.val % 1088; omega) (by show Q.val = 0 * 1024 + Q.val % 1024; omega) 0 4 (by show 4 = (2 * n + 1) % 2 * 4 + 0; omega))
    (strip_eq m c ⟨2 * n + 1, l1⟩ _ _ R Q (by show R.val = (2 * n + 1) / 2 * 1088 + R.val % 1088; omega) (by show Q.val = 0 * 1024 + Q.val % 1024; omega) 1 5 (by show 5 = (2 * n + 1) % 2 * 4 + 1; omega)))
    (strip_eq m c ⟨2 * n + 1, l1⟩ _ _ R Q (by show R.val = (2 * n + 1) / 2 * 1088 + R.val % 1088; omega) (by show Q.val = 0 * 1024 + Q.val % 1024; omega) 2 6 (by show 6 = (2 * n + 1) % 2 * 4 + 2; omega)))
    (strip_eq m c ⟨2 * n + 1, l1⟩ _ _ R Q (by show R.val = (2 * n + 1) / 2 * 1088 + R.val % 1088; omega) (by show Q.val = 0 * 1024 + Q.val % 1024; omega) 3 7 (by show 7 = (2 * n + 1) % 2 * 4 + 3; omega))
  have s0 := at_first m c ⟨2 * n + 0, l0⟩ (by show (2 * n + 0) % 2 = 0; omega) ⟨R.val % 1088, by omega⟩ ⟨Q.val % 1024, by omega⟩
  have s1 := at_last m c ⟨2 * n + 1, l1⟩ (by show (2 * n + 1) % 2 = 1; omega) ⟨R.val % 1088, by omega⟩ ⟨Q.val % 1024, by omega⟩
  rw [a0] at s0
  rw [a1] at s1
  have f1 := s1.trans (congrArg (· + _) s0)
  refine f1.trans ?_
  rw [Fin.sum_univ_eight]
  simp only [add_assoc]

/-- The reference's result is the kernel's. -/
theorem same : Cert.Reference10Ideal.Read.val_main_v6 (F := Ideal) (A0 m c) (A1 m c) = (dats m 0 c).arrAt 2 cfg0.N := by
  funext i
  obtain ⟨R, Q, rfl⟩ : ∃ (R : Fin 2176) (Q : Fin 1024), i = ix2 R Q := ⟨i 0, i 1, eq_ix2 i⟩
  refine Eq.trans ?_ (final m c R Q).symm
  refine (Cert.Reference10Ideal.Read.val_main_v6_apply _ _ _).trans ((Cert.Mm.sum_strips (n := 8) (W := 256) rfl _).trans ?_)
  refine Finset.sum_congr rfl fun j _ => Finset.sum_congr rfl fun k _ => congrArg₂ (· * ·) (congrArg _ (eq_ix2 _)) ?_
  refine (Cert.Reference10Ideal.Read.val_main_v3_apply _ _).trans ((Cert.Reference10Ideal.Read.val_main_v2_apply _ _).trans
    ((Cert.Reference10Ideal.Read.val_main_v1_apply _ _).trans (congrArg _ (funext fun a => Fin.ext ?_))))
  have hj := j.isLt
  have hk := k.isLt
  have hQ := Q.isLt
  match a with
  | ⟨0, _⟩ => show (Q.val * 2048 + (k.val + 256 * j.val)) / 256 % 8 = j.val; omega
  | ⟨1, _⟩ => show (Q.val * 2048 + (k.val + 256 * j.val)) / 2048 = Q.val; omega
  | ⟨2, _⟩ => show (Q.val * 2048 + (k.val + 256 * j.val)) % 256 = k.val; omega

end Cert.MmDYaPre

end
-- ==== Proof.MmGIn.lean ====
/-
  The gradient of the projections' weight, kept as eight blocks of columns: each block of the result is one product of a
  block of columns of the saved inputs with one of the incoming gradient's blocks of columns.
-/
module

public import proofs.«01_k».proof.Proof.MmSum
public import proofs.«01_k».proof.Proof.Gen.Kernel12Ideal.Value
public import Idealize.ShloMosaic.Lib.Pipeline.ValueKit
public import proofs.«01_k».proof.Proof.Gen.Reference12Ideal.Read

@[expose] public section

set_option maxRecDepth 16384

noncomputable section

namespace Cert.MmGIn

open Cert.Kernel12Ideal Cert.Kernel12Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The saved inputs of the projections. -/
abbrev A0 : Vec Ideal S2176x2048 .bf16 := m ((c : Thread nD τ).loc main_arg0)

/-- The incoming gradient. -/
abbrev A1 : Vec Ideal S2176x7168 .bf16 := m ((c : Thread nD τ).loc main_arg1)

/-- Where each point's blocks lie. -/
theorem index_at : ∀ t : Fin cfg0.N, win0_0.index t = ![0, t.val / 8] ∧ win0_1.index t = ![0, t.val % 8]
    ∧ win0_2.index t = ![t.val % 8, t.val / 8, 0] ∧ (cfg0.win 2).flush t = true :=
  (by decide +kernel : ∀ t : Fin grid0.N, win0_0.index t = ![0, t.val / 8] ∧ win0_1.index t = ![0, t.val % 8]
    ∧ win0_2.index t = ![t.val % 8, t.val / 8, 0] ∧ win0_2.flush t = true)

theorem blk0 (t : Fin cfg0.N) (k : Fin 2176) (r : Fin 1024) (R : Fin 2048) (h : R.val = t.val / 8 * 1024 + r.val) :
    iblk m c 0 t (ix2 k r) = A0 m c (ix2 k R) := by
  unfold A0
  rw [← V_main_arg0 m c]
  refine congrArg (V m c main_arg0) (funext fun a => Fin.ext ?_)
  match a with
  | ⟨0, _⟩ => show win0_0.index t 0 * 2176 + 1 * k.val = k.val; rw [(index_at t).1]; show 0 * 2176 + 1 * k.val = k.val; omega
  | ⟨1, _⟩ => show win0_0.index t 1 * 1024 + 1 * r.val = R.val; rw [(index_at t).1]; show t.val / 8 * 1024 + 1 * r.val = R.val; omega

theorem blk1 (t : Fin cfg0.N) (k : Fin 2176) (q : Fin 896) (Q : Fin 7168) (h : Q.val = t.val % 8 * 896 + q.val) :
    iblk m c 1 t (ix2 k q) = A1 m c (ix2 k Q) := by
  unfold A1
  rw [← V_main_arg1 m c]
  refine congrArg (V m c main_arg1) (funext fun a => Fin.ext ?_)
  match a with
  | ⟨0, _⟩ => show win0_1.index t 0 * 2176 + 1 * k.val = k.val; rw [(index_at t).2.1]; show 0 * 2176 + 1 * k.val = k.val; omega
  | ⟨1, _⟩ => show win0_1.index t 1 * 896 + 1 * q.val = Q.val; rw [(index_at t).2.1]; show t.val % 8 * 896 + 1 * q.val = Q.val; omega

theorem out_apply (x0 : Vec Ideal S2176x1024 .bf16) (x1 : Vec Ideal S2176x896 .bf16) (r : Fin 1024) (q : Fin 896) :
    out0_2 x0 x1 (ix3 0 r q) = ∑ k : Fin 2176, x0 (ix2 k r) * x1 (ix2 k q) := by
  have h : out0_2 x0 x1 = k0_pay1 x0 x1 := by
    unfold out0_2
    rw [View.canon_cons_unit_lit _ _ _ (by decide), View.ld_unit_lit _ _ (by decide), View.ld_unit_lit _ _ (by decide)]
  rw [h]
  refine (shapeCast_apply _ _ _ (ix2 r q) ?_).trans (Cert.Mm.tn_apply (φ₁ := .bf16) (φ₂ := .bf16) _ none x0 x1 r q)
  rewrite [Shape.rowMajor_val_two, Shape.rowMajor_val_three]
  show r.val * 896 + q.val = (0 * 1024 + r.val) * 896 + q.val
  omega

/-- Column `q` of result block `b`, as a column of the incoming gradient. -/
def col (b : Fin 8) (q : Fin 896) : Fin 7168 := ⟨b.val * 896 + q.val, by have := b.isLt; have := q.isLt; omega⟩

/-- The result's entry. -/
theorem final (b : Fin 8) (r : Fin 2048) (q : Fin 896) : (dats m 0 c).arrAt 2 cfg0.N (ix3 b r q : S8x2048x896.Idx)
    = ∑ k : Fin 2176, A0 m c (ix2 k r) * A1 m c (ix2 k (col b q)) := by
  have hb := b.isLt
  have hr := r.isLt
  let t : Fin cfg0.N := ⟨8 * (r.val / 1024) + b.val, by show _ < 16; omega⟩
  have t0 : t.val / 8 = r.val / 1024 := by show (8 * (r.val / 1024) + b.val) / 8 = _; omega
  have t1 : t.val % 8 = b.val := by show (8 * (r.val / 1024) + b.val) % 8 = _; omega
  have h := congrFun ((Value.blocks2 m c t (index_at t).2.2.2).trans (Value.flushed2 m c t)) (ix3 0 ⟨r.val % 1024, by omega⟩ q)
  have e : ((cfg0.win 2).blk t).view.emb (ix3 0 ⟨r.val % 1024, by omega⟩ q) = ix3 b r q := by
    funext a; apply Fin.ext
    match a with
    | ⟨0, _⟩ => show win0_2.index t 0 * 1 + 1 * 0 = b.val; rw [(index_at t).2.2.1]; show t.val % 8 * 1 + 1 * 0 = b.val; omega
    | ⟨1, _⟩ => show win0_2.index t 1 * 1024 + 1 * (r.val % 1024) = r.val; rw [(index_at t).2.2.1]; show t.val / 8 * 1024 + 1 * (r.val % 1024) = r.val; omega
    | ⟨2, _⟩ => show win0_2.index t 2 * 896 + 1 * q.val = q.val; rw [(index_at t).2.2.1]; show 0 * 896 + 1 * q.val = q.val; omega
  rw [← e]
  refine h.trans ((out_apply _ _ _ _).trans ?_)
  refine Finset.sum_congr rfl fun k _ => congrArg₂ (· * ·) (blk0 m c t k _ r ?_) (blk1 m c t k _ (col b q) ?_)
  · show r.val = t.val / 8 * 1024 + r.val % 1024; omega
  · show b.val * 896 + q.val = t.val % 8 * 896 + q.val; rw [t1]

/-- The reference's result is the kernel's. -/
theorem same : Cert.Reference12Ideal.Read.val_main_v8 (F := Ideal) (A0 m c) (A1 m c) = (dats m 0 c).arrAt 2 cfg0.N := by
  funext i
  obtain ⟨b, r, q, rfl⟩ : ∃ (b : Fin 8) (r : Fin 2048) (q : Fin 896), i = ix3 b r q := ⟨i 0, i 1, i 2, eq_ix3 i⟩
  refine Eq.trans ?_ (final m c b r q).symm
  rw [Cert.Reference12Ideal.Read.val_main_v8_apply]
  refine (shapeCast_apply _ _ _ (ix2 r (col b q)) ?_).trans ?_
  · rewrite [Shape.rowMajor_val_two, Shape.rowMajor_val_three]
    show r.val * 7168 + (b.val * 896 + q.val) = (r.val * 8 + b.val) * 896 + q.val
    omega
  refine (Cert.Reference12Ideal.Read.val_main_v5_apply _ _ _).trans ((Cert.Reference12Ideal.Read.val_main_v4_apply _ _ _).trans ?_)
  exact Finset.sum_congr rfl fun k _ => (mul_comm _ _).trans (congrArg₂ (· * ·) (congrArg _ (eq_ix2 _)) (congrArg _ (eq_ix2 _)))

end Cert.MmGIn

end
-- ==== Proof.MmDu1.lean ====
/-
  Contracting with all eight devices' weights, strip after strip, for the gradient of the mixer input: a grid point adds the products of 4 strips
  of the left block with 4 of the stacked weights to what the points before it left, so the last point of a run holds the
  whole product.
-/
module

public import proofs.«01_k».proof.Proof.MmAcc
public import proofs.«01_k».proof.Proof.Gen.Kernel13Ideal.Value
public import Idealize.ShloMosaic.Lib.Pipeline.ValueKit
public import Idealize.ShloMosaic.Lib.Pipeline.ReadBack
public import proofs.«01_k».proof.Proof.Gen.Reference13Ideal.Read

@[expose] public section

set_option maxRecDepth 16384

noncomputable section

namespace Cert.MmDu1

open Cert.Kernel13Ideal Cert.Kernel13Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The gradient of the projections. -/
abbrev A0 : Vec Ideal S2176x7168 .bf16 := m ((c : Thread nD τ).loc main_arg0)

/-- Every device's input weights. -/
abbrev A1 : Vec Ideal S8x2048x896 .bf16 := m ((c : Thread nD τ).loc main_arg1)

/-- Where each point's blocks lie. -/
theorem index_at : ∀ t : Fin cfg0.N, win0_0.index t = ![t.val / 4, t.val % 2] ∧ win0_1.index t = ![t.val % 2, t.val / 2 % 2, 0] :=
  (by decide +kernel : ∀ t : Fin grid0.N, win0_0.index t = ![t.val / 4, t.val % 2] ∧ win0_1.index t = ![t.val % 2, t.val / 2 % 2, 0])

theorem blk0 (t : Fin cfg0.N) (r : Fin 544) (k : Fin 3584) (R : Fin 2176) (Q : Fin 7168) (hR : R.val = t.val / 4 * 544 + r.val)
    (hQ : Q.val = t.val % 2 * 3584 + k.val) : iblk m c 0 t (ix2 r k) = A0 m c (ix2 R Q) := by
  unfold A0
  rw [← V_main_arg0 m c]
  refine congrArg (V m c main_arg0) (funext fun a => Fin.ext ?_)
  match a with
  | ⟨0, _⟩ => show win0_0.index t 0 * 544 + 1 * r.val = R.val; rw [(index_at t).1]; show t.val / 4 * 544 + 1 * r.val = R.val; omega
  | ⟨1, _⟩ => show win0_0.index t 1 * 3584 + 1 * k.val = Q.val; rw [(index_at t).1]; show t.val % 2 * 3584 + 1 * k.val = Q.val; omega

theorem blk1 (t : Fin cfg0.N) (h : Fin 4) (q : Fin 1024) (k : Fin 896) (H : Fin 8) (Q : Fin 2048) (hH : H.val = t.val % 2 * 4 + h.val)
    (hQ : Q.val = t.val / 2 % 2 * 1024 + q.val) : iblk m c 1 t (ix3 h q k) = A1 m c (ix3 H Q k) := by
  unfold A1
  rw [← V_main_arg1 m c]
  refine congrArg (V m c main_arg1) (funext fun a => Fin.ext ?_)
  match a with
  | ⟨0, _⟩ => show win0_1.index t 0 * 4 + 1 * h.val = H.val; rw [(index_at t).2]; show t.val % 2 * 4 + 1 * h.val = H.val; omega
  | ⟨1, _⟩ => show win0_1.index t 1 * 1024 + 1 * q.val = Q.val; rw [(index_at t).2]; show t.val / 2 % 2 * 1024 + 1 * q.val = Q.val; omega
  | ⟨2, _⟩ => show win0_1.index t 2 * 896 + 1 * k.val = k.val; rw [(index_at t).2]; show 0 * 896 + 1 * k.val = k.val; omega

/-- The product of a row of the block's strip `h` with a row of the block's weight `h`. -/
def strip (x0 : Vec Ideal S544x3584 .bf16) (x1 : Vec Ideal S4x1024x896 .bf16) (r : Fin 544) (q : Fin 1024) (h : Fin 4) : EReal :=
  ∑ k : Fin 896, x0 (ix2 r ⟨896 * h.val + k.val, by omega⟩) * x1 (ix3 h q k)

/-- What one point adds. -/
def adds (x0 : Vec Ideal S544x3584 .bf16) (x1 : Vec Ideal S4x1024x896 .bf16) (r : Fin 544) (q : Fin 1024) : EReal :=
  strip x0 x1 r q 0 + strip x0 x1 r q 1 + strip x0 x1 r q 2 + strip x0 x1 r q 3

theorem adds_apply (x0 : Vec Ideal S544x3584 .bf16) (x1 : Vec Ideal S4x1024x896 .bf16) (r : Fin 544) (q : Fin 1024) :
    k0_pay1 (View.ld x0 (Rect.unit ![0, 0] ![544, 896] inb_S544x3584_S544x896_0_0)) (View.ld x1 (Rect.unit ![0, 0, 0] ![1, 1024, 896] inb_S4x1024x896_S1x1024x896_0_0_0)) (View.ld x0 (Rect.unit ![0, 896] ![544, 896] inb_S544x3584_S544x896_0_896)) (View.ld x1 (Rect.unit ![1, 0, 0] ![1, 1024, 896] inb_S4x1024x896_S1x1024x896_1_0_0)) (View.ld x0 (Rect.unit ![0, 1792] ![544, 896] inb_S544x3584_S544x896_0_1792)) (View.ld x1 (Rect.unit ![2, 0, 0] ![1, 1024, 896] inb_S4x1024x896_S1x1024x896_2_0_0)) (View.ld x0 (Rect.unit ![0, 2688] ![544, 896] inb_S544x3584_S544x896_0_2688)) (View.ld x1 (Rect.unit ![3, 0, 0] ![1, 1024, 896] inb_S4x1024x896_S1x1024x896_3_0_0)) (ix2 r q)
      = adds x0 x1 r q := by
  have e : ∀ (v0 : Vec Ideal S544x896 .bf16) (v1 : Vec Ideal S1x1024x896 .bf16) (h : Fin 4),
      (∀ k, v0 (ix2 r k) = x0 (ix2 r ⟨896 * h.val + k.val, by omega⟩)) →
      (∀ k, shapeCast S1024x896 v1 shapeCasts_S1x1024x896_S1024x896 (ix2 q k) = x1 (ix3 h q k)) →
      matmul (F := Ideal) (φ₁ := .bf16) (φ₂ := .bf16) dot_S544x896_S1024x896_S544x1024_1_1_0_0_n_n none v0 (shapeCast S1024x896 v1 shapeCasts_S1x1024x896_S1024x896) (constant S544x1024 .f32 0x00000000#32) (ix2 r q)
        = strip x0 x1 r q h
      := fun v0 v1 h h0 h1 => by
    unfold strip
    exact (Cert.Mm.nt_apply (φ₁ := .bf16) (φ₂ := .bf16) _ none _ _ r q).trans (Finset.sum_congr rfl fun k _ => congrArg₂ (· * ·) (h0 k) (h1 k))
  exact congrArg₂ (· + ·) (congrArg₂ (· + ·) (congrArg₂ (· + ·) (e _ _ 0 (fun k => Cert.Mm.ld_strip x0 _ r k _) (fun k => Cert.Mm.ld_weight x1 _ _ q k _))
    (e _ _ 1 (fun k => Cert.Mm.ld_strip x0 _ r k _) (fun k => Cert.Mm.ld_weight x1 _ _ q k _)))
    (e _ _ 2 (fun k => Cert.Mm.ld_strip x0 _ r k _) (fun k => Cert.Mm.ld_weight x1 _ _ q k _)))
    (e _ _ 3 (fun k => Cert.Mm.ld_strip x0 _ r k _) (fun k => Cert.Mm.ld_weight x1 _ _ q k _))

/-- What the first point of a run leaves. -/
theorem at_first (t : Fin cfg0.N) (h : t.val % 2 = 0) (r : Fin 544) (q : Fin 1024) :
    (outsAt0 m c t.val t.isLt).2 (ix2 r q) = adds (iblk m c 0 t) (iblk m c 1 t) r q := by
  rw [outsAt0_A m c t h (fun e => by omega) (fun e => by omega)]
  dsimp only
  frame_out
  unfold k0_pay2
  refine (congrFun (shapeCast_id _ _) (ix2 r q)).trans (adds_apply _ _ r q)

/-- What the last point of a run stores into the result. -/
theorem at_last (t : Fin cfg0.N) (h : t.val % 2 = 1) (r : Fin 544) (q : Fin 1024) :
    (outsAt0 m c t.val t.isLt).1 (ix2 r q)
      = (outsAt0 m c (t.val - 1) (Nat.lt_of_le_of_lt (Nat.sub_le _ _) t.isLt)).2 (ix2 r q) + adds (iblk m c 0 t) (iblk m c 1 t) r q := by
  rw [outsAt0_B m c t (fun e => by omega) h h]
  dsimp only
  frame_out
  simp only [read_unread_whole]
  unfold k0_pay3
  refine (congrFun (shapeCast_id _ _) (ix2 r q)).trans (congrArg (HAdd.hAdd _) (adds_apply _ _ r q))

/-- The product of a row with the row of device `j`'s weights. -/
def part (R : Fin 2176) (Q : Fin 2048) (j : Fin 8) : EReal :=
  ∑ k : Fin 896, A0 m c (ix2 R ⟨k.val + 896 * j.val, by omega⟩) * A1 m c (ix3 j Q k)

theorem strip_eq (t : Fin cfg0.N) (r : Fin 544) (q : Fin 1024) (R : Fin 2176) (Q : Fin 2048) (hR : R.val = t.val / 4 * 544 + r.val)
    (hQ : Q.val = t.val / 2 % 2 * 1024 + q.val) (h : Fin 4) (j : Fin 8) (hj : j.val = t.val % 2 * 4 + h.val) :
    strip (iblk m c 0 t) (iblk m c 1 t) r q h = part m c R Q j :=
  Finset.sum_congr rfl fun k _ => congrArg₂ (· * ·)
    (blk0 m c t r _ R _ hR (by show k.val + 896 * j.val = t.val % 2 * 3584 + (896 * h.val + k.val); omega)) (blk1 m c t h q k j Q hj hQ)

/-- The result's entry. -/
theorem final (R : Fin 2176) (Q : Fin 2048) : (dats m 0 c).arrAt 2 cfg0.N (ix2 R Q : S2176x2048.Idx) = ∑ j : Fin 8, part m c R Q j := by
  have hR := R.isLt
  have hQ := Q.isLt
  rw [Value.final2]
  have hp : 2 * (2 * (R.val / 544 - 0) + 1 * (Q.val / 1024 - 0)) + 1 < 16 := by omega
  unfold Value.G2
  refine (dif_pos (show 2 * (2 * (R.val / 544 - 0) + 1 * (Q.val / 1024 - 0)) + 1 < 16 from hp)).trans ?_
  rw [← Value.outsAt0_sweep]
  have e : Value.loc2Of (ix2 R Q : S2176x2048.Idx) = ix2 ⟨R.val % 544, by omega⟩ ⟨Q.val % 1024, by omega⟩ := eq_ix2 _
  rw [e]
  show (outsAt0 m c (2 * (2 * (R.val / 544 - 0) + 1 * (Q.val / 1024 - 0)) + 1) hp).1 _ = _
  generalize hn : 2 * (R.val / 544 - 0) + 1 * (Q.val / 1024 - 0) = n at hp ⊢
  have l0 : 2 * n + 0 < cfg0.N := show 2 * n + 0 < 16 from by omega
  have l1 : 2 * n + 1 < cfg0.N := show 2 * n + 1 < 16 from by omega
  have a0 : adds (iblk m c 0 ⟨2 * n + 0, l0⟩) (iblk m c 1 ⟨2 * n + 0, l0⟩) ⟨R.val % 544, by omega⟩ ⟨Q.val % 1024, by omega⟩ = part m c R Q 0 + part m c R Q 1 + part m c R Q 2 + part m c R Q 3 :=
    congrArg₂ (· + ·) (congrArg₂ (· + ·) (congrArg₂ (· + ·) (strip_eq m c ⟨2 * n + 0, l0⟩ _ _ R Q (by show R.val = (2 * n + 0) / 4 * 544 + R.val % 544; omega) (by show Q.val = (2 * n + 0) / 2 % 2 * 1024 + Q.val % 1024; omega) 0 0 (by show 0 = (2 * n + 0) % 2 * 4 + 0; omega))
    (strip_eq m c ⟨2 * n + 0, l0⟩ _ _ R Q (by show R.val = (2 * n + 0) / 4 * 544 + R.val % 544; omega) (by show Q.val = (2 * n + 0) / 2 % 2 * 1024 + Q.val % 1024; omega) 1 1 (by show 1 = (2 * n + 0) % 2 * 4 + 1; omega)))
    (strip_eq m c ⟨2 * n + 0, l0⟩ _ _ R Q (by show R.val = (2 * n + 0) / 4 * 544 + R.val % 544; omega) (by show Q.val = (2 * n + 0) / 2 % 2 * 1024 + Q.val % 1024; omega) 2 2 (by show 2 = (2 * n + 0) % 2 * 4 + 2; omega)))
    (strip_eq m c ⟨2 * n + 0, l0⟩ _ _ R Q (by show R.val = (2 * n + 0) / 4 * 544 + R.val % 544; omega) (by show Q.val = (2 * n + 0) / 2 % 2 * 1024 + Q.val % 1024; omega) 3 3 (by show 3 = (2 * n + 0) % 2 * 4 + 3; omega))
  have a1 : adds (iblk m c 0 ⟨2 * n + 1, l1⟩) (iblk m c 1 ⟨2 * n + 1, l1⟩) ⟨R.val % 544, by omega⟩ ⟨Q.val % 1024, by omega⟩ = part m c R Q 4 + part m c R Q 5 + part m c R Q 6 + part m c R Q 7 :=
    congrArg₂ (· + ·) (congrArg₂ (· + ·) (congrArg₂ (· + ·) (strip_eq m c ⟨2 * n + 1, l1⟩ _ _ R Q (by show R.val = (2 * n + 1) / 4 * 544 + R.val % 544; omega) (by show Q.val = (2 * n + 1) / 2 % 2 * 1024 + Q.val % 1024; omega) 0 4 (by show 4 = (2 * n + 1) % 2 * 4 + 0; omega))
    (strip_eq m c ⟨2 * n + 1, l1⟩ _ _ R Q (by show R.val = (2 * n + 1) / 4 * 544 + R.val % 544; omega) (by show Q.val = (2 * n + 1) / 2 % 2 * 1024 + Q.val % 1024; omega) 1 5 (by show 5 = (2 * n + 1) % 2 * 4 + 1; omega)))
    (strip_eq m c ⟨2 * n + 1, l1⟩ _ _ R Q (by show R.val = (2 * n + 1) / 4 * 544 + R.val % 544; omega) (by show Q.val = (2 * n + 1) / 2 % 2 * 1024 + Q.val % 1024; omega) 2 6 (by show 6 = (2 * n + 1) % 2 * 4 + 2; omega)))
    (strip_eq m c ⟨2 * n + 1, l1⟩ _ _ R Q (by show R.val = (2 * n + 1) / 4 * 544 + R.val % 544; omega) (by show Q.val = (2 * n + 1) / 2 % 2 * 1024 + Q.val % 1024; omega) 3 7 (by show 7 = (2 * n + 1) % 2 * 4 + 3; omega))
  have s0 := at_first m c ⟨2 * n + 0, l0⟩ (by show (2 * n + 0) % 2 = 0; omega) ⟨R.val % 544, by omega⟩ ⟨Q.val % 1024, by omega⟩
  have s1 := at_last m c ⟨2 * n + 1, l1⟩ (by show (2 * n + 1) % 2 = 1; omega) ⟨R.val % 544, by omega⟩ ⟨Q.val % 1024, by omega⟩
  rw [a0] at s0
  rw [a1] at s1
  have f1 := s1.trans (congrArg (· + _) s0)
  refine f1.trans ?_
  rw [Fin.sum_univ_eight]
  simp only [add_assoc]

/-- The reference's result is the kernel's. -/
theorem same : Cert.Reference13Ideal.Read.val_main_v6 (F := Ideal) (A0 m c) (A1 m c) = (dats m 0 c).arrAt 2 cfg0.N := by
  funext i
  obtain ⟨R, Q, rfl⟩ : ∃ (R : Fin 2176) (Q : Fin 2048), i = ix2 R Q := ⟨i 0, i 1, eq_ix2 i⟩
  refine Eq.trans ?_ (final m c R Q).symm
  refine (Cert.Reference13Ideal.Read.val_main_v6_apply _ _ _).trans ((Cert.Mm.sum_strips (n := 8) (W := 896) rfl _).trans ?_)
  refine Finset.sum_congr rfl fun j _ => Finset.sum_congr rfl fun k _ => congrArg₂ (· * ·) (congrArg _ (eq_ix2 _)) ?_
  refine (Cert.Reference13Ideal.Read.val_main_v3_apply _ _).trans ((Cert.Reference13Ideal.Read.val_main_v2_apply _ _).trans
    ((Cert.Reference13Ideal.Read.val_main_v1_apply _ _).trans (congrArg _ (funext fun a => Fin.ext ?_))))
  have hj := j.isLt
  have hk := k.isLt
  have hQ := Q.isLt
  match a with
  | ⟨0, _⟩ => show (Q.val * 7168 + (k.val + 896 * j.val)) / 896 % 8 = j.val; omega
  | ⟨1, _⟩ => show (Q.val * 7168 + (k.val + 896 * j.val)) / 7168 = Q.val; omega
  | ⟨2, _⟩ => show (Q.val * 7168 + (k.val + 896 * j.val)) % 896 = k.val; omega

end Cert.MmDu1

end
-- ==== Proof.MmNN.lean ====
/-
  A plain product of two matrices over the extended reals, read at an index as one sum over the contracted coordinate.
-/
module

public import Idealize.ShloMosaic.PureOps.Ideal.Laws
public import Idealize.ShloMosaic.Lib.ValueIdxCore
public import Idealize.ShloMosaic.Lib.MatmulPlain

@[expose] public section

set_option maxRecDepth 16384

noncomputable section

namespace Cert.Mm

open Idealize.ShloMosaic Idealize.ShloMosaic.ValueIdx

/-- The left's second axis against the right's first: the entry at `(r, c)` is row `r` times column `c`. -/
theorem nn_apply {M K N : ℕ} {φ₁ φ₂ : FTy} (w) (prec : Option ContractPrecision)
    (lhs : FVec Ideal ⟨2, ![M, K]⟩ φ₁) (rhs : FVec Ideal ⟨2, ![K, N]⟩ φ₂) (r : Fin M) (c : Fin N) :
    FloatOps.matmul (so := ⟨2, ![M, N]⟩) ⟨[1], [0], [0], [1], [], [], w⟩ prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 _ K rfl rfl).symm]
  refine Finset.sum_congr rfl fun k _ => congrArg₂ (· * ·) (congrArg lhs ?_) (congrArg rhs ?_)
  all_goals have hk := contrEquiv1_symm_val (⟨[1], [0], [0], [1], [], [], w⟩ : DotDims ⟨2, ![M, K]⟩ ⟨2, ![K, N]⟩ ⟨2, ![M, N]⟩) K rfl rfl k
  · funext a; apply Fin.ext
    match a with
    | ⟨0, _⟩ => rfl
    | ⟨1, _⟩ => exact hk
  · funext a; apply Fin.ext
    match a with
    | ⟨0, _⟩ => exact hk
    | ⟨1, _⟩ => rfl

end Cert.Mm

end
-- ==== Proof.MmO.lean ====
/-
  The product of the output projection: each block of the result is one product of a block of rows with a block of columns
  of the weight, so the whole result is the product of the two arrays.
-/
module

public import proofs.«01_k».proof.Proof.MmNN
public import proofs.«01_k».proof.Proof.Gen.Kernel14Ideal.Value
public import Idealize.ShloMosaic.Lib.Pipeline.ValueKit
public import proofs.«01_k».proof.Proof.Gen.Reference14Ideal.Read

@[expose] public section

set_option maxRecDepth 16384

noncomputable section

namespace Cert.MmO

open Cert.Kernel14Ideal Cert.Kernel14Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The rows. -/
abbrev A0 : Vec Ideal S2176x2048 .bf16 := m ((c : Thread nD τ).loc main_arg0)

/-- The weight. -/
abbrev A1 : Vec Ideal S2048x2048 .bf16 := m ((c : Thread nD τ).loc main_arg1)

/-- Where each point's blocks lie. -/
theorem index_at : ∀ t : Fin cfg0.N, win0_0.index t = ![t.val / 4, 0] ∧ win0_1.index t = ![0, t.val % 4]
    ∧ win0_2.index t = ![t.val / 4, t.val % 4] ∧ (cfg0.win 2).flush t = true :=
  (by decide +kernel : ∀ t : Fin grid0.N, win0_0.index t = ![t.val / 4, 0] ∧ win0_1.index t = ![0, t.val % 4]
    ∧ win0_2.index t = ![t.val / 4, t.val % 4] ∧ win0_2.flush t = true)

theorem blk0 (t : Fin cfg0.N) (r : Fin 1088) (k : Fin 2048) (R : Fin 2176) (h : R.val = t.val / 4 * 1088 + r.val) :
    iblk m c 0 t (ix2 r k) = A0 m c (ix2 R k) := by
  unfold A0
  rw [← V_main_arg0 m c]
  refine congrArg (V m c main_arg0) (funext fun a => Fin.ext ?_)
  match a with
  | ⟨0, _⟩ => show win0_0.index t 0 * 1088 + 1 * r.val = R.val; rw [(index_at t).1]; show t.val / 4 * 1088 + 1 * r.val = R.val; omega
  | ⟨1, _⟩ => show win0_0.index t 1 * 2048 + 1 * k.val = k.val; rw [(index_at t).1]; show 0 * 2048 + 1 * k.val = k.val; omega

theorem blk1 (t : Fin cfg0.N) (k : Fin 2048) (q : Fin 512) (Q : Fin 2048) (h : Q.val = t.val % 4 * 512 + q.val) :
    iblk m c 1 t (ix2 k q) = A1 m c (ix2 k Q) := by
  unfold A1
  rw [← V_main_arg1 m c]
  refine congrArg (V m c main_arg1) (funext fun a => Fin.ext ?_)
  match a with
  | ⟨0, _⟩ => show win0_1.index t 0 * 2048 + 1 * k.val = k.val; rw [(index_at t).2.1]; show 0 * 2048 + 1 * k.val = k.val; omega
  | ⟨1, _⟩ => show win0_1.index t 1 * 512 + 1 * q.val = Q.val; rw [(index_at t).2.1]; show t.val % 4 * 512 + 1 * q.val = Q.val; omega

theorem out_apply (x0 : Vec Ideal S1088x2048 .bf16) (x1 : Vec Ideal S2048x512 .bf16) (r : Fin 1088) (q : Fin 512) :
    out0_2 x0 x1 (ix2 r q) = ∑ k : Fin 2048, x0 (ix2 r k) * x1 (ix2 k q) := by
  have h : out0_2 x0 x1 = k0_pay1 x0 x1 := by
    unfold out0_2
    rw [View.canon_cons_unit_lit _ _ _ (by decide), View.ld_unit_lit _ _ (by decide), View.ld_unit_lit _ _ (by decide)]
  rw [h]
  exact Cert.Mm.nn_apply (φ₁ := .bf16) (φ₂ := .bf16) _ none x0 x1 r q

/-- The result's entry. -/
theorem final (r : Fin 2176) (q : Fin 2048) : (dats m 0 c).arrAt 2 cfg0.N (ix2 r q : S2176x2048.Idx)
    = ∑ k : Fin 2048, A0 m c (ix2 r k) * A1 m c (ix2 k q) := by
  have hr := r.isLt
  have hq := q.isLt
  let t : Fin cfg0.N := ⟨4 * (r.val / 1088) + q.val / 512, by show _ < 8; omega⟩
  have t0 : t.val / 4 = r.val / 1088 := by show (4 * (r.val / 1088) + q.val / 512) / 4 = _; omega
  have t1 : t.val % 4 = q.val / 512 := by show (4 * (r.val / 1088) + q.val / 512) % 4 = _; omega
  have h := congrFun ((Value.blocks2 m c t (index_at t).2.2.2).trans (Value.flushed2 m c t)) (ix2 ⟨r.val % 1088, by omega⟩ ⟨q.val % 512, by omega⟩)
  have e : ((cfg0.win 2).blk t).view.emb (ix2 ⟨r.val % 1088, by omega⟩ ⟨q.val % 512, by omega⟩) = ix2 r q := by
    funext a; apply Fin.ext
    match a with
    | ⟨0, _⟩ => show win0_2.index t 0 * 1088 + 1 * (r.val % 1088) = r.val; rw [(index_at t).2.2.1]; show t.val / 4 * 1088 + 1 * (r.val % 1088) = r.val; omega
    | ⟨1, _⟩ => show win0_2.index t 1 * 512 + 1 * (q.val % 512) = q.val; rw [(index_at t).2.2.1]; show t.val % 4 * 512 + 1 * (q.val % 512) = q.val; omega
  rw [← e]
  refine h.trans ((out_apply _ _ _ _).trans ?_)
  refine Finset.sum_congr rfl fun k _ => congrArg₂ (· * ·) (blk0 m c t _ k r ?_) (blk1 m c t k _ q ?_)
  · show r.val = t.val / 4 * 1088 + r.val % 1088; omega
  · show q.val = t.val % 4 * 512 + q.val % 512; omega

/-- The reference's result is the kernel's. -/
theorem same : Cert.Reference14Ideal.Read.val_main_v2 (F := Ideal) (A0 m c) (A1 m c)
    = (dats m 0 c).arrAt 2 cfg0.N := by
  funext i
  obtain ⟨r, q, rfl⟩ : ∃ (r : Fin 2176) (q : Fin 2048), i = ix2 r q := ⟨i 0, i 1, eq_ix2 i⟩
  refine Eq.trans ?_ (final m c r q).symm
  refine (Cert.Reference14Ideal.Read.val_main_v2_apply _ _ _).trans ?_
  exact Finset.sum_congr rfl fun k _ => congrArg₂ (· * ·) (congrArg _ (eq_ix2 _)) (congrArg _ (eq_ix2 _))

end Cert.MmO

end
-- ==== Proof.GateMix.lean ====
/-
  The mix of the two mixers: each point takes a block of columns of both output weights, forms the two products strip by
  strip of their rows, and adds them under their gates; all three results are whole.
-/
module

public import proofs.«01_k».proof.Proof.MmNN
public import proofs.«01_k».proof.Proof.MmAcc
public import proofs.«01_k».proof.Proof.Gen.Kernel15Ideal.Value
public import Idealize.ShloMosaic.Lib.Pipeline.ValueKit
public import proofs.«01_k».proof.Proof.Gen.Reference15Ideal.Read

@[expose] public section

set_option maxRecDepth 16384

noncomputable section

namespace Cert.GateMix

open Cert.Kernel15Ideal Cert.Kernel15Ideal.Gen
open Idealize.ShloMosaic hiding ix1 ix2 ix3 eq_ix1 eq_ix2 eq_ix3
open Idealize.ShloMosaic.TcCoe Idealize.ShloMosaic.ValueIdx Idealize.SL Idealize.SL.Sem

variable (m : (ℓ : Loc nD τ sig) → Buf (Elt Ideal) ℓ) (c : Dev nD)

/-- The first mixer's rows. -/
abbrev A0 : Vec Ideal S2176x1024 .bf16 := m ((c : Thread nD τ).loc main_arg0)

/-- The second mixer's rows. -/
abbrev A1 : Vec Ideal S2176x1024 .bf16 := m ((c : Thread nD τ).loc main_arg1)

/-- The first output weight, in blocks of columns. -/
abbrev A2 : Vec Ideal S8x1024x256 .bf16 := m ((c : Thread nD τ).loc main_arg2)

/-- The second output weight, in blocks of columns. -/
abbrev A3 : Vec Ideal S8x1024x256 .bf16 := m ((c : Thread nD τ).loc main_arg3)

/-- The projections, whose last columns are the two gates. -/
abbrev A4 : Vec Ideal S2176x7168 .f32 := m ((c : Thread nD τ).loc main_arg4)

/-! ## The formulas -/

/-- A product with a weight kept in blocks of columns. -/
def prod (x : Vec Ideal S2176x1024 .bf16) (w : Vec Ideal S8x1024x256 .bf16) (R : Fin 2176) (Q : Fin 2048) : EReal :=
  ∑ k : Fin 1024, x (ix2 R k) * w (ix3 ⟨Q.val / 256, by have := Q.isLt; omega⟩ k ⟨Q.val % 256, by omega⟩)

/-- A gate: the logistic of a column of the projections counted from column `o`. -/
def gate (p : Vec Ideal S2176x7168 .f32) (o : ℕ) (ho : o ≤ 5120) (R : Fin 2176) (Q : Fin 2048) : EReal :=
  Ideal.logistic (p (ix2 R ⟨o + Q.val, by have := Q.isLt; omega⟩))

/-! ## The blocks -/

/-- Where each point's blocks lie. -/
theorem index_at : ∀ t : Fin cfg0.N, win0_0.index t = ![0, 0] ∧ win0_1.index t = ![0, 0] ∧ win0_2.index t = ![t.val, 0, 0]
    ∧ win0_3.index t = ![t.val, 0, 0] ∧ win0_4.index t = ![0, t.val + 12] ∧ win0_5.index t = ![0, t.val + 20]
    ∧ win0_6.index t = ![0, t.val] ∧ win0_7.index t = ![0, t.val] ∧ win0_8.index t = ![0, t.val]
    ∧ (cfg0.win 6).flush t = true ∧ (cfg0.win 7).flush t = true ∧ (cfg0.win 8).flush t = true :=
  (by decide +kernel : ∀ t : Fin grid0.N, win0_0.index t = ![0, 0] ∧ win0_1.index t = ![0, 0] ∧ win0_2.index t = ![t.val, 0, 0]
    ∧ win0_3.index t = ![t.val, 0, 0] ∧ win0_4.index t = ![0, t.val + 12] ∧ win0_5.index t = ![0, t.val + 20]
    ∧ win0_6.index t = ![0, t.val] ∧ win0_7.index t = ![0, t.val] ∧ win0_8.index t = ![0, t.val]
    ∧ win0_6.flush t = true ∧ win0_7.flush t = true ∧ win0_8.flush t = true)

theorem blk0 (t : Fin cfg0.N) (r : Fin 2176) (k : Fin 1024) : iblk m c 0 t (ix2 r k) = A0 m c (ix2 r k) := by
  unfold A0
  rw [← V_main_arg0 m c]
  refine congrArg (V m c main_arg0) (funext fun a => Fin.ext ?_)
  match a with
  | ⟨0, _⟩ => show win0_0.index t 0 * 2176 + 1 * r.val = r.val; rw [(index_at t).1]; show 0 * 2176 + 1 * r.val = r.val; omega
  | ⟨1, _⟩ => show win0_0.index t 1 * 1024 + 1 * k.val = k.val; rw [(index_at t).1]; show 0 * 1024 + 1 * k.val = k.val; omega

theorem blk1 (t : Fin cfg0.N) (r : Fin 2176) (k : Fin 1024) : iblk m c 1 t (ix2 r k) = A1 m c (ix2 r k) := by
  unfold A1
  rw [← V_main_arg1 m c]
  refine congrArg (V m c main_arg1) (funext fun a => Fin.ext ?_)
  match a with
  | ⟨0, _⟩ => show win0_1.index t 0 * 2176 + 1 * r.val = r.val; rw [(index_at t).2.1]; show 0 * 2176 + 1 * r.val = r.val; omega
  | ⟨1, _⟩ => show win0_1.index t 1 * 1024 + 1 * k.val = k.val; rw [(index_at t).2.1]; show 0 * 1024 + 1 * k.val = k.val; omega

theorem blk2 (t : Fin cfg0.N) (k : Fin 1024) (q : Fin 256) :
    iblk m c 2 t (ix3 0 k q) = A2 m c (ix3 t k q) := by
  unfold A2
  rw [← V_main_arg2 m c]
  refine congrArg (V m c main_arg2) (funext fun a => Fin.ext ?_)
  match a with
  | ⟨0, _⟩ => show win0_2.index t 0 * 1 + 1 * 0 = t.val; rw [(index_at t).2.2.1]; show t.val * 1 + 1 * 0 = t.val; omega
  | ⟨1, _⟩ => show win0_2.index t 1 * 1024 + 1 * k.val = k.val; rw [(index_at t).2.2.1]; show 0 * 1024 + 1 * k.val = k.val; omega
  | ⟨2, _⟩ => show win0_2.index t 2 * 256 + 1 * q.val = q.val; rw [(index_at t).2.2.1]; show 0 * 256 + 1 * q.val = q.val; omega

theorem blk3 (t : Fin cfg0.N) (k : Fin 1024) (q : Fin 256) :
    iblk m c 3 t (ix3 0 k q) = A3 m c (ix3 t k q) := by
  unfold A3
  rw [← V_main_arg3 m c]
  refine congrArg (V m c main_arg3) (funext fun a => Fin.ext ?_)
  match a with
  | ⟨0, _⟩ => show win0_3.index t 0 * 1 + 1 * 0 = t.val; rw [(index_at t).2.2.2.1]; show t.val * 1 + 1 * 0 = t.val; omega
  | ⟨1, _⟩ => show win0_3.index t 1 * 1024 + 1 * k.val = k.val; rw [(index_at t).2.2.2.1]; show 0 * 1024 + 1 * k.val = k.val; omega
  | ⟨2, _⟩ => show win0_3.index t 2 * 256 + 1 * q.val = q.val; rw [(index_at t).2.2.2.1]; show 0 * 256 + 1 * q.val = q.val; omega

theorem blk4 (t : Fin cfg0.N) (r : Fin 2176) (q : Fin 256) (Q : Fin 7168) (h : Q.val = 3072 + (t.val * 256 + q.val)) :
    iblk m c 4 t (ix2 r q) = A4 m c (ix2 r Q) := by
  unfold A4
  rw [← V_main_arg4 m c]
  refine congrArg (V m c main_arg4) (funext fun a => Fin.ext ?_)
  match a with
  | ⟨0, _⟩ => show win0_4.index t 0 * 2176 + 1 * r.val = r.val; rw [(index_at t).2.2.2.2.1]; show 0 * 2176 + 1 * r.val = r.val; omega
  | ⟨1, _⟩ => show win0_4.index t 1 * 256 + 1 * q.val = Q.val; rw [(index_at t).2.2.2.2.1]; show (t.val + 12) * 256 + 1 * q.val = Q.val; omega

theorem blk5 (t : Fin cfg0.N) (r : Fin 2176) (q : Fin 256) (Q : Fin 7168) (h : Q.val = 5120 + (t.val * 256 + q.val)) :
    iblk m c 5 t (ix2 r q) = A4 m c (ix2 r Q) := by
  unfold A4
  rw [← V_main_arg4 m c]
  refine congrArg (V m c main_arg4) (funext fun a => Fin.ext ?_)
  match a with
  | ⟨0, _⟩ => show win0_5.index t 0 * 2176 + 1 * r.val = r.val; rw [(index_at t).2.2.2.2.2.1]; show 0 * 2176 + 1 * r.val = r.val; omega
  | ⟨1, _⟩ => show win0_5.index t 1 * 256 + 1 * q.val = Q.val; rw [(index_at t).2.2.2.2.2.1]; show (t.val + 20) * 256 + 1 * q.val = Q.val; omega

/-! ## The strips -/

/-- A row of a result block lies outside another strip. -/
theorem skip_strip (o : ℕ) (R : Fin 2176) (q : Fin 256) (hne : R.val < o ∨ o + 544 ≤ R.val) (inb) (w : S544x256.Idx → EReal)
    (L : List (View.Piece (Elt Ideal) S2176x256 .bf16)) :
    View.canon (⟨Rect.unit (s := S2176x256) ![o, 0] S544x256.size inb, w⟩ :: L) (ix2 R q : S2176x256.Idx) = View.canon L (ix2 R q : S2176x256.Idx) := by
  refine View.canon_cons_of_not_mem _ _ ?_
  rw [Rect.mem_set_unit]
  intro hm
  have h1 : o ≤ R.val ∧ R.val < o + 544 := hm 0
  omega

/-- It reads its own strip. -/
theorem take_strip (o : ℕ) (R : Fin 2176) (r : Fin 544) (q : Fin 256) (he : R.val = o + r.val) (inb) (w : S544x256.Idx → EReal)
    (L : List (View.Piece (Elt Ideal) S2176x256 .bf16)) :
    View.canon (⟨Rect.unit (s := S2176x256) ![o, 0] S544x256.size inb, w⟩ :: L) (ix2 R q : S2176x256.Idx) = w (ix2 r q : S544x256.Idx) := by
  have e : (Rect.unit (s := S2176x256) ![o, 0] S544x256.size inb).emb (ix2 r q : S544x256.Idx) = (ix2 R q : S2176x256.Idx) := by
    funext a; apply Fin.ext
    match a with
    | ⟨0, _⟩ => show o + 1 * r.val = R.val; omega
    | ⟨1, _⟩ => show 0 + 1 * q.val = q.val; omega
  rw [← e]
  exact View.canon_cons_emb (Val := Elt Ideal) (e := .bf16) (Rect.unit (s := S2176x256) ![o, 0] S544x256.size inb) w L (ix2 r q : S544x256.Idx)

/-- Four strips that each hold a formula's rows hold the formula. -/
theorem four_strips (G : Fin 2176 → EReal) (q : Fin 256) (w0 w1 w2 w3 : S544x256.Idx → EReal) (i0 i1 i2 i3)
    (h0 : ∀ (r : Fin 544) (R : Fin 2176), R.val = 0 + r.val → w0 (ix2 r q) = G R)
    (h1 : ∀ (r : Fin 544) (R : Fin 2176), R.val = 544 + r.val → w1 (ix2 r q) = G R)
    (h2 : ∀ (r : Fin 544) (R : Fin 2176), R.val = 1088 + r.val → w2 (ix2 r q) = G R)
    (h3 : ∀ (r : Fin 544) (R : Fin 2176), R.val = 1632 + r.val → w3 (ix2 r q) = G R) (R : Fin 2176) :
    View.canon ([⟨Rect.unit (s := S2176x256) ![1632, 0] S544x256.size i3, w3⟩, ⟨Rect.unit (s := S2176x256) ![1088, 0] S544x256.size i2, w2⟩,
      ⟨Rect.unit (s := S2176x256) ![544, 0] S544x256.size i1, w1⟩, ⟨Rect.unit (s := S2176x256) ![0, 0] S544x256.size i0, w0⟩] :
        List (View.Piece (Elt Ideal) S2176x256 .bf16)) (ix2 R q : S2176x256.Idx) = G R := by
  have hR := R.isLt
  by_cases a3 : 1632 ≤ R.val
  · exact (take_strip 1632 R ⟨R.val - 1632, by omega⟩ q (by show R.val = 1632 + (R.val - 1632); omega) _ _ _).trans (h3 _ R (by show R.val = 1632 + (R.val - 1632); omega))
  refine (skip_strip 1632 R q (by omega) _ _ _).trans ?_
  by_cases a2 : 1088 ≤ R.val
  · exact (take_strip 1088 R ⟨R.val - 1088, by omega⟩ q (by show R.val = 1088 + (R.val - 1088); omega) _ _ _).trans (h2 _ R (by show R.val = 1088 + (R.val - 1088); omega))
  refine (skip_strip 1088 R q (by omega) _ _ _).trans ?_
  by_cases a1 : 544 ≤ R.val
  · exact (take_strip 544 R ⟨R.val - 544, by omega⟩ q (by show R.val = 544 + (R.val - 544); omega) _ _ _).trans (h1 _ R (by show R.val = 544 + (R.val - 544); omega))
  refine (skip_strip 544 R q (by omega) _ _ _).trans ?_
  exact (take_strip 0 R ⟨R.val, by omega⟩ q (by show R.val = 0 + R.val; omega) _ _ _).trans (h0 _ R (by show R.val = 0 + R.val; omega))

/-- A product of a strip of rows. -/
theorem strip_prod (o : ℕ) (x : Vec Ideal S2176x1024 .bf16) (w : Vec Ideal S1x1024x256 .bf16) (inb) (r : Fin 544) (q : Fin 256) (R : Fin 2176) (h : R.val = o + r.val) :
    k0_pay2 (View.ld x (Rect.unit (s := S2176x1024) ![o, 0] S544x1024.size inb)) (View.ld w r0_1) (ix2 r q)
      = ∑ k : Fin 1024, x (ix2 R k) * w (ix3 0 k q) := by
  refine (Cert.Mm.nn_apply (φ₁ := .bf16) (φ₂ := .bf16) _ none _ _ r q).trans ?_
  refine Finset.sum_congr rfl fun k _ => congrArg₂ (· * ·) ?_ (Cert.Mm.ld_weight (h := 0) w _ _ k q (by omega))
  refine congrArg x (funext fun a => Fin.ext ?_)
  match a with
  | ⟨0, _⟩ => show o + 1 * r.val = R.val; omega
  | ⟨1, _⟩ => show 0 + 1 * k.val = k.val; omega

/-- A strip of a gate's block. -/
theorem strip_gate (o : ℕ) (x : Vec Ideal S2176x256 .f32) (inb) (r : Fin 544) (q : Fin 256) (R : Fin 2176) (h : R.val = o + r.val) :
    View.ld x (Rect.unit (s := S2176x256) ![o, 0] S544x256.size inb) (ix2 r q) = x (ix2 R q) := by
  refine congrArg x (funext fun a => Fin.ext ?_)
  match a with
  | ⟨0, _⟩ => show o + 1 * r.val = R.val; omega
  | ⟨1, _⟩ => show 0 + 1 * q.val = q.val; omega

/-- A strip of the mix. -/
theorem strip_mix (o : ℕ) (x0 x1 : Vec Ideal S2176x1024 .bf16) (x2 x3 : Vec Ideal S1x1024x256 .bf16) (x4 x5 : Vec Ideal S2176x256 .f32) (inb) (inb')
    (r : Fin 544) (q : Fin 256) (R : Fin 2176) (h : R.val = o + r.val) :
    k0_pay4 (View.ld x0 (Rect.unit (s := S2176x1024) ![o, 0] S544x1024.size inb)) (View.ld x2 r0_1)
      (View.ld x1 (Rect.unit (s := S2176x1024) ![o, 0] S544x1024.size inb)) (View.ld x3 r0_1)
      (View.ld x4 (Rect.unit (s := S2176x256) ![o, 0] S544x256.size inb')) (View.ld x5 (Rect.unit (s := S2176x256) ![o, 0] S544x256.size inb')) (ix2 r q)
      = Ideal.logistic (x4 (ix2 R q)) * (∑ k : Fin 1024, x0 (ix2 R k) * x2 (ix3 0 k q))
        + Ideal.logistic (x5 (ix2 R q)) * (∑ k : Fin 1024, x1 (ix2 R k) * x3 (ix3 0 k q)) := by
  rw [← strip_prod o x0 x2 inb r q R h, ← strip_prod o x1 x3 inb r q R h, ← strip_gate o x4 inb' r q R h, ← strip_gate o x5 inb' r q R h]
  rfl

variable (x0 x1 : Vec Ideal S2176x1024 .bf16) (x2 x3 : Vec Ideal S1x1024x256 .bf16) (x4 x5 : Vec Ideal S2176x256 .f32)

theorem out6_apply (R : Fin 2176) (q : Fin 256) : out0_6 x0 x1 x2 x3 x4 x5 (ix2 R q)
    = Ideal.logistic (x4 (ix2 R q)) * (∑ k : Fin 1024, x0 (ix2 R k) * x2 (ix3 0 k q))
      + Ideal.logistic (x5 (ix2 R q)) * (∑ k : Fin 1024, x1 (ix2 R k) * x3 (ix3 0 k q)) :=
  four_strips (fun R => Ideal.logistic (x4 (ix2 R q)) * (∑ k : Fin 1024, x0 (ix2 R k) * x2 (ix3 0 k q))
      + Ideal.logistic (x5 (ix2 R q)) * (∑ k : Fin 1024, x1 (ix2 R k) * x3 (ix3 0 k q))) q _ _ _ _ _ _ _ _
    (fun r R h => strip_mix 0 x0 x1 x2 x3 x4 x5 _ _ r q R h) (fun r R h => strip_mix 544 x0 x1 x2 x3 x4 x5 _ _ r q R h)
    (fun r R h => strip_mix 1088 x0 x1 x2 x3 x4 x5 _ _ r q R h) (fun r R h => strip_mix 1632 x0 x1 x2 x3 x4 x5 _ _ r q R h) R

theorem out7_apply (R : Fin 2176) (q : Fin 256) : out0_7 x0 x1 x2 x3 x4 x5 (ix2 R q) = ∑ k : Fin 1024, x0 (ix2 R k) * x2 (ix3 0 k q) :=
  four_strips (fun R => ∑ k : Fin 1024, x0 (ix2 R k) * x2 (ix3 0 k q)) q _ _ _ _ _ _ _ _
    (fun r R h => strip_prod 0 x0 x2 _ r q R h) (fun r R h => strip_prod 544 x0 x2 _ r q R h)
    (fun r R h => strip_prod 1088 x0 x2 _ r q R h) (fun r R h => strip_prod 1632 x0 x2 _ r q R h) R

theorem out8_apply (R : Fin 2176) (q : Fin 256) : out0_8 x0 x1 x2 x3 x4 x5 (ix2 R q) = ∑ k : Fin 1024, x1 (ix2 R k) * x3 (ix3 0 k q) :=
  four_strips (fun R => ∑ k : Fin 1024, x1 (ix2 R k) * x3 (ix3 0 k q)) q _ _ _ _ _ _ _ _
    (fun r R h => strip_prod 0 x1 x3 _ r q R h) (fun r R h => strip_prod 544 x1 x3 _ r q R h)
    (fun r R h => strip_prod 1088 x1 x3 _ r q R h) (fun r R h => strip_prod 1632 x1 x3 _ r q R h) R

/-! ## The whole results -/

/-- The point that writes a column. -/
def pt (Q : Fin 2048) : Fin cfg0.N := ⟨Q.val / 256, by have := Q.isLt; show _ < 8; omega⟩

theorem prod0 (R : Fin 2176) (Q : Fin 2048) :
    (∑ k : Fin 1024, @HMul.hMul EReal EReal EReal _ (iblk m c 0 (pt Q) (ix2 R k)) (iblk m c 2 (pt Q) (ix3 0 k (⟨Q.val % 256, by omega⟩ : Fin 256)))) = prod (A0 m c) (A2 m c) R Q := by
  exact Finset.sum_congr rfl fun k _ => congrArg₂ (fun a b : EReal => a * b) (blk0 m c _ R k) (blk2 m c _ k _)

theorem prod1 (R : Fin 2176) (Q : Fin 2048) :
    (∑ k : Fin 1024, @HMul.hMul EReal EReal EReal _ (iblk m c 1 (pt Q) (ix2 R k)) (iblk m c 3 (pt Q) (ix3 0 k (⟨Q.val % 256, by omega⟩ : Fin 256)))) = prod (A1 m c) (A3 m c) R Q := by
  exact Finset.sum_congr rfl fun k _ => congrArg₂ (fun a b : EReal => a * b) (blk1 m c _ R k) (blk3 m c _ k _)

theorem emb6 (R : Fin 2176) (Q : Fin 2048) : ((cfg0.win 6).blk (pt Q)).view.emb (ix2 R ⟨Q.val % 256, by omega⟩) = ix2 R Q := by
  funext a; apply Fin.ext
  match a with
  | ⟨0, _⟩ => show win0_6.index (pt Q) 0 * 2176 + 1 * R.val = R.val; rw [(index_at (pt Q)).2.2.2.2.2.2.1]; show 0 * 2176 + 1 * R.val = R.val; omega
  | ⟨1, _⟩ => show win0_6.index (pt Q) 1 * 256 + 1 * (Q.val % 256) = Q.val; rw [(index_at (pt Q)).2.2.2.2.2.2.1]; show Q.val / 256 * 256 + 1 * (Q.val % 256) = Q.val; omega

theorem emb7 (R : Fin 2176) (Q : Fin 2048) : ((cfg0.win 7).blk (pt Q)).view.emb (ix2 R ⟨Q.val % 256, by omega⟩) = ix2 R Q := by
  funext a; apply Fin.ext
  match a with
  | ⟨0, _⟩ => show win0_7.index (pt Q) 0 * 2176 + 1 * R.val = R.val; rw [(index_at (pt Q)).2.2.2.2.2.2.2.1]; show 0 * 2176 + 1 * R.val = R.val; omega
  | ⟨1, _⟩ => show win0_7.index (pt Q) 1 * 256 + 1 * (Q.val % 256) = Q.val; rw [(index_at (pt Q)).2.2.2.2.2.2.2.1]; show Q.val / 256 * 256 + 1 * (Q.val % 256) = Q.val; omega

theorem emb8 (R : Fin 2176) (Q : Fin 2048) : ((cfg0.win 8).blk (pt Q)).view.emb (ix2 R ⟨Q.val % 256, by omega⟩) = ix2 R Q := by
  funext a; apply Fin.ext
  match a with
  | ⟨0, _⟩ => show win0_8.index (pt Q) 0 * 2176 + 1 * R.val = R.val; rw [(index_at (pt Q)).2.2.2.2.2.2.2.2.1]; show 0 * 2176 + 1 * R.val = R.val; omega
  | ⟨1, _⟩ => show win0_8.index (pt Q) 1 * 256 + 1 * (Q.val % 256) = Q.val; rw [(index_at (pt Q)).2.2.2.2.2.2.2.2.1]; show Q.val / 256 * 256 + 1 * (Q.val % 256) = Q.val; omega

theorem final6 (R : Fin 2176) (Q : Fin 2048) : (dats m 0 c).arrAt 6 cfg0.N (ix2 R Q : S2176x2048.Idx)
    = gate (A4 m c) 3072 (by omega) R Q * prod (A0 m c) (A2 m c) R Q + gate (A4 m c) 5120 (by omega) R Q * prod (A1 m c) (A3 m c) R Q := by
  have h := congrFun ((Value.blocks6 m c (pt Q) (index_at (pt Q)).2.2.2.2.2.2.2.2.2.1).trans (Value.flushed6 m c (pt Q))) (ix2 R ⟨Q.val % 256, by omega⟩)
  rw [← emb6 R Q]
  refine h.trans ((out6_apply _ _ _ _ _ _ R _).trans ?_)
  refine congrArg₂ (· + ·) (congrArg₂ (· * ·) (congrArg Ideal.logistic (blk4 m c _ R _ _ ?_)) (prod0 m c R Q))
    (congrArg₂ (· * ·) (congrArg Ideal.logistic (blk5 m c _ R _ _ ?_)) (prod1 m c R Q))
  · show 3072 + Q.val = 3072 + (Q.val / 256 * 256 + Q.val % 256); omega
  · show 5120 + Q.val = 5120 + (Q.val / 256 * 256 + Q.val % 256); omega

theorem final7 (R : Fin 2176) (Q : Fin 2048) : (dats m 0 c).arrAt 7 cfg0.N (ix2 R Q : S2176x2048.Idx) = prod (A0 m c) (A2 m c) R Q := by
  have h := congrFun ((Value.blocks7 m c (pt Q) (index_at (pt Q)).2.2.2.2.2.2.2.2.2.2.1).trans (Value.flushed7 m c (pt Q))) (ix2 R ⟨Q.val % 256, by omega⟩)
  rw [← emb7 R Q]
  exact h.trans ((out7_apply _ _ _ _ _ _ R _).trans (prod0 m c R Q))

theorem final8 (R : Fin 2176) (Q : Fin 2048) : (dats m 0 c).arrAt 8 cfg0.N (ix2 R Q : S2176x2048.Idx) = prod (A1 m c) (A3 m c) R Q := by
  have h := congrFun ((Value.blocks8 m c (pt Q) (index_at (pt Q)).2.2.2.2.2.2.2.2.2.2.2).trans (Value.flushed8 m c (pt Q))) (ix2 R ⟨Q.val % 256, by omega⟩)
  rw [← emb8 R Q]
  exact h.trans ((out8_apply _ _ _ _ _ _ R _).trans (prod1 m c R Q))

/-! ## The reference -/

open Cert.Reference15Ideal.Read in
theorem ref_prod0 (a0 : Vec Ideal S2176x1024 .bf16) (a2 : Vec Ideal S8x1024x256 .bf16) (R : Fin 2176) (Q : Fin 2048) :
    val_main_v6 (F := Ideal) a0 a2 (ix2 R Q) = prod a0 a2 R Q := by
  refine (val_main_v6_apply _ _ _).trans (Finset.sum_congr rfl fun k _ => congrArg₂ (· * ·) (congrArg a0 (eq_ix2 _)) ?_)
  refine (val_main_v5_apply _ _).trans ((val_main_v4_apply _ _).trans ((val_main_v3_apply _ _).trans (congrArg a2 (funext fun a => Fin.ext ?_))))
  have hk := k.isLt
  have hQ := Q.isLt
  match a with
  | ⟨0, _⟩ => show (k.val * 2048 + Q.val) / 256 % 8 = Q.val / 256; omega
  | ⟨1, _⟩ => show (k.val * 2048 + Q.val) / 2048 = k.val; omega
  | ⟨2, _⟩ => show (k.val * 2048 + Q.val) % 256 = Q.val % 256; omega

open Cert.Reference15Ideal.Read in
theorem ref_prod1 (a1 : Vec Ideal S2176x1024 .bf16) (a3 : Vec Ideal S8x1024x256 .bf16) (R : Fin 2176) (Q : Fin 2048) :
    val_main_v11 (F := Ideal) a1 a3 (ix2 R Q) = prod a1 a3 R Q := by
  refine (val_main_v11_apply _ _ _).trans (Finset.sum_congr rfl fun k _ => congrArg₂ (· * ·) (congrArg a1 (eq_ix2 _)) ?_)
  refine (val_main_v10_apply _ _).trans ((val_main_v9_apply _ _).trans ((val_main_v8_apply _ _).trans (congrArg a3 (funext fun a => Fin.ext ?_))))
  have hk := k.isLt
  have hQ := Q.isLt
  match a with
  | ⟨0, _⟩ => show (k.val * 2048 + Q.val) / 256 % 8 = Q.val / 256; omega
  | ⟨1, _⟩ => show (k.val * 2048 + Q.val) / 2048 = k.val; omega
  | ⟨2, _⟩ => show (k.val * 2048 + Q.val) % 256 = Q.val % 256; omega

open Cert.Reference15Ideal.Read in
theorem ref_gate0 (a4 : Vec Ideal S2176x7168 .f32) (R : Fin 2176) (Q : Fin 2048) :
    val_main_v17 (F := Ideal) a4 (ix2 R Q) = gate a4 3072 (by omega) R Q := by
  rw [val_main_v17_apply, val_main_v16_apply, val_main_v15_apply, val_main_v14_apply, val_main_v13_apply, val_main_v12_apply,
    val_main_v0_apply, val_main_cst_apply, val_main_cst_0_apply]
  show Ideal.div (Ideal.ofBits .f32 0x3F800000#32) (Ideal.ofBits .f32 0x3F800000#32 + Ideal.exp (-(a4 _))) = _
  rw [Ideal.ofBits_one_f32]
  exact congrArg (fun z => Ideal.logistic (a4 z)) (eq_ix2 _)

open Cert.Reference15Ideal.Read in
theorem ref_gate1 (a4 : Vec Ideal S2176x7168 .f32) (R : Fin 2176) (Q : Fin 2048) :
    val_main_v24 (F := Ideal) a4 (ix2 R Q) = gate a4 5120 (by omega) R Q := by
  rw [val_main_v24_apply, val_main_v23_apply, val_main_v22_apply, val_main_v21_apply, val_main_v20_apply, val_main_v19_apply,
    val_main_v1_apply, val_main_cst_1_apply, val_main_cst_2_apply]
  show Ideal.div (Ideal.ofBits .f32 0x3F800000#32) (Ideal.ofBits .f32 0x3F800000#32 + Ideal.exp (-(a4 _))) = _
  rw [Ideal.ofBits_one_f32]
  exact congrArg (fun z => Ideal.logistic (a4 z)) (eq_ix2 _)

/-- The reference's mix is the kernel's. -/
theorem same6 : Cert.Reference15Ideal.Read.val_main_v27 (F := Ideal) (A0 m c) (A1 m c) (A2 m c) (A3 m c) (A4 m c)
    = (dats m 0 c).arrAt 6 cfg0.N := by
  funext i
  obtain ⟨R, Q, rfl⟩ : ∃ (R : Fin 2176) (Q : Fin 2048), i = ix2 R Q := ⟨i 0, i 1, eq_ix2 i⟩
  refine Eq.trans ?_ (final6 m c R Q).symm
  rw [← ref_gate0, ← ref_gate1, ← ref_prod0, ← ref_prod1]
  rfl

/-- The first product. -/
theorem same7 : Cert.Reference15Ideal.Read.val_main_v28 (F := Ideal) (A0 m c) (A2 m c) = (dats m 0 c).arrAt 7 cfg0.N := by
  funext i
  obtain ⟨R, Q, rfl⟩ : ∃ (R : Fin 2176) (Q : Fin 2048), i = ix2 R Q := ⟨i 0, i 1, eq_ix2 i⟩
  exact (ref_prod0 _ _ R Q).trans (final7 m c R Q).symm

/-- The second. -/
theorem same8 : Cert.Reference15Ideal.Read.val_main_v29 (F := Ideal) (A1 m c) (A3 m c) = (dats m 0 c).arrAt 8 cfg0.N := by
  funext i
  obtain ⟨R, Q, rfl⟩ : ∃ (R : Fin 2176) (Q : Fin 2048), i = ix2 R Q := ⟨i 0, i 1, eq_ix2 i⟩
  exact (ref_prod1 _ _ R Q).trans (final8 m c R Q).symm

end Cert.GateMix

end
-- ==== Proof.Slots.lean ====
/-
  The places of a gathered array: the device at `(x, y, c)` of the mesh holds place `4 x + 2 y + c`. Which places lie on the
  chip diagonally opposite, and which on the other three, as functions of the three coordinates.
-/
module

@[expose] public section

namespace Cert.Slots

/-- The place of a device. -/
def place (x y c : Nat) : Nat := 4 * x + 2 * y + c

/-- The two places on the chip opposite, this core's first. -/
def far (x y c : BitVec 1) (j : Fin 2) : Nat :=
  match j with
  | 0 => place (1 - x.toNat) (1 - y.toNat) c.toNat
  | 1 => place (1 - x.toNat) (1 - y.toNat) (1 - c.toNat)

/-- The six places on this chip and the two beside it. -/
def near (x y c : BitVec 1) (j : Fin 6) : Nat :=
  match j with
  | 0 => place x.toNat y.toNat c.toNat
  | 1 => place x.toNat y.toNat (1 - c.toNat)
  | 2 => place (1 - x.toNat) y.toNat c.toNat
  | 3 => place x.toNat (1 - y.toNat) c.toNat
  | 4 => place (1 - x.toNat) y.toNat (1 - c.toNat)
  | 5 => place x.toNat (1 - y.toNat) (1 - c.toNat)

/-- The two of them on this chip. -/
def here (x y c : BitVec 1) (j : Fin 2) : Nat := near x y c (j.castLE (by decide))

/-- The four of them on the chips beside. -/
def beside (x y c : BitVec 1) (j : Fin 4) : Nat := near x y c (j.natAdd 2)

/-- A bit is zero or one. -/
theorem bit : ∀ x : BitVec 1, x = 0#1 ∨ x = 1#1 := by decide

end Cert.Slots

end
-- ==== Proof.Ok16Ideal.lean ====
/-
  The table that `Kernel16Ideal` prefetches holds the places of this chip and of the two beside it, and every block it names lies inside its array.
-/
module

public import proofs.«01_k».proof.Proof.Gen.Kernel16Ideal.Frame.Runs
public import proofs.«01_k».proof.Proof.Slots

@[expose] public section

set_option maxRecDepth 16384

noncomputable section

namespace Cert.Kernel16Ideal.Places

open Cert.Kernel16Ideal Cert.Kernel16Ideal.Gen Cert.Slots
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S6.Idx => BitVec.ofNat 32 (near x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

theorem scalar (b : (⟨S_, .i1⟩ : BufTy).Contents (Elt F)) : b = fun _ => b (fun a => a.elim0) :=
  funext fun i => congrArg b (funext fun a => a.elim0)

/-- Six words side by side. -/
def six (p0 p1 p2 p3 p4 p5 : (⟨S1, .i32⟩ : BufTy).Contents (Elt F)) : (⟨S6, .i32⟩ : BufTy).Contents (Elt F) :=
  concatenate S6 0 [⟨S1, p0⟩, ⟨S1, p1⟩, ⟨S1, p2⟩, ⟨S1, p3⟩, ⟨S1, p4⟩, ⟨S1, p5⟩] concatenates_S1_S1_S1_S1_S1_S1_S6_d0

theorem tbl0 : tbl m 0 = words (F := F) (X m) (Y m) (C m) 0 := by
  show StableHlo.after hostOps0 (fun b => m (0, b)) (Proc.devRef .tc main_v40) = _
  unfold hostOps0
  simp only [StableHlo.after_cons, StableHlo.after_nil]
  rw [StableHlo.nary_result]
  show six (F := F) _ _ _ _ _ _ = _
  dsimp only [Matrix.cons_val]
  after_results_simp
  have hx := scalar (F := F) (m (((0 : Dev nD) : Thread nD τ).loc main_arg0))
  have hy := scalar (F := F) (m (((0 : Dev nD) : Thread nD τ).loc main_arg1))
  have hc := scalar (F := F) (m (((0 : Dev nD) : Thread nD τ).loc main_arg2))
  rw [hx, hy, hc]
  show _ = words (F := F) (m (((0 : Dev nD) : Thread nD τ).loc main_arg0) fun a => a.elim0)
    (m (((0 : Dev nD) : Thread nD τ).loc main_arg1) fun a => a.elim0) (m (((0 : Dev nD) : Thread nD τ).loc main_arg2) fun a => a.elim0) 0
  generalize m (((0 : Dev nD) : Thread nD τ).loc main_arg0) (fun a => a.elim0) = x
  generalize m (((0 : Dev nD) : Thread nD τ).loc main_arg1) (fun a => a.elim0) = y
  generalize m (((0 : Dev nD) : Thread nD τ).loc main_arg2) (fun a => a.elim0) = c
  clear hx hy hc
  funext i
  obtain ⟨j, rfl⟩ : ∃ j : Fin 6, i = fun | 0 => j := ⟨i 0, funext fun a => match a with | 0 => rfl⟩
  rcases bit x with rfl | rfl <;> rcases bit y with rfl | rfl <;> rcases bit c with rfl | rfl <;>
    (fin_cases j <;> sl_kernel_rfl)

theorem tbl_eq : tbl m = words (F := F) (X m) (Y m) (C m) := funext fun k => match k with
  | 0 => tbl0 m

theorem ok : Ok m := by
  unfold Ok
  rw [tbl_eq]
  exact ok_words _ _ _

end Cert.Kernel16Ideal.Places

end
-- ==== Proof.DownNear.lean ====
/- The run of `mm_down_near`: its steps carry a sum, so what each step leaves
   is said by recursion over the steps. Over any values. -/
module

public import proofs.«01_k».proof.Proof.Gen.Kernel16Ideal.Frame.RunC
public import Idealize.ShloMosaic.Lib.Claim

@[expose] public section

set_option maxRecDepth 16384

noncomputable section

namespace Cert.DownNear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel16Ideal Cert.Kernel16Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A first step of a sum writes nothing to the output block: contents nobody reads. -/
def out0_A_2 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : cond0_0 i) (hc1 : ¬cond0_1 i) (hc2 : ¬cond0_2 i)
    (x0 : Vec F S1088x1024 .bf16) (x1 : Vec F S1x1024x2048 .bf16) (xt0 : TbBuf0 (F := F) c tbM0_0) : Vec F S1088x2048 .f32 :=
  VO0_2.read (Elt F) (VO0_2.writes (Elt F) VO0_2.junk (kernelRun0_A c i arg4 harg4 arg5 harg5 arg6 harg6 arg7 harg7 hc0 hc1 hc2 x0 x1 xt0).1)

/-- A first step of a sum writes the whole of the carried sum. -/
theorem scover0_A_0 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : cond0_0 i) (hc1 : ¬cond0_1 i) (hc2 : ¬cond0_2 i)
    (x0 : Vec F S1088x1024 .bf16) (x1 : Vec F S1x1024x2048 .bf16) (xt0 : TbBuf0 (F := F) c tbM0_0) (y : S1088x2048.Idx) :
    ∃ pc ∈ (kernelRun0_A c i arg4 harg4 arg5 harg5 arg6 harg6 arg7 harg7 hc0 hc1 hc2 x0 x1 xt0).2.1, y ∈ pc.1.set :=
  View.cover_of_tiledL (kernelRun0_A c i arg4 harg4 arg5 harg5 arg6 harg6 arg7 harg7 hc0 hc1 hc2 x0 x1 xt0).2.1 S1088x2048.size (by sl_kernel_rfl) y

/-- The carried sum after a first step of a sum. -/
def sout0_A_0 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : cond0_0 i) (hc1 : ¬cond0_1 i) (hc2 : ¬cond0_2 i)
    (x0 : Vec F S1088x1024 .bf16) (x1 : Vec F S1x1024x2048 .bf16) (xt0 : TbBuf0 (F := F) c tbM0_0) : Vec F S1088x2048 .f32 :=
  VS0_0.read (Elt F) (VS0_0.writes (Elt F) VS0_0.junk (kernelRun0_A c i arg4 harg4 arg5 harg5 arg6 harg6 arg7 harg7 hc0 hc1 hc2 x0 x1 xt0).2.1)

/-- A middle step of a sum writes nothing to the output block: contents nobody reads. -/
def out0_B_2 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : ¬cond0_0 i) (hc1 : cond0_1 i) (hc2 : ¬cond0_2 i)
    (x0 : Vec F S1088x1024 .bf16) (x1 : Vec F S1x1024x2048 .bf16) (xt0 : TbBuf0 (F := F) c tbM0_0) (xs0 : Vec F S1088x2048 .f32) : Vec F S1088x2048 .f32 :=
  VO0_2.read (Elt F) (VO0_2.writes (Elt F) VO0_2.junk (kernelRun0_B c i arg4 harg4 arg5 harg5 arg6 harg6 arg7 harg7 hc0 hc1 hc2 x0 x1 xt0 xs0).1)

/-- A middle step of a sum writes the whole of the carried sum. -/
theorem scover0_B_0 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : ¬cond0_0 i) (hc1 : cond0_1 i) (hc2 : ¬cond0_2 i)
    (x0 : Vec F S1088x1024 .bf16) (x1 : Vec F S1x1024x2048 .bf16) (xt0 : TbBuf0 (F := F) c tbM0_0) (xs0 : Vec F S1088x2048 .f32) (y : S1088x2048.Idx) :
    ∃ pc ∈ (kernelRun0_B c i arg4 harg4 arg5 harg5 arg6 harg6 arg7 harg7 hc0 hc1 hc2 x0 x1 xt0 xs0).2.1, y ∈ pc.1.set :=
  View.cover_of_tiledL (kernelRun0_B c i arg4 harg4 arg5 harg5 arg6 harg6 arg7 harg7 hc0 hc1 hc2 x0 x1 xt0 xs0).2.1 S1088x2048.size (by sl_kernel_rfl) y

/-- The carried sum after a middle step of a sum. -/
def sout0_B_0 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : ¬cond0_0 i) (hc1 : cond0_1 i) (hc2 : ¬cond0_2 i)
    (x0 : Vec F S1088x1024 .bf16) (x1 : Vec F S1x1024x2048 .bf16) (xt0 : TbBuf0 (F := F) c tbM0_0) (xs0 : Vec F S1088x2048 .f32) : Vec F S1088x2048 .f32 :=
  VS0_0.read (Elt F) (VS0_0.writes (Elt F) VS0_0.junk (kernelRun0_B c i arg4 harg4 arg5 harg5 arg6 harg6 arg7 harg7 hc0 hc1 hc2 x0 x1 xt0 xs0).2.1)

/-- A last step of a sum writes the whole of the output block. -/
theorem cover0_C_2 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : ¬cond0_0 i) (hc1 : cond0_1 i) (hc2 : cond0_2 i)
    (x0 : Vec F S1088x1024 .bf16) (x1 : Vec F S1x1024x2048 .bf16) (xt0 : TbBuf0 (F := F) c tbM0_0) (xs0 : Vec F S1088x2048 .f32) (y : S1088x2048.Idx) :
    ∃ pc ∈ (kernelRun0_C c i arg4 harg4 arg5 harg5 arg6 harg6 arg7 harg7 hc0 hc1 hc2 x0 x1 xt0 xs0).1, y ∈ pc.1.set :=
  View.cover_of_tiledL (kernelRun0_C c i arg4 harg4 arg5 harg5 arg6 harg6 arg7 harg7 hc0 hc1 hc2 x0 x1 xt0 xs0).1 S1088x2048.size (by sl_kernel_rfl) y

/-- The output block after a last step of a sum. -/
def out0_C_2 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : ¬cond0_0 i) (hc1 : cond0_1 i) (hc2 : cond0_2 i)
    (x0 : Vec F S1088x1024 .bf16) (x1 : Vec F S1x1024x2048 .bf16) (xt0 : TbBuf0 (F := F) c tbM0_0) (xs0 : Vec F S1088x2048 .f32) : Vec F S1088x2048 .f32 :=
  VO0_2.read (Elt F) (VO0_2.writes (Elt F) VO0_2.junk (kernelRun0_C c i arg4 harg4 arg5 harg5 arg6 harg6 arg7 harg7 hc0 hc1 hc2 x0 x1 xt0 xs0).1)

/-- A last step of a sum writes the whole of the carried sum. -/
theorem scover0_C_0 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : ¬cond0_0 i) (hc1 : cond0_1 i) (hc2 : cond0_2 i)
    (x0 : Vec F S1088x1024 .bf16) (x1 : Vec F S1x1024x2048 .bf16) (xt0 : TbBuf0 (F := F) c tbM0_0) (xs0 : Vec F S1088x2048 .f32) (y : S1088x2048.Idx) :
    ∃ pc ∈ (kernelRun0_C c i arg4 harg4 arg5 harg5 arg6 harg6 arg7 harg7 hc0 hc1 hc2 x0 x1 xt0 xs0).2.1, y ∈ pc.1.set :=
  View.cover_of_tiledL (kernelRun0_C c i arg4 harg4 arg5 harg5 arg6 harg6 arg7 harg7 hc0 hc1 hc2 x0 x1 xt0 xs0).2.1 S1088x2048.size (by sl_kernel_rfl) y

/-- The carried sum after a last step of a sum. -/
def sout0_C_0 (c : Dev nD) (i : grid0.Coords) (arg4 : Memref sig .tc .vmem S1088x1024 .bf16) (harg4 : arg4.IsWhole) (arg5 : Memref sig .tc .vmem S1x1024x2048 .bf16) (harg5 : arg5.IsWhole) (arg6 : Memref sig .tc .vmem S1088x2048 .f32) (harg6 : arg6.IsWhole) (arg7 : Memref sig .tc .vmem S1088x2048 .f32) (harg7 : arg7.IsWhole) (hc0 : ¬cond0_0 i) (hc1 : cond0_1 i) (hc2 : cond0_2 i)
    (x0 : Vec F S1088x1024 .bf16) (x1 : Vec F S1x1024x2048 .bf16) (xt0 : TbBuf0 (F := F) c tbM0_0) (xs0 : Vec F S1088x2048 .f32) : Vec F S1088x2048 .f32 :=
  VS0_0.read (Elt F) (VS0_0.writes (Elt F) VS0_0.junk (kernelRun0_C c i arg4 harg4 arg5 harg5 arg6 harg6 arg7 harg7 hc0 hc1 hc2 x0 x1 xt0 xs0).2.1)

/-- The output block and the carried sum after a first step. -/
def leftA (hO : Ok m) (c : Dev nD) (t : Fin (cfgM m hO).N) (h0 : t.val % 6 = 0) (h1 : ¬1 ≤ t.val % 6) (h2 : ¬t.val % 6 = 5) :
    Vec F S1088x2048 .f32 × Vec F S1088x2048 .f32 :=
  (out0_A_2 c (grid0.coords t) (ms0_0 m hO t) (hs0_0 m hO t) (ms0_1 m hO t) (hs0_1 m hO t) (ms0_2 m hO t) (hs0_2 m hO t) scM0_0 (Memref.isWhole_whole _) ((hcond0_0 t).mpr h0) (fun h => h1 ((hcond0_1 t).mp h)) (fun h => h2 ((hcond0_2 t).mp h)) (iblk m hO c 0 t) (iblk m hO c 1 t) (tbl m 0), sout0_A_0 c (grid0.coords t) (ms0_0 m hO t) (hs0_0 m hO t) (ms0_1 m hO t) (hs0_1 m hO t) (ms0_2 m hO t) (hs0_2 m hO t) scM0_0 (Memref.isWhole_whole _) ((hcond0_0 t).mpr h0) (fun h => h1 ((hcond0_1 t).mp h)) (fun h => h2 ((hcond0_2 t).mp h)) (iblk m hO c 0 t) (iblk m hO c 1 t) (tbl m 0))

/-- The output block and the carried sum after a middle step. -/
def leftB (hO : Ok m) (c : Dev nD) (t : Fin (cfgM m hO).N) (h0 : ¬t.val % 6 = 0) (h1 : 1 ≤ t.val % 6) (h2 : ¬t.val % 6 = 5) (xs : Vec F S1088x2048 .f32) :
    Vec F S1088x2048 .f32 × Vec F S1088x2048 .f32 :=
  (out0_B_2 c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_1 t).mpr h1) (fun h => h2 ((hcond0_2 t).mp h)) (iblk m hO c 0 t) (iblk m hO c 1 t) (tbl m 0) xs, sout0_B_0 c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_1 t).mpr h1) (fun h => h2 ((hcond0_2 t).mp h)) (iblk m hO c 0 t) (iblk m hO c 1 t) (tbl m 0) xs)

/-- The output block and the carried sum after a last step. -/
def leftC (hO : Ok m) (c : Dev nD) (t : Fin (cfgM m hO).N) (h0 : ¬t.val % 6 = 0) (h1 : 1 ≤ t.val % 6) (h2 : t.val % 6 = 5) (xs : Vec F S1088x2048 .f32) :
    Vec F S1088x2048 .f32 × Vec F S1088x2048 .f32 :=
  (out0_C_2 c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_1 t).mpr h1) ((hcond0_2 t).mpr h2) (iblk m hO c 0 t) (iblk m hO c 1 t) (tbl m 0) xs, sout0_C_0 c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_1 t).mpr h1) ((hcond0_2 t).mpr h2) (iblk m hO c 0 t) (iblk m hO c 1 t) (tbl m 0) xs)

/-- The output block and the carried sum after step `t`, from the sum the step before carried. -/
def step (hO : Ok m) (c : Dev nD) (t : Fin (cfgM m hO).N) (xs : Vec F S1088x2048 .f32) :
    Vec F S1088x2048 .f32 × Vec F S1088x2048 .f32 :=
  if h0 : t.val % 6 = 0 then leftA m hO c t h0 (by omega) (by omega)
  else if h2 : t.val % 6 = 5 then leftC m hO c t h0 (by omega) h2 xs
  else leftB m hO c t h0 (by omega) h2 xs

theorem step_A (hO : Ok m) (c : Dev nD) (t : Fin (cfgM m hO).N) (xs : Vec F S1088x2048 .f32) (h0 : t.val % 6 = 0) (h1 : ¬1 ≤ t.val % 6) (h2 : ¬t.val % 6 = 5) :
    step m hO c t xs = leftA m hO c t h0 h1 h2 := dif_pos h0

theorem step_B (hO : Ok m) (c : Dev nD) (t : Fin (cfgM m hO).N) (xs : Vec F S1088x2048 .f32) (h0 : ¬t.val % 6 = 0) (h1 : 1 ≤ t.val % 6) (h2 : ¬t.val % 6 = 5) :
    step m hO c t xs = leftB m hO c t h0 h1 h2 xs := (dif_neg h0).trans (dif_neg h2)

theorem step_C (hO : Ok m) (c : Dev nD) (t : Fin (cfgM m hO).N) (xs : Vec F S1088x2048 .f32) (h0 : ¬t.val % 6 = 0) (h1 : 1 ≤ t.val % 6) (h2 : t.val % 6 = 5) :
    step m hO c t xs = leftC m hO c t h0 h1 h2 xs := (dif_neg h0).trans (dif_pos h2)

/-- The output block and the carried sum after each step. -/
def outsAt0 (hO : Ok m) (c : Dev nD) : (n : ℕ) → n < (cfgM m hO).N → Vec F S1088x2048 .f32 × Vec F S1088x2048 .f32
  | 0, hn => step m hO c ⟨0, hn⟩ (VS0_0.read (Elt F) VS0_0.junk)
  | n + 1, hn => step m hO c ⟨n + 1, hn⟩ (outsAt0 hO c n (Nat.lt_of_succ_lt hn)).2

theorem outsAt0_A (hO : Ok m) (c : Dev nD) (t : Fin (cfgM m hO).N) (h0 : t.val % 6 = 0) (h1 : ¬1 ≤ t.val % 6) (h2 : ¬t.val % 6 = 5) :
    outsAt0 m hO c t.val t.isLt = leftA m hO c t h0 h1 h2 := by
  obtain ⟨n, hn⟩ := t
  cases n with
  | zero => exact step_A m hO c ⟨0, hn⟩ _ h0 h1 h2
  | succ n => exact step_A m hO c ⟨n + 1, hn⟩ _ h0 h1 h2

theorem outsAt0_B (hO : Ok m) (c : Dev nD) (t : Fin (cfgM m hO).N) (h0 : ¬t.val % 6 = 0) (h1 : 1 ≤ t.val % 6) (h2 : ¬t.val % 6 = 5) :
    outsAt0 m hO c t.val t.isLt = leftB m hO c t h0 h1 h2
      (outsAt0 m hO c (t.val - 1) (Nat.lt_of_le_of_lt (Nat.sub_le _ _) t.isLt)).2 := by
  obtain ⟨n, hn⟩ := t
  cases n with
  | zero => exact absurd (Nat.zero_mod _) h0
  | succ n => exact step_B m hO c ⟨n + 1, hn⟩ _ h0 h1 h2

theorem outsAt0_C (hO : Ok m) (c : Dev nD) (t : Fin (cfgM m hO).N) (h0 : ¬t.val % 6 = 0) (h1 : 1 ≤ t.val % 6) (h2 : t.val % 6 = 5) :
    outsAt0 m hO c t.val t.isLt = leftC m hO c t h0 h1 h2
      (outsAt0 m hO c (t.val - 1) (Nat.lt_of_le_of_lt (Nat.sub_le _ _) t.isLt)).2 := by
  obtain ⟨n, hn⟩ := t
  cases n with
  | zero => exact absurd (Nat.zero_mod _) h0
  | succ n => exact step_C m hO c ⟨n + 1, hn⟩ _ h0 h1 h2

/-- Between two steps: the carried sum at what the last step left, the tables beside it. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After step `n` the carried sum is what that step left. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a step that is not the first the carried sum is what the step before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-- What the pipeline knows: inputs stay their blocks, the output block and the carried sum are `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t.val t.isLt).1
  Φ t := PhiS m hO c t.val (Nat.le_of_lt_succ t.isLt)
  q _ := fullShare
  owed _ := 0

/-- The arrays are those the call finds. -/
theorem A_eq (hO : Ok m) (c : Dev nD) (w : Fin (cfgM m hO).W) : (dats m hO 0 c).A w = V m c (Pipeline.arrRef spec0 w) := by
  dsimp only [dats]

/-- The invariant at the start of a step. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- Each buffer after a step. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t.val t.isLt).1 := by dsimp only [dats]; try rfl

/-- Each input buffer holds its block before a step. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- What a step is given. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- What a step gives back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t)

set_option maxHeartbeats 4800000 in
/-- Each step, whichever of the kinds it is, does what `outsAt0` says. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 12 := lt_of_lt_of_eq t.isLt (show (cfgM m hO).N = 12 from N_0)
  by_cases h0 : t.val % 6 = 0
  · by_cases h1 : 1 ≤ t.val % 6
    · exfalso; omega
    · by_cases h2 : t.val % 6 = 5
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [Dat.leavesExact_idle (dats m hO 0 c) 2 t (idleAt0_2_A m hO t ((hcond0_0 t).mpr h0) (fun h => h1 ((hcond0_1 t).mp h)) (fun h => h2 ((hcond0_2 t).mp h))) (noFlush0_2_A m hO t ((hcond0_0 t).mpr h0) (fun h => h1 ((hcond0_1 t).mp h)) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold leftA sout0_A_0; (try dsimp only)
          iintro ⟨⟨⟨HS0, Hg⟩, HT0⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk m hO c 0 t) (iblk m hO c 1 t) (tbl m 0)).2.2 _ Set.univ _)
          isplitl [H0]; · iexact H0
          isplitl [H1]; · iexact H1
          isplitl [H2]; · iexact H2
          isplitl [HS0]; · iexact HS0
          isplitl [HT0]; · iexact HT0
          iintro ⟨H0, H1, H2, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _)
              iexact Hg
            iexact HT0
          isplitl [Ho]; · iexact Ho
          isplitl [H0]; · iexact H0
          isplitl [H1]; · iexact H1
          iexists _; iexact H2
        · rw [PhiS_castSucc m hO c t, PhiS_pos m hO c _ _ hz, PhiT0_eq]
          rw [outsAt0_A m hO c t h0 h1 h2]
          unfold leftA sout0_A_0; (try dsimp only)
          iintro ⟨⟨⟨HS0, Hg⟩, HT0⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk m hO c 0 t) (iblk m hO c 1 t) (tbl m 0)).2.2 _ Set.univ _)
          isplitl [H0]; · iexact H0
          isplitl [H1]; · iexact H1
          isplitl [H2]; · iexact H2
          isplitl [HS0]; · iexists _; iexact HS0
          isplitl [HT0]; · iexact HT0
          iintro ⟨H0, H1, H2, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _)
              iexact Hg
            iexact HT0
          isplitl [Ho]; · iexact Ho
          isplitl [H0]; · iexact H0
          isplitl [H1]; · iexact H1
          iexists _; iexact H2
  · by_cases h1 : 1 ≤ t.val % 6
    · by_cases h2 : t.val % 6 = 5
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2_C m hO t (fun h => h0 ((hcond0_0 t).mp h)) ((hcond0_1 t).mpr h1) ((hcond0_2 t).mpr h2)]; try rfl, after0_2]
        by_cases hz : t.val = 0
        · exfalso; have hN : t.val < 12 := lt_of_lt_of_eq t.isLt (show (cfgM m hO).N = 12 from N_0); omega
        · rw [PhiS_castSucc m hO c t, PhiS_pos m hO c _ _ hz, PhiT0_eq]
          rw [outsAt0_C m hO c t h0 h1 h2]
          unfold leftC out0_C_2 sout0_C_0; (try dsimp only)
          iintro ⟨⟨⟨HS0, Hg⟩, HT0⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk m hO c 0 t) (iblk m hO c 1 t) (tbl m 0) _).2.2 Set.univ _)
          isplitl [H0]; · iexact H0
          isplitl [H1]; · iexact H1
          isplitl [H2]; · iexists _; iexact H2
          isplitl [HS0]; · iexact HS0
          isplitl [HT0]; · iexact HT0
          iintro ⟨H0, H1, ⟨%e2, H2⟩, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _)
              iexact Hg
            iexact HT0
          isplitl [Ho]; · iexact Ho
          isplitl [H0]; · iexact H0
          isplitl [H1]; · iexact H1
          unfold owns; iexists _; isplitr
          swap; · iexact H2
          ipureintro; exact View.read_writes_of_cover _ _ _ _ _ (cover0_C_2 c _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [Dat.leavesExact_idle (dats m hO 0 c) 2 t (idleAt0_2_B m hO t (fun h => h0 ((hcond0_0 t).mp h)) ((hcond0_1 t).mpr h1) (fun h => h2 ((hcond0_2 t).mp h))) (noFlush0_2_B m hO t (fun h => h0 ((hcond0_0 t).mp h)) ((hcond0_1 t).mpr h1) (fun h => h2 ((hcond0_2 t).mp h)))]
        by_cases hz : t.val = 0
        · exfalso; have hN : t.val < 12 := lt_of_lt_of_eq t.isLt (show (cfgM m hO).N = 12 from N_0); omega
        · rw [PhiS_castSucc m hO c t, PhiS_pos m hO c _ _ hz, PhiT0_eq]
          rw [outsAt0_B m hO c t h0 h1 h2]
          unfold leftB sout0_B_0; (try dsimp only)
          iintro ⟨⟨⟨HS0, Hg⟩, HT0⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk m hO c 0 t) (iblk m hO c 1 t) (tbl m 0) _).2.2 _ Set.univ _)
          isplitl [H0]; · iexact H0
          isplitl [H1]; · iexact H1
          isplitl [H2]; · iexact H2
          isplitl [HS0]; · iexact HS0
          isplitl [HT0]; · iexact HT0
          iintro ⟨H0, H1, H2, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _)
              iexact Hg
            iexact HT0
          isplitl [Ho]; · iexact Ho
          isplitl [H0]; · iexact H0
          isplitl [H1]; · iexact H1
          iexists _; iexact H2
    · exfalso; omega

/-- The row of the body table is the step. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every step meets the demand of the pipeline. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The launch hands over the invariant before the first step. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- The invariant gives the scratch back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- So it does after the last step. -/
theorem hout (hO : Ok m) (c : Dev nD) : (dats m hO 0 c).Φ (Fin.last (cfgM m hO).N) ⊢ Pipeline.ΦA spec0 c :=
  Phi_out m hO c _ (by rw [Fin.val_last]; have : (cfgM m hO).N = 12 := N_0; omega)

set_option backward.isDefEq.respectTransparency.types false in
/-- The whole run, with every counter at zero at the end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The whole run, without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The arguments end as they began and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.DownNear

end
-- ==== Proof.MmDownNear.lean ====
/-
  The product with the down projection over the places of this chip and of the two beside it: the six steps of a row tile
  add up the products of the six places the table names, in the table's order. The reference is one product over all the
  columns with the opposite chip's set to zero.
-/
module

public import proofs.«01_k».proof.Proof.MmNN
public import proofs.«01_k».proof.Proof.MmAcc
public import proofs.«01_k».proof.Proof.Ok16Ideal
public import proofs.«01_k».proof.Proof.DownNear
public import Idealize.ShloMosaic.Lib.Pipeline.Value
public import Idealize.ShloMosaic.Lib.Pipeline.ValueKit
public import proofs.«01_k».proof.Proof.Gen.Reference16Ideal.Read

@[expose] public section

set_option maxRecDepth 16384

noncomputable section

namespace Cert.MmDownNear

open Cert.Kernel16Ideal Cert.Kernel16Ideal.Gen Cert.Kernel16Ideal.Places Cert.Slots Cert.DownNear
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The rows. -/
abbrev A0 : Vec Ideal S2176x8192 .bf16 := m ((c : Thread nD τ).loc main_arg3)

/-- The weight of each place. -/
abbrev A1 : Vec Ideal S8x1024x2048 .bf16 := m ((c : Thread nD τ).loc main_arg4)

/-- Where the blocks of each point lie, for a device at `x`, `y`, `z`. -/
theorem index_words (x y z : BitVec 1) (t : Fin grid0.N) :
    (win0 (F := Ideal) ⟨words x y z, ok_words x y z⟩ 0).index t = ![t.val / 6, near x y z ⟨t.val % 6, Nat.mod_lt _ (by decide)⟩]
    ∧ (win0 (F := Ideal) ⟨words x y z, ok_words x y z⟩ 1).index t = ![near x y z ⟨t.val % 6, Nat.mod_lt _ (by decide)⟩, 0, 0]
    ∧ (win0 (F := Ideal) ⟨words x y z, ok_words x y z⟩ 2).index t = ![t.val / 6, 0]
    ∧ ((win0 (F := Ideal) ⟨words x y z, ok_words x y z⟩ 2).flush t = true ↔ t.val % 6 = 5) := by
  revert t
  rcases bit x with rfl | rfl <;> rcases bit y with rfl | rfl <;> rcases bit z with rfl | rfl <;>
    exact of_decide_eq_true (by sl_kernel_rfl)

theorem index_adm (x y z : BitVec 1) (a : (pcfg0 (F := Ideal)).Adm) (h : a.1 = words x y z) (t : Fin grid0.N) :
    (win0 a 0).index t = ![t.val / 6, near x y z ⟨t.val % 6, Nat.mod_lt _ (by decide)⟩]
    ∧ (win0 a 1).index t = ![near x y z ⟨t.val % 6, Nat.mod_lt _ (by decide)⟩, 0, 0]
    ∧ (win0 a 2).index t = ![t.val / 6, 0]
    ∧ ((win0 a 2).flush t = true ↔ t.val % 6 = 5) := by
  obtain ⟨p, hp⟩ := a
  obtain rfl : p = words x y z := h
  exact index_words x y z t

/-- The place a step adds. -/
abbrev slot (j : Fin 6) : ℕ := near (X m) (Y m) (C m) j

theorem index_at (t : Fin (cfgM m (ok m)).N) :
    ((cfgM m (ok m)).win 0).index t = ![t.val / 6, slot m ⟨t.val % 6, Nat.mod_lt _ (by decide)⟩]
    ∧ ((cfgM m (ok m)).win 1).index t = ![slot m ⟨t.val % 6, Nat.mod_lt _ (by decide)⟩, 0, 0]
    ∧ ((cfgM m (ok m)).win 2).index t = ![t.val / 6, 0]
    ∧ (((cfgM m (ok m)).win 2).flush t = true ↔ t.val % 6 = 5) :=
  index_adm _ _ _ (adm m (ok m)) (tbl_eq m) t

/-- No two points that write the result share a block of it. -/
theorem apart (t t' : Fin (cfgM m (ok m)).N) (hf : ((cfgM m (ok m)).win 2).flush t = true) (hf' : ((cfgM m (ok m)).win 2).flush t' = true)
    (h : ((cfgM m (ok m)).win 2).index t = ((cfgM m (ok m)).win 2).index t') : t = t' := by
  rw [(index_at m t).2.2.1, (index_at m t').2.2.1] at h
  have h0 : t.val / 6 = t'.val / 6 := congrFun h 0
  have h1 := (index_at m t).2.2.2.1 hf
  have h2 := (index_at m t').2.2.2.1 hf'
  exact Fin.ext (by omega)

theorem blocks (t : Fin (cfgM m (ok m)).N) (h : t.val % 6 = 5) :
    (((cfgM m (ok m)).win 2).blk t).view.read (Elt Ideal) ((dats m (ok m) 0 c).arrAt 2 (cfgM m (ok m)).N)
      = ((cfgM m (ok m)).win 2).cut (grid0.coords t) (outsAt0 m (ok m) c t.val t.isLt).1 := by
  refine ((dats m (ok m) 0 c).read_blk_arrAt_eq_flushed 2
    (fun t t' hf hf' hne => ((cfgM m (ok m)).win 2).disjoint_blk fun h => hne (apart m t t' hf hf' h))
    _ t t.isLt ((index_at m t).2.2.2.2 h)).trans ?_
  show ((cfgM m (ok m)).win 2).cut (grid0.coords t) ((dats m (ok m) 0 c).after 2 t) = _
  rw [after0_2]

theorem emb0 (a : (pcfg0 (F := Ideal)).Adm) (t : Fin (cfg0 a).N) (I J : ℕ) (h : (win0 a 0).index t = ![I, J]) (r : Fin 1088) (k : Fin 1024)
    (R : Fin 2176) (K : Fin 8192) (hR : R.val = I * 1088 + r.val) (hK : K.val = J * 1024 + k.val) :
    (((win0 a 0).blk t).view.emb (ix2 r k) : S2176x8192.Idx) = ix2 R K := by
  funext b; apply Fin.ext
  match b with
  | ⟨0, _⟩ => exact (congrArg (· * 1088 + 1 * r.val) (congrFun h 0)).trans (by show I * 1088 + 1 * r.val = R.val; omega)
  | ⟨1, _⟩ => exact (congrArg (· * 1024 + 1 * k.val) (congrFun h 1)).trans (by show J * 1024 + 1 * k.val = K.val; omega)

theorem emb1 (a : (pcfg0 (F := Ideal)).Adm) (t : Fin (cfg0 a).N) (J : Fin 8) (h : (win0 a 1).index t = ![J.val, 0, 0]) (k : Fin 1024) (q : Fin 2048) :
    (((win0 a 1).blk t).view.emb (ix3 0 k q) : S8x1024x2048.Idx) = ix3 J k q := by
  funext b; apply Fin.ext
  match b with
  | ⟨0, _⟩ => exact (congrArg (· * 1 + 1 * 0) (congrFun h 0)).trans (by show J.val * 1 + 1 * 0 = J.val; omega)
  | ⟨1, _⟩ => exact (congrArg (· * 1024 + 1 * k.val) (congrFun h 1)).trans (by show 0 * 1024 + 1 * k.val = k.val; omega)
  | ⟨2, _⟩ => exact (congrArg (· * 2048 + 1 * q.val) (congrFun h 2)).trans (by show 0 * 2048 + 1 * q.val = q.val; omega)

theorem emb2 (a : (pcfg0 (F := Ideal)).Adm) (t : Fin (cfg0 a).N) (I : ℕ) (h : (win0 a 2).index t = ![I, 0]) (r : Fin 1088) (q : Fin 2048)
    (R : Fin 2176) (hR : R.val = I * 1088 + r.val) :
    (((win0 a 2).blk t).view.emb (ix2 r q) : S2176x2048.Idx) = ix2 R q := by
  funext b; apply Fin.ext
  match b with
  | ⟨0, _⟩ => exact (congrArg (· * 1088 + 1 * r.val) (congrFun h 0)).trans (by show I * 1088 + 1 * r.val = R.val; omega)
  | ⟨1, _⟩ => exact (congrArg (· * 2048 + 1 * q.val) (congrFun h 1)).trans (by show 0 * 2048 + 1 * q.val = q.val; omega)

/-- The two blocks that a step reads. -/
abbrev X0 (t : Fin (cfgM m (ok m)).N) : Vec Ideal S1088x1024 .bf16 := iblk m (ok m) c 0 t
abbrev X1 (t : Fin (cfgM m (ok m)).N) : Vec Ideal S1x1024x2048 .bf16 := iblk m (ok m) c 1 t

theorem blk0 (t : Fin (cfgM m (ok m)).N) (r : Fin 1088) (k : Fin 1024) (R : Fin 2176) (K : Fin 8192) (hR : R.val = t.val / 6 * 1088 + r.val)
    (hK : K.val = slot m ⟨t.val % 6, Nat.mod_lt _ (by decide)⟩ * 1024 + k.val) :
    X0 m c t (ix2 r k) = A0 m c (ix2 R K) := by
  unfold A0
  rw [← V_main_arg3 m c]
  exact congrArg (V m c main_arg3) (emb0 _ t _ _ (index_at m t).1 r k R K hR hK)

theorem blk1 (t : Fin (cfgM m (ok m)).N) (k : Fin 1024) (q : Fin 2048) (J : Fin 8) (h : J.val = slot m ⟨t.val % 6, Nat.mod_lt _ (by decide)⟩) :
    X1 m c t (ix3 0 k q) = A1 m c (ix3 J k q) := by
  unfold A1
  rw [← V_main_arg4 m c]
  exact congrArg (V m c main_arg4) (emb1 _ t J ((index_at m t).2.1.trans (by rw [h])) k q)

/-- The product of two blocks. -/
def prod (x0 : Vec Ideal S1088x1024 .bf16) (x1 : Vec Ideal S1x1024x2048 .bf16) (r : Fin 1088) (q : Fin 2048) : EReal :=
  ∑ k : Fin 1024, x0 (ix2 r k) * x1 (ix3 0 k q)

theorem pay_apply (x0 : Vec Ideal S1088x1024 .bf16) (x1 : Vec Ideal S1x1024x2048 .bf16) (r : Fin 1088) (q : Fin 2048) :
    k0_pay1 x0 x1 (ix2 r q) = prod x0 x1 r q := by
  refine (Cert.Mm.nn_apply (φ₁ := .bf16) (φ₂ := .bf16) _ none x0 (shapeCast S1024x2048 x1 shapeCasts_S1x1024x2048_S1024x2048) r q).trans ?_
  refine Finset.sum_congr rfl fun k _ => congrArg (x0 (ix2 r k) * ·) ?_
  exact shapeCast_apply x1 shapeCasts_S1x1024x2048_S1024x2048 (ix2 k q) (ix3 0 k q) (by
    rewrite [Shape.rowMajor_val_two, Shape.rowMajor_val_three]
    show (0 * 1024 + k.val) * 2048 + q.val = k.val * 2048 + q.val
    omega)

theorem first_apply (x0 : Vec Ideal S1088x1024 .bf16) (x1 : Vec Ideal S1x1024x2048 .bf16) (r : Fin 1088) (q : Fin 2048) :
    k0_pay2 x0 x1 (ix2 r q) = prod x0 x1 r q := by
  unfold k0_pay2
  exact (shapeCast_apply _ _ (ix2 r q) (ix2 r q) rfl).trans (pay_apply x0 x1 r q)

theorem later_apply (x0 : Vec Ideal S1088x1024 .bf16) (x1 : Vec Ideal S1x1024x2048 .bf16) (xs : Vec Ideal S1088x2048 .f32) (r : Fin 1088) (q : Fin 2048) :
    k0_pay3 x0 x1 xs (ix2 r q) = xs (ix2 r q) + prod x0 x1 r q := by
  unfold k0_pay3
  exact (shapeCast_apply _ _ (ix2 r q) (ix2 r q) rfl).trans (congrArg (xs (ix2 r q) + ·) (pay_apply x0 x1 r q))

section Steps

variable (i : grid0.Coords) (a4 : Memref sig .tc .vmem S1088x1024 .bf16) (h4 : a4.IsWhole) (a5 : Memref sig .tc .vmem S1x1024x2048 .bf16)
  (h5 : a5.IsWhole) (a6 : Memref sig .tc .vmem S1088x2048 .f32) (h6 : a6.IsWhole) (a7 : Memref sig .tc .vmem S1088x2048 .f32) (h7 : a7.IsWhole)
  (x0 : Vec Ideal S1088x1024 .bf16) (x1 : Vec Ideal S1x1024x2048 .bf16) (xs : Vec Ideal S1088x2048 .f32) (r : Fin 1088) (q : Fin 2048)

theorem sum_A (g0 g1 g2) (xt) : sout0_A_0 c i a4 h4 a5 h5 a6 h6 a7 h7 g0 g1 g2 x0 x1 xt (ix2 r q) = prod x0 x1 r q := by
  unfold sout0_A_0
  frame_out
  exact first_apply x0 x1 r q

theorem sum_B (g0 g1 g2) (xt) : sout0_B_0 c i a4 h4 a5 h5 a6 h6 a7 h7 g0 g1 g2 x0 x1 xt xs (ix2 r q) = xs (ix2 r q) + prod x0 x1 r q := by
  unfold sout0_B_0
  frame_out
  exact later_apply x0 x1 xs r q

theorem out_C (g0 g1 g2) (xt) : out0_C_2 c i a4 h4 a5 h5 a6 h6 a7 h7 g0 g1 g2 x0 x1 xt xs (ix2 r q) = xs (ix2 r q) + prod x0 x1 r q := by
  unfold out0_C_2
  frame_out
  exact later_apply x0 x1 xs r q

end Steps

/-- The place of a step, among the eight. -/
theorem slot_lt : ∀ x y z : BitVec 1, ∀ j : Fin 6, near x y z j < 8 := by decide

abbrev place8 (x y z : BitVec 1) (j : Fin 6) : Fin 8 := ⟨near x y z j, slot_lt x y z j⟩

/-- The product over one place's columns. -/
def part (R : Fin 2176) (q : Fin 2048) (J : Fin 8) : EReal :=
  ∑ k : Fin 1024, A0 m c (ix2 R ⟨J.val * 1024 + k.val, by omega⟩) * A1 m c (ix3 J k q)

/-- What step `j` adds. -/
def term (R : Fin 2176) (q : Fin 2048) (j : ℕ) : EReal :=
  if h : j < 6 then part m c R q (place8 (X m) (Y m) (C m) ⟨j, h⟩) else 0

theorem adds (t : Fin (cfgM m (ok m)).N) (r : Fin 1088) (q : Fin 2048) (R : Fin 2176) (hR : R.val = t.val / 6 * 1088 + r.val) :
    prod (X0 m c t) (X1 m c t) r q = term m c R q (t.val % 6) := by
  unfold term prod part
  rw [dif_pos (Nat.mod_lt _ (by decide))]
  exact Finset.sum_congr rfl fun k _ => congrArg₂ (fun a b : EReal => a * b) (blk0 m c t r k R _ hR rfl) (blk1 m c t k q _ rfl)

/-- The step's kinds, at a point. -/
theorem left_A (t : Fin (cfgM m (ok m)).N) (h0 h1 h2) (r : Fin 1088) (q : Fin 2048) :
    (leftA m (ok m) c t h0 h1 h2).2 (ix2 r q) = prod (X0 m c t) (X1 m c t) r q := by
  unfold leftA
  dsimp only
  exact sum_A c _ _ _ _ _ _ _ _ _ (X0 m c t) (X1 m c t) r q _ _ _ _

theorem left_B (t : Fin (cfgM m (ok m)).N) (h0 h1 h2) (xs : Vec Ideal S1088x2048 .f32) (r : Fin 1088) (q : Fin 2048) :
    (leftB m (ok m) c t h0 h1 h2 xs).2 (ix2 r q) = xs (ix2 r q) + prod (X0 m c t) (X1 m c t) r q := by
  unfold leftB
  dsimp only
  exact sum_B c _ _ _ _ _ _ _ _ _ (X0 m c t) (X1 m c t) xs r q _ _ _ _

theorem left_C (t : Fin (cfgM m (ok m)).N) (h0 h1 h2) (xs : Vec Ideal S1088x2048 .f32) (r : Fin 1088) (q : Fin 2048) :
    (leftC m (ok m) c t h0 h1 h2 xs).1 (ix2 r q) = xs (ix2 r q) + prod (X0 m c t) (X1 m c t) r q := by
  unfold leftC
  dsimp only
  exact out_C c _ _ _ _ _ _ _ _ _ (X0 m c t) (X1 m c t) xs r q _ _ _ _

theorem at_A (t : Fin (cfgM m (ok m)).N) (h0 : t.val % 6 = 0) (r : Fin 1088) (q : Fin 2048) :
    (outsAt0 m (ok m) c t.val t.isLt).2 (ix2 r q) = prod (X0 m c t) (X1 m c t) r q :=
  (congrFun (congrArg Prod.snd (outsAt0_A m (ok m) c t h0 (by omega) (by omega))) _).trans (left_A m c t _ _ _ r q)

theorem at_B (t : Fin (cfgM m (ok m)).N) (h0 : ¬ t.val % 6 = 0) (h2 : ¬ t.val % 6 = 5) (r : Fin 1088) (q : Fin 2048) :
    (outsAt0 m (ok m) c t.val t.isLt).2 (ix2 r q)
      = (outsAt0 m (ok m) c (t.val - 1) (Nat.lt_of_le_of_lt (Nat.sub_le _ _) t.isLt)).2 (ix2 r q) + prod (X0 m c t) (X1 m c t) r q :=
  (congrFun (congrArg Prod.snd (outsAt0_B m (ok m) c t h0 (by omega) h2)) _).trans (left_B m c t _ _ _ _ r q)

theorem at_C (t : Fin (cfgM m (ok m)).N) (h2 : t.val % 6 = 5) (r : Fin 1088) (q : Fin 2048) :
    (outsAt0 m (ok m) c t.val t.isLt).1 (ix2 r q)
      = (outsAt0 m (ok m) c (t.val - 1) (Nat.lt_of_le_of_lt (Nat.sub_le _ _) t.isLt)).2 (ix2 r q) + prod (X0 m c t) (X1 m c t) r q :=
  (congrFun (congrArg Prod.fst (outsAt0_C m (ok m) c t (by omega) (by omega) h2)) _).trans (left_C m c t _ _ _ _ r q)

/-- The sum carried after step `j` of row tile `b`. -/
theorem carried (b : ℕ) (r : Fin 1088) (q : Fin 2048) (R : Fin 2176) (hR : R.val = b * 1088 + r.val) (j : ℕ) (hj : j < 5)
    (t : Fin (cfgM m (ok m)).N) (ht : t.val = 6 * b + j) :
    (outsAt0 m (ok m) c t.val t.isLt).2 (ix2 r q) = ∑ i ∈ Finset.range (j + 1), term m c R q i := by
  induction j generalizing t with
  | zero =>
    have e0 : t.val % 6 = 0 := by omega
    have e1 : t.val / 6 = b := by omega
    rw [at_A m c t e0, adds m c t r q R (by rw [e1, hR]), e0, Finset.sum_range_one]
  | succ j ih =>
    have e0 : t.val % 6 = j + 1 := by omega
    have e1 : t.val / 6 = b := by omega
    rw [at_B m c t (by omega) (by omega), adds m c t r q R (by rw [e1, hR]), e0, Finset.sum_range_succ]
    exact congrArg (fun a : EReal => a + term m c R q (j + 1))
      (ih (by omega) ⟨t.val - 1, Nat.lt_of_le_of_lt (Nat.sub_le _ _) t.isLt⟩ (by show t.val - 1 = 6 * b + j; omega))

/-- The block written at the last step of row tile `b`. -/
theorem written (b : ℕ) (r : Fin 1088) (q : Fin 2048) (R : Fin 2176) (hR : R.val = b * 1088 + r.val) (t : Fin (cfgM m (ok m)).N)
    (ht : t.val = 6 * b + 5) :
    (outsAt0 m (ok m) c t.val t.isLt).1 (ix2 r q) = ∑ i ∈ Finset.range 6, term m c R q i := by
  have e0 : t.val % 6 = 5 := by omega
  have e1 : t.val / 6 = b := by omega
  rw [at_C m c t e0, adds m c t r q R (by rw [e1, hR]), e0, Finset.sum_range_succ]
  exact congrArg (fun a : EReal => a + term m c R q 5)
    (carried m c b r q R hR 4 (by omega) ⟨t.val - 1, Nat.lt_of_le_of_lt (Nat.sub_le _ _) t.isLt⟩ (by show t.val - 1 = 6 * b + 4; omega))

theorem cut2 (a : (pcfg0 (F := Ideal)).Adm) (i : grid0.Coords) (f : Vec Ideal S1088x2048 .f32) (y : S1088x2048.Idx) :
    ((win0 a 2).cut i f : S1088x2048.Idx → Elt Ideal .f32) y = f y := rfl

theorem read2 (a : (pcfg0 (F := Ideal)).Adm) (t : Fin (cfg0 a).N) (f : Vec Ideal S2176x2048 .f32) (y : S1088x2048.Idx) (i : S2176x2048.Idx)
    (e : ((win0 a 2).blk t).view.emb y = i) : (((win0 a 2).blk t).view.read (Elt Ideal) f : S1088x2048.Idx → Elt Ideal .f32) y = f i := by
  obtain rfl : ((win0 a 2).blk t).view.emb y = i := e
  rfl

/-- The result's entry: the six places' products added up. -/
theorem final (R : Fin 2176) (q : Fin 2048) :
    (dats m (ok m) 0 c).arrAt 2 (cfgM m (ok m)).N (ix2 R q : S2176x2048.Idx) = ∑ j : Fin 6, part m c R q (place8 (X m) (Y m) (C m) j) := by
  have hR := R.isLt
  have hN : (cfgM m (ok m)).N = 12 := N_0
  obtain ⟨t, ht⟩ : ∃ t : Fin (cfgM m (ok m)).N, t.val = 6 * (R.val / 1088) + 5 := ⟨⟨6 * (R.val / 1088) + 5, by omega⟩, rfl⟩
  have t0 : t.val % 6 = 5 := by omega
  have hr : R.val = R.val / 1088 * 1088 + R.val % 1088 := by omega
  have hr' : R.val = t.val / 6 * 1088 + R.val % 1088 := by omega
  have e := emb2 (adm m (ok m)) t _ (index_at m t).2.2.1 ⟨R.val % 1088, by omega⟩ q R hr'
  have h1 := read2 (adm m (ok m)) t ((dats m (ok m) 0 c).arrAt 2 (cfgM m (ok m)).N) (ix2 ⟨R.val % 1088, by omega⟩ q) (ix2 R q) e
  have h3 := congrFun (blocks m c t t0) (ix2 ⟨R.val % 1088, by omega⟩ q)
  have h2 := cut2 (adm m (ok m)) (grid0.coords t) (outsAt0 m (ok m) c t.val t.isLt).1 (ix2 ⟨R.val % 1088, by omega⟩ q)
  refine h1.symm.trans (h3.trans (h2.trans ((written m c (R.val / 1088) ⟨R.val % 1088, by omega⟩ q R hr t ht).trans ?_)))
  rw [Finset.sum_range]
  exact Finset.sum_congr rfl fun j _ => dif_pos j.isLt

/-- The chips whose columns the reference sets to zero. -/
abbrev Hit (x y : BitVec 1) (ch : ℕ) : Prop := ∃ j, far x y 0#1 j / 2 = ch

theorem mask_bits (x y : BitVec 1) (ch : Fin 4) : Cert.Reference16Ideal.Read.val_main_v8 (F := Ideal) (fun _ => x) (fun _ => y) (ix1 ch)
    = if Hit x y ch.val then 1#1 else 0#1 := by
  revert ch
  rcases bit x with rfl | rfl <;> rcases bit y with rfl | rfl <;> exact of_decide_eq_true (by sl_kernel_rfl)

theorem places : ∀ x y z : BitVec 1, (Finset.univ.filter fun s : Fin 8 => ¬ Hit x y (s.val / 2)) = Finset.univ.image (place8 x y z) := by decide

theorem places_differ : ∀ x y z : BitVec 1, ∀ i j : Fin 6, place8 x y z i = place8 x y z j → i = j := by decide

/-- A sum over the places with the opposite chip's left out. -/
theorem sum_places (x y z : BitVec 1) (f : Fin 8 → EReal) :
    (∑ s, if Hit x y (s.val / 2) then 0 else f s) = ∑ j : Fin 6, f (place8 x y z j) := by
  have h : (∑ s, if Hit x y (s.val / 2) then 0 else f s) = ∑ s, if ¬ Hit x y (s.val / 2) then f s else 0 :=
    Finset.sum_congr rfl fun s _ => (ite_not _ _ _).symm
  rw [h, ← Finset.sum_filter, places x y z, Finset.sum_image fun i _ j _ e => places_differ x y z i j e]

theorem select_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

/-- The columns that the reference sets to zero. -/
theorem mask (b0 b1 : (⟨S_, .i1⟩ : BufTy).Contents (Elt Ideal)) (R : Fin 2176) (K : Fin 8192) :
    Cert.Reference16Ideal.Read.val_main_call0_v1 (F := Ideal) b0 b1 (ix2 R K)
      = if Hit (b0 fun a => a.elim0) (b1 fun a => a.elim0) (K.val / 1024 / 2) then 1#1 else 0#1 := by
  rw [Cert.Reference16Ideal.Read.val_main_call0_v1_apply,
    Cert.Reference16Ideal.Read.val_main_v11_apply,
    Cert.Reference16Ideal.Read.val_main_v10_apply,
    Cert.Reference16Ideal.Read.val_main_v9_apply,
    scalar (F := Ideal) b0, scalar (F := Ideal) b1]
  refine ((congrArg _ (eq_ix1 _)).trans (mask_bits _ _ ⟨K.val / 2048, by omega⟩)).trans ?_
  have : K.val / 1024 / 2 = K.val / 2048 := by omega
  rw [this]

/-- A row's entry as the reference reads it. -/
theorem row (R : Fin 2176) (K : Fin 8192) :
    Cert.Reference16Ideal.Read.val_main_v13 (F := Ideal) (m ((c : Thread nD τ).loc main_arg0)) (m ((c : Thread nD τ).loc main_arg1)) (A0 m c) (ix2 R K)
      = if Hit (m ((c : Thread nD τ).loc main_arg0) fun a => a.elim0) (m ((c : Thread nD τ).loc main_arg1) fun a => a.elim0) (K.val / 1024 / 2)
        then (0 : EReal) else A0 m c (ix2 R K) := by
  refine (Cert.Reference16Ideal.Read.val_main_v13_apply _ _ _ _).trans ?_
  refine (congrArg₂ (fun u (v : EReal) => Scalar.select u v (A0 m c (ix2 R K) : EReal)) (mask _ _ R K) ?_).trans (select_bit _ _ _)
  exact (Cert.Reference16Ideal.Read.val_main_call0_v2_apply _).trans Ideal.ofBits_zero_f32

theorem weight (K : Fin 8192) (q : Fin 2048) (J : Fin 8) (k : Fin 1024) (h : K.val = k.val + 1024 * J.val) :
    Cert.Reference16Ideal.Read.val_main_v15 (F := Ideal) (A1 m c) (ix2 K q) = A1 m c (ix3 J k q) := by
  refine (Cert.Reference16Ideal.Read.val_main_v15_apply _ _).trans ((Cert.Reference16Ideal.Read.val_main_v14_apply _ _).trans (congrArg (A1 m c) ?_))
  have hk := k.isLt
  have hq := q.isLt
  funext b; apply Fin.ext
  match b with
  | ⟨0, _⟩ => show (K.val * 2048 + q.val) / 2097152 = J.val; omega
  | ⟨1, _⟩ => show (K.val * 2048 + q.val) / 2048 % 1024 = k.val; omega
  | ⟨2, _⟩ => show (K.val * 2048 + q.val) % 2048 = q.val; omega

/-- The reference's operands. -/
abbrev R13 : FVec Ideal S2176x8192 .f32 :=
  Cert.Reference16Ideal.Read.val_main_v13 (F := Ideal) (m ((c : Thread nD τ).loc main_arg0)) (m ((c : Thread nD τ).loc main_arg1)) (A0 m c)
abbrev R15 : FVec Ideal ⟨2, ![8192, 2048]⟩ .f32 := Cert.Reference16Ideal.Read.val_main_v15 (F := Ideal) (A1 m c)

theorem chip_of (J : Fin 8) (k : Fin 1024) : (k.val + 1024 * J.val) / 1024 / 2 = J.val / 2 := by omega

/-- One of the reference's products. -/
theorem one (R : Fin 2176) (q : Fin 2048) (J : Fin 8) (k : Fin 1024) (K : Fin 8192) (hK : K.val = k.val + 1024 * J.val) :
    @HMul.hMul EReal EReal EReal _ (R13 m 0 (ix2 R K)) (R15 m 0 (ix2 K q))
      = if Hit (X m) (Y m) (J.val / 2) then (0 : EReal)
        else A0 m 0 (ix2 R ⟨J.val * 1024 + k.val, by omega⟩) * A1 m 0 (ix3 J k q) := by
  have e : K.val / 1024 / 2 = J.val / 2 := by rw [hK]; exact chip_of J k
  have eK : K = ⟨J.val * 1024 + k.val, by omega⟩ := Fin.ext (by show K.val = J.val * 1024 + k.val; omega)
  have h1 : R13 m 0 (ix2 R K) = if Hit (X m) (Y m) (J.val / 2) then (0 : EReal) else A0 m 0 (ix2 R K) := by
    rw [← e]
    exact row m 0 R K
  refine (congrArg₂ (fun a b : EReal => a * b) h1 (weight m 0 K q J k hK)).trans ?_
  rw [← eK]
  by_cases h : Hit (X m) (Y m) (J.val / 2)
  · rw [if_pos h, if_pos h]
    exact zero_mul _
  · rw [if_neg h, if_neg h]

/-- The reference's products at one place. -/
theorem one_place (R : Fin 2176) (q : Fin 2048) (J : Fin 8) (f : Fin 1024 → Fin 8192) (hf : ∀ k, (f k).val = k.val + 1024 * J.val) :
    (∑ k : Fin 1024, @HMul.hMul EReal EReal EReal _ (R13 m 0 (ix2 R (f k))) (R15 m 0 (ix2 (f k) q)))
      = if Hit (X m) (Y m) (J.val / 2) then (0 : EReal) else part m 0 R q J := by
  refine (Finset.sum_congr rfl fun k _ => one m R q J k (f k) (hf k)).trans ?_
  by_cases h : Hit (X m) (Y m) (J.val / 2)
  · rw [if_pos h]
    exact Finset.sum_eq_zero fun k _ => if_pos h
  · rw [if_neg h]
    exact Finset.sum_congr rfl fun k _ => if_neg h

theorem reference_entry (R : Fin 2176) (q : Fin 2048) :
    Cert.Reference16Ideal.Read.val_main_v16 (F := Ideal) (m (((0 : Dev nD) : Thread nD τ).loc main_arg0)) (m (((0 : Dev nD) : Thread nD τ).loc main_arg1))
      (A0 m 0) (A1 m 0) (ix2 R q) = ∑ K : Fin 8192, @HMul.hMul EReal EReal EReal _ (R13 m 0 (ix2 R K)) (R15 m 0 (ix2 K q)) := by
  refine (Cert.Reference16Ideal.Read.val_main_v16_apply _ _ _ _ _).trans ?_
  exact Finset.sum_congr rfl fun K _ => congrArg₂ (fun a b : EReal => a * b) (congrArg (R13 m 0) (eq_ix2 _)) (congrArg (R15 m 0) (eq_ix2 _))

theorem reference_parts (R : Fin 2176) (q : Fin 2048) :
    (∑ K : Fin 8192, @HMul.hMul EReal EReal EReal _ (R13 m 0 (ix2 R K)) (R15 m 0 (ix2 K q)))
      = ∑ J : Fin 8, if Hit (X m) (Y m) (J.val / 2) then (0 : EReal) else part m 0 R q J := by
  refine (Cert.Mm.sum_strips (n := 8) (W := 1024) (T := 8192) rfl
    fun K => @HMul.hMul EReal EReal EReal _ (R13 m 0 (ix2 R K)) (R15 m 0 (ix2 K q))).trans ?_
  exact Finset.sum_congr rfl fun J _ => one_place m R q J _ fun k => rfl

/-- The reference's result is the kernel's. -/
theorem same : Cert.Reference16Ideal.Read.val_main_v16 (F := Ideal) (m ((c : Thread nD τ).loc main_arg0)) (m ((c : Thread nD τ).loc main_arg1))
    (A0 m c) (A1 m c) = (dats m (ok m) 0 c).arrAt 2 (cfgM m (ok m)).N := by
  funext i
  obtain ⟨R, q, rfl⟩ : ∃ (R : Fin 2176) (q : Fin 2048), i = ix2 R q := ⟨i 0, i 1, eq_ix2 i⟩
  obtain rfl : c = 0 := Subsingleton.elim _ _
  exact (reference_entry m R q).trans ((reference_parts m R q).trans
    ((sum_places (X m) (Y m) (C m) (part m 0 R q)).trans (final m 0 R q).symm))

/-- Every run ends with the result read above and the arguments as they were. -/
theorem run : θ_run defs (onTc (τ := τ) (main (F := Ideal))) ⟨m, fun _ => 0, ρ⟩ fun r => ∀ c : Dev nD,
      r.2.mem ((c : Thread nD τ).loc main_v41) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have h1 : θ_run defs (onTc (τ := τ) (main (F := Ideal))) ⟨m, fun _ => 0, ρ⟩ fun r => ∀ c : Dev nD,
      r.2.mem ((c : Thread nD τ).loc main_v41) = (dats m (ok m) 0 c).arrAt 2 (cfgM m (ok m)).N :=
    (θ_run defs _ _).mono (fun _ h c => (h c).1 2) (run_main m ρ (ok m))
  exact (θ_run defs _ _).mono (fun _ h c => ⟨h.1 c, h.2.1 c⟩) (θ_run_and h1 (Cert.DownNear.frame m ρ (ok m)))

end Cert.MmDownNear

end
-- ==== Proof.DownSame.lean ====
module

public import proofs.«01_k».proof.Proof.Gen.Kernel16
public import proofs.«01_k».proof.Proof.Gen.Kernel16Ideal
public import proofs.«01_k».proof.Proof.Gen.Kernel17
public import proofs.«01_k».proof.Proof.Gen.Kernel17Ideal
public import Idealize.ShloMosaic.Lib.Tactic

/-!
  The two forms of each of the two calls that multiply by the down projection are one text: the same pipelines, the same
  body, the same host program. So a frame of the one, over any floats, is a frame of the other.
-/

@[expose] public section

set_option maxRecDepth 16384

namespace Cert.DownSame

open Idealize.ShloMosaic Idealize.ShloMosaic.TcCoe Idealize.SL.Sem Idealize.ShloMosaic.Tactic

variable {F : FTy → Type} [FloatOps F]

theorem body_same16 (t : Fin Cert.Kernel16Ideal.grid0.N) (s) :
    Cert.Kernel16.defs₀ (F := F) .tc 0 (t, s) = Cert.Kernel16Ideal.defs₀ (F := F) .tc 0 (t, s) := rfl

theorem table_same16 : Cert.Kernel16.defs₀ (F := F) = Cert.Kernel16Ideal.defs₀ (F := F) := by
  unfold Cert.Kernel16.defs₀ Cert.Kernel16Ideal.defs₀
  refine congrArg Defs.onTc ?_
  funext l x
  match l, x with
  | 0, (t, s) => exact body_same16 t s
  | ⟨_ + 1, h⟩, _ => exact absurd h (Nat.not_lt.2 (Nat.le_add_left _ _))

theorem defs_same16 : Cert.Kernel16.defs (F := F) = Cert.Kernel16Ideal.defs (F := F) :=
  congrArg (Pipeline.defs Cert.Kernel16Ideal.pcfgs) table_same16

theorem main_same16 : Cert.Kernel16.main (F := F) = Cert.Kernel16Ideal.main (F := F) := by sl_kernel_rfl

theorem body_same17 (t : Fin Cert.Kernel17Ideal.grid0.N) (s) :
    Cert.Kernel17.defs₀ (F := F) .tc 0 (t, s) = Cert.Kernel17Ideal.defs₀ (F := F) .tc 0 (t, s) := rfl

theorem table_same17 : Cert.Kernel17.defs₀ (F := F) = Cert.Kernel17Ideal.defs₀ (F := F) := by
  unfold Cert.Kernel17.defs₀ Cert.Kernel17Ideal.defs₀
  refine congrArg Defs.onTc ?_
  funext l x
  match l, x with
  | 0, (t, s) => exact body_same17 t s
  | ⟨_ + 1, h⟩, _ => exact absurd h (Nat.not_lt.2 (Nat.le_add_left _ _))

theorem defs_same17 : Cert.Kernel17.defs (F := F) = Cert.Kernel17Ideal.defs (F := F) :=
  congrArg (Pipeline.defs Cert.Kernel17Ideal.pcfgs) table_same17

theorem main_same17 : Cert.Kernel17.main (F := F) = Cert.Kernel17Ideal.main (F := F) := by sl_kernel_rfl

end Cert.DownSame

end
-- ==== Proof.Ok17Ideal.lean ====
/-
  The table that `Kernel17Ideal` prefetches holds the places of the chip opposite, and every block it names lies inside its array.
-/
module

public import proofs.«01_k».proof.Proof.Gen.Kernel17Ideal.Frame.Runs
public import proofs.«01_k».proof.Proof.Slots

@[expose] public section

set_option maxRecDepth 16384

noncomputable section

namespace Cert.Kernel17Ideal.Places

open Cert.Kernel17Ideal Cert.Kernel17Ideal.Gen Cert.Slots
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S2.Idx => BitVec.ofNat 32 (far x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

theorem scalar (b : (⟨S_, .i1⟩ : BufTy).Contents (Elt F)) : b = fun _ => b (fun a => a.elim0) :=
  funext fun i => congrArg b (funext fun a => a.elim0)

theorem tbl0 : tbl m 0 = words (F := F) (X m) (Y m) (C m) 0 := by
  show V m 0 main_v18 = _
  unfold V hostOps0
  after_results
  have hx := scalar (F := F) (m (((0 : Dev nD) : Thread nD τ).loc main_arg0))
  have hy := scalar (F := F) (m (((0 : Dev nD) : Thread nD τ).loc main_arg1))
  have hc := scalar (F := F) (m (((0 : Dev nD) : Thread nD τ).loc main_arg2))
  rw [hx, hy, hc]
  show _ = words (F := F) (m (((0 : Dev nD) : Thread nD τ).loc main_arg0) fun a => a.elim0)
    (m (((0 : Dev nD) : Thread nD τ).loc main_arg1) fun a => a.elim0) (m (((0 : Dev nD) : Thread nD τ).loc main_arg2) fun a => a.elim0) 0
  generalize m (((0 : Dev nD) : Thread nD τ).loc main_arg0) (fun a => a.elim0) = x
  generalize m (((0 : Dev nD) : Thread nD τ).loc main_arg1) (fun a => a.elim0) = y
  generalize m (((0 : Dev nD) : Thread nD τ).loc main_arg2) (fun a => a.elim0) = c
  clear hx hy hc
  funext i
  obtain ⟨j, rfl⟩ : ∃ j : Fin 2, i = fun | 0 => j := ⟨i 0, funext fun a => match a with | 0 => rfl⟩
  rcases bit x with rfl | rfl <;> rcases bit y with rfl | rfl <;> rcases bit c with rfl | rfl <;>
    (fin_cases j <;> sl_kernel_rfl)

theorem tbl_eq : tbl m = words (F := F) (X m) (Y m) (C m) := funext fun k => match k with
  | 0 => tbl0 m

theorem ok : Ok m := by
  unfold Ok
  rw [tbl_eq]
  exact ok_words _ _ _

end Cert.Kernel17Ideal.Places

end
-- ==== Proof.DownFar.lean ====
/- The run of `mm_down_far`: its steps carry a sum, so what each step leaves
   is said by recursion over the steps. Over any values. -/
module

public import proofs.«01_k».proof.Proof.Gen.Kernel17Ideal.Frame.RunB
public import Idealize.ShloMosaic.Lib.Claim

@[expose] public section

set_option maxRecDepth 16384

noncomputable section

namespace Cert.DownFar

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel17Ideal Cert.Kernel17Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A first step of a sum writes nothing to the output block: contents nobody reads. -/
def out0_A_3 (c : Dev nD) (i : grid0.Coords) (arg4 : Memref sig .tc .vmem S544x1024 .bf16) (harg4 : arg4.IsWhole) (arg5 : Memref sig .tc .vmem S1x1024x2048 .bf16) (harg5 : arg5.IsWhole) (arg6 : Memref sig .tc .vmem S544x2048 .f32) (harg6 : arg6.IsWhole) (arg7 : Memref sig .tc .vmem S544x2048 .f32) (harg7 : arg7.IsWhole) (arg8 : Memref sig .tc .vmem S544x2048 .f32) (harg8 : arg8.IsWhole) (hc0 : cond0_0 i) (hc1 : ¬cond0_1 i) (hc2 : ¬cond0_2 i)
    (x0 : Vec F S544x1024 .bf16) (x1 : Vec F S1x1024x2048 .bf16) (x2 : Vec F S544x2048 .f32) (xt0 : TbBuf0 (F := F) c tbM0_0) : Vec F S544x2048 .f32 :=
  VO0_3.read (Elt F) (VO0_3.writes (Elt F) VO0_3.junk (kernelRun0_A c i arg4 harg4 arg5 harg5 arg6 harg6 arg7 harg7 arg8 harg8 hc0 hc1 hc2 x0 x1 x2 xt0).1)

/-- A first step of a sum writes the whole of the carried sum. -/
theorem scover0_A_0 (c : Dev nD) (i : grid0.Coords) (arg4 : Memref sig .tc .vmem S544x1024 .bf16) (harg4 : arg4.IsWhole) (arg5 : Memref sig .tc .vmem S1x1024x2048 .bf16) (harg5 : arg5.IsWhole) (arg6 : Memref sig .tc .vmem S544x2048 .f32) (harg6 : arg6.IsWhole) (arg7 : Memref sig .tc .vmem S544x2048 .f32) (harg7 : arg7.IsWhole) (arg8 : Memref sig .tc .vmem S544x2048 .f32) (harg8 : arg8.IsWhole) (hc0 : cond0_0 i) (hc1 : ¬cond0_1 i) (hc2 : ¬cond0_2 i)
    (x0 : Vec F S544x1024 .bf16) (x1 : Vec F S1x1024x2048 .bf16) (x2 : Vec F S544x2048 .f32) (xt0 : TbBuf0 (F := F) c tbM0_0) (y : S544x2048.Idx) :
    ∃ pc ∈ (kernelRun0_A c i arg4 harg4 arg5 harg5 arg6 harg6 arg7 harg7 arg8 harg8 hc0 hc1 hc2 x0 x1 x2 xt0).2.1, y ∈ pc.1.set :=
  View.cover_of_tiledL (kernelRun0_A c i arg4 harg4 arg5 harg5 arg6 harg6 arg7 harg7 arg8 harg8 hc0 hc1 hc2 x0 x1 x2 xt0).2.1 S544x2048.size (by sl_kernel_rfl) y

/-- The carried sum after a first step of a sum. -/
def sout0_A_0 (c : Dev nD) (i : grid0.Coords) (arg4 : Memref sig .tc .vmem S544x1024 .bf16) (harg4 : arg4.IsWhole) (arg5 : Memref sig .tc .vmem S1x1024x2048 .bf16) (harg5 : arg5.IsWhole) (arg6 : Memref sig .tc .vmem S544x2048 .f32) (harg6 : arg6.IsWhole) (arg7 : Memref sig .tc .vmem S544x2048 .f32) (harg7 : arg7.IsWhole) (arg8 : Memref sig .tc .vmem S544x2048 .f32) (harg8 : arg8.IsWhole) (hc0 : cond0_0 i) (hc1 : ¬cond0_1 i) (hc2 : ¬cond0_2 i)
    (x0 : Vec F S544x1024 .bf16) (x1 : Vec F S1x1024x2048 .bf16) (x2 : Vec F S544x2048 .f32) (xt0 : TbBuf0 (F := F) c tbM0_0) : Vec F S544x2048 .f32 :=
  VS0_0.read (Elt F) (VS0_0.writes (Elt F) VS0_0.junk (kernelRun0_A c i arg4 harg4 arg5 harg5 arg6 harg6 arg7 harg7 arg8 harg8 hc0 hc1 hc2 x0 x1 x2 xt0).2.1)

/-- A last step of a sum writes the whole of the output block. -/
theorem cover0_B_3 (c : Dev nD) (i : grid0.Coords) (arg4 : Memref sig .tc .vmem S544x1024 .bf16) (harg4 : arg4.IsWhole) (arg5 : Memref sig .tc .vmem S1x1024x2048 .bf16) (harg5 : arg5.IsWhole) (arg6 : Memref sig .tc .vmem S544x2048 .f32) (harg6 : arg6.IsWhole) (arg7 : Memref sig .tc .vmem S544x2048 .f32) (harg7 : arg7.IsWhole) (arg8 : Memref sig .tc .vmem S544x2048 .f32) (harg8 : arg8.IsWhole) (hc0 : ¬cond0_0 i) (hc1 : cond0_1 i) (hc2 : cond0_2 i)
    (x0 : Vec F S544x1024 .bf16) (x1 : Vec F S1x1024x2048 .bf16) (x2 : Vec F S544x2048 .f32) (xt0 : TbBuf0 (F := F) c tbM0_0) (xs0 : Vec F S544x2048 .f32) (y : S544x2048.Idx) :
    ∃ pc ∈ (kernelRun0_B c i arg4 harg4 arg5 harg5 arg6 harg6 arg7 harg7 arg8 harg8 hc0 hc1 hc2 x0 x1 x2 xt0 xs0).1, y ∈ pc.1.set :=
  View.cover_of_tiledL (kernelRun0_B c i arg4 harg4 arg5 harg5 arg6 harg6 arg7 harg7 arg8 harg8 hc0 hc1 hc2 x0 x1 x2 xt0 xs0).1 S544x2048.size (by sl_kernel_rfl) y

/-- The output block after a last step of a sum. -/
def out0_B_3 (c : Dev nD) (i : grid0.Coords) (arg4 : Memref sig .tc .vmem S544x1024 .bf16) (harg4 : arg4.IsWhole) (arg5 : Memref sig .tc .vmem S1x1024x2048 .bf16) (harg5 : arg5.IsWhole) (arg6 : Memref sig .tc .vmem S544x2048 .f32) (harg6 : arg6.IsWhole) (arg7 : Memref sig .tc .vmem S544x2048 .f32) (harg7 : arg7.IsWhole) (arg8 : Memref sig .tc .vmem S544x2048 .f32) (harg8 : arg8.IsWhole) (hc0 : ¬cond0_0 i) (hc1 : cond0_1 i) (hc2 : cond0_2 i)
    (x0 : Vec F S544x1024 .bf16) (x1 : Vec F S1x1024x2048 .bf16) (x2 : Vec F S544x2048 .f32) (xt0 : TbBuf0 (F := F) c tbM0_0) (xs0 : Vec F S544x2048 .f32) : Vec F S544x2048 .f32 :=
  VO0_3.read (Elt F) (VO0_3.writes (Elt F) VO0_3.junk (kernelRun0_B c i arg4 harg4 arg5 harg5 arg6 harg6 arg7 harg7 arg8 harg8 hc0 hc1 hc2 x0 x1 x2 xt0 xs0).1)

/-- A last step of a sum writes the whole of the carried sum. -/
theorem scover0_B_0 (c : Dev nD) (i : grid0.Coords) (arg4 : Memref sig .tc .vmem S544x1024 .bf16) (harg4 : arg4.IsWhole) (arg5 : Memref sig .tc .vmem S1x1024x2048 .bf16) (harg5 : arg5.IsWhole) (arg6 : Memref sig .tc .vmem S544x2048 .f32) (harg6 : arg6.IsWhole) (arg7 : Memref sig .tc .vmem S544x2048 .f32) (harg7 : arg7.IsWhole) (arg8 : Memref sig .tc .vmem S544x2048 .f32) (harg8 : arg8.IsWhole) (hc0 : ¬cond0_0 i) (hc1 : cond0_1 i) (hc2 : cond0_2 i)
    (x0 : Vec F S544x1024 .bf16) (x1 : Vec F S1x1024x2048 .bf16) (x2 : Vec F S544x2048 .f32) (xt0 : TbBuf0 (F := F) c tbM0_0) (xs0 : Vec F S544x2048 .f32) (y : S544x2048.Idx) :
    ∃ pc ∈ (kernelRun0_B c i arg4 harg4 arg5 harg5 arg6 harg6 arg7 harg7 arg8 harg8 hc0 hc1 hc2 x0 x1 x2 xt0 xs0).2.1, y ∈ pc.1.set :=
  View.cover_of_tiledL (kernelRun0_B c i arg4 harg4 arg5 harg5 arg6 harg6 arg7 harg7 arg8 harg8 hc0 hc1 hc2 x0 x1 x2 xt0 xs0).2.1 S544x2048.size (by sl_kernel_rfl) y

/-- The carried sum after a last step of a sum. -/
def sout0_B_0 (c : Dev nD) (i : grid0.Coords) (arg4 : Memref sig .tc .vmem S544x1024 .bf16) (harg4 : arg4.IsWhole) (arg5 : Memref sig .tc .vmem S1x1024x2048 .bf16) (harg5 : arg5.IsWhole) (arg6 : Memref sig .tc .vmem S544x2048 .f32) (harg6 : arg6.IsWhole) (arg7 : Memref sig .tc .vmem S544x2048 .f32) (harg7 : arg7.IsWhole) (arg8 : Memref sig .tc .vmem S544x2048 .f32) (harg8 : arg8.IsWhole) (hc0 : ¬cond0_0 i) (hc1 : cond0_1 i) (hc2 : cond0_2 i)
    (x0 : Vec F S544x1024 .bf16) (x1 : Vec F S1x1024x2048 .bf16) (x2 : Vec F S544x2048 .f32) (xt0 : TbBuf0 (F := F) c tbM0_0) (xs0 : Vec F S544x2048 .f32) : Vec F S544x2048 .f32 :=
  VS0_0.read (Elt F) (VS0_0.writes (Elt F) VS0_0.junk (kernelRun0_B c i arg4 harg4 arg5 harg5 arg6 harg6 arg7 harg7 arg8 harg8 hc0 hc1 hc2 x0 x1 x2 xt0 xs0).2.1)

/-- The output block and the carried sum after a first step. -/
def leftA (hO : Ok m) (c : Dev nD) (t : Fin (cfgM m hO).N) (h0 : t.val % 2 = 0) (h1 : ¬t.val % 2 = 1) (h2 : ¬t.val % 2 = 1) :
    Vec F S544x2048 .f32 × Vec F S544x2048 .f32 :=
  (out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) ((hcond0_0 t).mpr h0) (fun h => h1 ((hcond0_1 t).mp h)) (fun h => h2 ((hcond0_2 t).mp h)) (iblk m hO c 0 t) (iblk m hO c 1 t) (iblk m hO c 2 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) ((hcond0_0 t).mpr h0) (fun h => h1 ((hcond0_1 t).mp h)) (fun h => h2 ((hcond0_2 t).mp h)) (iblk m hO c 0 t) (iblk m hO c 1 t) (iblk m hO c 2 t) (tbl m 0))

/-- The output block and the carried sum after a last step. -/
def leftB (hO : Ok m) (c : Dev nD) (t : Fin (cfgM m hO).N) (h0 : ¬t.val % 2 = 0) (h1 : t.val % 2 = 1) (h2 : t.val % 2 = 1) (xs : Vec F S544x2048 .f32) :
    Vec F S544x2048 .f32 × Vec F S544x2048 .f32 :=
  (out0_B_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (fun h => h0 ((hcond0_0 t).mp h)) ((hcond0_1 t).mpr h1) ((hcond0_2 t).mpr h2) (iblk m hO c 0 t) (iblk m hO c 1 t) (iblk m hO c 2 t) (tbl m 0) xs, sout0_B_0 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (fun h => h0 ((hcond0_0 t).mp h)) ((hcond0_1 t).mpr h1) ((hcond0_2 t).mpr h2) (iblk m hO c 0 t) (iblk m hO c 1 t) (iblk m hO c 2 t) (tbl m 0) xs)

/-- The output block and the carried sum after step `t`, from the sum the step before carried. -/
def step (hO : Ok m) (c : Dev nD) (t : Fin (cfgM m hO).N) (xs : Vec F S544x2048 .f32) :
    Vec F S544x2048 .f32 × Vec F S544x2048 .f32 :=
  if h0 : t.val % 2 = 0 then leftA m hO c t h0 (by omega) (by omega)
  else leftB m hO c t h0 (by omega) (by omega) xs

theorem step_A (hO : Ok m) (c : Dev nD) (t : Fin (cfgM m hO).N) (xs : Vec F S544x2048 .f32) (h0 : t.val % 2 = 0) (h1 : ¬t.val % 2 = 1) (h2 : ¬t.val % 2 = 1) :
    step m hO c t xs = leftA m hO c t h0 h1 h2 := dif_pos h0

theorem step_B (hO : Ok m) (c : Dev nD) (t : Fin (cfgM m hO).N) (xs : Vec F S544x2048 .f32) (h0 : ¬t.val % 2 = 0) (h1 : t.val % 2 = 1) (h2 : t.val % 2 = 1) :
    step m hO c t xs = leftB m hO c t h0 h1 h2 xs := dif_neg h0

/-- The output block and the carried sum after each step. -/
def outsAt0 (hO : Ok m) (c : Dev nD) : (n : ℕ) → n < (cfgM m hO).N → Vec F S544x2048 .f32 × Vec F S544x2048 .f32
  | 0, hn => step m hO c ⟨0, hn⟩ (VS0_0.read (Elt F) VS0_0.junk)
  | n + 1, hn => step m hO c ⟨n + 1, hn⟩ (outsAt0 hO c n (Nat.lt_of_succ_lt hn)).2

theorem outsAt0_A (hO : Ok m) (c : Dev nD) (t : Fin (cfgM m hO).N) (h0 : t.val % 2 = 0) (h1 : ¬t.val % 2 = 1) (h2 : ¬t.val % 2 = 1) :
    outsAt0 m hO c t.val t.isLt = leftA m hO c t h0 h1 h2 := by
  obtain ⟨n, hn⟩ := t
  cases n with
  | zero => exact step_A m hO c ⟨0, hn⟩ _ h0 h1 h2
  | succ n => exact step_A m hO c ⟨n + 1, hn⟩ _ h0 h1 h2

theorem outsAt0_B (hO : Ok m) (c : Dev nD) (t : Fin (cfgM m hO).N) (h0 : ¬t.val % 2 = 0) (h1 : t.val % 2 = 1) (h2 : t.val % 2 = 1) :
    outsAt0 m hO c t.val t.isLt = leftB m hO c t h0 h1 h2
      (outsAt0 m hO c (t.val - 1) (Nat.lt_of_le_of_lt (Nat.sub_le _ _) t.isLt)).2 := by
  obtain ⟨n, hn⟩ := t
  cases n with
  | zero => exact absurd (Nat.zero_mod _) h0
  | succ n => exact step_B m hO c ⟨n + 1, hn⟩ _ h0 h1 h2

/-- Between two steps: the carried sum at what the last step left, the tables beside it. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After step `n` the carried sum is what that step left. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a step that is not the first the carried sum is what the step before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-- What the pipeline knows: inputs stay their blocks, the output block and the carried sum are `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t.val t.isLt).1
  Φ t := PhiS m hO c t.val (Nat.le_of_lt_succ t.isLt)
  q _ := fullShare
  owed _ := 0

/-- The arrays are those the call finds. -/
theorem A_eq (hO : Ok m) (c : Dev nD) (w : Fin (cfgM m hO).W) : (dats m hO 0 c).A w = V m c (Pipeline.arrRef spec0 w) := by
  dsimp only [dats]

/-- The invariant at the start of a step. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- Each buffer after a step. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t.val t.isLt).1 := by dsimp only [dats]; try rfl

/-- Each input buffer holds its block before a step. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What a step is given. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- What a step gives back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 3200000 in
/-- Each step, whichever of the kinds it is, does what `outsAt0` says. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 8 := lt_of_lt_of_eq t.isLt (show (cfgM m hO).N = 8 from N_0)
  by_cases h0 : t.val % 2 = 0
  · by_cases h1 : t.val % 2 = 1
    · exfalso; omega
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [Dat.leavesExact_idle (dats m hO 0 c) 3 t (idleAt0_3_A m hO t ((hcond0_0 t).mpr h0) (fun h => h1 ((hcond0_1 t).mp h)) (fun h => h2 ((hcond0_2 t).mp h))) (noFlush0_3_A m hO t ((hcond0_0 t).mpr h0) (fun h => h1 ((hcond0_1 t).mp h)) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold leftA sout0_A_0; (try dsimp only)
          iintro ⟨⟨⟨HS0, Hg⟩, HT0⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk m hO c 0 t) (iblk m hO c 1 t) (iblk m hO c 2 t) (tbl m 0)).2.2 _ Set.univ _)
          isplitl [H0]; · iexact H0
          isplitl [H1]; · iexact H1
          isplitl [H2]; · iexact H2
          isplitl [H3]; · iexact H3
          isplitl [HS0]; · iexact HS0
          isplitl [HT0]; · iexact HT0
          iintro ⟨H0, H1, H2, H3, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _)
              iexact Hg
            iexact HT0
          isplitl [Ho]; · iexact Ho
          isplitl [H0]; · iexact H0
          isplitl [H1]; · iexact H1
          isplitl [H2]; · iexact H2
          iexists _; iexact H3
        · rw [PhiS_castSucc m hO c t, PhiS_pos m hO c _ _ hz, PhiT0_eq]
          rw [outsAt0_A m hO c t h0 h1 h2]
          unfold leftA sout0_A_0; (try dsimp only)
          iintro ⟨⟨⟨HS0, Hg⟩, HT0⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk m hO c 0 t) (iblk m hO c 1 t) (iblk m hO c 2 t) (tbl m 0)).2.2 _ Set.univ _)
          isplitl [H0]; · iexact H0
          isplitl [H1]; · iexact H1
          isplitl [H2]; · iexact H2
          isplitl [H3]; · iexact H3
          isplitl [HS0]; · iexists _; iexact HS0
          isplitl [HT0]; · iexact HT0
          iintro ⟨H0, H1, H2, H3, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _)
              iexact Hg
            iexact HT0
          isplitl [Ho]; · iexact Ho
          isplitl [H0]; · iexact H0
          isplitl [H1]; · iexact H1
          isplitl [H2]; · iexact H2
          iexists _; iexact H3
  · by_cases h1 : t.val % 2 = 1
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3_B m hO t (fun h => h0 ((hcond0_0 t).mp h)) ((hcond0_1 t).mpr h1) ((hcond0_2 t).mpr h2)]; try rfl, after0_3]
        by_cases hz : t.val = 0
        · exfalso; have hN : t.val < 8 := lt_of_lt_of_eq t.isLt (show (cfgM m hO).N = 8 from N_0); omega
        · rw [PhiS_castSucc m hO c t, PhiS_pos m hO c _ _ hz, PhiT0_eq]
          rw [outsAt0_B m hO c t h0 h1 h2]
          unfold leftB out0_B_3 sout0_B_0; (try dsimp only)
          iintro ⟨⟨⟨HS0, Hg⟩, HT0⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) ((hcond0_2 t).mpr h2) (iblk m hO c 0 t) (iblk m hO c 1 t) (iblk m hO c 2 t) (tbl m 0) _).2.2 Set.univ _)
          isplitl [H0]; · iexact H0
          isplitl [H1]; · iexact H1
          isplitl [H2]; · iexact H2
          isplitl [H3]; · iexists _; iexact H3
          isplitl [HS0]; · iexact HS0
          isplitl [HT0]; · iexact HT0
          iintro ⟨H0, H1, H2, ⟨%e3, H3⟩, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_B_3 c _ _ _ _ _ _ _ _ _ _ _ _ _ _ _ _ _ _ _)
      · exfalso; omega
    · exfalso; omega

/-- The row of the body table is the step. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every step meets the demand of the pipeline. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The launch hands over the invariant before the first step. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- The invariant gives the scratch back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- So it does after the last step. -/
theorem hout (hO : Ok m) (c : Dev nD) : (dats m hO 0 c).Φ (Fin.last (cfgM m hO).N) ⊢ Pipeline.ΦA spec0 c :=
  Phi_out m hO c _ (by rw [Fin.val_last]; have : (cfgM m hO).N = 8 := N_0; omega)

set_option backward.isDefEq.respectTransparency.types false in
/-- The whole run, with every counter at zero at the end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The whole run, without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The arguments end as they began and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.DownFar

end
-- ==== Proof.MmDownFar.lean ====
/-
  The product with the down projection over the two places of the chip opposite, added to what it is given: the two steps
  of a row tile add up the products of the places the table names. The reference adds one product over all the columns
  with every other chip's set to zero.
-/
module

public import proofs.«01_k».proof.Proof.MmNN
public import proofs.«01_k».proof.Proof.MmAcc
public import proofs.«01_k».proof.Proof.Ok17Ideal
public import proofs.«01_k».proof.Proof.DownFar
public import Idealize.ShloMosaic.Lib.Pipeline.Value
public import Idealize.ShloMosaic.Lib.Pipeline.ValueKit
public import proofs.«01_k».proof.Proof.Gen.Reference17Ideal.Read

@[expose] public section

set_option maxRecDepth 16384

noncomputable section

namespace Cert.MmDownFar

open Cert.Kernel17Ideal Cert.Kernel17Ideal.Gen Cert.Kernel17Ideal.Places Cert.Slots Cert.DownFar
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The rows. -/
abbrev A0 : Vec Ideal S2176x8192 .bf16 := m ((c : Thread nD τ).loc main_arg3)

/-- The weight of each place. -/
abbrev A1 : Vec Ideal S8x1024x2048 .bf16 := m ((c : Thread nD τ).loc main_arg4)

/-- What the product is added to. -/
abbrev A2 : Vec Ideal S2176x2048 .f32 := m ((c : Thread nD τ).loc main_arg5)

/-- Where the blocks of each point lie, for a device at `x`, `y`, `z`. -/
theorem index_words (x y z : BitVec 1) (t : Fin grid0.N) :
    (win0 (F := Ideal) ⟨words x y z, ok_words x y z⟩ 0).index t = ![t.val / 2, far x y z ⟨t.val % 2, Nat.mod_lt _ (by decide)⟩]
    ∧ (win0 (F := Ideal) ⟨words x y z, ok_words x y z⟩ 1).index t = ![far x y z ⟨t.val % 2, Nat.mod_lt _ (by decide)⟩, 0, 0]
    ∧ (win0 (F := Ideal) ⟨words x y z, ok_words x y z⟩ 2).index t = ![t.val / 2, 0]
    ∧ (win0 (F := Ideal) ⟨words x y z, ok_words x y z⟩ 3).index t = ![t.val / 2, 0]
    ∧ ((win0 (F := Ideal) ⟨words x y z, ok_words x y z⟩ 3).flush t = true ↔ t.val % 2 = 1) := by
  revert t
  rcases bit x with rfl | rfl <;> rcases bit y with rfl | rfl <;> rcases bit z with rfl | rfl <;>
    exact of_decide_eq_true (by sl_kernel_rfl)

theorem index_adm (x y z : BitVec 1) (a : (pcfg0 (F := Ideal)).Adm) (h : a.1 = words x y z) (t : Fin grid0.N) :
    (win0 a 0).index t = ![t.val / 2, far x y z ⟨t.val % 2, Nat.mod_lt _ (by decide)⟩]
    ∧ (win0 a 1).index t = ![far x y z ⟨t.val % 2, Nat.mod_lt _ (by decide)⟩, 0, 0]
    ∧ (win0 a 2).index t = ![t.val / 2, 0]
    ∧ (win0 a 3).index t = ![t.val / 2, 0]
    ∧ ((win0 a 3).flush t = true ↔ t.val % 2 = 1) := by
  obtain ⟨p, hp⟩ := a
  obtain rfl : p = words x y z := h
  exact index_words x y z t

/-- The place a step adds. -/
abbrev slot (j : Fin 2) : ℕ := far (X m) (Y m) (C m) j

theorem index_at (t : Fin (cfgM m (ok m)).N) :
    ((cfgM m (ok m)).win 0).index t = ![t.val / 2, slot m ⟨t.val % 2, Nat.mod_lt _ (by decide)⟩]
    ∧ ((cfgM m (ok m)).win 1).index t = ![slot m ⟨t.val % 2, Nat.mod_lt _ (by decide)⟩, 0, 0]
    ∧ ((cfgM m (ok m)).win 2).index t = ![t.val / 2, 0]
    ∧ ((cfgM m (ok m)).win 3).index t = ![t.val / 2, 0]
    ∧ (((cfgM m (ok m)).win 3).flush t = true ↔ t.val % 2 = 1) :=
  index_adm _ _ _ (adm m (ok m)) (tbl_eq m) t

/-- No two points that write the result share a block of it. -/
theorem apart (t t' : Fin (cfgM m (ok m)).N) (hf : ((cfgM m (ok m)).win 3).flush t = true) (hf' : ((cfgM m (ok m)).win 3).flush t' = true)
    (h : ((cfgM m (ok m)).win 3).index t = ((cfgM m (ok m)).win 3).index t') : t = t' := by
  rw [(index_at m t).2.2.2.1, (index_at m t').2.2.2.1] at h
  have h0 : t.val / 2 = t'.val / 2 := congrFun h 0
  have h1 := (index_at m t).2.2.2.2.1 hf
  have h2 := (index_at m t').2.2.2.2.1 hf'
  exact Fin.ext (by omega)

theorem blocks (t : Fin (cfgM m (ok m)).N) (h : t.val % 2 = 1) :
    (((cfgM m (ok m)).win 3).blk t).view.read (Elt Ideal) ((dats m (ok m) 0 c).arrAt 3 (cfgM m (ok m)).N)
      = ((cfgM m (ok m)).win 3).cut (grid0.coords t) (outsAt0 m (ok m) c t.val t.isLt).1 := by
  refine ((dats m (ok m) 0 c).read_blk_arrAt_eq_flushed 3
    (fun t t' hf hf' hne => ((cfgM m (ok m)).win 3).disjoint_blk fun h => hne (apart m t t' hf hf' h))
    _ t t.isLt ((index_at m t).2.2.2.2.2 h)).trans ?_
  show ((cfgM m (ok m)).win 3).cut (grid0.coords t) ((dats m (ok m) 0 c).after 3 t) = _
  rw [after0_3]

theorem emb0 (a : (pcfg0 (F := Ideal)).Adm) (t : Fin (cfg0 a).N) (I J : ℕ) (h : (win0 a 0).index t = ![I, J]) (r : Fin 544) (k : Fin 1024)
    (R : Fin 2176) (K : Fin 8192) (hR : R.val = I * 544 + r.val) (hK : K.val = J * 1024 + k.val) :
    (((win0 a 0).blk t).view.emb (ix2 r k) : S2176x8192.Idx) = ix2 R K := by
  funext b; apply Fin.ext
  match b with
  | ⟨0, _⟩ => exact (congrArg (· * 544 + 1 * r.val) (congrFun h 0)).trans (by show I * 544 + 1 * r.val = R.val; omega)
  | ⟨1, _⟩ => exact (congrArg (· * 1024 + 1 * k.val) (congrFun h 1)).trans (by show J * 1024 + 1 * k.val = K.val; omega)

theorem emb1 (a : (pcfg0 (F := Ideal)).Adm) (t : Fin (cfg0 a).N) (J : Fin 8) (h : (win0 a 1).index t = ![J.val, 0, 0]) (k : Fin 1024) (q : Fin 2048) :
    (((win0 a 1).blk t).view.emb (ix3 0 k q) : S8x1024x2048.Idx) = ix3 J k q := by
  funext b; apply Fin.ext
  match b with
  | ⟨0, _⟩ => exact (congrArg (· * 1 + 1 * 0) (congrFun h 0)).trans (by show J.val * 1 + 1 * 0 = J.val; omega)
  | ⟨1, _⟩ => exact (congrArg (· * 1024 + 1 * k.val) (congrFun h 1)).trans (by show 0 * 1024 + 1 * k.val = k.val; omega)
  | ⟨2, _⟩ => exact (congrArg (· * 2048 + 1 * q.val) (congrFun h 2)).trans (by show 0 * 2048 + 1 * q.val = q.val; omega)

theorem emb2 (a : (pcfg0 (F := Ideal)).Adm) (t : Fin (cfg0 a).N) (I : ℕ) (h : (win0 a 2).index t = ![I, 0]) (r : Fin 544) (q : Fin 2048)
    (R : Fin 2176) (hR : R.val = I * 544 + r.val) :
    (((win0 a 2).blk t).view.emb (ix2 r q) : S2176x2048.Idx) = ix2 R q := by
  funext b; apply Fin.ext
  match b with
  | ⟨0, _⟩ => exact (congrArg (· * 544 + 1 * r.val) (congrFun h 0)).trans (by show I * 544 + 1 * r.val = R.val; omega)
  | ⟨1, _⟩ => exact (congrArg (· * 2048 + 1 * q.val) (congrFun h 1)).trans (by show 0 * 2048 + 1 * q.val = q.val; omega)

theorem emb3 (a : (pcfg0 (F := Ideal)).Adm) (t : Fin (cfg0 a).N) (I : ℕ) (h : (win0 a 3).index t = ![I, 0]) (r : Fin 544) (q : Fin 2048)
    (R : Fin 2176) (hR : R.val = I * 544 + r.val) :
    (((win0 a 3).blk t).view.emb (ix2 r q) : S2176x2048.Idx) = ix2 R q := by
  funext b; apply Fin.ext
  match b with
  | ⟨0, _⟩ => exact (congrArg (· * 544 + 1 * r.val) (congrFun h 0)).trans (by show I * 544 + 1 * r.val = R.val; omega)
  | ⟨1, _⟩ => exact (congrArg (· * 2048 + 1 * q.val) (congrFun h 1)).trans (by show 0 * 2048 + 1 * q.val = q.val; omega)

/-- The three blocks that a step reads. -/
abbrev X0 (t : Fin (cfgM m (ok m)).N) : Vec Ideal S544x1024 .bf16 := iblk m (ok m) c 0 t
abbrev X1 (t : Fin (cfgM m (ok m)).N) : Vec Ideal S1x1024x2048 .bf16 := iblk m (ok m) c 1 t
abbrev X2 (t : Fin (cfgM m (ok m)).N) : Vec Ideal S544x2048 .f32 := iblk m (ok m) c 2 t

theorem blk0 (t : Fin (cfgM m (ok m)).N) (r : Fin 544) (k : Fin 1024) (R : Fin 2176) (K : Fin 8192) (hR : R.val = t.val / 2 * 544 + r.val)
    (hK : K.val = slot m ⟨t.val % 2, Nat.mod_lt _ (by decide)⟩ * 1024 + k.val) :
    X0 m c t (ix2 r k) = A0 m c (ix2 R K) := by
  unfold A0
  rw [← V_main_arg3 m c]
  exact congrArg (V m c main_arg3) (emb0 _ t _ _ (index_at m t).1 r k R K hR hK)

theorem blk1 (t : Fin (cfgM m (ok m)).N) (k : Fin 1024) (q : Fin 2048) (J : Fin 8) (h : J.val = slot m ⟨t.val % 2, Nat.mod_lt _ (by decide)⟩) :
    X1 m c t (ix3 0 k q) = A1 m c (ix3 J k q) := by
  unfold A1
  rw [← V_main_arg4 m c]
  exact congrArg (V m c main_arg4) (emb1 _ t J ((index_at m t).2.1.trans (by rw [h])) k q)

theorem blk2 (t : Fin (cfgM m (ok m)).N) (r : Fin 544) (q : Fin 2048) (R : Fin 2176) (hR : R.val = t.val / 2 * 544 + r.val) :
    X2 m c t (ix2 r q) = A2 m c (ix2 R q) := by
  unfold A2
  rw [← V_main_arg5 m c]
  exact congrArg (V m c main_arg5) (emb2 _ t _ (index_at m t).2.2.1 r q R hR)

/-- The product of two blocks. -/
def prod (x0 : Vec Ideal S544x1024 .bf16) (x1 : Vec Ideal S1x1024x2048 .bf16) (r : Fin 544) (q : Fin 2048) : EReal :=
  ∑ k : Fin 1024, x0 (ix2 r k) * x1 (ix3 0 k q)

theorem pay_apply (x0 : Vec Ideal S544x1024 .bf16) (x1 : Vec Ideal S1x1024x2048 .bf16) (r : Fin 544) (q : Fin 2048) :
    k0_pay1 x0 x1 (ix2 r q) = prod x0 x1 r q := by
  refine (Cert.Mm.nn_apply (φ₁ := .bf16) (φ₂ := .bf16) _ none x0 (shapeCast S1024x2048 x1 shapeCasts_S1x1024x2048_S1024x2048) r q).trans ?_
  refine Finset.sum_congr rfl fun k _ => congrArg (x0 (ix2 r k) * ·) ?_
  exact shapeCast_apply x1 shapeCasts_S1x1024x2048_S1024x2048 (ix2 k q) (ix3 0 k q) (by
    rewrite [Shape.rowMajor_val_two, Shape.rowMajor_val_three]
    show (0 * 1024 + k.val) * 2048 + q.val = k.val * 2048 + q.val
    omega)

theorem first_apply (x0 : Vec Ideal S544x1024 .bf16) (x1 : Vec Ideal S1x1024x2048 .bf16) (x2 : Vec Ideal S544x2048 .f32) (r : Fin 544) (q : Fin 2048) :
    k0_pay2 x0 x1 x2 (ix2 r q) = prod x0 x1 r q + x2 (ix2 r q) := by
  unfold k0_pay2
  exact (shapeCast_apply _ _ (ix2 r q) (ix2 r q) rfl).trans (congrArg (fun a : EReal => a + x2 (ix2 r q)) (pay_apply x0 x1 r q))

theorem later_apply (x0 : Vec Ideal S544x1024 .bf16) (x1 : Vec Ideal S1x1024x2048 .bf16) (xs : Vec Ideal S544x2048 .f32) (r : Fin 544) (q : Fin 2048) :
    k0_pay3 x0 x1 xs (ix2 r q) = xs (ix2 r q) + prod x0 x1 r q := by
  unfold k0_pay3
  exact (shapeCast_apply _ _ (ix2 r q) (ix2 r q) rfl).trans (congrArg (xs (ix2 r q) + ·) (pay_apply x0 x1 r q))

section Steps

variable (i : grid0.Coords) (a4 : Memref sig .tc .vmem S544x1024 .bf16) (h4 : a4.IsWhole) (a5 : Memref sig .tc .vmem S1x1024x2048 .bf16)
  (h5 : a5.IsWhole) (a6 : Memref sig .tc .vmem S544x2048 .f32) (h6 : a6.IsWhole) (a7 : Memref sig .tc .vmem S544x2048 .f32) (h7 : a7.IsWhole)
  (a8 : Memref sig .tc .vmem S544x2048 .f32) (h8 : a8.IsWhole)
  (x0 : Vec Ideal S544x1024 .bf16) (x1 : Vec Ideal S1x1024x2048 .bf16) (x2 xs : Vec Ideal S544x2048 .f32) (r : Fin 544) (q : Fin 2048)

theorem sum_A (g0 g1 g2) (xt) : sout0_A_0 c i a4 h4 a5 h5 a6 h6 a7 h7 a8 h8 g0 g1 g2 x0 x1 x2 xt (ix2 r q) = prod x0 x1 r q + x2 (ix2 r q) := by
  unfold sout0_A_0
  frame_out
  exact first_apply x0 x1 x2 r q

theorem out_B (g0 g1 g2) (xt) : out0_B_3 c i a4 h4 a5 h5 a6 h6 a7 h7 a8 h8 g0 g1 g2 x0 x1 x2 xt xs (ix2 r q) = xs (ix2 r q) + prod x0 x1 r q := by
  unfold out0_B_3
  frame_out
  exact later_apply x0 x1 xs r q

end Steps

/-- The place of a step, among the eight. -/
theorem slot_lt : ∀ x y z : BitVec 1, ∀ j : Fin 2, far x y z j < 8 := by decide

abbrev place8 (x y z : BitVec 1) (j : Fin 2) : Fin 8 := ⟨far x y z j, slot_lt x y z j⟩

/-- The product over one place's columns. -/
def part (R : Fin 2176) (q : Fin 2048) (J : Fin 8) : EReal :=
  ∑ k : Fin 1024, A0 m c (ix2 R ⟨J.val * 1024 + k.val, by omega⟩) * A1 m c (ix3 J k q)

theorem adds (t : Fin (cfgM m (ok m)).N) (r : Fin 544) (q : Fin 2048) (R : Fin 2176) (hR : R.val = t.val / 2 * 544 + r.val) :
    prod (X0 m c t) (X1 m c t) r q = part m c R q (place8 (X m) (Y m) (C m) ⟨t.val % 2, Nat.mod_lt _ (by decide)⟩) := by
  unfold prod part
  exact Finset.sum_congr rfl fun k _ => congrArg₂ (fun a b : EReal => a * b) (blk0 m c t r k R _ hR rfl) (blk1 m c t k q _ rfl)

/-- The two kinds of step, at a point. -/
theorem left_A (t : Fin (cfgM m (ok m)).N) (h0 h1 h2) (r : Fin 544) (q : Fin 2048) :
    (leftA m (ok m) c t h0 h1 h2).2 (ix2 r q) = prod (X0 m c t) (X1 m c t) r q + X2 m c t (ix2 r q) := by
  unfold leftA
  dsimp only
  exact sum_A c _ _ _ _ _ _ _ _ _ _ _ (X0 m c t) (X1 m c t) (X2 m c t) r q _ _ _ _

theorem left_B (t : Fin (cfgM m (ok m)).N) (h0 h1 h2) (xs : Vec Ideal S544x2048 .f32) (r : Fin 544) (q : Fin 2048) :
    (leftB m (ok m) c t h0 h1 h2 xs).1 (ix2 r q) = xs (ix2 r q) + prod (X0 m c t) (X1 m c t) r q := by
  unfold leftB
  dsimp only
  exact out_B c _ _ _ _ _ _ _ _ _ _ _ (X0 m c t) (X1 m c t) (X2 m c t) xs r q _ _ _ _

theorem at_A (t : Fin (cfgM m (ok m)).N) (h0 : t.val % 2 = 0) (r : Fin 544) (q : Fin 2048) :
    (outsAt0 m (ok m) c t.val t.isLt).2 (ix2 r q) = prod (X0 m c t) (X1 m c t) r q + X2 m c t (ix2 r q) :=
  (congrFun (congrArg Prod.snd (outsAt0_A m (ok m) c t h0 (by omega) (by omega))) _).trans (left_A m c t _ _ _ r q)

theorem at_B (t : Fin (cfgM m (ok m)).N) (h0 : t.val % 2 = 1) (r : Fin 544) (q : Fin 2048) :
    (outsAt0 m (ok m) c t.val t.isLt).1 (ix2 r q)
      = (outsAt0 m (ok m) c (t.val - 1) (Nat.lt_of_le_of_lt (Nat.sub_le _ _) t.isLt)).2 (ix2 r q) + prod (X0 m c t) (X1 m c t) r q :=
  (congrFun (congrArg Prod.fst (outsAt0_B m (ok m) c t (by omega) h0 h0)) _).trans (left_B m c t _ _ _ _ r q)

/-- The block written at the last step of row tile `b`. -/
theorem written (b : ℕ) (r : Fin 544) (q : Fin 2048) (R : Fin 2176) (hR : R.val = b * 544 + r.val) (t : Fin (cfgM m (ok m)).N)
    (ht : t.val = 2 * b + 1) :
    (outsAt0 m (ok m) c t.val t.isLt).1 (ix2 r q)
      = A2 m c (ix2 R q) + ∑ j : Fin 2, part m c R q (place8 (X m) (Y m) (C m) j) := by
  obtain ⟨u, hu⟩ : ∃ u : Fin (cfgM m (ok m)).N, u = ⟨t.val - 1, Nat.lt_of_le_of_lt (Nat.sub_le _ _) t.isLt⟩ := ⟨_, rfl⟩
  have hv : u.val = 2 * b := by rw [hu]; show t.val - 1 = 2 * b; omega
  have e1 : (⟨t.val % 2, Nat.mod_lt _ (by decide)⟩ : Fin 2) = 1 := Fin.ext (by show t.val % 2 = 1; omega)
  have e0 : (⟨u.val % 2, Nat.mod_lt _ (by decide)⟩ : Fin 2) = 0 := Fin.ext (by show u.val % 2 = 0; omega)
  have d1 : R.val = t.val / 2 * 544 + r.val := by rw [hR, show t.val / 2 = b by omega]
  have d0 : R.val = u.val / 2 * 544 + r.val := by rw [hR, show u.val / 2 = b by omega]
  have h0 := at_A m c u (by omega) r q
  rw [adds m c u r q R d0, e0, blk2 m c u r q R d0] at h0
  have h1 := at_B m c t (by omega) r q
  rw [adds m c t r q R d1, e1] at h1
  subst hu
  refine h1.trans ((congrArg (fun a : EReal => a + part m c R q (place8 (X m) (Y m) (C m) 1)) h0).trans ?_)
  rw [Fin.sum_univ_two, ← add_assoc]
  exact congrArg (fun a : EReal => a + part m c R q (place8 (X m) (Y m) (C m) 1)) (add_comm _ _)

theorem cut3 (a : (pcfg0 (F := Ideal)).Adm) (i : grid0.Coords) (f : Vec Ideal S544x2048 .f32) (y : S544x2048.Idx) :
    ((win0 a 3).cut i f : S544x2048.Idx → Elt Ideal .f32) y = f y := rfl

theorem read3 (a : (pcfg0 (F := Ideal)).Adm) (t : Fin (cfg0 a).N) (f : Vec Ideal S2176x2048 .f32) (y : S544x2048.Idx) (i : S2176x2048.Idx)
    (e : ((win0 a 3).blk t).view.emb y = i) : (((win0 a 3).blk t).view.read (Elt Ideal) f : S544x2048.Idx → Elt Ideal .f32) y = f i := by
  obtain rfl : ((win0 a 3).blk t).view.emb y = i := e
  rfl

/-- The result's entry: the two places' products on top of what was there. -/
theorem final (R : Fin 2176) (q : Fin 2048) :
    (dats m (ok m) 0 c).arrAt 3 (cfgM m (ok m)).N (ix2 R q : S2176x2048.Idx)
      = A2 m c (ix2 R q) + ∑ j : Fin 2, part m c R q (place8 (X m) (Y m) (C m) j) := by
  have hR := R.isLt
  have hN : (cfgM m (ok m)).N = 8 := N_0
  obtain ⟨t, ht⟩ : ∃ t : Fin (cfgM m (ok m)).N, t.val = 2 * (R.val / 544) + 1 := ⟨⟨2 * (R.val / 544) + 1, by omega⟩, rfl⟩
  have t0 : t.val % 2 = 1 := by omega
  have hr : R.val = R.val / 544 * 544 + R.val % 544 := by omega
  have hr' : R.val = t.val / 2 * 544 + R.val % 544 := by omega
  have e := emb3 (adm m (ok m)) t _ (index_at m t).2.2.2.1 ⟨R.val % 544, by omega⟩ q R hr'
  have h1 := read3 (adm m (ok m)) t ((dats m (ok m) 0 c).arrAt 3 (cfgM m (ok m)).N) (ix2 ⟨R.val % 544, by omega⟩ q) (ix2 R q) e
  have h3 := congrFun (blocks m c t t0) (ix2 ⟨R.val % 544, by omega⟩ q)
  have h2 := cut3 (adm m (ok m)) (grid0.coords t) (outsAt0 m (ok m) c t.val t.isLt).1 (ix2 ⟨R.val % 544, by omega⟩ q)
  exact h1.symm.trans (h3.trans (h2.trans (written m c (R.val / 544) ⟨R.val % 544, by omega⟩ q R hr t ht)))

/-- The chip whose columns the reference keeps. -/
abbrev Hit (x y : BitVec 1) (ch : ℕ) : Prop := ∃ j, far x y 0#1 j / 2 = ch

theorem mask_bits (x y : BitVec 1) (ch : Fin 4) : Cert.Reference17Ideal.Read.val_main_v8 (F := Ideal) (fun _ => x) (fun _ => y) (ix1 ch)
    = if Hit x y ch.val then 1#1 else 0#1 := by
  revert ch
  rcases bit x with rfl | rfl <;> rcases bit y with rfl | rfl <;> exact of_decide_eq_true (by sl_kernel_rfl)

theorem places : ∀ x y z : BitVec 1, (Finset.univ.filter fun s : Fin 8 => Hit x y (s.val / 2)) = Finset.univ.image (place8 x y z) := by decide

theorem places_differ : ∀ x y z : BitVec 1, ∀ i j : Fin 2, place8 x y z i = place8 x y z j → i = j := by decide

/-- A sum over the places with every other chip's left out. -/
theorem sum_places (x y z : BitVec 1) (f : Fin 8 → EReal) :
    (∑ s, if Hit x y (s.val / 2) then f s else 0) = ∑ j : Fin 2, f (place8 x y z j) := by
  rw [← Finset.sum_filter, places x y z, Finset.sum_image fun i _ j _ e => places_differ x y z i j e]

theorem select_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

/-- The columns that the reference keeps. -/
theorem mask (b0 b1 : (⟨S_, .i1⟩ : BufTy).Contents (Elt Ideal)) (R : Fin 2176) (K : Fin 8192) :
    Cert.Reference17Ideal.Read.val_main_call0_v1 (F := Ideal) b0 b1 (ix2 R K)
      = if Hit (b0 fun a => a.elim0) (b1 fun a => a.elim0) (K.val / 1024 / 2) then 1#1 else 0#1 := by
  rw [Cert.Reference17Ideal.Read.val_main_call0_v1_apply,
    Cert.Reference17Ideal.Read.val_main_v11_apply,
    Cert.Reference17Ideal.Read.val_main_v10_apply,
    Cert.Reference17Ideal.Read.val_main_v9_apply,
    scalar (F := Ideal) b0, scalar (F := Ideal) b1]
  refine ((congrArg _ (eq_ix1 _)).trans (mask_bits _ _ ⟨K.val / 2048, by omega⟩)).trans ?_
  have : K.val / 1024 / 2 = K.val / 2048 := by omega
  rw [this]

/-- A row's entry as the reference reads it. -/
theorem row (R : Fin 2176) (K : Fin 8192) :
    Cert.Reference17Ideal.Read.val_main_v13 (F := Ideal) (m ((c : Thread nD τ).loc main_arg0)) (m ((c : Thread nD τ).loc main_arg1)) (A0 m c) (ix2 R K)
      = if Hit (m ((c : Thread nD τ).loc main_arg0) fun a => a.elim0) (m ((c : Thread nD τ).loc main_arg1) fun a => a.elim0) (K.val / 1024 / 2)
        then A0 m c (ix2 R K) else (0 : EReal) := by
  refine (Cert.Reference17Ideal.Read.val_main_v13_apply _ _ _ _).trans ?_
  refine (congrArg₂ (fun u (v : EReal) => Scalar.select u (A0 m c (ix2 R K) : EReal) v) (mask _ _ R K) ?_).trans (select_bit _ _ _)
  exact (Cert.Reference17Ideal.Read.val_main_call0_v2_apply _).trans Ideal.ofBits_zero_f32

theorem weight (K : Fin 8192) (q : Fin 2048) (J : Fin 8) (k : Fin 1024) (h : K.val = k.val + 1024 * J.val) :
    Cert.Reference17Ideal.Read.val_main_v15 (F := Ideal) (A1 m c) (ix2 K q) = A1 m c (ix3 J k q) := by
  refine (Cert.Reference17Ideal.Read.val_main_v15_apply _ _).trans ((Cert.Reference17Ideal.Read.val_main_v14_apply _ _).trans (congrArg (A1 m c) ?_))
  have hk := k.isLt
  have hq := q.isLt
  funext b; apply Fin.ext
  match b with
  | ⟨0, _⟩ => show (K.val * 2048 + q.val) / 2097152 = J.val; omega
  | ⟨1, _⟩ => show (K.val * 2048 + q.val) / 2048 % 1024 = k.val; omega
  | ⟨2, _⟩ => show (K.val * 2048 + q.val) % 2048 = q.val; omega

/-- The reference's operands. -/
abbrev R13 : FVec Ideal S2176x8192 .f32 :=
  Cert.Reference17Ideal.Read.val_main_v13 (F := Ideal) (m ((c : Thread nD τ).loc main_arg0)) (m ((c : Thread nD τ).loc main_arg1)) (A0 m c)
abbrev R15 : FVec Ideal ⟨2, ![8192, 2048]⟩ .f32 := Cert.Reference17Ideal.Read.val_main_v15 (F := Ideal) (A1 m c)

theorem chip_of (J : Fin 8) (k : Fin 1024) : (k.val + 1024 * J.val) / 1024 / 2 = J.val / 2 := by omega

/-- One of the reference's products. -/
theorem one (R : Fin 2176) (q : Fin 2048) (J : Fin 8) (k : Fin 1024) (K : Fin 8192) (hK : K.val = k.val + 1024 * J.val) :
    @HMul.hMul EReal EReal EReal _ (R13 m 0 (ix2 R K)) (R15 m 0 (ix2 K q))
      = if Hit (X m) (Y m) (J.val / 2) then A0 m 0 (ix2 R ⟨J.val * 1024 + k.val, by omega⟩) * A1 m 0 (ix3 J k q)
        else (0 : EReal) := by
  have e : K.val / 1024 / 2 = J.val / 2 := by rw [hK]; exact chip_of J k
  have eK : K = ⟨J.val * 1024 + k.val, by omega⟩ := Fin.ext (by show K.val = J.val * 1024 + k.val; omega)
  have h1 : R13 m 0 (ix2 R K) = if Hit (X m) (Y m) (J.val / 2) then A0 m 0 (ix2 R K) else (0 : EReal) := by
    rw [← e]
    exact row m 0 R K
  refine (congrArg₂ (fun a b : EReal => a * b) h1 (weight m 0 K q J k hK)).trans ?_
  rw [← eK]
  by_cases h : Hit (X m) (Y m) (J.val / 2)
  · rw [if_pos h, if_pos h]
  · rw [if_neg h, if_neg h]
    exact zero_mul _

/-- The reference's products at one place. -/
theorem one_place (R : Fin 2176) (q : Fin 2048) (J : Fin 8) (f : Fin 1024 → Fin 8192) (hf : ∀ k, (f k).val = k.val + 1024 * J.val) :
    (∑ k : Fin 1024, @HMul.hMul EReal EReal EReal _ (R13 m 0 (ix2 R (f k))) (R15 m 0 (ix2 (f k) q)))
      = if Hit (X m) (Y m) (J.val / 2) then part m 0 R q J else (0 : EReal) := by
  refine (Finset.sum_congr rfl fun k _ => one m R q J k (f k) (hf k)).trans ?_
  by_cases h : Hit (X m) (Y m) (J.val / 2)
  · rw [if_pos h]
    exact Finset.sum_congr rfl fun k _ => if_pos h
  · rw [if_neg h]
    exact Finset.sum_eq_zero fun k _ => if_neg h

theorem reference_entry (R : Fin 2176) (q : Fin 2048) :
    Cert.Reference17Ideal.Read.val_main_v16 (F := Ideal) (m (((0 : Dev nD) : Thread nD τ).loc main_arg0)) (m (((0 : Dev nD) : Thread nD τ).loc main_arg1))
      (A0 m 0) (A1 m 0) (ix2 R q) = ∑ K : Fin 8192, @HMul.hMul EReal EReal EReal _ (R13 m 0 (ix2 R K)) (R15 m 0 (ix2 K q)) := by
  refine (Cert.Reference17Ideal.Read.val_main_v16_apply _ _ _ _ _).trans ?_
  exact Finset.sum_congr rfl fun K _ => congrArg₂ (fun a b : EReal => a * b) (congrArg (R13 m 0) (eq_ix2 _)) (congrArg (R15 m 0) (eq_ix2 _))

theorem reference_parts (R : Fin 2176) (q : Fin 2048) :
    (∑ K : Fin 8192, @HMul.hMul EReal EReal EReal _ (R13 m 0 (ix2 R K)) (R15 m 0 (ix2 K q)))
      = ∑ J : Fin 8, if Hit (X m) (Y m) (J.val / 2) then part m 0 R q J else (0 : EReal) := by
  refine (Cert.Mm.sum_strips (n := 8) (W := 1024) (T := 8192) rfl
    fun K => @HMul.hMul EReal EReal EReal _ (R13 m 0 (ix2 R K)) (R15 m 0 (ix2 K q))).trans ?_
  exact Finset.sum_congr rfl fun J _ => one_place m R q J _ fun k => rfl

/-- The reference's result is the kernel's. -/
theorem same : Cert.Reference17Ideal.Read.val_main_v17 (F := Ideal) (m ((c : Thread nD τ).loc main_arg0)) (m ((c : Thread nD τ).loc main_arg1))
    (A0 m c) (A1 m c) (A2 m c) = (dats m (ok m) 0 c).arrAt 3 (cfgM m (ok m)).N := by
  funext i
  obtain ⟨R, q, rfl⟩ : ∃ (R : Fin 2176) (q : Fin 2048), i = ix2 R q := ⟨i 0, i 1, eq_ix2 i⟩
  obtain rfl : c = 0 := Subsingleton.elim _ _
  refine (Cert.Reference17Ideal.Read.val_main_v17_apply _ _ _ _ _ _).trans (Eq.trans ?_ (final m 0 R q).symm)
  exact congrArg (fun a : EReal => A2 m 0 (ix2 R q) + a) ((reference_entry m R q).trans ((reference_parts m R q).trans
    (sum_places (X m) (Y m) (C m) (part m 0 R q))))

/-- Every run ends with the result read above and the arguments as they were. -/
theorem run : θ_run defs (onTc (τ := τ) (main (F := Ideal))) ⟨m, fun _ => 0, ρ⟩ fun r => ∀ c : Dev nD,
      r.2.mem ((c : Thread nD τ).loc main_v19) = (dats m (ok m) 0 c).arrAt 3 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have h1 : θ_run defs (onTc (τ := τ) (main (F := Ideal))) ⟨m, fun _ => 0, ρ⟩ fun r => ∀ c : Dev nD,
      r.2.mem ((c : Thread nD τ).loc main_v19) = (dats m (ok m) 0 c).arrAt 3 (cfgM m (ok m)).N :=
    (θ_run defs _ _).mono (fun _ h c => (h c).1 3) (run_main m ρ (ok m))
  exact (θ_run defs _ _).mono (fun _ h c => ⟨h.1 c, h.2.1 c⟩) (θ_run_and h1 (Cert.DownFar.frame m ρ (ok m)))

end Cert.MmDownFar

end
-- ==== Proof.Ok18Ideal.lean ====
/-
  The table that `Kernel18Ideal` prefetches holds the places of the chip opposite, and every block it names lies inside its array.
-/
module

public import proofs.«01_k».proof.Proof.Gen.Kernel18Ideal.Frame
public import proofs.«01_k».proof.Proof.Slots

@[expose] public section

set_option maxRecDepth 16384

noncomputable section

namespace Cert.Kernel18Ideal.Places

open Cert.Kernel18Ideal Cert.Kernel18Ideal.Gen Cert.Slots
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S2.Idx => BitVec.ofNat 32 (far x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

theorem scalar (b : (⟨S_, .i1⟩ : BufTy).Contents (Elt F)) : b = fun _ => b (fun a => a.elim0) :=
  funext fun i => congrArg b (funext fun a => a.elim0)

theorem tbl0 : tbl m 0 = words (F := F) (X m) (Y m) (C m) 0 := by
  show V m 0 main_v18 = _
  unfold V hostOps0
  after_results
  have hx := scalar (F := F) (m (((0 : Dev nD) : Thread nD τ).loc main_arg0))
  have hy := scalar (F := F) (m (((0 : Dev nD) : Thread nD τ).loc main_arg1))
  have hc := scalar (F := F) (m (((0 : Dev nD) : Thread nD τ).loc main_arg2))
  rw [hx, hy, hc]
  show _ = words (F := F) (m (((0 : Dev nD) : Thread nD τ).loc main_arg0) fun a => a.elim0)
    (m (((0 : Dev nD) : Thread nD τ).loc main_arg1) fun a => a.elim0) (m (((0 : Dev nD) : Thread nD τ).loc main_arg2) fun a => a.elim0) 0
  generalize m (((0 : Dev nD) : Thread nD τ).loc main_arg0) (fun a => a.elim0) = x
  generalize m (((0 : Dev nD) : Thread nD τ).loc main_arg1) (fun a => a.elim0) = y
  generalize m (((0 : Dev nD) : Thread nD τ).loc main_arg2) (fun a => a.elim0) = c
  clear hx hy hc
  funext i
  obtain ⟨j, rfl⟩ : ∃ j : Fin 2, i = fun | 0 => j := ⟨i 0, funext fun a => match a with | 0 => rfl⟩
  rcases bit x with rfl | rfl <;> rcases bit y with rfl | rfl <;> rcases bit c with rfl | rfl <;>
    (fin_cases j <;> sl_kernel_rfl)

theorem tbl_eq : tbl m = words (F := F) (X m) (Y m) (C m) := funext fun k => match k with
  | 0 => tbl0 m

theorem ok : Ok m := by
  unfold Ok
  rw [tbl_eq]
  exact ok_words _ _ _

end Cert.Kernel18Ideal.Places

end
-- ==== Proof.MmUpFar.lean ====
/-
  The product into the gated width, at the columns held on the chip opposite: each point of the grid computes the block of
  one row tile and one of the two places the table names, and every other column keeps what it had.
-/
module

public import proofs.«01_k».proof.Proof.MmNN
public import proofs.«01_k».proof.Proof.Ok18Ideal
public import Idealize.ShloMosaic.Lib.Pipeline.Value
public import Idealize.ShloMosaic.Lib.Pipeline.ValueKit
public import proofs.«01_k».proof.Proof.Gen.Reference18Ideal.Read

@[expose] public section

set_option maxRecDepth 16384

noncomputable section

namespace Cert.MmUpFar

open Cert.Kernel18Ideal Cert.Kernel18Ideal.Gen Cert.Kernel18Ideal.Places Cert.Slots
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The rows. -/
abbrev A0 : Vec Ideal S2176x2048 .bf16 := m ((c : Thread nD τ).loc main_arg3)

/-- The weight of each place. -/
abbrev A1 : Vec Ideal S8x2048x1024 .bf16 := m ((c : Thread nD τ).loc main_arg4)

/-- What the array held before. -/
abbrev A2 : Vec Ideal S2176x8192 .bf16 := m ((c : Thread nD τ).loc main_arg5)

/-- Where the blocks of each point lie, for a device at `x`, `y`, `z`. -/
theorem index_words (x y z : BitVec 1) (t : Fin grid0.N) :
    (win0 (F := Ideal) ⟨words x y z, ok_words x y z⟩ 0).index t = ![t.val / 2, 0]
    ∧ (win0 (F := Ideal) ⟨words x y z, ok_words x y z⟩ 1).index t = ![far x y z ⟨t.val % 2, Nat.mod_lt _ (by decide)⟩, 0, 0]
    ∧ (win0 (F := Ideal) ⟨words x y z, ok_words x y z⟩ 2).index t = ![t.val / 2, far x y z ⟨t.val % 2, Nat.mod_lt _ (by decide)⟩]
    ∧ (win0 (F := Ideal) ⟨words x y z, ok_words x y z⟩ 2).flush t = true := by
  revert t
  rcases bit x with rfl | rfl <;> rcases bit y with rfl | rfl <;> rcases bit z with rfl | rfl <;>
    exact of_decide_eq_true (by sl_kernel_rfl)

theorem index_adm (x y z : BitVec 1) (a : (pcfg0 (F := Ideal)).Adm) (h : a.1 = words x y z) (t : Fin grid0.N) :
    (win0 a 0).index t = ![t.val / 2, 0]
    ∧ (win0 a 1).index t = ![far x y z ⟨t.val % 2, Nat.mod_lt _ (by decide)⟩, 0, 0]
    ∧ (win0 a 2).index t = ![t.val / 2, far x y z ⟨t.val % 2, Nat.mod_lt _ (by decide)⟩]
    ∧ (win0 a 2).flush t = true := by
  obtain ⟨p, hp⟩ := a
  obtain rfl : p = words x y z := h
  exact index_words x y z t

/-- The place a point computes. -/
abbrev slot (j : Fin 2) : ℕ := far (X m) (Y m) (C m) j

theorem index_at (t : Fin (cfgM m (ok m)).N) :
    ((cfgM m (ok m)).win 0).index t = ![t.val / 2, 0]
    ∧ ((cfgM m (ok m)).win 1).index t = ![slot m ⟨t.val % 2, Nat.mod_lt _ (by decide)⟩, 0, 0]
    ∧ ((cfgM m (ok m)).win 2).index t = ![t.val / 2, slot m ⟨t.val % 2, Nat.mod_lt _ (by decide)⟩]
    ∧ ((cfgM m (ok m)).win 2).flush t = true :=
  index_adm _ _ _ (adm m (ok m)) (tbl_eq m) t

theorem slots_differ : ∀ x y z : BitVec 1, ∀ i j : Fin 2, far x y z i = far x y z j → i = j := by decide

/-- No two points share a block of the result. -/
theorem apart (t t' : Fin (cfgM m (ok m)).N) (h : ((cfgM m (ok m)).win 2).index t = ((cfgM m (ok m)).win 2).index t') : t = t' := by
  rw [(index_at m t).2.2.1, (index_at m t').2.2.1] at h
  have h0 : t.val / 2 = t'.val / 2 := congrFun h 0
  have h1 := slots_differ _ _ _ _ _ (congrFun h 1 : slot m ⟨t.val % 2, _⟩ = slot m ⟨t'.val % 2, _⟩)
  have h2 : t.val % 2 = t'.val % 2 := congrArg Fin.val h1
  exact Fin.ext (by omega)

theorem blocks (t : Fin (cfgM m (ok m)).N) :
    (((cfgM m (ok m)).win 2).blk t).view.read (Elt Ideal) ((dats m (ok m) 0 c).arrAt 2 (cfgM m (ok m)).N)
      = ((cfgM m (ok m)).win 2).cut (grid0.coords t) (outsAt0 m (ok m) c t) := by
  refine ((dats m (ok m) 0 c).read_blk_arrAt_eq_flushed 2 (fun t t' _ _ hne => ((cfgM m (ok m)).win 2).disjoint_blk fun h => hne (apart m t t' h))
    _ t t.isLt (index_at m t).2.2.2).trans ?_
  show ((cfgM m (ok m)).win 2).cut (grid0.coords t) ((dats m (ok m) 0 c).after 2 t) = _
  rw [after0_2]

theorem emb0 (a : (pcfg0 (F := Ideal)).Adm) (t : Fin (cfg0 a).N) (I : ℕ) (h : (win0 a 0).index t = ![I, 0]) (r : Fin 1088) (k : Fin 2048)
    (R : Fin 2176) (hR : R.val = I * 1088 + r.val) : (((win0 a 0).blk t).view.emb (ix2 r k) : S2176x2048.Idx) = ix2 R k := by
  funext b; apply Fin.ext
  match b with
  | ⟨0, _⟩ => exact (congrArg (· * 1088 + 1 * r.val) (congrFun h 0)).trans (by show I * 1088 + 1 * r.val = R.val; omega)
  | ⟨1, _⟩ => exact (congrArg (· * 2048 + 1 * k.val) (congrFun h 1)).trans (by show 0 * 2048 + 1 * k.val = k.val; omega)

theorem emb1 (a : (pcfg0 (F := Ideal)).Adm) (t : Fin (cfg0 a).N) (J : Fin 8) (h : (win0 a 1).index t = ![J.val, 0, 0]) (k : Fin 2048) (q : Fin 1024) :
    (((win0 a 1).blk t).view.emb (ix3 0 k q) : S8x2048x1024.Idx) = ix3 J k q := by
  funext b; apply Fin.ext
  match b with
  | ⟨0, _⟩ => exact (congrArg (· * 1 + 1 * 0) (congrFun h 0)).trans (by show J.val * 1 + 1 * 0 = J.val; omega)
  | ⟨1, _⟩ => exact (congrArg (· * 2048 + 1 * k.val) (congrFun h 1)).trans (by show 0 * 2048 + 1 * k.val = k.val; omega)
  | ⟨2, _⟩ => exact (congrArg (· * 1024 + 1 * q.val) (congrFun h 2)).trans (by show 0 * 1024 + 1 * q.val = q.val; omega)

theorem emb2 (a : (pcfg0 (F := Ideal)).Adm) (t : Fin (cfg0 a).N) (I J : ℕ) (h : (win0 a 2).index t = ![I, J]) (r : Fin 1088) (q : Fin 1024)
    (R : Fin 2176) (Q : Fin 8192) (hR : R.val = I * 1088 + r.val) (hQ : Q.val = J * 1024 + q.val) :
    (((win0 a 2).blk t).view.emb (ix2 r q) : S2176x8192.Idx) = ix2 R Q := by
  funext b; apply Fin.ext
  match b with
  | ⟨0, _⟩ => exact (congrArg (· * 1088 + 1 * r.val) (congrFun h 0)).trans (by show I * 1088 + 1 * r.val = R.val; omega)
  | ⟨1, _⟩ => exact (congrArg (· * 1024 + 1 * q.val) (congrFun h 1)).trans (by show J * 1024 + 1 * q.val = Q.val; omega)

theorem col2 (a : (pcfg0 (F := Ideal)).Adm) (t : Fin (cfg0 a).N) (I J : ℕ) (h : (win0 a 2).index t = ![I, J]) (y : S1088x1024.Idx)
    (i : S2176x8192.Idx) (e : ((win0 a 2).blk t).view.emb y = i) : (i 1).val / 1024 = J := by
  obtain rfl : ((win0 a 2).blk t).view.emb y = i := e
  have h1 : (((win0 a 2).blk t).view.emb y (1 : Fin 2)).val = J * 1024 + 1 * (y 1).val := congrArg (· * 1024 + 1 * (y 1).val) (congrFun h 1)
  have h2 : (y 1).val < 1024 := (y 1).isLt
  refine (congrArg (· / 1024) h1).trans ?_
  show (J * 1024 + 1 * (y 1).val) / 1024 = J
  omega

theorem blk0 (t : Fin (cfgM m (ok m)).N) (r : Fin 1088) (k : Fin 2048) (R : Fin 2176) (h : R.val = t.val / 2 * 1088 + r.val) :
    iblk m (ok m) c 0 t (ix2 r k) = A0 m c (ix2 R k) := by
  unfold A0
  rw [← V_main_arg3 m c]
  exact congrArg (V m c main_arg3) (emb0 _ t _ (index_at m t).1 r k R h)

theorem blk1 (t : Fin (cfgM m (ok m)).N) (k : Fin 2048) (q : Fin 1024) (J : Fin 8) (h : J.val = slot m ⟨t.val % 2, Nat.mod_lt _ (by decide)⟩) :
    iblk m (ok m) c 1 t (ix3 0 k q) = A1 m c (ix3 J k q) := by
  unfold A1
  rw [← V_main_arg4 m c]
  exact congrArg (V m c main_arg4) (emb1 _ t J ((index_at m t).2.1.trans (by rw [h])) k q)

/-- What becomes of an entry of the product. -/
def post (s : EReal) : EReal := max s (Ideal.ofBits .f32 0x00000000#32) * max s (Ideal.ofBits .f32 0x00000000#32)

theorem pay_apply (x0 : Vec Ideal S1088x2048 .bf16) (x1 : Vec Ideal S1x2048x1024 .bf16) (r : Fin 1088) (q : Fin 1024) :
    k0_pay1 x0 x1 (ix2 r q) = post (∑ k : Fin 2048, x0 (ix2 r k) * x1 (ix3 0 k q)) := by
  refine congrArg post ((Cert.Mm.nn_apply (φ₁ := .bf16) (φ₂ := .bf16) _ none x0 (shapeCast S2048x1024 x1 shapeCasts_S1x2048x1024_S2048x1024) r q).trans ?_)
  refine Finset.sum_congr rfl fun k _ => congrArg (x0 (ix2 r k) * ·) ?_
  exact shapeCast_apply x1 shapeCasts_S1x2048x1024_S2048x1024 (ix2 k q) (ix3 0 k q) (by
    rewrite [Shape.rowMajor_val_two, Shape.rowMajor_val_three]
    show (0 * 2048 + k.val) * 1024 + q.val = k.val * 1024 + q.val
    omega)

theorem out_A (i : grid0.Coords) (a3 : Memref sig .tc .vmem S1088x2048 .bf16) (h3 : a3.IsWhole) (a4 : Memref sig .tc .vmem S1x2048x1024 .bf16)
    (h4 : a4.IsWhole) (a6 : Memref sig .tc .vmem S1088x1024 .bf16) (h6 : a6.IsWhole)
    (x0 : Vec Ideal S1088x2048 .bf16) (x1 : Vec Ideal S1x2048x1024 .bf16) (xt) (r : Fin 1088) (q : Fin 1024) :
    out0_A_2 c i a3 h3 a4 h4 a6 h6 x0 x1 xt (ix2 r q) = post (∑ k : Fin 2048, x0 (ix2 r k) * x1 (ix3 0 k q)) := by
  unfold out0_A_2
  frame_out
  exact pay_apply x0 x1 r q

/-- The place of a column. -/
abbrev home (Q : Fin 8192) : Fin 8 := ⟨Q.val / 1024, by omega⟩

/-- The entry of the product. -/
def entry (R : Fin 2176) (Q : Fin 8192) : EReal :=
  post (∑ k : Fin 2048, A0 m c (ix2 R k) * A1 m c (ix3 (home Q) k ⟨Q.val % 1024, Nat.mod_lt _ (by decide)⟩))

theorem point (v : ℕ) (h : v < 4) : ∃ t : Fin (cfgM m (ok m)).N, t.val = v := ⟨⟨v, h⟩, rfl⟩

theorem cut2 (a : (pcfg0 (F := Ideal)).Adm) (i : grid0.Coords) (f : Vec Ideal S1088x1024 .bf16) (y : S1088x1024.Idx) :
    ((win0 a 2).cut i f : S1088x1024.Idx → Elt Ideal .bf16) y = f y := rfl

theorem read2 (a : (pcfg0 (F := Ideal)).Adm) (t : Fin (cfg0 a).N) (f : Vec Ideal S2176x8192 .bf16) (y : S1088x1024.Idx) (i : S2176x8192.Idx)
    (e : ((win0 a 2).blk t).view.emb y = i) : (((win0 a 2).blk t).view.read (Elt Ideal) f : S1088x1024.Idx → Elt Ideal .bf16) y = f i := by
  obtain rfl : ((win0 a 2).blk t).view.emb y = i := e
  rfl

/-- The two blocks that a point reads. -/
abbrev X0 (t : Fin (cfgM m (ok m)).N) : Vec Ideal S1088x2048 .bf16 := iblk m (ok m) c 0 t
abbrev X1 (t : Fin (cfgM m (ok m)).N) : Vec Ideal S1x2048x1024 .bf16 := iblk m (ok m) c 1 t

/-- The result's entry in a point's block. -/
theorem block_entry (t : Fin (cfgM m (ok m)).N) (r : Fin 1088) (q : Fin 1024) (i : S2176x8192.Idx)
    (e : (((cfgM m (ok m)).win 2).blk t).view.emb (ix2 r q) = i) :
    (dats m (ok m) 0 c).arrAt 2 (cfgM m (ok m)).N i = post (∑ k : Fin 2048, X0 m c t (ix2 r k) * X1 m c t (ix3 0 k q)) := by
  have h1 := read2 (adm m (ok m)) t ((dats m (ok m) 0 c).arrAt 2 (cfgM m (ok m)).N) (ix2 r q) i e
  have h2 := cut2 (adm m (ok m)) (grid0.coords t) (outsAt0 m (ok m) c t) (ix2 r q)
  have h3 := congrFun (blocks m c t) (ix2 r q)
  have h4 : outsAt0 m (ok m) c t (ix2 r q) = post (∑ k : Fin 2048, X0 m c t (ix2 r k) * X1 m c t (ix3 0 k q)) :=
    out_A c _ _ _ _ _ _ _ (X0 m c t) (X1 m c t) _ _ _
  exact h1.symm.trans (h3.trans (h2.trans h4))

/-- The result's entry at a column that the table names. -/
theorem final (R : Fin 2176) (Q : Fin 8192) (j : Fin 2) (hj : slot m j = Q.val / 1024) :
    (dats m (ok m) 0 c).arrAt 2 (cfgM m (ok m)).N (ix2 R Q : S2176x8192.Idx) = entry m c R Q := by
  have hR := R.isLt
  obtain ⟨t, ht⟩ := point m (2 * (R.val / 1088) + j.val) (by omega)
  have t0 : t.val / 2 = R.val / 1088 := by omega
  have t1 : (⟨t.val % 2, Nat.mod_lt _ (by decide)⟩ : Fin 2) = j := Fin.ext (by show t.val % 2 = _; omega)
  have hr : R.val = t.val / 2 * 1088 + R.val % 1088 := by rw [t0]; omega
  have hq : Q.val = slot m ⟨t.val % 2, Nat.mod_lt _ (by decide)⟩ * 1024 + Q.val % 1024 := by rw [t1, hj]; omega
  have e := emb2 (adm m (ok m)) t _ _ (index_at m t).2.2.1 ⟨R.val % 1088, by omega⟩ ⟨Q.val % 1024, by omega⟩ R Q hr hq
  refine (block_entry m c t _ _ _ e).trans (congrArg post ?_)
  refine Finset.sum_congr rfl fun k _ => congrArg₂ (· * ·) (blk0 m c t _ k R hr) (blk1 m c t k _ (home Q) ?_)
  rw [t1, hj]

theorem entered : V m c main_v19 = A2 m c := by
  unfold V hostOps0
  after_results
  try rfl

/-- Any other column keeps what it had. -/
theorem kept (R : Fin 2176) (Q : Fin 8192) (hj : ∀ j, slot m j ≠ Q.val / 1024) :
    (dats m (ok m) 0 c).arrAt 2 (cfgM m (ok m)).N (ix2 R Q : S2176x8192.Idx) = A2 m c (ix2 R Q) := by
  refine ((dats m (ok m) 0 c).arrAt_apply_of_forall_not_mem 2 (cfgM m (ok m)).N (ix2 R Q) (fun t _ _ hi => ?_)).trans ?_
  · obtain ⟨y, -, hy⟩ := Finset.mem_map.1 hi
    exact hj _ (col2 (adm m (ok m)) t _ _ (index_at m t).2.2.1 y (ix2 R Q) hy).symm
  · rw [A_eq]
    exact congrFun (entered m c) _

/-- The chips whose columns are computed. -/
abbrev Hit (x y : BitVec 1) (ch : ℕ) : Prop := ∃ j, far x y 0#1 j / 2 = ch

theorem mask_bits (x y : BitVec 1) (ch : Fin 4) : Cert.Reference18Ideal.Read.val_main_v8 (F := Ideal) (fun _ => x) (fun _ => y) (ix1 ch)
    = if Hit x y ch.val then 1#1 else 0#1 := by
  revert ch
  rcases bit x with rfl | rfl <;> rcases bit y with rfl | rfl <;> exact of_decide_eq_true (by sl_kernel_rfl)

theorem named : ∀ x y z : BitVec 1, ∀ s : Fin 8, Hit x y (s.val / 2) → ∃ j, far x y z j = s.val := by decide

theorem unnamed : ∀ x y z : BitVec 1, ∀ s : Fin 8, ¬ Hit x y (s.val / 2) → ∀ j, far x y z j ≠ s.val := by decide

theorem select_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

/-- The columns that the reference replaces. -/
theorem mask (b0 b1 : (⟨S_, .i1⟩ : BufTy).Contents (Elt Ideal)) (R : Fin 2176) (Q : Fin 8192) :
    Cert.Reference18Ideal.Read.val_main_call1_v0 (F := Ideal) b0 b1 (ix2 R Q)
      = if Hit (b0 fun a => a.elim0) (b1 fun a => a.elim0) (Q.val / 1024 / 2) then 1#1 else 0#1 := by
  rw [Cert.Reference18Ideal.Read.val_main_call1_v0_apply,
    Cert.Reference18Ideal.Read.val_main_v11_apply,
    Cert.Reference18Ideal.Read.val_main_v10_apply,
    Cert.Reference18Ideal.Read.val_main_v9_apply,
    scalar (F := Ideal) b0, scalar (F := Ideal) b1]
  refine ((congrArg _ (eq_ix1 _)).trans (mask_bits _ _ ⟨Q.val / 2048, by omega⟩)).trans ?_
  have : Q.val / 1024 / 2 = Q.val / 2048 := by omega
  rw [this]

theorem product (R : Fin 2176) (Q : Fin 8192) :
    Cert.Reference18Ideal.Read.val_main_v19 (F := Ideal) (A0 m c) (A1 m c) (ix2 R Q) = entry m c R Q := by
  refine congrArg post ((Cert.Reference18Ideal.Read.val_main_v16_apply _ _ _).trans ?_)
  refine Finset.sum_congr rfl fun k _ => congrArg₂ (· * ·) (congrArg (A0 m c) (eq_ix2 _)) ?_
  refine (Cert.Reference18Ideal.Read.val_main_v14_apply _ _).trans ((Cert.Reference18Ideal.Read.val_main_v13_apply _ _).trans (congrArg (A1 m c) ?_))
  have hk := k.isLt
  have hQ := Q.isLt
  funext b; apply Fin.ext
  match b with
  | ⟨0, _⟩ => show (k.val * 8192 + Q.val) / 1024 % 8 = Q.val / 1024; omega
  | ⟨1, _⟩ => show (k.val * 8192 + Q.val) / 8192 = k.val; omega
  | ⟨2, _⟩ => show (k.val * 8192 + Q.val) % 1024 = Q.val % 1024; omega

/-- The reference's result is the kernel's. -/
theorem same : Cert.Reference18Ideal.Read.val_main_v20 (F := Ideal) (m ((c : Thread nD τ).loc main_arg0)) (m ((c : Thread nD τ).loc main_arg1))
    (A0 m c) (A1 m c) (A2 m c) = (dats m (ok m) 0 c).arrAt 2 (cfgM m (ok m)).N := by
  funext i
  obtain ⟨R, Q, rfl⟩ : ∃ (R : Fin 2176) (Q : Fin 8192), i = ix2 R Q := ⟨i 0, i 1, eq_ix2 i⟩
  obtain rfl : c = 0 := Subsingleton.elim _ _
  refine (Cert.Reference18Ideal.Read.val_main_v20_apply _ _ _ _ _ _).trans ?_
  refine (congrArg₂ (fun u v => Scalar.select u v (A2 m 0 (ix2 R Q))) (mask _ _ R Q) (product m 0 R Q)).trans ((select_bit _ _ _).trans ?_)
  by_cases h : Hit (X m) (Y m) (Q.val / 1024 / 2)
  · obtain ⟨j, hj⟩ := named _ _ (C m) (home Q) h
    exact (if_pos h).trans (final m 0 R Q j hj).symm
  · exact (if_neg h).trans (kept m 0 R Q (unnamed _ _ (C m) (home Q) h)).symm

/-- Every run ends with the result read above and the arguments as they were. -/
theorem run : θ_run defs (onTc (τ := τ) (main (F := Ideal))) ⟨m, fun _ => 0, ρ⟩ fun r => ∀ c : Dev nD,
      r.2.mem ((c : Thread nD τ).loc main_v19) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have h1 : θ_run defs (onTc (τ := τ) (main (F := Ideal))) ⟨m, fun _ => 0, ρ⟩ fun r => ∀ c : Dev nD,
      r.2.mem ((c : Thread nD τ).loc main_v19) = (dats m (ok m) 0 c).arrAt 2 (cfgM m (ok m)).N :=
    (θ_run defs _ _).mono (fun _ h c => (h c).1 2) (run_main m ρ (ok m))
  exact (θ_run defs _ _).mono (fun _ h c => ⟨h.1 c, h.2.1 c⟩) (θ_run_and h1 (Gen.frame m ρ (ok m)))

end Cert.MmUpFar

end
-- ==== Proof.Ok19Ideal.lean ====
/-
  The table that `Kernel19Ideal` prefetches holds the places of this chip and of the two beside it, and every block it names lies inside its array.
-/
module

public import proofs.«01_k».proof.Proof.Gen.Kernel19Ideal.Frame
public import proofs.«01_k».proof.Proof.Slots

@[expose] public section

set_option maxRecDepth 16384

noncomputable section

namespace Cert.Kernel19Ideal.Places

open Cert.Kernel19Ideal Cert.Kernel19Ideal.Gen Cert.Slots
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S6.Idx => BitVec.ofNat 32 (near x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

theorem scalar (b : (⟨S_, .i1⟩ : BufTy).Contents (Elt F)) : b = fun _ => b (fun a => a.elim0) :=
  funext fun i => congrArg b (funext fun a => a.elim0)

/-- Six words side by side. -/
def six (p0 p1 p2 p3 p4 p5 : (⟨S1, .i32⟩ : BufTy).Contents (Elt F)) : (⟨S6, .i32⟩ : BufTy).Contents (Elt F) :=
  concatenate S6 0 [⟨S1, p0⟩, ⟨S1, p1⟩, ⟨S1, p2⟩, ⟨S1, p3⟩, ⟨S1, p4⟩, ⟨S1, p5⟩] concatenates_S1_S1_S1_S1_S1_S1_S6_d0

theorem tbl0 : tbl m 0 = words (F := F) (X m) (Y m) (C m) 0 := by
  show StableHlo.after hostOps0 (fun b => m (0, b)) (Proc.devRef .tc main_v40) = _
  unfold hostOps0
  simp only [StableHlo.after_cons, StableHlo.after_nil]
  rw [StableHlo.nary_result]
  show six (F := F) _ _ _ _ _ _ = _
  dsimp only [Matrix.cons_val]
  after_results_simp
  have hx := scalar (F := F) (m (((0 : Dev nD) : Thread nD τ).loc main_arg0))
  have hy := scalar (F := F) (m (((0 : Dev nD) : Thread nD τ).loc main_arg1))
  have hc := scalar (F := F) (m (((0 : Dev nD) : Thread nD τ).loc main_arg2))
  rw [hx, hy, hc]
  show _ = words (F := F) (m (((0 : Dev nD) : Thread nD τ).loc main_arg0) fun a => a.elim0)
    (m (((0 : Dev nD) : Thread nD τ).loc main_arg1) fun a => a.elim0) (m (((0 : Dev nD) : Thread nD τ).loc main_arg2) fun a => a.elim0) 0
  generalize m (((0 : Dev nD) : Thread nD τ).loc main_arg0) (fun a => a.elim0) = x
  generalize m (((0 : Dev nD) : Thread nD τ).loc main_arg1) (fun a => a.elim0) = y
  generalize m (((0 : Dev nD) : Thread nD τ).loc main_arg2) (fun a => a.elim0) = c
  clear hx hy hc
  funext i
  obtain ⟨j, rfl⟩ : ∃ j : Fin 6, i = fun | 0 => j := ⟨i 0, funext fun a => match a with | 0 => rfl⟩
  rcases bit x with rfl | rfl <;> rcases bit y with rfl | rfl <;> rcases bit c with rfl | rfl <;>
    (fin_cases j <;> sl_kernel_rfl)

theorem tbl_eq : tbl m = words (F := F) (X m) (Y m) (C m) := funext fun k => match k with
  | 0 => tbl0 m

theorem ok : Ok m := by
  unfold Ok
  rw [tbl_eq]
  exact ok_words _ _ _

end Cert.Kernel19Ideal.Places

end
-- ==== Proof.MmUpNear.lean ====
/-
  The product into the gated width, at the columns held on this chip and the two beside it: each point of the grid computes
  the block of one row tile and one of the six places the table names. The host then sets the columns of the chip opposite,
  which no point writes, to zero.
-/
module

public import proofs.«01_k».proof.Proof.MmNN
public import proofs.«01_k».proof.Proof.Ok19Ideal
public import Idealize.ShloMosaic.Lib.Pipeline.Value
public import Idealize.ShloMosaic.Lib.Pipeline.ValueKit
public import proofs.«01_k».proof.Proof.Gen.Reference19Ideal.Read

@[expose] public section

set_option maxRecDepth 16384

noncomputable section

namespace Cert.MmUpNear

open Cert.Kernel19Ideal Cert.Kernel19Ideal.Gen Cert.Kernel19Ideal.Places Cert.Slots
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The rows. -/
abbrev A0 : Vec Ideal S2176x2048 .bf16 := m ((c : Thread nD τ).loc main_arg3)

/-- The weight of each place. -/
abbrev A1 : Vec Ideal S8x2048x1024 .bf16 := m ((c : Thread nD τ).loc main_arg4)

/-- Where the blocks of each point lie, for a device at `x`, `y`, `z`. -/
theorem index_words (x y z : BitVec 1) (t : Fin grid0.N) :
    (win0 (F := Ideal) ⟨words x y z, ok_words x y z⟩ 0).index t = ![t.val / 6, 0]
    ∧ (win0 (F := Ideal) ⟨words x y z, ok_words x y z⟩ 1).index t = ![near x y z ⟨t.val % 6, Nat.mod_lt _ (by decide)⟩, 0, 0]
    ∧ (win0 (F := Ideal) ⟨words x y z, ok_words x y z⟩ 2).index t = ![t.val / 6, near x y z ⟨t.val % 6, Nat.mod_lt _ (by decide)⟩]
    ∧ (win0 (F := Ideal) ⟨words x y z, ok_words x y z⟩ 2).flush t = true := by
  revert t
  rcases bit x with rfl | rfl <;> rcases bit y with rfl | rfl <;> rcases bit z with rfl | rfl <;>
    exact of_decide_eq_true (by sl_kernel_rfl)

theorem index_adm (x y z : BitVec 1) (a : (pcfg0 (F := Ideal)).Adm) (h : a.1 = words x y z) (t : Fin grid0.N) :
    (win0 a 0).index t = ![t.val / 6, 0]
    ∧ (win0 a 1).index t = ![near x y z ⟨t.val % 6, Nat.mod_lt _ (by decide)⟩, 0, 0]
    ∧ (win0 a 2).index t = ![t.val / 6, near x y z ⟨t.val % 6, Nat.mod_lt _ (by decide)⟩]
    ∧ (win0 a 2).flush t = true := by
  obtain ⟨p, hp⟩ := a
  obtain rfl : p = words x y z := h
  exact index_words x y z t

/-- The place a point computes. -/
abbrev slot (j : Fin 6) : ℕ := near (X m) (Y m) (C m) j

theorem index_at (t : Fin (cfgM m (ok m)).N) :
    ((cfgM m (ok m)).win 0).index t = ![t.val / 6, 0]
    ∧ ((cfgM m (ok m)).win 1).index t = ![slot m ⟨t.val % 6, Nat.mod_lt _ (by decide)⟩, 0, 0]
    ∧ ((cfgM m (ok m)).win 2).index t = ![t.val / 6, slot m ⟨t.val % 6, Nat.mod_lt _ (by decide)⟩]
    ∧ ((cfgM m (ok m)).win 2).flush t = true :=
  index_adm _ _ _ (adm m (ok m)) (tbl_eq m) t

theorem slots_differ : ∀ x y z : BitVec 1, ∀ i j : Fin 6, near x y z i = near x y z j → i = j := by decide

/-- No two points share a block of the result. -/
theorem apart (t t' : Fin (cfgM m (ok m)).N) (h : ((cfgM m (ok m)).win 2).index t = ((cfgM m (ok m)).win 2).index t') : t = t' := by
  rw [(index_at m t).2.2.1, (index_at m t').2.2.1] at h
  have h0 : t.val / 6 = t'.val / 6 := congrFun h 0
  have h1 := slots_differ _ _ _ _ _ (congrFun h 1 : slot m ⟨t.val % 6, _⟩ = slot m ⟨t'.val % 6, _⟩)
  have h2 : t.val % 6 = t'.val % 6 := congrArg Fin.val h1
  exact Fin.ext (by omega)

theorem blocks (t : Fin (cfgM m (ok m)).N) :
    (((cfgM m (ok m)).win 2).blk t).view.read (Elt Ideal) ((dats m (ok m) 0 c).arrAt 2 (cfgM m (ok m)).N)
      = ((cfgM m (ok m)).win 2).cut (grid0.coords t) (outsAt0 m (ok m) c t) := by
  refine ((dats m (ok m) 0 c).read_blk_arrAt_eq_flushed 2 (fun t t' _ _ hne => ((cfgM m (ok m)).win 2).disjoint_blk fun h => hne (apart m t t' h))
    _ t t.isLt (index_at m t).2.2.2).trans ?_
  show ((cfgM m (ok m)).win 2).cut (grid0.coords t) ((dats m (ok m) 0 c).after 2 t) = _
  rw [after0_2]

theorem emb0 (a : (pcfg0 (F := Ideal)).Adm) (t : Fin (cfg0 a).N) (I : ℕ) (h : (win0 a 0).index t = ![I, 0]) (r : Fin 1088) (k : Fin 2048)
    (R : Fin 2176) (hR : R.val = I * 1088 + r.val) : (((win0 a 0).blk t).view.emb (ix2 r k) : S2176x2048.Idx) = ix2 R k := by
  funext b; apply Fin.ext
  match b with
  | ⟨0, _⟩ => exact (congrArg (· * 1088 + 1 * r.val) (congrFun h 0)).trans (by show I * 1088 + 1 * r.val = R.val; omega)
  | ⟨1, _⟩ => exact (congrArg (· * 2048 + 1 * k.val) (congrFun h 1)).trans (by show 0 * 2048 + 1 * k.val = k.val; omega)

theorem emb1 (a : (pcfg0 (F := Ideal)).Adm) (t : Fin (cfg0 a).N) (J : Fin 8) (h : (win0 a 1).index t = ![J.val, 0, 0]) (k : Fin 2048) (q : Fin 1024) :
    (((win0 a 1).blk t).view.emb (ix3 0 k q) : S8x2048x1024.Idx) = ix3 J k q := by
  funext b; apply Fin.ext
  match b with
  | ⟨0, _⟩ => exact (congrArg (· * 1 + 1 * 0) (congrFun h 0)).trans (by show J.val * 1 + 1 * 0 = J.val; omega)
  | ⟨1, _⟩ => exact (congrArg (· * 2048 + 1 * k.val) (congrFun h 1)).trans (by show 0 * 2048 + 1 * k.val = k.val; omega)
  | ⟨2, _⟩ => exact (congrArg (· * 1024 + 1 * q.val) (congrFun h 2)).trans (by show 0 * 1024 + 1 * q.val = q.val; omega)

theorem emb2 (a : (pcfg0 (F := Ideal)).Adm) (t : Fin (cfg0 a).N) (I J : ℕ) (h : (win0 a 2).index t = ![I, J]) (r : Fin 1088) (q : Fin 1024)
    (R : Fin 2176) (Q : Fin 8192) (hR : R.val = I * 1088 + r.val) (hQ : Q.val = J * 1024 + q.val) :
    (((win0 a 2).blk t).view.emb (ix2 r q) : S2176x8192.Idx) = ix2 R Q := by
  funext b; apply Fin.ext
  match b with
  | ⟨0, _⟩ => exact (congrArg (· * 1088 + 1 * r.val) (congrFun h 0)).trans (by show I * 1088 + 1 * r.val = R.val; omega)
  | ⟨1, _⟩ => exact (congrArg (· * 1024 + 1 * q.val) (congrFun h 1)).trans (by show J * 1024 + 1 * q.val = Q.val; omega)

theorem col2 (a : (pcfg0 (F := Ideal)).Adm) (t : Fin (cfg0 a).N) (I J : ℕ) (h : (win0 a 2).index t = ![I, J]) (y : S1088x1024.Idx)
    (i : S2176x8192.Idx) (e : ((win0 a 2).blk t).view.emb y = i) : (i 1).val / 1024 = J := by
  obtain rfl : ((win0 a 2).blk t).view.emb y = i := e
  have h1 : (((win0 a 2).blk t).view.emb y (1 : Fin 2)).val = J * 1024 + 1 * (y 1).val := congrArg (· * 1024 + 1 * (y 1).val) (congrFun h 1)
  have h2 : (y 1).val < 1024 := (y 1).isLt
  refine (congrArg (· / 1024) h1).trans ?_
  show (J * 1024 + 1 * (y 1).val) / 1024 = J
  omega

theorem blk0 (t : Fin (cfgM m (ok m)).N) (r : Fin 1088) (k : Fin 2048) (R : Fin 2176) (h : R.val = t.val / 6 * 1088 + r.val) :
    iblk m (ok m) c 0 t (ix2 r k) = A0 m c (ix2 R k) := by
  unfold A0
  rw [← V_main_arg3 m c]
  exact congrArg (V m c main_arg3) (emb0 _ t _ (index_at m t).1 r k R h)

theorem blk1 (t : Fin (cfgM m (ok m)).N) (k : Fin 2048) (q : Fin 1024) (J : Fin 8) (h : J.val = slot m ⟨t.val % 6, Nat.mod_lt _ (by decide)⟩) :
    iblk m (ok m) c 1 t (ix3 0 k q) = A1 m c (ix3 J k q) := by
  unfold A1
  rw [← V_main_arg4 m c]
  exact congrArg (V m c main_arg4) (emb1 _ t J ((index_at m t).2.1.trans (by rw [h])) k q)

/-- What becomes of an entry of the product. -/
def post (s : EReal) : EReal := max s (Ideal.ofBits .f32 0x00000000#32) * max s (Ideal.ofBits .f32 0x00000000#32)

theorem pay_apply (x0 : Vec Ideal S1088x2048 .bf16) (x1 : Vec Ideal S1x2048x1024 .bf16) (r : Fin 1088) (q : Fin 1024) :
    k0_pay1 x0 x1 (ix2 r q) = post (∑ k : Fin 2048, x0 (ix2 r k) * x1 (ix3 0 k q)) := by
  refine congrArg post ((Cert.Mm.nn_apply (φ₁ := .bf16) (φ₂ := .bf16) _ none x0 (shapeCast S2048x1024 x1 shapeCasts_S1x2048x1024_S2048x1024) r q).trans ?_)
  refine Finset.sum_congr rfl fun k _ => congrArg (x0 (ix2 r k) * ·) ?_
  exact shapeCast_apply x1 shapeCasts_S1x2048x1024_S2048x1024 (ix2 k q) (ix3 0 k q) (by
    rewrite [Shape.rowMajor_val_two, Shape.rowMajor_val_three]
    show (0 * 2048 + k.val) * 1024 + q.val = k.val * 1024 + q.val
    omega)

theorem out_A (i : grid0.Coords) (a3 : Memref sig .tc .vmem S1088x2048 .bf16) (h3 : a3.IsWhole) (a4 : Memref sig .tc .vmem S1x2048x1024 .bf16)
    (h4 : a4.IsWhole) (a6 : Memref sig .tc .vmem S1088x1024 .bf16) (h6 : a6.IsWhole)
    (x0 : Vec Ideal S1088x2048 .bf16) (x1 : Vec Ideal S1x2048x1024 .bf16) (xt) (r : Fin 1088) (q : Fin 1024) :
    out0_A_2 c i a3 h3 a4 h4 a6 h6 x0 x1 xt (ix2 r q) = post (∑ k : Fin 2048, x0 (ix2 r k) * x1 (ix3 0 k q)) := by
  unfold out0_A_2
  frame_out
  exact pay_apply x0 x1 r q

/-- The place of a column. -/
abbrev home (Q : Fin 8192) : Fin 8 := ⟨Q.val / 1024, by omega⟩

/-- The entry of the product. -/
def entry (R : Fin 2176) (Q : Fin 8192) : EReal :=
  post (∑ k : Fin 2048, A0 m c (ix2 R k) * A1 m c (ix3 (home Q) k ⟨Q.val % 1024, Nat.mod_lt _ (by decide)⟩))

theorem point (v : ℕ) (h : v < 12) : ∃ t : Fin (cfgM m (ok m)).N, t.val = v := ⟨⟨v, h⟩, rfl⟩

theorem cut2 (a : (pcfg0 (F := Ideal)).Adm) (i : grid0.Coords) (f : Vec Ideal S1088x1024 .bf16) (y : S1088x1024.Idx) :
    ((win0 a 2).cut i f : S1088x1024.Idx → Elt Ideal .bf16) y = f y := rfl

theorem read2 (a : (pcfg0 (F := Ideal)).Adm) (t : Fin (cfg0 a).N) (f : Vec Ideal S2176x8192 .bf16) (y : S1088x1024.Idx) (i : S2176x8192.Idx)
    (e : ((win0 a 2).blk t).view.emb y = i) : (((win0 a 2).blk t).view.read (Elt Ideal) f : S1088x1024.Idx → Elt Ideal .bf16) y = f i := by
  obtain rfl : ((win0 a 2).blk t).view.emb y = i := e
  rfl

/-- The two blocks that a point reads. -/
abbrev X0 (t : Fin (cfgM m (ok m)).N) : Vec Ideal S1088x2048 .bf16 := iblk m (ok m) c 0 t
abbrev X1 (t : Fin (cfgM m (ok m)).N) : Vec Ideal S1x2048x1024 .bf16 := iblk m (ok m) c 1 t

/-- The result's entry in a point's block. -/
theorem block_entry (t : Fin (cfgM m (ok m)).N) (r : Fin 1088) (q : Fin 1024) (i : S2176x8192.Idx)
    (e : (((cfgM m (ok m)).win 2).blk t).view.emb (ix2 r q) = i) :
    (dats m (ok m) 0 c).arrAt 2 (cfgM m (ok m)).N i = post (∑ k : Fin 2048, X0 m c t (ix2 r k) * X1 m c t (ix3 0 k q)) := by
  have h1 := read2 (adm m (ok m)) t ((dats m (ok m) 0 c).arrAt 2 (cfgM m (ok m)).N) (ix2 r q) i e
  have h2 := cut2 (adm m (ok m)) (grid0.coords t) (outsAt0 m (ok m) c t) (ix2 r q)
  have h3 := congrFun (blocks m c t) (ix2 r q)
  have h4 : outsAt0 m (ok m) c t (ix2 r q) = post (∑ k : Fin 2048, X0 m c t (ix2 r k) * X1 m c t (ix3 0 k q)) :=
    out_A c _ _ _ _ _ _ _ (X0 m c t) (X1 m c t) _ _ _
  exact h1.symm.trans (h3.trans (h2.trans h4))

/-- The result's entry at a column that the table names. -/
theorem final (R : Fin 2176) (Q : Fin 8192) (j : Fin 6) (hj : slot m j = Q.val / 1024) :
    (dats m (ok m) 0 c).arrAt 2 (cfgM m (ok m)).N (ix2 R Q : S2176x8192.Idx) = entry m c R Q := by
  have hR := R.isLt
  obtain ⟨t, ht⟩ := point m (6 * (R.val / 1088) + j.val) (by omega)
  have t0 : t.val / 6 = R.val / 1088 := by omega
  have t1 : (⟨t.val % 6, Nat.mod_lt _ (by decide)⟩ : Fin 6) = j := Fin.ext (by show t.val % 6 = _; omega)
  have hr : R.val = t.val / 6 * 1088 + R.val % 1088 := by rw [t0]; omega
  have hq : Q.val = slot m ⟨t.val % 6, Nat.mod_lt _ (by decide)⟩ * 1024 + Q.val % 1024 := by rw [t1, hj]; omega
  have e := emb2 (adm m (ok m)) t _ _ (index_at m t).2.2.1 ⟨R.val % 1088, by omega⟩ ⟨Q.val % 1024, by omega⟩ R Q hr hq
  refine (block_entry m c t _ _ _ e).trans (congrArg post ?_)
  refine Finset.sum_congr rfl fun k _ => congrArg₂ (· * ·) (blk0 m c t _ k R hr) (blk1 m c t k _ (home Q) ?_)
  rw [t1, hj]

/-- The chips whose columns are computed. -/
abbrev Hit (x y : BitVec 1) (ch : ℕ) : Prop := ∃ j, near x y 0#1 j / 2 = ch

theorem mask_bits (x y : BitVec 1) (ch : Fin 4) : Cert.Reference19Ideal.Read.val_main_v8 (F := Ideal) (fun _ => x) (fun _ => y) (ix1 ch)
    = if ¬ Hit x y ch.val then 1#1 else 0#1 := by
  revert ch
  rcases bit x with rfl | rfl <;> rcases bit y with rfl | rfl <;> exact of_decide_eq_true (by sl_kernel_rfl)

theorem named : ∀ x y z : BitVec 1, ∀ s : Fin 8, Hit x y (s.val / 2) → ∃ j, near x y z j = s.val := by decide

theorem select_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

/-- The columns that the reference sets to zero. -/
theorem mask (b0 b1 : (⟨S_, .i1⟩ : BufTy).Contents (Elt Ideal)) (R : Fin 2176) (Q : Fin 8192) :
    Cert.Reference19Ideal.Read.val_main_call1_v0 (F := Ideal) b0 b1 (ix2 R Q)
      = if ¬ Hit (b0 fun a => a.elim0) (b1 fun a => a.elim0) (Q.val / 1024 / 2) then 1#1 else 0#1 := by
  rw [Cert.Reference19Ideal.Read.val_main_call1_v0_apply,
    Cert.Reference19Ideal.Read.val_main_v11_apply,
    Cert.Reference19Ideal.Read.val_main_v10_apply,
    Cert.Reference19Ideal.Read.val_main_v9_apply,
    scalar (F := Ideal) b0, scalar (F := Ideal) b1]
  refine ((congrArg _ (eq_ix1 _)).trans (mask_bits _ _ ⟨Q.val / 2048, by omega⟩)).trans ?_
  have : Q.val / 1024 / 2 = Q.val / 2048 := by omega
  rw [this]

theorem product (R : Fin 2176) (Q : Fin 8192) :
    Cert.Reference19Ideal.Read.val_main_v19 (F := Ideal) (A0 m c) (A1 m c) (ix2 R Q) = entry m c R Q := by
  refine congrArg post ((Cert.Reference19Ideal.Read.val_main_v16_apply _ _ _).trans ?_)
  refine Finset.sum_congr rfl fun k _ => congrArg₂ (· * ·) (congrArg (A0 m c) (eq_ix2 _)) ?_
  refine (Cert.Reference19Ideal.Read.val_main_v14_apply _ _).trans ((Cert.Reference19Ideal.Read.val_main_v13_apply _ _).trans (congrArg (A1 m c) ?_))
  have hk := k.isLt
  have hQ := Q.isLt
  funext b; apply Fin.ext
  match b with
  | ⟨0, _⟩ => show (k.val * 8192 + Q.val) / 1024 % 8 = Q.val / 1024; omega
  | ⟨1, _⟩ => show (k.val * 8192 + Q.val) / 8192 = k.val; omega
  | ⟨2, _⟩ => show (k.val * 8192 + Q.val) % 1024 = Q.val % 1024; omega

/-- An array with the columns that no point writes set to zero. -/
def masked (x y : (⟨S_, .i1⟩ : BufTy).Contents (Elt Ideal)) (f : Vec Ideal S2176x8192 .bf16) : Vec Ideal S2176x8192 .bf16 := fun i =>
  Scalar.select (Cert.Reference19Ideal.Read.val_main_call1_v0 (F := Ideal) x y i) (Cert.Reference19Ideal.Read.val_main_call1_v1 (F := Ideal) i) (f i)

/-- What the run leaves in its result. -/
def result : Vec Ideal S2176x8192 .bf16 := masked (m ((c : Thread nD τ).loc main_arg0)) (m ((c : Thread nD τ).loc main_arg1))
  ((dats m (ok m) 0 c).arrAt 2 (cfgM m (ok m)).N)

/-- What the host's last lines make of any buffers. -/
theorem masks (W : Valuation τ sig (Elt Ideal)) : StableHlo.after (List.flatten [hostOps1, hostOps1_1]) W (Proc.devRef .tc main_v54)
    = masked (W (Proc.devRef .tc main_arg0)) (W (Proc.devRef .tc main_arg1)) (W (Proc.devRef .tc main_v41)) := by
  simp only [hostOps1, hostOps1_1, List.flatten_cons, List.flatten_nil, List.append_nil, List.cons_append, List.nil_append]
  after_results
  rfl

/-- The buffers as the host finds them after the region. -/
abbrev left : Valuation τ sig (Elt Ideal) :=
  Pipeline.withArrays spec0 c (V0 m c) fun w => (dats m (ok m) 0 c).arrAt w (cfgM m (ok m)).N

theorem left_array : left m c (Proc.devRef .tc main_v41) = ((dats m (ok m) 0 c).arrAt 2 (cfgM m (ok m)).N : Vec Ideal S2176x8192 .bf16) :=
  Pipeline.withArrays_arr spec0 (by exact of_decide_eq_true (by sl_kernel_rfl)) c (V0 m c) _ 2

theorem left_x : left m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem left_y : left m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem ended : StableHlo.after (List.flatten [hostOps1, hostOps1_1]) (left m c) (Proc.devRef .tc main_v54) = result m c :=
  (masks (left m c)).trans ((congrArg₂ (fun x y => masked x y _) (left_x m c) (left_y m c)).trans (congrArg (masked _ _) (left_array m c)))

/-- The reference's result is the kernel's. -/
theorem same : Cert.Reference19Ideal.Read.val_main_v20 (F := Ideal) (m ((c : Thread nD τ).loc main_arg0)) (m ((c : Thread nD τ).loc main_arg1))
    (A0 m c) (A1 m c) = result m c := by
  funext i
  obtain ⟨R, Q, rfl⟩ : ∃ (R : Fin 2176) (Q : Fin 8192), i = ix2 R Q := ⟨i 0, i 1, eq_ix2 i⟩
  obtain rfl : c = 0 := Subsingleton.elim _ _
  refine (Cert.Reference19Ideal.Read.val_main_v20_apply _ _ _ _ _).trans ?_
  unfold result masked
  refine (congrArg₂ (fun u v => Scalar.select u (Cert.Reference19Ideal.Read.val_main_call1_v1 (F := Ideal) (ix2 R Q)) v) (mask _ _ R Q) (product m 0 R Q)).trans ((select_bit _ _ _).trans ?_)
  refine Eq.symm ((congrArg (fun u => Scalar.select u (Cert.Reference19Ideal.Read.val_main_call1_v1 (F := Ideal) (ix2 R Q)) _) (mask _ _ R Q)).trans ((select_bit _ _ _).trans ?_))
  by_cases h : Hit (X m) (Y m) (Q.val / 1024 / 2)
  · obtain ⟨j, hj⟩ := named _ _ (C m) (home Q) h
    exact (if_neg (not_not.2 h)).trans ((final m 0 R Q j hj).trans (if_neg (not_not.2 h)).symm)
  · exact (if_pos h).trans (if_pos h).symm

/-- Every run ends with the result read above and the arguments as they were. -/
theorem run : θ_run defs (onTc (τ := τ) (main (F := Ideal))) ⟨m, fun _ => 0, ρ⟩ fun r => ∀ c : Dev nD,
      r.2.mem ((c : Thread nD τ).loc main_v54) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have h1 : θ_run defs (onTc (τ := τ) (main (F := Ideal))) ⟨m, fun _ => 0, ρ⟩ fun r => ∀ c : Dev nD,
      r.2.mem ((c : Thread nD τ).loc main_v54) = result m c :=
    (θ_run defs _ _).mono (fun _ h c => ((h c).2 main_v54 (by decide : main_v54 ∈ Pipeline.restRefs sig spec0)).trans (ended m c)) (run_main m ρ (ok m))
  exact (θ_run defs _ _).mono (fun _ h c => ⟨h.1 c, h.2.1 c⟩) (θ_run_and h1 (Gen.frame m ρ (ok m)))

end Cert.MmUpNear

end
-- ==== Proof.Ok20Ideal.lean ====
/-
  The table that `Kernel20Ideal` prefetches holds the two places of this chip, and every block it names lies inside its array.
-/
module

public import proofs.«01_k».proof.Proof.Gen.Kernel20Ideal.Frame
public import proofs.«01_k».proof.Proof.Slots

@[expose] public section

set_option maxRecDepth 16384

noncomputable section

namespace Cert.Kernel20Ideal.Places

open Cert.Kernel20Ideal Cert.Kernel20Ideal.Gen Cert.Slots
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S2.Idx => BitVec.ofNat 32 (here x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

theorem scalar (b : (⟨S_, .i1⟩ : BufTy).Contents (Elt F)) : b = fun _ => b (fun a => a.elim0) :=
  funext fun i => congrArg b (funext fun a => a.elim0)

/-- Six words side by side. -/
def six (p0 p1 p2 p3 p4 p5 : (⟨S1, .i32⟩ : BufTy).Contents (Elt F)) : (⟨S6, .i32⟩ : BufTy).Contents (Elt F) :=
  concatenate S6 0 [⟨S1, p0⟩, ⟨S1, p1⟩, ⟨S1, p2⟩, ⟨S1, p3⟩, ⟨S1, p4⟩, ⟨S1, p5⟩] concatenates_S1_S1_S1_S1_S1_S1_S6_d0

/-- All six places. -/
def all (x y c : BitVec 1) : (⟨S6, .i32⟩ : BufTy).Contents (Elt F) := fun i : S6.Idx => BitVec.ofNat 32 (near x y c (i 0))

theorem all_eq : V m 0 main_v40 = all (F := F) (X m) (Y m) (C m) := by
  show StableHlo.after hostOps0 (fun b => m (0, b)) (Proc.devRef .tc main_v40) = _
  unfold hostOps0
  simp only [StableHlo.after_cons, StableHlo.after_nil]
  rw [StableHlo.unary_result_ne]
  rotate_left
  · decide
  rw [StableHlo.nary_result]
  show six (F := F) _ _ _ _ _ _ = _
  dsimp only [Matrix.cons_val]
  after_results_simp
  have hx := scalar (F := F) (m (((0 : Dev nD) : Thread nD τ).loc main_arg0))
  have hy := scalar (F := F) (m (((0 : Dev nD) : Thread nD τ).loc main_arg1))
  have hc := scalar (F := F) (m (((0 : Dev nD) : Thread nD τ).loc main_arg2))
  rw [hx, hy, hc]
  show _ = all (F := F) (m (((0 : Dev nD) : Thread nD τ).loc main_arg0) fun a => a.elim0)
    (m (((0 : Dev nD) : Thread nD τ).loc main_arg1) fun a => a.elim0) (m (((0 : Dev nD) : Thread nD τ).loc main_arg2) fun a => a.elim0)
  generalize m (((0 : Dev nD) : Thread nD τ).loc main_arg0) (fun a => a.elim0) = x
  generalize m (((0 : Dev nD) : Thread nD τ).loc main_arg1) (fun a => a.elim0) = y
  generalize m (((0 : Dev nD) : Thread nD τ).loc main_arg2) (fun a => a.elim0) = c
  clear hx hy hc
  funext i
  obtain ⟨j, rfl⟩ : ∃ j : Fin 6, i = fun | 0 => j := ⟨i 0, funext fun a => match a with | 0 => rfl⟩
  rcases bit x with rfl | rfl <;> rcases bit y with rfl | rfl <;> rcases bit c with rfl | rfl <;>
    (fin_cases j <;> sl_kernel_rfl)

theorem sliced : V m 0 main_v41 = (extractStridedSlice S2 ![0] (V m 0 main_v40 : (⟨S6, .i32⟩ : BufTy).Contents (Elt F)) slices_S6_S2_0 : (⟨S2, .i32⟩ : BufTy).Contents (Elt F)) := by
  show StableHlo.after hostOps0 (fun b => m (0, b)) (Proc.devRef .tc main_v41) = (extractStridedSlice S2 ![0]
    (StableHlo.after hostOps0 (fun b => m (0, b)) (Proc.devRef .tc main_v40) : (⟨S6, .i32⟩ : BufTy).Contents (Elt F)) slices_S6_S2_0 : (⟨S2, .i32⟩ : BufTy).Contents (Elt F))
  unfold hostOps0
  simp only [StableHlo.after_cons, StableHlo.after_nil]
  refine (StableHlo.unary_result ..).trans (congrArg (fun p : (⟨S6, .i32⟩ : BufTy).Contents (Elt F) => extractStridedSlice S2 ![0] p slices_S6_S2_0) (Eq.symm ?_))
  rw [StableHlo.unary_result_ne]
  rotate_left
  · decide

theorem tbl0 : tbl m 0 = words (F := F) (X m) (Y m) (C m) 0 := by
  show V m 0 main_v41 = _
  rw [sliced, all_eq]
  generalize X m = x
  generalize Y m = y
  generalize C m = c
  funext i
  obtain ⟨j, rfl⟩ : ∃ j : Fin 2, i = fun | 0 => j := ⟨i 0, funext fun a => match a with | 0 => rfl⟩
  fin_cases j <;> rfl

theorem tbl_eq : tbl m = words (F := F) (X m) (Y m) (C m) := funext fun k => match k with
  | 0 => tbl0 m

theorem ok : Ok m := by
  unfold Ok
  rw [tbl_eq]
  exact ok_words _ _ _

end Cert.Kernel20Ideal.Places

end
-- ==== Proof.MmProjHome.lean ====
/-
  The projection, at the columns held on this chip: each point of the grid computes the block of one row tile and one of the
  two places the table names. The host then sets every other column to zero.
-/
module

public import proofs.«01_k».proof.Proof.MmNN
public import proofs.«01_k».proof.Proof.Ok20Ideal
public import Idealize.ShloMosaic.Lib.Pipeline.Value
public import Idealize.ShloMosaic.Lib.Pipeline.ValueKit
public import proofs.«01_k».proof.Proof.Gen.Reference20Ideal.Read

@[expose] public section

set_option maxRecDepth 16384

noncomputable section

namespace Cert.MmProjHome

open Cert.Kernel20Ideal Cert.Kernel20Ideal.Gen Cert.Kernel20Ideal.Places Cert.Slots
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The rows. -/
abbrev A0 : Vec Ideal S2176x2048 .bf16 := m ((c : Thread nD τ).loc main_arg3)

/-- The weight of each place. -/
abbrev A1 : Vec Ideal S8x2048x896 .bf16 := m ((c : Thread nD τ).loc main_arg4)

/-- Where the blocks of each point lie, for a device at `x`, `y`, `z`. -/
theorem index_words (x y z : BitVec 1) (t : Fin grid0.N) :
    (win0 (F := Ideal) ⟨words x y z, ok_words x y z⟩ 0).index t = ![t.val / 2, 0]
    ∧ (win0 (F := Ideal) ⟨words x y z, ok_words x y z⟩ 1).index t = ![here x y z ⟨t.val % 2, Nat.mod_lt _ (by decide)⟩, 0, 0]
    ∧ (win0 (F := Ideal) ⟨words x y z, ok_words x y z⟩ 2).index t = ![t.val / 2, here x y z ⟨t.val % 2, Nat.mod_lt _ (by decide)⟩]
    ∧ (win0 (F := Ideal) ⟨words x y z, ok_words x y z⟩ 2).flush t = true := by
  revert t
  rcases bit x with rfl | rfl <;> rcases bit y with rfl | rfl <;> rcases bit z with rfl | rfl <;>
    exact of_decide_eq_true (by sl_kernel_rfl)

theorem index_adm (x y z : BitVec 1) (a : (pcfg0 (F := Ideal)).Adm) (h : a.1 = words x y z) (t : Fin grid0.N) :
    (win0 a 0).index t = ![t.val / 2, 0]
    ∧ (win0 a 1).index t = ![here x y z ⟨t.val % 2, Nat.mod_lt _ (by decide)⟩, 0, 0]
    ∧ (win0 a 2).index t = ![t.val / 2, here x y z ⟨t.val % 2, Nat.mod_lt _ (by decide)⟩]
    ∧ (win0 a 2).flush t = true := by
  obtain ⟨p, hp⟩ := a
  obtain rfl : p = words x y z := h
  exact index_words x y z t

/-- The place a point computes. -/
abbrev slot (j : Fin 2) : ℕ := here (X m) (Y m) (C m) j

theorem index_at (t : Fin (cfgM m (ok m)).N) :
    ((cfgM m (ok m)).win 0).index t = ![t.val / 2, 0]
    ∧ ((cfgM m (ok m)).win 1).index t = ![slot m ⟨t.val % 2, Nat.mod_lt _ (by decide)⟩, 0, 0]
    ∧ ((cfgM m (ok m)).win 2).index t = ![t.val / 2, slot m ⟨t.val % 2, Nat.mod_lt _ (by decide)⟩]
    ∧ ((cfgM m (ok m)).win 2).flush t = true :=
  index_adm _ _ _ (adm m (ok m)) (tbl_eq m) t

theorem slots_differ : ∀ x y z : BitVec 1, ∀ i j : Fin 2, here x y z i = here x y z j → i = j := by decide

/-- No two points share a block of the result. -/
theorem apart (t t' : Fin (cfgM m (ok m)).N) (h : ((cfgM m (ok m)).win 2).index t = ((cfgM m (ok m)).win 2).index t') : t = t' := by
  rw [(index_at m t).2.2.1, (index_at m t').2.2.1] at h
  have h0 : t.val / 2 = t'.val / 2 := congrFun h 0
  have h1 := slots_differ _ _ _ _ _ (congrFun h 1 : slot m ⟨t.val % 2, _⟩ = slot m ⟨t'.val % 2, _⟩)
  have h2 : t.val % 2 = t'.val % 2 := congrArg Fin.val h1
  exact Fin.ext (by omega)

theorem blocks (t : Fin (cfgM m (ok m)).N) :
    (((cfgM m (ok m)).win 2).blk t).view.read (Elt Ideal) ((dats m (ok m) 0 c).arrAt 2 (cfgM m (ok m)).N)
      = ((cfgM m (ok m)).win 2).cut (grid0.coords t) (outsAt0 m (ok m) c t) := by
  refine ((dats m (ok m) 0 c).read_blk_arrAt_eq_flushed 2 (fun t t' _ _ hne => ((cfgM m (ok m)).win 2).disjoint_blk fun h => hne (apart m t t' h))
    _ t t.isLt (index_at m t).2.2.2).trans ?_
  show ((cfgM m (ok m)).win 2).cut (grid0.coords t) ((dats m (ok m) 0 c).after 2 t) = _
  rw [after0_2]

theorem emb0 (a : (pcfg0 (F := Ideal)).Adm) (t : Fin (cfg0 a).N) (I : ℕ) (h : (win0 a 0).index t = ![I, 0]) (r : Fin 1088) (k : Fin 2048)
    (R : Fin 2176) (hR : R.val = I * 1088 + r.val) : (((win0 a 0).blk t).view.emb (ix2 r k) : S2176x2048.Idx) = ix2 R k := by
  funext b; apply Fin.ext
  match b with
  | ⟨0, _⟩ => exact (congrArg (· * 1088 + 1 * r.val) (congrFun h 0)).trans (by show I * 1088 + 1 * r.val = R.val; omega)
  | ⟨1, _⟩ => exact (congrArg (· * 2048 + 1 * k.val) (congrFun h 1)).trans (by show 0 * 2048 + 1 * k.val = k.val; omega)

theorem emb1 (a : (pcfg0 (F := Ideal)).Adm) (t : Fin (cfg0 a).N) (J : Fin 8) (h : (win0 a 1).index t = ![J.val, 0, 0]) (k : Fin 2048) (q : Fin 896) :
    (((win0 a 1).blk t).view.emb (ix3 0 k q) : S8x2048x896.Idx) = ix3 J k q := by
  funext b; apply Fin.ext
  match b with
  | ⟨0, _⟩ => exact (congrArg (· * 1 + 1 * 0) (congrFun h 0)).trans (by show J.val * 1 + 1 * 0 = J.val; omega)
  | ⟨1, _⟩ => exact (congrArg (· * 2048 + 1 * k.val) (congrFun h 1)).trans (by show 0 * 2048 + 1 * k.val = k.val; omega)
  | ⟨2, _⟩ => exact (congrArg (· * 896 + 1 * q.val) (congrFun h 2)).trans (by show 0 * 896 + 1 * q.val = q.val; omega)

theorem emb2 (a : (pcfg0 (F := Ideal)).Adm) (t : Fin (cfg0 a).N) (I J : ℕ) (h : (win0 a 2).index t = ![I, J]) (r : Fin 1088) (q : Fin 896)
    (R : Fin 2176) (Q : Fin 7168) (hR : R.val = I * 1088 + r.val) (hQ : Q.val = J * 896 + q.val) :
    (((win0 a 2).blk t).view.emb (ix2 r q) : S2176x7168.Idx) = ix2 R Q := by
  funext b; apply Fin.ext
  match b with
  | ⟨0, _⟩ => exact (congrArg (· * 1088 + 1 * r.val) (congrFun h 0)).trans (by show I * 1088 + 1 * r.val = R.val; omega)
  | ⟨1, _⟩ => exact (congrArg (· * 896 + 1 * q.val) (congrFun h 1)).trans (by show J * 896 + 1 * q.val = Q.val; omega)

theorem col2 (a : (pcfg0 (F := Ideal)).Adm) (t : Fin (cfg0 a).N) (I J : ℕ) (h : (win0 a 2).index t = ![I, J]) (y : S1088x896.Idx)
    (i : S2176x7168.Idx) (e : ((win0 a 2).blk t).view.emb y = i) : (i 1).val / 896 = J := by
  obtain rfl : ((win0 a 2).blk t).view.emb y = i := e
  have h1 : (((win0 a 2).blk t).view.emb y (1 : Fin 2)).val = J * 896 + 1 * (y 1).val := congrArg (· * 896 + 1 * (y 1).val) (congrFun h 1)
  have h2 : (y 1).val < 896 := (y 1).isLt
  refine (congrArg (· / 896) h1).trans ?_
  show (J * 896 + 1 * (y 1).val) / 896 = J
  omega

theorem blk0 (t : Fin (cfgM m (ok m)).N) (r : Fin 1088) (k : Fin 2048) (R : Fin 2176) (h : R.val = t.val / 2 * 1088 + r.val) :
    iblk m (ok m) c 0 t (ix2 r k) = A0 m c (ix2 R k) := by
  unfold A0
  rw [← V_main_arg3 m c]
  exact congrArg (V m c main_arg3) (emb0 _ t _ (index_at m t).1 r k R h)

theorem blk1 (t : Fin (cfgM m (ok m)).N) (k : Fin 2048) (q : Fin 896) (J : Fin 8) (h : J.val = slot m ⟨t.val % 2, Nat.mod_lt _ (by decide)⟩) :
    iblk m (ok m) c 1 t (ix3 0 k q) = A1 m c (ix3 J k q) := by
  unfold A1
  rw [← V_main_arg4 m c]
  exact congrArg (V m c main_arg4) (emb1 _ t J ((index_at m t).2.1.trans (by rw [h])) k q)

theorem pay_apply (x0 : Vec Ideal S1088x2048 .bf16) (x1 : Vec Ideal S1x2048x896 .bf16) (r : Fin 1088) (q : Fin 896) :
    k0_pay1 x0 x1 (ix2 r q) = (∑ k : Fin 2048, x0 (ix2 r k) * x1 (ix3 0 k q)) := by
  refine ((Cert.Mm.nn_apply (φ₁ := .bf16) (φ₂ := .bf16) _ none x0 (shapeCast S2048x896 x1 shapeCasts_S1x2048x896_S2048x896) r q).trans ?_)
  refine Finset.sum_congr rfl fun k _ => congrArg (x0 (ix2 r k) * ·) ?_
  exact shapeCast_apply x1 shapeCasts_S1x2048x896_S2048x896 (ix2 k q) (ix3 0 k q) (by
    rewrite [Shape.rowMajor_val_two, Shape.rowMajor_val_three]
    show (0 * 2048 + k.val) * 896 + q.val = k.val * 896 + q.val
    omega)

theorem out_A (i : grid0.Coords) (a3 : Memref sig .tc .vmem S1088x2048 .bf16) (h3 : a3.IsWhole) (a4 : Memref sig .tc .vmem S1x2048x896 .bf16)
    (h4 : a4.IsWhole) (a6 : Memref sig .tc .vmem S1088x896 .f32) (h6 : a6.IsWhole)
    (x0 : Vec Ideal S1088x2048 .bf16) (x1 : Vec Ideal S1x2048x896 .bf16) (xt) (r : Fin 1088) (q : Fin 896) :
    out0_A_2 c i a3 h3 a4 h4 a6 h6 x0 x1 xt (ix2 r q) = (∑ k : Fin 2048, x0 (ix2 r k) * x1 (ix3 0 k q)) := by
  unfold out0_A_2
  frame_out
  exact pay_apply x0 x1 r q

/-- The place of a column. -/
abbrev home (Q : Fin 7168) : Fin 8 := ⟨Q.val / 896, by omega⟩

/-- The entry of the product. -/
def entry (R : Fin 2176) (Q : Fin 7168) : EReal :=
  (∑ k : Fin 2048, A0 m c (ix2 R k) * A1 m c (ix3 (home Q) k ⟨Q.val % 896, Nat.mod_lt _ (by decide)⟩))

theorem point (v : ℕ) (h : v < 4) : ∃ t : Fin (cfgM m (ok m)).N, t.val = v := ⟨⟨v, h⟩, rfl⟩

theorem cut2 (a : (pcfg0 (F := Ideal)).Adm) (i : grid0.Coords) (f : Vec Ideal S1088x896 .f32) (y : S1088x896.Idx) :
    ((win0 a 2).cut i f : S1088x896.Idx → Elt Ideal .f32) y = f y := rfl

theorem read2 (a : (pcfg0 (F := Ideal)).Adm) (t : Fin (cfg0 a).N) (f : Vec Ideal S2176x7168 .f32) (y : S1088x896.Idx) (i : S2176x7168.Idx)
    (e : ((win0 a 2).blk t).view.emb y = i) : (((win0 a 2).blk t).view.read (Elt Ideal) f : S1088x896.Idx → Elt Ideal .f32) y = f i := by
  obtain rfl : ((win0 a 2).blk t).view.emb y = i := e
  rfl

/-- The two blocks that a point reads. -/
abbrev X0 (t : Fin (cfgM m (ok m)).N) : Vec Ideal S1088x2048 .bf16 := iblk m (ok m) c 0 t
abbrev X1 (t : Fin (cfgM m (ok m)).N) : Vec Ideal S1x2048x896 .bf16 := iblk m (ok m) c 1 t

/-- The result's entry in a point's block. -/
theorem block_entry (t : Fin (cfgM m (ok m)).N) (r : Fin 1088) (q : Fin 896) (i : S2176x7168.Idx)
    (e : (((cfgM m (ok m)).win 2).blk t).view.emb (ix2 r q) = i) :
    (dats m (ok m) 0 c).arrAt 2 (cfgM m (ok m)).N i = (∑ k : Fin 2048, X0 m c t (ix2 r k) * X1 m c t (ix3 0 k q) : EReal) := by
  have h1 := read2 (adm m (ok m)) t ((dats m (ok m) 0 c).arrAt 2 (cfgM m (ok m)).N) (ix2 r q) i e
  have h2 := cut2 (adm m (ok m)) (grid0.coords t) (outsAt0 m (ok m) c t) (ix2 r q)
  have h3 := congrFun (blocks m c t) (ix2 r q)
  have h4 : outsAt0 m (ok m) c t (ix2 r q) = (∑ k : Fin 2048, X0 m c t (ix2 r k) * X1 m c t (ix3 0 k q) : EReal) :=
    out_A c _ _ _ _ _ _ _ (X0 m c t) (X1 m c t) _ _ _
  exact h1.symm.trans (h3.trans (h2.trans h4))

/-- The result's entry at a column that the table names. -/
theorem final (R : Fin 2176) (Q : Fin 7168) (j : Fin 2) (hj : slot m j = Q.val / 896) :
    (dats m (ok m) 0 c).arrAt 2 (cfgM m (ok m)).N (ix2 R Q : S2176x7168.Idx) = entry m c R Q := by
  have hR := R.isLt
  obtain ⟨t, ht⟩ := point m (2 * (R.val / 1088) + j.val) (by omega)
  have t0 : t.val / 2 = R.val / 1088 := by omega
  have t1 : (⟨t.val % 2, Nat.mod_lt _ (by decide)⟩ : Fin 2) = j := Fin.ext (by show t.val % 2 = _; omega)
  have hr : R.val = t.val / 2 * 1088 + R.val % 1088 := by rw [t0]; omega
  have hq : Q.val = slot m ⟨t.val % 2, Nat.mod_lt _ (by decide)⟩ * 896 + Q.val % 896 := by rw [t1, hj]; omega
  have e := emb2 (adm m (ok m)) t _ _ (index_at m t).2.2.1 ⟨R.val % 1088, by omega⟩ ⟨Q.val % 896, by omega⟩ R Q hr hq
  refine (block_entry m c t _ _ _ e).trans (show (_ : EReal) = _ from ?_)
  refine Finset.sum_congr rfl fun k _ => congrArg₂ (· * ·) (blk0 m c t _ k R hr) (blk1 m c t k _ (home Q) ?_)
  rw [t1, hj]

/-- The chips whose columns are computed. -/
abbrev Hit (x y : BitVec 1) (ch : ℕ) : Prop := ∃ j, here x y 0#1 j / 2 = ch

theorem mask_bits (x y : BitVec 1) (ch : Fin 4) : Cert.Reference20Ideal.Read.val_main_v6 (F := Ideal) (fun _ => x) (fun _ => y) (ix1 ch)
    = if Hit x y ch.val then 1#1 else 0#1 := by
  revert ch
  rcases bit x with rfl | rfl <;> rcases bit y with rfl | rfl <;> exact of_decide_eq_true (by sl_kernel_rfl)

theorem named : ∀ x y z : BitVec 1, ∀ s : Fin 8, Hit x y (s.val / 2) → ∃ j, here x y z j = s.val := by decide

theorem select_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

/-- The columns that the reference keeps. -/
theorem mask (b0 b1 : (⟨S_, .i1⟩ : BufTy).Contents (Elt Ideal)) (R : Fin 2176) (Q : Fin 7168) :
    Cert.Reference20Ideal.Read.val_main_call0_v1 (F := Ideal) b0 b1 (ix2 R Q)
      = if Hit (b0 fun a => a.elim0) (b1 fun a => a.elim0) (Q.val / 896 / 2) then 1#1 else 0#1 := by
  rw [Cert.Reference20Ideal.Read.val_main_call0_v1_apply,
    Cert.Reference20Ideal.Read.val_main_v9_apply,
    Cert.Reference20Ideal.Read.val_main_v8_apply,
    Cert.Reference20Ideal.Read.val_main_v7_apply,
    scalar (F := Ideal) b0, scalar (F := Ideal) b1]
  refine ((congrArg _ (eq_ix1 _)).trans (mask_bits _ _ ⟨Q.val / 1792, by omega⟩)).trans ?_
  have : Q.val / 896 / 2 = Q.val / 1792 := by omega
  rw [this]

theorem product (R : Fin 2176) (Q : Fin 7168) :
    Cert.Reference20Ideal.Read.val_main_v14 (F := Ideal) (A0 m c) (A1 m c) (ix2 R Q) = entry m c R Q := by
  refine (Cert.Reference20Ideal.Read.val_main_v14_apply _ _ _).trans ?_
  refine Finset.sum_congr rfl fun k _ => congrArg₂ (· * ·) (congrArg (A0 m c) (eq_ix2 _)) ?_
  refine (Cert.Reference20Ideal.Read.val_main_v12_apply _ _).trans ((Cert.Reference20Ideal.Read.val_main_v11_apply _ _).trans (congrArg (A1 m c) ?_))
  have hk := k.isLt
  have hQ := Q.isLt
  funext b; apply Fin.ext
  match b with
  | ⟨0, _⟩ => show (k.val * 7168 + Q.val) / 896 % 8 = Q.val / 896; omega
  | ⟨1, _⟩ => show (k.val * 7168 + Q.val) / 7168 = k.val; omega
  | ⟨2, _⟩ => show (k.val * 7168 + Q.val) % 896 = Q.val % 896; omega

/-- An array with the columns that no point writes set to zero. -/
def masked (x y : (⟨S_, .i1⟩ : BufTy).Contents (Elt Ideal)) (f : Vec Ideal S2176x7168 .f32) : Vec Ideal S2176x7168 .f32 := fun i =>
  Scalar.select (Cert.Reference20Ideal.Read.val_main_call0_v1 (F := Ideal) x y i) (f i) (Cert.Reference20Ideal.Read.val_main_call0_v2 (F := Ideal) i)

/-- What the run leaves in its result. -/
def result : Vec Ideal S2176x7168 .f32 := masked (m ((c : Thread nD τ).loc main_arg0)) (m ((c : Thread nD τ).loc main_arg1))
  ((dats m (ok m) 0 c).arrAt 2 (cfgM m (ok m)).N)

/-- What the host's last lines make of any buffers. -/
theorem masks (W : Valuation τ sig (Elt Ideal)) : StableHlo.after (List.flatten [hostOps1, hostOps1_1]) W (Proc.devRef .tc main_v53)
    = masked (W (Proc.devRef .tc main_arg0)) (W (Proc.devRef .tc main_arg1)) (W (Proc.devRef .tc main_v42)) := by
  simp only [hostOps1, hostOps1_1, List.flatten_cons, List.flatten_nil, List.append_nil, List.cons_append, List.nil_append]
  after_results
  rfl

/-- The buffers as the host finds them after the region. -/
abbrev left : Valuation τ sig (Elt Ideal) :=
  Pipeline.withArrays spec0 c (V0 m c) fun w => (dats m (ok m) 0 c).arrAt w (cfgM m (ok m)).N

theorem left_array : left m c (Proc.devRef .tc main_v42) = ((dats m (ok m) 0 c).arrAt 2 (cfgM m (ok m)).N : Vec Ideal S2176x7168 .f32) :=
  Pipeline.withArrays_arr spec0 (by exact of_decide_eq_true (by sl_kernel_rfl)) c (V0 m c) _ 2

theorem left_x : left m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem left_y : left m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem ended : StableHlo.after (List.flatten [hostOps1, hostOps1_1]) (left m c) (Proc.devRef .tc main_v53) = result m c :=
  (masks (left m c)).trans ((congrArg₂ (fun x y => masked x y _) (left_x m c) (left_y m c)).trans (congrArg (masked _ _) (left_array m c)))

/-- The reference's result is the kernel's. -/
theorem same : Cert.Reference20Ideal.Read.val_main_v15 (F := Ideal) (m ((c : Thread nD τ).loc main_arg0)) (m ((c : Thread nD τ).loc main_arg1))
    (A0 m c) (A1 m c) = result m c := by
  funext i
  obtain ⟨R, Q, rfl⟩ : ∃ (R : Fin 2176) (Q : Fin 7168), i = ix2 R Q := ⟨i 0, i 1, eq_ix2 i⟩
  obtain rfl : c = 0 := Subsingleton.elim _ _
  refine (Cert.Reference20Ideal.Read.val_main_v15_apply _ _ _ _ _).trans ?_
  unfold result masked
  refine (congrArg₂ (fun u v => Scalar.select u v (Cert.Reference20Ideal.Read.val_main_call0_v2 (F := Ideal) (ix2 R Q))) (mask _ _ R Q) (product m 0 R Q)).trans ((select_bit _ _ _).trans ?_)
  refine Eq.symm ((congrArg (fun u => Scalar.select u _ (Cert.Reference20Ideal.Read.val_main_call0_v2 (F := Ideal) (ix2 R Q))) (mask _ _ R Q)).trans ((select_bit _ _ _).trans ?_))
  by_cases h : Hit (X m) (Y m) (Q.val / 896 / 2)
  · obtain ⟨j, hj⟩ := named _ _ (C m) (home Q) h
    exact (if_pos h).trans ((final m 0 R Q j hj).trans (if_pos h).symm)
  · exact (if_neg h).trans (if_neg h).symm

/-- Every run ends with the result read above and the arguments as they were. -/
theorem run : θ_run defs (onTc (τ := τ) (main (F := Ideal))) ⟨m, fun _ => 0, ρ⟩ fun r => ∀ c : Dev nD,
      r.2.mem ((c : Thread nD τ).loc main_v53) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have h1 : θ_run defs (onTc (τ := τ) (main (F := Ideal))) ⟨m, fun _ => 0, ρ⟩ fun r => ∀ c : Dev nD,
      r.2.mem ((c : Thread nD τ).loc main_v53) = result m c :=
    (θ_run defs _ _).mono (fun _ h c => ((h c).2 main_v53 (by decide : main_v53 ∈ Pipeline.restRefs sig spec0)).trans (ended m c)) (run_main m ρ (ok m))
  exact (θ_run defs _ _).mono (fun _ h c => ⟨h.1 c, h.2.1 c⟩) (θ_run_and h1 (Gen.frame m ρ (ok m)))

end Cert.MmProjHome

end
-- ==== Proof.Ok21Ideal.lean ====
/-
  The table that `Kernel21Ideal` prefetches holds the places of the chip opposite, and every block it names lies inside its array.
-/
module

public import proofs.«01_k».proof.Proof.Gen.Kernel21Ideal.Frame
public import proofs.«01_k».proof.Proof.Slots

@[expose] public section

set_option maxRecDepth 16384

noncomputable section

namespace Cert.Kernel21Ideal.Places

open Cert.Kernel21Ideal Cert.Kernel21Ideal.Gen Cert.Slots
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S2.Idx => BitVec.ofNat 32 (far x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

theorem scalar (b : (⟨S_, .i1⟩ : BufTy).Contents (Elt F)) : b = fun _ => b (fun a => a.elim0) :=
  funext fun i => congrArg b (funext fun a => a.elim0)

theorem tbl0 : tbl m 0 = words (F := F) (X m) (Y m) (C m) 0 := by
  show V m 0 main_v18 = _
  unfold V hostOps0
  after_results
  have hx := scalar (F := F) (m (((0 : Dev nD) : Thread nD τ).loc main_arg0))
  have hy := scalar (F := F) (m (((0 : Dev nD) : Thread nD τ).loc main_arg1))
  have hc := scalar (F := F) (m (((0 : Dev nD) : Thread nD τ).loc main_arg2))
  rw [hx, hy, hc]
  show _ = words (F := F) (m (((0 : Dev nD) : Thread nD τ).loc main_arg0) fun a => a.elim0)
    (m (((0 : Dev nD) : Thread nD τ).loc main_arg1) fun a => a.elim0) (m (((0 : Dev nD) : Thread nD τ).loc main_arg2) fun a => a.elim0) 0
  generalize m (((0 : Dev nD) : Thread nD τ).loc main_arg0) (fun a => a.elim0) = x
  generalize m (((0 : Dev nD) : Thread nD τ).loc main_arg1) (fun a => a.elim0) = y
  generalize m (((0 : Dev nD) : Thread nD τ).loc main_arg2) (fun a => a.elim0) = c
  clear hx hy hc
  funext i
  obtain ⟨j, rfl⟩ : ∃ j : Fin 2, i = fun | 0 => j := ⟨i 0, funext fun a => match a with | 0 => rfl⟩
  rcases bit x with rfl | rfl <;> rcases bit y with rfl | rfl <;> rcases bit c with rfl | rfl <;>
    (fin_cases j <;> sl_kernel_rfl)

theorem tbl_eq : tbl m = words (F := F) (X m) (Y m) (C m) := funext fun k => match k with
  | 0 => tbl0 m

theorem ok : Ok m := by
  unfold Ok
  rw [tbl_eq]
  exact ok_words _ _ _

end Cert.Kernel21Ideal.Places

end
-- ==== Proof.MmProjFar.lean ====
/-
  The projection, at the columns held on the chip opposite: each point of the grid computes the block of one row tile and one
  of the two places the table names, and every other column keeps what it had.
-/
module

public import proofs.«01_k».proof.Proof.MmNN
public import proofs.«01_k».proof.Proof.Ok21Ideal
public import Idealize.ShloMosaic.Lib.Pipeline.Value
public import Idealize.ShloMosaic.Lib.Pipeline.ValueKit
public import proofs.«01_k».proof.Proof.Gen.Reference21Ideal.Read

@[expose] public section

set_option maxRecDepth 16384

noncomputable section

namespace Cert.MmProjFar

open Cert.Kernel21Ideal Cert.Kernel21Ideal.Gen Cert.Kernel21Ideal.Places Cert.Slots
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The rows. -/
abbrev A0 : Vec Ideal S2176x2048 .bf16 := m ((c : Thread nD τ).loc main_arg3)

/-- The weight of each place. -/
abbrev A1 : Vec Ideal S8x2048x896 .bf16 := m ((c : Thread nD τ).loc main_arg4)

/-- What the array held before. -/
abbrev A2 : Vec Ideal S2176x7168 .f32 := m ((c : Thread nD τ).loc main_arg5)

/-- Where the blocks of each point lie, for a device at `x`, `y`, `z`. -/
theorem index_words (x y z : BitVec 1) (t : Fin grid0.N) :
    (win0 (F := Ideal) ⟨words x y z, ok_words x y z⟩ 0).index t = ![t.val / 2, 0]
    ∧ (win0 (F := Ideal) ⟨words x y z, ok_words x y z⟩ 1).index t = ![far x y z ⟨t.val % 2, Nat.mod_lt _ (by decide)⟩, 0, 0]
    ∧ (win0 (F := Ideal) ⟨words x y z, ok_words x y z⟩ 2).index t = ![t.val / 2, far x y z ⟨t.val % 2, Nat.mod_lt _ (by decide)⟩]
    ∧ (win0 (F := Ideal) ⟨words x y z, ok_words x y z⟩ 2).flush t = true := by
  revert t
  rcases bit x with rfl | rfl <;> rcases bit y with rfl | rfl <;> rcases bit z with rfl | rfl <;>
    exact of_decide_eq_true (by sl_kernel_rfl)

theorem index_adm (x y z : BitVec 1) (a : (pcfg0 (F := Ideal)).Adm) (h : a.1 = words x y z) (t : Fin grid0.N) :
    (win0 a 0).index t = ![t.val / 2, 0]
    ∧ (win0 a 1).index t = ![far x y z ⟨t.val % 2, Nat.mod_lt _ (by decide)⟩, 0, 0]
    ∧ (win0 a 2).index t = ![t.val / 2, far x y z ⟨t.val % 2, Nat.mod_lt _ (by decide)⟩]
    ∧ (win0 a 2).flush t = true := by
  obtain ⟨p, hp⟩ := a
  obtain rfl : p = words x y z := h
  exact index_words x y z t

/-- The place a point computes. -/
abbrev slot (j : Fin 2) : ℕ := far (X m) (Y m) (C m) j

theorem index_at (t : Fin (cfgM m (ok m)).N) :
    ((cfgM m (ok m)).win 0).index t = ![t.val / 2, 0]
    ∧ ((cfgM m (ok m)).win 1).index t = ![slot m ⟨t.val % 2, Nat.mod_lt _ (by decide)⟩, 0, 0]
    ∧ ((cfgM m (ok m)).win 2).index t = ![t.val / 2, slot m ⟨t.val % 2, Nat.mod_lt _ (by decide)⟩]
    ∧ ((cfgM m (ok m)).win 2).flush t = true :=
  index_adm _ _ _ (adm m (ok m)) (tbl_eq m) t

theorem slots_differ : ∀ x y z : BitVec 1, ∀ i j : Fin 2, far x y z i = far x y z j → i = j := by decide

/-- No two points share a block of the result. -/
theorem apart (t t' : Fin (cfgM m (ok m)).N) (h : ((cfgM m (ok m)).win 2).index t = ((cfgM m (ok m)).win 2).index t') : t = t' := by
  rw [(index_at m t).2.2.1, (index_at m t').2.2.1] at h
  have h0 : t.val / 2 = t'.val / 2 := congrFun h 0
  have h1 := slots_differ _ _ _ _ _ (congrFun h 1 : slot m ⟨t.val % 2, _⟩ = slot m ⟨t'.val % 2, _⟩)
  have h2 : t.val % 2 = t'.val % 2 := congrArg Fin.val h1
  exact Fin.ext (by omega)

theorem blocks (t : Fin (cfgM m (ok m)).N) :
    (((cfgM m (ok m)).win 2).blk t).view.read (Elt Ideal) ((dats m (ok m) 0 c).arrAt 2 (cfgM m (ok m)).N)
      = ((cfgM m (ok m)).win 2).cut (grid0.coords t) (outsAt0 m (ok m) c t) := by
  refine ((dats m (ok m) 0 c).read_blk_arrAt_eq_flushed 2 (fun t t' _ _ hne => ((cfgM m (ok m)).win 2).disjoint_blk fun h => hne (apart m t t' h))
    _ t t.isLt (index_at m t).2.2.2).trans ?_
  show ((cfgM m (ok m)).win 2).cut (grid0.coords t) ((dats m (ok m) 0 c).after 2 t) = _
  rw [after0_2]

theorem emb0 (a : (pcfg0 (F := Ideal)).Adm) (t : Fin (cfg0 a).N) (I : ℕ) (h : (win0 a 0).index t = ![I, 0]) (r : Fin 1088) (k : Fin 2048)
    (R : Fin 2176) (hR : R.val = I * 1088 + r.val) : (((win0 a 0).blk t).view.emb (ix2 r k) : S2176x2048.Idx) = ix2 R k := by
  funext b; apply Fin.ext
  match b with
  | ⟨0, _⟩ => exact (congrArg (· * 1088 + 1 * r.val) (congrFun h 0)).trans (by show I * 1088 + 1 * r.val = R.val; omega)
  | ⟨1, _⟩ => exact (congrArg (· * 2048 + 1 * k.val) (congrFun h 1)).trans (by show 0 * 2048 + 1 * k.val = k.val; omega)

theorem emb1 (a : (pcfg0 (F := Ideal)).Adm) (t : Fin (cfg0 a).N) (J : Fin 8) (h : (win0 a 1).index t = ![J.val, 0, 0]) (k : Fin 2048) (q : Fin 896) :
    (((win0 a 1).blk t).view.emb (ix3 0 k q) : S8x2048x896.Idx) = ix3 J k q := by
  funext b; apply Fin.ext
  match b with
  | ⟨0, _⟩ => exact (congrArg (· * 1 + 1 * 0) (congrFun h 0)).trans (by show J.val * 1 + 1 * 0 = J.val; omega)
  | ⟨1, _⟩ => exact (congrArg (· * 2048 + 1 * k.val) (congrFun h 1)).trans (by show 0 * 2048 + 1 * k.val = k.val; omega)
  | ⟨2, _⟩ => exact (congrArg (· * 896 + 1 * q.val) (congrFun h 2)).trans (by show 0 * 896 + 1 * q.val = q.val; omega)

theorem emb2 (a : (pcfg0 (F := Ideal)).Adm) (t : Fin (cfg0 a).N) (I J : ℕ) (h : (win0 a 2).index t = ![I, J]) (r : Fin 1088) (q : Fin 896)
    (R : Fin 2176) (Q : Fin 7168) (hR : R.val = I * 1088 + r.val) (hQ : Q.val = J * 896 + q.val) :
    (((win0 a 2).blk t).view.emb (ix2 r q) : S2176x7168.Idx) = ix2 R Q := by
  funext b; apply Fin.ext
  match b with
  | ⟨0, _⟩ => exact (congrArg (· * 1088 + 1 * r.val) (congrFun h 0)).trans (by show I * 1088 + 1 * r.val = R.val; omega)
  | ⟨1, _⟩ => exact (congrArg (· * 896 + 1 * q.val) (congrFun h 1)).trans (by show J * 896 + 1 * q.val = Q.val; omega)

theorem col2 (a : (pcfg0 (F := Ideal)).Adm) (t : Fin (cfg0 a).N) (I J : ℕ) (h : (win0 a 2).index t = ![I, J]) (y : S1088x896.Idx)
    (i : S2176x7168.Idx) (e : ((win0 a 2).blk t).view.emb y = i) : (i 1).val / 896 = J := by
  obtain rfl : ((win0 a 2).blk t).view.emb y = i := e
  have h1 : (((win0 a 2).blk t).view.emb y (1 : Fin 2)).val = J * 896 + 1 * (y 1).val := congrArg (· * 896 + 1 * (y 1).val) (congrFun h 1)
  have h2 : (y 1).val < 896 := (y 1).isLt
  refine (congrArg (· / 896) h1).trans ?_
  show (J * 896 + 1 * (y 1).val) / 896 = J
  omega

theorem blk0 (t : Fin (cfgM m (ok m)).N) (r : Fin 1088) (k : Fin 2048) (R : Fin 2176) (h : R.val = t.val / 2 * 1088 + r.val) :
    iblk m (ok m) c 0 t (ix2 r k) = A0 m c (ix2 R k) := by
  unfold A0
  rw [← V_main_arg3 m c]
  exact congrArg (V m c main_arg3) (emb0 _ t _ (index_at m t).1 r k R h)

theorem blk1 (t : Fin (cfgM m (ok m)).N) (k : Fin 2048) (q : Fin 896) (J : Fin 8) (h : J.val = slot m ⟨t.val % 2, Nat.mod_lt _ (by decide)⟩) :
    iblk m (ok m) c 1 t (ix3 0 k q) = A1 m c (ix3 J k q) := by
  unfold A1
  rw [← V_main_arg4 m c]
  exact congrArg (V m c main_arg4) (emb1 _ t J ((index_at m t).2.1.trans (by rw [h])) k q)

theorem pay_apply (x0 : Vec Ideal S1088x2048 .bf16) (x1 : Vec Ideal S1x2048x896 .bf16) (r : Fin 1088) (q : Fin 896) :
    k0_pay1 x0 x1 (ix2 r q) = (∑ k : Fin 2048, x0 (ix2 r k) * x1 (ix3 0 k q)) := by
  refine ((Cert.Mm.nn_apply (φ₁ := .bf16) (φ₂ := .bf16) _ none x0 (shapeCast S2048x896 x1 shapeCasts_S1x2048x896_S2048x896) r q).trans ?_)
  refine Finset.sum_congr rfl fun k _ => congrArg (x0 (ix2 r k) * ·) ?_
  exact shapeCast_apply x1 shapeCasts_S1x2048x896_S2048x896 (ix2 k q) (ix3 0 k q) (by
    rewrite [Shape.rowMajor_val_two, Shape.rowMajor_val_three]
    show (0 * 2048 + k.val) * 896 + q.val = k.val * 896 + q.val
    omega)

theorem out_A (i : grid0.Coords) (a3 : Memref sig .tc .vmem S1088x2048 .bf16) (h3 : a3.IsWhole) (a4 : Memref sig .tc .vmem S1x2048x896 .bf16)
    (h4 : a4.IsWhole) (a6 : Memref sig .tc .vmem S1088x896 .f32) (h6 : a6.IsWhole)
    (x0 : Vec Ideal S1088x2048 .bf16) (x1 : Vec Ideal S1x2048x896 .bf16) (xt) (r : Fin 1088) (q : Fin 896) :
    out0_A_2 c i a3 h3 a4 h4 a6 h6 x0 x1 xt (ix2 r q) = (∑ k : Fin 2048, x0 (ix2 r k) * x1 (ix3 0 k q)) := by
  unfold out0_A_2
  frame_out
  exact pay_apply x0 x1 r q

/-- The place of a column. -/
abbrev home (Q : Fin 7168) : Fin 8 := ⟨Q.val / 896, by omega⟩

/-- The entry of the product. -/
def entry (R : Fin 2176) (Q : Fin 7168) : EReal :=
  (∑ k : Fin 2048, A0 m c (ix2 R k) * A1 m c (ix3 (home Q) k ⟨Q.val % 896, Nat.mod_lt _ (by decide)⟩))

theorem point (v : ℕ) (h : v < 4) : ∃ t : Fin (cfgM m (ok m)).N, t.val = v := ⟨⟨v, h⟩, rfl⟩

theorem cut2 (a : (pcfg0 (F := Ideal)).Adm) (i : grid0.Coords) (f : Vec Ideal S1088x896 .f32) (y : S1088x896.Idx) :
    ((win0 a 2).cut i f : S1088x896.Idx → Elt Ideal .f32) y = f y := rfl

theorem read2 (a : (pcfg0 (F := Ideal)).Adm) (t : Fin (cfg0 a).N) (f : Vec Ideal S2176x7168 .f32) (y : S1088x896.Idx) (i : S2176x7168.Idx)
    (e : ((win0 a 2).blk t).view.emb y = i) : (((win0 a 2).blk t).view.read (Elt Ideal) f : S1088x896.Idx → Elt Ideal .f32) y = f i := by
  obtain rfl : ((win0 a 2).blk t).view.emb y = i := e
  rfl

/-- The two blocks that a point reads. -/
abbrev X0 (t : Fin (cfgM m (ok m)).N) : Vec Ideal S1088x2048 .bf16 := iblk m (ok m) c 0 t
abbrev X1 (t : Fin (cfgM m (ok m)).N) : Vec Ideal S1x2048x896 .bf16 := iblk m (ok m) c 1 t

/-- The result's entry in a point's block. -/
theorem block_entry (t : Fin (cfgM m (ok m)).N) (r : Fin 1088) (q : Fin 896) (i : S2176x7168.Idx)
    (e : (((cfgM m (ok m)).win 2).blk t).view.emb (ix2 r q) = i) :
    (dats m (ok m) 0 c).arrAt 2 (cfgM m (ok m)).N i = (∑ k : Fin 2048, X0 m c t (ix2 r k) * X1 m c t (ix3 0 k q) : EReal) := by
  have h1 := read2 (adm m (ok m)) t ((dats m (ok m) 0 c).arrAt 2 (cfgM m (ok m)).N) (ix2 r q) i e
  have h2 := cut2 (adm m (ok m)) (grid0.coords t) (outsAt0 m (ok m) c t) (ix2 r q)
  have h3 := congrFun (blocks m c t) (ix2 r q)
  have h4 : outsAt0 m (ok m) c t (ix2 r q) = (∑ k : Fin 2048, X0 m c t (ix2 r k) * X1 m c t (ix3 0 k q) : EReal) :=
    out_A c _ _ _ _ _ _ _ (X0 m c t) (X1 m c t) _ _ _
  exact h1.symm.trans (h3.trans (h2.trans h4))

/-- The result's entry at a column that the table names. -/
theorem final (R : Fin 2176) (Q : Fin 7168) (j : Fin 2) (hj : slot m j = Q.val / 896) :
    (dats m (ok m) 0 c).arrAt 2 (cfgM m (ok m)).N (ix2 R Q : S2176x7168.Idx) = entry m c R Q := by
  have hR := R.isLt
  obtain ⟨t, ht⟩ := point m (2 * (R.val / 1088) + j.val) (by omega)
  have t0 : t.val / 2 = R.val / 1088 := by omega
  have t1 : (⟨t.val % 2, Nat.mod_lt _ (by decide)⟩ : Fin 2) = j := Fin.ext (by show t.val % 2 = _; omega)
  have hr : R.val = t.val / 2 * 1088 + R.val % 1088 := by rw [t0]; omega
  have hq : Q.val = slot m ⟨t.val % 2, Nat.mod_lt _ (by decide)⟩ * 896 + Q.val % 896 := by rw [t1, hj]; omega
  have e := emb2 (adm m (ok m)) t _ _ (index_at m t).2.2.1 ⟨R.val % 1088, by omega⟩ ⟨Q.val % 896, by omega⟩ R Q hr hq
  refine (block_entry m c t _ _ _ e).trans (show (_ : EReal) = _ from ?_)
  refine Finset.sum_congr rfl fun k _ => congrArg₂ (· * ·) (blk0 m c t _ k R hr) (blk1 m c t k _ (home Q) ?_)
  rw [t1, hj]

theorem entered : V m c main_v19 = A2 m c := by
  unfold V hostOps0
  after_results
  try rfl

/-- Any other column keeps what it had. -/
theorem kept (R : Fin 2176) (Q : Fin 7168) (hj : ∀ j, slot m j ≠ Q.val / 896) :
    (dats m (ok m) 0 c).arrAt 2 (cfgM m (ok m)).N (ix2 R Q : S2176x7168.Idx) = A2 m c (ix2 R Q) := by
  refine ((dats m (ok m) 0 c).arrAt_apply_of_forall_not_mem 2 (cfgM m (ok m)).N (ix2 R Q) (fun t _ _ hi => ?_)).trans ?_
  · obtain ⟨y, -, hy⟩ := Finset.mem_map.1 hi
    exact hj _ (col2 (adm m (ok m)) t _ _ (index_at m t).2.2.1 y (ix2 R Q) hy).symm
  · rw [A_eq]
    exact congrFun (entered m c) _

/-- The chips whose columns are computed. -/
abbrev Hit (x y : BitVec 1) (ch : ℕ) : Prop := ∃ j, far x y 0#1 j / 2 = ch

theorem mask_bits (x y : BitVec 1) (ch : Fin 4) : Cert.Reference21Ideal.Read.val_main_v8 (F := Ideal) (fun _ => x) (fun _ => y) (ix1 ch)
    = if Hit x y ch.val then 1#1 else 0#1 := by
  revert ch
  rcases bit x with rfl | rfl <;> rcases bit y with rfl | rfl <;> exact of_decide_eq_true (by sl_kernel_rfl)

theorem named : ∀ x y z : BitVec 1, ∀ s : Fin 8, Hit x y (s.val / 2) → ∃ j, far x y z j = s.val := by decide

theorem unnamed : ∀ x y z : BitVec 1, ∀ s : Fin 8, ¬ Hit x y (s.val / 2) → ∀ j, far x y z j ≠ s.val := by decide

theorem select_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

/-- The columns that the reference replaces. -/
theorem mask (b0 b1 : (⟨S_, .i1⟩ : BufTy).Contents (Elt Ideal)) (R : Fin 2176) (Q : Fin 7168) :
    Cert.Reference21Ideal.Read.val_main_call0_v0 (F := Ideal) b0 b1 (ix2 R Q)
      = if Hit (b0 fun a => a.elim0) (b1 fun a => a.elim0) (Q.val / 896 / 2) then 1#1 else 0#1 := by
  rw [Cert.Reference21Ideal.Read.val_main_call0_v0_apply,
    Cert.Reference21Ideal.Read.val_main_v11_apply,
    Cert.Reference21Ideal.Read.val_main_v10_apply,
    Cert.Reference21Ideal.Read.val_main_v9_apply,
    scalar (F := Ideal) b0, scalar (F := Ideal) b1]
  refine ((congrArg _ (eq_ix1 _)).trans (mask_bits _ _ ⟨Q.val / 1792, by omega⟩)).trans ?_
  have : Q.val / 896 / 2 = Q.val / 1792 := by omega
  rw [this]

theorem product (R : Fin 2176) (Q : Fin 7168) :
    Cert.Reference21Ideal.Read.val_main_v16 (F := Ideal) (A0 m c) (A1 m c) (ix2 R Q) = entry m c R Q := by
  refine (Cert.Reference21Ideal.Read.val_main_v16_apply _ _ _).trans ?_
  refine Finset.sum_congr rfl fun k _ => congrArg₂ (· * ·) (congrArg (A0 m c) (eq_ix2 _)) ?_
  refine (Cert.Reference21Ideal.Read.val_main_v14_apply _ _).trans ((Cert.Reference21Ideal.Read.val_main_v13_apply _ _).trans (congrArg (A1 m c) ?_))
  have hk := k.isLt
  have hQ := Q.isLt
  funext b; apply Fin.ext
  match b with
  | ⟨0, _⟩ => show (k.val * 7168 + Q.val) / 896 % 8 = Q.val / 896; omega
  | ⟨1, _⟩ => show (k.val * 7168 + Q.val) / 7168 = k.val; omega
  | ⟨2, _⟩ => show (k.val * 7168 + Q.val) % 896 = Q.val % 896; omega

/-- The reference's result is the kernel's. -/
theorem same : Cert.Reference21Ideal.Read.val_main_v17 (F := Ideal) (m ((c : Thread nD τ).loc main_arg0)) (m ((c : Thread nD τ).loc main_arg1))
    (A0 m c) (A1 m c) (A2 m c) = (dats m (ok m) 0 c).arrAt 2 (cfgM m (ok m)).N := by
  funext i
  obtain ⟨R, Q, rfl⟩ : ∃ (R : Fin 2176) (Q : Fin 7168), i = ix2 R Q := ⟨i 0, i 1, eq_ix2 i⟩
  obtain rfl : c = 0 := Subsingleton.elim _ _
  refine (Cert.Reference21Ideal.Read.val_main_v17_apply _ _ _ _ _ _).trans ?_
  refine (congrArg₂ (fun u v => Scalar.select u v (A2 m 0 (ix2 R Q))) (mask _ _ R Q) (product m 0 R Q)).trans ((select_bit _ _ _).trans ?_)
  by_cases h : Hit (X m) (Y m) (Q.val / 896 / 2)
  · obtain ⟨j, hj⟩ := named _ _ (C m) (home Q) h
    exact (if_pos h).trans (final m 0 R Q j hj).symm
  · exact (if_neg h).trans (kept m 0 R Q (unnamed _ _ (C m) (home Q) h)).symm

/-- Every run ends with the result read above and the arguments as they were. -/
theorem run : θ_run defs (onTc (τ := τ) (main (F := Ideal))) ⟨m, fun _ => 0, ρ⟩ fun r => ∀ c : Dev nD,
      r.2.mem ((c : Thread nD τ).loc main_v19) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have h1 : θ_run defs (onTc (τ := τ) (main (F := Ideal))) ⟨m, fun _ => 0, ρ⟩ fun r => ∀ c : Dev nD,
      r.2.mem ((c : Thread nD τ).loc main_v19) = (dats m (ok m) 0 c).arrAt 2 (cfgM m (ok m)).N :=
    (θ_run defs _ _).mono (fun _ h c => (h c).1 2) (run_main m ρ (ok m))
  exact (θ_run defs _ _).mono (fun _ h c => ⟨h.1 c, h.2.1 c⟩) (θ_run_and h1 (Gen.frame m ρ (ok m)))

end Cert.MmProjFar

end
-- ==== Proof.Ok22Ideal.lean ====
/-
  The table that `Kernel22Ideal` prefetches holds the places of the two chips beside, and every block it names lies inside its array.
-/
module

public import proofs.«01_k».proof.Proof.Gen.Kernel22Ideal.Frame
public import proofs.«01_k».proof.Proof.Slots

@[expose] public section

set_option maxRecDepth 16384

noncomputable section

namespace Cert.Kernel22Ideal.Places

open Cert.Kernel22Ideal Cert.Kernel22Ideal.Gen Cert.Slots
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S4.Idx => BitVec.ofNat 32 (beside x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

theorem scalar (b : (⟨S_, .i1⟩ : BufTy).Contents (Elt F)) : b = fun _ => b (fun a => a.elim0) :=
  funext fun i => congrArg b (funext fun a => a.elim0)

/-- Six words side by side. -/
def six (p0 p1 p2 p3 p4 p5 : (⟨S1, .i32⟩ : BufTy).Contents (Elt F)) : (⟨S6, .i32⟩ : BufTy).Contents (Elt F) :=
  concatenate S6 0 [⟨S1, p0⟩, ⟨S1, p1⟩, ⟨S1, p2⟩, ⟨S1, p3⟩, ⟨S1, p4⟩, ⟨S1, p5⟩] concatenates_S1_S1_S1_S1_S1_S1_S6_d0

/-- All six places. -/
def all (x y c : BitVec 1) : (⟨S6, .i32⟩ : BufTy).Contents (Elt F) := fun i : S6.Idx => BitVec.ofNat 32 (near x y c (i 0))

theorem all_eq : V m 0 main_v40 = all (F := F) (X m) (Y m) (C m) := by
  show StableHlo.after hostOps0 (fun b => m (0, b)) (Proc.devRef .tc main_v40) = _
  unfold hostOps0
  simp only [StableHlo.after_cons, StableHlo.after_nil]
  rw [StableHlo.unary_result_ne]
  rotate_left
  · decide
  rw [StableHlo.unary_result_ne]
  rotate_left
  · decide
  rw [StableHlo.nary_result]
  show six (F := F) _ _ _ _ _ _ = _
  dsimp only [Matrix.cons_val]
  after_results_simp
  have hx := scalar (F := F) (m (((0 : Dev nD) : Thread nD τ).loc main_arg0))
  have hy := scalar (F := F) (m (((0 : Dev nD) : Thread nD τ).loc main_arg1))
  have hc := scalar (F := F) (m (((0 : Dev nD) : Thread nD τ).loc main_arg2))
  rw [hx, hy, hc]
  show _ = all (F := F) (m (((0 : Dev nD) : Thread nD τ).loc main_arg0) fun a => a.elim0)
    (m (((0 : Dev nD) : Thread nD τ).loc main_arg1) fun a => a.elim0) (m (((0 : Dev nD) : Thread nD τ).loc main_arg2) fun a => a.elim0)
  generalize m (((0 : Dev nD) : Thread nD τ).loc main_arg0) (fun a => a.elim0) = x
  generalize m (((0 : Dev nD) : Thread nD τ).loc main_arg1) (fun a => a.elim0) = y
  generalize m (((0 : Dev nD) : Thread nD τ).loc main_arg2) (fun a => a.elim0) = c
  clear hx hy hc
  funext i
  obtain ⟨j, rfl⟩ : ∃ j : Fin 6, i = fun | 0 => j := ⟨i 0, funext fun a => match a with | 0 => rfl⟩
  rcases bit x with rfl | rfl <;> rcases bit y with rfl | rfl <;> rcases bit c with rfl | rfl <;>
    (fin_cases j <;> sl_kernel_rfl)

theorem sliced : V m 0 main_v41 = (extractStridedSlice S4 ![2] (V m 0 main_v40 : (⟨S6, .i32⟩ : BufTy).Contents (Elt F)) slices_S6_S4_2 : (⟨S4, .i32⟩ : BufTy).Contents (Elt F)) := by
  show StableHlo.after hostOps0 (fun b => m (0, b)) (Proc.devRef .tc main_v41) = (extractStridedSlice S4 ![2]
    (StableHlo.after hostOps0 (fun b => m (0, b)) (Proc.devRef .tc main_v40) : (⟨S6, .i32⟩ : BufTy).Contents (Elt F)) slices_S6_S4_2 : (⟨S4, .i32⟩ : BufTy).Contents (Elt F))
  unfold hostOps0
  simp only [StableHlo.after_cons, StableHlo.after_nil]
  refine Eq.trans (StableHlo.unary_result_ne _ _ _ _ _ _ (by decide)) ?_
  refine (StableHlo.unary_result ..).trans (congrArg (fun p : (⟨S6, .i32⟩ : BufTy).Contents (Elt F) => extractStridedSlice S4 ![2] p slices_S6_S4_2) (Eq.symm ?_))
  rw [StableHlo.unary_result_ne]
  rotate_left
  · decide
  rw [StableHlo.unary_result_ne]
  rotate_left
  · decide

theorem tbl0 : tbl m 0 = words (F := F) (X m) (Y m) (C m) 0 := by
  show V m 0 main_v41 = _
  rw [sliced, all_eq]
  generalize X m = x
  generalize Y m = y
  generalize C m = c
  funext i
  obtain ⟨j, rfl⟩ : ∃ j : Fin 4, i = fun | 0 => j := ⟨i 0, funext fun a => match a with | 0 => rfl⟩
  fin_cases j <;> rfl

theorem tbl_eq : tbl m = words (F := F) (X m) (Y m) (C m) := funext fun k => match k with
  | 0 => tbl0 m

theorem ok : Ok m := by
  unfold Ok
  rw [tbl_eq]
  exact ok_words _ _ _

end Cert.Kernel22Ideal.Places

end
-- ==== Proof.MmProjNear.lean ====
/-
  The projection, at the columns held on the two chips beside: each point of the grid computes the block of one row tile and
  one of the four places the table names, and every other column keeps what it had.
-/
module

public import proofs.«01_k».proof.Proof.MmNN
public import proofs.«01_k».proof.Proof.Ok22Ideal
public import Idealize.ShloMosaic.Lib.Pipeline.Value
public import Idealize.ShloMosaic.Lib.Pipeline.ValueKit
public import proofs.«01_k».proof.Proof.Gen.Reference22Ideal.Read

@[expose] public section

set_option maxRecDepth 16384

noncomputable section

namespace Cert.MmProjNear

open Cert.Kernel22Ideal Cert.Kernel22Ideal.Gen Cert.Kernel22Ideal.Places Cert.Slots
open Idealize.ShloMosaic hiding ix1 ix2 ix3 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- The rows. -/
abbrev A0 : Vec Ideal S2176x2048 .bf16 := m ((c : Thread nD τ).loc main_arg3)

/-- The weight of each place. -/
abbrev A1 : Vec Ideal S8x2048x896 .bf16 := m ((c : Thread nD τ).loc main_arg4)

/-- What the array held before. -/
abbrev A2 : Vec Ideal S2176x7168 .f32 := m ((c : Thread nD τ).loc main_arg5)

/-- Where the blocks of each point lie, for a device at `x`, `y`, `z`. -/
theorem index_words (x y z : BitVec 1) (t : Fin grid0.N) :
    (win0 (F := Ideal) ⟨words x y z, ok_words x y z⟩ 0).index t = ![t.val / 4, 0]
    ∧ (win0 (F := Ideal) ⟨words x y z, ok_words x y z⟩ 1).index t = ![beside x y z ⟨t.val % 4, Nat.mod_lt _ (by decide)⟩, 0, 0]
    ∧ (win0 (F := Ideal) ⟨words x y z, ok_words x y z⟩ 2).index t = ![t.val / 4, beside x y z ⟨t.val % 4, Nat.mod_lt _ (by decide)⟩]
    ∧ (win0 (F := Ideal) ⟨words x y z, ok_words x y z⟩ 2).flush t = true := by
  revert t
  rcases bit x with rfl | rfl <;> rcases bit y with rfl | rfl <;> rcases bit z with rfl | rfl <;>
    exact of_decide_eq_true (by sl_kernel_rfl)

theorem index_adm (x y z : BitVec 1) (a : (pcfg0 (F := Ideal)).Adm) (h : a.1 = words x y z) (t : Fin grid0.N) :
    (win0 a 0).index t = ![t.val / 4, 0]
    ∧ (win0 a 1).index t = ![beside x y z ⟨t.val % 4, Nat.mod_lt _ (by decide)⟩, 0, 0]
    ∧ (win0 a 2).index t = ![t.val / 4, beside x y z ⟨t.val % 4, Nat.mod_lt _ (by decide)⟩]
    ∧ (win0 a 2).flush t = true := by
  obtain ⟨p, hp⟩ := a
  obtain rfl : p = words x y z := h
  exact index_words x y z t

/-- The place a point computes. -/
abbrev slot (j : Fin 4) : ℕ := beside (X m) (Y m) (C m) j

theorem index_at (t : Fin (cfgM m (ok m)).N) :
    ((cfgM m (ok m)).win 0).index t = ![t.val / 4, 0]
    ∧ ((cfgM m (ok m)).win 1).index t = ![slot m ⟨t.val % 4, Nat.mod_lt _ (by decide)⟩, 0, 0]
    ∧ ((cfgM m (ok m)).win 2).index t = ![t.val / 4, slot m ⟨t.val % 4, Nat.mod_lt _ (by decide)⟩]
    ∧ ((cfgM m (ok m)).win 2).flush t = true :=
  index_adm _ _ _ (adm m (ok m)) (tbl_eq m) t

theorem slots_differ : ∀ x y z : BitVec 1, ∀ i j : Fin 4, beside x y z i = beside x y z j → i = j := by decide

/-- No two points share a block of the result. -/
theorem apart (t t' : Fin (cfgM m (ok m)).N) (h : ((cfgM m (ok m)).win 2).index t = ((cfgM m (ok m)).win 2).index t') : t = t' := by
  rw [(index_at m t).2.2.1, (index_at m t').2.2.1] at h
  have h0 : t.val / 4 = t'.val / 4 := congrFun h 0
  have h1 := slots_differ _ _ _ _ _ (congrFun h 1 : slot m ⟨t.val % 4, _⟩ = slot m ⟨t'.val % 4, _⟩)
  have h2 : t.val % 4 = t'.val % 4 := congrArg Fin.val h1
  exact Fin.ext (by omega)

theorem blocks (t : Fin (cfgM m (ok m)).N) :
    (((cfgM m (ok m)).win 2).blk t).view.read (Elt Ideal) ((dats m (ok m) 0 c).arrAt 2 (cfgM m (ok m)).N)
      = ((cfgM m (ok m)).win 2).cut (grid0.coords t) (outsAt0 m (ok m) c t) := by
  refine ((dats m (ok m) 0 c).read_blk_arrAt_eq_flushed 2 (fun t t' _ _ hne => ((cfgM m (ok m)).win 2).disjoint_blk fun h => hne (apart m t t' h))
    _ t t.isLt (index_at m t).2.2.2).trans ?_
  show ((cfgM m (ok m)).win 2).cut (grid0.coords t) ((dats m (ok m) 0 c).after 2 t) = _
  rw [after0_2]

theorem emb0 (a : (pcfg0 (F := Ideal)).Adm) (t : Fin (cfg0 a).N) (I : ℕ) (h : (win0 a 0).index t = ![I, 0]) (r : Fin 1088) (k : Fin 2048)
    (R : Fin 2176) (hR : R.val = I * 1088 + r.val) : (((win0 a 0).blk t).view.emb (ix2 r k) : S2176x2048.Idx) = ix2 R k := by
  funext b; apply Fin.ext
  match b with
  | ⟨0, _⟩ => exact (congrArg (· * 1088 + 1 * r.val) (congrFun h 0)).trans (by show I * 1088 + 1 * r.val = R.val; omega)
  | ⟨1, _⟩ => exact (congrArg (· * 2048 + 1 * k.val) (congrFun h 1)).trans (by show 0 * 2048 + 1 * k.val = k.val; omega)

theorem emb1 (a : (pcfg0 (F := Ideal)).Adm) (t : Fin (cfg0 a).N) (J : Fin 8) (h : (win0 a 1).index t = ![J.val, 0, 0]) (k : Fin 2048) (q : Fin 896) :
    (((win0 a 1).blk t).view.emb (ix3 0 k q) : S8x2048x896.Idx) = ix3 J k q := by
  funext b; apply Fin.ext
  match b with
  | ⟨0, _⟩ => exact (congrArg (· * 1 + 1 * 0) (congrFun h 0)).trans (by show J.val * 1 + 1 * 0 = J.val; omega)
  | ⟨1, _⟩ => exact (congrArg (· * 2048 + 1 * k.val) (congrFun h 1)).trans (by show 0 * 2048 + 1 * k.val = k.val; omega)
  | ⟨2, _⟩ => exact (congrArg (· * 896 + 1 * q.val) (congrFun h 2)).trans (by show 0 * 896 + 1 * q.val = q.val; omega)

theorem emb2 (a : (pcfg0 (F := Ideal)).Adm) (t : Fin (cfg0 a).N) (I J : ℕ) (h : (win0 a 2).index t = ![I, J]) (r : Fin 1088) (q : Fin 896)
    (R : Fin 2176) (Q : Fin 7168) (hR : R.val = I * 1088 + r.val) (hQ : Q.val = J * 896 + q.val) :
    (((win0 a 2).blk t).view.emb (ix2 r q) : S2176x7168.Idx) = ix2 R Q := by
  funext b; apply Fin.ext
  match b with
  | ⟨0, _⟩ => exact (congrArg (· * 1088 + 1 * r.val) (congrFun h 0)).trans (by show I * 1088 + 1 * r.val = R.val; omega)
  | ⟨1, _⟩ => exact (congrArg (· * 896 + 1 * q.val) (congrFun h 1)).trans (by show J * 896 + 1 * q.val = Q.val; omega)

theorem col2 (a : (pcfg0 (F := Ideal)).Adm) (t : Fin (cfg0 a).N) (I J : ℕ) (h : (win0 a 2).index t = ![I, J]) (y : S1088x896.Idx)
    (i : S2176x7168.Idx) (e : ((win0 a 2).blk t).view.emb y = i) : (i 1).val / 896 = J := by
  obtain rfl : ((win0 a 2).blk t).view.emb y = i := e
  have h1 : (((win0 a 2).blk t).view.emb y (1 : Fin 2)).val = J * 896 + 1 * (y 1).val := congrArg (· * 896 + 1 * (y 1).val) (congrFun h 1)
  have h2 : (y 1).val < 896 := (y 1).isLt
  refine (congrArg (· / 896) h1).trans ?_
  show (J * 896 + 1 * (y 1).val) / 896 = J
  omega

theorem blk0 (t : Fin (cfgM m (ok m)).N) (r : Fin 1088) (k : Fin 2048) (R : Fin 2176) (h : R.val = t.val / 4 * 1088 + r.val) :
    iblk m (ok m) c 0 t (ix2 r k) = A0 m c (ix2 R k) := by
  unfold A0
  rw [← V_main_arg3 m c]
  exact congrArg (V m c main_arg3) (emb0 _ t _ (index_at m t).1 r k R h)

theorem blk1 (t : Fin (cfgM m (ok m)).N) (k : Fin 2048) (q : Fin 896) (J : Fin 8) (h : J.val = slot m ⟨t.val % 4, Nat.mod_lt _ (by decide)⟩) :
    iblk m (ok m) c 1 t (ix3 0 k q) = A1 m c (ix3 J k q) := by
  unfold A1
  rw [← V_main_arg4 m c]
  exact congrArg (V m c main_arg4) (emb1 _ t J ((index_at m t).2.1.trans (by rw [h])) k q)

theorem pay_apply (x0 : Vec Ideal S1088x2048 .bf16) (x1 : Vec Ideal S1x2048x896 .bf16) (r : Fin 1088) (q : Fin 896) :
    k0_pay1 x0 x1 (ix2 r q) = (∑ k : Fin 2048, x0 (ix2 r k) * x1 (ix3 0 k q)) := by
  refine ((Cert.Mm.nn_apply (φ₁ := .bf16) (φ₂ := .bf16) _ none x0 (shapeCast S2048x896 x1 shapeCasts_S1x2048x896_S2048x896) r q).trans ?_)
  refine Finset.sum_congr rfl fun k _ => congrArg (x0 (ix2 r k) * ·) ?_
  exact shapeCast_apply x1 shapeCasts_S1x2048x896_S2048x896 (ix2 k q) (ix3 0 k q) (by
    rewrite [Shape.rowMajor_val_two, Shape.rowMajor_val_three]
    show (0 * 2048 + k.val) * 896 + q.val = k.val * 896 + q.val
    omega)

theorem out_A (i : grid0.Coords) (a3 : Memref sig .tc .vmem S1088x2048 .bf16) (h3 : a3.IsWhole) (a4 : Memref sig .tc .vmem S1x2048x896 .bf16)
    (h4 : a4.IsWhole) (a6 : Memref sig .tc .vmem S1088x896 .f32) (h6 : a6.IsWhole)
    (x0 : Vec Ideal S1088x2048 .bf16) (x1 : Vec Ideal S1x2048x896 .bf16) (xt) (r : Fin 1088) (q : Fin 896) :
    out0_A_2 c i a3 h3 a4 h4 a6 h6 x0 x1 xt (ix2 r q) = (∑ k : Fin 2048, x0 (ix2 r k) * x1 (ix3 0 k q)) := by
  unfold out0_A_2
  frame_out
  exact pay_apply x0 x1 r q

/-- The place of a column. -/
abbrev home (Q : Fin 7168) : Fin 8 := ⟨Q.val / 896, by omega⟩

/-- The entry of the product. -/
def entry (R : Fin 2176) (Q : Fin 7168) : EReal :=
  (∑ k : Fin 2048, A0 m c (ix2 R k) * A1 m c (ix3 (home Q) k ⟨Q.val % 896, Nat.mod_lt _ (by decide)⟩))

theorem point (v : ℕ) (h : v < 8) : ∃ t : Fin (cfgM m (ok m)).N, t.val = v := ⟨⟨v, h⟩, rfl⟩

theorem cut2 (a : (pcfg0 (F := Ideal)).Adm) (i : grid0.Coords) (f : Vec Ideal S1088x896 .f32) (y : S1088x896.Idx) :
    ((win0 a 2).cut i f : S1088x896.Idx → Elt Ideal .f32) y = f y := rfl

theorem read2 (a : (pcfg0 (F := Ideal)).Adm) (t : Fin (cfg0 a).N) (f : Vec Ideal S2176x7168 .f32) (y : S1088x896.Idx) (i : S2176x7168.Idx)
    (e : ((win0 a 2).blk t).view.emb y = i) : (((win0 a 2).blk t).view.read (Elt Ideal) f : S1088x896.Idx → Elt Ideal .f32) y = f i := by
  obtain rfl : ((win0 a 2).blk t).view.emb y = i := e
  rfl

/-- The two blocks that a point reads. -/
abbrev X0 (t : Fin (cfgM m (ok m)).N) : Vec Ideal S1088x2048 .bf16 := iblk m (ok m) c 0 t
abbrev X1 (t : Fin (cfgM m (ok m)).N) : Vec Ideal S1x2048x896 .bf16 := iblk m (ok m) c 1 t

/-- The result's entry in a point's block. -/
theorem block_entry (t : Fin (cfgM m (ok m)).N) (r : Fin 1088) (q : Fin 896) (i : S2176x7168.Idx)
    (e : (((cfgM m (ok m)).win 2).blk t).view.emb (ix2 r q) = i) :
    (dats m (ok m) 0 c).arrAt 2 (cfgM m (ok m)).N i = (∑ k : Fin 2048, X0 m c t (ix2 r k) * X1 m c t (ix3 0 k q) : EReal) := by
  have h1 := read2 (adm m (ok m)) t ((dats m (ok m) 0 c).arrAt 2 (cfgM m (ok m)).N) (ix2 r q) i e
  have h2 := cut2 (adm m (ok m)) (grid0.coords t) (outsAt0 m (ok m) c t) (ix2 r q)
  have h3 := congrFun (blocks m c t) (ix2 r q)
  have h4 : outsAt0 m (ok m) c t (ix2 r q) = (∑ k : Fin 2048, X0 m c t (ix2 r k) * X1 m c t (ix3 0 k q) : EReal) :=
    out_A c _ _ _ _ _ _ _ (X0 m c t) (X1 m c t) _ _ _
  exact h1.symm.trans (h3.trans (h2.trans h4))

/-- The result's entry at a column that the table names. -/
theorem final (R : Fin 2176) (Q : Fin 7168) (j : Fin 4) (hj : slot m j = Q.val / 896) :
    (dats m (ok m) 0 c).arrAt 2 (cfgM m (ok m)).N (ix2 R Q : S2176x7168.Idx) = entry m c R Q := by
  have hR := R.isLt
  obtain ⟨t, ht⟩ := point m (4 * (R.val / 1088) + j.val) (by omega)
  have t0 : t.val / 4 = R.val / 1088 := by omega
  have t1 : (⟨t.val % 4, Nat.mod_lt _ (by decide)⟩ : Fin 4) = j := Fin.ext (by show t.val % 4 = _; omega)
  have hr : R.val = t.val / 4 * 1088 + R.val % 1088 := by rw [t0]; omega
  have hq : Q.val = slot m ⟨t.val % 4, Nat.mod_lt _ (by decide)⟩ * 896 + Q.val % 896 := by rw [t1, hj]; omega
  have e := emb2 (adm m (ok m)) t _ _ (index_at m t).2.2.1 ⟨R.val % 1088, by omega⟩ ⟨Q.val % 896, by omega⟩ R Q hr hq
  refine (block_entry m c t _ _ _ e).trans (show (_ : EReal) = _ from ?_)
  refine Finset.sum_congr rfl fun k _ => congrArg₂ (· * ·) (blk0 m c t _ k R hr) (blk1 m c t k _ (home Q) ?_)
  rw [t1, hj]

theorem entered : V m c main_v42 = A2 m c := by
  unfold V hostOps0
  after_results
  try rfl

/-- Any other column keeps what it had. -/
theorem kept (R : Fin 2176) (Q : Fin 7168) (hj : ∀ j, slot m j ≠ Q.val / 896) :
    (dats m (ok m) 0 c).arrAt 2 (cfgM m (ok m)).N (ix2 R Q : S2176x7168.Idx) = A2 m c (ix2 R Q) := by
  refine ((dats m (ok m) 0 c).arrAt_apply_of_forall_not_mem 2 (cfgM m (ok m)).N (ix2 R Q) (fun t _ _ hi => ?_)).trans ?_
  · obtain ⟨y, -, hy⟩ := Finset.mem_map.1 hi
    exact hj _ (col2 (adm m (ok m)) t _ _ (index_at m t).2.2.1 y (ix2 R Q) hy).symm
  · rw [A_eq]
    exact congrFun (entered m c) _

/-- The chips whose columns are computed. -/
abbrev Hit (x y : BitVec 1) (ch : ℕ) : Prop := ∃ j, beside x y 0#1 j / 2 = ch

theorem mask_bits (x y : BitVec 1) (ch : Fin 4) : IntOp.ori (Cert.Reference22Ideal.Read.val_main_v7 (F := Ideal) (fun _ => x) (fun _ => y) (ix1 ch))
      (Cert.Reference22Ideal.Read.val_main_v18 (F := Ideal) (fun _ => x) (fun _ => y) (ix1 ch))
    = if Hit x y ch.val then 1#1 else 0#1 := by
  revert ch
  rcases bit x with rfl | rfl <;> rcases bit y with rfl | rfl <;> exact of_decide_eq_true (by sl_kernel_rfl)

theorem named : ∀ x y z : BitVec 1, ∀ s : Fin 8, Hit x y (s.val / 2) → ∃ j, beside x y z j = s.val := by decide

theorem unnamed : ∀ x y z : BitVec 1, ∀ s : Fin 8, ¬ Hit x y (s.val / 2) → ∀ j, beside x y z j ≠ s.val := by decide

theorem select_bit (p : Prop) [Decidable p] (a b : EReal) : Scalar.select (if p then 1#1 else 0#1) a b = if p then a else b := by
  unfold Scalar.select
  by_cases h : p
  · rw [if_pos h, if_pos h, if_pos (by decide)]
  · rw [if_neg h, if_neg h, if_neg (by decide)]

/-- The columns that the reference replaces. -/
theorem mask (b0 b1 : (⟨S_, .i1⟩ : BufTy).Contents (Elt Ideal)) (R : Fin 2176) (Q : Fin 7168) :
    Cert.Reference22Ideal.Read.val_main_call0_v0 (F := Ideal) b0 b1 (ix2 R Q)
      = if Hit (b0 fun a => a.elim0) (b1 fun a => a.elim0) (Q.val / 896 / 2) then 1#1 else 0#1 := by
  rw [Cert.Reference22Ideal.Read.val_main_call0_v0_apply,
    Cert.Reference22Ideal.Read.val_main_v22_apply,
    Cert.Reference22Ideal.Read.val_main_v10_apply,
    Cert.Reference22Ideal.Read.val_main_v9_apply,
    Cert.Reference22Ideal.Read.val_main_v8_apply,
    Cert.Reference22Ideal.Read.val_main_v21_apply,
    Cert.Reference22Ideal.Read.val_main_v20_apply,
    Cert.Reference22Ideal.Read.val_main_v19_apply,
    scalar (F := Ideal) b0, scalar (F := Ideal) b1]
  refine ((congrArg₂ IntOp.ori (congrArg _ (eq_ix1 _)) (congrArg _ (eq_ix1 _))).trans (mask_bits _ _ ⟨Q.val / 1792, by omega⟩)).trans ?_
  have : Q.val / 896 / 2 = Q.val / 1792 := by omega
  rw [this]

theorem product (R : Fin 2176) (Q : Fin 7168) :
    Cert.Reference22Ideal.Read.val_main_v27 (F := Ideal) (A0 m c) (A1 m c) (ix2 R Q) = entry m c R Q := by
  refine (Cert.Reference22Ideal.Read.val_main_v27_apply _ _ _).trans ?_
  refine Finset.sum_congr rfl fun k _ => congrArg₂ (· * ·) (congrArg (A0 m c) (eq_ix2 _)) ?_
  refine (Cert.Reference22Ideal.Read.val_main_v25_apply _ _).trans ((Cert.Reference22Ideal.Read.val_main_v24_apply _ _).trans (congrArg (A1 m c) ?_))
  have hk := k.isLt
  have hQ := Q.isLt
  funext b; apply Fin.ext
  match b with
  | ⟨0, _⟩ => show (k.val * 7168 + Q.val) / 896 % 8 = Q.val / 896; omega
  | ⟨1, _⟩ => show (k.val * 7168 + Q.val) / 7168 = k.val; omega
  | ⟨2, _⟩ => show (k.val * 7168 + Q.val) % 896 = Q.val % 896; omega

/-- The reference's result is the kernel's. -/
theorem same : Cert.Reference22Ideal.Read.val_main_v28 (F := Ideal) (m ((c : Thread nD τ).loc main_arg0)) (m ((c : Thread nD τ).loc main_arg1))
    (A0 m c) (A1 m c) (A2 m c) = (dats m (ok m) 0 c).arrAt 2 (cfgM m (ok m)).N := by
  funext i
  obtain ⟨R, Q, rfl⟩ : ∃ (R : Fin 2176) (Q : Fin 7168), i = ix2 R Q := ⟨i 0, i 1, eq_ix2 i⟩
  obtain rfl : c = 0 := Subsingleton.elim _ _
  refine (Cert.Reference22Ideal.Read.val_main_v28_apply _ _ _ _ _ _).trans ?_
  refine (congrArg₂ (fun u v => Scalar.select u v (A2 m 0 (ix2 R Q))) (mask _ _ R Q) (product m 0 R Q)).trans ((select_bit _ _ _).trans ?_)
  by_cases h : Hit (X m) (Y m) (Q.val / 896 / 2)
  · obtain ⟨j, hj⟩ := named _ _ (C m) (home Q) h
    exact (if_pos h).trans (final m 0 R Q j hj).symm
  · exact (if_neg h).trans (kept m 0 R Q (unnamed _ _ (C m) (home Q) h)).symm

/-- Every run ends with the result read above and the arguments as they were. -/
theorem run : θ_run defs (onTc (τ := τ) (main (F := Ideal))) ⟨m, fun _ => 0, ρ⟩ fun r => ∀ c : Dev nD,
      r.2.mem ((c : Thread nD τ).loc main_v42) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have h1 : θ_run defs (onTc (τ := τ) (main (F := Ideal))) ⟨m, fun _ => 0, ρ⟩ fun r => ∀ c : Dev nD,
      r.2.mem ((c : Thread nD τ).loc main_v42) = (dats m (ok m) 0 c).arrAt 2 (cfgM m (ok m)).N :=
    (θ_run defs _ _).mono (fun _ h c => (h c).1 2) (run_main m ρ (ok m))
  exact (θ_run defs _ _).mono (fun _ h c => ⟨h.1 c, h.2.1 c⟩) (θ_run_and h1 (Gen.frame m ρ (ok m)))

end Cert.MmProjNear

end
-- ==== Proof.Adam.lean ====
/-
  What the optimiser makes of one weight: the sum of the five parts of the gradient, the two running means and the step, as
  functions of one entry, and the part of a gathered array that the coordinates of a device pick.
-/
module

public import proofs.«01_k».proof.Proof.Slots
public import Idealize.ShloMosaic.Lib.Pipeline.Value
public import Idealize.ShloMosaic.Lib.Pipeline.ValueKit
public import Idealize.ShloMosaic.Lib.Tactic

@[expose] public section

set_option maxRecDepth 16384

noncomputable section

namespace Cert.Adam

open Cert.Slots
open Idealize.ShloMosaic hiding ix1 ix2 ix3 ix4 eq_ix1 eq_ix2 eq_ix3
open Idealize.ShloMosaic.ValueIdx

/-- A constant of the optimiser. -/
abbrev lit (b : BitVec 32) : EReal := Ideal.ofBits .f32 b

/-- The gradient: this device's part, its neighbour's, and those of the three other chips. -/
def total (o s r0 r1 r2 : EReal) : EReal := o + s + r0 + r1 + r2

/-- The running mean of the gradient `g`, which was `a`. -/
def mean (a g : EReal) : EReal := lit 0x3F666666#32 * a + lit 0x3DCCCCCD#32 * g

/-- The running mean of its square. -/
def square (a g : EReal) : EReal := lit 0x3F7FBE77#32 * a + lit 0x3A83126F#32 * (g * g)

/-- The step of a weight `w` from the two means. -/
def step (w a b : EReal) : EReal :=
  lit 0xBA83126F#32 * (Ideal.div (Ideal.div a (lit 0x3F26BD02#32)) (FloatOps.sqrt (F := Ideal) (φ := .f32) (Ideal.div b (lit 0x3C231ACC#32)) + lit 0x322BCC77#32)
    + lit 0x3C23D70A#32 * w)

/-- The sum with the three other chips taken first. -/
theorem total_sum (o s : EReal) (r : Fin 3 → EReal) : o + s + (lit 0x00000000#32 + ∑ k, r k) = total o s (r 0) (r 1) (r 2) := by
  have z : lit 0x00000000#32 = 0 := Ideal.ofBits_zero .f32
  rw [z, zero_add, Fin.sum_univ_three]
  unfold total
  rw [add_assoc (o + s + r 0), add_assoc (o + s), add_assoc (r 0)]

/-- The chip of a device. -/
def chip (x y : BitVec 1) : Fin 4 := ⟨2 * x.toNat + y.toNat, by have := x.isLt; have := y.isLt; omega⟩

/-- The core of a device. -/
def core (c : BitVec 1) : Fin 2 := ⟨c.toNat, c.isLt⟩

/-- The table of a device: its core, its chip, and the three chips beside and opposite. -/
def seats (x y c : BitVec 1) (j : Fin 5) : ℕ :=
  match j with
  | 0 => c.toNat
  | 1 => 2 * x.toNat + y.toNat
  | 2 => 2 * (1 - x.toNat) + y.toNat
  | 3 => 2 * x.toNat + (1 - y.toNat)
  | 4 => 2 * (1 - x.toNat) + (1 - y.toNat)

/-- Those five words side by side are the table of the device. -/
theorem seats_words (x y c : (⟨0, ![]⟩ : Shape).Idx → BitVec 1) (h1 : (⟨0, ![]⟩ : Shape).BroadcastsInDim ⟨1, ![1]⟩ ![]) (hn) (hc) :
    concatenate (⟨1, ![5]⟩ : Shape) 0
      [⟨⟨1, ![1]⟩, broadcastInDim ⟨1, ![1]⟩ ![] h1 (extui 32 c hn)⟩,
       ⟨⟨1, ![1]⟩, broadcastInDim ⟨1, ![1]⟩ ![] h1 (addi (muli (constantI ⟨0, ![]⟩ 32 2#32) (extui 32 x hn)) (extui 32 y hn))⟩,
       ⟨⟨1, ![1]⟩, broadcastInDim ⟨1, ![1]⟩ ![] h1
        (addi (muli (constantI ⟨0, ![]⟩ 32 2#32) (subi (constantI ⟨0, ![]⟩ 32 1#32) (extui 32 x hn))) (extui 32 y hn))⟩,
       ⟨⟨1, ![1]⟩, broadcastInDim ⟨1, ![1]⟩ ![] h1
        (addi (muli (constantI ⟨0, ![]⟩ 32 2#32) (extui 32 x hn)) (subi (constantI ⟨0, ![]⟩ 32 1#32) (extui 32 y hn)))⟩,
       ⟨⟨1, ![1]⟩, broadcastInDim ⟨1, ![1]⟩ ![] h1
        (addi (muli (constantI ⟨0, ![]⟩ 32 2#32) (subi (constantI ⟨0, ![]⟩ 32 1#32) (extui 32 x hn)))
          (subi (constantI ⟨0, ![]⟩ 32 1#32) (extui 32 y hn)))⟩] hc
      = fun i => BitVec.ofNat 32 (seats (x fun a => a.elim0) (y fun a => a.elim0) (c fun a => a.elim0) (i 0)) := by
  have s (b : (⟨0, ![]⟩ : Shape).Idx → BitVec 1) : ∃ b', b = fun _ => b' := ⟨b fun a => a.elim0, funext fun i => congrArg b (funext fun a => a.elim0)⟩
  obtain ⟨x, rfl⟩ := s x
  obtain ⟨y, rfl⟩ := s y
  obtain ⟨c, rfl⟩ := s c
  funext i
  obtain ⟨j, rfl⟩ : ∃ j : Fin 5, i = fun | 0 => j := ⟨i 0, funext fun a => match a with | 0 => rfl⟩
  rcases bit x with rfl | rfl <;> rcases bit y with rfl | rfl <;> rcases bit c with rfl | rfl <;>
    (fin_cases j <;> sl_kernel_rfl)

section Shapes

variable {α : Type} {R C : ℕ}

theorem cast3 (x : (⟨3, ![1, R, C]⟩ : Shape).Idx → α) (h : (⟨3, ![1, R, C]⟩ : Shape).ShapeCasts ⟨2, ![R, C]⟩) (r : Fin R) (q : Fin C) :
    shapeCast ⟨2, ![R, C]⟩ x h (ix2 r q) = x (ix3 0 r q) :=
  shapeCast_apply x h (ix2 r q) (ix3 0 r q) (by
    rewrite [Shape.rowMajor_val_two, Shape.rowMajor_val_three]
    show (0 * R + r.val) * C + q.val = r.val * C + q.val
    rw [Nat.zero_mul, Nat.zero_add])

theorem cast4 (x : (⟨4, ![1, 1, R, C]⟩ : Shape).Idx → α) (h : (⟨4, ![1, 1, R, C]⟩ : Shape).ShapeCasts ⟨2, ![R, C]⟩) (r : Fin R) (q : Fin C) :
    shapeCast ⟨2, ![R, C]⟩ x h (ix2 r q) = x (ix4 0 0 r q) :=
  shapeCast_apply x h (ix2 r q) (ix4 0 0 r q) (by
    rewrite [Shape.rowMajor_val_two, Shape.rowMajor_val_four]
    show ((0 * 1 + 0) * R + r.val) * C + q.val = r.val * C + q.val
    rw [show (0 * 1 + 0) * R = 0 from Nat.zero_mul R, Nat.zero_add])

theorem castPair (x : (⟨4, ![1, 2, R, C]⟩ : Shape).Idx → α) (h : (⟨4, ![1, 2, R, C]⟩ : Shape).ShapeCasts ⟨3, ![2, R, C]⟩) (j : Fin 2) (r : Fin R)
    (q : Fin C) : shapeCast ⟨3, ![2, R, C]⟩ x h (ix3 j r q) = x (ix4 0 j r q) :=
  shapeCast_apply x h (ix3 j r q) (ix4 0 j r q) (by
    rewrite [Shape.rowMajor_val_three, Shape.rowMajor_val_four]
    show ((0 * 2 + j.val) * R + r.val) * C + q.val = (j.val * R + r.val) * C + q.val
    rw [Nat.zero_mul, Nat.zero_add])

/-- The sum of the five parts of a block, each a tile behind axes of one. -/
theorem total_apply (a : (⟨4, ![1, 1, R, C]⟩ : Shape).Idx → EReal) (b d e f : (⟨3, ![1, R, C]⟩ : Shape).Idx → EReal) (ha) (hb) (r : Fin R) (q : Fin C) :
    total (shapeCast ⟨2, ![R, C]⟩ a ha (ix2 r q)) (shapeCast ⟨2, ![R, C]⟩ b hb (ix2 r q)) (shapeCast ⟨2, ![R, C]⟩ d hb (ix2 r q))
      (shapeCast ⟨2, ![R, C]⟩ e hb (ix2 r q)) (shapeCast ⟨2, ![R, C]⟩ f hb (ix2 r q))
      = total (a (ix4 0 0 r q)) (b (ix3 0 r q)) (d (ix3 0 r q)) (e (ix3 0 r q)) (f (ix3 0 r q)) := by
  rw [cast4 a, cast3 b, cast3 d, cast3 e, cast3 f]

/-- One row of an array of `n`. -/
theorem row {n : ℕ} (x : (⟨3, ![n, R, C]⟩ : Shape).Idx → α) (k : Fin n) (o : Fin 3 → ℕ) (ho : o = ![k.val, 0, 0])
    (h : (⟨3, ![n, R, C]⟩ : Shape).Slices o ⟨3, ![1, R, C]⟩) (h' : (⟨3, ![1, R, C]⟩ : Shape).ShapeCasts ⟨2, ![R, C]⟩) (r : Fin R) (q : Fin C) :
    shapeCast ⟨2, ![R, C]⟩ (extractStridedSlice ⟨3, ![1, R, C]⟩ o x h) h' (ix2 r q) = x (ix3 k r q) := by
  subst ho
  refine (cast3 _ h' r q).trans (extractStridedSlice_apply _ x h (ix3 0 r q) (ix3 k r q) fun a => ?_)
  match a with
  | ⟨0, _⟩ => rfl
  | ⟨1, _⟩ => exact (Nat.zero_add _).symm
  | ⟨2, _⟩ => exact (Nat.zero_add _).symm

/-- One pair of an array of four. -/
theorem pair (x : (⟨4, ![4, 2, R, C]⟩ : Shape).Idx → α) (k : Fin 4) (o : Fin 4 → ℕ) (ho : o = ![k.val, 0, 0, 0])
    (h : (⟨4, ![4, 2, R, C]⟩ : Shape).Slices o ⟨4, ![1, 2, R, C]⟩) (h' : (⟨4, ![1, 2, R, C]⟩ : Shape).ShapeCasts ⟨3, ![2, R, C]⟩) (j : Fin 2)
    (r : Fin R) (q : Fin C) :
    shapeCast ⟨3, ![2, R, C]⟩ (extractStridedSlice ⟨4, ![1, 2, R, C]⟩ o x h) h' (ix3 j r q) = x (ix4 k j r q) := by
  subst ho
  refine (castPair _ h' j r q).trans (extractStridedSlice_apply _ x h (ix4 0 j r q) (ix4 k j r q) fun a => ?_)
  match a with
  | ⟨0, _⟩ => rfl
  | ⟨1, _⟩ => exact (Nat.zero_add _).symm
  | ⟨2, _⟩ => exact (Nat.zero_add _).symm
  | ⟨3, _⟩ => exact (Nat.zero_add _).symm

/-- One row of a block, loaded by itself. -/
theorem ld_row {Val : EltTy → Type} {e : EltTy} (x : (⟨3, ![3, R, C]⟩ : Shape).Idx → Val e) (k : Fin 3) (inb) (r : Fin R) (q : Fin C) :
    View.ld x (Rect.unit (s := ⟨3, ![3, R, C]⟩) ![k.val, 0, 0] ![1, R, C] inb) (ix3 0 r q) = x (ix3 k r q) := by
  refine (congrFun (View.ld_unit x _ _ inb) _).trans (extractStridedSlice_apply _ x _ _ (ix3 k r q) fun a => ?_)
  match a with
  | ⟨0, _⟩ => rfl
  | ⟨1, _⟩ => exact (Nat.zero_add _).symm
  | ⟨2, _⟩ => exact (Nat.zero_add _).symm

/-- The sum that a point takes of its blocks, at an entry of its tile. -/
def parts (x3 : (⟨4, ![1, 1, R, C]⟩ : Shape).Idx → EReal) (x4 : (⟨3, ![1, R, C]⟩ : Shape).Idx → EReal) (x5 : (⟨3, ![3, R, C]⟩ : Shape).Idx → EReal)
    (r : Fin R) (q : Fin C) : EReal :=
  total (x3 (ix4 0 0 r q)) (x4 (ix3 0 r q)) (x5 (ix3 0 r q)) (x5 (ix3 1 r q)) (x5 (ix3 2 r q))

/-- The body's sum, with the three rows of the last block loaded one by one. -/
theorem loads (x3 : Vec Ideal ⟨4, ![1, 1, R, C]⟩ .bf16) (x4 : Vec Ideal ⟨3, ![1, R, C]⟩ .bf16) (x5 : Vec Ideal ⟨3, ![3, R, C]⟩ .bf16) (ha) (hb) (i0 i1 i2)
    (r : Fin R) (q : Fin C) :
    total (shapeCast ⟨2, ![R, C]⟩ x3 ha (ix2 r q)) (shapeCast ⟨2, ![R, C]⟩ x4 hb (ix2 r q))
      (shapeCast ⟨2, ![R, C]⟩ (View.ld x5 (Rect.unit (s := ⟨3, ![3, R, C]⟩) ![0, 0, 0] ![1, R, C] i0)) hb (ix2 r q))
      (shapeCast ⟨2, ![R, C]⟩ (View.ld x5 (Rect.unit (s := ⟨3, ![3, R, C]⟩) ![1, 0, 0] ![1, R, C] i1)) hb (ix2 r q))
      (shapeCast ⟨2, ![R, C]⟩ (View.ld x5 (Rect.unit (s := ⟨3, ![3, R, C]⟩) ![2, 0, 0] ![1, R, C] i2)) hb (ix2 r q)) = parts x3 x4 x5 r q :=
  (total_apply _ _ _ _ _ ha hb r q).trans (congr (congr (congrArg (total _ _) (ld_row x5 0 i0 r q)) (ld_row x5 1 i1 r q)) (ld_row x5 2 i2 r q))

end Shapes

section Places

variable {R C : ℕ} {I T r : ℕ} {q : Fin C} {P : Fin R} (hP : P.val = I * T + r)
include hP

/-- Where an entry of a tile lies in the array, from the offsets of the tile. -/
theorem rows (e : (⟨2, ![R, C]⟩ : Shape).Idx) {o : Fin 2 → ℕ} (ho : o = ![I, 0]) (h0 : (e 0).val = o 0 * T + 1 * r) (h1 : (e 1).val = o 1 * C + 1 * q.val) :
    e = ix2 P q := by
  subst ho
  funext b; apply Fin.ext
  match b with
  | ⟨0, _⟩ => exact h0.trans (by show I * T + 1 * r = P.val; rw [hP, Nat.one_mul])
  | ⟨1, _⟩ => exact h1.trans (by show 0 * C + 1 * q.val = q.val; rw [Nat.zero_mul, Nat.zero_add, Nat.one_mul])

theorem rows3 {n L j : ℕ} (e : (⟨3, ![n, R, C]⟩ : Shape).Idx) {k : Fin n} {B : ℕ} {o : Fin 3 → ℕ} (ho : o = ![B, I, 0]) (hk : B * L + 1 * j = k.val)
    (h : (e 0).val = o 0 * L + 1 * j) (h0 : (e 1).val = o 1 * T + 1 * r) (h1 : (e 2).val = o 2 * C + 1 * q.val) : e = ix3 k P q := by
  subst ho
  funext b; apply Fin.ext
  match b with
  | ⟨0, _⟩ => exact h.trans hk
  | ⟨1, _⟩ => exact h0.trans (by show I * T + 1 * r = P.val; rw [hP, Nat.one_mul])
  | ⟨2, _⟩ => exact h1.trans (by show 0 * C + 1 * q.val = q.val; rw [Nat.zero_mul, Nat.zero_add, Nat.one_mul])

theorem rows4 {n n' : ℕ} (e : (⟨4, ![n, n', R, C]⟩ : Shape).Idx) {j : Fin n} {k : Fin n'} {o : Fin 4 → ℕ} (ho : o = ![j.val, k.val, I, 0])
    (hj : (e 0).val = o 0 * 1 + 1 * 0) (hk : (e 1).val = o 1 * 1 + 1 * 0) (h0 : (e 2).val = o 2 * T + 1 * r) (h1 : (e 3).val = o 3 * C + 1 * q.val) :
    e = ix4 j k P q := by
  subst ho
  funext b; apply Fin.ext
  match b with
  | ⟨0, _⟩ => exact hj.trans (Nat.mul_one _)
  | ⟨1, _⟩ => exact hk.trans (Nat.mul_one _)
  | ⟨2, _⟩ => exact h0.trans (by show I * T + 1 * r = P.val; rw [hP, Nat.one_mul])
  | ⟨3, _⟩ => exact h1.trans (by show 0 * C + 1 * q.val = q.val; rw [Nat.zero_mul, Nat.zero_add, Nat.one_mul])

end Places

/-- Tiles of rows at different points differ. -/
theorem first_axis {n : ℕ} {t t' : Fin n} {u v : Fin 2 → ℕ} (hu : u = ![t.val, 0]) (hv : v = ![t'.val, 0]) (h : u = v) : t = t' :=
  Fin.ext (congrFun (hu.symm.trans (h.trans hv)) 0)

/-- What a device holds of one weight: the weight, its two means, the parts of the gradient, and its place. -/
structure Shard (R C : ℕ) where
  weight : (⟨2, ![R, C]⟩ : Shape).Idx → EReal
  first : (⟨2, ![R, C]⟩ : Shape).Idx → EReal
  second : (⟨2, ![R, C]⟩ : Shape).Idx → EReal
  own : (⟨4, ![4, 2, R, C]⟩ : Shape).Idx → EReal
  sibling : (⟨3, ![4, R, C]⟩ : Shape).Idx → EReal
  others : (⟨3, ![3, R, C]⟩ : Shape).Idx → EReal
  x : BitVec 1
  y : BitVec 1
  c : BitVec 1

namespace Shard

variable {R C : ℕ} (A : Shard R C)

/-- The sum of the five parts. -/
def grad (i : (⟨2, ![R, C]⟩ : Shape).Idx) : EReal :=
  total (A.own (ix4 (chip A.x A.y) (core A.c) (i 0) (i 1))) (A.sibling (ix3 (chip A.x A.y) (i 0) (i 1)))
    (A.others (ix3 0 (i 0) (i 1))) (A.others (ix3 1 (i 0) (i 1))) (A.others (ix3 2 (i 0) (i 1)))

def newFirst (i : (⟨2, ![R, C]⟩ : Shape).Idx) : EReal := mean (A.first i) (A.grad i)
def newSecond (i : (⟨2, ![R, C]⟩ : Shape).Idx) : EReal := square (A.second i) (A.grad i)
def delta (i : (⟨2, ![R, C]⟩ : Shape).Idx) : EReal := step (A.weight i) (A.newFirst i) (A.newSecond i)

/-- The four results at an entry of a tile, from what the tile's blocks hold there. -/
theorem entry {T : ℕ} {r : Fin T} {q : Fin C} {P : Fin R} {w a b : EReal} {x3 : (⟨4, ![1, 1, T, C]⟩ : Shape).Idx → EReal}
    {x4 : (⟨3, ![1, T, C]⟩ : Shape).Idx → EReal} {x5 : (⟨3, ![3, T, C]⟩ : Shape).Idx → EReal}
    (h0 : w = A.weight (ix2 P q)) (h1 : a = A.first (ix2 P q)) (h2 : b = A.second (ix2 P q))
    (h3 : x3 (ix4 0 0 r q) = A.own (ix4 (chip A.x A.y) (core A.c) P q)) (h4 : x4 (ix3 0 r q) = A.sibling (ix3 (chip A.x A.y) P q))
    (h5 : ∀ k : Fin 3, x5 (ix3 k r q) = A.others (ix3 k P q)) :
    parts x3 x4 x5 r q = A.grad (ix2 P q) ∧ step w (mean a (parts x3 x4 x5 r q)) (square b (parts x3 x4 x5 r q)) = A.delta (ix2 P q)
      ∧ mean a (parts x3 x4 x5 r q) = A.newFirst (ix2 P q) ∧ square b (parts x3 x4 x5 r q) = A.newSecond (ix2 P q) := by
  subst h0 h1 h2
  have e : parts x3 x4 x5 r q = A.grad (ix2 P q) := by
    unfold parts
    rw [h3, h4, h5 0, h5 1, h5 2]
    rfl
  rw [e]
  exact ⟨rfl, rfl, rfl, rfl⟩

/-- Four arrays are the results of the optimiser. -/
structure Done (g d a b : (⟨2, ![R, C]⟩ : Shape).Idx → EReal) : Prop where
  g : A.grad = g
  d : A.delta = d
  a : A.newFirst = a
  b : A.newSecond = b

/-- They are, if they are so on every tile of `T` rows. -/
theorem done {N T : ℕ} (hT : 0 < T) (hR : R ≤ T * N) {g d a b : (⟨2, ![R, C]⟩ : Shape).Idx → EReal}
    (h : ∀ (t : Fin N) (r : Fin T) (q : Fin C) (P : Fin R), P.val = t.val * T + r.val → g (ix2 P q) = A.grad (ix2 P q) ∧ d (ix2 P q) = A.delta (ix2 P q)
      ∧ a (ix2 P q) = A.newFirst (ix2 P q) ∧ b (ix2 P q) = A.newSecond (ix2 P q)) : A.Done g d a b := by
  have k (i : (⟨2, ![R, C]⟩ : Shape).Idx) : g i = A.grad i ∧ d i = A.delta i ∧ a i = A.newFirst i ∧ b i = A.newSecond i := by
    obtain ⟨P, q, rfl⟩ : ∃ (P : Fin R) (q : Fin C), i = ix2 P q := ⟨i 0, i 1, eq_ix2 i⟩
    exact h ⟨P.val / T, Nat.div_lt_of_lt_mul (P.isLt.trans_le hR)⟩ ⟨P.val % T, Nat.mod_lt _ hT⟩ q P (Nat.div_add_mod' P.val T).symm
  exact ⟨funext fun i => (k i).1.symm, funext fun i => (k i).2.1.symm, funext fun i => (k i).2.2.1.symm, funext fun i => (k i).2.2.2.symm⟩

end Shard

section Picks

variable {α : Type} {T : Shape} (h : (⟨0, ![]⟩ : Shape).BroadcastsInDim T ![])

/-- What a bit picks of two arrays. -/
theorem pick_two (b : (⟨0, ![]⟩ : Shape).Idx → BitVec 1) (u v : T.Idx → α) (i : T.Idx) :
    select (broadcastInDim T ![] h b) u v i = if b (fun a => a.elim0) = 1#1 then u i else v i := by
  have e : broadcastInDim T ![] h b i = b fun a => a.elim0 := broadcastInDim_apply _ h b i _ fun a => a.elim0
  show Scalar.select (broadcastInDim T ![] h b i) (u i) (v i) = _
  rw [e]
  rfl

/-- What two bits pick of four. -/
theorem pick_four (x y : (⟨0, ![]⟩ : Shape).Idx → BitVec 1) (u : Fin 4 → T.Idx → α) (i : T.Idx) :
    select (broadcastInDim T ![] h x) (select (broadcastInDim T ![] h y) (u 3) (u 2)) (select (broadcastInDim T ![] h y) (u 1) (u 0)) i
      = u (chip (x fun a => a.elim0) (y fun a => a.elim0)) i := by
  rw [pick_two, pick_two, pick_two]
  rcases bit (x fun a => a.elim0) with hx | hx <;> rcases bit (y fun a => a.elim0) with hy | hy <;> rw [hx, hy] <;> rfl

end Picks

section Gather

variable {α : Type} {R C : ℕ} (h3 : (⟨0, ![]⟩ : Shape).BroadcastsInDim ⟨3, ![2, R, C]⟩ ![]) (h2 : (⟨0, ![]⟩ : Shape).BroadcastsInDim ⟨2, ![R, C]⟩ ![])
variable (x y c : (⟨0, ![]⟩ : Shape).Idx → BitVec 1) (r : Fin R) (q : Fin C)

/-- The pair that a device's chip names. -/
abbrev pairOf (w : (⟨4, ![4, 2, R, C]⟩ : Shape).Idx → α) (s3 : (⟨4, ![4, 2, R, C]⟩ : Shape).Slices ![3, 0, 0, 0] ⟨4, ![1, 2, R, C]⟩) (s2 : (⟨4, ![4, 2, R, C]⟩ : Shape).Slices ![2, 0, 0, 0] ⟨4, ![1, 2, R, C]⟩) (s1 : (⟨4, ![4, 2, R, C]⟩ : Shape).Slices ![1, 0, 0, 0] ⟨4, ![1, 2, R, C]⟩) (s0 : (⟨4, ![4, 2, R, C]⟩ : Shape).Slices ![0, 0, 0, 0] ⟨4, ![1, 2, R, C]⟩) (h : (⟨4, ![1, 2, R, C]⟩ : Shape).ShapeCasts ⟨3, ![2, R, C]⟩) :
    (⟨3, ![2, R, C]⟩ : Shape).Idx → α :=
  select (broadcastInDim _ ![] h3 x)
    (select (broadcastInDim _ ![] h3 y) (shapeCast _ (extractStridedSlice ⟨4, ![1, 2, R, C]⟩ ![3, 0, 0, 0] w s3) h)
      (shapeCast _ (extractStridedSlice ⟨4, ![1, 2, R, C]⟩ ![2, 0, 0, 0] w s2) h))
    (select (broadcastInDim _ ![] h3 y) (shapeCast _ (extractStridedSlice ⟨4, ![1, 2, R, C]⟩ ![1, 0, 0, 0] w s1) h)
      (shapeCast _ (extractStridedSlice ⟨4, ![1, 2, R, C]⟩ ![0, 0, 0, 0] w s0) h))

theorem pairOf_apply (w : (⟨4, ![4, 2, R, C]⟩ : Shape).Idx → α) (s3 s2 s1 s0) (h) (j : Fin 2) :
    pairOf h3 x y w s3 s2 s1 s0 h (ix3 j r q) = w (ix4 (chip (x fun a => a.elim0) (y fun a => a.elim0)) j r q) := by
  refine (pick_four h3 x y ![_, _, _, _] (ix3 j r q)).trans ?_
  generalize chip (x fun a => a.elim0) (y fun a => a.elim0) = k
  match k with
  | 0 => exact pair w 0 _ rfl s0 h j r q
  | 1 => exact pair w 1 _ rfl s1 h j r q
  | 2 => exact pair w 2 _ rfl s2 h j r q
  | 3 => exact pair w 3 _ rfl s3 h j r q

/-- The member of it that the core names. -/
theorem pick_own (w : (⟨4, ![4, 2, R, C]⟩ : Shape).Idx → α) (s3 s2 s1 s0) (h) (e1) (e0) (h') :
    select (broadcastInDim ⟨2, ![R, C]⟩ ![] h2 c)
      (shapeCast ⟨2, ![R, C]⟩ (extractStridedSlice ⟨3, ![1, R, C]⟩ ![1, 0, 0] (pairOf h3 x y w s3 s2 s1 s0 h) e1) h')
      (shapeCast ⟨2, ![R, C]⟩ (extractStridedSlice ⟨3, ![1, R, C]⟩ ![0, 0, 0] (pairOf h3 x y w s3 s2 s1 s0 h) e0) h')
      (ix2 r q) = w (ix4 (chip (x fun a => a.elim0) (y fun a => a.elim0)) (core (c fun a => a.elim0)) r q) := by
  refine (pick_two h2 c _ _ _).trans ?_
  rcases bit (c fun a => a.elim0) with hc | hc <;> rw [hc]
  · exact (if_neg (by decide)).trans ((row _ 0 _ rfl e0 h' r q).trans (pairOf_apply h3 x y r q w s3 s2 s1 s0 h 0))
  · exact (if_pos rfl).trans ((row _ 1 _ rfl e1 h' r q).trans (pairOf_apply h3 x y r q w s3 s2 s1 s0 h 1))

/-- The row that a device's chip names. -/
theorem pick_row (w : (⟨3, ![4, R, C]⟩ : Shape).Idx → α) (s3 s2 s1 s0) (h : (⟨3, ![1, R, C]⟩ : Shape).ShapeCasts ⟨2, ![R, C]⟩) :
    select (broadcastInDim ⟨2, ![R, C]⟩ ![] h2 x)
      (select (broadcastInDim _ ![] h2 y) (shapeCast _ (extractStridedSlice ⟨3, ![1, R, C]⟩ ![3, 0, 0] w s3) h)
        (shapeCast _ (extractStridedSlice ⟨3, ![1, R, C]⟩ ![2, 0, 0] w s2) h))
      (select (broadcastInDim _ ![] h2 y) (shapeCast _ (extractStridedSlice ⟨3, ![1, R, C]⟩ ![1, 0, 0] w s1) h)
        (shapeCast _ (extractStridedSlice ⟨3, ![1, R, C]⟩ ![0, 0, 0] w s0) h))
      (ix2 r q) = w (ix3 (chip (x fun a => a.elim0) (y fun a => a.elim0)) r q) := by
  refine (pick_four h2 x y ![_, _, _, _] (ix2 r q)).trans ?_
  generalize chip (x fun a => a.elim0) (y fun a => a.elim0) = k
  match k with
  | 0 => exact row w 0 _ rfl s0 h r q
  | 1 => exact row w 1 _ rfl s1 h r q
  | 2 => exact row w 2 _ rfl s2 h r q
  | 3 => exact row w 3 _ rfl s3 h r q

/-- The sum of the parts as the reference has it: its own and its sibling's picked, the other chips' added first. -/
theorem grad_of (A : Shard R C) {o s z : (⟨2, ![R, C]⟩ : Shape).Idx → EReal} (ho : o (ix2 r q) = A.own (ix4 (chip A.x A.y) (core A.c) r q))
    (hs : s (ix2 r q) = A.sibling (ix3 (chip A.x A.y) r q)) (hz : z (ix2 r q) = lit 0x00000000#32 + ∑ k, A.others (ix3 k r q)) :
    o (ix2 r q) + s (ix2 r q) + z (ix2 r q) = A.grad (ix2 r q) := by
  rw [ho, hs, hz]
  exact total_sum _ _ _

end Gather

end Cert.Adam

end
-- ==== Proof.Ok23Ideal.lean ====
/-
  The table that `Kernel23Ideal` prefetches holds the seats of the device, and every block it names lies inside its array.
-/
module

public import proofs.«01_k».proof.Proof.Gen.Kernel23Ideal.Frame
public import proofs.«01_k».proof.Proof.Adam

@[expose] public section

set_option maxRecDepth 16384

noncomputable section

namespace Cert.Kernel23Ideal.Places

open Cert.Kernel23Ideal Cert.Kernel23Ideal.Gen Cert.Slots Cert.Adam
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S5.Idx => BitVec.ofNat 32 (seats x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

/-- Five words side by side. -/
def five (p0 p1 p2 p3 p4 : (⟨S1, .i32⟩ : BufTy).Contents (Elt F)) : (⟨S5, .i32⟩ : BufTy).Contents (Elt F) :=
  concatenate S5 0 [⟨S1, p0⟩, ⟨S1, p1⟩, ⟨S1, p2⟩, ⟨S1, p3⟩, ⟨S1, p4⟩] concatenates_S1_S1_S1_S1_S1_S5_d0

theorem tbl_eq : tbl m = words (F := F) (X m) (Y m) (C m) := funext fun
  | 0 => by
    show StableHlo.after hostOps0 (fun b => m (0, b)) (Proc.devRef .tc main_v20) = _
    unfold hostOps0
    simp only [StableHlo.after_cons, StableHlo.after_nil]
    rw [StableHlo.nary_result]
    show five (F := F) _ _ _ _ _ = _
    dsimp only [Matrix.cons_val]
    after_results_simp
    exact (seats_words (m (((0 : Dev nD) : Thread nD τ).loc main_arg0)) (m (((0 : Dev nD) : Thread nD τ).loc main_arg1))
      (m (((0 : Dev nD) : Thread nD τ).loc main_arg2)) bcast_S_S1 natLt_1_32 concatenates_S1_S1_S1_S1_S1_S5_d0)

theorem ok : Ok m := by
  unfold Ok
  rw [tbl_eq]
  exact ok_words _ _ _

end Cert.Kernel23Ideal.Places

end
-- ==== Proof.AdamUp.lean ====
/-
  The optimiser on the widening weight: each point of the grid takes one tile of 256 rows of every array, adds the five parts
  of the gradient and writes the gradient, the step and the two running means.
-/
module

public import proofs.«01_k».proof.Proof.Ok23Ideal
public import proofs.«01_k».proof.Proof.Gen.Reference23Ideal.Read

@[expose] public section

set_option maxRecDepth 16384

noncomputable section

namespace Cert.AdamUp

open Cert.Kernel23Ideal Cert.Kernel23Ideal.Gen Cert.Kernel23Ideal.Places Cert.Reference23Ideal.Read Cert.Slots Cert.Adam
open Idealize.ShloMosaic hiding ix1 ix2 ix3 ix4 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (ρ : Dev nD → PrngReg) (c : Dev nD)

/-- What the device holds of the weight. -/
def A : Shard 2048 1024 :=
  ⟨V m c main_arg3, V m c main_arg4, V m c main_arg5, V m c main_arg6, V m c main_arg7, V m c main_arg8, X m, Y m, C m⟩

/-- Where the blocks of a point lie, and that each output is written back. -/
abbrev Lie (x y z : BitVec 1) (a : (pcfg0 (F := Ideal)).Adm) (t : Fin grid0.N) : Prop :=
  ((win0 a 0).index t = ![t.val, 0] ∧ (win0 a 1).index t = ![t.val, 0] ∧ (win0 a 2).index t = ![t.val, 0]
    ∧ (win0 a 3).index t = ![(chip x y).val, (core z).val, t.val, 0] ∧ (win0 a 4).index t = ![(chip x y).val, t.val, 0]
    ∧ (win0 a 5).index t = ![0, t.val, 0])
  ∧ ((win0 a 6).index t = ![t.val, 0] ∧ (win0 a 7).index t = ![t.val, 0] ∧ (win0 a 8).index t = ![t.val, 0] ∧ (win0 a 9).index t = ![t.val, 0])
  ∧ ((win0 a 6).flush t = true ∧ (win0 a 7).flush t = true ∧ (win0 a 8).flush t = true ∧ (win0 a 9).flush t = true)

theorem lie (x y z : BitVec 1) (a : (pcfg0 (F := Ideal)).Adm) (h : a.1 = words x y z) (t : Fin grid0.N) : Lie x y z a t := by
  obtain ⟨p, hp⟩ := a
  obtain rfl : p = words x y z := h
  revert t
  rcases bit x with rfl | rfl <;> rcases bit y with rfl | rfl <;> rcases bit z with rfl | rfl <;> exact of_decide_eq_true (by sl_kernel_rfl)

theorem lies (t : Fin (cfgM m (ok m)).N) : Lie (X m) (Y m) (C m) (adm m (ok m)) t := lie _ _ _ (adm m (ok m)) (tbl_eq m) t

/-- What the pipeline leaves in an array. -/
abbrev res (w : Fin 10) := (dats m (ok m) 0 c).arrAt w (cfgM m (ok m)).N

/-- The four results. -/
abbrev outG : Vec Ideal S2048x1024 .f32 := res m c 6
abbrev outD : Vec Ideal S2048x1024 .f32 := res m c 7
abbrev outA : Vec Ideal S2048x1024 .f32 := res m c 8
abbrev outB : Vec Ideal S2048x1024 .f32 := res m c 9

/-- An output read through the blocks of the points. -/
theorem through (a : (pcfg0 (F := Ideal)).Adm) (t : Fin (cfg0 a).N) (f : Vec Ideal S2048x1024 .f32) (g : Vec Ideal S256x1024 .f32) (y : S256x1024.Idx) (i : S2048x1024.Idx) :
    (((win0 a 6).blk t).view.emb y = i → ((win0 a 6).blk t).view.read (Elt Ideal) f = (win0 a 6).cut (grid0.coords t) g → f i = g y)
    ∧ (((win0 a 7).blk t).view.emb y = i → ((win0 a 7).blk t).view.read (Elt Ideal) f = (win0 a 7).cut (grid0.coords t) g → f i = g y)
    ∧ (((win0 a 8).blk t).view.emb y = i → ((win0 a 8).blk t).view.read (Elt Ideal) f = (win0 a 8).cut (grid0.coords t) g → f i = g y)
    ∧ (((win0 a 9).blk t).view.emb y = i → ((win0 a 9).blk t).view.read (Elt Ideal) f = (win0 a 9).cut (grid0.coords t) g → f i = g y) := by
  refine ⟨?_, ?_, ?_, ?_⟩ <;> exact fun e h => (congrArg f e).symm.trans (congrFun h y)

section Point

variable (x0 x1 x2 : Vec Ideal S256x1024 .f32) (x3 : Vec Ideal S1x1x256x1024 .bf16) (x4 : Vec Ideal S1x256x1024 .bf16) (x5 : Vec Ideal S3x256x1024 .bf16)
variable (r : Fin 256) (q : Fin 1024)

/-- What a point writes at an entry of its tile. -/
theorem out (i a2 h2 a3 h3 a4 h4 a5 h5 a6 h6 a7 h7 a8 h8 a9 h9 a10 h10 a11 h11 xt) :
    out0_A_6 c i a2 h2 a3 h3 a4 h4 a5 h5 a6 h6 a7 h7 a8 h8 a9 h9 a10 h10 a11 h11 x0 x1 x2 x3 x4 x5 xt (ix2 r q) = parts x3 x4 x5 r q
    ∧ out0_A_7 c i a2 h2 a3 h3 a4 h4 a5 h5 a6 h6 a7 h7 a8 h8 a9 h9 a10 h10 a11 h11 x0 x1 x2 x3 x4 x5 xt (ix2 r q)
      = step (x0 (ix2 r q)) (mean (x1 (ix2 r q)) (parts x3 x4 x5 r q)) (square (x2 (ix2 r q)) (parts x3 x4 x5 r q))
    ∧ out0_A_8 c i a2 h2 a3 h3 a4 h4 a5 h5 a6 h6 a7 h7 a8 h8 a9 h9 a10 h10 a11 h11 x0 x1 x2 x3 x4 x5 xt (ix2 r q) = mean (x1 (ix2 r q)) (parts x3 x4 x5 r q)
    ∧ out0_A_9 c i a2 h2 a3 h3 a4 h4 a5 h5 a6 h6 a7 h7 a8 h8 a9 h9 a10 h10 a11 h11 x0 x1 x2 x3 x4 x5 xt (ix2 r q) = square (x2 (ix2 r q)) (parts x3 x4 x5 r q) := by
  unfold out0_A_6 out0_A_7 out0_A_8 out0_A_9
  frame_out
  have e := loads x3 x4 x5 shapeCasts_S1x1x256x1024_S256x1024 shapeCasts_S1x256x1024_S256x1024 (by decide) (by decide) (by decide) r q
  exact ⟨e, congrArg₂ (step _) (congrArg (mean _) e) (congrArg (square _) e), congrArg (mean _) e, congrArg (square _) e⟩

end Point

section Tile

variable (t : Fin (cfgM m (ok m)).N) (r : Fin 256) (q : Fin 1024) (P : Fin 2048) (hP : P.val = t.val * 256 + r.val)

/-- The six blocks that a point reads. -/
abbrev X0 : Vec Ideal S256x1024 .f32 := iblk m (ok m) c 0 t
abbrev X1 : Vec Ideal S256x1024 .f32 := iblk m (ok m) c 1 t
abbrev X2 : Vec Ideal S256x1024 .f32 := iblk m (ok m) c 2 t
abbrev X3 : Vec Ideal S1x1x256x1024 .bf16 := iblk m (ok m) c 3 t
abbrev X4 : Vec Ideal S1x256x1024 .bf16 := iblk m (ok m) c 4 t
abbrev X5 : Vec Ideal S3x256x1024 .bf16 := iblk m (ok m) c 5 t

include hP

/-- What the outputs hold at an entry, from the blocks of the point whose tile it lies in. -/
theorem left : outG m c (ix2 P q) = (outsAt0 m (ok m) c t).1 (ix2 r q) ∧ outD m c (ix2 P q) = (outsAt0 m (ok m) c t).2.1 (ix2 r q)
    ∧ outA m c (ix2 P q) = (outsAt0 m (ok m) c t).2.2.1 (ix2 r q) ∧ outB m c (ix2 P q) = (outsAt0 m (ok m) c t).2.2.2 (ix2 r q) := by
  have l6 := (dats m (ok m) 0 c).read_blk_arrAt_eq_flushed 6 (Pipeline.Window.hdisj_of_index_inj _ fun t t' _ _ => first_axis (lies m t).2.1.1 (lies m t').2.1.1)
    (cfgM m (ok m)).N t t.isLt (lies m t).2.2.1
  have l7 := (dats m (ok m) 0 c).read_blk_arrAt_eq_flushed 7 (Pipeline.Window.hdisj_of_index_inj _ fun t t' _ _ => first_axis (lies m t).2.1.2.1 (lies m t').2.1.2.1)
    (cfgM m (ok m)).N t t.isLt (lies m t).2.2.2.1
  have l8 := (dats m (ok m) 0 c).read_blk_arrAt_eq_flushed 8 (Pipeline.Window.hdisj_of_index_inj _ fun t t' _ _ => first_axis (lies m t).2.1.2.2.1 (lies m t').2.1.2.2.1)
    (cfgM m (ok m)).N t t.isLt (lies m t).2.2.2.2.1
  have l9 := (dats m (ok m) 0 c).read_blk_arrAt_eq_flushed 9 (Pipeline.Window.hdisj_of_index_inj _ fun t t' _ _ => first_axis (lies m t).2.1.2.2.2 (lies m t').2.1.2.2.2)
    (cfgM m (ok m)).N t t.isLt (lies m t).2.2.2.2.2
  rw [Pipeline.Dat.flushed, after0_6] at l6
  rw [Pipeline.Dat.flushed, after0_7] at l7
  rw [Pipeline.Dat.flushed, after0_8] at l8
  rw [Pipeline.Dat.flushed, after0_9] at l9
  obtain ⟨r6, r7, r8, r9⟩ := (lies m t).2.1
  exact ⟨(through (adm m (ok m)) t _ _ (ix2 r q) _).1 (rows hP _ r6 rfl rfl) l6,
    (through (adm m (ok m)) t _ _ (ix2 r q) _).2.1 (rows hP _ r7 rfl rfl) l7,
    (through (adm m (ok m)) t _ _ (ix2 r q) _).2.2.1 (rows hP _ r8 rfl rfl) l8,
    (through (adm m (ok m)) t _ _ (ix2 r q) _).2.2.2 (rows hP _ r9 rfl rfl) l9⟩

theorem read (k : Fin 3) : X3 m c t (ix4 0 0 r q) = (A m c).own (ix4 (chip (X m) (Y m)) (core (C m)) P q)
    ∧ X4 m c t (ix3 0 r q) = (A m c).sibling (ix3 (chip (X m) (Y m)) P q) ∧ X5 m c t (ix3 k r q) = (A m c).others (ix3 k P q) := by
  obtain ⟨-, -, -, h3, h4, h5⟩ := (lies m t).1
  exact ⟨congrArg (V m c main_arg6) (rows4 hP _ h3 rfl rfl rfl rfl), congrArg (V m c main_arg7) (rows3 hP _ (L := 1) (j := 0) h4 (Nat.mul_one _) rfl rfl rfl),
    congrArg (V m c main_arg8) (rows3 hP _ (k := k) h5 (show 0 * 3 + 1 * k.val = k.val by omega) rfl rfl rfl)⟩

theorem tile : outG m c (ix2 P q) = (A m c).grad (ix2 P q) ∧ outD m c (ix2 P q) = (A m c).delta (ix2 P q)
    ∧ outA m c (ix2 P q) = (A m c).newFirst (ix2 P q) ∧ outB m c (ix2 P q) = (A m c).newSecond (ix2 P q) := by
  obtain ⟨h0, h1, h2, -⟩ := (lies m t).1
  have b0 : X0 m c t (ix2 r q) = (A m c).weight (ix2 P q) := congrArg (V m c main_arg3) (rows hP _ h0 rfl rfl)
  have b1 : X1 m c t (ix2 r q) = (A m c).first (ix2 P q) := congrArg (V m c main_arg4) (rows hP _ h1 rfl rfl)
  have b2 : X2 m c t (ix2 r q) = (A m c).second (ix2 P q) := congrArg (V m c main_arg5) (rows hP _ h2 rfl rfl)
  obtain ⟨l6, l7, l8, l9⟩ := left m c t r q P hP
  rw [l6, l7, l8, l9]
  unfold outsAt0; dsimp only
  obtain ⟨o6, o7, o8, o9⟩ := out c (X0 m c t) (X1 m c t) (X2 m c t) (X3 m c t) (X4 m c t) (X5 m c t) r q _ _ _ _ _ _ _ _ _ _ _ _ _ _ _ _ _ _ _ _ _ _
  have e := (A m c).entry b0 b1 b2 (read m c t r q P hP 0).1 (read m c t r q P hP 0).2.1 fun k => (read m c t r q P hP k).2.2
  exact ⟨o6.trans e.1, o7.trans e.2.1, o8.trans e.2.2.1, o9.trans e.2.2.2⟩

end Tile

theorem done : (A m c).Done (outG m c) (outD m c) (outA m c) (outB m c) := (A m c).done (N := 8) (T := 256) (by decide) (by decide) (tile m c)

section Reference

/-- The arguments. -/
abbrev arg (b : Fin 9) := m ((c : Thread nD τ).loc (![main_arg0, main_arg1, main_arg2, main_arg3, main_arg4, main_arg5, main_arg6, main_arg7, main_arg8] b))

theorem ref : val_main_v32 (F := Ideal) (arg m c 0) (arg m c 1) (arg m c 2) (arg m c 6) (arg m c 7) (arg m c 8) = (A m c).grad := by
  obtain rfl : c = 0 := Subsingleton.elim _ _
  have e6 : (arg m 0 6 : Vec Ideal S4x2x2048x1024 .bf16) = (A m 0).own := (V_main_arg6 m 0).symm
  have e7 : (arg m 0 7 : Vec Ideal S4x2048x1024 .bf16) = (A m 0).sibling := (V_main_arg7 m 0).symm
  have e8 : (arg m 0 8 : Vec Ideal S3x2048x1024 .bf16) = (A m 0).others := (V_main_arg8 m 0).symm
  rw [e6, e7, e8]
  funext i
  obtain ⟨P, q, rfl⟩ : ∃ (P : Fin 2048) (q : Fin 1024), i = ix2 P q := ⟨i 0, i 1, eq_ix2 i⟩
  refine grad_of P q (A m 0) (o := val_main_v15 (F := Ideal) (arg m 0 0) (arg m 0 1) (arg m 0 2) (A m 0).own)
    (s := val_main_v27 (F := Ideal) (arg m 0 0) (arg m 0 1) (A m 0).sibling) (z := val_main_v31 (F := Ideal) (A m 0).others) ?_ ?_ ?_
  · exact pick_own _ _ _ _ _ P q (A m 0).own _ _ _ _ _ _ _ _
  · exact pick_row _ _ _ P q (A m 0).sibling _ _ _ _ _
  · exact (val_main_v31_apply _ _).trans (congrArg (_ + ·) (Finset.sum_congr rfl fun k _ => congrArg (A m 0).others (eq_ix3 _)))

/-- The four results of the reference are the kernel's. -/
theorem same : val_main_v32 (F := Ideal) (arg m c 0) (arg m c 1) (arg m c 2) (arg m c 6) (arg m c 7) (arg m c 8) = res m c 6
    ∧ val_main_v56 (F := Ideal) (arg m c 0) (arg m c 1) (arg m c 2) (arg m c 3) (arg m c 4) (arg m c 5) (arg m c 6) (arg m c 7) (arg m c 8) = res m c 7
    ∧ val_main_v37 (F := Ideal) (arg m c 0) (arg m c 1) (arg m c 2) (arg m c 4) (arg m c 6) (arg m c 7) (arg m c 8) = res m c 8
    ∧ val_main_v43 (F := Ideal) (arg m c 0) (arg m c 1) (arg m c 2) (arg m c 5) (arg m c 6) (arg m c 7) (arg m c 8) = res m c 9 := by
  have e3 : (arg m c 3 : Vec Ideal S2048x1024 .f32) = (A m c).weight := (V_main_arg3 m c).symm
  have e4 : (arg m c 4 : Vec Ideal S2048x1024 .f32) = (A m c).first := (V_main_arg4 m c).symm
  have e5 : (arg m c 5 : Vec Ideal S2048x1024 .f32) = (A m c).second := (V_main_arg5 m c).symm
  obtain ⟨g, d, a, b⟩ := done m c
  refine ⟨(ref m c).trans g, Eq.trans ?_ d, Eq.trans ?_ a, Eq.trans ?_ b⟩
  · unfold Shard.delta Shard.newFirst Shard.newSecond
    rw [← ref m c, ← e3, ← e4, ← e5]; rfl
  · unfold Shard.newFirst
    rw [← ref m c, ← e4]; rfl
  · unfold Shard.newSecond
    rw [← ref m c, ← e5]; rfl

end Reference

end Cert.AdamUp

end
-- ==== Proof.Ok24Ideal.lean ====
/-
  The table that `Kernel24Ideal` prefetches holds the seats of the device, and every block it names lies inside its array.
-/
module

public import proofs.«01_k».proof.Proof.Gen.Kernel24Ideal.Frame
public import proofs.«01_k».proof.Proof.Adam

@[expose] public section

set_option maxRecDepth 16384

noncomputable section

namespace Cert.Kernel24Ideal.Places

open Cert.Kernel24Ideal Cert.Kernel24Ideal.Gen Cert.Slots Cert.Adam
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S5.Idx => BitVec.ofNat 32 (seats x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

/-- Five words side by side. -/
def five (p0 p1 p2 p3 p4 : (⟨S1, .i32⟩ : BufTy).Contents (Elt F)) : (⟨S5, .i32⟩ : BufTy).Contents (Elt F) :=
  concatenate S5 0 [⟨S1, p0⟩, ⟨S1, p1⟩, ⟨S1, p2⟩, ⟨S1, p3⟩, ⟨S1, p4⟩] concatenates_S1_S1_S1_S1_S1_S5_d0

theorem tbl_eq : tbl m = words (F := F) (X m) (Y m) (C m) := funext fun
  | 0 => by
    show StableHlo.after hostOps0 (fun b => m (0, b)) (Proc.devRef .tc main_v20) = _
    unfold hostOps0
    simp only [StableHlo.after_cons, StableHlo.after_nil]
    rw [StableHlo.nary_result]
    show five (F := F) _ _ _ _ _ = _
    dsimp only [Matrix.cons_val]
    after_results_simp
    exact (seats_words (m (((0 : Dev nD) : Thread nD τ).loc main_arg0)) (m (((0 : Dev nD) : Thread nD τ).loc main_arg1))
      (m (((0 : Dev nD) : Thread nD τ).loc main_arg2)) bcast_S_S1 natLt_1_32 concatenates_S1_S1_S1_S1_S1_S5_d0)

theorem ok : Ok m := by
  unfold Ok
  rw [tbl_eq]
  exact ok_words _ _ _

end Cert.Kernel24Ideal.Places

end
-- ==== Proof.AdamDown.lean ====
/-
  The optimiser on the narrowing weight: each point of the grid takes one tile of 128 rows of every array, adds the five parts
  of the gradient and writes the gradient, the step and the two running means.
-/
module

public import proofs.«01_k».proof.Proof.Ok24Ideal
public import proofs.«01_k».proof.Proof.Gen.Reference24Ideal.Read

@[expose] public section

set_option maxRecDepth 16384

noncomputable section

namespace Cert.AdamDown

open Cert.Kernel24Ideal Cert.Kernel24Ideal.Gen Cert.Kernel24Ideal.Places Cert.Reference24Ideal.Read Cert.Slots Cert.Adam
open Idealize.ShloMosaic hiding ix1 ix2 ix3 ix4 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (c : Dev nD)

/-- What the device holds of the weight. -/
def A : Shard 1024 2048 :=
  ⟨V m c main_arg3, V m c main_arg4, V m c main_arg5, V m c main_arg6, V m c main_arg7, V m c main_arg8, X m, Y m, C m⟩

/-- Where the blocks of a point lie, and that each output is written back. -/
abbrev Lie (x y z : BitVec 1) (a : (pcfg0 (F := Ideal)).Adm) (t : Fin grid0.N) : Prop :=
  ((win0 a 0).index t = ![t.val, 0] ∧ (win0 a 1).index t = ![t.val, 0] ∧ (win0 a 2).index t = ![t.val, 0]
    ∧ (win0 a 3).index t = ![(chip x y).val, (core z).val, t.val, 0] ∧ (win0 a 4).index t = ![(chip x y).val, t.val, 0]
    ∧ (win0 a 5).index t = ![0, t.val, 0])
  ∧ ((win0 a 6).index t = ![t.val, 0] ∧ (win0 a 7).index t = ![t.val, 0] ∧ (win0 a 8).index t = ![t.val, 0] ∧ (win0 a 9).index t = ![t.val, 0])
  ∧ ((win0 a 6).flush t = true ∧ (win0 a 7).flush t = true ∧ (win0 a 8).flush t = true ∧ (win0 a 9).flush t = true)

theorem lie (x y z : BitVec 1) (a : (pcfg0 (F := Ideal)).Adm) (h : a.1 = words x y z) (t : Fin grid0.N) : Lie x y z a t := by
  obtain ⟨p, hp⟩ := a
  obtain rfl : p = words x y z := h
  revert t
  rcases bit x with rfl | rfl <;> rcases bit y with rfl | rfl <;> rcases bit z with rfl | rfl <;> exact of_decide_eq_true (by sl_kernel_rfl)

theorem lies (t : Fin (cfgM m (ok m)).N) : Lie (X m) (Y m) (C m) (adm m (ok m)) t := lie _ _ _ (adm m (ok m)) (tbl_eq m) t

/-- What the pipeline leaves in an array. -/
abbrev res (w : Fin 10) := (dats m (ok m) 0 c).arrAt w (cfgM m (ok m)).N

/-- The four results. -/
abbrev outG : Vec Ideal S1024x2048 .f32 := res m c 6
abbrev outD : Vec Ideal S1024x2048 .f32 := res m c 7
abbrev outA : Vec Ideal S1024x2048 .f32 := res m c 8
abbrev outB : Vec Ideal S1024x2048 .f32 := res m c 9

/-- An output read through the blocks of the points. -/
theorem through (a : (pcfg0 (F := Ideal)).Adm) (t : Fin (cfg0 a).N) (f : Vec Ideal S1024x2048 .f32) (g : Vec Ideal S128x2048 .f32) (y : S128x2048.Idx) (i : S1024x2048.Idx) :
    (((win0 a 6).blk t).view.emb y = i → ((win0 a 6).blk t).view.read (Elt Ideal) f = (win0 a 6).cut (grid0.coords t) g → f i = g y)
    ∧ (((win0 a 7).blk t).view.emb y = i → ((win0 a 7).blk t).view.read (Elt Ideal) f = (win0 a 7).cut (grid0.coords t) g → f i = g y)
    ∧ (((win0 a 8).blk t).view.emb y = i → ((win0 a 8).blk t).view.read (Elt Ideal) f = (win0 a 8).cut (grid0.coords t) g → f i = g y)
    ∧ (((win0 a 9).blk t).view.emb y = i → ((win0 a 9).blk t).view.read (Elt Ideal) f = (win0 a 9).cut (grid0.coords t) g → f i = g y) := by
  refine ⟨?_, ?_, ?_, ?_⟩ <;> exact fun e h => (congrArg f e).symm.trans (congrFun h y)

/-- What a point writes at an entry of its tile. -/
theorem out (x0 x1 x2 : Vec Ideal S128x2048 .f32) (x3 : Vec Ideal S1x1x128x2048 .bf16) (x4 : Vec Ideal S1x128x2048 .bf16) (x5 : Vec Ideal S3x128x2048 .bf16)
    (r : Fin 128) (q : Fin 2048) (i a2 h2 a3 h3 a4 h4 a5 h5 a6 h6 a7 h7 a8 h8 a9 h9 a10 h10 a11 h11 xt) :
    out0_A_6 c i a2 h2 a3 h3 a4 h4 a5 h5 a6 h6 a7 h7 a8 h8 a9 h9 a10 h10 a11 h11 x0 x1 x2 x3 x4 x5 xt (ix2 r q) = parts x3 x4 x5 r q
    ∧ out0_A_7 c i a2 h2 a3 h3 a4 h4 a5 h5 a6 h6 a7 h7 a8 h8 a9 h9 a10 h10 a11 h11 x0 x1 x2 x3 x4 x5 xt (ix2 r q)
      = step (x0 (ix2 r q)) (mean (x1 (ix2 r q)) (parts x3 x4 x5 r q)) (square (x2 (ix2 r q)) (parts x3 x4 x5 r q))
    ∧ out0_A_8 c i a2 h2 a3 h3 a4 h4 a5 h5 a6 h6 a7 h7 a8 h8 a9 h9 a10 h10 a11 h11 x0 x1 x2 x3 x4 x5 xt (ix2 r q) = mean (x1 (ix2 r q)) (parts x3 x4 x5 r q)
    ∧ out0_A_9 c i a2 h2 a3 h3 a4 h4 a5 h5 a6 h6 a7 h7 a8 h8 a9 h9 a10 h10 a11 h11 x0 x1 x2 x3 x4 x5 xt (ix2 r q) = square (x2 (ix2 r q)) (parts x3 x4 x5 r q) := by
  unfold out0_A_6 out0_A_7 out0_A_8 out0_A_9
  frame_out
  have e := loads x3 x4 x5 shapeCasts_S1x1x128x2048_S128x2048 shapeCasts_S1x128x2048_S128x2048 (by decide) (by decide) (by decide) r q
  exact ⟨e, congrArg₂ (step _) (congrArg (mean _) e) (congrArg (square _) e), congrArg (mean _) e, congrArg (square _) e⟩

section Tile

variable (t : Fin (cfgM m (ok m)).N) (r : Fin 128) (q : Fin 2048) (P : Fin 1024) (hP : P.val = t.val * 128 + r.val)

/-- The six blocks that a point reads. -/
abbrev X0 : Vec Ideal S128x2048 .f32 := iblk m (ok m) c 0 t
abbrev X1 : Vec Ideal S128x2048 .f32 := iblk m (ok m) c 1 t
abbrev X2 : Vec Ideal S128x2048 .f32 := iblk m (ok m) c 2 t
abbrev X3 : Vec Ideal S1x1x128x2048 .bf16 := iblk m (ok m) c 3 t
abbrev X4 : Vec Ideal S1x128x2048 .bf16 := iblk m (ok m) c 4 t
abbrev X5 : Vec Ideal S3x128x2048 .bf16 := iblk m (ok m) c 5 t

include hP

/-- What the outputs hold at an entry, from the blocks of the point whose tile it lies in. -/
theorem left : outG m c (ix2 P q) = (outsAt0 m (ok m) c t).1 (ix2 r q) ∧ outD m c (ix2 P q) = (outsAt0 m (ok m) c t).2.1 (ix2 r q)
    ∧ outA m c (ix2 P q) = (outsAt0 m (ok m) c t).2.2.1 (ix2 r q) ∧ outB m c (ix2 P q) = (outsAt0 m (ok m) c t).2.2.2 (ix2 r q) := by
  have l6 := (dats m (ok m) 0 c).read_blk_arrAt_eq_flushed 6 (Pipeline.Window.hdisj_of_index_inj _ fun t t' _ _ => first_axis (lies m t).2.1.1 (lies m t').2.1.1)
    (cfgM m (ok m)).N t t.isLt (lies m t).2.2.1
  have l7 := (dats m (ok m) 0 c).read_blk_arrAt_eq_flushed 7 (Pipeline.Window.hdisj_of_index_inj _ fun t t' _ _ => first_axis (lies m t).2.1.2.1 (lies m t').2.1.2.1)
    (cfgM m (ok m)).N t t.isLt (lies m t).2.2.2.1
  have l8 := (dats m (ok m) 0 c).read_blk_arrAt_eq_flushed 8 (Pipeline.Window.hdisj_of_index_inj _ fun t t' _ _ => first_axis (lies m t).2.1.2.2.1 (lies m t').2.1.2.2.1)
    (cfgM m (ok m)).N t t.isLt (lies m t).2.2.2.2.1
  have l9 := (dats m (ok m) 0 c).read_blk_arrAt_eq_flushed 9 (Pipeline.Window.hdisj_of_index_inj _ fun t t' _ _ => first_axis (lies m t).2.1.2.2.2 (lies m t').2.1.2.2.2)
    (cfgM m (ok m)).N t t.isLt (lies m t).2.2.2.2.2
  rw [Pipeline.Dat.flushed, after0_6] at l6
  rw [Pipeline.Dat.flushed, after0_7] at l7
  rw [Pipeline.Dat.flushed, after0_8] at l8
  rw [Pipeline.Dat.flushed, after0_9] at l9
  obtain ⟨r6, r7, r8, r9⟩ := (lies m t).2.1
  exact ⟨(through (adm m (ok m)) t _ _ (ix2 r q) _).1 (rows hP _ r6 rfl rfl) l6, (through (adm m (ok m)) t _ _ (ix2 r q) _).2.1 (rows hP _ r7 rfl rfl) l7,
    (through (adm m (ok m)) t _ _ (ix2 r q) _).2.2.1 (rows hP _ r8 rfl rfl) l8, (through (adm m (ok m)) t _ _ (ix2 r q) _).2.2.2 (rows hP _ r9 rfl rfl) l9⟩

theorem read (k : Fin 3) : X3 m c t (ix4 0 0 r q) = (A m c).own (ix4 (chip (X m) (Y m)) (core (C m)) P q)
    ∧ X4 m c t (ix3 0 r q) = (A m c).sibling (ix3 (chip (X m) (Y m)) P q) ∧ X5 m c t (ix3 k r q) = (A m c).others (ix3 k P q) := by
  obtain ⟨-, -, -, h3, h4, h5⟩ := (lies m t).1
  exact ⟨congrArg (V m c main_arg6) (rows4 hP _ h3 rfl rfl rfl rfl), congrArg (V m c main_arg7) (rows3 hP _ (L := 1) (j := 0) h4 (Nat.mul_one _) rfl rfl rfl),
    congrArg (V m c main_arg8) (rows3 hP _ (k := k) h5 (show 0 * 3 + 1 * k.val = k.val by omega) rfl rfl rfl)⟩

theorem tile : outG m c (ix2 P q) = (A m c).grad (ix2 P q) ∧ outD m c (ix2 P q) = (A m c).delta (ix2 P q)
    ∧ outA m c (ix2 P q) = (A m c).newFirst (ix2 P q) ∧ outB m c (ix2 P q) = (A m c).newSecond (ix2 P q) := by
  obtain ⟨h0, h1, h2, -⟩ := (lies m t).1
  have b0 : X0 m c t (ix2 r q) = (A m c).weight (ix2 P q) := congrArg (V m c main_arg3) (rows hP _ h0 rfl rfl)
  have b1 : X1 m c t (ix2 r q) = (A m c).first (ix2 P q) := congrArg (V m c main_arg4) (rows hP _ h1 rfl rfl)
  have b2 : X2 m c t (ix2 r q) = (A m c).second (ix2 P q) := congrArg (V m c main_arg5) (rows hP _ h2 rfl rfl)
  obtain ⟨l6, l7, l8, l9⟩ := left m c t r q P hP
  rw [l6, l7, l8, l9]
  unfold outsAt0; dsimp only
  obtain ⟨o6, o7, o8, o9⟩ := out c (X0 m c t) (X1 m c t) (X2 m c t) (X3 m c t) (X4 m c t) (X5 m c t) r q _ _ _ _ _ _ _ _ _ _ _ _ _ _ _ _ _ _ _ _ _ _
  have e := (A m c).entry b0 b1 b2 (read m c t r q P hP 0).1 (read m c t r q P hP 0).2.1 fun k => (read m c t r q P hP k).2.2
  exact ⟨o6.trans e.1, o7.trans e.2.1, o8.trans e.2.2.1, o9.trans e.2.2.2⟩

end Tile

theorem done : (A m c).Done (outG m c) (outD m c) (outA m c) (outB m c) := (A m c).done (N := 8) (T := 128) (by decide) (by decide) (tile m c)

/-- The arguments. -/
abbrev arg (b : Fin 9) := m ((c : Thread nD τ).loc (![main_arg0, main_arg1, main_arg2, main_arg3, main_arg4, main_arg5, main_arg6, main_arg7, main_arg8] b))

theorem ref : val_main_v32 (F := Ideal) (arg m c 0) (arg m c 1) (arg m c 2) (arg m c 6) (arg m c 7) (arg m c 8) = (A m c).grad := by
  obtain rfl : c = 0 := Subsingleton.elim _ _
  have e6 : (arg m 0 6 : Vec Ideal S4x2x1024x2048 .bf16) = (A m 0).own := (V_main_arg6 m 0).symm
  have e7 : (arg m 0 7 : Vec Ideal S4x1024x2048 .bf16) = (A m 0).sibling := (V_main_arg7 m 0).symm
  have e8 : (arg m 0 8 : Vec Ideal S3x1024x2048 .bf16) = (A m 0).others := (V_main_arg8 m 0).symm
  rw [e6, e7, e8]
  funext i
  obtain ⟨P, q, rfl⟩ : ∃ (P : Fin 1024) (q : Fin 2048), i = ix2 P q := ⟨i 0, i 1, eq_ix2 i⟩
  refine grad_of P q (A m 0) (o := val_main_v15 (F := Ideal) (arg m 0 0) (arg m 0 1) (arg m 0 2) (A m 0).own)
    (s := val_main_v27 (F := Ideal) (arg m 0 0) (arg m 0 1) (A m 0).sibling) (z := val_main_v31 (F := Ideal) (A m 0).others) ?_ ?_ ?_
  · exact pick_own _ _ _ _ _ P q (A m 0).own _ _ _ _ _ _ _ _
  · exact pick_row _ _ _ P q (A m 0).sibling _ _ _ _ _
  · exact (val_main_v31_apply _ _).trans (congrArg (_ + ·) (Finset.sum_congr rfl fun k _ => congrArg (A m 0).others (eq_ix3 _)))

/-- The four results of the reference are the kernel's. -/
theorem same : val_main_v32 (F := Ideal) (arg m c 0) (arg m c 1) (arg m c 2) (arg m c 6) (arg m c 7) (arg m c 8) = res m c 6
    ∧ val_main_v56 (F := Ideal) (arg m c 0) (arg m c 1) (arg m c 2) (arg m c 3) (arg m c 4) (arg m c 5) (arg m c 6) (arg m c 7) (arg m c 8) = res m c 7
    ∧ val_main_v37 (F := Ideal) (arg m c 0) (arg m c 1) (arg m c 2) (arg m c 4) (arg m c 6) (arg m c 7) (arg m c 8) = res m c 8
    ∧ val_main_v43 (F := Ideal) (arg m c 0) (arg m c 1) (arg m c 2) (arg m c 5) (arg m c 6) (arg m c 7) (arg m c 8) = res m c 9 := by
  have e3 : (arg m c 3 : Vec Ideal S1024x2048 .f32) = (A m c).weight := (V_main_arg3 m c).symm
  have e4 : (arg m c 4 : Vec Ideal S1024x2048 .f32) = (A m c).first := (V_main_arg4 m c).symm
  have e5 : (arg m c 5 : Vec Ideal S1024x2048 .f32) = (A m c).second := (V_main_arg5 m c).symm
  obtain ⟨g, d, a, b⟩ := done m c
  refine ⟨(ref m c).trans g, Eq.trans ?_ d, Eq.trans ?_ a, Eq.trans ?_ b⟩
  · unfold Shard.delta Shard.newFirst Shard.newSecond
    rw [← ref m c, ← e3, ← e4, ← e5]; rfl
  · unfold Shard.newFirst
    rw [← ref m c, ← e4]; rfl
  · unfold Shard.newSecond
    rw [← ref m c, ← e5]; rfl

end Cert.AdamDown

end
-- ==== Proof.Ok25Ideal.lean ====
/-
  The table that `Kernel25Ideal` prefetches holds the seats of the device, and every block it names lies inside its array.
-/
module

public import proofs.«01_k».proof.Proof.Gen.Kernel25Ideal.Frame
public import proofs.«01_k».proof.Proof.Adam

@[expose] public section

set_option maxRecDepth 16384

noncomputable section

namespace Cert.Kernel25Ideal.Places

open Cert.Kernel25Ideal Cert.Kernel25Ideal.Gen Cert.Slots Cert.Adam
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S5.Idx => BitVec.ofNat 32 (seats x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

/-- Five words side by side. -/
def five (p0 p1 p2 p3 p4 : (⟨S1, .i32⟩ : BufTy).Contents (Elt F)) : (⟨S5, .i32⟩ : BufTy).Contents (Elt F) :=
  concatenate S5 0 [⟨S1, p0⟩, ⟨S1, p1⟩, ⟨S1, p2⟩, ⟨S1, p3⟩, ⟨S1, p4⟩] concatenates_S1_S1_S1_S1_S1_S5_d0

theorem tbl_eq : tbl m = words (F := F) (X m) (Y m) (C m) := funext fun
  | 0 => by
    show StableHlo.after hostOps0 (fun b => m (0, b)) (Proc.devRef .tc main_v20) = _
    unfold hostOps0
    simp only [StableHlo.after_cons, StableHlo.after_nil]
    rw [StableHlo.nary_result]
    show five (F := F) _ _ _ _ _ = _
    dsimp only [Matrix.cons_val]
    after_results_simp
    exact (seats_words (m (((0 : Dev nD) : Thread nD τ).loc main_arg0)) (m (((0 : Dev nD) : Thread nD τ).loc main_arg1))
      (m (((0 : Dev nD) : Thread nD τ).loc main_arg2)) bcast_S_S1 natLt_1_32 concatenates_S1_S1_S1_S1_S1_S5_d0)

theorem ok : Ok m := by
  unfold Ok
  rw [tbl_eq]
  exact ok_words _ _ _

end Cert.Kernel25Ideal.Places

end
-- ==== Proof.AdamIn.lean ====
/-
  The optimiser on the input weight: each point of the grid takes one tile of 256 rows of every array, adds the five parts of
  the gradient and writes the gradient, the step and the two running means.
-/
module

public import proofs.«01_k».proof.Proof.Ok25Ideal
public import proofs.«01_k».proof.Proof.Gen.Reference25Ideal.Read

@[expose] public section

set_option maxRecDepth 16384

noncomputable section

namespace Cert.AdamIn

open Cert.Kernel25Ideal Cert.Kernel25Ideal.Gen Cert.Kernel25Ideal.Places Cert.Reference25Ideal.Read Cert.Slots Cert.Adam
open Idealize.ShloMosaic hiding ix1 ix2 ix3 ix4 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (c : Dev nD)

/-- What the device holds of the weight. -/
def A : Shard 2048 896 :=
  ⟨V m c main_arg3, V m c main_arg4, V m c main_arg5, V m c main_arg6, V m c main_arg7, V m c main_arg8, X m, Y m, C m⟩

/-- Where the blocks of a point lie, and that each output is written back. -/
abbrev Lie (x y z : BitVec 1) (a : (pcfg0 (F := Ideal)).Adm) (t : Fin grid0.N) : Prop :=
  ((win0 a 0).index t = ![t.val, 0] ∧ (win0 a 1).index t = ![t.val, 0] ∧ (win0 a 2).index t = ![t.val, 0]
    ∧ (win0 a 3).index t = ![(chip x y).val, (core z).val, t.val, 0] ∧ (win0 a 4).index t = ![(chip x y).val, t.val, 0]
    ∧ (win0 a 5).index t = ![0, t.val, 0])
  ∧ ((win0 a 6).index t = ![t.val, 0] ∧ (win0 a 7).index t = ![t.val, 0] ∧ (win0 a 8).index t = ![t.val, 0] ∧ (win0 a 9).index t = ![t.val, 0])
  ∧ ((win0 a 6).flush t = true ∧ (win0 a 7).flush t = true ∧ (win0 a 8).flush t = true ∧ (win0 a 9).flush t = true)

theorem lie (x y z : BitVec 1) (a : (pcfg0 (F := Ideal)).Adm) (h : a.1 = words x y z) (t : Fin grid0.N) : Lie x y z a t := by
  obtain ⟨p, hp⟩ := a
  obtain rfl : p = words x y z := h
  revert t
  rcases bit x with rfl | rfl <;> rcases bit y with rfl | rfl <;> rcases bit z with rfl | rfl <;> exact of_decide_eq_true (by sl_kernel_rfl)

theorem lies (t : Fin (cfgM m (ok m)).N) : Lie (X m) (Y m) (C m) (adm m (ok m)) t := lie _ _ _ (adm m (ok m)) (tbl_eq m) t

/-- What the pipeline leaves in an array. -/
abbrev res (w : Fin 10) := (dats m (ok m) 0 c).arrAt w (cfgM m (ok m)).N

/-- The four results. -/
abbrev outG : Vec Ideal S2048x896 .f32 := res m c 6
abbrev outD : Vec Ideal S2048x896 .f32 := res m c 7
abbrev outA : Vec Ideal S2048x896 .f32 := res m c 8
abbrev outB : Vec Ideal S2048x896 .f32 := res m c 9

/-- An output read through the blocks of the points. -/
theorem through (a : (pcfg0 (F := Ideal)).Adm) (t : Fin (cfg0 a).N) (f : Vec Ideal S2048x896 .f32) (g : Vec Ideal S256x896 .f32) (y : S256x896.Idx) (i : S2048x896.Idx) :
    (((win0 a 6).blk t).view.emb y = i → ((win0 a 6).blk t).view.read (Elt Ideal) f = (win0 a 6).cut (grid0.coords t) g → f i = g y)
    ∧ (((win0 a 7).blk t).view.emb y = i → ((win0 a 7).blk t).view.read (Elt Ideal) f = (win0 a 7).cut (grid0.coords t) g → f i = g y)
    ∧ (((win0 a 8).blk t).view.emb y = i → ((win0 a 8).blk t).view.read (Elt Ideal) f = (win0 a 8).cut (grid0.coords t) g → f i = g y)
    ∧ (((win0 a 9).blk t).view.emb y = i → ((win0 a 9).blk t).view.read (Elt Ideal) f = (win0 a 9).cut (grid0.coords t) g → f i = g y) := by
  refine ⟨?_, ?_, ?_, ?_⟩ <;> exact fun e h => (congrArg f e).symm.trans (congrFun h y)

/-- What a point writes at an entry of its tile. -/
theorem out (x0 x1 x2 : Vec Ideal S256x896 .f32) (x3 : Vec Ideal S1x1x256x896 .bf16) (x4 : Vec Ideal S1x256x896 .bf16) (x5 : Vec Ideal S3x256x896 .bf16)
    (r : Fin 256) (q : Fin 896) (i a2 h2 a3 h3 a4 h4 a5 h5 a6 h6 a7 h7 a8 h8 a9 h9 a10 h10 a11 h11 xt) :
    out0_A_6 c i a2 h2 a3 h3 a4 h4 a5 h5 a6 h6 a7 h7 a8 h8 a9 h9 a10 h10 a11 h11 x0 x1 x2 x3 x4 x5 xt (ix2 r q) = parts x3 x4 x5 r q
    ∧ out0_A_7 c i a2 h2 a3 h3 a4 h4 a5 h5 a6 h6 a7 h7 a8 h8 a9 h9 a10 h10 a11 h11 x0 x1 x2 x3 x4 x5 xt (ix2 r q)
      = step (x0 (ix2 r q)) (mean (x1 (ix2 r q)) (parts x3 x4 x5 r q)) (square (x2 (ix2 r q)) (parts x3 x4 x5 r q))
    ∧ out0_A_8 c i a2 h2 a3 h3 a4 h4 a5 h5 a6 h6 a7 h7 a8 h8 a9 h9 a10 h10 a11 h11 x0 x1 x2 x3 x4 x5 xt (ix2 r q) = mean (x1 (ix2 r q)) (parts x3 x4 x5 r q)
    ∧ out0_A_9 c i a2 h2 a3 h3 a4 h4 a5 h5 a6 h6 a7 h7 a8 h8 a9 h9 a10 h10 a11 h11 x0 x1 x2 x3 x4 x5 xt (ix2 r q) = square (x2 (ix2 r q)) (parts x3 x4 x5 r q) := by
  unfold out0_A_6 out0_A_7 out0_A_8 out0_A_9
  frame_out
  have e := loads x3 x4 x5 shapeCasts_S1x1x256x896_S256x896 shapeCasts_S1x256x896_S256x896 (by decide) (by decide) (by decide) r q
  exact ⟨e, congrArg₂ (step _) (congrArg (mean _) e) (congrArg (square _) e), congrArg (mean _) e, congrArg (square _) e⟩

section Tile

variable (t : Fin (cfgM m (ok m)).N) (r : Fin 256) (q : Fin 896) (P : Fin 2048) (hP : P.val = t.val * 256 + r.val)

/-- The six blocks that a point reads. -/
abbrev X0 : Vec Ideal S256x896 .f32 := iblk m (ok m) c 0 t
abbrev X1 : Vec Ideal S256x896 .f32 := iblk m (ok m) c 1 t
abbrev X2 : Vec Ideal S256x896 .f32 := iblk m (ok m) c 2 t
abbrev X3 : Vec Ideal S1x1x256x896 .bf16 := iblk m (ok m) c 3 t
abbrev X4 : Vec Ideal S1x256x896 .bf16 := iblk m (ok m) c 4 t
abbrev X5 : Vec Ideal S3x256x896 .bf16 := iblk m (ok m) c 5 t

include hP

/-- What the outputs hold at an entry, from the blocks of the point whose tile it lies in. -/
theorem left : outG m c (ix2 P q) = (outsAt0 m (ok m) c t).1 (ix2 r q) ∧ outD m c (ix2 P q) = (outsAt0 m (ok m) c t).2.1 (ix2 r q)
    ∧ outA m c (ix2 P q) = (outsAt0 m (ok m) c t).2.2.1 (ix2 r q) ∧ outB m c (ix2 P q) = (outsAt0 m (ok m) c t).2.2.2 (ix2 r q) := by
  have l6 := (dats m (ok m) 0 c).read_blk_arrAt_eq_flushed 6 (Pipeline.Window.hdisj_of_index_inj _ fun t t' _ _ => first_axis (lies m t).2.1.1 (lies m t').2.1.1)
    (cfgM m (ok m)).N t t.isLt (lies m t).2.2.1
  have l7 := (dats m (ok m) 0 c).read_blk_arrAt_eq_flushed 7 (Pipeline.Window.hdisj_of_index_inj _ fun t t' _ _ => first_axis (lies m t).2.1.2.1 (lies m t').2.1.2.1)
    (cfgM m (ok m)).N t t.isLt (lies m t).2.2.2.1
  have l8 := (dats m (ok m) 0 c).read_blk_arrAt_eq_flushed 8 (Pipeline.Window.hdisj_of_index_inj _ fun t t' _ _ => first_axis (lies m t).2.1.2.2.1 (lies m t').2.1.2.2.1)
    (cfgM m (ok m)).N t t.isLt (lies m t).2.2.2.2.1
  have l9 := (dats m (ok m) 0 c).read_blk_arrAt_eq_flushed 9 (Pipeline.Window.hdisj_of_index_inj _ fun t t' _ _ => first_axis (lies m t).2.1.2.2.2 (lies m t').2.1.2.2.2)
    (cfgM m (ok m)).N t t.isLt (lies m t).2.2.2.2.2
  rw [Pipeline.Dat.flushed, after0_6] at l6
  rw [Pipeline.Dat.flushed, after0_7] at l7
  rw [Pipeline.Dat.flushed, after0_8] at l8
  rw [Pipeline.Dat.flushed, after0_9] at l9
  obtain ⟨r6, r7, r8, r9⟩ := (lies m t).2.1
  exact ⟨(through (adm m (ok m)) t _ _ (ix2 r q) _).1 (rows hP _ r6 rfl rfl) l6, (through (adm m (ok m)) t _ _ (ix2 r q) _).2.1 (rows hP _ r7 rfl rfl) l7,
    (through (adm m (ok m)) t _ _ (ix2 r q) _).2.2.1 (rows hP _ r8 rfl rfl) l8, (through (adm m (ok m)) t _ _ (ix2 r q) _).2.2.2 (rows hP _ r9 rfl rfl) l9⟩

theorem read (k : Fin 3) : X3 m c t (ix4 0 0 r q) = (A m c).own (ix4 (chip (X m) (Y m)) (core (C m)) P q)
    ∧ X4 m c t (ix3 0 r q) = (A m c).sibling (ix3 (chip (X m) (Y m)) P q) ∧ X5 m c t (ix3 k r q) = (A m c).others (ix3 k P q) := by
  obtain ⟨-, -, -, h3, h4, h5⟩ := (lies m t).1
  exact ⟨congrArg (V m c main_arg6) (rows4 hP _ h3 rfl rfl rfl rfl), congrArg (V m c main_arg7) (rows3 hP _ (L := 1) (j := 0) h4 (Nat.mul_one _) rfl rfl rfl),
    congrArg (V m c main_arg8) (rows3 hP _ (k := k) h5 (show 0 * 3 + 1 * k.val = k.val by omega) rfl rfl rfl)⟩

theorem tile : outG m c (ix2 P q) = (A m c).grad (ix2 P q) ∧ outD m c (ix2 P q) = (A m c).delta (ix2 P q)
    ∧ outA m c (ix2 P q) = (A m c).newFirst (ix2 P q) ∧ outB m c (ix2 P q) = (A m c).newSecond (ix2 P q) := by
  obtain ⟨h0, h1, h2, -⟩ := (lies m t).1
  have b0 : X0 m c t (ix2 r q) = (A m c).weight (ix2 P q) := congrArg (V m c main_arg3) (rows hP _ h0 rfl rfl)
  have b1 : X1 m c t (ix2 r q) = (A m c).first (ix2 P q) := congrArg (V m c main_arg4) (rows hP _ h1 rfl rfl)
  have b2 : X2 m c t (ix2 r q) = (A m c).second (ix2 P q) := congrArg (V m c main_arg5) (rows hP _ h2 rfl rfl)
  obtain ⟨l6, l7, l8, l9⟩ := left m c t r q P hP
  rw [l6, l7, l8, l9]
  unfold outsAt0; dsimp only
  obtain ⟨o6, o7, o8, o9⟩ := out c (X0 m c t) (X1 m c t) (X2 m c t) (X3 m c t) (X4 m c t) (X5 m c t) r q _ _ _ _ _ _ _ _ _ _ _ _ _ _ _ _ _ _ _ _ _ _
  have e := (A m c).entry b0 b1 b2 (read m c t r q P hP 0).1 (read m c t r q P hP 0).2.1 fun k => (read m c t r q P hP k).2.2
  exact ⟨o6.trans e.1, o7.trans e.2.1, o8.trans e.2.2.1, o9.trans e.2.2.2⟩

end Tile

theorem done : (A m c).Done (outG m c) (outD m c) (outA m c) (outB m c) := (A m c).done (N := 8) (T := 256) (by decide) (by decide) (tile m c)

/-- The arguments. -/
abbrev arg (b : Fin 9) := m ((c : Thread nD τ).loc (![main_arg0, main_arg1, main_arg2, main_arg3, main_arg4, main_arg5, main_arg6, main_arg7, main_arg8] b))

theorem ref : val_main_v32 (F := Ideal) (arg m c 0) (arg m c 1) (arg m c 2) (arg m c 6) (arg m c 7) (arg m c 8) = (A m c).grad := by
  obtain rfl : c = 0 := Subsingleton.elim _ _
  have e6 : (arg m 0 6 : Vec Ideal S4x2x2048x896 .bf16) = (A m 0).own := (V_main_arg6 m 0).symm
  have e7 : (arg m 0 7 : Vec Ideal S4x2048x896 .bf16) = (A m 0).sibling := (V_main_arg7 m 0).symm
  have e8 : (arg m 0 8 : Vec Ideal S3x2048x896 .bf16) = (A m 0).others := (V_main_arg8 m 0).symm
  rw [e6, e7, e8]
  funext i
  obtain ⟨P, q, rfl⟩ : ∃ (P : Fin 2048) (q : Fin 896), i = ix2 P q := ⟨i 0, i 1, eq_ix2 i⟩
  refine grad_of P q (A m 0) (o := val_main_v15 (F := Ideal) (arg m 0 0) (arg m 0 1) (arg m 0 2) (A m 0).own)
    (s := val_main_v27 (F := Ideal) (arg m 0 0) (arg m 0 1) (A m 0).sibling) (z := val_main_v31 (F := Ideal) (A m 0).others) ?_ ?_ ?_
  · exact pick_own _ _ _ _ _ P q (A m 0).own _ _ _ _ _ _ _ _
  · exact pick_row _ _ _ P q (A m 0).sibling _ _ _ _ _
  · exact (val_main_v31_apply _ _).trans (congrArg (_ + ·) (Finset.sum_congr rfl fun k _ => congrArg (A m 0).others (eq_ix3 _)))

/-- The four results of the reference are the kernel's. -/
theorem same : val_main_v32 (F := Ideal) (arg m c 0) (arg m c 1) (arg m c 2) (arg m c 6) (arg m c 7) (arg m c 8) = res m c 6
    ∧ val_main_v56 (F := Ideal) (arg m c 0) (arg m c 1) (arg m c 2) (arg m c 3) (arg m c 4) (arg m c 5) (arg m c 6) (arg m c 7) (arg m c 8) = res m c 7
    ∧ val_main_v37 (F := Ideal) (arg m c 0) (arg m c 1) (arg m c 2) (arg m c 4) (arg m c 6) (arg m c 7) (arg m c 8) = res m c 8
    ∧ val_main_v43 (F := Ideal) (arg m c 0) (arg m c 1) (arg m c 2) (arg m c 5) (arg m c 6) (arg m c 7) (arg m c 8) = res m c 9 := by
  have e3 : (arg m c 3 : Vec Ideal S2048x896 .f32) = (A m c).weight := (V_main_arg3 m c).symm
  have e4 : (arg m c 4 : Vec Ideal S2048x896 .f32) = (A m c).first := (V_main_arg4 m c).symm
  have e5 : (arg m c 5 : Vec Ideal S2048x896 .f32) = (A m c).second := (V_main_arg5 m c).symm
  obtain ⟨g, d, a, b⟩ := done m c
  refine ⟨(ref m c).trans g, Eq.trans ?_ d, Eq.trans ?_ a, Eq.trans ?_ b⟩
  · unfold Shard.delta Shard.newFirst Shard.newSecond
    rw [← ref m c, ← e3, ← e4, ← e5]; rfl
  · unfold Shard.newFirst
    rw [← ref m c, ← e4]; rfl
  · unfold Shard.newSecond
    rw [← ref m c, ← e5]; rfl

end Cert.AdamIn

end
-- ==== Proof.Ok26Ideal.lean ====
/-
  The table that `Kernel26Ideal` prefetches holds the seats of the device, and every block it names lies inside its array.
-/
module

public import proofs.«01_k».proof.Proof.Gen.Kernel26Ideal.Frame
public import proofs.«01_k».proof.Proof.Adam

@[expose] public section

set_option maxRecDepth 16384

noncomputable section

namespace Cert.Kernel26Ideal.Places

open Cert.Kernel26Ideal Cert.Kernel26Ideal.Gen Cert.Slots Cert.Adam
open Idealize.ShloMosaic Idealize.ShloMosaic.TcCoe Idealize.SL Idealize.SL.Sem Idealize.ShloMosaic.Tactic

variable {F : FTy → Type} [FloatOps F]
variable (m : (ℓ : Loc nD τ sig) → Buf (Elt F) ℓ) (x y c : BitVec 1)

/-- The table at the device with coordinates `x`, `y`, `c`. -/
def words : pre0.Contents (Elt F) := fun
  | 0 => (fun i : S5.Idx => BitVec.ofNat 32 (seats x y c (i 0)))
  | ⟨_ + 1, h⟩ => absurd h (Nat.not_lt.2 (Nat.le_add_left _ _))

theorem ok_words : ok0 (words (F := F) x y c) := by
  rcases bit x with rfl | rfl <;> rcases bit y with rfl | rfl <;> rcases bit c with rfl | rfl <;>
    exact of_decide_eq_true (by sl_kernel_rfl)

/-- The three coordinates, as the memory holds them. -/
abbrev X : BitVec 1 := m (((0 : Dev nD) : Thread nD τ).loc main_arg0) (fun a => a.elim0)
abbrev Y : BitVec 1 := m (((0 : Dev nD) : Thread nD τ).loc main_arg1) (fun a => a.elim0)
abbrev C : BitVec 1 := m (((0 : Dev nD) : Thread nD τ).loc main_arg2) (fun a => a.elim0)

/-- Five words side by side. -/
def five (p0 p1 p2 p3 p4 : (⟨S1, .i32⟩ : BufTy).Contents (Elt F)) : (⟨S5, .i32⟩ : BufTy).Contents (Elt F) :=
  concatenate S5 0 [⟨S1, p0⟩, ⟨S1, p1⟩, ⟨S1, p2⟩, ⟨S1, p3⟩, ⟨S1, p4⟩] concatenates_S1_S1_S1_S1_S1_S5_d0

theorem tbl_eq : tbl m = words (F := F) (X m) (Y m) (C m) := funext fun
  | 0 => by
    show StableHlo.after hostOps0 (fun b => m (0, b)) (Proc.devRef .tc main_v20) = _
    unfold hostOps0
    simp only [StableHlo.after_cons, StableHlo.after_nil]
    rw [StableHlo.nary_result]
    show five (F := F) _ _ _ _ _ = _
    dsimp only [Matrix.cons_val]
    after_results_simp
    exact (seats_words (m (((0 : Dev nD) : Thread nD τ).loc main_arg0)) (m (((0 : Dev nD) : Thread nD τ).loc main_arg1))
      (m (((0 : Dev nD) : Thread nD τ).loc main_arg2)) bcast_S_S1 natLt_1_32 concatenates_S1_S1_S1_S1_S1_S5_d0)

theorem ok : Ok m := by
  unfold Ok
  rw [tbl_eq]
  exact ok_words _ _ _

end Cert.Kernel26Ideal.Places

end
-- ==== Proof.AdamOut.lean ====
/-
  The optimiser on the output weight: each of the two points of the grid takes one tile of 128 rows of every array, adds the
  five parts of the gradient and writes the gradient, the step and the two running means.
-/
module

public import proofs.«01_k».proof.Proof.Ok26Ideal
public import proofs.«01_k».proof.Proof.Gen.Reference26Ideal.Read

@[expose] public section

set_option maxRecDepth 16384

noncomputable section

namespace Cert.AdamOut

open Cert.Kernel26Ideal Cert.Kernel26Ideal.Gen Cert.Kernel26Ideal.Places Cert.Reference26Ideal.Read Cert.Slots Cert.Adam
open Idealize.ShloMosaic hiding ix1 ix2 ix3 ix4 eq_ix1 eq_ix2 eq_ix3
open Idealize.ShloMosaic.TcCoe Idealize.ShloMosaic.ValueIdx Idealize.SL Idealize.SL.Sem Idealize.ShloMosaic.Tactic

variable (m : (ℓ : Loc nD τ sig) → Buf (Elt Ideal) ℓ) (c : Dev nD)

/-- What the device holds of the weight. -/
def A : Shard 256 2048 :=
  ⟨V m c main_arg3, V m c main_arg4, V m c main_arg5, V m c main_arg6, V m c main_arg7, V m c main_arg8, X m, Y m, C m⟩

/-- Where the blocks of a point lie, and that each output is written back. -/
abbrev Lie (x y z : BitVec 1) (a : (pcfg0 (F := Ideal)).Adm) (t : Fin grid0.N) : Prop :=
  ((win0 a 0).index t = ![t.val, 0] ∧ (win0 a 1).index t = ![t.val, 0] ∧ (win0 a 2).index t = ![t.val, 0]
    ∧ (win0 a 3).index t = ![(chip x y).val, (core z).val, t.val, 0] ∧ (win0 a 4).index t = ![(chip x y).val, t.val, 0]
    ∧ (win0 a 5).index t = ![0, t.val, 0])
  ∧ ((win0 a 6).index t = ![t.val, 0] ∧ (win0 a 7).index t = ![t.val, 0] ∧ (win0 a 8).index t = ![t.val, 0] ∧ (win0 a 9).index t = ![t.val, 0])
  ∧ ((win0 a 6).flush t = true ∧ (win0 a 7).flush t = true ∧ (win0 a 8).flush t = true ∧ (win0 a 9).flush t = true)

theorem lie (x y z : BitVec 1) (a : (pcfg0 (F := Ideal)).Adm) (h : a.1 = words x y z) (t : Fin grid0.N) : Lie x y z a t := by
  obtain ⟨p, hp⟩ := a
  obtain rfl : p = words x y z := h
  revert t
  rcases bit x with rfl | rfl <;> rcases bit y with rfl | rfl <;> rcases bit z with rfl | rfl <;> exact of_decide_eq_true (by sl_kernel_rfl)

theorem lies (t : Fin (cfgM m (ok m)).N) : Lie (X m) (Y m) (C m) (adm m (ok m)) t := lie _ _ _ (adm m (ok m)) (tbl_eq m) t

/-- What the pipeline leaves in an array. -/
abbrev res (w : Fin 10) := (dats m (ok m) 0 c).arrAt w (cfgM m (ok m)).N

/-- The four results. -/
abbrev outG : Vec Ideal S256x2048 .f32 := res m c 6
abbrev outD : Vec Ideal S256x2048 .f32 := res m c 7
abbrev outA : Vec Ideal S256x2048 .f32 := res m c 8
abbrev outB : Vec Ideal S256x2048 .f32 := res m c 9

/-- An output read through the blocks of the points. -/
theorem through (a : (pcfg0 (F := Ideal)).Adm) (t : Fin (cfg0 a).N) (f : Vec Ideal S256x2048 .f32) (g : Vec Ideal S128x2048 .f32) (y : S128x2048.Idx) (i : S256x2048.Idx) :
    (((win0 a 6).blk t).view.emb y = i → ((win0 a 6).blk t).view.read (Elt Ideal) f = (win0 a 6).cut (grid0.coords t) g → f i = g y)
    ∧ (((win0 a 7).blk t).view.emb y = i → ((win0 a 7).blk t).view.read (Elt Ideal) f = (win0 a 7).cut (grid0.coords t) g → f i = g y)
    ∧ (((win0 a 8).blk t).view.emb y = i → ((win0 a 8).blk t).view.read (Elt Ideal) f = (win0 a 8).cut (grid0.coords t) g → f i = g y)
    ∧ (((win0 a 9).blk t).view.emb y = i → ((win0 a 9).blk t).view.read (Elt Ideal) f = (win0 a 9).cut (grid0.coords t) g → f i = g y) := by
  refine ⟨?_, ?_, ?_, ?_⟩ <;> exact fun e h => (congrArg f e).symm.trans (congrFun h y)

/-- What a point writes at an entry of its tile. -/
theorem out (x0 x1 x2 : Vec Ideal S128x2048 .f32) (x3 : Vec Ideal S1x1x128x2048 .bf16) (x4 : Vec Ideal S1x128x2048 .bf16) (x5 : Vec Ideal S3x128x2048 .bf16)
    (r : Fin 128) (q : Fin 2048) (i a2 h2 a3 h3 a4 h4 a5 h5 a6 h6 a7 h7 a8 h8 a9 h9 a10 h10 a11 h11 xt) :
    out0_A_6 c i a2 h2 a3 h3 a4 h4 a5 h5 a6 h6 a7 h7 a8 h8 a9 h9 a10 h10 a11 h11 x0 x1 x2 x3 x4 x5 xt (ix2 r q) = parts x3 x4 x5 r q
    ∧ out0_A_7 c i a2 h2 a3 h3 a4 h4 a5 h5 a6 h6 a7 h7 a8 h8 a9 h9 a10 h10 a11 h11 x0 x1 x2 x3 x4 x5 xt (ix2 r q)
      = step (x0 (ix2 r q)) (mean (x1 (ix2 r q)) (parts x3 x4 x5 r q)) (square (x2 (ix2 r q)) (parts x3 x4 x5 r q))
    ∧ out0_A_8 c i a2 h2 a3 h3 a4 h4 a5 h5 a6 h6 a7 h7 a8 h8 a9 h9 a10 h10 a11 h11 x0 x1 x2 x3 x4 x5 xt (ix2 r q) = mean (x1 (ix2 r q)) (parts x3 x4 x5 r q)
    ∧ out0_A_9 c i a2 h2 a3 h3 a4 h4 a5 h5 a6 h6 a7 h7 a8 h8 a9 h9 a10 h10 a11 h11 x0 x1 x2 x3 x4 x5 xt (ix2 r q) = square (x2 (ix2 r q)) (parts x3 x4 x5 r q) := by
  unfold out0_A_6 out0_A_7 out0_A_8 out0_A_9
  frame_out
  have e := loads x3 x4 x5 shapeCasts_S1x1x128x2048_S128x2048 shapeCasts_S1x128x2048_S128x2048 (by decide) (by decide) (by decide) r q
  exact ⟨e, congrArg₂ (step _) (congrArg (mean _) e) (congrArg (square _) e), congrArg (mean _) e, congrArg (square _) e⟩

section Tile

variable (t : Fin (cfgM m (ok m)).N) (r : Fin 128) (q : Fin 2048) (P : Fin 256) (hP : P.val = t.val * 128 + r.val)

/-- The six blocks that a point reads. -/
abbrev X0 : Vec Ideal S128x2048 .f32 := iblk m (ok m) c 0 t
abbrev X1 : Vec Ideal S128x2048 .f32 := iblk m (ok m) c 1 t
abbrev X2 : Vec Ideal S128x2048 .f32 := iblk m (ok m) c 2 t
abbrev X3 : Vec Ideal S1x1x128x2048 .bf16 := iblk m (ok m) c 3 t
abbrev X4 : Vec Ideal S1x128x2048 .bf16 := iblk m (ok m) c 4 t
abbrev X5 : Vec Ideal S3x128x2048 .bf16 := iblk m (ok m) c 5 t

include hP

/-- What the outputs hold at an entry, from the blocks of the point whose tile it lies in. -/
theorem left : outG m c (ix2 P q) = (outsAt0 m (ok m) c t).1 (ix2 r q) ∧ outD m c (ix2 P q) = (outsAt0 m (ok m) c t).2.1 (ix2 r q)
    ∧ outA m c (ix2 P q) = (outsAt0 m (ok m) c t).2.2.1 (ix2 r q) ∧ outB m c (ix2 P q) = (outsAt0 m (ok m) c t).2.2.2 (ix2 r q) := by
  have l6 := (dats m (ok m) 0 c).read_blk_arrAt_eq_flushed 6 (Pipeline.Window.hdisj_of_index_inj _ fun t t' _ _ => first_axis (lies m t).2.1.1 (lies m t').2.1.1)
    (cfgM m (ok m)).N t t.isLt (lies m t).2.2.1
  have l7 := (dats m (ok m) 0 c).read_blk_arrAt_eq_flushed 7 (Pipeline.Window.hdisj_of_index_inj _ fun t t' _ _ => first_axis (lies m t).2.1.2.1 (lies m t').2.1.2.1)
    (cfgM m (ok m)).N t t.isLt (lies m t).2.2.2.1
  have l8 := (dats m (ok m) 0 c).read_blk_arrAt_eq_flushed 8 (Pipeline.Window.hdisj_of_index_inj _ fun t t' _ _ => first_axis (lies m t).2.1.2.2.1 (lies m t').2.1.2.2.1)
    (cfgM m (ok m)).N t t.isLt (lies m t).2.2.2.2.1
  have l9 := (dats m (ok m) 0 c).read_blk_arrAt_eq_flushed 9 (Pipeline.Window.hdisj_of_index_inj _ fun t t' _ _ => first_axis (lies m t).2.1.2.2.2 (lies m t').2.1.2.2.2)
    (cfgM m (ok m)).N t t.isLt (lies m t).2.2.2.2.2
  rw [Pipeline.Dat.flushed, after0_6] at l6
  rw [Pipeline.Dat.flushed, after0_7] at l7
  rw [Pipeline.Dat.flushed, after0_8] at l8
  rw [Pipeline.Dat.flushed, after0_9] at l9
  obtain ⟨r6, r7, r8, r9⟩ := (lies m t).2.1
  exact ⟨(through (adm m (ok m)) t _ _ (ix2 r q) _).1 (rows hP _ r6 rfl rfl) l6, (through (adm m (ok m)) t _ _ (ix2 r q) _).2.1 (rows hP _ r7 rfl rfl) l7,
    (through (adm m (ok m)) t _ _ (ix2 r q) _).2.2.1 (rows hP _ r8 rfl rfl) l8, (through (adm m (ok m)) t _ _ (ix2 r q) _).2.2.2 (rows hP _ r9 rfl rfl) l9⟩

theorem read (k : Fin 3) : X3 m c t (ix4 0 0 r q) = (A m c).own (ix4 (chip (X m) (Y m)) (core (C m)) P q)
    ∧ X4 m c t (ix3 0 r q) = (A m c).sibling (ix3 (chip (X m) (Y m)) P q) ∧ X5 m c t (ix3 k r q) = (A m c).others (ix3 k P q) := by
  obtain ⟨-, -, -, h3, h4, h5⟩ := (lies m t).1
  exact ⟨congrArg (V m c main_arg6) (rows4 hP _ h3 rfl rfl rfl rfl), congrArg (V m c main_arg7) (rows3 hP _ (L := 1) (j := 0) h4 (Nat.mul_one _) rfl rfl rfl),
    congrArg (V m c main_arg8) (rows3 hP _ (k := k) h5 (show 0 * 3 + 1 * k.val = k.val by omega) rfl rfl rfl)⟩

theorem tile : outG m c (ix2 P q) = (A m c).grad (ix2 P q) ∧ outD m c (ix2 P q) = (A m c).delta (ix2 P q)
    ∧ outA m c (ix2 P q) = (A m c).newFirst (ix2 P q) ∧ outB m c (ix2 P q) = (A m c).newSecond (ix2 P q) := by
  obtain ⟨h0, h1, h2, -⟩ := (lies m t).1
  have b0 : X0 m c t (ix2 r q) = (A m c).weight (ix2 P q) := congrArg (V m c main_arg3) (rows hP _ h0 rfl rfl)
  have b1 : X1 m c t (ix2 r q) = (A m c).first (ix2 P q) := congrArg (V m c main_arg4) (rows hP _ h1 rfl rfl)
  have b2 : X2 m c t (ix2 r q) = (A m c).second (ix2 P q) := congrArg (V m c main_arg5) (rows hP _ h2 rfl rfl)
  obtain ⟨l6, l7, l8, l9⟩ := left m c t r q P hP
  rw [l6, l7, l8, l9]
  unfold outsAt0; dsimp only
  obtain ⟨o6, o7, o8, o9⟩ := out c (X0 m c t) (X1 m c t) (X2 m c t) (X3 m c t) (X4 m c t) (X5 m c t) r q _ _ _ _ _ _ _ _ _ _ _ _ _ _ _ _ _ _ _ _ _ _
  have e := (A m c).entry b0 b1 b2 (read m c t r q P hP 0).1 (read m c t r q P hP 0).2.1 fun k => (read m c t r q P hP k).2.2
  exact ⟨o6.trans e.1, o7.trans e.2.1, o8.trans e.2.2.1, o9.trans e.2.2.2⟩

end Tile

theorem done : (A m c).Done (outG m c) (outD m c) (outA m c) (outB m c) := (A m c).done (N := 2) (T := 128) (by decide) (by decide) (tile m c)

/-- The arguments. -/
abbrev arg (b : Fin 9) := m ((c : Thread nD τ).loc (![main_arg0, main_arg1, main_arg2, main_arg3, main_arg4, main_arg5, main_arg6, main_arg7, main_arg8] b))

theorem ref : val_main_v32 (F := Ideal) (arg m c 0) (arg m c 1) (arg m c 2) (arg m c 6) (arg m c 7) (arg m c 8) = (A m c).grad := by
  obtain rfl : c = 0 := Subsingleton.elim _ _
  have e6 : (arg m 0 6 : Vec Ideal S4x2x256x2048 .bf16) = (A m 0).own := (V_main_arg6 m 0).symm
  have e7 : (arg m 0 7 : Vec Ideal S4x256x2048 .bf16) = (A m 0).sibling := (V_main_arg7 m 0).symm
  have e8 : (arg m 0 8 : Vec Ideal S3x256x2048 .bf16) = (A m 0).others := (V_main_arg8 m 0).symm
  rw [e6, e7, e8]
  funext i
  obtain ⟨P, q, rfl⟩ : ∃ (P : Fin 256) (q : Fin 2048), i = ix2 P q := ⟨i 0, i 1, eq_ix2 i⟩
  refine grad_of P q (A m 0) (o := val_main_v15 (F := Ideal) (arg m 0 0) (arg m 0 1) (arg m 0 2) (A m 0).own)
    (s := val_main_v27 (F := Ideal) (arg m 0 0) (arg m 0 1) (A m 0).sibling) (z := val_main_v31 (F := Ideal) (A m 0).others) ?_ ?_ ?_
  · exact pick_own _ _ _ _ _ P q (A m 0).own _ _ _ _ _ _ _ _
  · exact pick_row _ _ _ P q (A m 0).sibling _ _ _ _ _
  · exact (val_main_v31_apply _ _).trans (congrArg (_ + ·) (Finset.sum_congr rfl fun k _ => congrArg (A m 0).others (eq_ix3 _)))

/-- The four results of the reference are the kernel's. -/
theorem same : val_main_v32 (F := Ideal) (arg m c 0) (arg m c 1) (arg m c 2) (arg m c 6) (arg m c 7) (arg m c 8) = res m c 6
    ∧ val_main_v56 (F := Ideal) (arg m c 0) (arg m c 1) (arg m c 2) (arg m c 3) (arg m c 4) (arg m c 5) (arg m c 6) (arg m c 7) (arg m c 8) = res m c 7
    ∧ val_main_v37 (F := Ideal) (arg m c 0) (arg m c 1) (arg m c 2) (arg m c 4) (arg m c 6) (arg m c 7) (arg m c 8) = res m c 8
    ∧ val_main_v43 (F := Ideal) (arg m c 0) (arg m c 1) (arg m c 2) (arg m c 5) (arg m c 6) (arg m c 7) (arg m c 8) = res m c 9 := by
  have e3 : (arg m c 3 : Vec Ideal S256x2048 .f32) = (A m c).weight := (V_main_arg3 m c).symm
  have e4 : (arg m c 4 : Vec Ideal S256x2048 .f32) = (A m c).first := (V_main_arg4 m c).symm
  have e5 : (arg m c 5 : Vec Ideal S256x2048 .f32) = (A m c).second := (V_main_arg5 m c).symm
  obtain ⟨g, d, a, b⟩ := done m c
  refine ⟨(ref m c).trans g, Eq.trans ?_ d, Eq.trans ?_ a, Eq.trans ?_ b⟩
  · unfold Shard.delta Shard.newFirst Shard.newSecond
    rw [← ref m c, ← e3, ← e4, ← e5]; rfl
  · unfold Shard.newFirst
    rw [← ref m c, ← e4]; rfl
  · unfold Shard.newSecond
    rw [← ref m c, ← e5]; rfl

end Cert.AdamOut

end
-- ==== Proof.lean ====
/-
  The proof of the calls: the frames and the values of the modules under Proof/ put together, call by call.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.ConvAlgebra
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MmDUp
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MmGDown
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MmGUp
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MmDu2
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.MmDm
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.MmGO
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MmGPool
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.MmDYaPre
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.MmGIn
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.MmDu1
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.MmO
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.GateMix
public import proofs.«01_k».proof.Proof.Gen.Kernel16
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read
public import proofs.«01_k».proof.Proof.MmDownNear
public import proofs.«01_k».proof.Proof.Ok16Ideal
public import proofs.«01_k».proof.Proof.DownNear
public import proofs.«01_k».proof.Proof.DownSame
public import proofs.«01_k».proof.Proof.Gen.Kernel17
public import proofs.«01_k».proof.Proof.Gen.Kernel17Ideal
public import proofs.«01_k».proof.Proof.Gen.Reference17Ideal
public import proofs.«01_k».proof.Proof.Gen.Reference17Ideal.Run
public import proofs.«01_k».proof.Proof.Gen.Reference17Ideal.Read
public import proofs.«01_k».proof.Proof.MmDownFar
public import proofs.«01_k».proof.Proof.Ok17Ideal
public import proofs.«01_k».proof.Proof.DownFar
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.MmUpFar
public import proofs.«01_k».proof.Proof.Ok18
public import proofs.«01_k».proof.Proof.Ok18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.MmUpNear
public import proofs.«01_k».proof.Proof.Ok19
public import proofs.«01_k».proof.Proof.Ok19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.MmProjHome
public import proofs.«01_k».proof.Proof.Ok20
public import proofs.«01_k».proof.Proof.Ok20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.MmProjFar
public import proofs.«01_k».proof.Proof.Ok21
public import proofs.«01_k».proof.Proof.Ok21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.MmProjNear
public import proofs.«01_k».proof.Proof.Ok22
public import proofs.«01_k».proof.Proof.Ok22Ideal
public import proofs.«01_k».proof.Proof.Gen.Kernel23
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.AdamUp
public import proofs.«01_k».proof.Proof.Ok23Ideal
public import proofs.«01_k».proof.Proof.Gen.Kernel24
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.AdamDown
public import proofs.«01_k».proof.Proof.Ok24Ideal
public import proofs.«01_k».proof.Proof.Gen.Kernel25
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.AdamIn
public import proofs.«01_k».proof.Proof.Ok25Ideal
public import proofs.«01_k».proof.Proof.Gen.Kernel26
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import proofs.«01_k».proof.Proof.AdamOut
public import proofs.«01_k».proof.Proof.Ok26Ideal
public import Idealize.ShloMosaic.Lib.Tactic
public import Idealize.ShloMosaic.Adequacy
public import Idealize.ShloMosaic.Init

@[expose] public section

set_option maxRecDepth 16384

noncomputable section

namespace Cert.Proof

open Idealize.ShloMosaic Idealize.SL.Sem

section SameText

variable {F : FTy → Type} [FloatOps F]

/-- The two programs print one body, so the label calls the same text in both. -/
theorem body_same (t : Fin Cert.KernelIdeal.cfg0.N) (s) :
    Cert.Kernel.defs₀ (F := F) .tc 0 (t, s) = Cert.KernelIdeal.defs₀ (F := F) .tc 0 (t, s) := rfl

theorem table_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => exact body_same t s
  | ⟨_ + 1, h⟩, _ => exact absurd h (Nat.not_lt.2 (Nat.le_add_left _ _))

theorem defs_same : Cert.Kernel.defs (F := F) = Cert.KernelIdeal.defs (F := F) :=
  congrArg (Pipeline.defs Cert.KernelIdeal.pcfgs) table_same

theorem main_same : Cert.Kernel.main (F := F) = Cert.KernelIdeal.main (F := F) := rfl

end SameText

/-- The kernel's frame at its bits: the ideal program's text is the kernel's, and its run holds at any floats. -/
theorem frame_kernel : Cert.quiescent_Kernel := fun m ρ _ => by
  rw [defs_same, main_same]
  exact Cert.Conv.frame (F := Bits) m ρ

theorem frame_ideal : Cert.quiescent_KernelIdeal := fun m ρ _ => Cert.Conv.frame (F := Ideal) m ρ

/-- The reference writes none of its arguments and declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Both programs end with the kernel's three arrays. -/
theorem values : Cert.algebraic_KernelIdeal_ReferenceIdeal := by
  intro m g m' g' _ hm
  refine ⟨fun c => (Cert.Conv.dats m 0 c).arrAt 4 Cert.KernelIdeal.cfg0.N, fun c => (Cert.Conv.dats m 0 c).arrAt 5 Cert.KernelIdeal.cfg0.N,
    fun c => (Cert.Conv.dats m 0 c).arrAt 6 Cert.KernelIdeal.cfg0.N, ?_, ?_⟩
  · exact (θ_run Cert.KernelIdeal.defs _ _).mono (fun r h c => ⟨(h.1 c).1, (h.1 c).2.1, (h.1 c).2.2, h.2.1 c⟩)
      (θ_run_and (Cert.Conv.run_blocks m g) (Cert.Conv.frame m g))
  · refine (θ_run Cert.ReferenceIdeal.defs _ _).mono (fun r h c => ?_) (Cert.ReferenceIdeal.Value.run (F := Ideal) m' g')
    obtain ⟨h0, h1, h2, h3⟩ := hm c
    refine ⟨(h c).1.trans ((Cert.ReferenceIdeal.Read.val_main_v458_eq _).trans ?_),
      (h c).2.1.trans ((Cert.ReferenceIdeal.Read.val_main_v459_eq _).trans ?_),
      (h c).2.2.1.trans ((Cert.ReferenceIdeal.Read.val_main_v460_eq _).trans ?_), (h c).2.2.2⟩
    · refine Eq.trans ?_ (Cert.Conv.same4 m c)
      rw [← h0, ← h1, ← h2, ← h3]
    · refine Eq.trans ?_ (Cert.Conv.same5 m c)
      rw [← h0, ← h1, ← h2]
    · refine Eq.trans ?_ (Cert.Conv.same6 m c)
      rw [← h0, ← h1]

/-! The call for the up projection's gradient. -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem values2 : Cert.algebraic_Kernel2Ideal_Reference2Ideal := by
  intro m g m' g' _ hm
  refine ⟨fun c => (Cert.Kernel2Ideal.Gen.dats m 0 c).arrAt 3 Cert.Kernel2Ideal.cfg0.N, Cert.Kernel2Ideal.Value.run_blocks m g,
    (θ_run Cert.Reference2Ideal.defs _ _).mono (fun r h c => ?_) (Cert.Reference2Ideal.Value.run (F := Ideal) m' g')⟩
  obtain ⟨h0, h1, h2⟩ := hm c
  refine ⟨(h c).1.trans ((Cert.Reference2Ideal.Read.val_main_v14_eq _ _ _).trans (Eq.trans ?_ (Cert.MmDUp.same m c))), (h c).2⟩
  rw [h0, h1, h2]

/-! The call for the second weight's gradient. -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem values3 : Cert.algebraic_Kernel3Ideal_Reference3Ideal := by
  intro m g m' g' _ hm
  refine ⟨fun c => (Cert.Kernel3Ideal.Gen.dats m 0 c).arrAt 2 Cert.Kernel3Ideal.cfg0.N, Cert.Kernel3Ideal.Value.run_blocks m g,
    (θ_run Cert.Reference3Ideal.defs _ _).mono (fun r h c => ?_) (Cert.Reference3Ideal.Value.run (F := Ideal) m' g')⟩
  obtain ⟨h0, h1⟩ := hm c
  refine ⟨(h c).1.trans ((Cert.Reference3Ideal.Read.val_main_v6_eq _ _).trans (Eq.trans ?_ (Cert.MmGDown.same m c))), (h c).2⟩
  rw [h0, h1]

/-! The call for the first weight's gradient. -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem values4 : Cert.algebraic_Kernel4Ideal_Reference4Ideal := by
  intro m g m' g' _ hm
  refine ⟨fun c => (Cert.Kernel4Ideal.Gen.dats m 0 c).arrAt 2 Cert.Kernel4Ideal.cfg0.N, Cert.Kernel4Ideal.Value.run_blocks m g,
    (θ_run Cert.Reference4Ideal.defs _ _).mono (fun r h c => ?_) (Cert.Reference4Ideal.Value.run (F := Ideal) m' g')⟩
  obtain ⟨h0, h1⟩ := hm c
  refine ⟨(h c).1.trans ((Cert.Reference4Ideal.Read.val_main_v8_eq _ _).trans (Eq.trans ?_ (Cert.MmGUp.same m c))), (h c).2⟩
  rw [h0, h1]

/-! The call for the MLP input's gradient. -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem values5 : Cert.algebraic_Kernel5Ideal_Reference5Ideal := by
  intro m g m' g' _ hm
  refine ⟨fun c => (Cert.Kernel5Ideal.Gen.dats m 0 c).arrAt 2 Cert.Kernel5Ideal.cfg0.N, Cert.Kernel5Ideal.Value.run_blocks m g,
    (θ_run Cert.Reference5Ideal.defs _ _).mono (fun r h c => ?_) (Cert.Reference5Ideal.Value.run (F := Ideal) m' g')⟩
  obtain ⟨h0, h1⟩ := hm c
  refine ⟨(h c).1.trans ((Cert.Reference5Ideal.Read.val_main_v6_eq _ _).trans (Eq.trans ?_ (Cert.MmDu2.same m c))), (h c).2⟩
  rw [h0, h1]

/-! The call for the gates' gradient. -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem values6 : Cert.algebraic_Kernel6Ideal_Reference6Ideal := by
  intro m g m' g' _ hm
  refine ⟨fun c => Cert.MmDm.taken m c, fun c => (Cert.Kernel6Ideal.Gen.dats m 0 c).arrAt 7 Cert.Kernel6Ideal.cfg0.N, fun c => (Cert.Kernel6Ideal.Gen.dats m 0 c).arrAt 8 Cert.Kernel6Ideal.cfg0.N, fun c => (Cert.Kernel6Ideal.Gen.dats m 0 c).arrAt 9 Cert.Kernel6Ideal.cfg0.N,
    Cert.MmDm.run m g,
    (θ_run Cert.Reference6Ideal.defs _ _).mono (fun r h c => ?_) (Cert.Reference6Ideal.Value.run (F := Ideal) m' g')⟩
  obtain ⟨h0, h1, h2, h3, h4⟩ := hm c
  refine ⟨(h c).1.trans ((Cert.Reference6Ideal.Read.val_main_v35_eq _ _ _ _).trans (Eq.trans ?_ (Cert.MmDm.same6 m c))),
    (h c).2.1.trans ((Cert.Reference6Ideal.Read.val_main_v36_eq _ _ _ _).trans (Eq.trans ?_ (Cert.MmDm.same7 m c))),
    (h c).2.2.1.trans ((Cert.Reference6Ideal.Read.val_main_v37_eq _ _ _).trans (Eq.trans ?_ (Cert.MmDm.same8 m c))),
    (h c).2.2.2.1.trans ((Cert.Reference6Ideal.Read.val_main_v38_eq _ _ _).trans (Eq.trans ?_ (Cert.MmDm.same9 m c))), (h c).2.2.2.2⟩
  · rw [h0, h1, h2, h3]
  · rw [h0, h1, h2, h4]
  · rw [h0, h1, h2]
  · rw [h0, h1, h2]

/-! The call for the output weight's gradient. -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem values7 : Cert.algebraic_Kernel7Ideal_Reference7Ideal := by
  intro m g m' g' _ hm
  refine ⟨fun c => (Cert.Kernel7Ideal.Gen.dats m 0 c).arrAt 2 Cert.Kernel7Ideal.cfg0.N, Cert.Kernel7Ideal.Value.run_blocks m g,
    (θ_run Cert.Reference7Ideal.defs _ _).mono (fun r h c => ?_) (Cert.Reference7Ideal.Value.run (F := Ideal) m' g')⟩
  obtain ⟨h0, h1⟩ := hm c
  refine ⟨(h c).1.trans ((Cert.Reference7Ideal.Read.val_main_v6_eq _ _).trans (Eq.trans ?_ (Cert.MmGO.same m c))), (h c).2⟩
  rw [h0, h1]

/-! The call for the pooling output weight's gradient. -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem values8 : Cert.algebraic_Kernel8Ideal_Reference8Ideal := by
  intro m g m' g' _ hm
  refine ⟨fun c => (Cert.Kernel8Ideal.Gen.dats m 0 c).arrAt 2 Cert.Kernel8Ideal.cfg0.N, Cert.Kernel8Ideal.Value.run_blocks m g,
    (θ_run Cert.Reference8Ideal.defs _ _).mono (fun r h c => ?_) (Cert.Reference8Ideal.Value.run (F := Ideal) m' g')⟩
  obtain ⟨h0, h1⟩ := hm c
  refine ⟨(h c).1.trans ((Cert.Reference8Ideal.Read.val_main_v8_eq _ _).trans (Eq.trans ?_ (Cert.MmGPool.same m c))), (h c).2⟩
  rw [h0, h1]

/-! The call for the pooled mix's gradient. -/

theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem values10 : Cert.algebraic_Kernel10Ideal_Reference10Ideal := by
  intro m g m' g' _ hm
  refine ⟨fun c => (Cert.Kernel10Ideal.Gen.dats m 0 c).arrAt 2 Cert.Kernel10Ideal.cfg0.N, Cert.Kernel10Ideal.Value.run_blocks m g,
    (θ_run Cert.Reference10Ideal.defs _ _).mono (fun r h c => ?_) (Cert.Reference10Ideal.Value.run (F := Ideal) m' g')⟩
  obtain ⟨h0, h1⟩ := hm c
  refine ⟨(h c).1.trans ((Cert.Reference10Ideal.Read.val_main_v6_eq _ _).trans (Eq.trans ?_ (Cert.MmDYaPre.same m c))), (h c).2⟩
  rw [h0, h1]

/-! The call for the input weight's gradient. -/

theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem values12 : Cert.algebraic_Kernel12Ideal_Reference12Ideal := by
  intro m g m' g' _ hm
  refine ⟨fun c => (Cert.Kernel12Ideal.Gen.dats m 0 c).arrAt 2 Cert.Kernel12Ideal.cfg0.N, Cert.Kernel12Ideal.Value.run_blocks m g,
    (θ_run Cert.Reference12Ideal.defs _ _).mono (fun r h c => ?_) (Cert.Reference12Ideal.Value.run (F := Ideal) m' g')⟩
  obtain ⟨h0, h1⟩ := hm c
  refine ⟨(h c).1.trans ((Cert.Reference12Ideal.Read.val_main_v8_eq _ _).trans (Eq.trans ?_ (Cert.MmGIn.same m c))), (h c).2⟩
  rw [h0, h1]

/-! The call for the block input's gradient. -/

theorem frame_kernel13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem values13 : Cert.algebraic_Kernel13Ideal_Reference13Ideal := by
  intro m g m' g' _ hm
  refine ⟨fun c => (Cert.Kernel13Ideal.Gen.dats m 0 c).arrAt 2 Cert.Kernel13Ideal.cfg0.N, Cert.Kernel13Ideal.Value.run_blocks m g,
    (θ_run Cert.Reference13Ideal.defs _ _).mono (fun r h c => ?_) (Cert.Reference13Ideal.Value.run (F := Ideal) m' g')⟩
  obtain ⟨h0, h1⟩ := hm c
  refine ⟨(h c).1.trans ((Cert.Reference13Ideal.Read.val_main_v6_eq _ _).trans (Eq.trans ?_ (Cert.MmDu1.same m c))), (h c).2⟩
  rw [h0, h1]

/-! The call for the product with the output weight. -/

theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem values14 : Cert.algebraic_Kernel14Ideal_Reference14Ideal := by
  intro m g m' g' _ hm
  refine ⟨fun c => (Cert.Kernel14Ideal.Gen.dats m 0 c).arrAt 2 Cert.Kernel14Ideal.cfg0.N, Cert.Kernel14Ideal.Value.run_blocks m g,
    (θ_run Cert.Reference14Ideal.defs _ _).mono (fun r h c => ?_) (Cert.Reference14Ideal.Value.run (F := Ideal) m' g')⟩
  obtain ⟨h0, h1⟩ := hm c
  refine ⟨(h c).1.trans ((Cert.Reference14Ideal.Read.val_main_v2_eq _ _).trans (Eq.trans ?_ (Cert.MmO.same m c))), (h c).2⟩
  rw [h0, h1]

/-! The call for the mix of the two mixers. -/

theorem frame_kernel15 : Cert.quiescent_Kernel15 := fun m ρ _ => Cert.Kernel15.Gen.frame m ρ

theorem frame_ideal15 : Cert.quiescent_Kernel15Ideal := fun m ρ _ => Cert.Kernel15Ideal.Gen.frame m ρ

theorem frame_reference15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem values15 : Cert.algebraic_Kernel15Ideal_Reference15Ideal := by
  intro m g m' g' _ hm
  refine ⟨fun c => (Cert.Kernel15Ideal.Gen.dats m 0 c).arrAt 6 Cert.Kernel15Ideal.cfg0.N, fun c => (Cert.Kernel15Ideal.Gen.dats m 0 c).arrAt 7 Cert.Kernel15Ideal.cfg0.N, fun c => (Cert.Kernel15Ideal.Gen.dats m 0 c).arrAt 8 Cert.Kernel15Ideal.cfg0.N,
    Cert.Kernel15Ideal.Value.run_blocks m g,
    (θ_run Cert.Reference15Ideal.defs _ _).mono (fun r h c => ?_) (Cert.Reference15Ideal.Value.run (F := Ideal) m' g')⟩
  obtain ⟨h0, h1, h2, h3, h4⟩ := hm c
  refine ⟨(h c).1.trans ((Cert.Reference15Ideal.Read.val_main_v27_eq _ _ _ _ _).trans (Eq.trans ?_ (Cert.GateMix.same6 m c))),
    (h c).2.1.trans ((Cert.Reference15Ideal.Read.val_main_v28_eq _ _).trans (Eq.trans ?_ (Cert.GateMix.same7 m c))),
    (h c).2.2.1.trans ((Cert.Reference15Ideal.Read.val_main_v29_eq _ _).trans (Eq.trans ?_ (Cert.GateMix.same8 m c))), (h c).2.2.2⟩
  · rw [h0, h1, h2, h3, h4]
  · rw [h0, h2]
  · rw [h1, h3]

/-! The call for the product with the down projection over the places of this chip and of those beside it. -/

theorem frame_kernel16 : Cert.quiescent_Kernel16 := fun m ρ _ => by
  rw [Cert.DownSame.defs_same16, Cert.DownSame.main_same16]
  exact Cert.DownNear.frame (F := Bits) m ρ (Cert.Kernel16Ideal.Places.ok m)

theorem frame_ideal16 : Cert.quiescent_Kernel16Ideal := fun m ρ _ => Cert.DownNear.frame m ρ (Cert.Kernel16Ideal.Places.ok m)

theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem values16 : Cert.algebraic_Kernel16Ideal_Reference16Ideal := by
  intro m g m' g' _ hm
  refine ⟨fun c => (Cert.DownNear.dats m (Cert.Kernel16Ideal.Places.ok m) 0 c).arrAt 2 (Cert.Kernel16Ideal.Gen.cfgM m (Cert.Kernel16Ideal.Places.ok m)).N, Cert.MmDownNear.run m g,
    (θ_run Cert.Reference16Ideal.defs _ _).mono (fun r h c => ?_) (Cert.Reference16Ideal.Value.run (F := Ideal) m' g')⟩
  obtain ⟨h0, h1, -, h3, h4⟩ := hm c
  refine ⟨(h c).1.trans ((Cert.Reference16Ideal.Read.val_main_v16_eq _ _ _ _).trans (Eq.trans ?_ (Cert.MmDownNear.same m c))), (h c).2⟩
  rw [h0, h1, h3, h4]

/-! The call for the same product over the places of the chip opposite, added to the other. -/

theorem frame_kernel17 : Cert.quiescent_Kernel17 := fun m ρ _ => by
  rw [Cert.DownSame.defs_same17, Cert.DownSame.main_same17]
  exact Cert.DownFar.frame (F := Bits) m ρ (Cert.Kernel17Ideal.Places.ok m)

theorem frame_ideal17 : Cert.quiescent_Kernel17Ideal := fun m ρ _ => Cert.DownFar.frame m ρ (Cert.Kernel17Ideal.Places.ok m)

theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem values17 : Cert.algebraic_Kernel17Ideal_Reference17Ideal := by
  intro m g m' g' _ hm
  refine ⟨fun c => (Cert.DownFar.dats m (Cert.Kernel17Ideal.Places.ok m) 0 c).arrAt 3 (Cert.Kernel17Ideal.Gen.cfgM m (Cert.Kernel17Ideal.Places.ok m)).N, Cert.MmDownFar.run m g,
    (θ_run Cert.Reference17Ideal.defs _ _).mono (fun r h c => ?_) (Cert.Reference17Ideal.Value.run (F := Ideal) m' g')⟩
  obtain ⟨h0, h1, -, h3, h4, h5⟩ := hm c
  refine ⟨(h c).1.trans ((Cert.Reference17Ideal.Read.val_main_v17_eq _ _ _ _ _).trans (Eq.trans ?_ (Cert.MmDownFar.same m c))), (h c).2⟩
  rw [h0, h1, h3, h4, h5]

/-! The call for the up projection at the columns of the chip opposite. -/

theorem frame_kernel18 : Cert.quiescent_Kernel18 := fun m ρ _ => Cert.Kernel18.Gen.frame m ρ (Cert.Kernel18.Places.ok m)

theorem frame_ideal18 : Cert.quiescent_Kernel18Ideal := fun m ρ _ => Cert.Kernel18Ideal.Gen.frame m ρ (Cert.Kernel18Ideal.Places.ok m)

theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem values18 : Cert.algebraic_Kernel18Ideal_Reference18Ideal := by
  intro m g m' g' _ hm
  refine ⟨fun c => (Cert.Kernel18Ideal.Gen.dats m (Cert.Kernel18Ideal.Places.ok m) 0 c).arrAt 2 (Cert.Kernel18Ideal.Gen.cfgM m (Cert.Kernel18Ideal.Places.ok m)).N, Cert.MmUpFar.run m g,
    (θ_run Cert.Reference18Ideal.defs _ _).mono (fun r h c => ?_) (Cert.Reference18Ideal.Value.run (F := Ideal) m' g')⟩
  obtain ⟨h0, h1, -, h3, h4, h5⟩ := hm c
  refine ⟨(h c).1.trans ((Cert.Reference18Ideal.Read.val_main_v20_eq _ _ _ _ _).trans (Eq.trans ?_ (Cert.MmUpFar.same m c))), (h c).2⟩
  rw [h0, h1, h3, h4, h5]

/-! The call for the up projection at the other columns. -/

theorem frame_kernel19 : Cert.quiescent_Kernel19 := fun m ρ _ => Cert.Kernel19.Gen.frame m ρ (Cert.Kernel19.Places.ok m)

theorem frame_ideal19 : Cert.quiescent_Kernel19Ideal := fun m ρ _ => Cert.Kernel19Ideal.Gen.frame m ρ (Cert.Kernel19Ideal.Places.ok m)

theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem values19 : Cert.algebraic_Kernel19Ideal_Reference19Ideal := by
  intro m g m' g' _ hm
  refine ⟨fun c => Cert.MmUpNear.result m c, Cert.MmUpNear.run m g,
    (θ_run Cert.Reference19Ideal.defs _ _).mono (fun r h c => ?_) (Cert.Reference19Ideal.Value.run (F := Ideal) m' g')⟩
  obtain ⟨h0, h1, -, h3, h4⟩ := hm c
  refine ⟨(h c).1.trans ((Cert.Reference19Ideal.Read.val_main_v20_eq _ _ _ _).trans (Eq.trans ?_ (Cert.MmUpNear.same m c))), (h c).2⟩
  rw [h0, h1, h3, h4]

/-! The call for the input projection at the columns of this chip. -/

theorem frame_kernel20 : Cert.quiescent_Kernel20 := fun m ρ _ => Cert.Kernel20.Gen.frame m ρ (Cert.Kernel20.Places.ok m)

theorem frame_ideal20 : Cert.quiescent_Kernel20Ideal := fun m ρ _ => Cert.Kernel20Ideal.Gen.frame m ρ (Cert.Kernel20Ideal.Places.ok m)

theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem values20 : Cert.algebraic_Kernel20Ideal_Reference20Ideal := by
  intro m g m' g' _ hm
  refine ⟨fun c => Cert.MmProjHome.result m c, Cert.MmProjHome.run m g,
    (θ_run Cert.Reference20Ideal.defs _ _).mono (fun r h c => ?_) (Cert.Reference20Ideal.Value.run (F := Ideal) m' g')⟩
  obtain ⟨h0, h1, -, h3, h4⟩ := hm c
  refine ⟨(h c).1.trans ((Cert.Reference20Ideal.Read.val_main_v15_eq _ _ _ _).trans (Eq.trans ?_ (Cert.MmProjHome.same m c))), (h c).2⟩
  rw [h0, h1, h3, h4]

/-! The call for the input projection at the columns of the chip opposite. -/

theorem frame_kernel21 : Cert.quiescent_Kernel21 := fun m ρ _ => Cert.Kernel21.Gen.frame m ρ (Cert.Kernel21.Places.ok m)

theorem frame_ideal21 : Cert.quiescent_Kernel21Ideal := fun m ρ _ => Cert.Kernel21Ideal.Gen.frame m ρ (Cert.Kernel21Ideal.Places.ok m)

theorem frame_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem values21 : Cert.algebraic_Kernel21Ideal_Reference21Ideal := by
  intro m g m' g' _ hm
  refine ⟨fun c => (Cert.Kernel21Ideal.Gen.dats m (Cert.Kernel21Ideal.Places.ok m) 0 c).arrAt 2 (Cert.Kernel21Ideal.Gen.cfgM m (Cert.Kernel21Ideal.Places.ok m)).N, Cert.MmProjFar.run m g,
    (θ_run Cert.Reference21Ideal.defs _ _).mono (fun r h c => ?_) (Cert.Reference21Ideal.Value.run (F := Ideal) m' g')⟩
  obtain ⟨h0, h1, -, h3, h4, h5⟩ := hm c
  refine ⟨(h c).1.trans ((Cert.Reference21Ideal.Read.val_main_v17_eq _ _ _ _ _).trans (Eq.trans ?_ (Cert.MmProjFar.same m c))), (h c).2⟩
  rw [h0, h1, h3, h4, h5]

/-! The call for the input projection at the columns of the chips beside. -/

theorem frame_kernel22 : Cert.quiescent_Kernel22 := fun m ρ _ => Cert.Kernel22.Gen.frame m ρ (Cert.Kernel22.Places.ok m)

theorem frame_ideal22 : Cert.quiescent_Kernel22Ideal := fun m ρ _ => Cert.Kernel22Ideal.Gen.frame m ρ (Cert.Kernel22Ideal.Places.ok m)

theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem values22 : Cert.algebraic_Kernel22Ideal_Reference22Ideal := by
  intro m g m' g' _ hm
  refine ⟨fun c => (Cert.Kernel22Ideal.Gen.dats m (Cert.Kernel22Ideal.Places.ok m) 0 c).arrAt 2 (Cert.Kernel22Ideal.Gen.cfgM m (Cert.Kernel22Ideal.Places.ok m)).N, Cert.MmProjNear.run m g,
    (θ_run Cert.Reference22Ideal.defs _ _).mono (fun r h c => ?_) (Cert.Reference22Ideal.Value.run (F := Ideal) m' g')⟩
  obtain ⟨h0, h1, -, h3, h4, h5⟩ := hm c
  refine ⟨(h c).1.trans ((Cert.Reference22Ideal.Read.val_main_v28_eq _ _ _ _ _).trans (Eq.trans ?_ (Cert.MmProjNear.same m c))), (h c).2⟩
  rw [h0, h1, h3, h4, h5]

/-! The call for the optimiser on the widening weight. -/

theorem frame_kernel23 : Cert.quiescent_Kernel23 := by
  have h := fun m ρ (_ : True) => Cert.Kernel23Ideal.Gen.frame (F := Bits) m ρ (Cert.Kernel23Ideal.Places.ok m)
  exact Eq.mp (by sl_kernel_rfl) h

theorem frame_ideal23 : Cert.quiescent_Kernel23Ideal := fun m ρ _ => Cert.Kernel23Ideal.Gen.frame m ρ (Cert.Kernel23Ideal.Places.ok m)

theorem frame_reference23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem values23 : Cert.algebraic_Kernel23Ideal_Reference23Ideal := by
  intro m g m' g' _ hm
  refine ⟨fun c => Cert.AdamUp.res m c 6, fun c => Cert.AdamUp.res m c 7, fun c => Cert.AdamUp.res m c 8, fun c => Cert.AdamUp.res m c 9,
    (θ_run Cert.Kernel23Ideal.defs _ _).mono (fun _ h c => ⟨(h.1 c).1 6, (h.1 c).1 7, (h.1 c).1 8, (h.1 c).1 9, h.2.1 c⟩)
      (θ_run_and (Cert.Kernel23Ideal.Gen.run_main m g (Cert.Kernel23Ideal.Places.ok m)) (frame_ideal23 m g trivial)),
    (θ_run Cert.Reference23Ideal.defs _ _).mono (fun r h c => ?_) (Cert.Reference23Ideal.Value.run (F := Ideal) m' g')⟩
  obtain ⟨h0, h1, h2, h3, h4, h5, h6, h7, h8⟩ := hm c
  refine ⟨(h c).1.trans ((Cert.Reference23Ideal.Read.val_main_v32_eq _ _ _ _ _ _).trans (Eq.trans ?_ (Cert.AdamUp.same m c).1)),
    (h c).2.1.trans ((Cert.Reference23Ideal.Read.val_main_v56_eq m' c).trans (Eq.trans ?_ (Cert.AdamUp.same m c).2.1)),
    (h c).2.2.1.trans ((Cert.Reference23Ideal.Read.val_main_v37_eq _ _ _ _ _ _ _).trans (Eq.trans ?_ (Cert.AdamUp.same m c).2.2.1)),
    (h c).2.2.2.1.trans ((Cert.Reference23Ideal.Read.val_main_v43_eq m' c).trans (Eq.trans ?_ (Cert.AdamUp.same m c).2.2.2)), (h c).2.2.2.2⟩
  · rw [h0, h1, h2, h6, h7, h8]; rfl
  · rw [h0, h1, h2, h3, h4, h5, h6, h7, h8]; rfl
  · rw [h0, h1, h2, h4, h6, h7, h8]; rfl
  · rw [h0, h1, h2, h5, h6, h7, h8]; rfl

/-! The call for the optimiser on the narrowing weight. -/

theorem frame_kernel24 : Cert.quiescent_Kernel24 := by
  have h := fun m ρ (_ : True) => Cert.Kernel24Ideal.Gen.frame (F := Bits) m ρ (Cert.Kernel24Ideal.Places.ok m)
  exact Eq.mp (by sl_kernel_rfl) h

theorem frame_ideal24 : Cert.quiescent_Kernel24Ideal := fun m ρ _ => Cert.Kernel24Ideal.Gen.frame m ρ (Cert.Kernel24Ideal.Places.ok m)

theorem frame_reference24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem values24 : Cert.algebraic_Kernel24Ideal_Reference24Ideal := by
  intro m g m' g' _ hm
  refine ⟨fun c => Cert.AdamDown.res m c 6, fun c => Cert.AdamDown.res m c 7, fun c => Cert.AdamDown.res m c 8, fun c => Cert.AdamDown.res m c 9,
    (θ_run Cert.Kernel24Ideal.defs _ _).mono (fun _ h c => ⟨(h.1 c).1 6, (h.1 c).1 7, (h.1 c).1 8, (h.1 c).1 9, h.2.1 c⟩)
      (θ_run_and (Cert.Kernel24Ideal.Gen.run_main m g (Cert.Kernel24Ideal.Places.ok m)) (frame_ideal24 m g trivial)),
    (θ_run Cert.Reference24Ideal.defs _ _).mono (fun r h c => ?_) (Cert.Reference24Ideal.Value.run (F := Ideal) m' g')⟩
  obtain ⟨h0, h1, h2, h3, h4, h5, h6, h7, h8⟩ := hm c
  refine ⟨(h c).1.trans ((Cert.Reference24Ideal.Read.val_main_v32_eq _ _ _ _ _ _).trans (Eq.trans ?_ (Cert.AdamDown.same m c).1)),
    (h c).2.1.trans ((Cert.Reference24Ideal.Read.val_main_v56_eq m' c).trans (Eq.trans ?_ (Cert.AdamDown.same m c).2.1)),
    (h c).2.2.1.trans ((Cert.Reference24Ideal.Read.val_main_v37_eq _ _ _ _ _ _ _).trans (Eq.trans ?_ (Cert.AdamDown.same m c).2.2.1)),
    (h c).2.2.2.1.trans ((Cert.Reference24Ideal.Read.val_main_v43_eq m' c).trans (Eq.trans ?_ (Cert.AdamDown.same m c).2.2.2)), (h c).2.2.2.2⟩
  · rw [h0, h1, h2, h6, h7, h8]; rfl
  · rw [h0, h1, h2, h3, h4, h5, h6, h7, h8]; rfl
  · rw [h0, h1, h2, h4, h6, h7, h8]; rfl
  · rw [h0, h1, h2, h5, h6, h7, h8]; rfl

/-! The call for the optimiser on the input weight. -/

theorem frame_kernel25 : Cert.quiescent_Kernel25 := by
  have h := fun m ρ (_ : True) => Cert.Kernel25Ideal.Gen.frame (F := Bits) m ρ (Cert.Kernel25Ideal.Places.ok m)
  exact Eq.mp (by sl_kernel_rfl) h

theorem frame_ideal25 : Cert.quiescent_Kernel25Ideal := fun m ρ _ => Cert.Kernel25Ideal.Gen.frame m ρ (Cert.Kernel25Ideal.Places.ok m)

theorem frame_reference25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem values25 : Cert.algebraic_Kernel25Ideal_Reference25Ideal := by
  intro m g m' g' _ hm
  refine ⟨fun c => Cert.AdamIn.res m c 6, fun c => Cert.AdamIn.res m c 7, fun c => Cert.AdamIn.res m c 8, fun c => Cert.AdamIn.res m c 9,
    (θ_run Cert.Kernel25Ideal.defs _ _).mono (fun _ h c => ⟨(h.1 c).1 6, (h.1 c).1 7, (h.1 c).1 8, (h.1 c).1 9, h.2.1 c⟩)
      (θ_run_and (Cert.Kernel25Ideal.Gen.run_main m g (Cert.Kernel25Ideal.Places.ok m)) (frame_ideal25 m g trivial)),
    (θ_run Cert.Reference25Ideal.defs _ _).mono (fun r h c => ?_) (Cert.Reference25Ideal.Value.run (F := Ideal) m' g')⟩
  obtain ⟨h0, h1, h2, h3, h4, h5, h6, h7, h8⟩ := hm c
  refine ⟨(h c).1.trans ((Cert.Reference25Ideal.Read.val_main_v32_eq _ _ _ _ _ _).trans (Eq.trans ?_ (Cert.AdamIn.same m c).1)),
    (h c).2.1.trans ((Cert.Reference25Ideal.Read.val_main_v56_eq m' c).trans (Eq.trans ?_ (Cert.AdamIn.same m c).2.1)),
    (h c).2.2.1.trans ((Cert.Reference25Ideal.Read.val_main_v37_eq _ _ _ _ _ _ _).trans (Eq.trans ?_ (Cert.AdamIn.same m c).2.2.1)),
    (h c).2.2.2.1.trans ((Cert.Reference25Ideal.Read.val_main_v43_eq m' c).trans (Eq.trans ?_ (Cert.AdamIn.same m c).2.2.2)), (h c).2.2.2.2⟩
  · rw [h0, h1, h2, h6, h7, h8]; rfl
  · rw [h0, h1, h2, h3, h4, h5, h6, h7, h8]; rfl
  · rw [h0, h1, h2, h4, h6, h7, h8]; rfl
  · rw [h0, h1, h2, h5, h6, h7, h8]; rfl

/-! The call for the optimiser on the output weight. -/

theorem frame_kernel26 : Cert.quiescent_Kernel26 := by
  have h := fun m ρ (_ : True) => Cert.Kernel26Ideal.Gen.frame (F := Bits) m ρ (Cert.Kernel26Ideal.Places.ok m)
  exact Eq.mp (by sl_kernel_rfl) h

theorem frame_ideal26 : Cert.quiescent_Kernel26Ideal := fun m ρ _ => Cert.Kernel26Ideal.Gen.frame m ρ (Cert.Kernel26Ideal.Places.ok m)

theorem frame_reference26 : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem values26 : Cert.algebraic_Kernel26Ideal_Reference26Ideal := by
  intro m g m' g' _ hm
  refine ⟨fun c => Cert.AdamOut.res m c 6, fun c => Cert.AdamOut.res m c 7, fun c => Cert.AdamOut.res m c 8, fun c => Cert.AdamOut.res m c 9,
    (θ_run Cert.Kernel26Ideal.defs _ _).mono (fun _ h c => ⟨(h.1 c).1 6, (h.1 c).1 7, (h.1 c).1 8, (h.1 c).1 9, h.2.1 c⟩)
      (θ_run_and (Cert.Kernel26Ideal.Gen.run_main m g (Cert.Kernel26Ideal.Places.ok m)) (frame_ideal26 m g trivial)),
    (θ_run Cert.Reference26Ideal.defs _ _).mono (fun r h c => ?_) (Cert.Reference26Ideal.Value.run (F := Ideal) m' g')⟩
  obtain ⟨h0, h1, h2, h3, h4, h5, h6, h7, h8⟩ := hm c
  refine ⟨(h c).1.trans ((Cert.Reference26Ideal.Read.val_main_v32_eq _ _ _ _ _ _).trans (Eq.trans ?_ (Cert.AdamOut.same m c).1)),
    (h c).2.1.trans ((Cert.Reference26Ideal.Read.val_main_v56_eq m' c).trans (Eq.trans ?_ (Cert.AdamOut.same m c).2.1)),
    (h c).2.2.1.trans ((Cert.Reference26Ideal.Read.val_main_v37_eq _ _ _ _ _ _ _).trans (Eq.trans ?_ (Cert.AdamOut.same m c).2.2.1)),
    (h c).2.2.2.1.trans ((Cert.Reference26Ideal.Read.val_main_v43_eq m' c).trans (Eq.trans ?_ (Cert.AdamOut.same m c).2.2.2)), (h c).2.2.2.2⟩
  · rw [h0, h1, h2, h6, h7, h8]; rfl
  · rw [h0, h1, h2, h3, h4, h5, h6, h7, h8]; rfl
  · rw [h0, h1, h2, h4, h6, h7, h8]; rfl
  · rw [h0, h1, h2, h5, h6, h7, h8]; rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel10.Gen.facts, Cert.Kernel10Ideal.Gen.facts, Cert.Reference10Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  frame_kernel, frame_ideal, frame_reference,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel10, frame_ideal10, frame_reference10,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  frame_kernel19, frame_ideal19, frame_reference19,
  frame_kernel20, frame_ideal20, frame_reference20,
  frame_kernel21, frame_ideal21, frame_reference21,
  frame_kernel22, frame_ideal22, frame_reference22,
  frame_kernel23, frame_ideal23, frame_reference23,
  frame_kernel24, frame_ideal24, frame_reference24,
  frame_kernel25, frame_ideal25, frame_reference25,
  frame_kernel26, frame_ideal26, frame_reference26,
  trivial, values,
  trivial, values2,
  trivial, values3,
  trivial, values4,
  trivial, values5,
  trivial, values6,
  trivial, values7,
  trivial, values8,
  trivial, values10,
  trivial, values12,
  trivial, values13,
  trivial, values14,
  trivial, values15,
  trivial, values16,
  trivial, values17,
  trivial, values18,
  trivial, values19,
  trivial, values20,
  trivial, values21,
  trivial, values22,
  trivial, values23,
  trivial, values24,
  trivial, values25,
  trivial, values26⟩

end Cert.Proof

end
